-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_RetInDw (m : (ℓ : Loc Cert.RetInDw.nD Cert.RetInDw.τ Cert.RetInDw.sig) → Buf (Elt Bits) ℓ) : Prop :=
  True

def Pre_RetInDwIdeal (m : (ℓ : Loc Cert.RetInDwIdeal.nD Cert.RetInDwIdeal.τ Cert.RetInDwIdeal.sig) → Buf (Elt Ideal) ℓ) : Prop :=
  True

def Pre_RetInDwRefIdeal (m : (ℓ : Loc Cert.RetInDwRefIdeal.nD Cert.RetInDwRefIdeal.τ Cert.RetInDwRefIdeal.sig) → Buf (Elt Ideal) ℓ) : Prop :=
  True

def Pre_RetInDx (m : (ℓ : Loc Cert.RetInDx.nD Cert.RetInDx.τ Cert.RetInDx.sig) → Buf (Elt Bits) ℓ) : Prop :=
  True

def Pre_RetInDxIdeal (m : (ℓ : Loc Cert.RetInDxIdeal.nD Cert.RetInDxIdeal.τ Cert.RetInDxIdeal.sig) → Buf (Elt Ideal) ℓ) : Prop :=
  True

def Pre_RetInDxRefIdeal (m : (ℓ : Loc Cert.RetInDxRefIdeal.nD Cert.RetInDxRefIdeal.τ Cert.RetInDxRefIdeal.sig) → Buf (Elt Ideal) ℓ) : Prop :=
  True

def Pre_RetOutDw (m : (ℓ : Loc Cert.RetOutDw.nD Cert.RetOutDw.τ Cert.RetOutDw.sig) → Buf (Elt Bits) ℓ) : Prop :=
  True

def Pre_RetOutDwIdeal (m : (ℓ : Loc Cert.RetOutDwIdeal.nD Cert.RetOutDwIdeal.τ Cert.RetOutDwIdeal.sig) → Buf (Elt Ideal) ℓ) : Prop :=
  True

def Pre_RetOutDwRefIdeal (m : (ℓ : Loc Cert.RetOutDwRefIdeal.nD Cert.RetOutDwRefIdeal.τ Cert.RetOutDwRefIdeal.sig) → Buf (Elt Ideal) ℓ) : Prop :=
  True

def Pre_RetOutDx (m : (ℓ : Loc Cert.RetOutDx.nD Cert.RetOutDx.τ Cert.RetOutDx.sig) → Buf (Elt Bits) ℓ) : Prop :=
  True

def Pre_RetOutDxIdeal (m : (ℓ : Loc Cert.RetOutDxIdeal.nD Cert.RetOutDxIdeal.τ Cert.RetOutDxIdeal.sig) → Buf (Elt Ideal) ℓ) : Prop :=
  True

def Pre_RetOutDxRefIdeal (m : (ℓ : Loc Cert.RetOutDxRefIdeal.nD Cert.RetOutDxRefIdeal.τ Cert.RetOutDxRefIdeal.sig) → Buf (Elt Ideal) ℓ) : Prop :=
  True

def Pre_RetIn (m : (ℓ : Loc Cert.RetIn.nD Cert.RetIn.τ Cert.RetIn.sig) → Buf (Elt Bits) ℓ) : Prop :=
  True

def Pre_RetInIdeal (m : (ℓ : Loc Cert.RetInIdeal.nD Cert.RetInIdeal.τ Cert.RetInIdeal.sig) → Buf (Elt Ideal) ℓ) : Prop :=
  True

def Pre_RetInRefIdeal (m : (ℓ : Loc Cert.RetInRefIdeal.nD Cert.RetInRefIdeal.τ Cert.RetInRefIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutRefIdeal (m : (ℓ : Loc Cert.RetOutRefIdeal.nD Cert.RetOutRefIdeal.τ Cert.RetOutRefIdeal.sig) → Buf (Elt Ideal) ℓ) : Prop :=
  True

def Pre_GdnInDx (m : (ℓ : Loc Cert.GdnInDx.nD Cert.GdnInDx.τ Cert.GdnInDx.sig) → Buf (Elt Bits) ℓ) : Prop :=
  True

def Pre_GdnInDxIdeal (m : (ℓ : Loc Cert.GdnInDxIdeal.nD Cert.GdnInDxIdeal.τ Cert.GdnInDxIdeal.sig) → Buf (Elt Ideal) ℓ) : Prop :=
  True

def Pre_GdnInDxRefIdeal (m : (ℓ : Loc Cert.GdnInDxRefIdeal.nD Cert.GdnInDxRefIdeal.τ Cert.GdnInDxRefIdeal.sig) → Buf (Elt Ideal) ℓ) : Prop :=
  True

def Pre_GdnIn (m : (ℓ : Loc Cert.GdnIn.nD Cert.GdnIn.τ Cert.GdnIn.sig) → Buf (Elt Bits) ℓ) : Prop :=
  True

def Pre_GdnInIdeal (m : (ℓ : Loc Cert.GdnInIdeal.nD Cert.GdnInIdeal.τ Cert.GdnInIdeal.sig) → Buf (Elt Ideal) ℓ) : Prop :=
  True

def Pre_GdnInRefIdeal (m : (ℓ : Loc Cert.GdnInRefIdeal.nD Cert.GdnInRefIdeal.τ Cert.GdnInRefIdeal.sig) → Buf (Elt Ideal) ℓ) : Prop :=
  True

def Pre_GlaInDw (m : (ℓ : Loc Cert.GlaInDw.nD Cert.GlaInDw.τ Cert.GlaInDw.sig) → Buf (Elt Bits) ℓ) : Prop :=
  True

def Pre_GlaInDwIdeal (m : (ℓ : Loc Cert.GlaInDwIdeal.nD Cert.GlaInDwIdeal.τ Cert.GlaInDwIdeal.sig) → Buf (Elt Ideal) ℓ) : Prop :=
  True

def Pre_GlaInDwRefIdeal (m : (ℓ : Loc Cert.GlaInDwRefIdeal.nD Cert.GlaInDwRefIdeal.τ Cert.GlaInDwRefIdeal.sig) → Buf (Elt Ideal) ℓ) : Prop :=
  True

def Pre_GlaInDx (m : (ℓ : Loc Cert.GlaInDx.nD Cert.GlaInDx.τ Cert.GlaInDx.sig) → Buf (Elt Bits) ℓ) : Prop :=
  True

def Pre_GlaInDxIdeal (m : (ℓ : Loc Cert.GlaInDxIdeal.nD Cert.GlaInDxIdeal.τ Cert.GlaInDxIdeal.sig) → Buf (Elt Ideal) ℓ) : Prop :=
  True

def Pre_GlaInDxRefIdeal (m : (ℓ : Loc Cert.GlaInDxRefIdeal.nD Cert.GlaInDxRefIdeal.τ Cert.GlaInDxRefIdeal.sig) → Buf (Elt Ideal) ℓ) : Prop :=
  True

def Pre_GlaIn (m : (ℓ : Loc Cert.GlaIn.nD Cert.GlaIn.τ Cert.GlaIn.sig) → Buf (Elt Bits) ℓ) : Prop :=
  True

def Pre_GlaInIdeal (m : (ℓ : Loc Cert.GlaInIdeal.nD Cert.GlaInIdeal.τ Cert.GlaInIdeal.sig) → Buf (Elt Ideal) ℓ) : Prop :=
  True

def Pre_GlaInRefIdeal (m : (ℓ : Loc Cert.GlaInRefIdeal.nD Cert.GlaInRefIdeal.τ Cert.GlaInRefIdeal.sig) → Buf (Elt Ideal) ℓ) : Prop :=
  True

def Pre_LruInDw (m : (ℓ : Loc Cert.LruInDw.nD Cert.LruInDw.τ Cert.LruInDw.sig) → Buf (Elt Bits) ℓ) : Prop :=
  True

def Pre_LruInDwIdeal (m : (ℓ : Loc Cert.LruInDwIdeal.nD Cert.LruInDwIdeal.τ Cert.LruInDwIdeal.sig) → Buf (Elt Ideal) ℓ) : Prop :=
  True

def Pre_LruInDwRefIdeal (m : (ℓ : Loc Cert.LruInDwRefIdeal.nD Cert.LruInDwRefIdeal.τ Cert.LruInDwRefIdeal.sig) → Buf (Elt Ideal) ℓ) : Prop :=
  True

def Pre_LruInDx (m : (ℓ : Loc Cert.LruInDx.nD Cert.LruInDx.τ Cert.LruInDx.sig) → Buf (Elt Bits) ℓ) : Prop :=
  True

def Pre_LruInDxIdeal (m : (ℓ : Loc Cert.LruInDxIdeal.nD Cert.LruInDxIdeal.τ Cert.LruInDxIdeal.sig) → Buf (Elt Ideal) ℓ) : Prop :=
  True

def Pre_LruInDxRefIdeal (m : (ℓ : Loc Cert.LruInDxRefIdeal.nD Cert.LruInDxRefIdeal.τ Cert.LruInDxRefIdeal.sig) → Buf (Elt Ideal) ℓ) : Prop :=
  True

def Pre_LruIn (m : (ℓ : Loc Cert.LruIn.nD Cert.LruIn.τ Cert.LruIn.sig) → Buf (Elt Bits) ℓ) : Prop :=
  True

def Pre_LruInIdeal (m : (ℓ : Loc Cert.LruInIdeal.nD Cert.LruInIdeal.τ Cert.LruInIdeal.sig) → Buf (Elt Ideal) ℓ) : Prop :=
  True

def Pre_LruInRefIdeal (m : (ℓ : Loc Cert.LruInRefIdeal.nD Cert.LruInRefIdeal.τ Cert.LruInRefIdeal.sig) → Buf (Elt Ideal) ℓ) : Prop :=
  True

def Pre_MixOutDw (m : (ℓ : Loc Cert.MixOutDw.nD Cert.MixOutDw.τ Cert.MixOutDw.sig) → Buf (Elt Bits) ℓ) : Prop :=
  True

def Pre_MixOutDwIdeal (m : (ℓ : Loc Cert.MixOutDwIdeal.nD Cert.MixOutDwIdeal.τ Cert.MixOutDwIdeal.sig) → Buf (Elt Ideal) ℓ) : Prop :=
  True

def Pre_MixOutDwRefIdeal (m : (ℓ : Loc Cert.MixOutDwRefIdeal.nD Cert.MixOutDwRefIdeal.τ Cert.MixOutDwRefIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxRefIdeal (m : (ℓ : Loc Cert.MixOutDxRefIdeal.nD Cert.MixOutDxRefIdeal.τ Cert.MixOutDxRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_AdamWSmall (m : (ℓ : Loc Cert.AdamWSmall.nD Cert.AdamWSmall.τ Cert.AdamWSmall.sig) → Buf (Elt Bits) ℓ) : Prop :=
  True

def Pre_AdamWSmallIdeal (m : (ℓ : Loc Cert.AdamWSmallIdeal.nD Cert.AdamWSmallIdeal.τ Cert.AdamWSmallIdeal.sig) → Buf (Elt Ideal) ℓ) : Prop :=
  True

def Pre_AdamWSmallRefIdeal (m : (ℓ : Loc Cert.AdamWSmallRefIdeal.nD Cert.AdamWSmallRefIdeal.τ Cert.AdamWSmallRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_SumEarly (m : (ℓ : Loc Cert.SumEarly.nD Cert.SumEarly.τ Cert.SumEarly.sig) → Buf (Elt Bits) ℓ) : Prop :=
  True

def Pre_SumEarlyIdeal (m : (ℓ : Loc Cert.SumEarlyIdeal.nD Cert.SumEarlyIdeal.τ Cert.SumEarlyIdeal.sig) → Buf (Elt Ideal) ℓ) : Prop :=
  True

def Pre_SumEarlyRefIdeal (m : (ℓ : Loc Cert.SumEarlyRefIdeal.nD Cert.SumEarlyRefIdeal.τ Cert.SumEarlyRefIdeal.sig) → Buf (Elt Ideal) ℓ) : Prop :=
  True

def Pre_SumLate (m : (ℓ : Loc Cert.SumLate.nD Cert.SumLate.τ Cert.SumLate.sig) → Buf (Elt Bits) ℓ) : Prop :=
  True

def Pre_SumLateIdeal (m : (ℓ : Loc Cert.SumLateIdeal.nD Cert.SumLateIdeal.τ Cert.SumLateIdeal.sig) → Buf (Elt Ideal) ℓ) : Prop :=
  True

def Pre_SumLateRefIdeal (m : (ℓ : Loc Cert.SumLateRefIdeal.nD Cert.SumLateRefIdeal.τ Cert.SumLateRefIdeal.sig) → Buf (Elt Ideal) ℓ) : Prop :=
  True

def Pre_AdamWLruIn [hPre_on_mesh_2048_512 : Cert.Pre_on_mesh_2048_512.Facts] (m : (ℓ : Loc Cert.AdamWLruIn.nD Cert.AdamWLruIn.τ Cert.AdamWLruIn.sig) → Buf (Elt Bits) ℓ) : Prop :=
  ∀ c : Dev Cert.AdamWLruIn.nD,
    (Cert.Pre_on_mesh_2048_512.fn (F := Bits) (m ((c.tc : Thread Cert.AdamWLruIn.nD Cert.AdamWLruIn.τ).loc Cert.AdamWLruIn.main_arg0)) (m ((c.tc : Thread Cert.AdamWLruIn.nD Cert.AdamWLruIn.τ).loc Cert.AdamWLruIn.main_arg1)) (m ((c.tc : Thread Cert.AdamWLruIn.nD Cert.AdamWLruIn.τ).loc Cert.AdamWLruIn.main_arg2)) (m ((c.tc : Thread Cert.AdamWLruIn.nD Cert.AdamWLruIn.τ).loc Cert.AdamWLruIn.main_arg3)) (m ((c.tc : Thread Cert.AdamWLruIn.nD Cert.AdamWLruIn.τ).loc Cert.AdamWLruIn.main_arg4)) (m ((c.tc : Thread Cert.AdamWLruIn.nD Cert.AdamWLruIn.τ).loc Cert.AdamWLruIn.main_arg5))) = (fun _ => 1#1)

def Pre_AdamWLruInIdeal [hPre_on_mesh_2048_512 : Cert.Pre_on_mesh_2048_512.Facts] (m : (ℓ : Loc Cert.AdamWLruInIdeal.nD Cert.AdamWLruInIdeal.τ Cert.AdamWLruInIdeal.sig) → Buf (Elt Ideal) ℓ) : Prop :=
  ∀ c : Dev Cert.AdamWLruInIdeal.nD,
    (Cert.Pre_on_mesh_2048_512.fn (F := Ideal) (m ((c.tc : Thread Cert.AdamWLruInIdeal.nD Cert.AdamWLruInIdeal.τ).loc Cert.AdamWLruInIdeal.main_arg0)) (m ((c.tc : Thread Cert.AdamWLruInIdeal.nD Cert.AdamWLruInIdeal.τ).loc Cert.AdamWLruInIdeal.main_arg1)) (m ((c.tc : Thread Cert.AdamWLruInIdeal.nD Cert.AdamWLruInIdeal.τ).loc Cert.AdamWLruInIdeal.main_arg2)) (m ((c.tc : Thread Cert.AdamWLruInIdeal.nD Cert.AdamWLruInIdeal.τ).loc Cert.AdamWLruInIdeal.main_arg3)) (m ((c.tc : Thread Cert.AdamWLruInIdeal.nD Cert.AdamWLruInIdeal.τ).loc Cert.AdamWLruInIdeal.main_arg4)) (m ((c.tc : Thread Cert.AdamWLruInIdeal.nD Cert.AdamWLruInIdeal.τ).loc Cert.AdamWLruInIdeal.main_arg5))) = (fun _ => 1#1)

def Pre_AdamWLruInRefIdeal (m : (ℓ : Loc Cert.AdamWLruInRefIdeal.nD Cert.AdamWLruInRefIdeal.τ Cert.AdamWLruInRefIdeal.sig) → Buf (Elt Ideal) ℓ) : Prop :=
  True

def Pre_AdamWLruInRefIdeal_on_mesh_2048_512 [hPre_on_mesh_2048_512 : Cert.Pre_on_mesh_2048_512.Facts] (m : (ℓ : Loc Cert.AdamWLruInRefIdeal.nD Cert.AdamWLruInRefIdeal.τ Cert.AdamWLruInRefIdeal.sig) → Buf (Elt Ideal) ℓ) : Prop :=
  ∀ c : Dev Cert.AdamWLruInRefIdeal.nD,
    (Cert.Pre_on_mesh_2048_512.fn (F := Ideal) (m ((c.tc : Thread Cert.AdamWLruInRefIdeal.nD Cert.AdamWLruInRefIdeal.τ).loc Cert.AdamWLruInRefIdeal.main_arg0)) (m ((c.tc : Thread Cert.AdamWLruInRefIdeal.nD Cert.AdamWLruInRefIdeal.τ).loc Cert.AdamWLruInRefIdeal.main_arg1)) (m ((c.tc : Thread Cert.AdamWLruInRefIdeal.nD Cert.AdamWLruInRefIdeal.τ).loc Cert.AdamWLruInRefIdeal.main_arg2)) (m ((c.tc : Thread Cert.AdamWLruInRefIdeal.nD Cert.AdamWLruInRefIdeal.τ).loc Cert.AdamWLruInRefIdeal.main_arg3)) (m ((c.tc : Thread Cert.AdamWLruInRefIdeal.nD Cert.AdamWLruInRefIdeal.τ).loc Cert.AdamWLruInRefIdeal.main_arg4)) (m ((c.tc : Thread Cert.AdamWLruInRefIdeal.nD Cert.AdamWLruInRefIdeal.τ).loc Cert.AdamWLruInRefIdeal.main_arg5))) = (fun _ => 1#1)

def Pre_AdamWRetIn [hPre_on_mesh_2048_1536 : Cert.Pre_on_mesh_2048_1536.Facts] (m : (ℓ : Loc Cert.AdamWRetIn.nD Cert.AdamWRetIn.τ Cert.AdamWRetIn.sig) → Buf (Elt Bits) ℓ) : Prop :=
  ∀ c : Dev Cert.AdamWRetIn.nD,
    (Cert.Pre_on_mesh_2048_1536.fn (F := Bits) (m ((c.tc : Thread Cert.AdamWRetIn.nD Cert.AdamWRetIn.τ).loc Cert.AdamWRetIn.main_arg0)) (m ((c.tc : Thread Cert.AdamWRetIn.nD Cert.AdamWRetIn.τ).loc Cert.AdamWRetIn.main_arg1)) (m ((c.tc : Thread Cert.AdamWRetIn.nD Cert.AdamWRetIn.τ).loc Cert.AdamWRetIn.main_arg2)) (m ((c.tc : Thread Cert.AdamWRetIn.nD Cert.AdamWRetIn.τ).loc Cert.AdamWRetIn.main_arg3)) (m ((c.tc : Thread Cert.AdamWRetIn.nD Cert.AdamWRetIn.τ).loc Cert.AdamWRetIn.main_arg4)) (m ((c.tc : Thread Cert.AdamWRetIn.nD Cert.AdamWRetIn.τ).loc Cert.AdamWRetIn.main_arg5))) = (fun _ => 1#1)

def Pre_AdamWRetInIdeal [hPre_on_mesh_2048_1536 : Cert.Pre_on_mesh_2048_1536.Facts] (m : (ℓ : Loc Cert.AdamWRetInIdeal.nD Cert.AdamWRetInIdeal.τ Cert.AdamWRetInIdeal.sig) → Buf (Elt Ideal) ℓ) : Prop :=
  ∀ c : Dev Cert.AdamWRetInIdeal.nD,
    (Cert.Pre_on_mesh_2048_1536.fn (F := Ideal) (m ((c.tc : Thread Cert.AdamWRetInIdeal.nD Cert.AdamWRetInIdeal.τ).loc Cert.AdamWRetInIdeal.main_arg0)) (m ((c.tc : Thread Cert.AdamWRetInIdeal.nD Cert.AdamWRetInIdeal.τ).loc Cert.AdamWRetInIdeal.main_arg1)) (m ((c.tc : Thread Cert.AdamWRetInIdeal.nD Cert.AdamWRetInIdeal.τ).loc Cert.AdamWRetInIdeal.main_arg2)) (m ((c.tc : Thread Cert.AdamWRetInIdeal.nD Cert.AdamWRetInIdeal.τ).loc Cert.AdamWRetInIdeal.main_arg3)) (m ((c.tc : Thread Cert.AdamWRetInIdeal.nD Cert.AdamWRetInIdeal.τ).loc Cert.AdamWRetInIdeal.main_arg4)) (m ((c.tc : Thread Cert.AdamWRetInIdeal.nD Cert.AdamWRetInIdeal.τ).loc Cert.AdamWRetInIdeal.main_arg5))) = (fun _ => 1#1)

def Pre_AdamWRetInRefIdeal (m : (ℓ : Loc Cert.AdamWRetInRefIdeal.nD Cert.AdamWRetInRefIdeal.τ Cert.AdamWRetInRefIdeal.sig) → Buf (Elt Ideal) ℓ) : Prop :=
  True

def Pre_AdamWRetInRefIdeal_on_mesh_2048_1536 [hPre_on_mesh_2048_1536 : Cert.Pre_on_mesh_2048_1536.Facts] (m : (ℓ : Loc Cert.AdamWRetInRefIdeal.nD Cert.AdamWRetInRefIdeal.τ Cert.AdamWRetInRefIdeal.sig) → Buf (Elt Ideal) ℓ) : Prop :=
  ∀ c : Dev Cert.AdamWRetInRefIdeal.nD,
    (Cert.Pre_on_mesh_2048_1536.fn (F := Ideal) (m ((c.tc : Thread Cert.AdamWRetInRefIdeal.nD Cert.AdamWRetInRefIdeal.τ).loc Cert.AdamWRetInRefIdeal.main_arg0)) (m ((c.tc : Thread Cert.AdamWRetInRefIdeal.nD Cert.AdamWRetInRefIdeal.τ).loc Cert.AdamWRetInRefIdeal.main_arg1)) (m ((c.tc : Thread Cert.AdamWRetInRefIdeal.nD Cert.AdamWRetInRefIdeal.τ).loc Cert.AdamWRetInRefIdeal.main_arg2)) (m ((c.tc : Thread Cert.AdamWRetInRefIdeal.nD Cert.AdamWRetInRefIdeal.τ).loc Cert.AdamWRetInRefIdeal.main_arg3)) (m ((c.tc : Thread Cert.AdamWRetInRefIdeal.nD Cert.AdamWRetInRefIdeal.τ).loc Cert.AdamWRetInRefIdeal.main_arg4)) (m ((c.tc : Thread Cert.AdamWRetInRefIdeal.nD Cert.AdamWRetInRefIdeal.τ).loc Cert.AdamWRetInRefIdeal.main_arg5))) = (fun _ => 1#1)

def Pre_AdamWGdnIn [hPre_on_mesh_2048_1028 : Cert.Pre_on_mesh_2048_1028.Facts] (m : (ℓ : Loc Cert.AdamWGdnIn.nD Cert.AdamWGdnIn.τ Cert.AdamWGdnIn.sig) → Buf (Elt Bits) ℓ) : Prop :=
  ∀ c : Dev Cert.AdamWGdnIn.nD,
    (Cert.Pre_on_mesh_2048_1028.fn (F := Bits) (m ((c.tc : Thread Cert.AdamWGdnIn.nD Cert.AdamWGdnIn.τ).loc Cert.AdamWGdnIn.main_arg0)) (m ((c.tc : Thread Cert.AdamWGdnIn.nD Cert.AdamWGdnIn.τ).loc Cert.AdamWGdnIn.main_arg1)) (m ((c.tc : Thread Cert.AdamWGdnIn.nD Cert.AdamWGdnIn.τ).loc Cert.AdamWGdnIn.main_arg2)) (m ((c.tc : Thread Cert.AdamWGdnIn.nD Cert.AdamWGdnIn.τ).loc Cert.AdamWGdnIn.main_arg3)) (m ((c.tc : Thread Cert.AdamWGdnIn.nD Cert.AdamWGdnIn.τ).loc Cert.AdamWGdnIn.main_arg4)) (m ((c.tc : Thread Cert.AdamWGdnIn.nD Cert.AdamWGdnIn.τ).loc Cert.AdamWGdnIn.main_arg5))) = (fun _ => 1#1)

def Pre_AdamWGdnInIdeal [hPre_on_mesh_2048_1028 : Cert.Pre_on_mesh_2048_1028.Facts] (m : (ℓ : Loc Cert.AdamWGdnInIdeal.nD Cert.AdamWGdnInIdeal.τ Cert.AdamWGdnInIdeal.sig) → Buf (Elt Ideal) ℓ) : Prop :=
  ∀ c : Dev Cert.AdamWGdnInIdeal.nD,
    (Cert.Pre_on_mesh_2048_1028.fn (F := Ideal) (m ((c.tc : Thread Cert.AdamWGdnInIdeal.nD Cert.AdamWGdnInIdeal.τ).loc Cert.AdamWGdnInIdeal.main_arg0)) (m ((c.tc : Thread Cert.AdamWGdnInIdeal.nD Cert.AdamWGdnInIdeal.τ).loc Cert.AdamWGdnInIdeal.main_arg1)) (m ((c.tc : Thread Cert.AdamWGdnInIdeal.nD Cert.AdamWGdnInIdeal.τ).loc Cert.AdamWGdnInIdeal.main_arg2)) (m ((c.tc : Thread Cert.AdamWGdnInIdeal.nD Cert.AdamWGdnInIdeal.τ).loc Cert.AdamWGdnInIdeal.main_arg3)) (m ((c.tc : Thread Cert.AdamWGdnInIdeal.nD Cert.AdamWGdnInIdeal.τ).loc Cert.AdamWGdnInIdeal.main_arg4)) (m ((c.tc : Thread Cert.AdamWGdnInIdeal.nD Cert.AdamWGdnInIdeal.τ).loc Cert.AdamWGdnInIdeal.main_arg5))) = (fun _ => 1#1)

def Pre_AdamWGdnInRefIdeal (m : (ℓ : Loc Cert.AdamWGdnInRefIdeal.nD Cert.AdamWGdnInRefIdeal.τ Cert.AdamWGdnInRefIdeal.sig) → Buf (Elt Ideal) ℓ) : Prop :=
  True

def Pre_AdamWGdnInRefIdeal_on_mesh_2048_1028 [hPre_on_mesh_2048_1028 : Cert.Pre_on_mesh_2048_1028.Facts] (m : (ℓ : Loc Cert.AdamWGdnInRefIdeal.nD Cert.AdamWGdnInRefIdeal.τ Cert.AdamWGdnInRefIdeal.sig) → Buf (Elt Ideal) ℓ) : Prop :=
  ∀ c : Dev Cert.AdamWGdnInRefIdeal.nD,
    (Cert.Pre_on_mesh_2048_1028.fn (F := Ideal) (m ((c.tc : Thread Cert.AdamWGdnInRefIdeal.nD Cert.AdamWGdnInRefIdeal.τ).loc Cert.AdamWGdnInRefIdeal.main_arg0)) (m ((c.tc : Thread Cert.AdamWGdnInRefIdeal.nD Cert.AdamWGdnInRefIdeal.τ).loc Cert.AdamWGdnInRefIdeal.main_arg1)) (m ((c.tc : Thread Cert.AdamWGdnInRefIdeal.nD Cert.AdamWGdnInRefIdeal.τ).loc Cert.AdamWGdnInRefIdeal.main_arg2)) (m ((c.tc : Thread Cert.AdamWGdnInRefIdeal.nD Cert.AdamWGdnInRefIdeal.τ).loc Cert.AdamWGdnInRefIdeal.main_arg3)) (m ((c.tc : Thread Cert.AdamWGdnInRefIdeal.nD Cert.AdamWGdnInRefIdeal.τ).loc Cert.AdamWGdnInRefIdeal.main_arg4)) (m ((c.tc : Thread Cert.AdamWGdnInRefIdeal.nD Cert.AdamWGdnInRefIdeal.τ).loc Cert.AdamWGdnInRefIdeal.main_arg5))) = (fun _ => 1#1)

def Pre_AdamWGlaIn [hPre_on_mesh_2048_770 : Cert.Pre_on_mesh_2048_770.Facts] (m : (ℓ : Loc Cert.AdamWGlaIn.nD Cert.AdamWGlaIn.τ Cert.AdamWGlaIn.sig) → Buf (Elt Bits) ℓ) : Prop :=
  ∀ c : Dev Cert.AdamWGlaIn.nD,
    (Cert.Pre_on_mesh_2048_770.fn (F := Bits) (m ((c.tc : Thread Cert.AdamWGlaIn.nD Cert.AdamWGlaIn.τ).loc Cert.AdamWGlaIn.main_arg0)) (m ((c.tc : Thread Cert.AdamWGlaIn.nD Cert.AdamWGlaIn.τ).loc Cert.AdamWGlaIn.main_arg1)) (m ((c.tc : Thread Cert.AdamWGlaIn.nD Cert.AdamWGlaIn.τ).loc Cert.AdamWGlaIn.main_arg2)) (m ((c.tc : Thread Cert.AdamWGlaIn.nD Cert.AdamWGlaIn.τ).loc Cert.AdamWGlaIn.main_arg3)) (m ((c.tc : Thread Cert.AdamWGlaIn.nD Cert.AdamWGlaIn.τ).loc Cert.AdamWGlaIn.main_arg4)) (m ((c.tc : Thread Cert.AdamWGlaIn.nD Cert.AdamWGlaIn.τ).loc Cert.AdamWGlaIn.main_arg5))) = (fun _ => 1#1)

def Pre_AdamWGlaInIdeal [hPre_on_mesh_2048_770 : Cert.Pre_on_mesh_2048_770.Facts] (m : (ℓ : Loc Cert.AdamWGlaInIdeal.nD Cert.AdamWGlaInIdeal.τ Cert.AdamWGlaInIdeal.sig) → Buf (Elt Ideal) ℓ) : Prop :=
  ∀ c : Dev Cert.AdamWGlaInIdeal.nD,
    (Cert.Pre_on_mesh_2048_770.fn (F := Ideal) (m ((c.tc : Thread Cert.AdamWGlaInIdeal.nD Cert.AdamWGlaInIdeal.τ).loc Cert.AdamWGlaInIdeal.main_arg0)) (m ((c.tc : Thread Cert.AdamWGlaInIdeal.nD Cert.AdamWGlaInIdeal.τ).loc Cert.AdamWGlaInIdeal.main_arg1)) (m ((c.tc : Thread Cert.AdamWGlaInIdeal.nD Cert.AdamWGlaInIdeal.τ).loc Cert.AdamWGlaInIdeal.main_arg2)) (m ((c.tc : Thread Cert.AdamWGlaInIdeal.nD Cert.AdamWGlaInIdeal.τ).loc Cert.AdamWGlaInIdeal.main_arg3)) (m ((c.tc : Thread Cert.AdamWGlaInIdeal.nD Cert.AdamWGlaInIdeal.τ).loc Cert.AdamWGlaInIdeal.main_arg4)) (m ((c.tc : Thread Cert.AdamWGlaInIdeal.nD Cert.AdamWGlaInIdeal.τ).loc Cert.AdamWGlaInIdeal.main_arg5))) = (fun _ => 1#1)

def Pre_AdamWGlaInRefIdeal (m : (ℓ : Loc Cert.AdamWGlaInRefIdeal.nD Cert.AdamWGlaInRefIdeal.τ Cert.AdamWGlaInRefIdeal.sig) → Buf (Elt Ideal) ℓ) : Prop :=
  True

def Pre_AdamWGlaInRefIdeal_on_mesh_2048_770 [hPre_on_mesh_2048_770 : Cert.Pre_on_mesh_2048_770.Facts] (m : (ℓ : Loc Cert.AdamWGlaInRefIdeal.nD Cert.AdamWGlaInRefIdeal.τ Cert.AdamWGlaInRefIdeal.sig) → Buf (Elt Ideal) ℓ) : Prop :=
  ∀ c : Dev Cert.AdamWGlaInRefIdeal.nD,
    (Cert.Pre_on_mesh_2048_770.fn (F := Ideal) (m ((c.tc : Thread Cert.AdamWGlaInRefIdeal.nD Cert.AdamWGlaInRefIdeal.τ).loc Cert.AdamWGlaInRefIdeal.main_arg0)) (m ((c.tc : Thread Cert.AdamWGlaInRefIdeal.nD Cert.AdamWGlaInRefIdeal.τ).loc Cert.AdamWGlaInRefIdeal.main_arg1)) (m ((c.tc : Thread Cert.AdamWGlaInRefIdeal.nD Cert.AdamWGlaInRefIdeal.τ).loc Cert.AdamWGlaInRefIdeal.main_arg2)) (m ((c.tc : Thread Cert.AdamWGlaInRefIdeal.nD Cert.AdamWGlaInRefIdeal.τ).loc Cert.AdamWGlaInRefIdeal.main_arg3)) (m ((c.tc : Thread Cert.AdamWGlaInRefIdeal.nD Cert.AdamWGlaInRefIdeal.τ).loc Cert.AdamWGlaInRefIdeal.main_arg4)) (m ((c.tc : Thread Cert.AdamWGlaInRefIdeal.nD Cert.AdamWGlaInRefIdeal.τ).loc Cert.AdamWGlaInRefIdeal.main_arg5))) = (fun _ => 1#1)

def Pre_AdamWRetOut [hPre_on_mesh_512_2048 : Cert.Pre_on_mesh_512_2048.Facts] (m : (ℓ : Loc Cert.AdamWRetOut.nD Cert.AdamWRetOut.τ Cert.AdamWRetOut.sig) → Buf (Elt Bits) ℓ) : Prop :=
  ∀ c : Dev Cert.AdamWRetOut.nD,
    (Cert.Pre_on_mesh_512_2048.fn (F := Bits) (m ((c.tc : Thread Cert.AdamWRetOut.nD Cert.AdamWRetOut.τ).loc Cert.AdamWRetOut.main_arg0)) (m ((c.tc : Thread Cert.AdamWRetOut.nD Cert.AdamWRetOut.τ).loc Cert.AdamWRetOut.main_arg1)) (m ((c.tc : Thread Cert.AdamWRetOut.nD Cert.AdamWRetOut.τ).loc Cert.AdamWRetOut.main_arg2)) (m ((c.tc : Thread Cert.AdamWRetOut.nD Cert.AdamWRetOut.τ).loc Cert.AdamWRetOut.main_arg3)) (m ((c.tc : Thread Cert.AdamWRetOut.nD Cert.AdamWRetOut.τ).loc Cert.AdamWRetOut.main_arg4)) (m ((c.tc : Thread Cert.AdamWRetOut.nD Cert.AdamWRetOut.τ).loc Cert.AdamWRetOut.main_arg5))) = (fun _ => 1#1)

def Pre_AdamWRetOutIdeal [hPre_on_mesh_512_2048 : Cert.Pre_on_mesh_512_2048.Facts] (m : (ℓ : Loc Cert.AdamWRetOutIdeal.nD Cert.AdamWRetOutIdeal.τ Cert.AdamWRetOutIdeal.sig) → Buf (Elt Ideal) ℓ) : Prop :=
  ∀ c : Dev Cert.AdamWRetOutIdeal.nD,
    (Cert.Pre_on_mesh_512_2048.fn (F := Ideal) (m ((c.tc : Thread Cert.AdamWRetOutIdeal.nD Cert.AdamWRetOutIdeal.τ).loc Cert.AdamWRetOutIdeal.main_arg0)) (m ((c.tc : Thread Cert.AdamWRetOutIdeal.nD Cert.AdamWRetOutIdeal.τ).loc Cert.AdamWRetOutIdeal.main_arg1)) (m ((c.tc : Thread Cert.AdamWRetOutIdeal.nD Cert.AdamWRetOutIdeal.τ).loc Cert.AdamWRetOutIdeal.main_arg2)) (m ((c.tc : Thread Cert.AdamWRetOutIdeal.nD Cert.AdamWRetOutIdeal.τ).loc Cert.AdamWRetOutIdeal.main_arg3)) (m ((c.tc : Thread Cert.AdamWRetOutIdeal.nD Cert.AdamWRetOutIdeal.τ).loc Cert.AdamWRetOutIdeal.main_arg4)) (m ((c.tc : Thread Cert.AdamWRetOutIdeal.nD Cert.AdamWRetOutIdeal.τ).loc Cert.AdamWRetOutIdeal.main_arg5))) = (fun _ => 1#1)

def Pre_AdamWRetOutRefIdeal (m : (ℓ : Loc Cert.AdamWRetOutRefIdeal.nD Cert.AdamWRetOutRefIdeal.τ Cert.AdamWRetOutRefIdeal.sig) → Buf (Elt Ideal) ℓ) : Prop :=
  True

def Pre_AdamWRetOutRefIdeal_on_mesh_512_2048 [hPre_on_mesh_512_2048 : Cert.Pre_on_mesh_512_2048.Facts] (m : (ℓ : Loc Cert.AdamWRetOutRefIdeal.nD Cert.AdamWRetOutRefIdeal.τ Cert.AdamWRetOutRefIdeal.sig) → Buf (Elt Ideal) ℓ) : Prop :=
  ∀ c : Dev Cert.AdamWRetOutRefIdeal.nD,
    (Cert.Pre_on_mesh_512_2048.fn (F := Ideal) (m ((c.tc : Thread Cert.AdamWRetOutRefIdeal.nD Cert.AdamWRetOutRefIdeal.τ).loc Cert.AdamWRetOutRefIdeal.main_arg0)) (m ((c.tc : Thread Cert.AdamWRetOutRefIdeal.nD Cert.AdamWRetOutRefIdeal.τ).loc Cert.AdamWRetOutRefIdeal.main_arg1)) (m ((c.tc : Thread Cert.AdamWRetOutRefIdeal.nD Cert.AdamWRetOutRefIdeal.τ).loc Cert.AdamWRetOutRefIdeal.main_arg2)) (m ((c.tc : Thread Cert.AdamWRetOutRefIdeal.nD Cert.AdamWRetOutRefIdeal.τ).loc Cert.AdamWRetOutRefIdeal.main_arg3)) (m ((c.tc : Thread Cert.AdamWRetOutRefIdeal.nD Cert.AdamWRetOutRefIdeal.τ).loc Cert.AdamWRetOutRefIdeal.main_arg4)) (m ((c.tc : Thread Cert.AdamWRetOutRefIdeal.nD Cert.AdamWRetOutRefIdeal.τ).loc Cert.AdamWRetOutRefIdeal.main_arg5))) = (fun _ => 1#1)

def Pre_AdamWOut [hPre_on_mesh_256_2048 : Cert.Pre_on_mesh_256_2048.Facts] (m : (ℓ : Loc Cert.AdamWOut.nD Cert.AdamWOut.τ Cert.AdamWOut.sig) → Buf (Elt Bits) ℓ) : Prop :=
  ∀ c : Dev Cert.AdamWOut.nD,
    (Cert.Pre_on_mesh_256_2048.fn (F := Bits) (m ((c.tc : Thread Cert.AdamWOut.nD Cert.AdamWOut.τ).loc Cert.AdamWOut.main_arg0)) (m ((c.tc : Thread Cert.AdamWOut.nD Cert.AdamWOut.τ).loc Cert.AdamWOut.main_arg1)) (m ((c.tc : Thread Cert.AdamWOut.nD Cert.AdamWOut.τ).loc Cert.AdamWOut.main_arg2)) (m ((c.tc : Thread Cert.AdamWOut.nD Cert.AdamWOut.τ).loc Cert.AdamWOut.main_arg3)) (m ((c.tc : Thread Cert.AdamWOut.nD Cert.AdamWOut.τ).loc Cert.AdamWOut.main_arg4)) (m ((c.tc : Thread Cert.AdamWOut.nD Cert.AdamWOut.τ).loc Cert.AdamWOut.main_arg5))) = (fun _ => 1#1)

def Pre_AdamWOutIdeal [hPre_on_mesh_256_2048 : Cert.Pre_on_mesh_256_2048.Facts] (m : (ℓ : Loc Cert.AdamWOutIdeal.nD Cert.AdamWOutIdeal.τ Cert.AdamWOutIdeal.sig) → Buf (Elt Ideal) ℓ) : Prop :=
  ∀ c : Dev Cert.AdamWOutIdeal.nD,
    (Cert.Pre_on_mesh_256_2048.fn (F := Ideal) (m ((c.tc : Thread Cert.AdamWOutIdeal.nD Cert.AdamWOutIdeal.τ).loc Cert.AdamWOutIdeal.main_arg0)) (m ((c.tc : Thread Cert.AdamWOutIdeal.nD Cert.AdamWOutIdeal.τ).loc Cert.AdamWOutIdeal.main_arg1)) (m ((c.tc : Thread Cert.AdamWOutIdeal.nD Cert.AdamWOutIdeal.τ).loc Cert.AdamWOutIdeal.main_arg2)) (m ((c.tc : Thread Cert.AdamWOutIdeal.nD Cert.AdamWOutIdeal.τ).loc Cert.AdamWOutIdeal.main_arg3)) (m ((c.tc : Thread Cert.AdamWOutIdeal.nD Cert.AdamWOutIdeal.τ).loc Cert.AdamWOutIdeal.main_arg4)) (m ((c.tc : Thread Cert.AdamWOutIdeal.nD Cert.AdamWOutIdeal.τ).loc Cert.AdamWOutIdeal.main_arg5))) = (fun _ => 1#1)

def Pre_AdamWOutRefIdeal (m : (ℓ : Loc Cert.AdamWOutRefIdeal.nD Cert.AdamWOutRefIdeal.τ Cert.AdamWOutRefIdeal.sig) → Buf (Elt Ideal) ℓ) : Prop :=
  True

def Pre_AdamWOutRefIdeal_on_mesh_256_2048 [hPre_on_mesh_256_2048 : Cert.Pre_on_mesh_256_2048.Facts] (m : (ℓ : Loc Cert.AdamWOutRefIdeal.nD Cert.AdamWOutRefIdeal.τ Cert.AdamWOutRefIdeal.sig) → Buf (Elt Ideal) ℓ) : Prop :=
  ∀ c : Dev Cert.AdamWOutRefIdeal.nD,
    (Cert.Pre_on_mesh_256_2048.fn (F := Ideal) (m ((c.tc : Thread Cert.AdamWOutRefIdeal.nD Cert.AdamWOutRefIdeal.τ).loc Cert.AdamWOutRefIdeal.main_arg0)) (m ((c.tc : Thread Cert.AdamWOutRefIdeal.nD Cert.AdamWOutRefIdeal.τ).loc Cert.AdamWOutRefIdeal.main_arg1)) (m ((c.tc : Thread Cert.AdamWOutRefIdeal.nD Cert.AdamWOutRefIdeal.τ).loc Cert.AdamWOutRefIdeal.main_arg2)) (m ((c.tc : Thread Cert.AdamWOutRefIdeal.nD Cert.AdamWOutRefIdeal.τ).loc Cert.AdamWOutRefIdeal.main_arg3)) (m ((c.tc : Thread Cert.AdamWOutRefIdeal.nD Cert.AdamWOutRefIdeal.τ).loc Cert.AdamWOutRefIdeal.main_arg4)) (m ((c.tc : Thread Cert.AdamWOutRefIdeal.nD Cert.AdamWOutRefIdeal.τ).loc Cert.AdamWOutRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_RetInDw [hRetInDw : Cert.RetInDw.Facts] : Prop :=
  ∀ (m : (ℓ : Loc Cert.RetInDw.nD Cert.RetInDw.τ Cert.RetInDw.sig) → Buf (Elt Bits) ℓ) (g : Dev Cert.RetInDw.nD → PrngReg), Pre_RetInDw m →
    θ_run (Cert.RetInDw.defs (F := Bits)) (onTc (τ := Cert.RetInDw.τ) (Cert.RetInDw.main (F := Bits))) ⟨m, fun _ => 0, g⟩ (fun r => (∀ c : Dev Cert.RetInDw.nD,
      r.2.mem ((c.tc : Thread Cert.RetInDw.nD Cert.RetInDw.τ).loc Cert.RetInDw.main_arg0) = m ((c.tc : Thread Cert.RetInDw.nD Cert.RetInDw.τ).loc Cert.RetInDw.main_arg0)
      ∧ r.2.mem ((c.tc : Thread Cert.RetInDw.nD Cert.RetInDw.τ).loc Cert.RetInDw.main_arg1) = m ((c.tc : Thread Cert.RetInDw.nD Cert.RetInDw.τ).loc Cert.RetInDw.main_arg1))
      ∧ r.2.sem = fun _ => 0)

def quiescent_RetInDwIdeal [hRetInDwIdeal : Cert.RetInDwIdeal.Facts] : Prop :=
  ∀ (m : (ℓ : Loc Cert.RetInDwIdeal.nD Cert.RetInDwIdeal.τ Cert.RetInDwIdeal.sig) → Buf (Elt Ideal) ℓ) (g : Dev Cert.RetInDwIdeal.nD → PrngReg), Pre_RetInDwIdeal m →
    θ_run (Cert.RetInDwIdeal.defs (F := Ideal)) (onTc (τ := Cert.RetInDwIdeal.τ) (Cert.RetInDwIdeal.main (F := Ideal))) ⟨m, fun _ => 0, g⟩ (fun r => (∀ c : Dev Cert.RetInDwIdeal.nD,
      r.2.mem ((c.tc : Thread Cert.RetInDwIdeal.nD Cert.RetInDwIdeal.τ).loc Cert.RetInDwIdeal.main_arg0) = m ((c.tc : Thread Cert.RetInDwIdeal.nD Cert.RetInDwIdeal.τ).loc Cert.RetInDwIdeal.main_arg0)
      ∧ r.2.mem ((c.tc : Thread Cert.RetInDwIdeal.nD Cert.RetInDwIdeal.τ).loc Cert.RetInDwIdeal.main_arg1) = m ((c.tc : Thread Cert.RetInDwIdeal.nD Cert.RetInDwIdeal.τ).loc Cert.RetInDwIdeal.main_arg1))
      ∧ r.2.sem = fun _ => 0)

def quiescent_RetInDwRefIdeal [hRetInDwRefIdeal : Cert.RetInDwRefIdeal.Facts] : Prop :=
  ∀ (m : (ℓ : Loc Cert.RetInDwRefIdeal.nD Cert.RetInDwRefIdeal.τ Cert.RetInDwRefIdeal.sig) → Buf (Elt Ideal) ℓ) (g : Dev Cert.RetInDwRefIdeal.nD → PrngReg), Pre_RetInDwRefIdeal m →
    θ_run (Cert.RetInDwRefIdeal.defs (F := Ideal)) (onTc (τ := Cert.RetInDwRefIdeal.τ) (Cert.RetInDwRefIdeal.main (F := Ideal))) ⟨m, fun _ => 0, g⟩ (fun r => (∀ c : Dev Cert.RetInDwRefIdeal.nD,
      r.2.mem ((c.tc : Thread Cert.RetInDwRefIdeal.nD Cert.RetInDwRefIdeal.τ).loc Cert.RetInDwRefIdeal.main_arg0) = m ((c.tc : Thread Cert.RetInDwRefIdeal.nD Cert.RetInDwRefIdeal.τ).loc Cert.RetInDwRefIdeal.main_arg0)
      ∧ r.2.mem ((c.tc : Thread Cert.RetInDwRefIdeal.nD Cert.RetInDwRefIdeal.τ).loc Cert.RetInDwRefIdeal.main_arg1) = m ((c.tc : Thread Cert.RetInDwRefIdeal.nD Cert.RetInDwRefIdeal.τ).loc Cert.RetInDwRefIdeal.main_arg1))
      ∧ r.2.sem = fun _ => 0)

def quiescent_RetInDx [hRetInDx : Cert.RetInDx.Facts] : Prop :=
  ∀ (m : (ℓ : Loc Cert.RetInDx.nD Cert.RetInDx.τ Cert.RetInDx.sig) → Buf (Elt Bits) ℓ) (g : Dev Cert.RetInDx.nD → PrngReg), Pre_RetInDx m →
    θ_run (Cert.RetInDx.defs (F := Bits)) (onTc (τ := Cert.RetInDx.τ) (Cert.RetInDx.main (F := Bits))) ⟨m, fun _ => 0, g⟩ (fun r => (∀ c : Dev Cert.RetInDx.nD,
      r.2.mem ((c.tc : Thread Cert.RetInDx.nD Cert.RetInDx.τ).loc Cert.RetInDx.main_arg0) = m ((c.tc : Thread Cert.RetInDx.nD Cert.RetInDx.τ).loc Cert.RetInDx.main_arg0)
      ∧ r.2.mem ((c.tc : Thread Cert.RetInDx.nD Cert.RetInDx.τ).loc Cert.RetInDx.main_arg1) = m ((c.tc : Thread Cert.RetInDx.nD Cert.RetInDx.τ).loc Cert.RetInDx.main_arg1))
      ∧ r.2.sem = fun _ => 0)

def quiescent_RetInDxIdeal [hRetInDxIdeal : Cert.RetInDxIdeal.Facts] : Prop :=
  ∀ (m : (ℓ : Loc Cert.RetInDxIdeal.nD Cert.RetInDxIdeal.τ Cert.RetInDxIdeal.sig) → Buf (Elt Ideal) ℓ) (g : Dev Cert.RetInDxIdeal.nD → PrngReg), Pre_RetInDxIdeal m →
    θ_run (Cert.RetInDxIdeal.defs (F := Ideal)) (onTc (τ := Cert.RetInDxIdeal.τ) (Cert.RetInDxIdeal.main (F := Ideal))) ⟨m, fun _ => 0, g⟩ (fun r => (∀ c : Dev Cert.RetInDxIdeal.nD,
      r.2.mem ((c.tc : Thread Cert.RetInDxIdeal.nD Cert.RetInDxIdeal.τ).loc Cert.RetInDxIdeal.main_arg0) = m ((c.tc : Thread Cert.RetInDxIdeal.nD Cert.RetInDxIdeal.τ).loc Cert.RetInDxIdeal.main_arg0)
      ∧ r.2.mem ((c.tc : Thread Cert.RetInDxIdeal.nD Cert.RetInDxIdeal.τ).loc Cert.RetInDxIdeal.main_arg1) = m ((c.tc : Thread Cert.RetInDxIdeal.nD Cert.RetInDxIdeal.τ).loc Cert.RetInDxIdeal.main_arg1))
      ∧ r.2.sem = fun _ => 0)

def quiescent_RetInDxRefIdeal [hRetInDxRefIdeal : Cert.RetInDxRefIdeal.Facts] : Prop :=
  ∀ (m : (ℓ : Loc Cert.RetInDxRefIdeal.nD Cert.RetInDxRefIdeal.τ Cert.RetInDxRefIdeal.sig) → Buf (Elt Ideal) ℓ) (g : Dev Cert.RetInDxRefIdeal.nD → PrngReg), Pre_RetInDxRefIdeal m →
    θ_run (Cert.RetInDxRefIdeal.defs (F := Ideal)) (onTc (τ := Cert.RetInDxRefIdeal.τ) (Cert.RetInDxRefIdeal.main (F := Ideal))) ⟨m, fun _ => 0, g⟩ (fun r => (∀ c : Dev Cert.RetInDxRefIdeal.nD,
      r.2.mem ((c.tc : Thread Cert.RetInDxRefIdeal.nD Cert.RetInDxRefIdeal.τ).loc Cert.RetInDxRefIdeal.main_arg0) = m ((c.tc : Thread Cert.RetInDxRefIdeal.nD Cert.RetInDxRefIdeal.τ).loc Cert.RetInDxRefIdeal.main_arg0)
      ∧ r.2.mem ((c.tc : Thread Cert.RetInDxRefIdeal.nD Cert.RetInDxRefIdeal.τ).loc Cert.RetInDxRefIdeal.main_arg1) = m ((c.tc : Thread Cert.RetInDxRefIdeal.nD Cert.RetInDxRefIdeal.τ).loc Cert.RetInDxRefIdeal.main_arg1))
      ∧ r.2.sem = fun _ => 0)

def quiescent_RetOutDw [hRetOutDw : Cert.RetOutDw.Facts] : Prop :=
  ∀ (m : (ℓ : Loc Cert.RetOutDw.nD Cert.RetOutDw.τ Cert.RetOutDw.sig) → Buf (Elt Bits) ℓ) (g : Dev Cert.RetOutDw.nD → PrngReg), Pre_RetOutDw m →
    θ_run (Cert.RetOutDw.defs (F := Bits)) (onTc (τ := Cert.RetOutDw.τ) (Cert.RetOutDw.main (F := Bits))) ⟨m, fun _ => 0, g⟩ (fun r => (∀ c : Dev Cert.RetOutDw.nD,
      r.2.mem ((c.tc : Thread Cert.RetOutDw.nD Cert.RetOutDw.τ).loc Cert.RetOutDw.main_arg0) = m ((c.tc : Thread Cert.RetOutDw.nD Cert.RetOutDw.τ).loc Cert.RetOutDw.main_arg0)
      ∧ r.2.mem ((c.tc : Thread Cert.RetOutDw.nD Cert.RetOutDw.τ).loc Cert.RetOutDw.main_arg1) = m ((c.tc : Thread Cert.RetOutDw.nD Cert.RetOutDw.τ).loc Cert.RetOutDw.main_arg1))
      ∧ r.2.sem = fun _ => 0)

def quiescent_RetOutDwIdeal [hRetOutDwIdeal : Cert.RetOutDwIdeal.Facts] : Prop :=
  ∀ (m : (ℓ : Loc Cert.RetOutDwIdeal.nD Cert.RetOutDwIdeal.τ Cert.RetOutDwIdeal.sig) → Buf (Elt Ideal) ℓ) (g : Dev Cert.RetOutDwIdeal.nD → PrngReg), Pre_RetOutDwIdeal m →
    θ_run (Cert.RetOutDwIdeal.defs (F := Ideal)) (onTc (τ := Cert.RetOutDwIdeal.τ) (Cert.RetOutDwIdeal.main (F := Ideal))) ⟨m, fun _ => 0, g⟩ (fun r => (∀ c : Dev Cert.RetOutDwIdeal.nD,
      r.2.mem ((c.tc : Thread Cert.RetOutDwIdeal.nD Cert.RetOutDwIdeal.τ).loc Cert.RetOutDwIdeal.main_arg0) = m ((c.tc : Thread Cert.RetOutDwIdeal.nD Cert.RetOutDwIdeal.τ).loc Cert.RetOutDwIdeal.main_arg0)
      ∧ r.2.mem ((c.tc : Thread Cert.RetOutDwIdeal.nD Cert.RetOutDwIdeal.τ).loc Cert.RetOutDwIdeal.main_arg1) = m ((c.tc : Thread Cert.RetOutDwIdeal.nD Cert.RetOutDwIdeal.τ).loc Cert.RetOutDwIdeal.main_arg1))
      ∧ r.2.sem = fun _ => 0)

def quiescent_RetOutDwRefIdeal [hRetOutDwRefIdeal : Cert.RetOutDwRefIdeal.Facts] : Prop :=
  ∀ (m : (ℓ : Loc Cert.RetOutDwRefIdeal.nD Cert.RetOutDwRefIdeal.τ Cert.RetOutDwRefIdeal.sig) → Buf (Elt Ideal) ℓ) (g : Dev Cert.RetOutDwRefIdeal.nD → PrngReg), Pre_RetOutDwRefIdeal m →
    θ_run (Cert.RetOutDwRefIdeal.defs (F := Ideal)) (onTc (τ := Cert.RetOutDwRefIdeal.τ) (Cert.RetOutDwRefIdeal.main (F := Ideal))) ⟨m, fun _ => 0, g⟩ (fun r => (∀ c : Dev Cert.RetOutDwRefIdeal.nD,
      r.2.mem ((c.tc : Thread Cert.RetOutDwRefIdeal.nD Cert.RetOutDwRefIdeal.τ).loc Cert.RetOutDwRefIdeal.main_arg0) = m ((c.tc : Thread Cert.RetOutDwRefIdeal.nD Cert.RetOutDwRefIdeal.τ).loc Cert.RetOutDwRefIdeal.main_arg0)
      ∧ r.2.mem ((c.tc : Thread Cert.RetOutDwRefIdeal.nD Cert.RetOutDwRefIdeal.τ).loc Cert.RetOutDwRefIdeal.main_arg1) = m ((c.tc : Thread Cert.RetOutDwRefIdeal.nD Cert.RetOutDwRefIdeal.τ).loc Cert.RetOutDwRefIdeal.main_arg1))
      ∧ r.2.sem = fun _ => 0)

def quiescent_RetOutDx [hRetOutDx : Cert.RetOutDx.Facts] : Prop :=
  ∀ (m : (ℓ : Loc Cert.RetOutDx.nD Cert.RetOutDx.τ Cert.RetOutDx.sig) → Buf (Elt Bits) ℓ) (g : Dev Cert.RetOutDx.nD → PrngReg), Pre_RetOutDx m →
    θ_run (Cert.RetOutDx.defs (F := Bits)) (onTc (τ := Cert.RetOutDx.τ) (Cert.RetOutDx.main (F := Bits))) ⟨m, fun _ => 0, g⟩ (fun r => (∀ c : Dev Cert.RetOutDx.nD,
      r.2.mem ((c.tc : Thread Cert.RetOutDx.nD Cert.RetOutDx.τ).loc Cert.RetOutDx.main_arg0) = m ((c.tc : Thread Cert.RetOutDx.nD Cert.RetOutDx.τ).loc Cert.RetOutDx.main_arg0)
      ∧ r.2.mem ((c.tc : Thread Cert.RetOutDx.nD Cert.RetOutDx.τ).loc Cert.RetOutDx.main_arg1) = m ((c.tc : Thread Cert.RetOutDx.nD Cert.RetOutDx.τ).loc Cert.RetOutDx.main_arg1))
      ∧ r.2.sem = fun _ => 0)

def quiescent_RetOutDxIdeal [hRetOutDxIdeal : Cert.RetOutDxIdeal.Facts] : Prop :=
  ∀ (m : (ℓ : Loc Cert.RetOutDxIdeal.nD Cert.RetOutDxIdeal.τ Cert.RetOutDxIdeal.sig) → Buf (Elt Ideal) ℓ) (g : Dev Cert.RetOutDxIdeal.nD → PrngReg), Pre_RetOutDxIdeal m →
    θ_run (Cert.RetOutDxIdeal.defs (F := Ideal)) (onTc (τ := Cert.RetOutDxIdeal.τ) (Cert.RetOutDxIdeal.main (F := Ideal))) ⟨m, fun _ => 0, g⟩ (fun r => (∀ c : Dev Cert.RetOutDxIdeal.nD,
      r.2.mem ((c.tc : Thread Cert.RetOutDxIdeal.nD Cert.RetOutDxIdeal.τ).loc Cert.RetOutDxIdeal.main_arg0) = m ((c.tc : Thread Cert.RetOutDxIdeal.nD Cert.RetOutDxIdeal.τ).loc Cert.RetOutDxIdeal.main_arg0)
      ∧ r.2.mem ((c.tc : Thread Cert.RetOutDxIdeal.nD Cert.RetOutDxIdeal.τ).loc Cert.RetOutDxIdeal.main_arg1) = m ((c.tc : Thread Cert.RetOutDxIdeal.nD Cert.RetOutDxIdeal.τ).loc Cert.RetOutDxIdeal.main_arg1))
      ∧ r.2.sem = fun _ => 0)

def quiescent_RetOutDxRefIdeal [hRetOutDxRefIdeal : Cert.RetOutDxRefIdeal.Facts] : Prop :=
  ∀ (m : (ℓ : Loc Cert.RetOutDxRefIdeal.nD Cert.RetOutDxRefIdeal.τ Cert.RetOutDxRefIdeal.sig) → Buf (Elt Ideal) ℓ) (g : Dev Cert.RetOutDxRefIdeal.nD → PrngReg), Pre_RetOutDxRefIdeal m →
    θ_run (Cert.RetOutDxRefIdeal.defs (F := Ideal)) (onTc (τ := Cert.RetOutDxRefIdeal.τ) (Cert.RetOutDxRefIdeal.main (F := Ideal))) ⟨m, fun _ => 0, g⟩ (fun r => (∀ c : Dev Cert.RetOutDxRefIdeal.nD,
      r.2.mem ((c.tc : Thread Cert.RetOutDxRefIdeal.nD Cert.RetOutDxRefIdeal.τ).loc Cert.RetOutDxRefIdeal.main_arg0) = m ((c.tc : Thread Cert.RetOutDxRefIdeal.nD Cert.RetOutDxRefIdeal.τ).loc Cert.RetOutDxRefIdeal.main_arg0)
      ∧ r.2.mem ((c.tc : Thread Cert.RetOutDxRefIdeal.nD Cert.RetOutDxRefIdeal.τ).loc Cert.RetOutDxRefIdeal.main_arg1) = m ((c.tc : Thread Cert.RetOutDxRefIdeal.nD Cert.RetOutDxRefIdeal.τ).loc Cert.RetOutDxRefIdeal.main_arg1))
      ∧ r.2.sem = fun _ => 0)

def quiescent_RetIn [hRetIn : Cert.RetIn.Facts] : Prop :=
  ∀ (m : (ℓ : Loc Cert.RetIn.nD Cert.RetIn.τ Cert.RetIn.sig) → Buf (Elt Bits) ℓ) (g : Dev Cert.RetIn.nD → PrngReg), Pre_RetIn m →
    θ_run (Cert.RetIn.defs (F := Bits)) (onTc (τ := Cert.RetIn.τ) (Cert.RetIn.main (F := Bits))) ⟨m, fun _ => 0, g⟩ (fun r => (∀ c : Dev Cert.RetIn.nD,
      r.2.mem ((c.tc : Thread Cert.RetIn.nD Cert.RetIn.τ).loc Cert.RetIn.main_arg0) = m ((c.tc : Thread Cert.RetIn.nD Cert.RetIn.τ).loc Cert.RetIn.main_arg0)
      ∧ r.2.mem ((c.tc : Thread Cert.RetIn.nD Cert.RetIn.τ).loc Cert.RetIn.main_arg1) = m ((c.tc : Thread Cert.RetIn.nD Cert.RetIn.τ).loc Cert.RetIn.main_arg1))
      ∧ r.2.sem = fun _ => 0)

def quiescent_RetInIdeal [hRetInIdeal : Cert.RetInIdeal.Facts] : Prop :=
  ∀ (m : (ℓ : Loc Cert.RetInIdeal.nD Cert.RetInIdeal.τ Cert.RetInIdeal.sig) → Buf (Elt Ideal) ℓ) (g : Dev Cert.RetInIdeal.nD → PrngReg), Pre_RetInIdeal m →
    θ_run (Cert.RetInIdeal.defs (F := Ideal)) (onTc (τ := Cert.RetInIdeal.τ) (Cert.RetInIdeal.main (F := Ideal))) ⟨m, fun _ => 0, g⟩ (fun r => (∀ c : Dev Cert.RetInIdeal.nD,
      r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
      ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1))
      ∧ r.2.sem = fun _ => 0)

def quiescent_RetInRefIdeal [hRetInRefIdeal : Cert.RetInRefIdeal.Facts] : Prop :=
  ∀ (m : (ℓ : Loc Cert.RetInRefIdeal.nD Cert.RetInRefIdeal.τ Cert.RetInRefIdeal.sig) → Buf (Elt Ideal) ℓ) (g : Dev Cert.RetInRefIdeal.nD → PrngReg), Pre_RetInRefIdeal m →
    θ_run (Cert.RetInRefIdeal.defs (F := Ideal)) (onTc (τ := Cert.RetInRefIdeal.τ) (Cert.RetInRefIdeal.main (F := Ideal))) ⟨m, fun _ => 0, g⟩ (fun r => (∀ c : Dev Cert.RetInRefIdeal.nD,
      r.2.mem ((c.tc : Thread Cert.RetInRefIdeal.nD Cert.RetInRefIdeal.τ).loc Cert.RetInRefIdeal.main_arg0) = m ((c.tc : Thread Cert.RetInRefIdeal.nD Cert.RetInRefIdeal.τ).loc Cert.RetInRefIdeal.main_arg0)
      ∧ r.2.mem ((c.tc : Thread Cert.RetInRefIdeal.nD Cert.RetInRefIdeal.τ).loc Cert.RetInRefIdeal.main_arg1) = m ((c.tc : Thread Cert.RetInRefIdeal.nD Cert.RetInRefIdeal.τ).loc Cert.RetInRefIdeal.main_arg1))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1)
      ∧ r.2.mem ((c.tc : Thread Cert.RetOut.nD Cert.RetOut.τ).loc Cert.RetOut.main_arg2) = m ((c.tc : Thread Cert.RetOut.nD Cert.RetOut.τ).loc Cert.RetOut.main_arg2))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2))
      ∧ r.2.sem = fun _ => 0)

def quiescent_RetOutRefIdeal [hRetOutRefIdeal : Cert.RetOutRefIdeal.Facts] : Prop :=
  ∀ (m : (ℓ : Loc Cert.RetOutRefIdeal.nD Cert.RetOutRefIdeal.τ Cert.RetOutRefIdeal.sig) → Buf (Elt Ideal) ℓ) (g : Dev Cert.RetOutRefIdeal.nD → PrngReg), Pre_RetOutRefIdeal m →
    θ_run (Cert.RetOutRefIdeal.defs (F := Ideal)) (onTc (τ := Cert.RetOutRefIdeal.τ) (Cert.RetOutRefIdeal.main (F := Ideal))) ⟨m, fun _ => 0, g⟩ (fun r => (∀ c : Dev Cert.RetOutRefIdeal.nD,
      r.2.mem ((c.tc : Thread Cert.RetOutRefIdeal.nD Cert.RetOutRefIdeal.τ).loc Cert.RetOutRefIdeal.main_arg0) = m ((c.tc : Thread Cert.RetOutRefIdeal.nD Cert.RetOutRefIdeal.τ).loc Cert.RetOutRefIdeal.main_arg0)
      ∧ r.2.mem ((c.tc : Thread Cert.RetOutRefIdeal.nD Cert.RetOutRefIdeal.τ).loc Cert.RetOutRefIdeal.main_arg1) = m ((c.tc : Thread Cert.RetOutRefIdeal.nD Cert.RetOutRefIdeal.τ).loc Cert.RetOutRefIdeal.main_arg1)
      ∧ r.2.mem ((c.tc : Thread Cert.RetOutRefIdeal.nD Cert.RetOutRefIdeal.τ).loc Cert.RetOutRefIdeal.main_arg2) = m ((c.tc : Thread Cert.RetOutRefIdeal.nD Cert.RetOutRefIdeal.τ).loc Cert.RetOutRefIdeal.main_arg2))
      ∧ r.2.sem = fun _ => 0)

def quiescent_GdnInDx [hGdnInDx : Cert.GdnInDx.Facts] : Prop :=
  ∀ (m : (ℓ : Loc Cert.GdnInDx.nD Cert.GdnInDx.τ Cert.GdnInDx.sig) → Buf (Elt Bits) ℓ) (g : Dev Cert.GdnInDx.nD → PrngReg), Pre_GdnInDx m →
    θ_run (Cert.GdnInDx.defs (F := Bits)) (onTc (τ := Cert.GdnInDx.τ) (Cert.GdnInDx.main (F := Bits))) ⟨m, fun _ => 0, g⟩ (fun r => (∀ c : Dev Cert.GdnInDx.nD,
      r.2.mem ((c.tc : Thread Cert.GdnInDx.nD Cert.GdnInDx.τ).loc Cert.GdnInDx.main_arg0) = m ((c.tc : Thread Cert.GdnInDx.nD Cert.GdnInDx.τ).loc Cert.GdnInDx.main_arg0)
      ∧ r.2.mem ((c.tc : Thread Cert.GdnInDx.nD Cert.GdnInDx.τ).loc Cert.GdnInDx.main_arg1) = m ((c.tc : Thread Cert.GdnInDx.nD Cert.GdnInDx.τ).loc Cert.GdnInDx.main_arg1))
      ∧ r.2.sem = fun _ => 0)

def quiescent_GdnInDxIdeal [hGdnInDxIdeal : Cert.GdnInDxIdeal.Facts] : Prop :=
  ∀ (m : (ℓ : Loc Cert.GdnInDxIdeal.nD Cert.GdnInDxIdeal.τ Cert.GdnInDxIdeal.sig) → Buf (Elt Ideal) ℓ) (g : Dev Cert.GdnInDxIdeal.nD → PrngReg), Pre_GdnInDxIdeal m →
    θ_run (Cert.GdnInDxIdeal.defs (F := Ideal)) (onTc (τ := Cert.GdnInDxIdeal.τ) (Cert.GdnInDxIdeal.main (F := Ideal))) ⟨m, fun _ => 0, g⟩ (fun r => (∀ c : Dev Cert.GdnInDxIdeal.nD,
      r.2.mem ((c.tc : Thread Cert.GdnInDxIdeal.nD Cert.GdnInDxIdeal.τ).loc Cert.GdnInDxIdeal.main_arg0) = m ((c.tc : Thread Cert.GdnInDxIdeal.nD Cert.GdnInDxIdeal.τ).loc Cert.GdnInDxIdeal.main_arg0)
      ∧ r.2.mem ((c.tc : Thread Cert.GdnInDxIdeal.nD Cert.GdnInDxIdeal.τ).loc Cert.GdnInDxIdeal.main_arg1) = m ((c.tc : Thread Cert.GdnInDxIdeal.nD Cert.GdnInDxIdeal.τ).loc Cert.GdnInDxIdeal.main_arg1))
      ∧ r.2.sem = fun _ => 0)

def quiescent_GdnInDxRefIdeal [hGdnInDxRefIdeal : Cert.GdnInDxRefIdeal.Facts] : Prop :=
  ∀ (m : (ℓ : Loc Cert.GdnInDxRefIdeal.nD Cert.GdnInDxRefIdeal.τ Cert.GdnInDxRefIdeal.sig) → Buf (Elt Ideal) ℓ) (g : Dev Cert.GdnInDxRefIdeal.nD → PrngReg), Pre_GdnInDxRefIdeal m →
    θ_run (Cert.GdnInDxRefIdeal.defs (F := Ideal)) (onTc (τ := Cert.GdnInDxRefIdeal.τ) (Cert.GdnInDxRefIdeal.main (F := Ideal))) ⟨m, fun _ => 0, g⟩ (fun r => (∀ c : Dev Cert.GdnInDxRefIdeal.nD,
      r.2.mem ((c.tc : Thread Cert.GdnInDxRefIdeal.nD Cert.GdnInDxRefIdeal.τ).loc Cert.GdnInDxRefIdeal.main_arg0) = m ((c.tc : Thread Cert.GdnInDxRefIdeal.nD Cert.GdnInDxRefIdeal.τ).loc Cert.GdnInDxRefIdeal.main_arg0)
      ∧ r.2.mem ((c.tc : Thread Cert.GdnInDxRefIdeal.nD Cert.GdnInDxRefIdeal.τ).loc Cert.GdnInDxRefIdeal.main_arg1) = m ((c.tc : Thread Cert.GdnInDxRefIdeal.nD Cert.GdnInDxRefIdeal.τ).loc Cert.GdnInDxRefIdeal.main_arg1))
      ∧ r.2.sem = fun _ => 0)

def quiescent_GdnIn [hGdnIn : Cert.GdnIn.Facts] : Prop :=
  ∀ (m : (ℓ : Loc Cert.GdnIn.nD Cert.GdnIn.τ Cert.GdnIn.sig) → Buf (Elt Bits) ℓ) (g : Dev Cert.GdnIn.nD → PrngReg), Pre_GdnIn m →
    θ_run (Cert.GdnIn.defs (F := Bits)) (onTc (τ := Cert.GdnIn.τ) (Cert.GdnIn.main (F := Bits))) ⟨m, fun _ => 0, g⟩ (fun r => (∀ c : Dev Cert.GdnIn.nD,
      r.2.mem ((c.tc : Thread Cert.GdnIn.nD Cert.GdnIn.τ).loc Cert.GdnIn.main_arg0) = m ((c.tc : Thread Cert.GdnIn.nD Cert.GdnIn.τ).loc Cert.GdnIn.main_arg0)
      ∧ r.2.mem ((c.tc : Thread Cert.GdnIn.nD Cert.GdnIn.τ).loc Cert.GdnIn.main_arg1) = m ((c.tc : Thread Cert.GdnIn.nD Cert.GdnIn.τ).loc Cert.GdnIn.main_arg1))
      ∧ r.2.sem = fun _ => 0)

def quiescent_GdnInIdeal [hGdnInIdeal : Cert.GdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg), Pre_GdnInIdeal m →
    θ_run (Cert.GdnInIdeal.defs (F := Ideal)) (onTc (τ := Cert.GdnInIdeal.τ) (Cert.GdnInIdeal.main (F := Ideal))) ⟨m, fun _ => 0, g⟩ (fun r => (∀ c : Dev Cert.GdnInIdeal.nD,
      r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
      ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ r.2.sem = fun _ => 0)

def quiescent_GdnInRefIdeal [hGdnInRefIdeal : Cert.GdnInRefIdeal.Facts] : Prop :=
  ∀ (m : (ℓ : Loc Cert.GdnInRefIdeal.nD Cert.GdnInRefIdeal.τ Cert.GdnInRefIdeal.sig) → Buf (Elt Ideal) ℓ) (g : Dev Cert.GdnInRefIdeal.nD → PrngReg), Pre_GdnInRefIdeal m →
    θ_run (Cert.GdnInRefIdeal.defs (F := Ideal)) (onTc (τ := Cert.GdnInRefIdeal.τ) (Cert.GdnInRefIdeal.main (F := Ideal))) ⟨m, fun _ => 0, g⟩ (fun r => (∀ c : Dev Cert.GdnInRefIdeal.nD,
      r.2.mem ((c.tc : Thread Cert.GdnInRefIdeal.nD Cert.GdnInRefIdeal.τ).loc Cert.GdnInRefIdeal.main_arg0) = m ((c.tc : Thread Cert.GdnInRefIdeal.nD Cert.GdnInRefIdeal.τ).loc Cert.GdnInRefIdeal.main_arg0)
      ∧ r.2.mem ((c.tc : Thread Cert.GdnInRefIdeal.nD Cert.GdnInRefIdeal.τ).loc Cert.GdnInRefIdeal.main_arg1) = m ((c.tc : Thread Cert.GdnInRefIdeal.nD Cert.GdnInRefIdeal.τ).loc Cert.GdnInRefIdeal.main_arg1))
      ∧ r.2.sem = fun _ => 0)

def quiescent_GlaInDw [hGlaInDw : Cert.GlaInDw.Facts] : Prop :=
  ∀ (m : (ℓ : Loc Cert.GlaInDw.nD Cert.GlaInDw.τ Cert.GlaInDw.sig) → Buf (Elt Bits) ℓ) (g : Dev Cert.GlaInDw.nD → PrngReg), Pre_GlaInDw m →
    θ_run (Cert.GlaInDw.defs (F := Bits)) (onTc (τ := Cert.GlaInDw.τ) (Cert.GlaInDw.main (F := Bits))) ⟨m, fun _ => 0, g⟩ (fun r => (∀ c : Dev Cert.GlaInDw.nD,
      r.2.mem ((c.tc : Thread Cert.GlaInDw.nD Cert.GlaInDw.τ).loc Cert.GlaInDw.main_arg0) = m ((c.tc : Thread Cert.GlaInDw.nD Cert.GlaInDw.τ).loc Cert.GlaInDw.main_arg0)
      ∧ r.2.mem ((c.tc : Thread Cert.GlaInDw.nD Cert.GlaInDw.τ).loc Cert.GlaInDw.main_arg1) = m ((c.tc : Thread Cert.GlaInDw.nD Cert.GlaInDw.τ).loc Cert.GlaInDw.main_arg1))
      ∧ r.2.sem = fun _ => 0)

def quiescent_GlaInDwIdeal [hGlaInDwIdeal : Cert.GlaInDwIdeal.Facts] : Prop :=
  ∀ (m : (ℓ : Loc Cert.GlaInDwIdeal.nD Cert.GlaInDwIdeal.τ Cert.GlaInDwIdeal.sig) → Buf (Elt Ideal) ℓ) (g : Dev Cert.GlaInDwIdeal.nD → PrngReg), Pre_GlaInDwIdeal m →
    θ_run (Cert.GlaInDwIdeal.defs (F := Ideal)) (onTc (τ := Cert.GlaInDwIdeal.τ) (Cert.GlaInDwIdeal.main (F := Ideal))) ⟨m, fun _ => 0, g⟩ (fun r => (∀ c : Dev Cert.GlaInDwIdeal.nD,
      r.2.mem ((c.tc : Thread Cert.GlaInDwIdeal.nD Cert.GlaInDwIdeal.τ).loc Cert.GlaInDwIdeal.main_arg0) = m ((c.tc : Thread Cert.GlaInDwIdeal.nD Cert.GlaInDwIdeal.τ).loc Cert.GlaInDwIdeal.main_arg0)
      ∧ r.2.mem ((c.tc : Thread Cert.GlaInDwIdeal.nD Cert.GlaInDwIdeal.τ).loc Cert.GlaInDwIdeal.main_arg1) = m ((c.tc : Thread Cert.GlaInDwIdeal.nD Cert.GlaInDwIdeal.τ).loc Cert.GlaInDwIdeal.main_arg1))
      ∧ r.2.sem = fun _ => 0)

def quiescent_GlaInDwRefIdeal [hGlaInDwRefIdeal : Cert.GlaInDwRefIdeal.Facts] : Prop :=
  ∀ (m : (ℓ : Loc Cert.GlaInDwRefIdeal.nD Cert.GlaInDwRefIdeal.τ Cert.GlaInDwRefIdeal.sig) → Buf (Elt Ideal) ℓ) (g : Dev Cert.GlaInDwRefIdeal.nD → PrngReg), Pre_GlaInDwRefIdeal m →
    θ_run (Cert.GlaInDwRefIdeal.defs (F := Ideal)) (onTc (τ := Cert.GlaInDwRefIdeal.τ) (Cert.GlaInDwRefIdeal.main (F := Ideal))) ⟨m, fun _ => 0, g⟩ (fun r => (∀ c : Dev Cert.GlaInDwRefIdeal.nD,
      r.2.mem ((c.tc : Thread Cert.GlaInDwRefIdeal.nD Cert.GlaInDwRefIdeal.τ).loc Cert.GlaInDwRefIdeal.main_arg0) = m ((c.tc : Thread Cert.GlaInDwRefIdeal.nD Cert.GlaInDwRefIdeal.τ).loc Cert.GlaInDwRefIdeal.main_arg0)
      ∧ r.2.mem ((c.tc : Thread Cert.GlaInDwRefIdeal.nD Cert.GlaInDwRefIdeal.τ).loc Cert.GlaInDwRefIdeal.main_arg1) = m ((c.tc : Thread Cert.GlaInDwRefIdeal.nD Cert.GlaInDwRefIdeal.τ).loc Cert.GlaInDwRefIdeal.main_arg1))
      ∧ r.2.sem = fun _ => 0)

def quiescent_GlaInDx [hGlaInDx : Cert.GlaInDx.Facts] : Prop :=
  ∀ (m : (ℓ : Loc Cert.GlaInDx.nD Cert.GlaInDx.τ Cert.GlaInDx.sig) → Buf (Elt Bits) ℓ) (g : Dev Cert.GlaInDx.nD → PrngReg), Pre_GlaInDx m →
    θ_run (Cert.GlaInDx.defs (F := Bits)) (onTc (τ := Cert.GlaInDx.τ) (Cert.GlaInDx.main (F := Bits))) ⟨m, fun _ => 0, g⟩ (fun r => (∀ c : Dev Cert.GlaInDx.nD,
      r.2.mem ((c.tc : Thread Cert.GlaInDx.nD Cert.GlaInDx.τ).loc Cert.GlaInDx.main_arg0) = m ((c.tc : Thread Cert.GlaInDx.nD Cert.GlaInDx.τ).loc Cert.GlaInDx.main_arg0)
      ∧ r.2.mem ((c.tc : Thread Cert.GlaInDx.nD Cert.GlaInDx.τ).loc Cert.GlaInDx.main_arg1) = m ((c.tc : Thread Cert.GlaInDx.nD Cert.GlaInDx.τ).loc Cert.GlaInDx.main_arg1))
      ∧ r.2.sem = fun _ => 0)

def quiescent_GlaInDxIdeal [hGlaInDxIdeal : Cert.GlaInDxIdeal.Facts] : Prop :=
  ∀ (m : (ℓ : Loc Cert.GlaInDxIdeal.nD Cert.GlaInDxIdeal.τ Cert.GlaInDxIdeal.sig) → Buf (Elt Ideal) ℓ) (g : Dev Cert.GlaInDxIdeal.nD → PrngReg), Pre_GlaInDxIdeal m →
    θ_run (Cert.GlaInDxIdeal.defs (F := Ideal)) (onTc (τ := Cert.GlaInDxIdeal.τ) (Cert.GlaInDxIdeal.main (F := Ideal))) ⟨m, fun _ => 0, g⟩ (fun r => (∀ c : Dev Cert.GlaInDxIdeal.nD,
      r.2.mem ((c.tc : Thread Cert.GlaInDxIdeal.nD Cert.GlaInDxIdeal.τ).loc Cert.GlaInDxIdeal.main_arg0) = m ((c.tc : Thread Cert.GlaInDxIdeal.nD Cert.GlaInDxIdeal.τ).loc Cert.GlaInDxIdeal.main_arg0)
      ∧ r.2.mem ((c.tc : Thread Cert.GlaInDxIdeal.nD Cert.GlaInDxIdeal.τ).loc Cert.GlaInDxIdeal.main_arg1) = m ((c.tc : Thread Cert.GlaInDxIdeal.nD Cert.GlaInDxIdeal.τ).loc Cert.GlaInDxIdeal.main_arg1))
      ∧ r.2.sem = fun _ => 0)

def quiescent_GlaInDxRefIdeal [hGlaInDxRefIdeal : Cert.GlaInDxRefIdeal.Facts] : Prop :=
  ∀ (m : (ℓ : Loc Cert.GlaInDxRefIdeal.nD Cert.GlaInDxRefIdeal.τ Cert.GlaInDxRefIdeal.sig) → Buf (Elt Ideal) ℓ) (g : Dev Cert.GlaInDxRefIdeal.nD → PrngReg), Pre_GlaInDxRefIdeal m →
    θ_run (Cert.GlaInDxRefIdeal.defs (F := Ideal)) (onTc (τ := Cert.GlaInDxRefIdeal.τ) (Cert.GlaInDxRefIdeal.main (F := Ideal))) ⟨m, fun _ => 0, g⟩ (fun r => (∀ c : Dev Cert.GlaInDxRefIdeal.nD,
      r.2.mem ((c.tc : Thread Cert.GlaInDxRefIdeal.nD Cert.GlaInDxRefIdeal.τ).loc Cert.GlaInDxRefIdeal.main_arg0) = m ((c.tc : Thread Cert.GlaInDxRefIdeal.nD Cert.GlaInDxRefIdeal.τ).loc Cert.GlaInDxRefIdeal.main_arg0)
      ∧ r.2.mem ((c.tc : Thread Cert.GlaInDxRefIdeal.nD Cert.GlaInDxRefIdeal.τ).loc Cert.GlaInDxRefIdeal.main_arg1) = m ((c.tc : Thread Cert.GlaInDxRefIdeal.nD Cert.GlaInDxRefIdeal.τ).loc Cert.GlaInDxRefIdeal.main_arg1))
      ∧ r.2.sem = fun _ => 0)

def quiescent_GlaIn [hGlaIn : Cert.GlaIn.Facts] : Prop :=
  ∀ (m : (ℓ : Loc Cert.GlaIn.nD Cert.GlaIn.τ Cert.GlaIn.sig) → Buf (Elt Bits) ℓ) (g : Dev Cert.GlaIn.nD → PrngReg), Pre_GlaIn m →
    θ_run (Cert.GlaIn.defs (F := Bits)) (onTc (τ := Cert.GlaIn.τ) (Cert.GlaIn.main (F := Bits))) ⟨m, fun _ => 0, g⟩ (fun r => (∀ c : Dev Cert.GlaIn.nD,
      r.2.mem ((c.tc : Thread Cert.GlaIn.nD Cert.GlaIn.τ).loc Cert.GlaIn.main_arg0) = m ((c.tc : Thread Cert.GlaIn.nD Cert.GlaIn.τ).loc Cert.GlaIn.main_arg0)
      ∧ r.2.mem ((c.tc : Thread Cert.GlaIn.nD Cert.GlaIn.τ).loc Cert.GlaIn.main_arg1) = m ((c.tc : Thread Cert.GlaIn.nD Cert.GlaIn.τ).loc Cert.GlaIn.main_arg1))
      ∧ r.2.sem = fun _ => 0)

def quiescent_GlaInIdeal [hGlaInIdeal : Cert.GlaInIdeal.Facts] : Prop :=
  ∀ (m : (ℓ : Loc Cert.GlaInIdeal.nD Cert.GlaInIdeal.τ Cert.GlaInIdeal.sig) → Buf (Elt Ideal) ℓ) (g : Dev Cert.GlaInIdeal.nD → PrngReg), Pre_GlaInIdeal m →
    θ_run (Cert.GlaInIdeal.defs (F := Ideal)) (onTc (τ := Cert.GlaInIdeal.τ) (Cert.GlaInIdeal.main (F := Ideal))) ⟨m, fun _ => 0, g⟩ (fun r => (∀ c : Dev Cert.GlaInIdeal.nD,
      r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
      ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1))
      ∧ r.2.sem = fun _ => 0)

def quiescent_GlaInRefIdeal [hGlaInRefIdeal : Cert.GlaInRefIdeal.Facts] : Prop :=
  ∀ (m : (ℓ : Loc Cert.GlaInRefIdeal.nD Cert.GlaInRefIdeal.τ Cert.GlaInRefIdeal.sig) → Buf (Elt Ideal) ℓ) (g : Dev Cert.GlaInRefIdeal.nD → PrngReg), Pre_GlaInRefIdeal m →
    θ_run (Cert.GlaInRefIdeal.defs (F := Ideal)) (onTc (τ := Cert.GlaInRefIdeal.τ) (Cert.GlaInRefIdeal.main (F := Ideal))) ⟨m, fun _ => 0, g⟩ (fun r => (∀ c : Dev Cert.GlaInRefIdeal.nD,
      r.2.mem ((c.tc : Thread Cert.GlaInRefIdeal.nD Cert.GlaInRefIdeal.τ).loc Cert.GlaInRefIdeal.main_arg0) = m ((c.tc : Thread Cert.GlaInRefIdeal.nD Cert.GlaInRefIdeal.τ).loc Cert.GlaInRefIdeal.main_arg0)
      ∧ r.2.mem ((c.tc : Thread Cert.GlaInRefIdeal.nD Cert.GlaInRefIdeal.τ).loc Cert.GlaInRefIdeal.main_arg1) = m ((c.tc : Thread Cert.GlaInRefIdeal.nD Cert.GlaInRefIdeal.τ).loc Cert.GlaInRefIdeal.main_arg1))
      ∧ r.2.sem = fun _ => 0)

def quiescent_LruInDw [hLruInDw : Cert.LruInDw.Facts] : Prop :=
  ∀ (m : (ℓ : Loc Cert.LruInDw.nD Cert.LruInDw.τ Cert.LruInDw.sig) → Buf (Elt Bits) ℓ) (g : Dev Cert.LruInDw.nD → PrngReg), Pre_LruInDw m →
    θ_run (Cert.LruInDw.defs (F := Bits)) (onTc (τ := Cert.LruInDw.τ) (Cert.LruInDw.main (F := Bits))) ⟨m, fun _ => 0, g⟩ (fun r => (∀ c : Dev Cert.LruInDw.nD,
      r.2.mem ((c.tc : Thread Cert.LruInDw.nD Cert.LruInDw.τ).loc Cert.LruInDw.main_arg0) = m ((c.tc : Thread Cert.LruInDw.nD Cert.LruInDw.τ).loc Cert.LruInDw.main_arg0)
      ∧ r.2.mem ((c.tc : Thread Cert.LruInDw.nD Cert.LruInDw.τ).loc Cert.LruInDw.main_arg1) = m ((c.tc : Thread Cert.LruInDw.nD Cert.LruInDw.τ).loc Cert.LruInDw.main_arg1))
      ∧ r.2.sem = fun _ => 0)

def quiescent_LruInDwIdeal [hLruInDwIdeal : Cert.LruInDwIdeal.Facts] : Prop :=
  ∀ (m : (ℓ : Loc Cert.LruInDwIdeal.nD Cert.LruInDwIdeal.τ Cert.LruInDwIdeal.sig) → Buf (Elt Ideal) ℓ) (g : Dev Cert.LruInDwIdeal.nD → PrngReg), Pre_LruInDwIdeal m →
    θ_run (Cert.LruInDwIdeal.defs (F := Ideal)) (onTc (τ := Cert.LruInDwIdeal.τ) (Cert.LruInDwIdeal.main (F := Ideal))) ⟨m, fun _ => 0, g⟩ (fun r => (∀ c : Dev Cert.LruInDwIdeal.nD,
      r.2.mem ((c.tc : Thread Cert.LruInDwIdeal.nD Cert.LruInDwIdeal.τ).loc Cert.LruInDwIdeal.main_arg0) = m ((c.tc : Thread Cert.LruInDwIdeal.nD Cert.LruInDwIdeal.τ).loc Cert.LruInDwIdeal.main_arg0)
      ∧ r.2.mem ((c.tc : Thread Cert.LruInDwIdeal.nD Cert.LruInDwIdeal.τ).loc Cert.LruInDwIdeal.main_arg1) = m ((c.tc : Thread Cert.LruInDwIdeal.nD Cert.LruInDwIdeal.τ).loc Cert.LruInDwIdeal.main_arg1))
      ∧ r.2.sem = fun _ => 0)

def quiescent_LruInDwRefIdeal [hLruInDwRefIdeal : Cert.LruInDwRefIdeal.Facts] : Prop :=
  ∀ (m : (ℓ : Loc Cert.LruInDwRefIdeal.nD Cert.LruInDwRefIdeal.τ Cert.LruInDwRefIdeal.sig) → Buf (Elt Ideal) ℓ) (g : Dev Cert.LruInDwRefIdeal.nD → PrngReg), Pre_LruInDwRefIdeal m →
    θ_run (Cert.LruInDwRefIdeal.defs (F := Ideal)) (onTc (τ := Cert.LruInDwRefIdeal.τ) (Cert.LruInDwRefIdeal.main (F := Ideal))) ⟨m, fun _ => 0, g⟩ (fun r => (∀ c : Dev Cert.LruInDwRefIdeal.nD,
      r.2.mem ((c.tc : Thread Cert.LruInDwRefIdeal.nD Cert.LruInDwRefIdeal.τ).loc Cert.LruInDwRefIdeal.main_arg0) = m ((c.tc : Thread Cert.LruInDwRefIdeal.nD Cert.LruInDwRefIdeal.τ).loc Cert.LruInDwRefIdeal.main_arg0)
      ∧ r.2.mem ((c.tc : Thread Cert.LruInDwRefIdeal.nD Cert.LruInDwRefIdeal.τ).loc Cert.LruInDwRefIdeal.main_arg1) = m ((c.tc : Thread Cert.LruInDwRefIdeal.nD Cert.LruInDwRefIdeal.τ).loc Cert.LruInDwRefIdeal.main_arg1))
      ∧ r.2.sem = fun _ => 0)

def quiescent_LruInDx [hLruInDx : Cert.LruInDx.Facts] : Prop :=
  ∀ (m : (ℓ : Loc Cert.LruInDx.nD Cert.LruInDx.τ Cert.LruInDx.sig) → Buf (Elt Bits) ℓ) (g : Dev Cert.LruInDx.nD → PrngReg), Pre_LruInDx m →
    θ_run (Cert.LruInDx.defs (F := Bits)) (onTc (τ := Cert.LruInDx.τ) (Cert.LruInDx.main (F := Bits))) ⟨m, fun _ => 0, g⟩ (fun r => (∀ c : Dev Cert.LruInDx.nD,
      r.2.mem ((c.tc : Thread Cert.LruInDx.nD Cert.LruInDx.τ).loc Cert.LruInDx.main_arg0) = m ((c.tc : Thread Cert.LruInDx.nD Cert.LruInDx.τ).loc Cert.LruInDx.main_arg0)
      ∧ r.2.mem ((c.tc : Thread Cert.LruInDx.nD Cert.LruInDx.τ).loc Cert.LruInDx.main_arg1) = m ((c.tc : Thread Cert.LruInDx.nD Cert.LruInDx.τ).loc Cert.LruInDx.main_arg1))
      ∧ r.2.sem = fun _ => 0)

def quiescent_LruInDxIdeal [hLruInDxIdeal : Cert.LruInDxIdeal.Facts] : Prop :=
  ∀ (m : (ℓ : Loc Cert.LruInDxIdeal.nD Cert.LruInDxIdeal.τ Cert.LruInDxIdeal.sig) → Buf (Elt Ideal) ℓ) (g : Dev Cert.LruInDxIdeal.nD → PrngReg), Pre_LruInDxIdeal m →
    θ_run (Cert.LruInDxIdeal.defs (F := Ideal)) (onTc (τ := Cert.LruInDxIdeal.τ) (Cert.LruInDxIdeal.main (F := Ideal))) ⟨m, fun _ => 0, g⟩ (fun r => (∀ c : Dev Cert.LruInDxIdeal.nD,
      r.2.mem ((c.tc : Thread Cert.LruInDxIdeal.nD Cert.LruInDxIdeal.τ).loc Cert.LruInDxIdeal.main_arg0) = m ((c.tc : Thread Cert.LruInDxIdeal.nD Cert.LruInDxIdeal.τ).loc Cert.LruInDxIdeal.main_arg0)
      ∧ r.2.mem ((c.tc : Thread Cert.LruInDxIdeal.nD Cert.LruInDxIdeal.τ).loc Cert.LruInDxIdeal.main_arg1) = m ((c.tc : Thread Cert.LruInDxIdeal.nD Cert.LruInDxIdeal.τ).loc Cert.LruInDxIdeal.main_arg1))
      ∧ r.2.sem = fun _ => 0)

def quiescent_LruInDxRefIdeal [hLruInDxRefIdeal : Cert.LruInDxRefIdeal.Facts] : Prop :=
  ∀ (m : (ℓ : Loc Cert.LruInDxRefIdeal.nD Cert.LruInDxRefIdeal.τ Cert.LruInDxRefIdeal.sig) → Buf (Elt Ideal) ℓ) (g : Dev Cert.LruInDxRefIdeal.nD → PrngReg), Pre_LruInDxRefIdeal m →
    θ_run (Cert.LruInDxRefIdeal.defs (F := Ideal)) (onTc (τ := Cert.LruInDxRefIdeal.τ) (Cert.LruInDxRefIdeal.main (F := Ideal))) ⟨m, fun _ => 0, g⟩ (fun r => (∀ c : Dev Cert.LruInDxRefIdeal.nD,
      r.2.mem ((c.tc : Thread Cert.LruInDxRefIdeal.nD Cert.LruInDxRefIdeal.τ).loc Cert.LruInDxRefIdeal.main_arg0) = m ((c.tc : Thread Cert.LruInDxRefIdeal.nD Cert.LruInDxRefIdeal.τ).loc Cert.LruInDxRefIdeal.main_arg0)
      ∧ r.2.mem ((c.tc : Thread Cert.LruInDxRefIdeal.nD Cert.LruInDxRefIdeal.τ).loc Cert.LruInDxRefIdeal.main_arg1) = m ((c.tc : Thread Cert.LruInDxRefIdeal.nD Cert.LruInDxRefIdeal.τ).loc Cert.LruInDxRefIdeal.main_arg1))
      ∧ r.2.sem = fun _ => 0)

def quiescent_LruIn [hLruIn : Cert.LruIn.Facts] : Prop :=
  ∀ (m : (ℓ : Loc Cert.LruIn.nD Cert.LruIn.τ Cert.LruIn.sig) → Buf (Elt Bits) ℓ) (g : Dev Cert.LruIn.nD → PrngReg), Pre_LruIn m →
    θ_run (Cert.LruIn.defs (F := Bits)) (onTc (τ := Cert.LruIn.τ) (Cert.LruIn.main (F := Bits))) ⟨m, fun _ => 0, g⟩ (fun r => (∀ c : Dev Cert.LruIn.nD,
      r.2.mem ((c.tc : Thread Cert.LruIn.nD Cert.LruIn.τ).loc Cert.LruIn.main_arg0) = m ((c.tc : Thread Cert.LruIn.nD Cert.LruIn.τ).loc Cert.LruIn.main_arg0)
      ∧ r.2.mem ((c.tc : Thread Cert.LruIn.nD Cert.LruIn.τ).loc Cert.LruIn.main_arg1) = m ((c.tc : Thread Cert.LruIn.nD Cert.LruIn.τ).loc Cert.LruIn.main_arg1))
      ∧ r.2.sem = fun _ => 0)

def quiescent_LruInIdeal [hLruInIdeal : Cert.LruInIdeal.Facts] : Prop :=
  ∀ (m : (ℓ : Loc Cert.LruInIdeal.nD Cert.LruInIdeal.τ Cert.LruInIdeal.sig) → Buf (Elt Ideal) ℓ) (g : Dev Cert.LruInIdeal.nD → PrngReg), Pre_LruInIdeal m →
    θ_run (Cert.LruInIdeal.defs (F := Ideal)) (onTc (τ := Cert.LruInIdeal.τ) (Cert.LruInIdeal.main (F := Ideal))) ⟨m, fun _ => 0, g⟩ (fun r => (∀ c : Dev Cert.LruInIdeal.nD,
      r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
      ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ r.2.sem = fun _ => 0)

def quiescent_LruInRefIdeal [hLruInRefIdeal : Cert.LruInRefIdeal.Facts] : Prop :=
  ∀ (m : (ℓ : Loc Cert.LruInRefIdeal.nD Cert.LruInRefIdeal.τ Cert.LruInRefIdeal.sig) → Buf (Elt Ideal) ℓ) (g : Dev Cert.LruInRefIdeal.nD → PrngReg), Pre_LruInRefIdeal m →
    θ_run (Cert.LruInRefIdeal.defs (F := Ideal)) (onTc (τ := Cert.LruInRefIdeal.τ) (Cert.LruInRefIdeal.main (F := Ideal))) ⟨m, fun _ => 0, g⟩ (fun r => (∀ c : Dev Cert.LruInRefIdeal.nD,
      r.2.mem ((c.tc : Thread Cert.LruInRefIdeal.nD Cert.LruInRefIdeal.τ).loc Cert.LruInRefIdeal.main_arg0) = m ((c.tc : Thread Cert.LruInRefIdeal.nD Cert.LruInRefIdeal.τ).loc Cert.LruInRefIdeal.main_arg0)
      ∧ r.2.mem ((c.tc : Thread Cert.LruInRefIdeal.nD Cert.LruInRefIdeal.τ).loc Cert.LruInRefIdeal.main_arg1) = m ((c.tc : Thread Cert.LruInRefIdeal.nD Cert.LruInRefIdeal.τ).loc Cert.LruInRefIdeal.main_arg1))
      ∧ r.2.sem = fun _ => 0)

def quiescent_MixOutDw [hMixOutDw : Cert.MixOutDw.Facts] : Prop :=
  ∀ (m : (ℓ : Loc Cert.MixOutDw.nD Cert.MixOutDw.τ Cert.MixOutDw.sig) → Buf (Elt Bits) ℓ) (g : Dev Cert.MixOutDw.nD → PrngReg), Pre_MixOutDw m →
    θ_run (Cert.MixOutDw.defs (F := Bits)) (onTc (τ := Cert.MixOutDw.τ) (Cert.MixOutDw.main (F := Bits))) ⟨m, fun _ => 0, g⟩ (fun r => (∀ c : Dev Cert.MixOutDw.nD,
      r.2.mem ((c.tc : Thread Cert.MixOutDw.nD Cert.MixOutDw.τ).loc Cert.MixOutDw.main_arg0) = m ((c.tc : Thread Cert.MixOutDw.nD Cert.MixOutDw.τ).loc Cert.MixOutDw.main_arg0)
      ∧ r.2.mem ((c.tc : Thread Cert.MixOutDw.nD Cert.MixOutDw.τ).loc Cert.MixOutDw.main_arg1) = m ((c.tc : Thread Cert.MixOutDw.nD Cert.MixOutDw.τ).loc Cert.MixOutDw.main_arg1))
      ∧ r.2.sem = fun _ => 0)

def quiescent_MixOutDwIdeal [hMixOutDwIdeal : Cert.MixOutDwIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg), Pre_MixOutDwIdeal m →
    θ_run (Cert.MixOutDwIdeal.defs (F := Ideal)) (onTc (τ := Cert.MixOutDwIdeal.τ) (Cert.MixOutDwIdeal.main (F := Ideal))) ⟨m, fun _ => 0, g⟩ (fun r => (∀ c : Dev Cert.MixOutDwIdeal.nD,
      r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
      ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ r.2.sem = fun _ => 0)

def quiescent_MixOutDwRefIdeal [hMixOutDwRefIdeal : Cert.MixOutDwRefIdeal.Facts] : Prop :=
  ∀ (m : (ℓ : Loc Cert.MixOutDwRefIdeal.nD Cert.MixOutDwRefIdeal.τ Cert.MixOutDwRefIdeal.sig) → Buf (Elt Ideal) ℓ) (g : Dev Cert.MixOutDwRefIdeal.nD → PrngReg), Pre_MixOutDwRefIdeal m →
    θ_run (Cert.MixOutDwRefIdeal.defs (F := Ideal)) (onTc (τ := Cert.MixOutDwRefIdeal.τ) (Cert.MixOutDwRefIdeal.main (F := Ideal))) ⟨m, fun _ => 0, g⟩ (fun r => (∀ c : Dev Cert.MixOutDwRefIdeal.nD,
      r.2.mem ((c.tc : Thread Cert.MixOutDwRefIdeal.nD Cert.MixOutDwRefIdeal.τ).loc Cert.MixOutDwRefIdeal.main_arg0) = m ((c.tc : Thread Cert.MixOutDwRefIdeal.nD Cert.MixOutDwRefIdeal.τ).loc Cert.MixOutDwRefIdeal.main_arg0)
      ∧ r.2.mem ((c.tc : Thread Cert.MixOutDwRefIdeal.nD Cert.MixOutDwRefIdeal.τ).loc Cert.MixOutDwRefIdeal.main_arg1) = m ((c.tc : Thread Cert.MixOutDwRefIdeal.nD Cert.MixOutDwRefIdeal.τ).loc Cert.MixOutDwRefIdeal.main_arg1))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ r.2.sem = fun _ => 0)

def quiescent_MixOutDxRefIdeal [hMixOutDxRefIdeal : Cert.MixOutDxRefIdeal.Facts] : Prop :=
  ∀ (m : (ℓ : Loc Cert.MixOutDxRefIdeal.nD Cert.MixOutDxRefIdeal.τ Cert.MixOutDxRefIdeal.sig) → Buf (Elt Ideal) ℓ) (g : Dev Cert.MixOutDxRefIdeal.nD → PrngReg), Pre_MixOutDxRefIdeal m →
    θ_run (Cert.MixOutDxRefIdeal.defs (F := Ideal)) (onTc (τ := Cert.MixOutDxRefIdeal.τ) (Cert.MixOutDxRefIdeal.main (F := Ideal))) ⟨m, fun _ => 0, g⟩ (fun r => (∀ c : Dev Cert.MixOutDxRefIdeal.nD,
      r.2.mem ((c.tc : Thread Cert.MixOutDxRefIdeal.nD Cert.MixOutDxRefIdeal.τ).loc Cert.MixOutDxRefIdeal.main_arg0) = m ((c.tc : Thread Cert.MixOutDxRefIdeal.nD Cert.MixOutDxRefIdeal.τ).loc Cert.MixOutDxRefIdeal.main_arg0)
      ∧ r.2.mem ((c.tc : Thread Cert.MixOutDxRefIdeal.nD Cert.MixOutDxRefIdeal.τ).loc Cert.MixOutDxRefIdeal.main_arg1) = m ((c.tc : Thread Cert.MixOutDxRefIdeal.nD Cert.MixOutDxRefIdeal.τ).loc Cert.MixOutDxRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_AdamWSmall [hAdamWSmall : Cert.AdamWSmall.Facts] : Prop :=
  ∀ (m : (ℓ : Loc Cert.AdamWSmall.nD Cert.AdamWSmall.τ Cert.AdamWSmall.sig) → Buf (Elt Bits) ℓ) (g : Dev Cert.AdamWSmall.nD → PrngReg), Pre_AdamWSmall m →
    θ_run (Cert.AdamWSmall.defs (F := Bits)) (onTc (τ := Cert.AdamWSmall.τ) (Cert.AdamWSmall.main (F := Bits))) ⟨m, fun _ => 0, g⟩ (fun r => (∀ c : Dev Cert.AdamWSmall.nD,
      r.2.mem ((c.tc : Thread Cert.AdamWSmall.nD Cert.AdamWSmall.τ).loc Cert.AdamWSmall.main_arg0) = m ((c.tc : Thread Cert.AdamWSmall.nD Cert.AdamWSmall.τ).loc Cert.AdamWSmall.main_arg0)
      ∧ r.2.mem ((c.tc : Thread Cert.AdamWSmall.nD Cert.AdamWSmall.τ).loc Cert.AdamWSmall.main_arg1) = m ((c.tc : Thread Cert.AdamWSmall.nD Cert.AdamWSmall.τ).loc Cert.AdamWSmall.main_arg1)
      ∧ r.2.mem ((c.tc : Thread Cert.AdamWSmall.nD Cert.AdamWSmall.τ).loc Cert.AdamWSmall.main_arg2) = m ((c.tc : Thread Cert.AdamWSmall.nD Cert.AdamWSmall.τ).loc Cert.AdamWSmall.main_arg2)
      ∧ r.2.mem ((c.tc : Thread Cert.AdamWSmall.nD Cert.AdamWSmall.τ).loc Cert.AdamWSmall.main_arg3) = m ((c.tc : Thread Cert.AdamWSmall.nD Cert.AdamWSmall.τ).loc Cert.AdamWSmall.main_arg3))
      ∧ r.2.sem = fun _ => 0)

def quiescent_AdamWSmallIdeal [hAdamWSmallIdeal : Cert.AdamWSmallIdeal.Facts] : Prop :=
  ∀ (m : (ℓ : Loc Cert.AdamWSmallIdeal.nD Cert.AdamWSmallIdeal.τ Cert.AdamWSmallIdeal.sig) → Buf (Elt Ideal) ℓ) (g : Dev Cert.AdamWSmallIdeal.nD → PrngReg), Pre_AdamWSmallIdeal m →
    θ_run (Cert.AdamWSmallIdeal.defs (F := Ideal)) (onTc (τ := Cert.AdamWSmallIdeal.τ) (Cert.AdamWSmallIdeal.main (F := Ideal))) ⟨m, fun _ => 0, g⟩ (fun r => (∀ c : Dev Cert.AdamWSmallIdeal.nD,
      r.2.mem ((c.tc : Thread Cert.AdamWSmallIdeal.nD Cert.AdamWSmallIdeal.τ).loc Cert.AdamWSmallIdeal.main_arg0) = m ((c.tc : Thread Cert.AdamWSmallIdeal.nD Cert.AdamWSmallIdeal.τ).loc Cert.AdamWSmallIdeal.main_arg0)
      ∧ r.2.mem ((c.tc : Thread Cert.AdamWSmallIdeal.nD Cert.AdamWSmallIdeal.τ).loc Cert.AdamWSmallIdeal.main_arg1) = m ((c.tc : Thread Cert.AdamWSmallIdeal.nD Cert.AdamWSmallIdeal.τ).loc Cert.AdamWSmallIdeal.main_arg1)
      ∧ r.2.mem ((c.tc : Thread Cert.AdamWSmallIdeal.nD Cert.AdamWSmallIdeal.τ).loc Cert.AdamWSmallIdeal.main_arg2) = m ((c.tc : Thread Cert.AdamWSmallIdeal.nD Cert.AdamWSmallIdeal.τ).loc Cert.AdamWSmallIdeal.main_arg2)
      ∧ r.2.mem ((c.tc : Thread Cert.AdamWSmallIdeal.nD Cert.AdamWSmallIdeal.τ).loc Cert.AdamWSmallIdeal.main_arg3) = m ((c.tc : Thread Cert.AdamWSmallIdeal.nD Cert.AdamWSmallIdeal.τ).loc Cert.AdamWSmallIdeal.main_arg3))
      ∧ r.2.sem = fun _ => 0)

def quiescent_AdamWSmallRefIdeal [hAdamWSmallRefIdeal : Cert.AdamWSmallRefIdeal.Facts] : Prop :=
  ∀ (m : (ℓ : Loc Cert.AdamWSmallRefIdeal.nD Cert.AdamWSmallRefIdeal.τ Cert.AdamWSmallRefIdeal.sig) → Buf (Elt Ideal) ℓ) (g : Dev Cert.AdamWSmallRefIdeal.nD → PrngReg), Pre_AdamWSmallRefIdeal m →
    θ_run (Cert.AdamWSmallRefIdeal.defs (F := Ideal)) (onTc (τ := Cert.AdamWSmallRefIdeal.τ) (Cert.AdamWSmallRefIdeal.main (F := Ideal))) ⟨m, fun _ => 0, g⟩ (fun r => (∀ c : Dev Cert.AdamWSmallRefIdeal.nD,
      r.2.mem ((c.tc : Thread Cert.AdamWSmallRefIdeal.nD Cert.AdamWSmallRefIdeal.τ).loc Cert.AdamWSmallRefIdeal.main_arg0) = m ((c.tc : Thread Cert.AdamWSmallRefIdeal.nD Cert.AdamWSmallRefIdeal.τ).loc Cert.AdamWSmallRefIdeal.main_arg0)
      ∧ r.2.mem ((c.tc : Thread Cert.AdamWSmallRefIdeal.nD Cert.AdamWSmallRefIdeal.τ).loc Cert.AdamWSmallRefIdeal.main_arg1) = m ((c.tc : Thread Cert.AdamWSmallRefIdeal.nD Cert.AdamWSmallRefIdeal.τ).loc Cert.AdamWSmallRefIdeal.main_arg1)
      ∧ r.2.mem ((c.tc : Thread Cert.AdamWSmallRefIdeal.nD Cert.AdamWSmallRefIdeal.τ).loc Cert.AdamWSmallRefIdeal.main_arg2) = m ((c.tc : Thread Cert.AdamWSmallRefIdeal.nD Cert.AdamWSmallRefIdeal.τ).loc Cert.AdamWSmallRefIdeal.main_arg2)
      ∧ r.2.mem ((c.tc : Thread Cert.AdamWSmallRefIdeal.nD Cert.AdamWSmallRefIdeal.τ).loc Cert.AdamWSmallRefIdeal.main_arg3) = m ((c.tc : Thread Cert.AdamWSmallRefIdeal.nD Cert.AdamWSmallRefIdeal.τ).loc Cert.AdamWSmallRefIdeal.main_arg3))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_SumEarly [hSumEarly : Cert.SumEarly.Facts] : Prop :=
  ∀ (m : (ℓ : Loc Cert.SumEarly.nD Cert.SumEarly.τ Cert.SumEarly.sig) → Buf (Elt Bits) ℓ) (g : Dev Cert.SumEarly.nD → PrngReg), Pre_SumEarly m →
    θ_run (Cert.SumEarly.defs (F := Bits)) (onTc (τ := Cert.SumEarly.τ) (Cert.SumEarly.main (F := Bits))) ⟨m, fun _ => 0, g⟩ (fun r => (∀ c : Dev Cert.SumEarly.nD,
      r.2.mem ((c.tc : Thread Cert.SumEarly.nD Cert.SumEarly.τ).loc Cert.SumEarly.main_arg0) = m ((c.tc : Thread Cert.SumEarly.nD Cert.SumEarly.τ).loc Cert.SumEarly.main_arg0))
      ∧ r.2.sem = fun _ => 0)

def quiescent_SumEarlyIdeal [hSumEarlyIdeal : Cert.SumEarlyIdeal.Facts] : Prop :=
  ∀ (m : (ℓ : Loc Cert.SumEarlyIdeal.nD Cert.SumEarlyIdeal.τ Cert.SumEarlyIdeal.sig) → Buf (Elt Ideal) ℓ) (g : Dev Cert.SumEarlyIdeal.nD → PrngReg), Pre_SumEarlyIdeal m →
    θ_run (Cert.SumEarlyIdeal.defs (F := Ideal)) (onTc (τ := Cert.SumEarlyIdeal.τ) (Cert.SumEarlyIdeal.main (F := Ideal))) ⟨m, fun _ => 0, g⟩ (fun r => (∀ c : Dev Cert.SumEarlyIdeal.nD,
      r.2.mem ((c.tc : Thread Cert.SumEarlyIdeal.nD Cert.SumEarlyIdeal.τ).loc Cert.SumEarlyIdeal.main_arg0) = m ((c.tc : Thread Cert.SumEarlyIdeal.nD Cert.SumEarlyIdeal.τ).loc Cert.SumEarlyIdeal.main_arg0))
      ∧ r.2.sem = fun _ => 0)

def quiescent_SumEarlyRefIdeal [hSumEarlyRefIdeal : Cert.SumEarlyRefIdeal.Facts] : Prop :=
  ∀ (m : (ℓ : Loc Cert.SumEarlyRefIdeal.nD Cert.SumEarlyRefIdeal.τ Cert.SumEarlyRefIdeal.sig) → Buf (Elt Ideal) ℓ) (g : Dev Cert.SumEarlyRefIdeal.nD → PrngReg), Pre_SumEarlyRefIdeal m →
    θ_run (Cert.SumEarlyRefIdeal.defs (F := Ideal)) (onTc (τ := Cert.SumEarlyRefIdeal.τ) (Cert.SumEarlyRefIdeal.main (F := Ideal))) ⟨m, fun _ => 0, g⟩ (fun r => (∀ c : Dev Cert.SumEarlyRefIdeal.nD,
      r.2.mem ((c.tc : Thread Cert.SumEarlyRefIdeal.nD Cert.SumEarlyRefIdeal.τ).loc Cert.SumEarlyRefIdeal.main_arg0) = m ((c.tc : Thread Cert.SumEarlyRefIdeal.nD Cert.SumEarlyRefIdeal.τ).loc Cert.SumEarlyRefIdeal.main_arg0))
      ∧ r.2.sem = fun _ => 0)

def quiescent_SumLate [hSumLate : Cert.SumLate.Facts] : Prop :=
  ∀ (m : (ℓ : Loc Cert.SumLate.nD Cert.SumLate.τ Cert.SumLate.sig) → Buf (Elt Bits) ℓ) (g : Dev Cert.SumLate.nD → PrngReg), Pre_SumLate m →
    θ_run (Cert.SumLate.defs (F := Bits)) (onTc (τ := Cert.SumLate.τ) (Cert.SumLate.main (F := Bits))) ⟨m, fun _ => 0, g⟩ (fun r => (∀ c : Dev Cert.SumLate.nD,
      r.2.mem ((c.tc : Thread Cert.SumLate.nD Cert.SumLate.τ).loc Cert.SumLate.main_arg0) = m ((c.tc : Thread Cert.SumLate.nD Cert.SumLate.τ).loc Cert.SumLate.main_arg0))
      ∧ r.2.sem = fun _ => 0)

def quiescent_SumLateIdeal [hSumLateIdeal : Cert.SumLateIdeal.Facts] : Prop :=
  ∀ (m : (ℓ : Loc Cert.SumLateIdeal.nD Cert.SumLateIdeal.τ Cert.SumLateIdeal.sig) → Buf (Elt Ideal) ℓ) (g : Dev Cert.SumLateIdeal.nD → PrngReg), Pre_SumLateIdeal m →
    θ_run (Cert.SumLateIdeal.defs (F := Ideal)) (onTc (τ := Cert.SumLateIdeal.τ) (Cert.SumLateIdeal.main (F := Ideal))) ⟨m, fun _ => 0, g⟩ (fun r => (∀ c : Dev Cert.SumLateIdeal.nD,
      r.2.mem ((c.tc : Thread Cert.SumLateIdeal.nD Cert.SumLateIdeal.τ).loc Cert.SumLateIdeal.main_arg0) = m ((c.tc : Thread Cert.SumLateIdeal.nD Cert.SumLateIdeal.τ).loc Cert.SumLateIdeal.main_arg0))
      ∧ r.2.sem = fun _ => 0)

def quiescent_SumLateRefIdeal [hSumLateRefIdeal : Cert.SumLateRefIdeal.Facts] : Prop :=
  ∀ (m : (ℓ : Loc Cert.SumLateRefIdeal.nD Cert.SumLateRefIdeal.τ Cert.SumLateRefIdeal.sig) → Buf (Elt Ideal) ℓ) (g : Dev Cert.SumLateRefIdeal.nD → PrngReg), Pre_SumLateRefIdeal m →
    θ_run (Cert.SumLateRefIdeal.defs (F := Ideal)) (onTc (τ := Cert.SumLateRefIdeal.τ) (Cert.SumLateRefIdeal.main (F := Ideal))) ⟨m, fun _ => 0, g⟩ (fun r => (∀ c : Dev Cert.SumLateRefIdeal.nD,
      r.2.mem ((c.tc : Thread Cert.SumLateRefIdeal.nD Cert.SumLateRefIdeal.τ).loc Cert.SumLateRefIdeal.main_arg0) = m ((c.tc : Thread Cert.SumLateRefIdeal.nD Cert.SumLateRefIdeal.τ).loc Cert.SumLateRefIdeal.main_arg0))
      ∧ r.2.sem = fun _ => 0)

def quiescent_AdamWLruIn [hAdamWLruIn : Cert.AdamWLruIn.Facts] [hPre_on_mesh_2048_512 : Cert.Pre_on_mesh_2048_512.Facts] : Prop :=
  ∀ (m : (ℓ : Loc Cert.AdamWLruIn.nD Cert.AdamWLruIn.τ Cert.AdamWLruIn.sig) → Buf (Elt Bits) ℓ) (g : Dev Cert.AdamWLruIn.nD → PrngReg), Pre_AdamWLruIn m →
    θ_run (Cert.AdamWLruIn.defs (F := Bits)) (onTc (τ := Cert.AdamWLruIn.τ) (Cert.AdamWLruIn.main (F := Bits))) ⟨m, fun _ => 0, g⟩ (fun r => (∀ c : Dev Cert.AdamWLruIn.nD,
      r.2.mem ((c.tc : Thread Cert.AdamWLruIn.nD Cert.AdamWLruIn.τ).loc Cert.AdamWLruIn.main_arg0) = m ((c.tc : Thread Cert.AdamWLruIn.nD Cert.AdamWLruIn.τ).loc Cert.AdamWLruIn.main_arg0)
      ∧ r.2.mem ((c.tc : Thread Cert.AdamWLruIn.nD Cert.AdamWLruIn.τ).loc Cert.AdamWLruIn.main_arg1) = m ((c.tc : Thread Cert.AdamWLruIn.nD Cert.AdamWLruIn.τ).loc Cert.AdamWLruIn.main_arg1)
      ∧ r.2.mem ((c.tc : Thread Cert.AdamWLruIn.nD Cert.AdamWLruIn.τ).loc Cert.AdamWLruIn.main_arg2) = m ((c.tc : Thread Cert.AdamWLruIn.nD Cert.AdamWLruIn.τ).loc Cert.AdamWLruIn.main_arg2)
      ∧ r.2.mem ((c.tc : Thread Cert.AdamWLruIn.nD Cert.AdamWLruIn.τ).loc Cert.AdamWLruIn.main_arg3) = m ((c.tc : Thread Cert.AdamWLruIn.nD Cert.AdamWLruIn.τ).loc Cert.AdamWLruIn.main_arg3)
      ∧ r.2.mem ((c.tc : Thread Cert.AdamWLruIn.nD Cert.AdamWLruIn.τ).loc Cert.AdamWLruIn.main_arg4) = m ((c.tc : Thread Cert.AdamWLruIn.nD Cert.AdamWLruIn.τ).loc Cert.AdamWLruIn.main_arg4)
      ∧ r.2.mem ((c.tc : Thread Cert.AdamWLruIn.nD Cert.AdamWLruIn.τ).loc Cert.AdamWLruIn.main_arg5) = m ((c.tc : Thread Cert.AdamWLruIn.nD Cert.AdamWLruIn.τ).loc Cert.AdamWLruIn.main_arg5))
      ∧ r.2.sem = fun _ => 0)

def quiescent_AdamWLruInIdeal [hAdamWLruInIdeal : Cert.AdamWLruInIdeal.Facts] [hPre_on_mesh_2048_512 : Cert.Pre_on_mesh_2048_512.Facts] : Prop :=
  ∀ (m : (ℓ : Loc Cert.AdamWLruInIdeal.nD Cert.AdamWLruInIdeal.τ Cert.AdamWLruInIdeal.sig) → Buf (Elt Ideal) ℓ) (g : Dev Cert.AdamWLruInIdeal.nD → PrngReg), Pre_AdamWLruInIdeal m →
    θ_run (Cert.AdamWLruInIdeal.defs (F := Ideal)) (onTc (τ := Cert.AdamWLruInIdeal.τ) (Cert.AdamWLruInIdeal.main (F := Ideal))) ⟨m, fun _ => 0, g⟩ (fun r => (∀ c : Dev Cert.AdamWLruInIdeal.nD,
      r.2.mem ((c.tc : Thread Cert.AdamWLruInIdeal.nD Cert.AdamWLruInIdeal.τ).loc Cert.AdamWLruInIdeal.main_arg0) = m ((c.tc : Thread Cert.AdamWLruInIdeal.nD Cert.AdamWLruInIdeal.τ).loc Cert.AdamWLruInIdeal.main_arg0)
      ∧ r.2.mem ((c.tc : Thread Cert.AdamWLruInIdeal.nD Cert.AdamWLruInIdeal.τ).loc Cert.AdamWLruInIdeal.main_arg1) = m ((c.tc : Thread Cert.AdamWLruInIdeal.nD Cert.AdamWLruInIdeal.τ).loc Cert.AdamWLruInIdeal.main_arg1)
      ∧ r.2.mem ((c.tc : Thread Cert.AdamWLruInIdeal.nD Cert.AdamWLruInIdeal.τ).loc Cert.AdamWLruInIdeal.main_arg2) = m ((c.tc : Thread Cert.AdamWLruInIdeal.nD Cert.AdamWLruInIdeal.τ).loc Cert.AdamWLruInIdeal.main_arg2)
      ∧ r.2.mem ((c.tc : Thread Cert.AdamWLruInIdeal.nD Cert.AdamWLruInIdeal.τ).loc Cert.AdamWLruInIdeal.main_arg3) = m ((c.tc : Thread Cert.AdamWLruInIdeal.nD Cert.AdamWLruInIdeal.τ).loc Cert.AdamWLruInIdeal.main_arg3)
      ∧ r.2.mem ((c.tc : Thread Cert.AdamWLruInIdeal.nD Cert.AdamWLruInIdeal.τ).loc Cert.AdamWLruInIdeal.main_arg4) = m ((c.tc : Thread Cert.AdamWLruInIdeal.nD Cert.AdamWLruInIdeal.τ).loc Cert.AdamWLruInIdeal.main_arg4)
      ∧ r.2.mem ((c.tc : Thread Cert.AdamWLruInIdeal.nD Cert.AdamWLruInIdeal.τ).loc Cert.AdamWLruInIdeal.main_arg5) = m ((c.tc : Thread Cert.AdamWLruInIdeal.nD Cert.AdamWLruInIdeal.τ).loc Cert.AdamWLruInIdeal.main_arg5))
      ∧ r.2.sem = fun _ => 0)

def quiescent_AdamWLruInRefIdeal [hAdamWLruInRefIdeal : Cert.AdamWLruInRefIdeal.Facts] : Prop :=
  ∀ (m : (ℓ : Loc Cert.AdamWLruInRefIdeal.nD Cert.AdamWLruInRefIdeal.τ Cert.AdamWLruInRefIdeal.sig) → Buf (Elt Ideal) ℓ) (g : Dev Cert.AdamWLruInRefIdeal.nD → PrngReg), Pre_AdamWLruInRefIdeal m →
    θ_run (Cert.AdamWLruInRefIdeal.defs (F := Ideal)) (onTc (τ := Cert.AdamWLruInRefIdeal.τ) (Cert.AdamWLruInRefIdeal.main (F := Ideal))) ⟨m, fun _ => 0, g⟩ (fun r => (∀ c : Dev Cert.AdamWLruInRefIdeal.nD,
      r.2.mem ((c.tc : Thread Cert.AdamWLruInRefIdeal.nD Cert.AdamWLruInRefIdeal.τ).loc Cert.AdamWLruInRefIdeal.main_arg0) = m ((c.tc : Thread Cert.AdamWLruInRefIdeal.nD Cert.AdamWLruInRefIdeal.τ).loc Cert.AdamWLruInRefIdeal.main_arg0)
      ∧ r.2.mem ((c.tc : Thread Cert.AdamWLruInRefIdeal.nD Cert.AdamWLruInRefIdeal.τ).loc Cert.AdamWLruInRefIdeal.main_arg1) = m ((c.tc : Thread Cert.AdamWLruInRefIdeal.nD Cert.AdamWLruInRefIdeal.τ).loc Cert.AdamWLruInRefIdeal.main_arg1)
      ∧ r.2.mem ((c.tc : Thread Cert.AdamWLruInRefIdeal.nD Cert.AdamWLruInRefIdeal.τ).loc Cert.AdamWLruInRefIdeal.main_arg2) = m ((c.tc : Thread Cert.AdamWLruInRefIdeal.nD Cert.AdamWLruInRefIdeal.τ).loc Cert.AdamWLruInRefIdeal.main_arg2)
      ∧ r.2.mem ((c.tc : Thread Cert.AdamWLruInRefIdeal.nD Cert.AdamWLruInRefIdeal.τ).loc Cert.AdamWLruInRefIdeal.main_arg3) = m ((c.tc : Thread Cert.AdamWLruInRefIdeal.nD Cert.AdamWLruInRefIdeal.τ).loc Cert.AdamWLruInRefIdeal.main_arg3)
      ∧ r.2.mem ((c.tc : Thread Cert.AdamWLruInRefIdeal.nD Cert.AdamWLruInRefIdeal.τ).loc Cert.AdamWLruInRefIdeal.main_arg4) = m ((c.tc : Thread Cert.AdamWLruInRefIdeal.nD Cert.AdamWLruInRefIdeal.τ).loc Cert.AdamWLruInRefIdeal.main_arg4)
      ∧ r.2.mem ((c.tc : Thread Cert.AdamWLruInRefIdeal.nD Cert.AdamWLruInRefIdeal.τ).loc Cert.AdamWLruInRefIdeal.main_arg5) = m ((c.tc : Thread Cert.AdamWLruInRefIdeal.nD Cert.AdamWLruInRefIdeal.τ).loc Cert.AdamWLruInRefIdeal.main_arg5))
      ∧ r.2.sem = fun _ => 0)

def quiescent_AdamWLruInRefIdeal_pre_on_mesh_2048_512 [hAdamWLruInRefIdeal : Cert.AdamWLruInRefIdeal.Facts] [hPre_on_mesh_2048_512 : Cert.Pre_on_mesh_2048_512.Facts] : Prop :=
  ∀ (m : (ℓ : Loc Cert.AdamWLruInRefIdeal.nD Cert.AdamWLruInRefIdeal.τ Cert.AdamWLruInRefIdeal.sig) → Buf (Elt Ideal) ℓ) (g : Dev Cert.AdamWLruInRefIdeal.nD → PrngReg), Pre_AdamWLruInRefIdeal_on_mesh_2048_512 m →
    θ_run (Cert.AdamWLruInRefIdeal.defs (F := Ideal)) (onTc (τ := Cert.AdamWLruInRefIdeal.τ) (Cert.AdamWLruInRefIdeal.main (F := Ideal))) ⟨m, fun _ => 0, g⟩ (fun r => (∀ c : Dev Cert.AdamWLruInRefIdeal.nD,
      r.2.mem ((c.tc : Thread Cert.AdamWLruInRefIdeal.nD Cert.AdamWLruInRefIdeal.τ).loc Cert.AdamWLruInRefIdeal.main_arg0) = m ((c.tc : Thread Cert.AdamWLruInRefIdeal.nD Cert.AdamWLruInRefIdeal.τ).loc Cert.AdamWLruInRefIdeal.main_arg0)
      ∧ r.2.mem ((c.tc : Thread Cert.AdamWLruInRefIdeal.nD Cert.AdamWLruInRefIdeal.τ).loc Cert.AdamWLruInRefIdeal.main_arg1) = m ((c.tc : Thread Cert.AdamWLruInRefIdeal.nD Cert.AdamWLruInRefIdeal.τ).loc Cert.AdamWLruInRefIdeal.main_arg1)
      ∧ r.2.mem ((c.tc : Thread Cert.AdamWLruInRefIdeal.nD Cert.AdamWLruInRefIdeal.τ).loc Cert.AdamWLruInRefIdeal.main_arg2) = m ((c.tc : Thread Cert.AdamWLruInRefIdeal.nD Cert.AdamWLruInRefIdeal.τ).loc Cert.AdamWLruInRefIdeal.main_arg2)
      ∧ r.2.mem ((c.tc : Thread Cert.AdamWLruInRefIdeal.nD Cert.AdamWLruInRefIdeal.τ).loc Cert.AdamWLruInRefIdeal.main_arg3) = m ((c.tc : Thread Cert.AdamWLruInRefIdeal.nD Cert.AdamWLruInRefIdeal.τ).loc Cert.AdamWLruInRefIdeal.main_arg3)
      ∧ r.2.mem ((c.tc : Thread Cert.AdamWLruInRefIdeal.nD Cert.AdamWLruInRefIdeal.τ).loc Cert.AdamWLruInRefIdeal.main_arg4) = m ((c.tc : Thread Cert.AdamWLruInRefIdeal.nD Cert.AdamWLruInRefIdeal.τ).loc Cert.AdamWLruInRefIdeal.main_arg4)
      ∧ r.2.mem ((c.tc : Thread Cert.AdamWLruInRefIdeal.nD Cert.AdamWLruInRefIdeal.τ).loc Cert.AdamWLruInRefIdeal.main_arg5) = m ((c.tc : Thread Cert.AdamWLruInRefIdeal.nD Cert.AdamWLruInRefIdeal.τ).loc Cert.AdamWLruInRefIdeal.main_arg5))
      ∧ r.2.sem = fun _ => 0)

def quiescent_AdamWRetIn [hAdamWRetIn : Cert.AdamWRetIn.Facts] [hPre_on_mesh_2048_1536 : Cert.Pre_on_mesh_2048_1536.Facts] : Prop :=
  ∀ (m : (ℓ : Loc Cert.AdamWRetIn.nD Cert.AdamWRetIn.τ Cert.AdamWRetIn.sig) → Buf (Elt Bits) ℓ) (g : Dev Cert.AdamWRetIn.nD → PrngReg), Pre_AdamWRetIn m →
    θ_run (Cert.AdamWRetIn.defs (F := Bits)) (onTc (τ := Cert.AdamWRetIn.τ) (Cert.AdamWRetIn.main (F := Bits))) ⟨m, fun _ => 0, g⟩ (fun r => (∀ c : Dev Cert.AdamWRetIn.nD,
      r.2.mem ((c.tc : Thread Cert.AdamWRetIn.nD Cert.AdamWRetIn.τ).loc Cert.AdamWRetIn.main_arg0) = m ((c.tc : Thread Cert.AdamWRetIn.nD Cert.AdamWRetIn.τ).loc Cert.AdamWRetIn.main_arg0)
      ∧ r.2.mem ((c.tc : Thread Cert.AdamWRetIn.nD Cert.AdamWRetIn.τ).loc Cert.AdamWRetIn.main_arg1) = m ((c.tc : Thread Cert.AdamWRetIn.nD Cert.AdamWRetIn.τ).loc Cert.AdamWRetIn.main_arg1)
      ∧ r.2.mem ((c.tc : Thread Cert.AdamWRetIn.nD Cert.AdamWRetIn.τ).loc Cert.AdamWRetIn.main_arg2) = m ((c.tc : Thread Cert.AdamWRetIn.nD Cert.AdamWRetIn.τ).loc Cert.AdamWRetIn.main_arg2)
      ∧ r.2.mem ((c.tc : Thread Cert.AdamWRetIn.nD Cert.AdamWRetIn.τ).loc Cert.AdamWRetIn.main_arg3) = m ((c.tc : Thread Cert.AdamWRetIn.nD Cert.AdamWRetIn.τ).loc Cert.AdamWRetIn.main_arg3)
      ∧ r.2.mem ((c.tc : Thread Cert.AdamWRetIn.nD Cert.AdamWRetIn.τ).loc Cert.AdamWRetIn.main_arg4) = m ((c.tc : Thread Cert.AdamWRetIn.nD Cert.AdamWRetIn.τ).loc Cert.AdamWRetIn.main_arg4)
      ∧ r.2.mem ((c.tc : Thread Cert.AdamWRetIn.nD Cert.AdamWRetIn.τ).loc Cert.AdamWRetIn.main_arg5) = m ((c.tc : Thread Cert.AdamWRetIn.nD Cert.AdamWRetIn.τ).loc Cert.AdamWRetIn.main_arg5))
      ∧ r.2.sem = fun _ => 0)

def quiescent_AdamWRetInIdeal [hAdamWRetInIdeal : Cert.AdamWRetInIdeal.Facts] [hPre_on_mesh_2048_1536 : Cert.Pre_on_mesh_2048_1536.Facts] : Prop :=
  ∀ (m : (ℓ : Loc Cert.AdamWRetInIdeal.nD Cert.AdamWRetInIdeal.τ Cert.AdamWRetInIdeal.sig) → Buf (Elt Ideal) ℓ) (g : Dev Cert.AdamWRetInIdeal.nD → PrngReg), Pre_AdamWRetInIdeal m →
    θ_run (Cert.AdamWRetInIdeal.defs (F := Ideal)) (onTc (τ := Cert.AdamWRetInIdeal.τ) (Cert.AdamWRetInIdeal.main (F := Ideal))) ⟨m, fun _ => 0, g⟩ (fun r => (∀ c : Dev Cert.AdamWRetInIdeal.nD,
      r.2.mem ((c.tc : Thread Cert.AdamWRetInIdeal.nD Cert.AdamWRetInIdeal.τ).loc Cert.AdamWRetInIdeal.main_arg0) = m ((c.tc : Thread Cert.AdamWRetInIdeal.nD Cert.AdamWRetInIdeal.τ).loc Cert.AdamWRetInIdeal.main_arg0)
      ∧ r.2.mem ((c.tc : Thread Cert.AdamWRetInIdeal.nD Cert.AdamWRetInIdeal.τ).loc Cert.AdamWRetInIdeal.main_arg1) = m ((c.tc : Thread Cert.AdamWRetInIdeal.nD Cert.AdamWRetInIdeal.τ).loc Cert.AdamWRetInIdeal.main_arg1)
      ∧ r.2.mem ((c.tc : Thread Cert.AdamWRetInIdeal.nD Cert.AdamWRetInIdeal.τ).loc Cert.AdamWRetInIdeal.main_arg2) = m ((c.tc : Thread Cert.AdamWRetInIdeal.nD Cert.AdamWRetInIdeal.τ).loc Cert.AdamWRetInIdeal.main_arg2)
      ∧ r.2.mem ((c.tc : Thread Cert.AdamWRetInIdeal.nD Cert.AdamWRetInIdeal.τ).loc Cert.AdamWRetInIdeal.main_arg3) = m ((c.tc : Thread Cert.AdamWRetInIdeal.nD Cert.AdamWRetInIdeal.τ).loc Cert.AdamWRetInIdeal.main_arg3)
      ∧ r.2.mem ((c.tc : Thread Cert.AdamWRetInIdeal.nD Cert.AdamWRetInIdeal.τ).loc Cert.AdamWRetInIdeal.main_arg4) = m ((c.tc : Thread Cert.AdamWRetInIdeal.nD Cert.AdamWRetInIdeal.τ).loc Cert.AdamWRetInIdeal.main_arg4)
      ∧ r.2.mem ((c.tc : Thread Cert.AdamWRetInIdeal.nD Cert.AdamWRetInIdeal.τ).loc Cert.AdamWRetInIdeal.main_arg5) = m ((c.tc : Thread Cert.AdamWRetInIdeal.nD Cert.AdamWRetInIdeal.τ).loc Cert.AdamWRetInIdeal.main_arg5))
      ∧ r.2.sem = fun _ => 0)

def quiescent_AdamWRetInRefIdeal [hAdamWRetInRefIdeal : Cert.AdamWRetInRefIdeal.Facts] : Prop :=
  ∀ (m : (ℓ : Loc Cert.AdamWRetInRefIdeal.nD Cert.AdamWRetInRefIdeal.τ Cert.AdamWRetInRefIdeal.sig) → Buf (Elt Ideal) ℓ) (g : Dev Cert.AdamWRetInRefIdeal.nD → PrngReg), Pre_AdamWRetInRefIdeal m →
    θ_run (Cert.AdamWRetInRefIdeal.defs (F := Ideal)) (onTc (τ := Cert.AdamWRetInRefIdeal.τ) (Cert.AdamWRetInRefIdeal.main (F := Ideal))) ⟨m, fun _ => 0, g⟩ (fun r => (∀ c : Dev Cert.AdamWRetInRefIdeal.nD,
      r.2.mem ((c.tc : Thread Cert.AdamWRetInRefIdeal.nD Cert.AdamWRetInRefIdeal.τ).loc Cert.AdamWRetInRefIdeal.main_arg0) = m ((c.tc : Thread Cert.AdamWRetInRefIdeal.nD Cert.AdamWRetInRefIdeal.τ).loc Cert.AdamWRetInRefIdeal.main_arg0)
      ∧ r.2.mem ((c.tc : Thread Cert.AdamWRetInRefIdeal.nD Cert.AdamWRetInRefIdeal.τ).loc Cert.AdamWRetInRefIdeal.main_arg1) = m ((c.tc : Thread Cert.AdamWRetInRefIdeal.nD Cert.AdamWRetInRefIdeal.τ).loc Cert.AdamWRetInRefIdeal.main_arg1)
      ∧ r.2.mem ((c.tc : Thread Cert.AdamWRetInRefIdeal.nD Cert.AdamWRetInRefIdeal.τ).loc Cert.AdamWRetInRefIdeal.main_arg2) = m ((c.tc : Thread Cert.AdamWRetInRefIdeal.nD Cert.AdamWRetInRefIdeal.τ).loc Cert.AdamWRetInRefIdeal.main_arg2)
      ∧ r.2.mem ((c.tc : Thread Cert.AdamWRetInRefIdeal.nD Cert.AdamWRetInRefIdeal.τ).loc Cert.AdamWRetInRefIdeal.main_arg3) = m ((c.tc : Thread Cert.AdamWRetInRefIdeal.nD Cert.AdamWRetInRefIdeal.τ).loc Cert.AdamWRetInRefIdeal.main_arg3)
      ∧ r.2.mem ((c.tc : Thread Cert.AdamWRetInRefIdeal.nD Cert.AdamWRetInRefIdeal.τ).loc Cert.AdamWRetInRefIdeal.main_arg4) = m ((c.tc : Thread Cert.AdamWRetInRefIdeal.nD Cert.AdamWRetInRefIdeal.τ).loc Cert.AdamWRetInRefIdeal.main_arg4)
      ∧ r.2.mem ((c.tc : Thread Cert.AdamWRetInRefIdeal.nD Cert.AdamWRetInRefIdeal.τ).loc Cert.AdamWRetInRefIdeal.main_arg5) = m ((c.tc : Thread Cert.AdamWRetInRefIdeal.nD Cert.AdamWRetInRefIdeal.τ).loc Cert.AdamWRetInRefIdeal.main_arg5))
      ∧ r.2.sem = fun _ => 0)

def quiescent_AdamWRetInRefIdeal_pre_on_mesh_2048_1536 [hAdamWRetInRefIdeal : Cert.AdamWRetInRefIdeal.Facts] [hPre_on_mesh_2048_1536 : Cert.Pre_on_mesh_2048_1536.Facts] : Prop :=
  ∀ (m : (ℓ : Loc Cert.AdamWRetInRefIdeal.nD Cert.AdamWRetInRefIdeal.τ Cert.AdamWRetInRefIdeal.sig) → Buf (Elt Ideal) ℓ) (g : Dev Cert.AdamWRetInRefIdeal.nD → PrngReg), Pre_AdamWRetInRefIdeal_on_mesh_2048_1536 m →
    θ_run (Cert.AdamWRetInRefIdeal.defs (F := Ideal)) (onTc (τ := Cert.AdamWRetInRefIdeal.τ) (Cert.AdamWRetInRefIdeal.main (F := Ideal))) ⟨m, fun _ => 0, g⟩ (fun r => (∀ c : Dev Cert.AdamWRetInRefIdeal.nD,
      r.2.mem ((c.tc : Thread Cert.AdamWRetInRefIdeal.nD Cert.AdamWRetInRefIdeal.τ).loc Cert.AdamWRetInRefIdeal.main_arg0) = m ((c.tc : Thread Cert.AdamWRetInRefIdeal.nD Cert.AdamWRetInRefIdeal.τ).loc Cert.AdamWRetInRefIdeal.main_arg0)
      ∧ r.2.mem ((c.tc : Thread Cert.AdamWRetInRefIdeal.nD Cert.AdamWRetInRefIdeal.τ).loc Cert.AdamWRetInRefIdeal.main_arg1) = m ((c.tc : Thread Cert.AdamWRetInRefIdeal.nD Cert.AdamWRetInRefIdeal.τ).loc Cert.AdamWRetInRefIdeal.main_arg1)
      ∧ r.2.mem ((c.tc : Thread Cert.AdamWRetInRefIdeal.nD Cert.AdamWRetInRefIdeal.τ).loc Cert.AdamWRetInRefIdeal.main_arg2) = m ((c.tc : Thread Cert.AdamWRetInRefIdeal.nD Cert.AdamWRetInRefIdeal.τ).loc Cert.AdamWRetInRefIdeal.main_arg2)
      ∧ r.2.mem ((c.tc : Thread Cert.AdamWRetInRefIdeal.nD Cert.AdamWRetInRefIdeal.τ).loc Cert.AdamWRetInRefIdeal.main_arg3) = m ((c.tc : Thread Cert.AdamWRetInRefIdeal.nD Cert.AdamWRetInRefIdeal.τ).loc Cert.AdamWRetInRefIdeal.main_arg3)
      ∧ r.2.mem ((c.tc : Thread Cert.AdamWRetInRefIdeal.nD Cert.AdamWRetInRefIdeal.τ).loc Cert.AdamWRetInRefIdeal.main_arg4) = m ((c.tc : Thread Cert.AdamWRetInRefIdeal.nD Cert.AdamWRetInRefIdeal.τ).loc Cert.AdamWRetInRefIdeal.main_arg4)
      ∧ r.2.mem ((c.tc : Thread Cert.AdamWRetInRefIdeal.nD Cert.AdamWRetInRefIdeal.τ).loc Cert.AdamWRetInRefIdeal.main_arg5) = m ((c.tc : Thread Cert.AdamWRetInRefIdeal.nD Cert.AdamWRetInRefIdeal.τ).loc Cert.AdamWRetInRefIdeal.main_arg5))
      ∧ r.2.sem = fun _ => 0)

def quiescent_AdamWGdnIn [hAdamWGdnIn : Cert.AdamWGdnIn.Facts] [hPre_on_mesh_2048_1028 : Cert.Pre_on_mesh_2048_1028.Facts] : Prop :=
  ∀ (m : (ℓ : Loc Cert.AdamWGdnIn.nD Cert.AdamWGdnIn.τ Cert.AdamWGdnIn.sig) → Buf (Elt Bits) ℓ) (g : Dev Cert.AdamWGdnIn.nD → PrngReg), Pre_AdamWGdnIn m →
    θ_run (Cert.AdamWGdnIn.defs (F := Bits)) (onTc (τ := Cert.AdamWGdnIn.τ) (Cert.AdamWGdnIn.main (F := Bits))) ⟨m, fun _ => 0, g⟩ (fun r => (∀ c : Dev Cert.AdamWGdnIn.nD,
      r.2.mem ((c.tc : Thread Cert.AdamWGdnIn.nD Cert.AdamWGdnIn.τ).loc Cert.AdamWGdnIn.main_arg0) = m ((c.tc : Thread Cert.AdamWGdnIn.nD Cert.AdamWGdnIn.τ).loc Cert.AdamWGdnIn.main_arg0)
      ∧ r.2.mem ((c.tc : Thread Cert.AdamWGdnIn.nD Cert.AdamWGdnIn.τ).loc Cert.AdamWGdnIn.main_arg1) = m ((c.tc : Thread Cert.AdamWGdnIn.nD Cert.AdamWGdnIn.τ).loc Cert.AdamWGdnIn.main_arg1)
      ∧ r.2.mem ((c.tc : Thread Cert.AdamWGdnIn.nD Cert.AdamWGdnIn.τ).loc Cert.AdamWGdnIn.main_arg2) = m ((c.tc : Thread Cert.AdamWGdnIn.nD Cert.AdamWGdnIn.τ).loc Cert.AdamWGdnIn.main_arg2)
      ∧ r.2.mem ((c.tc : Thread Cert.AdamWGdnIn.nD Cert.AdamWGdnIn.τ).loc Cert.AdamWGdnIn.main_arg3) = m ((c.tc : Thread Cert.AdamWGdnIn.nD Cert.AdamWGdnIn.τ).loc Cert.AdamWGdnIn.main_arg3)
      ∧ r.2.mem ((c.tc : Thread Cert.AdamWGdnIn.nD Cert.AdamWGdnIn.τ).loc Cert.AdamWGdnIn.main_arg4) = m ((c.tc : Thread Cert.AdamWGdnIn.nD Cert.AdamWGdnIn.τ).loc Cert.AdamWGdnIn.main_arg4)
      ∧ r.2.mem ((c.tc : Thread Cert.AdamWGdnIn.nD Cert.AdamWGdnIn.τ).loc Cert.AdamWGdnIn.main_arg5) = m ((c.tc : Thread Cert.AdamWGdnIn.nD Cert.AdamWGdnIn.τ).loc Cert.AdamWGdnIn.main_arg5))
      ∧ r.2.sem = fun _ => 0)

def quiescent_AdamWGdnInIdeal [hAdamWGdnInIdeal : Cert.AdamWGdnInIdeal.Facts] [hPre_on_mesh_2048_1028 : Cert.Pre_on_mesh_2048_1028.Facts] : Prop :=
  ∀ (m : (ℓ : Loc Cert.AdamWGdnInIdeal.nD Cert.AdamWGdnInIdeal.τ Cert.AdamWGdnInIdeal.sig) → Buf (Elt Ideal) ℓ) (g : Dev Cert.AdamWGdnInIdeal.nD → PrngReg), Pre_AdamWGdnInIdeal m →
    θ_run (Cert.AdamWGdnInIdeal.defs (F := Ideal)) (onTc (τ := Cert.AdamWGdnInIdeal.τ) (Cert.AdamWGdnInIdeal.main (F := Ideal))) ⟨m, fun _ => 0, g⟩ (fun r => (∀ c : Dev Cert.AdamWGdnInIdeal.nD,
      r.2.mem ((c.tc : Thread Cert.AdamWGdnInIdeal.nD Cert.AdamWGdnInIdeal.τ).loc Cert.AdamWGdnInIdeal.main_arg0) = m ((c.tc : Thread Cert.AdamWGdnInIdeal.nD Cert.AdamWGdnInIdeal.τ).loc Cert.AdamWGdnInIdeal.main_arg0)
      ∧ r.2.mem ((c.tc : Thread Cert.AdamWGdnInIdeal.nD Cert.AdamWGdnInIdeal.τ).loc Cert.AdamWGdnInIdeal.main_arg1) = m ((c.tc : Thread Cert.AdamWGdnInIdeal.nD Cert.AdamWGdnInIdeal.τ).loc Cert.AdamWGdnInIdeal.main_arg1)
      ∧ r.2.mem ((c.tc : Thread Cert.AdamWGdnInIdeal.nD Cert.AdamWGdnInIdeal.τ).loc Cert.AdamWGdnInIdeal.main_arg2) = m ((c.tc : Thread Cert.AdamWGdnInIdeal.nD Cert.AdamWGdnInIdeal.τ).loc Cert.AdamWGdnInIdeal.main_arg2)
      ∧ r.2.mem ((c.tc : Thread Cert.AdamWGdnInIdeal.nD Cert.AdamWGdnInIdeal.τ).loc Cert.AdamWGdnInIdeal.main_arg3) = m ((c.tc : Thread Cert.AdamWGdnInIdeal.nD Cert.AdamWGdnInIdeal.τ).loc Cert.AdamWGdnInIdeal.main_arg3)
      ∧ r.2.mem ((c.tc : Thread Cert.AdamWGdnInIdeal.nD Cert.AdamWGdnInIdeal.τ).loc Cert.AdamWGdnInIdeal.main_arg4) = m ((c.tc : Thread Cert.AdamWGdnInIdeal.nD Cert.AdamWGdnInIdeal.τ).loc Cert.AdamWGdnInIdeal.main_arg4)
      ∧ r.2.mem ((c.tc : Thread Cert.AdamWGdnInIdeal.nD Cert.AdamWGdnInIdeal.τ).loc Cert.AdamWGdnInIdeal.main_arg5) = m ((c.tc : Thread Cert.AdamWGdnInIdeal.nD Cert.AdamWGdnInIdeal.τ).loc Cert.AdamWGdnInIdeal.main_arg5))
      ∧ r.2.sem = fun _ => 0)

def quiescent_AdamWGdnInRefIdeal [hAdamWGdnInRefIdeal : Cert.AdamWGdnInRefIdeal.Facts] : Prop :=
  ∀ (m : (ℓ : Loc Cert.AdamWGdnInRefIdeal.nD Cert.AdamWGdnInRefIdeal.τ Cert.AdamWGdnInRefIdeal.sig) → Buf (Elt Ideal) ℓ) (g : Dev Cert.AdamWGdnInRefIdeal.nD → PrngReg), Pre_AdamWGdnInRefIdeal m →
    θ_run (Cert.AdamWGdnInRefIdeal.defs (F := Ideal)) (onTc (τ := Cert.AdamWGdnInRefIdeal.τ) (Cert.AdamWGdnInRefIdeal.main (F := Ideal))) ⟨m, fun _ => 0, g⟩ (fun r => (∀ c : Dev Cert.AdamWGdnInRefIdeal.nD,
      r.2.mem ((c.tc : Thread Cert.AdamWGdnInRefIdeal.nD Cert.AdamWGdnInRefIdeal.τ).loc Cert.AdamWGdnInRefIdeal.main_arg0) = m ((c.tc : Thread Cert.AdamWGdnInRefIdeal.nD Cert.AdamWGdnInRefIdeal.τ).loc Cert.AdamWGdnInRefIdeal.main_arg0)
      ∧ r.2.mem ((c.tc : Thread Cert.AdamWGdnInRefIdeal.nD Cert.AdamWGdnInRefIdeal.τ).loc Cert.AdamWGdnInRefIdeal.main_arg1) = m ((c.tc : Thread Cert.AdamWGdnInRefIdeal.nD Cert.AdamWGdnInRefIdeal.τ).loc Cert.AdamWGdnInRefIdeal.main_arg1)
      ∧ r.2.mem ((c.tc : Thread Cert.AdamWGdnInRefIdeal.nD Cert.AdamWGdnInRefIdeal.τ).loc Cert.AdamWGdnInRefIdeal.main_arg2) = m ((c.tc : Thread Cert.AdamWGdnInRefIdeal.nD Cert.AdamWGdnInRefIdeal.τ).loc Cert.AdamWGdnInRefIdeal.main_arg2)
      ∧ r.2.mem ((c.tc : Thread Cert.AdamWGdnInRefIdeal.nD Cert.AdamWGdnInRefIdeal.τ).loc Cert.AdamWGdnInRefIdeal.main_arg3) = m ((c.tc : Thread Cert.AdamWGdnInRefIdeal.nD Cert.AdamWGdnInRefIdeal.τ).loc Cert.AdamWGdnInRefIdeal.main_arg3)
      ∧ r.2.mem ((c.tc : Thread Cert.AdamWGdnInRefIdeal.nD Cert.AdamWGdnInRefIdeal.τ).loc Cert.AdamWGdnInRefIdeal.main_arg4) = m ((c.tc : Thread Cert.AdamWGdnInRefIdeal.nD Cert.AdamWGdnInRefIdeal.τ).loc Cert.AdamWGdnInRefIdeal.main_arg4)
      ∧ r.2.mem ((c.tc : Thread Cert.AdamWGdnInRefIdeal.nD Cert.AdamWGdnInRefIdeal.τ).loc Cert.AdamWGdnInRefIdeal.main_arg5) = m ((c.tc : Thread Cert.AdamWGdnInRefIdeal.nD Cert.AdamWGdnInRefIdeal.τ).loc Cert.AdamWGdnInRefIdeal.main_arg5))
      ∧ r.2.sem = fun _ => 0)

def quiescent_AdamWGdnInRefIdeal_pre_on_mesh_2048_1028 [hAdamWGdnInRefIdeal : Cert.AdamWGdnInRefIdeal.Facts] [hPre_on_mesh_2048_1028 : Cert.Pre_on_mesh_2048_1028.Facts] : Prop :=
  ∀ (m : (ℓ : Loc Cert.AdamWGdnInRefIdeal.nD Cert.AdamWGdnInRefIdeal.τ Cert.AdamWGdnInRefIdeal.sig) → Buf (Elt Ideal) ℓ) (g : Dev Cert.AdamWGdnInRefIdeal.nD → PrngReg), Pre_AdamWGdnInRefIdeal_on_mesh_2048_1028 m →
    θ_run (Cert.AdamWGdnInRefIdeal.defs (F := Ideal)) (onTc (τ := Cert.AdamWGdnInRefIdeal.τ) (Cert.AdamWGdnInRefIdeal.main (F := Ideal))) ⟨m, fun _ => 0, g⟩ (fun r => (∀ c : Dev Cert.AdamWGdnInRefIdeal.nD,
      r.2.mem ((c.tc : Thread Cert.AdamWGdnInRefIdeal.nD Cert.AdamWGdnInRefIdeal.τ).loc Cert.AdamWGdnInRefIdeal.main_arg0) = m ((c.tc : Thread Cert.AdamWGdnInRefIdeal.nD Cert.AdamWGdnInRefIdeal.τ).loc Cert.AdamWGdnInRefIdeal.main_arg0)
      ∧ r.2.mem ((c.tc : Thread Cert.AdamWGdnInRefIdeal.nD Cert.AdamWGdnInRefIdeal.τ).loc Cert.AdamWGdnInRefIdeal.main_arg1) = m ((c.tc : Thread Cert.AdamWGdnInRefIdeal.nD Cert.AdamWGdnInRefIdeal.τ).loc Cert.AdamWGdnInRefIdeal.main_arg1)
      ∧ r.2.mem ((c.tc : Thread Cert.AdamWGdnInRefIdeal.nD Cert.AdamWGdnInRefIdeal.τ).loc Cert.AdamWGdnInRefIdeal.main_arg2) = m ((c.tc : Thread Cert.AdamWGdnInRefIdeal.nD Cert.AdamWGdnInRefIdeal.τ).loc Cert.AdamWGdnInRefIdeal.main_arg2)
      ∧ r.2.mem ((c.tc : Thread Cert.AdamWGdnInRefIdeal.nD Cert.AdamWGdnInRefIdeal.τ).loc Cert.AdamWGdnInRefIdeal.main_arg3) = m ((c.tc : Thread Cert.AdamWGdnInRefIdeal.nD Cert.AdamWGdnInRefIdeal.τ).loc Cert.AdamWGdnInRefIdeal.main_arg3)
      ∧ r.2.mem ((c.tc : Thread Cert.AdamWGdnInRefIdeal.nD Cert.AdamWGdnInRefIdeal.τ).loc Cert.AdamWGdnInRefIdeal.main_arg4) = m ((c.tc : Thread Cert.AdamWGdnInRefIdeal.nD Cert.AdamWGdnInRefIdeal.τ).loc Cert.AdamWGdnInRefIdeal.main_arg4)
      ∧ r.2.mem ((c.tc : Thread Cert.AdamWGdnInRefIdeal.nD Cert.AdamWGdnInRefIdeal.τ).loc Cert.AdamWGdnInRefIdeal.main_arg5) = m ((c.tc : Thread Cert.AdamWGdnInRefIdeal.nD Cert.AdamWGdnInRefIdeal.τ).loc Cert.AdamWGdnInRefIdeal.main_arg5))
      ∧ r.2.sem = fun _ => 0)

def quiescent_AdamWGlaIn [hAdamWGlaIn : Cert.AdamWGlaIn.Facts] [hPre_on_mesh_2048_770 : Cert.Pre_on_mesh_2048_770.Facts] : Prop :=
  ∀ (m : (ℓ : Loc Cert.AdamWGlaIn.nD Cert.AdamWGlaIn.τ Cert.AdamWGlaIn.sig) → Buf (Elt Bits) ℓ) (g : Dev Cert.AdamWGlaIn.nD → PrngReg), Pre_AdamWGlaIn m →
    θ_run (Cert.AdamWGlaIn.defs (F := Bits)) (onTc (τ := Cert.AdamWGlaIn.τ) (Cert.AdamWGlaIn.main (F := Bits))) ⟨m, fun _ => 0, g⟩ (fun r => (∀ c : Dev Cert.AdamWGlaIn.nD,
      r.2.mem ((c.tc : Thread Cert.AdamWGlaIn.nD Cert.AdamWGlaIn.τ).loc Cert.AdamWGlaIn.main_arg0) = m ((c.tc : Thread Cert.AdamWGlaIn.nD Cert.AdamWGlaIn.τ).loc Cert.AdamWGlaIn.main_arg0)
      ∧ r.2.mem ((c.tc : Thread Cert.AdamWGlaIn.nD Cert.AdamWGlaIn.τ).loc Cert.AdamWGlaIn.main_arg1) = m ((c.tc : Thread Cert.AdamWGlaIn.nD Cert.AdamWGlaIn.τ).loc Cert.AdamWGlaIn.main_arg1)
      ∧ r.2.mem ((c.tc : Thread Cert.AdamWGlaIn.nD Cert.AdamWGlaIn.τ).loc Cert.AdamWGlaIn.main_arg2) = m ((c.tc : Thread Cert.AdamWGlaIn.nD Cert.AdamWGlaIn.τ).loc Cert.AdamWGlaIn.main_arg2)
      ∧ r.2.mem ((c.tc : Thread Cert.AdamWGlaIn.nD Cert.AdamWGlaIn.τ).loc Cert.AdamWGlaIn.main_arg3) = m ((c.tc : Thread Cert.AdamWGlaIn.nD Cert.AdamWGlaIn.τ).loc Cert.AdamWGlaIn.main_arg3)
      ∧ r.2.mem ((c.tc : Thread Cert.AdamWGlaIn.nD Cert.AdamWGlaIn.τ).loc Cert.AdamWGlaIn.main_arg4) = m ((c.tc : Thread Cert.AdamWGlaIn.nD Cert.AdamWGlaIn.τ).loc Cert.AdamWGlaIn.main_arg4)
      ∧ r.2.mem ((c.tc : Thread Cert.AdamWGlaIn.nD Cert.AdamWGlaIn.τ).loc Cert.AdamWGlaIn.main_arg5) = m ((c.tc : Thread Cert.AdamWGlaIn.nD Cert.AdamWGlaIn.τ).loc Cert.AdamWGlaIn.main_arg5))
      ∧ r.2.sem = fun _ => 0)

def quiescent_AdamWGlaInIdeal [hAdamWGlaInIdeal : Cert.AdamWGlaInIdeal.Facts] [hPre_on_mesh_2048_770 : Cert.Pre_on_mesh_2048_770.Facts] : Prop :=
  ∀ (m : (ℓ : Loc Cert.AdamWGlaInIdeal.nD Cert.AdamWGlaInIdeal.τ Cert.AdamWGlaInIdeal.sig) → Buf (Elt Ideal) ℓ) (g : Dev Cert.AdamWGlaInIdeal.nD → PrngReg), Pre_AdamWGlaInIdeal m →
    θ_run (Cert.AdamWGlaInIdeal.defs (F := Ideal)) (onTc (τ := Cert.AdamWGlaInIdeal.τ) (Cert.AdamWGlaInIdeal.main (F := Ideal))) ⟨m, fun _ => 0, g⟩ (fun r => (∀ c : Dev Cert.AdamWGlaInIdeal.nD,
      r.2.mem ((c.tc : Thread Cert.AdamWGlaInIdeal.nD Cert.AdamWGlaInIdeal.τ).loc Cert.AdamWGlaInIdeal.main_arg0) = m ((c.tc : Thread Cert.AdamWGlaInIdeal.nD Cert.AdamWGlaInIdeal.τ).loc Cert.AdamWGlaInIdeal.main_arg0)
      ∧ r.2.mem ((c.tc : Thread Cert.AdamWGlaInIdeal.nD Cert.AdamWGlaInIdeal.τ).loc Cert.AdamWGlaInIdeal.main_arg1) = m ((c.tc : Thread Cert.AdamWGlaInIdeal.nD Cert.AdamWGlaInIdeal.τ).loc Cert.AdamWGlaInIdeal.main_arg1)
      ∧ r.2.mem ((c.tc : Thread Cert.AdamWGlaInIdeal.nD Cert.AdamWGlaInIdeal.τ).loc Cert.AdamWGlaInIdeal.main_arg2) = m ((c.tc : Thread Cert.AdamWGlaInIdeal.nD Cert.AdamWGlaInIdeal.τ).loc Cert.AdamWGlaInIdeal.main_arg2)
      ∧ r.2.mem ((c.tc : Thread Cert.AdamWGlaInIdeal.nD Cert.AdamWGlaInIdeal.τ).loc Cert.AdamWGlaInIdeal.main_arg3) = m ((c.tc : Thread Cert.AdamWGlaInIdeal.nD Cert.AdamWGlaInIdeal.τ).loc Cert.AdamWGlaInIdeal.main_arg3)
      ∧ r.2.mem ((c.tc : Thread Cert.AdamWGlaInIdeal.nD Cert.AdamWGlaInIdeal.τ).loc Cert.AdamWGlaInIdeal.main_arg4) = m ((c.tc : Thread Cert.AdamWGlaInIdeal.nD Cert.AdamWGlaInIdeal.τ).loc Cert.AdamWGlaInIdeal.main_arg4)
      ∧ r.2.mem ((c.tc : Thread Cert.AdamWGlaInIdeal.nD Cert.AdamWGlaInIdeal.τ).loc Cert.AdamWGlaInIdeal.main_arg5) = m ((c.tc : Thread Cert.AdamWGlaInIdeal.nD Cert.AdamWGlaInIdeal.τ).loc Cert.AdamWGlaInIdeal.main_arg5))
      ∧ r.2.sem = fun _ => 0)

def quiescent_AdamWGlaInRefIdeal [hAdamWGlaInRefIdeal : Cert.AdamWGlaInRefIdeal.Facts] : Prop :=
  ∀ (m : (ℓ : Loc Cert.AdamWGlaInRefIdeal.nD Cert.AdamWGlaInRefIdeal.τ Cert.AdamWGlaInRefIdeal.sig) → Buf (Elt Ideal) ℓ) (g : Dev Cert.AdamWGlaInRefIdeal.nD → PrngReg), Pre_AdamWGlaInRefIdeal m →
    θ_run (Cert.AdamWGlaInRefIdeal.defs (F := Ideal)) (onTc (τ := Cert.AdamWGlaInRefIdeal.τ) (Cert.AdamWGlaInRefIdeal.main (F := Ideal))) ⟨m, fun _ => 0, g⟩ (fun r => (∀ c : Dev Cert.AdamWGlaInRefIdeal.nD,
      r.2.mem ((c.tc : Thread Cert.AdamWGlaInRefIdeal.nD Cert.AdamWGlaInRefIdeal.τ).loc Cert.AdamWGlaInRefIdeal.main_arg0) = m ((c.tc : Thread Cert.AdamWGlaInRefIdeal.nD Cert.AdamWGlaInRefIdeal.τ).loc Cert.AdamWGlaInRefIdeal.main_arg0)
      ∧ r.2.mem ((c.tc : Thread Cert.AdamWGlaInRefIdeal.nD Cert.AdamWGlaInRefIdeal.τ).loc Cert.AdamWGlaInRefIdeal.main_arg1) = m ((c.tc : Thread Cert.AdamWGlaInRefIdeal.nD Cert.AdamWGlaInRefIdeal.τ).loc Cert.AdamWGlaInRefIdeal.main_arg1)
      ∧ r.2.mem ((c.tc : Thread Cert.AdamWGlaInRefIdeal.nD Cert.AdamWGlaInRefIdeal.τ).loc Cert.AdamWGlaInRefIdeal.main_arg2) = m ((c.tc : Thread Cert.AdamWGlaInRefIdeal.nD Cert.AdamWGlaInRefIdeal.τ).loc Cert.AdamWGlaInRefIdeal.main_arg2)
      ∧ r.2.mem ((c.tc : Thread Cert.AdamWGlaInRefIdeal.nD Cert.AdamWGlaInRefIdeal.τ).loc Cert.AdamWGlaInRefIdeal.main_arg3) = m ((c.tc : Thread Cert.AdamWGlaInRefIdeal.nD Cert.AdamWGlaInRefIdeal.τ).loc Cert.AdamWGlaInRefIdeal.main_arg3)
      ∧ r.2.mem ((c.tc : Thread Cert.AdamWGlaInRefIdeal.nD Cert.AdamWGlaInRefIdeal.τ).loc Cert.AdamWGlaInRefIdeal.main_arg4) = m ((c.tc : Thread Cert.AdamWGlaInRefIdeal.nD Cert.AdamWGlaInRefIdeal.τ).loc Cert.AdamWGlaInRefIdeal.main_arg4)
      ∧ r.2.mem ((c.tc : Thread Cert.AdamWGlaInRefIdeal.nD Cert.AdamWGlaInRefIdeal.τ).loc Cert.AdamWGlaInRefIdeal.main_arg5) = m ((c.tc : Thread Cert.AdamWGlaInRefIdeal.nD Cert.AdamWGlaInRefIdeal.τ).loc Cert.AdamWGlaInRefIdeal.main_arg5))
      ∧ r.2.sem = fun _ => 0)

def quiescent_AdamWGlaInRefIdeal_pre_on_mesh_2048_770 [hAdamWGlaInRefIdeal : Cert.AdamWGlaInRefIdeal.Facts] [hPre_on_mesh_2048_770 : Cert.Pre_on_mesh_2048_770.Facts] : Prop :=
  ∀ (m : (ℓ : Loc Cert.AdamWGlaInRefIdeal.nD Cert.AdamWGlaInRefIdeal.τ Cert.AdamWGlaInRefIdeal.sig) → Buf (Elt Ideal) ℓ) (g : Dev Cert.AdamWGlaInRefIdeal.nD → PrngReg), Pre_AdamWGlaInRefIdeal_on_mesh_2048_770 m →
    θ_run (Cert.AdamWGlaInRefIdeal.defs (F := Ideal)) (onTc (τ := Cert.AdamWGlaInRefIdeal.τ) (Cert.AdamWGlaInRefIdeal.main (F := Ideal))) ⟨m, fun _ => 0, g⟩ (fun r => (∀ c : Dev Cert.AdamWGlaInRefIdeal.nD,
      r.2.mem ((c.tc : Thread Cert.AdamWGlaInRefIdeal.nD Cert.AdamWGlaInRefIdeal.τ).loc Cert.AdamWGlaInRefIdeal.main_arg0) = m ((c.tc : Thread Cert.AdamWGlaInRefIdeal.nD Cert.AdamWGlaInRefIdeal.τ).loc Cert.AdamWGlaInRefIdeal.main_arg0)
      ∧ r.2.mem ((c.tc : Thread Cert.AdamWGlaInRefIdeal.nD Cert.AdamWGlaInRefIdeal.τ).loc Cert.AdamWGlaInRefIdeal.main_arg1) = m ((c.tc : Thread Cert.AdamWGlaInRefIdeal.nD Cert.AdamWGlaInRefIdeal.τ).loc Cert.AdamWGlaInRefIdeal.main_arg1)
      ∧ r.2.mem ((c.tc : Thread Cert.AdamWGlaInRefIdeal.nD Cert.AdamWGlaInRefIdeal.τ).loc Cert.AdamWGlaInRefIdeal.main_arg2) = m ((c.tc : Thread Cert.AdamWGlaInRefIdeal.nD Cert.AdamWGlaInRefIdeal.τ).loc Cert.AdamWGlaInRefIdeal.main_arg2)
      ∧ r.2.mem ((c.tc : Thread Cert.AdamWGlaInRefIdeal.nD Cert.AdamWGlaInRefIdeal.τ).loc Cert.AdamWGlaInRefIdeal.main_arg3) = m ((c.tc : Thread Cert.AdamWGlaInRefIdeal.nD Cert.AdamWGlaInRefIdeal.τ).loc Cert.AdamWGlaInRefIdeal.main_arg3)
      ∧ r.2.mem ((c.tc : Thread Cert.AdamWGlaInRefIdeal.nD Cert.AdamWGlaInRefIdeal.τ).loc Cert.AdamWGlaInRefIdeal.main_arg4) = m ((c.tc : Thread Cert.AdamWGlaInRefIdeal.nD Cert.AdamWGlaInRefIdeal.τ).loc Cert.AdamWGlaInRefIdeal.main_arg4)
      ∧ r.2.mem ((c.tc : Thread Cert.AdamWGlaInRefIdeal.nD Cert.AdamWGlaInRefIdeal.τ).loc Cert.AdamWGlaInRefIdeal.main_arg5) = m ((c.tc : Thread Cert.AdamWGlaInRefIdeal.nD Cert.AdamWGlaInRefIdeal.τ).loc Cert.AdamWGlaInRefIdeal.main_arg5))
      ∧ r.2.sem = fun _ => 0)

def quiescent_AdamWRetOut [hAdamWRetOut : Cert.AdamWRetOut.Facts] [hPre_on_mesh_512_2048 : Cert.Pre_on_mesh_512_2048.Facts] : Prop :=
  ∀ (m : (ℓ : Loc Cert.AdamWRetOut.nD Cert.AdamWRetOut.τ Cert.AdamWRetOut.sig) → Buf (Elt Bits) ℓ) (g : Dev Cert.AdamWRetOut.nD → PrngReg), Pre_AdamWRetOut m →
    θ_run (Cert.AdamWRetOut.defs (F := Bits)) (onTc (τ := Cert.AdamWRetOut.τ) (Cert.AdamWRetOut.main (F := Bits))) ⟨m, fun _ => 0, g⟩ (fun r => (∀ c : Dev Cert.AdamWRetOut.nD,
      r.2.mem ((c.tc : Thread Cert.AdamWRetOut.nD Cert.AdamWRetOut.τ).loc Cert.AdamWRetOut.main_arg0) = m ((c.tc : Thread Cert.AdamWRetOut.nD Cert.AdamWRetOut.τ).loc Cert.AdamWRetOut.main_arg0)
      ∧ r.2.mem ((c.tc : Thread Cert.AdamWRetOut.nD Cert.AdamWRetOut.τ).loc Cert.AdamWRetOut.main_arg1) = m ((c.tc : Thread Cert.AdamWRetOut.nD Cert.AdamWRetOut.τ).loc Cert.AdamWRetOut.main_arg1)
      ∧ r.2.mem ((c.tc : Thread Cert.AdamWRetOut.nD Cert.AdamWRetOut.τ).loc Cert.AdamWRetOut.main_arg2) = m ((c.tc : Thread Cert.AdamWRetOut.nD Cert.AdamWRetOut.τ).loc Cert.AdamWRetOut.main_arg2)
      ∧ r.2.mem ((c.tc : Thread Cert.AdamWRetOut.nD Cert.AdamWRetOut.τ).loc Cert.AdamWRetOut.main_arg3) = m ((c.tc : Thread Cert.AdamWRetOut.nD Cert.AdamWRetOut.τ).loc Cert.AdamWRetOut.main_arg3)
      ∧ r.2.mem ((c.tc : Thread Cert.AdamWRetOut.nD Cert.AdamWRetOut.τ).loc Cert.AdamWRetOut.main_arg4) = m ((c.tc : Thread Cert.AdamWRetOut.nD Cert.AdamWRetOut.τ).loc Cert.AdamWRetOut.main_arg4)
      ∧ r.2.mem ((c.tc : Thread Cert.AdamWRetOut.nD Cert.AdamWRetOut.τ).loc Cert.AdamWRetOut.main_arg5) = m ((c.tc : Thread Cert.AdamWRetOut.nD Cert.AdamWRetOut.τ).loc Cert.AdamWRetOut.main_arg5))
      ∧ r.2.sem = fun _ => 0)

def quiescent_AdamWRetOutIdeal [hAdamWRetOutIdeal : Cert.AdamWRetOutIdeal.Facts] [hPre_on_mesh_512_2048 : Cert.Pre_on_mesh_512_2048.Facts] : Prop :=
  ∀ (m : (ℓ : Loc Cert.AdamWRetOutIdeal.nD Cert.AdamWRetOutIdeal.τ Cert.AdamWRetOutIdeal.sig) → Buf (Elt Ideal) ℓ) (g : Dev Cert.AdamWRetOutIdeal.nD → PrngReg), Pre_AdamWRetOutIdeal m →
    θ_run (Cert.AdamWRetOutIdeal.defs (F := Ideal)) (onTc (τ := Cert.AdamWRetOutIdeal.τ) (Cert.AdamWRetOutIdeal.main (F := Ideal))) ⟨m, fun _ => 0, g⟩ (fun r => (∀ c : Dev Cert.AdamWRetOutIdeal.nD,
      r.2.mem ((c.tc : Thread Cert.AdamWRetOutIdeal.nD Cert.AdamWRetOutIdeal.τ).loc Cert.AdamWRetOutIdeal.main_arg0) = m ((c.tc : Thread Cert.AdamWRetOutIdeal.nD Cert.AdamWRetOutIdeal.τ).loc Cert.AdamWRetOutIdeal.main_arg0)
      ∧ r.2.mem ((c.tc : Thread Cert.AdamWRetOutIdeal.nD Cert.AdamWRetOutIdeal.τ).loc Cert.AdamWRetOutIdeal.main_arg1) = m ((c.tc : Thread Cert.AdamWRetOutIdeal.nD Cert.AdamWRetOutIdeal.τ).loc Cert.AdamWRetOutIdeal.main_arg1)
      ∧ r.2.mem ((c.tc : Thread Cert.AdamWRetOutIdeal.nD Cert.AdamWRetOutIdeal.τ).loc Cert.AdamWRetOutIdeal.main_arg2) = m ((c.tc : Thread Cert.AdamWRetOutIdeal.nD Cert.AdamWRetOutIdeal.τ).loc Cert.AdamWRetOutIdeal.main_arg2)
      ∧ r.2.mem ((c.tc : Thread Cert.AdamWRetOutIdeal.nD Cert.AdamWRetOutIdeal.τ).loc Cert.AdamWRetOutIdeal.main_arg3) = m ((c.tc : Thread Cert.AdamWRetOutIdeal.nD Cert.AdamWRetOutIdeal.τ).loc Cert.AdamWRetOutIdeal.main_arg3)
      ∧ r.2.mem ((c.tc : Thread Cert.AdamWRetOutIdeal.nD Cert.AdamWRetOutIdeal.τ).loc Cert.AdamWRetOutIdeal.main_arg4) = m ((c.tc : Thread Cert.AdamWRetOutIdeal.nD Cert.AdamWRetOutIdeal.τ).loc Cert.AdamWRetOutIdeal.main_arg4)
      ∧ r.2.mem ((c.tc : Thread Cert.AdamWRetOutIdeal.nD Cert.AdamWRetOutIdeal.τ).loc Cert.AdamWRetOutIdeal.main_arg5) = m ((c.tc : Thread Cert.AdamWRetOutIdeal.nD Cert.AdamWRetOutIdeal.τ).loc Cert.AdamWRetOutIdeal.main_arg5))
      ∧ r.2.sem = fun _ => 0)

def quiescent_AdamWRetOutRefIdeal [hAdamWRetOutRefIdeal : Cert.AdamWRetOutRefIdeal.Facts] : Prop :=
  ∀ (m : (ℓ : Loc Cert.AdamWRetOutRefIdeal.nD Cert.AdamWRetOutRefIdeal.τ Cert.AdamWRetOutRefIdeal.sig) → Buf (Elt Ideal) ℓ) (g : Dev Cert.AdamWRetOutRefIdeal.nD → PrngReg), Pre_AdamWRetOutRefIdeal m →
    θ_run (Cert.AdamWRetOutRefIdeal.defs (F := Ideal)) (onTc (τ := Cert.AdamWRetOutRefIdeal.τ) (Cert.AdamWRetOutRefIdeal.main (F := Ideal))) ⟨m, fun _ => 0, g⟩ (fun r => (∀ c : Dev Cert.AdamWRetOutRefIdeal.nD,
      r.2.mem ((c.tc : Thread Cert.AdamWRetOutRefIdeal.nD Cert.AdamWRetOutRefIdeal.τ).loc Cert.AdamWRetOutRefIdeal.main_arg0) = m ((c.tc : Thread Cert.AdamWRetOutRefIdeal.nD Cert.AdamWRetOutRefIdeal.τ).loc Cert.AdamWRetOutRefIdeal.main_arg0)
      ∧ r.2.mem ((c.tc : Thread Cert.AdamWRetOutRefIdeal.nD Cert.AdamWRetOutRefIdeal.τ).loc Cert.AdamWRetOutRefIdeal.main_arg1) = m ((c.tc : Thread Cert.AdamWRetOutRefIdeal.nD Cert.AdamWRetOutRefIdeal.τ).loc Cert.AdamWRetOutRefIdeal.main_arg1)
      ∧ r.2.mem ((c.tc : Thread Cert.AdamWRetOutRefIdeal.nD Cert.AdamWRetOutRefIdeal.τ).loc Cert.AdamWRetOutRefIdeal.main_arg2) = m ((c.tc : Thread Cert.AdamWRetOutRefIdeal.nD Cert.AdamWRetOutRefIdeal.τ).loc Cert.AdamWRetOutRefIdeal.main_arg2)
      ∧ r.2.mem ((c.tc : Thread Cert.AdamWRetOutRefIdeal.nD Cert.AdamWRetOutRefIdeal.τ).loc Cert.AdamWRetOutRefIdeal.main_arg3) = m ((c.tc : Thread Cert.AdamWRetOutRefIdeal.nD Cert.AdamWRetOutRefIdeal.τ).loc Cert.AdamWRetOutRefIdeal.main_arg3)
      ∧ r.2.mem ((c.tc : Thread Cert.AdamWRetOutRefIdeal.nD Cert.AdamWRetOutRefIdeal.τ).loc Cert.AdamWRetOutRefIdeal.main_arg4) = m ((c.tc : Thread Cert.AdamWRetOutRefIdeal.nD Cert.AdamWRetOutRefIdeal.τ).loc Cert.AdamWRetOutRefIdeal.main_arg4)
      ∧ r.2.mem ((c.tc : Thread Cert.AdamWRetOutRefIdeal.nD Cert.AdamWRetOutRefIdeal.τ).loc Cert.AdamWRetOutRefIdeal.main_arg5) = m ((c.tc : Thread Cert.AdamWRetOutRefIdeal.nD Cert.AdamWRetOutRefIdeal.τ).loc Cert.AdamWRetOutRefIdeal.main_arg5))
      ∧ r.2.sem = fun _ => 0)

def quiescent_AdamWRetOutRefIdeal_pre_on_mesh_512_2048 [hAdamWRetOutRefIdeal : Cert.AdamWRetOutRefIdeal.Facts] [hPre_on_mesh_512_2048 : Cert.Pre_on_mesh_512_2048.Facts] : Prop :=
  ∀ (m : (ℓ : Loc Cert.AdamWRetOutRefIdeal.nD Cert.AdamWRetOutRefIdeal.τ Cert.AdamWRetOutRefIdeal.sig) → Buf (Elt Ideal) ℓ) (g : Dev Cert.AdamWRetOutRefIdeal.nD → PrngReg), Pre_AdamWRetOutRefIdeal_on_mesh_512_2048 m →
    θ_run (Cert.AdamWRetOutRefIdeal.defs (F := Ideal)) (onTc (τ := Cert.AdamWRetOutRefIdeal.τ) (Cert.AdamWRetOutRefIdeal.main (F := Ideal))) ⟨m, fun _ => 0, g⟩ (fun r => (∀ c : Dev Cert.AdamWRetOutRefIdeal.nD,
      r.2.mem ((c.tc : Thread Cert.AdamWRetOutRefIdeal.nD Cert.AdamWRetOutRefIdeal.τ).loc Cert.AdamWRetOutRefIdeal.main_arg0) = m ((c.tc : Thread Cert.AdamWRetOutRefIdeal.nD Cert.AdamWRetOutRefIdeal.τ).loc Cert.AdamWRetOutRefIdeal.main_arg0)
      ∧ r.2.mem ((c.tc : Thread Cert.AdamWRetOutRefIdeal.nD Cert.AdamWRetOutRefIdeal.τ).loc Cert.AdamWRetOutRefIdeal.main_arg1) = m ((c.tc : Thread Cert.AdamWRetOutRefIdeal.nD Cert.AdamWRetOutRefIdeal.τ).loc Cert.AdamWRetOutRefIdeal.main_arg1)
      ∧ r.2.mem ((c.tc : Thread Cert.AdamWRetOutRefIdeal.nD Cert.AdamWRetOutRefIdeal.τ).loc Cert.AdamWRetOutRefIdeal.main_arg2) = m ((c.tc : Thread Cert.AdamWRetOutRefIdeal.nD Cert.AdamWRetOutRefIdeal.τ).loc Cert.AdamWRetOutRefIdeal.main_arg2)
      ∧ r.2.mem ((c.tc : Thread Cert.AdamWRetOutRefIdeal.nD Cert.AdamWRetOutRefIdeal.τ).loc Cert.AdamWRetOutRefIdeal.main_arg3) = m ((c.tc : Thread Cert.AdamWRetOutRefIdeal.nD Cert.AdamWRetOutRefIdeal.τ).loc Cert.AdamWRetOutRefIdeal.main_arg3)
      ∧ r.2.mem ((c.tc : Thread Cert.AdamWRetOutRefIdeal.nD Cert.AdamWRetOutRefIdeal.τ).loc Cert.AdamWRetOutRefIdeal.main_arg4) = m ((c.tc : Thread Cert.AdamWRetOutRefIdeal.nD Cert.AdamWRetOutRefIdeal.τ).loc Cert.AdamWRetOutRefIdeal.main_arg4)
      ∧ r.2.mem ((c.tc : Thread Cert.AdamWRetOutRefIdeal.nD Cert.AdamWRetOutRefIdeal.τ).loc Cert.AdamWRetOutRefIdeal.main_arg5) = m ((c.tc : Thread Cert.AdamWRetOutRefIdeal.nD Cert.AdamWRetOutRefIdeal.τ).loc Cert.AdamWRetOutRefIdeal.main_arg5))
      ∧ r.2.sem = fun _ => 0)

def quiescent_AdamWOut [hAdamWOut : Cert.AdamWOut.Facts] [hPre_on_mesh_256_2048 : Cert.Pre_on_mesh_256_2048.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3)
      ∧ r.2.mem ((c.tc : Thread Cert.AdamWOut.nD Cert.AdamWOut.τ).loc Cert.AdamWOut.main_arg4) = m ((c.tc : Thread Cert.AdamWOut.nD Cert.AdamWOut.τ).loc Cert.AdamWOut.main_arg4)
      ∧ r.2.mem ((c.tc : Thread Cert.AdamWOut.nD Cert.AdamWOut.τ).loc Cert.AdamWOut.main_arg5) = m ((c.tc : Thread Cert.AdamWOut.nD Cert.AdamWOut.τ).loc Cert.AdamWOut.main_arg5))
      ∧ r.2.sem = fun _ => 0)

def quiescent_AdamWOutIdeal [hAdamWOutIdeal : Cert.AdamWOutIdeal.Facts] [hPre_on_mesh_256_2048 : Cert.Pre_on_mesh_256_2048.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3)
      ∧ r.2.mem ((c.tc : Thread Cert.AdamWOutIdeal.nD Cert.AdamWOutIdeal.τ).loc Cert.AdamWOutIdeal.main_arg4) = m ((c.tc : Thread Cert.AdamWOutIdeal.nD Cert.AdamWOutIdeal.τ).loc Cert.AdamWOutIdeal.main_arg4)
      ∧ r.2.mem ((c.tc : Thread Cert.AdamWOutIdeal.nD Cert.AdamWOutIdeal.τ).loc Cert.AdamWOutIdeal.main_arg5) = m ((c.tc : Thread Cert.AdamWOutIdeal.nD Cert.AdamWOutIdeal.τ).loc Cert.AdamWOutIdeal.main_arg5))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3)
      ∧ r.2.mem ((c.tc : Thread Cert.AdamWOutRefIdeal.nD Cert.AdamWOutRefIdeal.τ).loc Cert.AdamWOutRefIdeal.main_arg4) = m ((c.tc : Thread Cert.AdamWOutRefIdeal.nD Cert.AdamWOutRefIdeal.τ).loc Cert.AdamWOutRefIdeal.main_arg4)
      ∧ r.2.mem ((c.tc : Thread Cert.AdamWOutRefIdeal.nD Cert.AdamWOutRefIdeal.τ).loc Cert.AdamWOutRefIdeal.main_arg5) = m ((c.tc : Thread Cert.AdamWOutRefIdeal.nD Cert.AdamWOutRefIdeal.τ).loc Cert.AdamWOutRefIdeal.main_arg5))
      ∧ r.2.sem = fun _ => 0)

def quiescent_AdamWOutRefIdeal_pre_on_mesh_256_2048 [hAdamWOutRefIdeal : Cert.AdamWOutRefIdeal.Facts] [hPre_on_mesh_256_2048 : Cert.Pre_on_mesh_256_2048.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal_on_mesh_256_2048 m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3)
      ∧ r.2.mem ((c.tc : Thread Cert.AdamWOutRefIdeal.nD Cert.AdamWOutRefIdeal.τ).loc Cert.AdamWOutRefIdeal.main_arg4) = m ((c.tc : Thread Cert.AdamWOutRefIdeal.nD Cert.AdamWOutRefIdeal.τ).loc Cert.AdamWOutRefIdeal.main_arg4)
      ∧ r.2.mem ((c.tc : Thread Cert.AdamWOutRefIdeal.nD Cert.AdamWOutRefIdeal.τ).loc Cert.AdamWOutRefIdeal.main_arg5) = m ((c.tc : Thread Cert.AdamWOutRefIdeal.nD Cert.AdamWOutRefIdeal.τ).loc Cert.AdamWOutRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v144_0)) (v1 : (c : Dev Cert.KernelIdeal.nD) → Buf (Elt Ideal) ((c.tc : Thread Cert.KernelIdeal.nD Cert.KernelIdeal.τ).loc Cert.KernelIdeal.main_v144_1)) (v2 : (c : Dev Cert.KernelIdeal.nD) → Buf (Elt Ideal) ((c.tc : Thread Cert.KernelIdeal.nD Cert.KernelIdeal.τ).loc Cert.KernelIdeal.main_v144_2)) (v3 : (c : Dev Cert.KernelIdeal.nD) → Buf (Elt Ideal) ((c.tc : Thread Cert.KernelIdeal.nD Cert.KernelIdeal.τ).loc Cert.KernelIdeal.main_v144_3)) (v4 : (c : Dev Cert.KernelIdeal.nD) → Buf (Elt Ideal) ((c.tc : Thread Cert.KernelIdeal.nD Cert.KernelIdeal.τ).loc Cert.KernelIdeal.main_v144_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144_0) = v0 c
          ∧ r.2.mem ((c.tc : Thread Cert.KernelIdeal.nD Cert.KernelIdeal.τ).loc Cert.KernelIdeal.main_v144_1) = v1 c
          ∧ r.2.mem ((c.tc : Thread Cert.KernelIdeal.nD Cert.KernelIdeal.τ).loc Cert.KernelIdeal.main_v144_2) = v2 c
          ∧ r.2.mem ((c.tc : Thread Cert.KernelIdeal.nD Cert.KernelIdeal.τ).loc Cert.KernelIdeal.main_v144_3) = v3 c
          ∧ r.2.mem ((c.tc : Thread Cert.KernelIdeal.nD Cert.KernelIdeal.τ).loc Cert.KernelIdeal.main_v144_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v298) = v0 c
          ∧ r.2.mem ((c.tc : Thread Cert.ReferenceIdeal.nD Cert.ReferenceIdeal.τ).loc Cert.ReferenceIdeal.main_v300) = v1 c
          ∧ r.2.mem ((c.tc : Thread Cert.ReferenceIdeal.nD Cert.ReferenceIdeal.τ).loc Cert.ReferenceIdeal.main_v302) = v2 c
          ∧ r.2.mem ((c.tc : Thread Cert.ReferenceIdeal.nD Cert.ReferenceIdeal.τ).loc Cert.ReferenceIdeal.main_v304) = v3 c
          ∧ r.2.mem ((c.tc : Thread Cert.ReferenceIdeal.nD Cert.ReferenceIdeal.τ).loc Cert.ReferenceIdeal.main_v305) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v15) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v4) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v6) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_v6) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_RetInDw_RetInDwIdeal : Prop :=
  True

def algebraic_RetInDwIdeal_RetInDwRefIdeal [hRetInDwIdeal : Cert.RetInDwIdeal.Facts] [hRetInDwRefIdeal : Cert.RetInDwRefIdeal.Facts] : Prop :=
  ∀ (m : (ℓ : Loc Cert.RetInDwIdeal.nD Cert.RetInDwIdeal.τ Cert.RetInDwIdeal.sig) → Buf (Elt Ideal) ℓ) (g : Dev Cert.RetInDwIdeal.nD → PrngReg)
    (m' : (ℓ : Loc Cert.RetInDwRefIdeal.nD Cert.RetInDwRefIdeal.τ Cert.RetInDwRefIdeal.sig) → Buf (Elt Ideal) ℓ) (g' : Dev Cert.RetInDwRefIdeal.nD → PrngReg), Pre_RetInDwIdeal m →
    (∀ c : Dev Cert.RetInDwIdeal.nD,
      m' ((c.tc : Thread Cert.RetInDwRefIdeal.nD Cert.RetInDwRefIdeal.τ).loc Cert.RetInDwRefIdeal.main_arg0) = m ((c.tc : Thread Cert.RetInDwIdeal.nD Cert.RetInDwIdeal.τ).loc Cert.RetInDwIdeal.main_arg0)
      ∧ m' ((c.tc : Thread Cert.RetInDwRefIdeal.nD Cert.RetInDwRefIdeal.τ).loc Cert.RetInDwRefIdeal.main_arg1) = m ((c.tc : Thread Cert.RetInDwIdeal.nD Cert.RetInDwIdeal.τ).loc Cert.RetInDwIdeal.main_arg1)) →
    ∃ (v0 : (c : Dev Cert.RetInDwIdeal.nD) → Buf (Elt Ideal) ((c.tc : Thread Cert.RetInDwIdeal.nD Cert.RetInDwIdeal.τ).loc Cert.RetInDwIdeal.main_v0)),
      θ_run (Cert.RetInDwIdeal.defs (F := Ideal)) (onTc (τ := Cert.RetInDwIdeal.τ) (Cert.RetInDwIdeal.main (F := Ideal))) ⟨m, fun _ => 0, g⟩ (fun r => ∀ c : Dev Cert.RetInDwIdeal.nD,
          r.2.mem ((c.tc : Thread Cert.RetInDwIdeal.nD Cert.RetInDwIdeal.τ).loc Cert.RetInDwIdeal.main_v0) = v0 c
          ∧ r.2.mem ((c.tc : Thread Cert.RetInDwIdeal.nD Cert.RetInDwIdeal.τ).loc Cert.RetInDwIdeal.main_arg0) = m ((c.tc : Thread Cert.RetInDwIdeal.nD Cert.RetInDwIdeal.τ).loc Cert.RetInDwIdeal.main_arg0)
          ∧ r.2.mem ((c.tc : Thread Cert.RetInDwIdeal.nD Cert.RetInDwIdeal.τ).loc Cert.RetInDwIdeal.main_arg1) = m ((c.tc : Thread Cert.RetInDwIdeal.nD Cert.RetInDwIdeal.τ).loc Cert.RetInDwIdeal.main_arg1))
      ∧ θ_run (Cert.RetInDwRefIdeal.defs (F := Ideal)) (onTc (τ := Cert.RetInDwRefIdeal.τ) (Cert.RetInDwRefIdeal.main (F := Ideal))) ⟨m', fun _ => 0, g'⟩ (fun r => ∀ c : Dev Cert.RetInDwRefIdeal.nD,
          r.2.mem ((c.tc : Thread Cert.RetInDwRefIdeal.nD Cert.RetInDwRefIdeal.τ).loc Cert.RetInDwRefIdeal.main_v6) = v0 c
          ∧ r.2.mem ((c.tc : Thread Cert.RetInDwRefIdeal.nD Cert.RetInDwRefIdeal.τ).loc Cert.RetInDwRefIdeal.main_arg0) = m' ((c.tc : Thread Cert.RetInDwRefIdeal.nD Cert.RetInDwRefIdeal.τ).loc Cert.RetInDwRefIdeal.main_arg0)
          ∧ r.2.mem ((c.tc : Thread Cert.RetInDwRefIdeal.nD Cert.RetInDwRefIdeal.τ).loc Cert.RetInDwRefIdeal.main_arg1) = m' ((c.tc : Thread Cert.RetInDwRefIdeal.nD Cert.RetInDwRefIdeal.τ).loc Cert.RetInDwRefIdeal.main_arg1))

def preserves_RetInDx_RetInDxIdeal : Prop :=
  True

def algebraic_RetInDxIdeal_RetInDxRefIdeal [hRetInDxIdeal : Cert.RetInDxIdeal.Facts] [hRetInDxRefIdeal : Cert.RetInDxRefIdeal.Facts] : Prop :=
  ∀ (m : (ℓ : Loc Cert.RetInDxIdeal.nD Cert.RetInDxIdeal.τ Cert.RetInDxIdeal.sig) → Buf (Elt Ideal) ℓ) (g : Dev Cert.RetInDxIdeal.nD → PrngReg)
    (m' : (ℓ : Loc Cert.RetInDxRefIdeal.nD Cert.RetInDxRefIdeal.τ Cert.RetInDxRefIdeal.sig) → Buf (Elt Ideal) ℓ) (g' : Dev Cert.RetInDxRefIdeal.nD → PrngReg), Pre_RetInDxIdeal m →
    (∀ c : Dev Cert.RetInDxIdeal.nD,
      m' ((c.tc : Thread Cert.RetInDxRefIdeal.nD Cert.RetInDxRefIdeal.τ).loc Cert.RetInDxRefIdeal.main_arg0) = m ((c.tc : Thread Cert.RetInDxIdeal.nD Cert.RetInDxIdeal.τ).loc Cert.RetInDxIdeal.main_arg0)
      ∧ m' ((c.tc : Thread Cert.RetInDxRefIdeal.nD Cert.RetInDxRefIdeal.τ).loc Cert.RetInDxRefIdeal.main_arg1) = m ((c.tc : Thread Cert.RetInDxIdeal.nD Cert.RetInDxIdeal.τ).loc Cert.RetInDxIdeal.main_arg1)) →
    ∃ (v0 : (c : Dev Cert.RetInDxIdeal.nD) → Buf (Elt Ideal) ((c.tc : Thread Cert.RetInDxIdeal.nD Cert.RetInDxIdeal.τ).loc Cert.RetInDxIdeal.main_v0)),
      θ_run (Cert.RetInDxIdeal.defs (F := Ideal)) (onTc (τ := Cert.RetInDxIdeal.τ) (Cert.RetInDxIdeal.main (F := Ideal))) ⟨m, fun _ => 0, g⟩ (fun r => ∀ c : Dev Cert.RetInDxIdeal.nD,
          r.2.mem ((c.tc : Thread Cert.RetInDxIdeal.nD Cert.RetInDxIdeal.τ).loc Cert.RetInDxIdeal.main_v0) = v0 c
          ∧ r.2.mem ((c.tc : Thread Cert.RetInDxIdeal.nD Cert.RetInDxIdeal.τ).loc Cert.RetInDxIdeal.main_arg0) = m ((c.tc : Thread Cert.RetInDxIdeal.nD Cert.RetInDxIdeal.τ).loc Cert.RetInDxIdeal.main_arg0)
          ∧ r.2.mem ((c.tc : Thread Cert.RetInDxIdeal.nD Cert.RetInDxIdeal.τ).loc Cert.RetInDxIdeal.main_arg1) = m ((c.tc : Thread Cert.RetInDxIdeal.nD Cert.RetInDxIdeal.τ).loc Cert.RetInDxIdeal.main_arg1))
      ∧ θ_run (Cert.RetInDxRefIdeal.defs (F := Ideal)) (onTc (τ := Cert.RetInDxRefIdeal.τ) (Cert.RetInDxRefIdeal.main (F := Ideal))) ⟨m', fun _ => 0, g'⟩ (fun r => ∀ c : Dev Cert.RetInDxRefIdeal.nD,
          r.2.mem ((c.tc : Thread Cert.RetInDxRefIdeal.nD Cert.RetInDxRefIdeal.τ).loc Cert.RetInDxRefIdeal.main_v4) = v0 c
          ∧ r.2.mem ((c.tc : Thread Cert.RetInDxRefIdeal.nD Cert.RetInDxRefIdeal.τ).loc Cert.RetInDxRefIdeal.main_arg0) = m' ((c.tc : Thread Cert.RetInDxRefIdeal.nD Cert.RetInDxRefIdeal.τ).loc Cert.RetInDxRefIdeal.main_arg0)
          ∧ r.2.mem ((c.tc : Thread Cert.RetInDxRefIdeal.nD Cert.RetInDxRefIdeal.τ).loc Cert.RetInDxRefIdeal.main_arg1) = m' ((c.tc : Thread Cert.RetInDxRefIdeal.nD Cert.RetInDxRefIdeal.τ).loc Cert.RetInDxRefIdeal.main_arg1))

def preserves_RetOutDw_RetOutDwIdeal : Prop :=
  True

def algebraic_RetOutDwIdeal_RetOutDwRefIdeal [hRetOutDwIdeal : Cert.RetOutDwIdeal.Facts] [hRetOutDwRefIdeal : Cert.RetOutDwRefIdeal.Facts] : Prop :=
  ∀ (m : (ℓ : Loc Cert.RetOutDwIdeal.nD Cert.RetOutDwIdeal.τ Cert.RetOutDwIdeal.sig) → Buf (Elt Ideal) ℓ) (g : Dev Cert.RetOutDwIdeal.nD → PrngReg)
    (m' : (ℓ : Loc Cert.RetOutDwRefIdeal.nD Cert.RetOutDwRefIdeal.τ Cert.RetOutDwRefIdeal.sig) → Buf (Elt Ideal) ℓ) (g' : Dev Cert.RetOutDwRefIdeal.nD → PrngReg), Pre_RetOutDwIdeal m →
    (∀ c : Dev Cert.RetOutDwIdeal.nD,
      m' ((c.tc : Thread Cert.RetOutDwRefIdeal.nD Cert.RetOutDwRefIdeal.τ).loc Cert.RetOutDwRefIdeal.main_arg0) = m ((c.tc : Thread Cert.RetOutDwIdeal.nD Cert.RetOutDwIdeal.τ).loc Cert.RetOutDwIdeal.main_arg0)
      ∧ m' ((c.tc : Thread Cert.RetOutDwRefIdeal.nD Cert.RetOutDwRefIdeal.τ).loc Cert.RetOutDwRefIdeal.main_arg1) = m ((c.tc : Thread Cert.RetOutDwIdeal.nD Cert.RetOutDwIdeal.τ).loc Cert.RetOutDwIdeal.main_arg1)) →
    ∃ (v0 : (c : Dev Cert.RetOutDwIdeal.nD) → Buf (Elt Ideal) ((c.tc : Thread Cert.RetOutDwIdeal.nD Cert.RetOutDwIdeal.τ).loc Cert.RetOutDwIdeal.main_v0)),
      θ_run (Cert.RetOutDwIdeal.defs (F := Ideal)) (onTc (τ := Cert.RetOutDwIdeal.τ) (Cert.RetOutDwIdeal.main (F := Ideal))) ⟨m, fun _ => 0, g⟩ (fun r => ∀ c : Dev Cert.RetOutDwIdeal.nD,
          r.2.mem ((c.tc : Thread Cert.RetOutDwIdeal.nD Cert.RetOutDwIdeal.τ).loc Cert.RetOutDwIdeal.main_v0) = v0 c
          ∧ r.2.mem ((c.tc : Thread Cert.RetOutDwIdeal.nD Cert.RetOutDwIdeal.τ).loc Cert.RetOutDwIdeal.main_arg0) = m ((c.tc : Thread Cert.RetOutDwIdeal.nD Cert.RetOutDwIdeal.τ).loc Cert.RetOutDwIdeal.main_arg0)
          ∧ r.2.mem ((c.tc : Thread Cert.RetOutDwIdeal.nD Cert.RetOutDwIdeal.τ).loc Cert.RetOutDwIdeal.main_arg1) = m ((c.tc : Thread Cert.RetOutDwIdeal.nD Cert.RetOutDwIdeal.τ).loc Cert.RetOutDwIdeal.main_arg1))
      ∧ θ_run (Cert.RetOutDwRefIdeal.defs (F := Ideal)) (onTc (τ := Cert.RetOutDwRefIdeal.τ) (Cert.RetOutDwRefIdeal.main (F := Ideal))) ⟨m', fun _ => 0, g'⟩ (fun r => ∀ c : Dev Cert.RetOutDwRefIdeal.nD,
          r.2.mem ((c.tc : Thread Cert.RetOutDwRefIdeal.nD Cert.RetOutDwRefIdeal.τ).loc Cert.RetOutDwRefIdeal.main_v6) = v0 c
          ∧ r.2.mem ((c.tc : Thread Cert.RetOutDwRefIdeal.nD Cert.RetOutDwRefIdeal.τ).loc Cert.RetOutDwRefIdeal.main_arg0) = m' ((c.tc : Thread Cert.RetOutDwRefIdeal.nD Cert.RetOutDwRefIdeal.τ).loc Cert.RetOutDwRefIdeal.main_arg0)
          ∧ r.2.mem ((c.tc : Thread Cert.RetOutDwRefIdeal.nD Cert.RetOutDwRefIdeal.τ).loc Cert.RetOutDwRefIdeal.main_arg1) = m' ((c.tc : Thread Cert.RetOutDwRefIdeal.nD Cert.RetOutDwRefIdeal.τ).loc Cert.RetOutDwRefIdeal.main_arg1))

def preserves_RetOutDx_RetOutDxIdeal : Prop :=
  True

def algebraic_RetOutDxIdeal_RetOutDxRefIdeal [hRetOutDxIdeal : Cert.RetOutDxIdeal.Facts] [hRetOutDxRefIdeal : Cert.RetOutDxRefIdeal.Facts] : Prop :=
  ∀ (m : (ℓ : Loc Cert.RetOutDxIdeal.nD Cert.RetOutDxIdeal.τ Cert.RetOutDxIdeal.sig) → Buf (Elt Ideal) ℓ) (g : Dev Cert.RetOutDxIdeal.nD → PrngReg)
    (m' : (ℓ : Loc Cert.RetOutDxRefIdeal.nD Cert.RetOutDxRefIdeal.τ Cert.RetOutDxRefIdeal.sig) → Buf (Elt Ideal) ℓ) (g' : Dev Cert.RetOutDxRefIdeal.nD → PrngReg), Pre_RetOutDxIdeal m →
    (∀ c : Dev Cert.RetOutDxIdeal.nD,
      m' ((c.tc : Thread Cert.RetOutDxRefIdeal.nD Cert.RetOutDxRefIdeal.τ).loc Cert.RetOutDxRefIdeal.main_arg0) = m ((c.tc : Thread Cert.RetOutDxIdeal.nD Cert.RetOutDxIdeal.τ).loc Cert.RetOutDxIdeal.main_arg0)
      ∧ m' ((c.tc : Thread Cert.RetOutDxRefIdeal.nD Cert.RetOutDxRefIdeal.τ).loc Cert.RetOutDxRefIdeal.main_arg1) = m ((c.tc : Thread Cert.RetOutDxIdeal.nD Cert.RetOutDxIdeal.τ).loc Cert.RetOutDxIdeal.main_arg1)) →
    ∃ (v0 : (c : Dev Cert.RetOutDxIdeal.nD) → Buf (Elt Ideal) ((c.tc : Thread Cert.RetOutDxIdeal.nD Cert.RetOutDxIdeal.τ).loc Cert.RetOutDxIdeal.main_v0)),
      θ_run (Cert.RetOutDxIdeal.defs (F := Ideal)) (onTc (τ := Cert.RetOutDxIdeal.τ) (Cert.RetOutDxIdeal.main (F := Ideal))) ⟨m, fun _ => 0, g⟩ (fun r => ∀ c : Dev Cert.RetOutDxIdeal.nD,
          r.2.mem ((c.tc : Thread Cert.RetOutDxIdeal.nD Cert.RetOutDxIdeal.τ).loc Cert.RetOutDxIdeal.main_v0) = v0 c
          ∧ r.2.mem ((c.tc : Thread Cert.RetOutDxIdeal.nD Cert.RetOutDxIdeal.τ).loc Cert.RetOutDxIdeal.main_arg0) = m ((c.tc : Thread Cert.RetOutDxIdeal.nD Cert.RetOutDxIdeal.τ).loc Cert.RetOutDxIdeal.main_arg0)
          ∧ r.2.mem ((c.tc : Thread Cert.RetOutDxIdeal.nD Cert.RetOutDxIdeal.τ).loc Cert.RetOutDxIdeal.main_arg1) = m ((c.tc : Thread Cert.RetOutDxIdeal.nD Cert.RetOutDxIdeal.τ).loc Cert.RetOutDxIdeal.main_arg1))
      ∧ θ_run (Cert.RetOutDxRefIdeal.defs (F := Ideal)) (onTc (τ := Cert.RetOutDxRefIdeal.τ) (Cert.RetOutDxRefIdeal.main (F := Ideal))) ⟨m', fun _ => 0, g'⟩ (fun r => ∀ c : Dev Cert.RetOutDxRefIdeal.nD,
          r.2.mem ((c.tc : Thread Cert.RetOutDxRefIdeal.nD Cert.RetOutDxRefIdeal.τ).loc Cert.RetOutDxRefIdeal.main_v4) = v0 c
          ∧ r.2.mem ((c.tc : Thread Cert.RetOutDxRefIdeal.nD Cert.RetOutDxRefIdeal.τ).loc Cert.RetOutDxRefIdeal.main_arg0) = m' ((c.tc : Thread Cert.RetOutDxRefIdeal.nD Cert.RetOutDxRefIdeal.τ).loc Cert.RetOutDxRefIdeal.main_arg0)
          ∧ r.2.mem ((c.tc : Thread Cert.RetOutDxRefIdeal.nD Cert.RetOutDxRefIdeal.τ).loc Cert.RetOutDxRefIdeal.main_arg1) = m' ((c.tc : Thread Cert.RetOutDxRefIdeal.nD Cert.RetOutDxRefIdeal.τ).loc Cert.RetOutDxRefIdeal.main_arg1))

def preserves_RetIn_RetInIdeal : Prop :=
  True

def algebraic_RetInIdeal_RetInRefIdeal [hRetInIdeal : Cert.RetInIdeal.Facts] [hRetInRefIdeal : Cert.RetInRefIdeal.Facts] : Prop :=
  ∀ (m : (ℓ : Loc Cert.RetInIdeal.nD Cert.RetInIdeal.τ Cert.RetInIdeal.sig) → Buf (Elt Ideal) ℓ) (g : Dev Cert.RetInIdeal.nD → PrngReg)
    (m' : (ℓ : Loc Cert.RetInRefIdeal.nD Cert.RetInRefIdeal.τ Cert.RetInRefIdeal.sig) → Buf (Elt Ideal) ℓ) (g' : Dev Cert.RetInRefIdeal.nD → PrngReg), Pre_RetInIdeal m →
    (∀ c : Dev Cert.RetInIdeal.nD,
      m' ((c.tc : Thread Cert.RetInRefIdeal.nD Cert.RetInRefIdeal.τ).loc Cert.RetInRefIdeal.main_arg0) = m ((c.tc : Thread Cert.RetInIdeal.nD Cert.RetInIdeal.τ).loc Cert.RetInIdeal.main_arg0)
      ∧ m' ((c.tc : Thread Cert.RetInRefIdeal.nD Cert.RetInRefIdeal.τ).loc Cert.RetInRefIdeal.main_arg1) = m ((c.tc : Thread Cert.RetInIdeal.nD Cert.RetInIdeal.τ).loc Cert.RetInIdeal.main_arg1)) →
    ∃ (v0 : (c : Dev Cert.RetInIdeal.nD) → Buf (Elt Ideal) ((c.tc : Thread Cert.RetInIdeal.nD Cert.RetInIdeal.τ).loc Cert.RetInIdeal.main_v0)),
      θ_run (Cert.RetInIdeal.defs (F := Ideal)) (onTc (τ := Cert.RetInIdeal.τ) (Cert.RetInIdeal.main (F := Ideal))) ⟨m, fun _ => 0, g⟩ (fun r => ∀ c : Dev Cert.RetInIdeal.nD,
          r.2.mem ((c.tc : Thread Cert.RetInIdeal.nD Cert.RetInIdeal.τ).loc Cert.RetInIdeal.main_v0) = v0 c
          ∧ r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
          ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1))
      ∧ θ_run (Cert.RetInRefIdeal.defs (F := Ideal)) (onTc (τ := Cert.RetInRefIdeal.τ) (Cert.RetInRefIdeal.main (F := Ideal))) ⟨m', fun _ => 0, g'⟩ (fun r => ∀ c : Dev Cert.RetInRefIdeal.nD,
          r.2.mem ((c.tc : Thread Cert.RetInRefIdeal.nD Cert.RetInRefIdeal.τ).loc Cert.RetInRefIdeal.main_v2) = v0 c
          ∧ r.2.mem ((c.tc : Thread Cert.RetInRefIdeal.nD Cert.RetInRefIdeal.τ).loc Cert.RetInRefIdeal.main_arg0) = m' ((c.tc : Thread Cert.RetInRefIdeal.nD Cert.RetInRefIdeal.τ).loc Cert.RetInRefIdeal.main_arg0)
          ∧ r.2.mem ((c.tc : Thread Cert.RetInRefIdeal.nD Cert.RetInRefIdeal.τ).loc Cert.RetInRefIdeal.main_arg1) = m' ((c.tc : Thread Cert.RetInRefIdeal.nD Cert.RetInRefIdeal.τ).loc Cert.RetInRefIdeal.main_arg1))

def preserves_RetOut_RetOutIdeal : Prop :=
  True

def algebraic_RetOutIdeal_RetOutRefIdeal [hRetOutIdeal : Cert.RetOutIdeal.Facts] [hRetOutRefIdeal : Cert.RetOutRefIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutRefIdeal.nD Cert.RetOutRefIdeal.τ Cert.RetOutRefIdeal.sig) → Buf (Elt Ideal) ℓ) (g' : Dev Cert.RetOutRefIdeal.nD → PrngReg), Pre_RetOutIdeal m →
    (∀ c : Dev Cert.RetOutIdeal.nD,
      m' ((c.tc : Thread Cert.RetOutRefIdeal.nD Cert.RetOutRefIdeal.τ).loc Cert.RetOutRefIdeal.main_arg0) = m ((c.tc : Thread Cert.RetOutIdeal.nD Cert.RetOutIdeal.τ).loc Cert.RetOutIdeal.main_arg0)
      ∧ m' ((c.tc : Thread Cert.RetOutRefIdeal.nD Cert.RetOutRefIdeal.τ).loc Cert.RetOutRefIdeal.main_arg1) = m ((c.tc : Thread Cert.RetOutIdeal.nD Cert.RetOutIdeal.τ).loc Cert.RetOutIdeal.main_arg1)
      ∧ m' ((c.tc : Thread Cert.RetOutRefIdeal.nD Cert.RetOutRefIdeal.τ).loc Cert.RetOutRefIdeal.main_arg2) = m ((c.tc : Thread Cert.RetOutIdeal.nD Cert.RetOutIdeal.τ).loc Cert.RetOutIdeal.main_arg2)) →
    ∃ (v0 : (c : Dev Cert.RetOutIdeal.nD) → Buf (Elt Ideal) ((c.tc : Thread Cert.RetOutIdeal.nD Cert.RetOutIdeal.τ).loc Cert.RetOutIdeal.main_v0)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v0) = v0 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2))
      ∧ θ_run (Cert.RetOutRefIdeal.defs (F := Ideal)) (onTc (τ := Cert.RetOutRefIdeal.τ) (Cert.RetOutRefIdeal.main (F := Ideal))) ⟨m', fun _ => 0, g'⟩ (fun r => ∀ c : Dev Cert.RetOutRefIdeal.nD,
          r.2.mem ((c.tc : Thread Cert.RetOutRefIdeal.nD Cert.RetOutRefIdeal.τ).loc Cert.RetOutRefIdeal.main_v3) = v0 c
          ∧ r.2.mem ((c.tc : Thread Cert.RetOutRefIdeal.nD Cert.RetOutRefIdeal.τ).loc Cert.RetOutRefIdeal.main_arg0) = m' ((c.tc : Thread Cert.RetOutRefIdeal.nD Cert.RetOutRefIdeal.τ).loc Cert.RetOutRefIdeal.main_arg0)
          ∧ r.2.mem ((c.tc : Thread Cert.RetOutRefIdeal.nD Cert.RetOutRefIdeal.τ).loc Cert.RetOutRefIdeal.main_arg1) = m' ((c.tc : Thread Cert.RetOutRefIdeal.nD Cert.RetOutRefIdeal.τ).loc Cert.RetOutRefIdeal.main_arg1)
          ∧ r.2.mem ((c.tc : Thread Cert.RetOutRefIdeal.nD Cert.RetOutRefIdeal.τ).loc Cert.RetOutRefIdeal.main_arg2) = m' ((c.tc : Thread Cert.RetOutRefIdeal.nD Cert.RetOutRefIdeal.τ).loc Cert.RetOutRefIdeal.main_arg2))

def preserves_GdnInDx_GdnInDxIdeal : Prop :=
  True

def algebraic_GdnInDxIdeal_GdnInDxRefIdeal [hGdnInDxIdeal : Cert.GdnInDxIdeal.Facts] [hGdnInDxRefIdeal : Cert.GdnInDxRefIdeal.Facts] : Prop :=
  ∀ (m : (ℓ : Loc Cert.GdnInDxIdeal.nD Cert.GdnInDxIdeal.τ Cert.GdnInDxIdeal.sig) → Buf (Elt Ideal) ℓ) (g : Dev Cert.GdnInDxIdeal.nD → PrngReg)
    (m' : (ℓ : Loc Cert.GdnInDxRefIdeal.nD Cert.GdnInDxRefIdeal.τ Cert.GdnInDxRefIdeal.sig) → Buf (Elt Ideal) ℓ) (g' : Dev Cert.GdnInDxRefIdeal.nD → PrngReg), Pre_GdnInDxIdeal m →
    (∀ c : Dev Cert.GdnInDxIdeal.nD,
      m' ((c.tc : Thread Cert.GdnInDxRefIdeal.nD Cert.GdnInDxRefIdeal.τ).loc Cert.GdnInDxRefIdeal.main_arg0) = m ((c.tc : Thread Cert.GdnInDxIdeal.nD Cert.GdnInDxIdeal.τ).loc Cert.GdnInDxIdeal.main_arg0)
      ∧ m' ((c.tc : Thread Cert.GdnInDxRefIdeal.nD Cert.GdnInDxRefIdeal.τ).loc Cert.GdnInDxRefIdeal.main_arg1) = m ((c.tc : Thread Cert.GdnInDxIdeal.nD Cert.GdnInDxIdeal.τ).loc Cert.GdnInDxIdeal.main_arg1)) →
    ∃ (v0 : (c : Dev Cert.GdnInDxIdeal.nD) → Buf (Elt Ideal) ((c.tc : Thread Cert.GdnInDxIdeal.nD Cert.GdnInDxIdeal.τ).loc Cert.GdnInDxIdeal.main_v0)),
      θ_run (Cert.GdnInDxIdeal.defs (F := Ideal)) (onTc (τ := Cert.GdnInDxIdeal.τ) (Cert.GdnInDxIdeal.main (F := Ideal))) ⟨m, fun _ => 0, g⟩ (fun r => ∀ c : Dev Cert.GdnInDxIdeal.nD,
          r.2.mem ((c.tc : Thread Cert.GdnInDxIdeal.nD Cert.GdnInDxIdeal.τ).loc Cert.GdnInDxIdeal.main_v0) = v0 c
          ∧ r.2.mem ((c.tc : Thread Cert.GdnInDxIdeal.nD Cert.GdnInDxIdeal.τ).loc Cert.GdnInDxIdeal.main_arg0) = m ((c.tc : Thread Cert.GdnInDxIdeal.nD Cert.GdnInDxIdeal.τ).loc Cert.GdnInDxIdeal.main_arg0)
          ∧ r.2.mem ((c.tc : Thread Cert.GdnInDxIdeal.nD Cert.GdnInDxIdeal.τ).loc Cert.GdnInDxIdeal.main_arg1) = m ((c.tc : Thread Cert.GdnInDxIdeal.nD Cert.GdnInDxIdeal.τ).loc Cert.GdnInDxIdeal.main_arg1))
      ∧ θ_run (Cert.GdnInDxRefIdeal.defs (F := Ideal)) (onTc (τ := Cert.GdnInDxRefIdeal.τ) (Cert.GdnInDxRefIdeal.main (F := Ideal))) ⟨m', fun _ => 0, g'⟩ (fun r => ∀ c : Dev Cert.GdnInDxRefIdeal.nD,
          r.2.mem ((c.tc : Thread Cert.GdnInDxRefIdeal.nD Cert.GdnInDxRefIdeal.τ).loc Cert.GdnInDxRefIdeal.main_v5) = v0 c
          ∧ r.2.mem ((c.tc : Thread Cert.GdnInDxRefIdeal.nD Cert.GdnInDxRefIdeal.τ).loc Cert.GdnInDxRefIdeal.main_arg0) = m' ((c.tc : Thread Cert.GdnInDxRefIdeal.nD Cert.GdnInDxRefIdeal.τ).loc Cert.GdnInDxRefIdeal.main_arg0)
          ∧ r.2.mem ((c.tc : Thread Cert.GdnInDxRefIdeal.nD Cert.GdnInDxRefIdeal.τ).loc Cert.GdnInDxRefIdeal.main_arg1) = m' ((c.tc : Thread Cert.GdnInDxRefIdeal.nD Cert.GdnInDxRefIdeal.τ).loc Cert.GdnInDxRefIdeal.main_arg1))

def preserves_GdnIn_GdnInIdeal : Prop :=
  True

def algebraic_GdnInIdeal_GdnInRefIdeal [hGdnInIdeal : Cert.GdnInIdeal.Facts] [hGdnInRefIdeal : Cert.GdnInRefIdeal.Facts] : Prop :=
  ∀ (m : (ℓ : Loc Cert.GdnInIdeal.nD Cert.GdnInIdeal.τ Cert.GdnInIdeal.sig) → Buf (Elt Ideal) ℓ) (g : Dev Cert.GdnInIdeal.nD → PrngReg)
    (m' : (ℓ : Loc Cert.GdnInRefIdeal.nD Cert.GdnInRefIdeal.τ Cert.GdnInRefIdeal.sig) → Buf (Elt Ideal) ℓ) (g' : Dev Cert.GdnInRefIdeal.nD → PrngReg), Pre_GdnInIdeal m →
    (∀ c : Dev Cert.GdnInIdeal.nD,
      m' ((c.tc : Thread Cert.GdnInRefIdeal.nD Cert.GdnInRefIdeal.τ).loc Cert.GdnInRefIdeal.main_arg0) = m ((c.tc : Thread Cert.GdnInIdeal.nD Cert.GdnInIdeal.τ).loc Cert.GdnInIdeal.main_arg0)
      ∧ m' ((c.tc : Thread Cert.GdnInRefIdeal.nD Cert.GdnInRefIdeal.τ).loc Cert.GdnInRefIdeal.main_arg1) = m ((c.tc : Thread Cert.GdnInIdeal.nD Cert.GdnInIdeal.τ).loc Cert.GdnInIdeal.main_arg1)) →
    ∃ (v0 : (c : Dev Cert.GdnInIdeal.nD) → Buf (Elt Ideal) ((c.tc : Thread Cert.GdnInIdeal.nD Cert.GdnInIdeal.τ).loc Cert.GdnInIdeal.main_v0)),
      θ_run (Cert.GdnInIdeal.defs (F := Ideal)) (onTc (τ := Cert.GdnInIdeal.τ) (Cert.GdnInIdeal.main (F := Ideal))) ⟨m, fun _ => 0, g⟩ (fun r => ∀ c : Dev Cert.GdnInIdeal.nD,
          r.2.mem ((c.tc : Thread Cert.GdnInIdeal.nD Cert.GdnInIdeal.τ).loc Cert.GdnInIdeal.main_v0) = v0 c
          ∧ r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
          ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ θ_run (Cert.GdnInRefIdeal.defs (F := Ideal)) (onTc (τ := Cert.GdnInRefIdeal.τ) (Cert.GdnInRefIdeal.main (F := Ideal))) ⟨m', fun _ => 0, g'⟩ (fun r => ∀ c : Dev Cert.GdnInRefIdeal.nD,
          r.2.mem ((c.tc : Thread Cert.GdnInRefIdeal.nD Cert.GdnInRefIdeal.τ).loc Cert.GdnInRefIdeal.main_v3) = v0 c
          ∧ r.2.mem ((c.tc : Thread Cert.GdnInRefIdeal.nD Cert.GdnInRefIdeal.τ).loc Cert.GdnInRefIdeal.main_arg0) = m' ((c.tc : Thread Cert.GdnInRefIdeal.nD Cert.GdnInRefIdeal.τ).loc Cert.GdnInRefIdeal.main_arg0)
          ∧ r.2.mem ((c.tc : Thread Cert.GdnInRefIdeal.nD Cert.GdnInRefIdeal.τ).loc Cert.GdnInRefIdeal.main_arg1) = m' ((c.tc : Thread Cert.GdnInRefIdeal.nD Cert.GdnInRefIdeal.τ).loc Cert.GdnInRefIdeal.main_arg1))

def preserves_GlaInDw_GlaInDwIdeal : Prop :=
  True

def algebraic_GlaInDwIdeal_GlaInDwRefIdeal [hGlaInDwIdeal : Cert.GlaInDwIdeal.Facts] [hGlaInDwRefIdeal : Cert.GlaInDwRefIdeal.Facts] : Prop :=
  ∀ (m : (ℓ : Loc Cert.GlaInDwIdeal.nD Cert.GlaInDwIdeal.τ Cert.GlaInDwIdeal.sig) → Buf (Elt Ideal) ℓ) (g : Dev Cert.GlaInDwIdeal.nD → PrngReg)
    (m' : (ℓ : Loc Cert.GlaInDwRefIdeal.nD Cert.GlaInDwRefIdeal.τ Cert.GlaInDwRefIdeal.sig) → Buf (Elt Ideal) ℓ) (g' : Dev Cert.GlaInDwRefIdeal.nD → PrngReg), Pre_GlaInDwIdeal m →
    (∀ c : Dev Cert.GlaInDwIdeal.nD,
      m' ((c.tc : Thread Cert.GlaInDwRefIdeal.nD Cert.GlaInDwRefIdeal.τ).loc Cert.GlaInDwRefIdeal.main_arg0) = m ((c.tc : Thread Cert.GlaInDwIdeal.nD Cert.GlaInDwIdeal.τ).loc Cert.GlaInDwIdeal.main_arg0)
      ∧ m' ((c.tc : Thread Cert.GlaInDwRefIdeal.nD Cert.GlaInDwRefIdeal.τ).loc Cert.GlaInDwRefIdeal.main_arg1) = m ((c.tc : Thread Cert.GlaInDwIdeal.nD Cert.GlaInDwIdeal.τ).loc Cert.GlaInDwIdeal.main_arg1)) →
    ∃ (v0 : (c : Dev Cert.GlaInDwIdeal.nD) → Buf (Elt Ideal) ((c.tc : Thread Cert.GlaInDwIdeal.nD Cert.GlaInDwIdeal.τ).loc Cert.GlaInDwIdeal.main_v0)),
      θ_run (Cert.GlaInDwIdeal.defs (F := Ideal)) (onTc (τ := Cert.GlaInDwIdeal.τ) (Cert.GlaInDwIdeal.main (F := Ideal))) ⟨m, fun _ => 0, g⟩ (fun r => ∀ c : Dev Cert.GlaInDwIdeal.nD,
          r.2.mem ((c.tc : Thread Cert.GlaInDwIdeal.nD Cert.GlaInDwIdeal.τ).loc Cert.GlaInDwIdeal.main_v0) = v0 c
          ∧ r.2.mem ((c.tc : Thread Cert.GlaInDwIdeal.nD Cert.GlaInDwIdeal.τ).loc Cert.GlaInDwIdeal.main_arg0) = m ((c.tc : Thread Cert.GlaInDwIdeal.nD Cert.GlaInDwIdeal.τ).loc Cert.GlaInDwIdeal.main_arg0)
          ∧ r.2.mem ((c.tc : Thread Cert.GlaInDwIdeal.nD Cert.GlaInDwIdeal.τ).loc Cert.GlaInDwIdeal.main_arg1) = m ((c.tc : Thread Cert.GlaInDwIdeal.nD Cert.GlaInDwIdeal.τ).loc Cert.GlaInDwIdeal.main_arg1))
      ∧ θ_run (Cert.GlaInDwRefIdeal.defs (F := Ideal)) (onTc (τ := Cert.GlaInDwRefIdeal.τ) (Cert.GlaInDwRefIdeal.main (F := Ideal))) ⟨m', fun _ => 0, g'⟩ (fun r => ∀ c : Dev Cert.GlaInDwRefIdeal.nD,
          r.2.mem ((c.tc : Thread Cert.GlaInDwRefIdeal.nD Cert.GlaInDwRefIdeal.τ).loc Cert.GlaInDwRefIdeal.main_v6) = v0 c
          ∧ r.2.mem ((c.tc : Thread Cert.GlaInDwRefIdeal.nD Cert.GlaInDwRefIdeal.τ).loc Cert.GlaInDwRefIdeal.main_arg0) = m' ((c.tc : Thread Cert.GlaInDwRefIdeal.nD Cert.GlaInDwRefIdeal.τ).loc Cert.GlaInDwRefIdeal.main_arg0)
          ∧ r.2.mem ((c.tc : Thread Cert.GlaInDwRefIdeal.nD Cert.GlaInDwRefIdeal.τ).loc Cert.GlaInDwRefIdeal.main_arg1) = m' ((c.tc : Thread Cert.GlaInDwRefIdeal.nD Cert.GlaInDwRefIdeal.τ).loc Cert.GlaInDwRefIdeal.main_arg1))

def preserves_GlaInDx_GlaInDxIdeal : Prop :=
  True

def algebraic_GlaInDxIdeal_GlaInDxRefIdeal [hGlaInDxIdeal : Cert.GlaInDxIdeal.Facts] [hGlaInDxRefIdeal : Cert.GlaInDxRefIdeal.Facts] : Prop :=
  ∀ (m : (ℓ : Loc Cert.GlaInDxIdeal.nD Cert.GlaInDxIdeal.τ Cert.GlaInDxIdeal.sig) → Buf (Elt Ideal) ℓ) (g : Dev Cert.GlaInDxIdeal.nD → PrngReg)
    (m' : (ℓ : Loc Cert.GlaInDxRefIdeal.nD Cert.GlaInDxRefIdeal.τ Cert.GlaInDxRefIdeal.sig) → Buf (Elt Ideal) ℓ) (g' : Dev Cert.GlaInDxRefIdeal.nD → PrngReg), Pre_GlaInDxIdeal m →
    (∀ c : Dev Cert.GlaInDxIdeal.nD,
      m' ((c.tc : Thread Cert.GlaInDxRefIdeal.nD Cert.GlaInDxRefIdeal.τ).loc Cert.GlaInDxRefIdeal.main_arg0) = m ((c.tc : Thread Cert.GlaInDxIdeal.nD Cert.GlaInDxIdeal.τ).loc Cert.GlaInDxIdeal.main_arg0)
      ∧ m' ((c.tc : Thread Cert.GlaInDxRefIdeal.nD Cert.GlaInDxRefIdeal.τ).loc Cert.GlaInDxRefIdeal.main_arg1) = m ((c.tc : Thread Cert.GlaInDxIdeal.nD Cert.GlaInDxIdeal.τ).loc Cert.GlaInDxIdeal.main_arg1)) →
    ∃ (v0 : (c : Dev Cert.GlaInDxIdeal.nD) → Buf (Elt Ideal) ((c.tc : Thread Cert.GlaInDxIdeal.nD Cert.GlaInDxIdeal.τ).loc Cert.GlaInDxIdeal.main_v0)),
      θ_run (Cert.GlaInDxIdeal.defs (F := Ideal)) (onTc (τ := Cert.GlaInDxIdeal.τ) (Cert.GlaInDxIdeal.main (F := Ideal))) ⟨m, fun _ => 0, g⟩ (fun r => ∀ c : Dev Cert.GlaInDxIdeal.nD,
          r.2.mem ((c.tc : Thread Cert.GlaInDxIdeal.nD Cert.GlaInDxIdeal.τ).loc Cert.GlaInDxIdeal.main_v0) = v0 c
          ∧ r.2.mem ((c.tc : Thread Cert.GlaInDxIdeal.nD Cert.GlaInDxIdeal.τ).loc Cert.GlaInDxIdeal.main_arg0) = m ((c.tc : Thread Cert.GlaInDxIdeal.nD Cert.GlaInDxIdeal.τ).loc Cert.GlaInDxIdeal.main_arg0)
          ∧ r.2.mem ((c.tc : Thread Cert.GlaInDxIdeal.nD Cert.GlaInDxIdeal.τ).loc Cert.GlaInDxIdeal.main_arg1) = m ((c.tc : Thread Cert.GlaInDxIdeal.nD Cert.GlaInDxIdeal.τ).loc Cert.GlaInDxIdeal.main_arg1))
      ∧ θ_run (Cert.GlaInDxRefIdeal.defs (F := Ideal)) (onTc (τ := Cert.GlaInDxRefIdeal.τ) (Cert.GlaInDxRefIdeal.main (F := Ideal))) ⟨m', fun _ => 0, g'⟩ (fun r => ∀ c : Dev Cert.GlaInDxRefIdeal.nD,
          r.2.mem ((c.tc : Thread Cert.GlaInDxRefIdeal.nD Cert.GlaInDxRefIdeal.τ).loc Cert.GlaInDxRefIdeal.main_v5) = v0 c
          ∧ r.2.mem ((c.tc : Thread Cert.GlaInDxRefIdeal.nD Cert.GlaInDxRefIdeal.τ).loc Cert.GlaInDxRefIdeal.main_arg0) = m' ((c.tc : Thread Cert.GlaInDxRefIdeal.nD Cert.GlaInDxRefIdeal.τ).loc Cert.GlaInDxRefIdeal.main_arg0)
          ∧ r.2.mem ((c.tc : Thread Cert.GlaInDxRefIdeal.nD Cert.GlaInDxRefIdeal.τ).loc Cert.GlaInDxRefIdeal.main_arg1) = m' ((c.tc : Thread Cert.GlaInDxRefIdeal.nD Cert.GlaInDxRefIdeal.τ).loc Cert.GlaInDxRefIdeal.main_arg1))

def preserves_GlaIn_GlaInIdeal : Prop :=
  True

def algebraic_GlaInIdeal_GlaInRefIdeal [hGlaInIdeal : Cert.GlaInIdeal.Facts] [hGlaInRefIdeal : Cert.GlaInRefIdeal.Facts] : Prop :=
  ∀ (m : (ℓ : Loc Cert.GlaInIdeal.nD Cert.GlaInIdeal.τ Cert.GlaInIdeal.sig) → Buf (Elt Ideal) ℓ) (g : Dev Cert.GlaInIdeal.nD → PrngReg)
    (m' : (ℓ : Loc Cert.GlaInRefIdeal.nD Cert.GlaInRefIdeal.τ Cert.GlaInRefIdeal.sig) → Buf (Elt Ideal) ℓ) (g' : Dev Cert.GlaInRefIdeal.nD → PrngReg), Pre_GlaInIdeal m →
    (∀ c : Dev Cert.GlaInIdeal.nD,
      m' ((c.tc : Thread Cert.GlaInRefIdeal.nD Cert.GlaInRefIdeal.τ).loc Cert.GlaInRefIdeal.main_arg0) = m ((c.tc : Thread Cert.GlaInIdeal.nD Cert.GlaInIdeal.τ).loc Cert.GlaInIdeal.main_arg0)
      ∧ m' ((c.tc : Thread Cert.GlaInRefIdeal.nD Cert.GlaInRefIdeal.τ).loc Cert.GlaInRefIdeal.main_arg1) = m ((c.tc : Thread Cert.GlaInIdeal.nD Cert.GlaInIdeal.τ).loc Cert.GlaInIdeal.main_arg1)) →
    ∃ (v0 : (c : Dev Cert.GlaInIdeal.nD) → Buf (Elt Ideal) ((c.tc : Thread Cert.GlaInIdeal.nD Cert.GlaInIdeal.τ).loc Cert.GlaInIdeal.main_v0)),
      θ_run (Cert.GlaInIdeal.defs (F := Ideal)) (onTc (τ := Cert.GlaInIdeal.τ) (Cert.GlaInIdeal.main (F := Ideal))) ⟨m, fun _ => 0, g⟩ (fun r => ∀ c : Dev Cert.GlaInIdeal.nD,
          r.2.mem ((c.tc : Thread Cert.GlaInIdeal.nD Cert.GlaInIdeal.τ).loc Cert.GlaInIdeal.main_v0) = v0 c
          ∧ r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
          ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1))
      ∧ θ_run (Cert.GlaInRefIdeal.defs (F := Ideal)) (onTc (τ := Cert.GlaInRefIdeal.τ) (Cert.GlaInRefIdeal.main (F := Ideal))) ⟨m', fun _ => 0, g'⟩ (fun r => ∀ c : Dev Cert.GlaInRefIdeal.nD,
          r.2.mem ((c.tc : Thread Cert.GlaInRefIdeal.nD Cert.GlaInRefIdeal.τ).loc Cert.GlaInRefIdeal.main_v3) = v0 c
          ∧ r.2.mem ((c.tc : Thread Cert.GlaInRefIdeal.nD Cert.GlaInRefIdeal.τ).loc Cert.GlaInRefIdeal.main_arg0) = m' ((c.tc : Thread Cert.GlaInRefIdeal.nD Cert.GlaInRefIdeal.τ).loc Cert.GlaInRefIdeal.main_arg0)
          ∧ r.2.mem ((c.tc : Thread Cert.GlaInRefIdeal.nD Cert.GlaInRefIdeal.τ).loc Cert.GlaInRefIdeal.main_arg1) = m' ((c.tc : Thread Cert.GlaInRefIdeal.nD Cert.GlaInRefIdeal.τ).loc Cert.GlaInRefIdeal.main_arg1))

def preserves_LruInDw_LruInDwIdeal : Prop :=
  True

def algebraic_LruInDwIdeal_LruInDwRefIdeal [hLruInDwIdeal : Cert.LruInDwIdeal.Facts] [hLruInDwRefIdeal : Cert.LruInDwRefIdeal.Facts] : Prop :=
  ∀ (m : (ℓ : Loc Cert.LruInDwIdeal.nD Cert.LruInDwIdeal.τ Cert.LruInDwIdeal.sig) → Buf (Elt Ideal) ℓ) (g : Dev Cert.LruInDwIdeal.nD → PrngReg)
    (m' : (ℓ : Loc Cert.LruInDwRefIdeal.nD Cert.LruInDwRefIdeal.τ Cert.LruInDwRefIdeal.sig) → Buf (Elt Ideal) ℓ) (g' : Dev Cert.LruInDwRefIdeal.nD → PrngReg), Pre_LruInDwIdeal m →
    (∀ c : Dev Cert.LruInDwIdeal.nD,
      m' ((c.tc : Thread Cert.LruInDwRefIdeal.nD Cert.LruInDwRefIdeal.τ).loc Cert.LruInDwRefIdeal.main_arg0) = m ((c.tc : Thread Cert.LruInDwIdeal.nD Cert.LruInDwIdeal.τ).loc Cert.LruInDwIdeal.main_arg0)
      ∧ m' ((c.tc : Thread Cert.LruInDwRefIdeal.nD Cert.LruInDwRefIdeal.τ).loc Cert.LruInDwRefIdeal.main_arg1) = m ((c.tc : Thread Cert.LruInDwIdeal.nD Cert.LruInDwIdeal.τ).loc Cert.LruInDwIdeal.main_arg1)) →
    ∃ (v0 : (c : Dev Cert.LruInDwIdeal.nD) → Buf (Elt Ideal) ((c.tc : Thread Cert.LruInDwIdeal.nD Cert.LruInDwIdeal.τ).loc Cert.LruInDwIdeal.main_v0)),
      θ_run (Cert.LruInDwIdeal.defs (F := Ideal)) (onTc (τ := Cert.LruInDwIdeal.τ) (Cert.LruInDwIdeal.main (F := Ideal))) ⟨m, fun _ => 0, g⟩ (fun r => ∀ c : Dev Cert.LruInDwIdeal.nD,
          r.2.mem ((c.tc : Thread Cert.LruInDwIdeal.nD Cert.LruInDwIdeal.τ).loc Cert.LruInDwIdeal.main_v0) = v0 c
          ∧ r.2.mem ((c.tc : Thread Cert.LruInDwIdeal.nD Cert.LruInDwIdeal.τ).loc Cert.LruInDwIdeal.main_arg0) = m ((c.tc : Thread Cert.LruInDwIdeal.nD Cert.LruInDwIdeal.τ).loc Cert.LruInDwIdeal.main_arg0)
          ∧ r.2.mem ((c.tc : Thread Cert.LruInDwIdeal.nD Cert.LruInDwIdeal.τ).loc Cert.LruInDwIdeal.main_arg1) = m ((c.tc : Thread Cert.LruInDwIdeal.nD Cert.LruInDwIdeal.τ).loc Cert.LruInDwIdeal.main_arg1))
      ∧ θ_run (Cert.LruInDwRefIdeal.defs (F := Ideal)) (onTc (τ := Cert.LruInDwRefIdeal.τ) (Cert.LruInDwRefIdeal.main (F := Ideal))) ⟨m', fun _ => 0, g'⟩ (fun r => ∀ c : Dev Cert.LruInDwRefIdeal.nD,
          r.2.mem ((c.tc : Thread Cert.LruInDwRefIdeal.nD Cert.LruInDwRefIdeal.τ).loc Cert.LruInDwRefIdeal.main_v6) = v0 c
          ∧ r.2.mem ((c.tc : Thread Cert.LruInDwRefIdeal.nD Cert.LruInDwRefIdeal.τ).loc Cert.LruInDwRefIdeal.main_arg0) = m' ((c.tc : Thread Cert.LruInDwRefIdeal.nD Cert.LruInDwRefIdeal.τ).loc Cert.LruInDwRefIdeal.main_arg0)
          ∧ r.2.mem ((c.tc : Thread Cert.LruInDwRefIdeal.nD Cert.LruInDwRefIdeal.τ).loc Cert.LruInDwRefIdeal.main_arg1) = m' ((c.tc : Thread Cert.LruInDwRefIdeal.nD Cert.LruInDwRefIdeal.τ).loc Cert.LruInDwRefIdeal.main_arg1))

def preserves_LruInDx_LruInDxIdeal : Prop :=
  True

def algebraic_LruInDxIdeal_LruInDxRefIdeal [hLruInDxIdeal : Cert.LruInDxIdeal.Facts] [hLruInDxRefIdeal : Cert.LruInDxRefIdeal.Facts] : Prop :=
  ∀ (m : (ℓ : Loc Cert.LruInDxIdeal.nD Cert.LruInDxIdeal.τ Cert.LruInDxIdeal.sig) → Buf (Elt Ideal) ℓ) (g : Dev Cert.LruInDxIdeal.nD → PrngReg)
    (m' : (ℓ : Loc Cert.LruInDxRefIdeal.nD Cert.LruInDxRefIdeal.τ Cert.LruInDxRefIdeal.sig) → Buf (Elt Ideal) ℓ) (g' : Dev Cert.LruInDxRefIdeal.nD → PrngReg), Pre_LruInDxIdeal m →
    (∀ c : Dev Cert.LruInDxIdeal.nD,
      m' ((c.tc : Thread Cert.LruInDxRefIdeal.nD Cert.LruInDxRefIdeal.τ).loc Cert.LruInDxRefIdeal.main_arg0) = m ((c.tc : Thread Cert.LruInDxIdeal.nD Cert.LruInDxIdeal.τ).loc Cert.LruInDxIdeal.main_arg0)
      ∧ m' ((c.tc : Thread Cert.LruInDxRefIdeal.nD Cert.LruInDxRefIdeal.τ).loc Cert.LruInDxRefIdeal.main_arg1) = m ((c.tc : Thread Cert.LruInDxIdeal.nD Cert.LruInDxIdeal.τ).loc Cert.LruInDxIdeal.main_arg1)) →
    ∃ (v0 : (c : Dev Cert.LruInDxIdeal.nD) → Buf (Elt Ideal) ((c.tc : Thread Cert.LruInDxIdeal.nD Cert.LruInDxIdeal.τ).loc Cert.LruInDxIdeal.main_v0)),
      θ_run (Cert.LruInDxIdeal.defs (F := Ideal)) (onTc (τ := Cert.LruInDxIdeal.τ) (Cert.LruInDxIdeal.main (F := Ideal))) ⟨m, fun _ => 0, g⟩ (fun r => ∀ c : Dev Cert.LruInDxIdeal.nD,
          r.2.mem ((c.tc : Thread Cert.LruInDxIdeal.nD Cert.LruInDxIdeal.τ).loc Cert.LruInDxIdeal.main_v0) = v0 c
          ∧ r.2.mem ((c.tc : Thread Cert.LruInDxIdeal.nD Cert.LruInDxIdeal.τ).loc Cert.LruInDxIdeal.main_arg0) = m ((c.tc : Thread Cert.LruInDxIdeal.nD Cert.LruInDxIdeal.τ).loc Cert.LruInDxIdeal.main_arg0)
          ∧ r.2.mem ((c.tc : Thread Cert.LruInDxIdeal.nD Cert.LruInDxIdeal.τ).loc Cert.LruInDxIdeal.main_arg1) = m ((c.tc : Thread Cert.LruInDxIdeal.nD Cert.LruInDxIdeal.τ).loc Cert.LruInDxIdeal.main_arg1))
      ∧ θ_run (Cert.LruInDxRefIdeal.defs (F := Ideal)) (onTc (τ := Cert.LruInDxRefIdeal.τ) (Cert.LruInDxRefIdeal.main (F := Ideal))) ⟨m', fun _ => 0, g'⟩ (fun r => ∀ c : Dev Cert.LruInDxRefIdeal.nD,
          r.2.mem ((c.tc : Thread Cert.LruInDxRefIdeal.nD Cert.LruInDxRefIdeal.τ).loc Cert.LruInDxRefIdeal.main_v4) = v0 c
          ∧ r.2.mem ((c.tc : Thread Cert.LruInDxRefIdeal.nD Cert.LruInDxRefIdeal.τ).loc Cert.LruInDxRefIdeal.main_arg0) = m' ((c.tc : Thread Cert.LruInDxRefIdeal.nD Cert.LruInDxRefIdeal.τ).loc Cert.LruInDxRefIdeal.main_arg0)
          ∧ r.2.mem ((c.tc : Thread Cert.LruInDxRefIdeal.nD Cert.LruInDxRefIdeal.τ).loc Cert.LruInDxRefIdeal.main_arg1) = m' ((c.tc : Thread Cert.LruInDxRefIdeal.nD Cert.LruInDxRefIdeal.τ).loc Cert.LruInDxRefIdeal.main_arg1))

def preserves_LruIn_LruInIdeal : Prop :=
  True

def algebraic_LruInIdeal_LruInRefIdeal [hLruInIdeal : Cert.LruInIdeal.Facts] [hLruInRefIdeal : Cert.LruInRefIdeal.Facts] : Prop :=
  ∀ (m : (ℓ : Loc Cert.LruInIdeal.nD Cert.LruInIdeal.τ Cert.LruInIdeal.sig) → Buf (Elt Ideal) ℓ) (g : Dev Cert.LruInIdeal.nD → PrngReg)
    (m' : (ℓ : Loc Cert.LruInRefIdeal.nD Cert.LruInRefIdeal.τ Cert.LruInRefIdeal.sig) → Buf (Elt Ideal) ℓ) (g' : Dev Cert.LruInRefIdeal.nD → PrngReg), Pre_LruInIdeal m →
    (∀ c : Dev Cert.LruInIdeal.nD,
      m' ((c.tc : Thread Cert.LruInRefIdeal.nD Cert.LruInRefIdeal.τ).loc Cert.LruInRefIdeal.main_arg0) = m ((c.tc : Thread Cert.LruInIdeal.nD Cert.LruInIdeal.τ).loc Cert.LruInIdeal.main_arg0)
      ∧ m' ((c.tc : Thread Cert.LruInRefIdeal.nD Cert.LruInRefIdeal.τ).loc Cert.LruInRefIdeal.main_arg1) = m ((c.tc : Thread Cert.LruInIdeal.nD Cert.LruInIdeal.τ).loc Cert.LruInIdeal.main_arg1)) →
    ∃ (v0 : (c : Dev Cert.LruInIdeal.nD) → Buf (Elt Ideal) ((c.tc : Thread Cert.LruInIdeal.nD Cert.LruInIdeal.τ).loc Cert.LruInIdeal.main_v0)),
      θ_run (Cert.LruInIdeal.defs (F := Ideal)) (onTc (τ := Cert.LruInIdeal.τ) (Cert.LruInIdeal.main (F := Ideal))) ⟨m, fun _ => 0, g⟩ (fun r => ∀ c : Dev Cert.LruInIdeal.nD,
          r.2.mem ((c.tc : Thread Cert.LruInIdeal.nD Cert.LruInIdeal.τ).loc Cert.LruInIdeal.main_v0) = v0 c
          ∧ r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
          ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ θ_run (Cert.LruInRefIdeal.defs (F := Ideal)) (onTc (τ := Cert.LruInRefIdeal.τ) (Cert.LruInRefIdeal.main (F := Ideal))) ⟨m', fun _ => 0, g'⟩ (fun r => ∀ c : Dev Cert.LruInRefIdeal.nD,
          r.2.mem ((c.tc : Thread Cert.LruInRefIdeal.nD Cert.LruInRefIdeal.τ).loc Cert.LruInRefIdeal.main_v2) = v0 c
          ∧ r.2.mem ((c.tc : Thread Cert.LruInRefIdeal.nD Cert.LruInRefIdeal.τ).loc Cert.LruInRefIdeal.main_arg0) = m' ((c.tc : Thread Cert.LruInRefIdeal.nD Cert.LruInRefIdeal.τ).loc Cert.LruInRefIdeal.main_arg0)
          ∧ r.2.mem ((c.tc : Thread Cert.LruInRefIdeal.nD Cert.LruInRefIdeal.τ).loc Cert.LruInRefIdeal.main_arg1) = m' ((c.tc : Thread Cert.LruInRefIdeal.nD Cert.LruInRefIdeal.τ).loc Cert.LruInRefIdeal.main_arg1))

def preserves_MixOutDw_MixOutDwIdeal : Prop :=
  True

def algebraic_MixOutDwIdeal_MixOutDwRefIdeal [hMixOutDwIdeal : Cert.MixOutDwIdeal.Facts] [hMixOutDwRefIdeal : Cert.MixOutDwRefIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg)
    (m' : (ℓ : Loc Cert.MixOutDwRefIdeal.nD Cert.MixOutDwRefIdeal.τ Cert.MixOutDwRefIdeal.sig) → Buf (Elt Ideal) ℓ) (g' : Dev Cert.MixOutDwRefIdeal.nD → PrngReg), Pre_MixOutDwIdeal m →
    (∀ c : Dev Cert.MixOutDwIdeal.nD,
      m' ((c.tc : Thread Cert.MixOutDwRefIdeal.nD Cert.MixOutDwRefIdeal.τ).loc Cert.MixOutDwRefIdeal.main_arg0) = m ((c.tc : Thread Cert.MixOutDwIdeal.nD Cert.MixOutDwIdeal.τ).loc Cert.MixOutDwIdeal.main_arg0)
      ∧ m' ((c.tc : Thread Cert.MixOutDwRefIdeal.nD Cert.MixOutDwRefIdeal.τ).loc Cert.MixOutDwRefIdeal.main_arg1) = m ((c.tc : Thread Cert.MixOutDwIdeal.nD Cert.MixOutDwIdeal.τ).loc Cert.MixOutDwIdeal.main_arg1)) →
    ∃ (v0 : (c : Dev Cert.MixOutDwIdeal.nD) → Buf (Elt Ideal) ((c.tc : Thread Cert.MixOutDwIdeal.nD Cert.MixOutDwIdeal.τ).loc Cert.MixOutDwIdeal.main_v0)),
      θ_run (Cert.MixOutDwIdeal.defs (F := Ideal)) (onTc (τ := Cert.MixOutDwIdeal.τ) (Cert.MixOutDwIdeal.main (F := Ideal))) ⟨m, fun _ => 0, g⟩ (fun r => ∀ c : Dev Cert.MixOutDwIdeal.nD,
          r.2.mem ((c.tc : Thread Cert.MixOutDwIdeal.nD Cert.MixOutDwIdeal.τ).loc Cert.MixOutDwIdeal.main_v0) = v0 c
          ∧ r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
          ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ θ_run (Cert.MixOutDwRefIdeal.defs (F := Ideal)) (onTc (τ := Cert.MixOutDwRefIdeal.τ) (Cert.MixOutDwRefIdeal.main (F := Ideal))) ⟨m', fun _ => 0, g'⟩ (fun r => ∀ c : Dev Cert.MixOutDwRefIdeal.nD,
          r.2.mem ((c.tc : Thread Cert.MixOutDwRefIdeal.nD Cert.MixOutDwRefIdeal.τ).loc Cert.MixOutDwRefIdeal.main_v6) = v0 c
          ∧ r.2.mem ((c.tc : Thread Cert.MixOutDwRefIdeal.nD Cert.MixOutDwRefIdeal.τ).loc Cert.MixOutDwRefIdeal.main_arg0) = m' ((c.tc : Thread Cert.MixOutDwRefIdeal.nD Cert.MixOutDwRefIdeal.τ).loc Cert.MixOutDwRefIdeal.main_arg0)
          ∧ r.2.mem ((c.tc : Thread Cert.MixOutDwRefIdeal.nD Cert.MixOutDwRefIdeal.τ).loc Cert.MixOutDwRefIdeal.main_arg1) = m' ((c.tc : Thread Cert.MixOutDwRefIdeal.nD Cert.MixOutDwRefIdeal.τ).loc Cert.MixOutDwRefIdeal.main_arg1))

def preserves_MixOutDx_MixOutDxIdeal : Prop :=
  True

def algebraic_MixOutDxIdeal_MixOutDxRefIdeal [hMixOutDxIdeal : Cert.MixOutDxIdeal.Facts] [hMixOutDxRefIdeal : Cert.MixOutDxRefIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxRefIdeal.nD Cert.MixOutDxRefIdeal.τ Cert.MixOutDxRefIdeal.sig) → Buf (Elt Ideal) ℓ) (g' : Dev Cert.MixOutDxRefIdeal.nD → PrngReg), Pre_MixOutDxIdeal m →
    (∀ c : Dev Cert.MixOutDxIdeal.nD,
      m' ((c.tc : Thread Cert.MixOutDxRefIdeal.nD Cert.MixOutDxRefIdeal.τ).loc Cert.MixOutDxRefIdeal.main_arg0) = m ((c.tc : Thread Cert.MixOutDxIdeal.nD Cert.MixOutDxIdeal.τ).loc Cert.MixOutDxIdeal.main_arg0)
      ∧ m' ((c.tc : Thread Cert.MixOutDxRefIdeal.nD Cert.MixOutDxRefIdeal.τ).loc Cert.MixOutDxRefIdeal.main_arg1) = m ((c.tc : Thread Cert.MixOutDxIdeal.nD Cert.MixOutDxIdeal.τ).loc Cert.MixOutDxIdeal.main_arg1)) →
    ∃ (v0 : (c : Dev Cert.MixOutDxIdeal.nD) → Buf (Elt Ideal) ((c.tc : Thread Cert.MixOutDxIdeal.nD Cert.MixOutDxIdeal.τ).loc Cert.MixOutDxIdeal.main_v0)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v0) = v0 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ θ_run (Cert.MixOutDxRefIdeal.defs (F := Ideal)) (onTc (τ := Cert.MixOutDxRefIdeal.τ) (Cert.MixOutDxRefIdeal.main (F := Ideal))) ⟨m', fun _ => 0, g'⟩ (fun r => ∀ c : Dev Cert.MixOutDxRefIdeal.nD,
          r.2.mem ((c.tc : Thread Cert.MixOutDxRefIdeal.nD Cert.MixOutDxRefIdeal.τ).loc Cert.MixOutDxRefIdeal.main_v4) = v0 c
          ∧ r.2.mem ((c.tc : Thread Cert.MixOutDxRefIdeal.nD Cert.MixOutDxRefIdeal.τ).loc Cert.MixOutDxRefIdeal.main_arg0) = m' ((c.tc : Thread Cert.MixOutDxRefIdeal.nD Cert.MixOutDxRefIdeal.τ).loc Cert.MixOutDxRefIdeal.main_arg0)
          ∧ r.2.mem ((c.tc : Thread Cert.MixOutDxRefIdeal.nD Cert.MixOutDxRefIdeal.τ).loc Cert.MixOutDxRefIdeal.main_arg1) = m' ((c.tc : Thread Cert.MixOutDxRefIdeal.nD Cert.MixOutDxRefIdeal.τ).loc Cert.MixOutDxRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_v18) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)) (v3 : (c : Dev Cert.AdamWIdeal.nD) → Buf (Elt Ideal) ((c.tc : Thread Cert.AdamWIdeal.nD Cert.AdamWIdeal.τ).loc Cert.AdamWIdeal.main_v0_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_v0_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_arg3) = v0 c
          ∧ r.2.mem ((c.tc : Thread Cert.AdamWRefIdeal.nD Cert.AdamWRefIdeal.τ).loc Cert.AdamWRefIdeal.main_v23) = v1 c
          ∧ r.2.mem ((c.tc : Thread Cert.AdamWRefIdeal.nD Cert.AdamWRefIdeal.τ).loc Cert.AdamWRefIdeal.main_v4) = v2 c
          ∧ r.2.mem ((c.tc : Thread Cert.AdamWRefIdeal.nD Cert.AdamWRefIdeal.τ).loc Cert.AdamWRefIdeal.main_v10) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_AdamWSmall_AdamWSmallIdeal : Prop :=
  True

def algebraic_AdamWSmallIdeal_AdamWSmallRefIdeal [hAdamWSmallIdeal : Cert.AdamWSmallIdeal.Facts] [hAdamWSmallRefIdeal : Cert.AdamWSmallRefIdeal.Facts] : Prop :=
  ∀ (m : (ℓ : Loc Cert.AdamWSmallIdeal.nD Cert.AdamWSmallIdeal.τ Cert.AdamWSmallIdeal.sig) → Buf (Elt Ideal) ℓ) (g : Dev Cert.AdamWSmallIdeal.nD → PrngReg)
    (m' : (ℓ : Loc Cert.AdamWSmallRefIdeal.nD Cert.AdamWSmallRefIdeal.τ Cert.AdamWSmallRefIdeal.sig) → Buf (Elt Ideal) ℓ) (g' : Dev Cert.AdamWSmallRefIdeal.nD → PrngReg), Pre_AdamWSmallIdeal m →
    (∀ c : Dev Cert.AdamWSmallIdeal.nD,
      m' ((c.tc : Thread Cert.AdamWSmallRefIdeal.nD Cert.AdamWSmallRefIdeal.τ).loc Cert.AdamWSmallRefIdeal.main_arg0) = m ((c.tc : Thread Cert.AdamWSmallIdeal.nD Cert.AdamWSmallIdeal.τ).loc Cert.AdamWSmallIdeal.main_arg0)
      ∧ m' ((c.tc : Thread Cert.AdamWSmallRefIdeal.nD Cert.AdamWSmallRefIdeal.τ).loc Cert.AdamWSmallRefIdeal.main_arg1) = m ((c.tc : Thread Cert.AdamWSmallIdeal.nD Cert.AdamWSmallIdeal.τ).loc Cert.AdamWSmallIdeal.main_arg1)
      ∧ m' ((c.tc : Thread Cert.AdamWSmallRefIdeal.nD Cert.AdamWSmallRefIdeal.τ).loc Cert.AdamWSmallRefIdeal.main_arg2) = m ((c.tc : Thread Cert.AdamWSmallIdeal.nD Cert.AdamWSmallIdeal.τ).loc Cert.AdamWSmallIdeal.main_arg2)
      ∧ m' ((c.tc : Thread Cert.AdamWSmallRefIdeal.nD Cert.AdamWSmallRefIdeal.τ).loc Cert.AdamWSmallRefIdeal.main_arg3) = m ((c.tc : Thread Cert.AdamWSmallIdeal.nD Cert.AdamWSmallIdeal.τ).loc Cert.AdamWSmallIdeal.main_arg3)) →
    ∃ (v0 : (c : Dev Cert.AdamWSmallIdeal.nD) → Buf (Elt Ideal) ((c.tc : Thread Cert.AdamWSmallIdeal.nD Cert.AdamWSmallIdeal.τ).loc Cert.AdamWSmallIdeal.main_v0_0)) (v1 : (c : Dev Cert.AdamWSmallIdeal.nD) → Buf (Elt Ideal) ((c.tc : Thread Cert.AdamWSmallIdeal.nD Cert.AdamWSmallIdeal.τ).loc Cert.AdamWSmallIdeal.main_v0_1)) (v2 : (c : Dev Cert.AdamWSmallIdeal.nD) → Buf (Elt Ideal) ((c.tc : Thread Cert.AdamWSmallIdeal.nD Cert.AdamWSmallIdeal.τ).loc Cert.AdamWSmallIdeal.main_v0_2)) (v3 : (c : Dev Cert.AdamWSmallIdeal.nD) → Buf (Elt Ideal) ((c.tc : Thread Cert.AdamWSmallIdeal.nD Cert.AdamWSmallIdeal.τ).loc Cert.AdamWSmallIdeal.main_v0_3)),
      θ_run (Cert.AdamWSmallIdeal.defs (F := Ideal)) (onTc (τ := Cert.AdamWSmallIdeal.τ) (Cert.AdamWSmallIdeal.main (F := Ideal))) ⟨m, fun _ => 0, g⟩ (fun r => ∀ c : Dev Cert.AdamWSmallIdeal.nD,
          r.2.mem ((c.tc : Thread Cert.AdamWSmallIdeal.nD Cert.AdamWSmallIdeal.τ).loc Cert.AdamWSmallIdeal.main_v0_0) = v0 c
          ∧ r.2.mem ((c.tc : Thread Cert.AdamWSmallIdeal.nD Cert.AdamWSmallIdeal.τ).loc Cert.AdamWSmallIdeal.main_v0_1) = v1 c
          ∧ r.2.mem ((c.tc : Thread Cert.AdamWSmallIdeal.nD Cert.AdamWSmallIdeal.τ).loc Cert.AdamWSmallIdeal.main_v0_2) = v2 c
          ∧ r.2.mem ((c.tc : Thread Cert.AdamWSmallIdeal.nD Cert.AdamWSmallIdeal.τ).loc Cert.AdamWSmallIdeal.main_v0_3) = v3 c
          ∧ r.2.mem ((c.tc : Thread Cert.AdamWSmallIdeal.nD Cert.AdamWSmallIdeal.τ).loc Cert.AdamWSmallIdeal.main_arg0) = m ((c.tc : Thread Cert.AdamWSmallIdeal.nD Cert.AdamWSmallIdeal.τ).loc Cert.AdamWSmallIdeal.main_arg0)
          ∧ r.2.mem ((c.tc : Thread Cert.AdamWSmallIdeal.nD Cert.AdamWSmallIdeal.τ).loc Cert.AdamWSmallIdeal.main_arg1) = m ((c.tc : Thread Cert.AdamWSmallIdeal.nD Cert.AdamWSmallIdeal.τ).loc Cert.AdamWSmallIdeal.main_arg1)
          ∧ r.2.mem ((c.tc : Thread Cert.AdamWSmallIdeal.nD Cert.AdamWSmallIdeal.τ).loc Cert.AdamWSmallIdeal.main_arg2) = m ((c.tc : Thread Cert.AdamWSmallIdeal.nD Cert.AdamWSmallIdeal.τ).loc Cert.AdamWSmallIdeal.main_arg2)
          ∧ r.2.mem ((c.tc : Thread Cert.AdamWSmallIdeal.nD Cert.AdamWSmallIdeal.τ).loc Cert.AdamWSmallIdeal.main_arg3) = m ((c.tc : Thread Cert.AdamWSmallIdeal.nD Cert.AdamWSmallIdeal.τ).loc Cert.AdamWSmallIdeal.main_arg3))
      ∧ θ_run (Cert.AdamWSmallRefIdeal.defs (F := Ideal)) (onTc (τ := Cert.AdamWSmallRefIdeal.τ) (Cert.AdamWSmallRefIdeal.main (F := Ideal))) ⟨m', fun _ => 0, g'⟩ (fun r => ∀ c : Dev Cert.AdamWSmallRefIdeal.nD,
          r.2.mem ((c.tc : Thread Cert.AdamWSmallRefIdeal.nD Cert.AdamWSmallRefIdeal.τ).loc Cert.AdamWSmallRefIdeal.main_arg3) = v0 c
          ∧ r.2.mem ((c.tc : Thread Cert.AdamWSmallRefIdeal.nD Cert.AdamWSmallRefIdeal.τ).loc Cert.AdamWSmallRefIdeal.main_v23) = v1 c
          ∧ r.2.mem ((c.tc : Thread Cert.AdamWSmallRefIdeal.nD Cert.AdamWSmallRefIdeal.τ).loc Cert.AdamWSmallRefIdeal.main_v4) = v2 c
          ∧ r.2.mem ((c.tc : Thread Cert.AdamWSmallRefIdeal.nD Cert.AdamWSmallRefIdeal.τ).loc Cert.AdamWSmallRefIdeal.main_v10) = v3 c
          ∧ r.2.mem ((c.tc : Thread Cert.AdamWSmallRefIdeal.nD Cert.AdamWSmallRefIdeal.τ).loc Cert.AdamWSmallRefIdeal.main_arg0) = m' ((c.tc : Thread Cert.AdamWSmallRefIdeal.nD Cert.AdamWSmallRefIdeal.τ).loc Cert.AdamWSmallRefIdeal.main_arg0)
          ∧ r.2.mem ((c.tc : Thread Cert.AdamWSmallRefIdeal.nD Cert.AdamWSmallRefIdeal.τ).loc Cert.AdamWSmallRefIdeal.main_arg1) = m' ((c.tc : Thread Cert.AdamWSmallRefIdeal.nD Cert.AdamWSmallRefIdeal.τ).loc Cert.AdamWSmallRefIdeal.main_arg1)
          ∧ r.2.mem ((c.tc : Thread Cert.AdamWSmallRefIdeal.nD Cert.AdamWSmallRefIdeal.τ).loc Cert.AdamWSmallRefIdeal.main_arg2) = m' ((c.tc : Thread Cert.AdamWSmallRefIdeal.nD Cert.AdamWSmallRefIdeal.τ).loc Cert.AdamWSmallRefIdeal.main_arg2)
          ∧ r.2.mem ((c.tc : Thread Cert.AdamWSmallRefIdeal.nD Cert.AdamWSmallRefIdeal.τ).loc Cert.AdamWSmallRefIdeal.main_arg3) = m' ((c.tc : Thread Cert.AdamWSmallRefIdeal.nD Cert.AdamWSmallRefIdeal.τ).loc Cert.AdamWSmallRefIdeal.main_arg3))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v0) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_SumEarly_SumEarlyIdeal : Prop :=
  True

def algebraic_SumEarlyIdeal_SumEarlyRefIdeal [hSumEarlyIdeal : Cert.SumEarlyIdeal.Facts] [hSumEarlyRefIdeal : Cert.SumEarlyRefIdeal.Facts] : Prop :=
  ∀ (m : (ℓ : Loc Cert.SumEarlyIdeal.nD Cert.SumEarlyIdeal.τ Cert.SumEarlyIdeal.sig) → Buf (Elt Ideal) ℓ) (g : Dev Cert.SumEarlyIdeal.nD → PrngReg)
    (m' : (ℓ : Loc Cert.SumEarlyRefIdeal.nD Cert.SumEarlyRefIdeal.τ Cert.SumEarlyRefIdeal.sig) → Buf (Elt Ideal) ℓ) (g' : Dev Cert.SumEarlyRefIdeal.nD → PrngReg), Pre_SumEarlyIdeal m →
    (∀ c : Dev Cert.SumEarlyIdeal.nD,
      m' ((c.tc : Thread Cert.SumEarlyRefIdeal.nD Cert.SumEarlyRefIdeal.τ).loc Cert.SumEarlyRefIdeal.main_arg0) = m ((c.tc : Thread Cert.SumEarlyIdeal.nD Cert.SumEarlyIdeal.τ).loc Cert.SumEarlyIdeal.main_arg0)) →
    ∃ (v0 : (c : Dev Cert.SumEarlyIdeal.nD) → Buf (Elt Ideal) ((c.tc : Thread Cert.SumEarlyIdeal.nD Cert.SumEarlyIdeal.τ).loc Cert.SumEarlyIdeal.main_v0)),
      θ_run (Cert.SumEarlyIdeal.defs (F := Ideal)) (onTc (τ := Cert.SumEarlyIdeal.τ) (Cert.SumEarlyIdeal.main (F := Ideal))) ⟨m, fun _ => 0, g⟩ (fun r => ∀ c : Dev Cert.SumEarlyIdeal.nD,
          r.2.mem ((c.tc : Thread Cert.SumEarlyIdeal.nD Cert.SumEarlyIdeal.τ).loc Cert.SumEarlyIdeal.main_v0) = v0 c
          ∧ r.2.mem ((c.tc : Thread Cert.SumEarlyIdeal.nD Cert.SumEarlyIdeal.τ).loc Cert.SumEarlyIdeal.main_arg0) = m ((c.tc : Thread Cert.SumEarlyIdeal.nD Cert.SumEarlyIdeal.τ).loc Cert.SumEarlyIdeal.main_arg0))
      ∧ θ_run (Cert.SumEarlyRefIdeal.defs (F := Ideal)) (onTc (τ := Cert.SumEarlyRefIdeal.τ) (Cert.SumEarlyRefIdeal.main (F := Ideal))) ⟨m', fun _ => 0, g'⟩ (fun r => ∀ c : Dev Cert.SumEarlyRefIdeal.nD,
          r.2.mem ((c.tc : Thread Cert.SumEarlyRefIdeal.nD Cert.SumEarlyRefIdeal.τ).loc Cert.SumEarlyRefIdeal.main_v0) = v0 c
          ∧ r.2.mem ((c.tc : Thread Cert.SumEarlyRefIdeal.nD Cert.SumEarlyRefIdeal.τ).loc Cert.SumEarlyRefIdeal.main_arg0) = m' ((c.tc : Thread Cert.SumEarlyRefIdeal.nD Cert.SumEarlyRefIdeal.τ).loc Cert.SumEarlyRefIdeal.main_arg0))

def preserves_SumLate_SumLateIdeal : Prop :=
  True

def algebraic_SumLateIdeal_SumLateRefIdeal [hSumLateIdeal : Cert.SumLateIdeal.Facts] [hSumLateRefIdeal : Cert.SumLateRefIdeal.Facts] : Prop :=
  ∀ (m : (ℓ : Loc Cert.SumLateIdeal.nD Cert.SumLateIdeal.τ Cert.SumLateIdeal.sig) → Buf (Elt Ideal) ℓ) (g : Dev Cert.SumLateIdeal.nD → PrngReg)
    (m' : (ℓ : Loc Cert.SumLateRefIdeal.nD Cert.SumLateRefIdeal.τ Cert.SumLateRefIdeal.sig) → Buf (Elt Ideal) ℓ) (g' : Dev Cert.SumLateRefIdeal.nD → PrngReg), Pre_SumLateIdeal m →
    (∀ c : Dev Cert.SumLateIdeal.nD,
      m' ((c.tc : Thread Cert.SumLateRefIdeal.nD Cert.SumLateRefIdeal.τ).loc Cert.SumLateRefIdeal.main_arg0) = m ((c.tc : Thread Cert.SumLateIdeal.nD Cert.SumLateIdeal.τ).loc Cert.SumLateIdeal.main_arg0)) →
    ∃ (v0 : (c : Dev Cert.SumLateIdeal.nD) → Buf (Elt Ideal) ((c.tc : Thread Cert.SumLateIdeal.nD Cert.SumLateIdeal.τ).loc Cert.SumLateIdeal.main_v0)),
      θ_run (Cert.SumLateIdeal.defs (F := Ideal)) (onTc (τ := Cert.SumLateIdeal.τ) (Cert.SumLateIdeal.main (F := Ideal))) ⟨m, fun _ => 0, g⟩ (fun r => ∀ c : Dev Cert.SumLateIdeal.nD,
          r.2.mem ((c.tc : Thread Cert.SumLateIdeal.nD Cert.SumLateIdeal.τ).loc Cert.SumLateIdeal.main_v0) = v0 c
          ∧ r.2.mem ((c.tc : Thread Cert.SumLateIdeal.nD Cert.SumLateIdeal.τ).loc Cert.SumLateIdeal.main_arg0) = m ((c.tc : Thread Cert.SumLateIdeal.nD Cert.SumLateIdeal.τ).loc Cert.SumLateIdeal.main_arg0))
      ∧ θ_run (Cert.SumLateRefIdeal.defs (F := Ideal)) (onTc (τ := Cert.SumLateRefIdeal.τ) (Cert.SumLateRefIdeal.main (F := Ideal))) ⟨m', fun _ => 0, g'⟩ (fun r => ∀ c : Dev Cert.SumLateRefIdeal.nD,
          r.2.mem ((c.tc : Thread Cert.SumLateRefIdeal.nD Cert.SumLateRefIdeal.τ).loc Cert.SumLateRefIdeal.main_v0) = v0 c
          ∧ r.2.mem ((c.tc : Thread Cert.SumLateRefIdeal.nD Cert.SumLateRefIdeal.τ).loc Cert.SumLateRefIdeal.main_arg0) = m' ((c.tc : Thread Cert.SumLateRefIdeal.nD Cert.SumLateRefIdeal.τ).loc Cert.SumLateRefIdeal.main_arg0))

def preserves_AdamWLruIn_AdamWLruInIdeal : Prop :=
  True

def algebraic_AdamWLruInIdeal_AdamWLruInRefIdeal [hAdamWLruInIdeal : Cert.AdamWLruInIdeal.Facts] [hAdamWLruInRefIdeal : Cert.AdamWLruInRefIdeal.Facts] [hPre_on_mesh_2048_512 : Cert.Pre_on_mesh_2048_512.Facts] : Prop :=
  ∀ (m : (ℓ : Loc Cert.AdamWLruInIdeal.nD Cert.AdamWLruInIdeal.τ Cert.AdamWLruInIdeal.sig) → Buf (Elt Ideal) ℓ) (g : Dev Cert.AdamWLruInIdeal.nD → PrngReg)
    (m' : (ℓ : Loc Cert.AdamWLruInRefIdeal.nD Cert.AdamWLruInRefIdeal.τ Cert.AdamWLruInRefIdeal.sig) → Buf (Elt Ideal) ℓ) (g' : Dev Cert.AdamWLruInRefIdeal.nD → PrngReg), Pre_AdamWLruInIdeal m →
    (∀ c : Dev Cert.AdamWLruInIdeal.nD,
      m' ((c.tc : Thread Cert.AdamWLruInRefIdeal.nD Cert.AdamWLruInRefIdeal.τ).loc Cert.AdamWLruInRefIdeal.main_arg0) = m ((c.tc : Thread Cert.AdamWLruInIdeal.nD Cert.AdamWLruInIdeal.τ).loc Cert.AdamWLruInIdeal.main_arg0)
      ∧ m' ((c.tc : Thread Cert.AdamWLruInRefIdeal.nD Cert.AdamWLruInRefIdeal.τ).loc Cert.AdamWLruInRefIdeal.main_arg1) = m ((c.tc : Thread Cert.AdamWLruInIdeal.nD Cert.AdamWLruInIdeal.τ).loc Cert.AdamWLruInIdeal.main_arg1)
      ∧ m' ((c.tc : Thread Cert.AdamWLruInRefIdeal.nD Cert.AdamWLruInRefIdeal.τ).loc Cert.AdamWLruInRefIdeal.main_arg2) = m ((c.tc : Thread Cert.AdamWLruInIdeal.nD Cert.AdamWLruInIdeal.τ).loc Cert.AdamWLruInIdeal.main_arg2)
      ∧ m' ((c.tc : Thread Cert.AdamWLruInRefIdeal.nD Cert.AdamWLruInRefIdeal.τ).loc Cert.AdamWLruInRefIdeal.main_arg3) = m ((c.tc : Thread Cert.AdamWLruInIdeal.nD Cert.AdamWLruInIdeal.τ).loc Cert.AdamWLruInIdeal.main_arg3)
      ∧ m' ((c.tc : Thread Cert.AdamWLruInRefIdeal.nD Cert.AdamWLruInRefIdeal.τ).loc Cert.AdamWLruInRefIdeal.main_arg4) = m ((c.tc : Thread Cert.AdamWLruInIdeal.nD Cert.AdamWLruInIdeal.τ).loc Cert.AdamWLruInIdeal.main_arg4)
      ∧ m' ((c.tc : Thread Cert.AdamWLruInRefIdeal.nD Cert.AdamWLruInRefIdeal.τ).loc Cert.AdamWLruInRefIdeal.main_arg5) = m ((c.tc : Thread Cert.AdamWLruInIdeal.nD Cert.AdamWLruInIdeal.τ).loc Cert.AdamWLruInIdeal.main_arg5)) →
    ∃ (v0 : (c : Dev Cert.AdamWLruInIdeal.nD) → Buf (Elt Ideal) ((c.tc : Thread Cert.AdamWLruInIdeal.nD Cert.AdamWLruInIdeal.τ).loc Cert.AdamWLruInIdeal.main_v0_0)) (v1 : (c : Dev Cert.AdamWLruInIdeal.nD) → Buf (Elt Ideal) ((c.tc : Thread Cert.AdamWLruInIdeal.nD Cert.AdamWLruInIdeal.τ).loc Cert.AdamWLruInIdeal.main_v0_1)) (v2 : (c : Dev Cert.AdamWLruInIdeal.nD) → Buf (Elt Ideal) ((c.tc : Thread Cert.AdamWLruInIdeal.nD Cert.AdamWLruInIdeal.τ).loc Cert.AdamWLruInIdeal.main_v0_2)) (v3 : (c : Dev Cert.AdamWLruInIdeal.nD) → Buf (Elt Ideal) ((c.tc : Thread Cert.AdamWLruInIdeal.nD Cert.AdamWLruInIdeal.τ).loc Cert.AdamWLruInIdeal.main_v0_3)),
      θ_run (Cert.AdamWLruInIdeal.defs (F := Ideal)) (onTc (τ := Cert.AdamWLruInIdeal.τ) (Cert.AdamWLruInIdeal.main (F := Ideal))) ⟨m, fun _ => 0, g⟩ (fun r => ∀ c : Dev Cert.AdamWLruInIdeal.nD,
          r.2.mem ((c.tc : Thread Cert.AdamWLruInIdeal.nD Cert.AdamWLruInIdeal.τ).loc Cert.AdamWLruInIdeal.main_v0_0) = v0 c
          ∧ r.2.mem ((c.tc : Thread Cert.AdamWLruInIdeal.nD Cert.AdamWLruInIdeal.τ).loc Cert.AdamWLruInIdeal.main_v0_1) = v1 c
          ∧ r.2.mem ((c.tc : Thread Cert.AdamWLruInIdeal.nD Cert.AdamWLruInIdeal.τ).loc Cert.AdamWLruInIdeal.main_v0_2) = v2 c
          ∧ r.2.mem ((c.tc : Thread Cert.AdamWLruInIdeal.nD Cert.AdamWLruInIdeal.τ).loc Cert.AdamWLruInIdeal.main_v0_3) = v3 c
          ∧ r.2.mem ((c.tc : Thread Cert.AdamWLruInIdeal.nD Cert.AdamWLruInIdeal.τ).loc Cert.AdamWLruInIdeal.main_arg0) = m ((c.tc : Thread Cert.AdamWLruInIdeal.nD Cert.AdamWLruInIdeal.τ).loc Cert.AdamWLruInIdeal.main_arg0)
          ∧ r.2.mem ((c.tc : Thread Cert.AdamWLruInIdeal.nD Cert.AdamWLruInIdeal.τ).loc Cert.AdamWLruInIdeal.main_arg1) = m ((c.tc : Thread Cert.AdamWLruInIdeal.nD Cert.AdamWLruInIdeal.τ).loc Cert.AdamWLruInIdeal.main_arg1)
          ∧ r.2.mem ((c.tc : Thread Cert.AdamWLruInIdeal.nD Cert.AdamWLruInIdeal.τ).loc Cert.AdamWLruInIdeal.main_arg2) = m ((c.tc : Thread Cert.AdamWLruInIdeal.nD Cert.AdamWLruInIdeal.τ).loc Cert.AdamWLruInIdeal.main_arg2)
          ∧ r.2.mem ((c.tc : Thread Cert.AdamWLruInIdeal.nD Cert.AdamWLruInIdeal.τ).loc Cert.AdamWLruInIdeal.main_arg3) = m ((c.tc : Thread Cert.AdamWLruInIdeal.nD Cert.AdamWLruInIdeal.τ).loc Cert.AdamWLruInIdeal.main_arg3)
          ∧ r.2.mem ((c.tc : Thread Cert.AdamWLruInIdeal.nD Cert.AdamWLruInIdeal.τ).loc Cert.AdamWLruInIdeal.main_arg4) = m ((c.tc : Thread Cert.AdamWLruInIdeal.nD Cert.AdamWLruInIdeal.τ).loc Cert.AdamWLruInIdeal.main_arg4)
          ∧ r.2.mem ((c.tc : Thread Cert.AdamWLruInIdeal.nD Cert.AdamWLruInIdeal.τ).loc Cert.AdamWLruInIdeal.main_arg5) = m ((c.tc : Thread Cert.AdamWLruInIdeal.nD Cert.AdamWLruInIdeal.τ).loc Cert.AdamWLruInIdeal.main_arg5))
      ∧ θ_run (Cert.AdamWLruInRefIdeal.defs (F := Ideal)) (onTc (τ := Cert.AdamWLruInRefIdeal.τ) (Cert.AdamWLruInRefIdeal.main (F := Ideal))) ⟨m', fun _ => 0, g'⟩ (fun r => ∀ c : Dev Cert.AdamWLruInRefIdeal.nD,
          r.2.mem ((c.tc : Thread Cert.AdamWLruInRefIdeal.nD Cert.AdamWLruInRefIdeal.τ).loc Cert.AdamWLruInRefIdeal.main_v12) = v0 c
          ∧ r.2.mem ((c.tc : Thread Cert.AdamWLruInRefIdeal.nD Cert.AdamWLruInRefIdeal.τ).loc Cert.AdamWLruInRefIdeal.main_v36) = v1 c
          ∧ r.2.mem ((c.tc : Thread Cert.AdamWLruInRefIdeal.nD Cert.AdamWLruInRefIdeal.τ).loc Cert.AdamWLruInRefIdeal.main_v17) = v2 c
          ∧ r.2.mem ((c.tc : Thread Cert.AdamWLruInRefIdeal.nD Cert.AdamWLruInRefIdeal.τ).loc Cert.AdamWLruInRefIdeal.main_v23) = v3 c
          ∧ r.2.mem ((c.tc : Thread Cert.AdamWLruInRefIdeal.nD Cert.AdamWLruInRefIdeal.τ).loc Cert.AdamWLruInRefIdeal.main_arg0) = m' ((c.tc : Thread Cert.AdamWLruInRefIdeal.nD Cert.AdamWLruInRefIdeal.τ).loc Cert.AdamWLruInRefIdeal.main_arg0)
          ∧ r.2.mem ((c.tc : Thread Cert.AdamWLruInRefIdeal.nD Cert.AdamWLruInRefIdeal.τ).loc Cert.AdamWLruInRefIdeal.main_arg1) = m' ((c.tc : Thread Cert.AdamWLruInRefIdeal.nD Cert.AdamWLruInRefIdeal.τ).loc Cert.AdamWLruInRefIdeal.main_arg1)
          ∧ r.2.mem ((c.tc : Thread Cert.AdamWLruInRefIdeal.nD Cert.AdamWLruInRefIdeal.τ).loc Cert.AdamWLruInRefIdeal.main_arg2) = m' ((c.tc : Thread Cert.AdamWLruInRefIdeal.nD Cert.AdamWLruInRefIdeal.τ).loc Cert.AdamWLruInRefIdeal.main_arg2)
          ∧ r.2.mem ((c.tc : Thread Cert.AdamWLruInRefIdeal.nD Cert.AdamWLruInRefIdeal.τ).loc Cert.AdamWLruInRefIdeal.main_arg3) = m' ((c.tc : Thread Cert.AdamWLruInRefIdeal.nD Cert.AdamWLruInRefIdeal.τ).loc Cert.AdamWLruInRefIdeal.main_arg3)
          ∧ r.2.mem ((c.tc : Thread Cert.AdamWLruInRefIdeal.nD Cert.AdamWLruInRefIdeal.τ).loc Cert.AdamWLruInRefIdeal.main_arg4) = m' ((c.tc : Thread Cert.AdamWLruInRefIdeal.nD Cert.AdamWLruInRefIdeal.τ).loc Cert.AdamWLruInRefIdeal.main_arg4)
          ∧ r.2.mem ((c.tc : Thread Cert.AdamWLruInRefIdeal.nD Cert.AdamWLruInRefIdeal.τ).loc Cert.AdamWLruInRefIdeal.main_arg5) = m' ((c.tc : Thread Cert.AdamWLruInRefIdeal.nD Cert.AdamWLruInRefIdeal.τ).loc Cert.AdamWLruInRefIdeal.main_arg5))

def preserves_AdamWRetIn_AdamWRetInIdeal : Prop :=
  True

def algebraic_AdamWRetInIdeal_AdamWRetInRefIdeal [hAdamWRetInIdeal : Cert.AdamWRetInIdeal.Facts] [hAdamWRetInRefIdeal : Cert.AdamWRetInRefIdeal.Facts] [hPre_on_mesh_2048_1536 : Cert.Pre_on_mesh_2048_1536.Facts] : Prop :=
  ∀ (m : (ℓ : Loc Cert.AdamWRetInIdeal.nD Cert.AdamWRetInIdeal.τ Cert.AdamWRetInIdeal.sig) → Buf (Elt Ideal) ℓ) (g : Dev Cert.AdamWRetInIdeal.nD → PrngReg)
    (m' : (ℓ : Loc Cert.AdamWRetInRefIdeal.nD Cert.AdamWRetInRefIdeal.τ Cert.AdamWRetInRefIdeal.sig) → Buf (Elt Ideal) ℓ) (g' : Dev Cert.AdamWRetInRefIdeal.nD → PrngReg), Pre_AdamWRetInIdeal m →
    (∀ c : Dev Cert.AdamWRetInIdeal.nD,
      m' ((c.tc : Thread Cert.AdamWRetInRefIdeal.nD Cert.AdamWRetInRefIdeal.τ).loc Cert.AdamWRetInRefIdeal.main_arg0) = m ((c.tc : Thread Cert.AdamWRetInIdeal.nD Cert.AdamWRetInIdeal.τ).loc Cert.AdamWRetInIdeal.main_arg0)
      ∧ m' ((c.tc : Thread Cert.AdamWRetInRefIdeal.nD Cert.AdamWRetInRefIdeal.τ).loc Cert.AdamWRetInRefIdeal.main_arg1) = m ((c.tc : Thread Cert.AdamWRetInIdeal.nD Cert.AdamWRetInIdeal.τ).loc Cert.AdamWRetInIdeal.main_arg1)
      ∧ m' ((c.tc : Thread Cert.AdamWRetInRefIdeal.nD Cert.AdamWRetInRefIdeal.τ).loc Cert.AdamWRetInRefIdeal.main_arg2) = m ((c.tc : Thread Cert.AdamWRetInIdeal.nD Cert.AdamWRetInIdeal.τ).loc Cert.AdamWRetInIdeal.main_arg2)
      ∧ m' ((c.tc : Thread Cert.AdamWRetInRefIdeal.nD Cert.AdamWRetInRefIdeal.τ).loc Cert.AdamWRetInRefIdeal.main_arg3) = m ((c.tc : Thread Cert.AdamWRetInIdeal.nD Cert.AdamWRetInIdeal.τ).loc Cert.AdamWRetInIdeal.main_arg3)
      ∧ m' ((c.tc : Thread Cert.AdamWRetInRefIdeal.nD Cert.AdamWRetInRefIdeal.τ).loc Cert.AdamWRetInRefIdeal.main_arg4) = m ((c.tc : Thread Cert.AdamWRetInIdeal.nD Cert.AdamWRetInIdeal.τ).loc Cert.AdamWRetInIdeal.main_arg4)
      ∧ m' ((c.tc : Thread Cert.AdamWRetInRefIdeal.nD Cert.AdamWRetInRefIdeal.τ).loc Cert.AdamWRetInRefIdeal.main_arg5) = m ((c.tc : Thread Cert.AdamWRetInIdeal.nD Cert.AdamWRetInIdeal.τ).loc Cert.AdamWRetInIdeal.main_arg5)) →
    ∃ (v0 : (c : Dev Cert.AdamWRetInIdeal.nD) → Buf (Elt Ideal) ((c.tc : Thread Cert.AdamWRetInIdeal.nD Cert.AdamWRetInIdeal.τ).loc Cert.AdamWRetInIdeal.main_v0_0)) (v1 : (c : Dev Cert.AdamWRetInIdeal.nD) → Buf (Elt Ideal) ((c.tc : Thread Cert.AdamWRetInIdeal.nD Cert.AdamWRetInIdeal.τ).loc Cert.AdamWRetInIdeal.main_v0_1)) (v2 : (c : Dev Cert.AdamWRetInIdeal.nD) → Buf (Elt Ideal) ((c.tc : Thread Cert.AdamWRetInIdeal.nD Cert.AdamWRetInIdeal.τ).loc Cert.AdamWRetInIdeal.main_v0_2)) (v3 : (c : Dev Cert.AdamWRetInIdeal.nD) → Buf (Elt Ideal) ((c.tc : Thread Cert.AdamWRetInIdeal.nD Cert.AdamWRetInIdeal.τ).loc Cert.AdamWRetInIdeal.main_v0_3)),
      θ_run (Cert.AdamWRetInIdeal.defs (F := Ideal)) (onTc (τ := Cert.AdamWRetInIdeal.τ) (Cert.AdamWRetInIdeal.main (F := Ideal))) ⟨m, fun _ => 0, g⟩ (fun r => ∀ c : Dev Cert.AdamWRetInIdeal.nD,
          r.2.mem ((c.tc : Thread Cert.AdamWRetInIdeal.nD Cert.AdamWRetInIdeal.τ).loc Cert.AdamWRetInIdeal.main_v0_0) = v0 c
          ∧ r.2.mem ((c.tc : Thread Cert.AdamWRetInIdeal.nD Cert.AdamWRetInIdeal.τ).loc Cert.AdamWRetInIdeal.main_v0_1) = v1 c
          ∧ r.2.mem ((c.tc : Thread Cert.AdamWRetInIdeal.nD Cert.AdamWRetInIdeal.τ).loc Cert.AdamWRetInIdeal.main_v0_2) = v2 c
          ∧ r.2.mem ((c.tc : Thread Cert.AdamWRetInIdeal.nD Cert.AdamWRetInIdeal.τ).loc Cert.AdamWRetInIdeal.main_v0_3) = v3 c
          ∧ r.2.mem ((c.tc : Thread Cert.AdamWRetInIdeal.nD Cert.AdamWRetInIdeal.τ).loc Cert.AdamWRetInIdeal.main_arg0) = m ((c.tc : Thread Cert.AdamWRetInIdeal.nD Cert.AdamWRetInIdeal.τ).loc Cert.AdamWRetInIdeal.main_arg0)
          ∧ r.2.mem ((c.tc : Thread Cert.AdamWRetInIdeal.nD Cert.AdamWRetInIdeal.τ).loc Cert.AdamWRetInIdeal.main_arg1) = m ((c.tc : Thread Cert.AdamWRetInIdeal.nD Cert.AdamWRetInIdeal.τ).loc Cert.AdamWRetInIdeal.main_arg1)
          ∧ r.2.mem ((c.tc : Thread Cert.AdamWRetInIdeal.nD Cert.AdamWRetInIdeal.τ).loc Cert.AdamWRetInIdeal.main_arg2) = m ((c.tc : Thread Cert.AdamWRetInIdeal.nD Cert.AdamWRetInIdeal.τ).loc Cert.AdamWRetInIdeal.main_arg2)
          ∧ r.2.mem ((c.tc : Thread Cert.AdamWRetInIdeal.nD Cert.AdamWRetInIdeal.τ).loc Cert.AdamWRetInIdeal.main_arg3) = m ((c.tc : Thread Cert.AdamWRetInIdeal.nD Cert.AdamWRetInIdeal.τ).loc Cert.AdamWRetInIdeal.main_arg3)
          ∧ r.2.mem ((c.tc : Thread Cert.AdamWRetInIdeal.nD Cert.AdamWRetInIdeal.τ).loc Cert.AdamWRetInIdeal.main_arg4) = m ((c.tc : Thread Cert.AdamWRetInIdeal.nD Cert.AdamWRetInIdeal.τ).loc Cert.AdamWRetInIdeal.main_arg4)
          ∧ r.2.mem ((c.tc : Thread Cert.AdamWRetInIdeal.nD Cert.AdamWRetInIdeal.τ).loc Cert.AdamWRetInIdeal.main_arg5) = m ((c.tc : Thread Cert.AdamWRetInIdeal.nD Cert.AdamWRetInIdeal.τ).loc Cert.AdamWRetInIdeal.main_arg5))
      ∧ θ_run (Cert.AdamWRetInRefIdeal.defs (F := Ideal)) (onTc (τ := Cert.AdamWRetInRefIdeal.τ) (Cert.AdamWRetInRefIdeal.main (F := Ideal))) ⟨m', fun _ => 0, g'⟩ (fun r => ∀ c : Dev Cert.AdamWRetInRefIdeal.nD,
          r.2.mem ((c.tc : Thread Cert.AdamWRetInRefIdeal.nD Cert.AdamWRetInRefIdeal.τ).loc Cert.AdamWRetInRefIdeal.main_v12) = v0 c
          ∧ r.2.mem ((c.tc : Thread Cert.AdamWRetInRefIdeal.nD Cert.AdamWRetInRefIdeal.τ).loc Cert.AdamWRetInRefIdeal.main_v36) = v1 c
          ∧ r.2.mem ((c.tc : Thread Cert.AdamWRetInRefIdeal.nD Cert.AdamWRetInRefIdeal.τ).loc Cert.AdamWRetInRefIdeal.main_v17) = v2 c
          ∧ r.2.mem ((c.tc : Thread Cert.AdamWRetInRefIdeal.nD Cert.AdamWRetInRefIdeal.τ).loc Cert.AdamWRetInRefIdeal.main_v23) = v3 c
          ∧ r.2.mem ((c.tc : Thread Cert.AdamWRetInRefIdeal.nD Cert.AdamWRetInRefIdeal.τ).loc Cert.AdamWRetInRefIdeal.main_arg0) = m' ((c.tc : Thread Cert.AdamWRetInRefIdeal.nD Cert.AdamWRetInRefIdeal.τ).loc Cert.AdamWRetInRefIdeal.main_arg0)
          ∧ r.2.mem ((c.tc : Thread Cert.AdamWRetInRefIdeal.nD Cert.AdamWRetInRefIdeal.τ).loc Cert.AdamWRetInRefIdeal.main_arg1) = m' ((c.tc : Thread Cert.AdamWRetInRefIdeal.nD Cert.AdamWRetInRefIdeal.τ).loc Cert.AdamWRetInRefIdeal.main_arg1)
          ∧ r.2.mem ((c.tc : Thread Cert.AdamWRetInRefIdeal.nD Cert.AdamWRetInRefIdeal.τ).loc Cert.AdamWRetInRefIdeal.main_arg2) = m' ((c.tc : Thread Cert.AdamWRetInRefIdeal.nD Cert.AdamWRetInRefIdeal.τ).loc Cert.AdamWRetInRefIdeal.main_arg2)
          ∧ r.2.mem ((c.tc : Thread Cert.AdamWRetInRefIdeal.nD Cert.AdamWRetInRefIdeal.τ).loc Cert.AdamWRetInRefIdeal.main_arg3) = m' ((c.tc : Thread Cert.AdamWRetInRefIdeal.nD Cert.AdamWRetInRefIdeal.τ).loc Cert.AdamWRetInRefIdeal.main_arg3)
          ∧ r.2.mem ((c.tc : Thread Cert.AdamWRetInRefIdeal.nD Cert.AdamWRetInRefIdeal.τ).loc Cert.AdamWRetInRefIdeal.main_arg4) = m' ((c.tc : Thread Cert.AdamWRetInRefIdeal.nD Cert.AdamWRetInRefIdeal.τ).loc Cert.AdamWRetInRefIdeal.main_arg4)
          ∧ r.2.mem ((c.tc : Thread Cert.AdamWRetInRefIdeal.nD Cert.AdamWRetInRefIdeal.τ).loc Cert.AdamWRetInRefIdeal.main_arg5) = m' ((c.tc : Thread Cert.AdamWRetInRefIdeal.nD Cert.AdamWRetInRefIdeal.τ).loc Cert.AdamWRetInRefIdeal.main_arg5))

def preserves_AdamWGdnIn_AdamWGdnInIdeal : Prop :=
  True

def algebraic_AdamWGdnInIdeal_AdamWGdnInRefIdeal [hAdamWGdnInIdeal : Cert.AdamWGdnInIdeal.Facts] [hAdamWGdnInRefIdeal : Cert.AdamWGdnInRefIdeal.Facts] [hPre_on_mesh_2048_1028 : Cert.Pre_on_mesh_2048_1028.Facts] : Prop :=
  ∀ (m : (ℓ : Loc Cert.AdamWGdnInIdeal.nD Cert.AdamWGdnInIdeal.τ Cert.AdamWGdnInIdeal.sig) → Buf (Elt Ideal) ℓ) (g : Dev Cert.AdamWGdnInIdeal.nD → PrngReg)
    (m' : (ℓ : Loc Cert.AdamWGdnInRefIdeal.nD Cert.AdamWGdnInRefIdeal.τ Cert.AdamWGdnInRefIdeal.sig) → Buf (Elt Ideal) ℓ) (g' : Dev Cert.AdamWGdnInRefIdeal.nD → PrngReg), Pre_AdamWGdnInIdeal m →
    (∀ c : Dev Cert.AdamWGdnInIdeal.nD,
      m' ((c.tc : Thread Cert.AdamWGdnInRefIdeal.nD Cert.AdamWGdnInRefIdeal.τ).loc Cert.AdamWGdnInRefIdeal.main_arg0) = m ((c.tc : Thread Cert.AdamWGdnInIdeal.nD Cert.AdamWGdnInIdeal.τ).loc Cert.AdamWGdnInIdeal.main_arg0)
      ∧ m' ((c.tc : Thread Cert.AdamWGdnInRefIdeal.nD Cert.AdamWGdnInRefIdeal.τ).loc Cert.AdamWGdnInRefIdeal.main_arg1) = m ((c.tc : Thread Cert.AdamWGdnInIdeal.nD Cert.AdamWGdnInIdeal.τ).loc Cert.AdamWGdnInIdeal.main_arg1)
      ∧ m' ((c.tc : Thread Cert.AdamWGdnInRefIdeal.nD Cert.AdamWGdnInRefIdeal.τ).loc Cert.AdamWGdnInRefIdeal.main_arg2) = m ((c.tc : Thread Cert.AdamWGdnInIdeal.nD Cert.AdamWGdnInIdeal.τ).loc Cert.AdamWGdnInIdeal.main_arg2)
      ∧ m' ((c.tc : Thread Cert.AdamWGdnInRefIdeal.nD Cert.AdamWGdnInRefIdeal.τ).loc Cert.AdamWGdnInRefIdeal.main_arg3) = m ((c.tc : Thread Cert.AdamWGdnInIdeal.nD Cert.AdamWGdnInIdeal.τ).loc Cert.AdamWGdnInIdeal.main_arg3)
      ∧ m' ((c.tc : Thread Cert.AdamWGdnInRefIdeal.nD Cert.AdamWGdnInRefIdeal.τ).loc Cert.AdamWGdnInRefIdeal.main_arg4) = m ((c.tc : Thread Cert.AdamWGdnInIdeal.nD Cert.AdamWGdnInIdeal.τ).loc Cert.AdamWGdnInIdeal.main_arg4)
      ∧ m' ((c.tc : Thread Cert.AdamWGdnInRefIdeal.nD Cert.AdamWGdnInRefIdeal.τ).loc Cert.AdamWGdnInRefIdeal.main_arg5) = m ((c.tc : Thread Cert.AdamWGdnInIdeal.nD Cert.AdamWGdnInIdeal.τ).loc Cert.AdamWGdnInIdeal.main_arg5)) →
    ∃ (v0 : (c : Dev Cert.AdamWGdnInIdeal.nD) → Buf (Elt Ideal) ((c.tc : Thread Cert.AdamWGdnInIdeal.nD Cert.AdamWGdnInIdeal.τ).loc Cert.AdamWGdnInIdeal.main_v0_0)) (v1 : (c : Dev Cert.AdamWGdnInIdeal.nD) → Buf (Elt Ideal) ((c.tc : Thread Cert.AdamWGdnInIdeal.nD Cert.AdamWGdnInIdeal.τ).loc Cert.AdamWGdnInIdeal.main_v0_1)) (v2 : (c : Dev Cert.AdamWGdnInIdeal.nD) → Buf (Elt Ideal) ((c.tc : Thread Cert.AdamWGdnInIdeal.nD Cert.AdamWGdnInIdeal.τ).loc Cert.AdamWGdnInIdeal.main_v0_2)) (v3 : (c : Dev Cert.AdamWGdnInIdeal.nD) → Buf (Elt Ideal) ((c.tc : Thread Cert.AdamWGdnInIdeal.nD Cert.AdamWGdnInIdeal.τ).loc Cert.AdamWGdnInIdeal.main_v0_3)),
      θ_run (Cert.AdamWGdnInIdeal.defs (F := Ideal)) (onTc (τ := Cert.AdamWGdnInIdeal.τ) (Cert.AdamWGdnInIdeal.main (F := Ideal))) ⟨m, fun _ => 0, g⟩ (fun r => ∀ c : Dev Cert.AdamWGdnInIdeal.nD,
          r.2.mem ((c.tc : Thread Cert.AdamWGdnInIdeal.nD Cert.AdamWGdnInIdeal.τ).loc Cert.AdamWGdnInIdeal.main_v0_0) = v0 c
          ∧ r.2.mem ((c.tc : Thread Cert.AdamWGdnInIdeal.nD Cert.AdamWGdnInIdeal.τ).loc Cert.AdamWGdnInIdeal.main_v0_1) = v1 c
          ∧ r.2.mem ((c.tc : Thread Cert.AdamWGdnInIdeal.nD Cert.AdamWGdnInIdeal.τ).loc Cert.AdamWGdnInIdeal.main_v0_2) = v2 c
          ∧ r.2.mem ((c.tc : Thread Cert.AdamWGdnInIdeal.nD Cert.AdamWGdnInIdeal.τ).loc Cert.AdamWGdnInIdeal.main_v0_3) = v3 c
          ∧ r.2.mem ((c.tc : Thread Cert.AdamWGdnInIdeal.nD Cert.AdamWGdnInIdeal.τ).loc Cert.AdamWGdnInIdeal.main_arg0) = m ((c.tc : Thread Cert.AdamWGdnInIdeal.nD Cert.AdamWGdnInIdeal.τ).loc Cert.AdamWGdnInIdeal.main_arg0)
          ∧ r.2.mem ((c.tc : Thread Cert.AdamWGdnInIdeal.nD Cert.AdamWGdnInIdeal.τ).loc Cert.AdamWGdnInIdeal.main_arg1) = m ((c.tc : Thread Cert.AdamWGdnInIdeal.nD Cert.AdamWGdnInIdeal.τ).loc Cert.AdamWGdnInIdeal.main_arg1)
          ∧ r.2.mem ((c.tc : Thread Cert.AdamWGdnInIdeal.nD Cert.AdamWGdnInIdeal.τ).loc Cert.AdamWGdnInIdeal.main_arg2) = m ((c.tc : Thread Cert.AdamWGdnInIdeal.nD Cert.AdamWGdnInIdeal.τ).loc Cert.AdamWGdnInIdeal.main_arg2)
          ∧ r.2.mem ((c.tc : Thread Cert.AdamWGdnInIdeal.nD Cert.AdamWGdnInIdeal.τ).loc Cert.AdamWGdnInIdeal.main_arg3) = m ((c.tc : Thread Cert.AdamWGdnInIdeal.nD Cert.AdamWGdnInIdeal.τ).loc Cert.AdamWGdnInIdeal.main_arg3)
          ∧ r.2.mem ((c.tc : Thread Cert.AdamWGdnInIdeal.nD Cert.AdamWGdnInIdeal.τ).loc Cert.AdamWGdnInIdeal.main_arg4) = m ((c.tc : Thread Cert.AdamWGdnInIdeal.nD Cert.AdamWGdnInIdeal.τ).loc Cert.AdamWGdnInIdeal.main_arg4)
          ∧ r.2.mem ((c.tc : Thread Cert.AdamWGdnInIdeal.nD Cert.AdamWGdnInIdeal.τ).loc Cert.AdamWGdnInIdeal.main_arg5) = m ((c.tc : Thread Cert.AdamWGdnInIdeal.nD Cert.AdamWGdnInIdeal.τ).loc Cert.AdamWGdnInIdeal.main_arg5))
      ∧ θ_run (Cert.AdamWGdnInRefIdeal.defs (F := Ideal)) (onTc (τ := Cert.AdamWGdnInRefIdeal.τ) (Cert.AdamWGdnInRefIdeal.main (F := Ideal))) ⟨m', fun _ => 0, g'⟩ (fun r => ∀ c : Dev Cert.AdamWGdnInRefIdeal.nD,
          r.2.mem ((c.tc : Thread Cert.AdamWGdnInRefIdeal.nD Cert.AdamWGdnInRefIdeal.τ).loc Cert.AdamWGdnInRefIdeal.main_v12) = v0 c
          ∧ r.2.mem ((c.tc : Thread Cert.AdamWGdnInRefIdeal.nD Cert.AdamWGdnInRefIdeal.τ).loc Cert.AdamWGdnInRefIdeal.main_v36) = v1 c
          ∧ r.2.mem ((c.tc : Thread Cert.AdamWGdnInRefIdeal.nD Cert.AdamWGdnInRefIdeal.τ).loc Cert.AdamWGdnInRefIdeal.main_v17) = v2 c
          ∧ r.2.mem ((c.tc : Thread Cert.AdamWGdnInRefIdeal.nD Cert.AdamWGdnInRefIdeal.τ).loc Cert.AdamWGdnInRefIdeal.main_v23) = v3 c
          ∧ r.2.mem ((c.tc : Thread Cert.AdamWGdnInRefIdeal.nD Cert.AdamWGdnInRefIdeal.τ).loc Cert.AdamWGdnInRefIdeal.main_arg0) = m' ((c.tc : Thread Cert.AdamWGdnInRefIdeal.nD Cert.AdamWGdnInRefIdeal.τ).loc Cert.AdamWGdnInRefIdeal.main_arg0)
          ∧ r.2.mem ((c.tc : Thread Cert.AdamWGdnInRefIdeal.nD Cert.AdamWGdnInRefIdeal.τ).loc Cert.AdamWGdnInRefIdeal.main_arg1) = m' ((c.tc : Thread Cert.AdamWGdnInRefIdeal.nD Cert.AdamWGdnInRefIdeal.τ).loc Cert.AdamWGdnInRefIdeal.main_arg1)
          ∧ r.2.mem ((c.tc : Thread Cert.AdamWGdnInRefIdeal.nD Cert.AdamWGdnInRefIdeal.τ).loc Cert.AdamWGdnInRefIdeal.main_arg2) = m' ((c.tc : Thread Cert.AdamWGdnInRefIdeal.nD Cert.AdamWGdnInRefIdeal.τ).loc Cert.AdamWGdnInRefIdeal.main_arg2)
          ∧ r.2.mem ((c.tc : Thread Cert.AdamWGdnInRefIdeal.nD Cert.AdamWGdnInRefIdeal.τ).loc Cert.AdamWGdnInRefIdeal.main_arg3) = m' ((c.tc : Thread Cert.AdamWGdnInRefIdeal.nD Cert.AdamWGdnInRefIdeal.τ).loc Cert.AdamWGdnInRefIdeal.main_arg3)
          ∧ r.2.mem ((c.tc : Thread Cert.AdamWGdnInRefIdeal.nD Cert.AdamWGdnInRefIdeal.τ).loc Cert.AdamWGdnInRefIdeal.main_arg4) = m' ((c.tc : Thread Cert.AdamWGdnInRefIdeal.nD Cert.AdamWGdnInRefIdeal.τ).loc Cert.AdamWGdnInRefIdeal.main_arg4)
          ∧ r.2.mem ((c.tc : Thread Cert.AdamWGdnInRefIdeal.nD Cert.AdamWGdnInRefIdeal.τ).loc Cert.AdamWGdnInRefIdeal.main_arg5) = m' ((c.tc : Thread Cert.AdamWGdnInRefIdeal.nD Cert.AdamWGdnInRefIdeal.τ).loc Cert.AdamWGdnInRefIdeal.main_arg5))

def preserves_AdamWGlaIn_AdamWGlaInIdeal : Prop :=
  True

def algebraic_AdamWGlaInIdeal_AdamWGlaInRefIdeal [hAdamWGlaInIdeal : Cert.AdamWGlaInIdeal.Facts] [hAdamWGlaInRefIdeal : Cert.AdamWGlaInRefIdeal.Facts] [hPre_on_mesh_2048_770 : Cert.Pre_on_mesh_2048_770.Facts] : Prop :=
  ∀ (m : (ℓ : Loc Cert.AdamWGlaInIdeal.nD Cert.AdamWGlaInIdeal.τ Cert.AdamWGlaInIdeal.sig) → Buf (Elt Ideal) ℓ) (g : Dev Cert.AdamWGlaInIdeal.nD → PrngReg)
    (m' : (ℓ : Loc Cert.AdamWGlaInRefIdeal.nD Cert.AdamWGlaInRefIdeal.τ Cert.AdamWGlaInRefIdeal.sig) → Buf (Elt Ideal) ℓ) (g' : Dev Cert.AdamWGlaInRefIdeal.nD → PrngReg), Pre_AdamWGlaInIdeal m →
    (∀ c : Dev Cert.AdamWGlaInIdeal.nD,
      m' ((c.tc : Thread Cert.AdamWGlaInRefIdeal.nD Cert.AdamWGlaInRefIdeal.τ).loc Cert.AdamWGlaInRefIdeal.main_arg0) = m ((c.tc : Thread Cert.AdamWGlaInIdeal.nD Cert.AdamWGlaInIdeal.τ).loc Cert.AdamWGlaInIdeal.main_arg0)
      ∧ m' ((c.tc : Thread Cert.AdamWGlaInRefIdeal.nD Cert.AdamWGlaInRefIdeal.τ).loc Cert.AdamWGlaInRefIdeal.main_arg1) = m ((c.tc : Thread Cert.AdamWGlaInIdeal.nD Cert.AdamWGlaInIdeal.τ).loc Cert.AdamWGlaInIdeal.main_arg1)
      ∧ m' ((c.tc : Thread Cert.AdamWGlaInRefIdeal.nD Cert.AdamWGlaInRefIdeal.τ).loc Cert.AdamWGlaInRefIdeal.main_arg2) = m ((c.tc : Thread Cert.AdamWGlaInIdeal.nD Cert.AdamWGlaInIdeal.τ).loc Cert.AdamWGlaInIdeal.main_arg2)
      ∧ m' ((c.tc : Thread Cert.AdamWGlaInRefIdeal.nD Cert.AdamWGlaInRefIdeal.τ).loc Cert.AdamWGlaInRefIdeal.main_arg3) = m ((c.tc : Thread Cert.AdamWGlaInIdeal.nD Cert.AdamWGlaInIdeal.τ).loc Cert.AdamWGlaInIdeal.main_arg3)
      ∧ m' ((c.tc : Thread Cert.AdamWGlaInRefIdeal.nD Cert.AdamWGlaInRefIdeal.τ).loc Cert.AdamWGlaInRefIdeal.main_arg4) = m ((c.tc : Thread Cert.AdamWGlaInIdeal.nD Cert.AdamWGlaInIdeal.τ).loc Cert.AdamWGlaInIdeal.main_arg4)
      ∧ m' ((c.tc : Thread Cert.AdamWGlaInRefIdeal.nD Cert.AdamWGlaInRefIdeal.τ).loc Cert.AdamWGlaInRefIdeal.main_arg5) = m ((c.tc : Thread Cert.AdamWGlaInIdeal.nD Cert.AdamWGlaInIdeal.τ).loc Cert.AdamWGlaInIdeal.main_arg5)) →
    ∃ (v0 : (c : Dev Cert.AdamWGlaInIdeal.nD) → Buf (Elt Ideal) ((c.tc : Thread Cert.AdamWGlaInIdeal.nD Cert.AdamWGlaInIdeal.τ).loc Cert.AdamWGlaInIdeal.main_v0_0)) (v1 : (c : Dev Cert.AdamWGlaInIdeal.nD) → Buf (Elt Ideal) ((c.tc : Thread Cert.AdamWGlaInIdeal.nD Cert.AdamWGlaInIdeal.τ).loc Cert.AdamWGlaInIdeal.main_v0_1)) (v2 : (c : Dev Cert.AdamWGlaInIdeal.nD) → Buf (Elt Ideal) ((c.tc : Thread Cert.AdamWGlaInIdeal.nD Cert.AdamWGlaInIdeal.τ).loc Cert.AdamWGlaInIdeal.main_v0_2)) (v3 : (c : Dev Cert.AdamWGlaInIdeal.nD) → Buf (Elt Ideal) ((c.tc : Thread Cert.AdamWGlaInIdeal.nD Cert.AdamWGlaInIdeal.τ).loc Cert.AdamWGlaInIdeal.main_v0_3)),
      θ_run (Cert.AdamWGlaInIdeal.defs (F := Ideal)) (onTc (τ := Cert.AdamWGlaInIdeal.τ) (Cert.AdamWGlaInIdeal.main (F := Ideal))) ⟨m, fun _ => 0, g⟩ (fun r => ∀ c : Dev Cert.AdamWGlaInIdeal.nD,
          r.2.mem ((c.tc : Thread Cert.AdamWGlaInIdeal.nD Cert.AdamWGlaInIdeal.τ).loc Cert.AdamWGlaInIdeal.main_v0_0) = v0 c
          ∧ r.2.mem ((c.tc : Thread Cert.AdamWGlaInIdeal.nD Cert.AdamWGlaInIdeal.τ).loc Cert.AdamWGlaInIdeal.main_v0_1) = v1 c
          ∧ r.2.mem ((c.tc : Thread Cert.AdamWGlaInIdeal.nD Cert.AdamWGlaInIdeal.τ).loc Cert.AdamWGlaInIdeal.main_v0_2) = v2 c
          ∧ r.2.mem ((c.tc : Thread Cert.AdamWGlaInIdeal.nD Cert.AdamWGlaInIdeal.τ).loc Cert.AdamWGlaInIdeal.main_v0_3) = v3 c
          ∧ r.2.mem ((c.tc : Thread Cert.AdamWGlaInIdeal.nD Cert.AdamWGlaInIdeal.τ).loc Cert.AdamWGlaInIdeal.main_arg0) = m ((c.tc : Thread Cert.AdamWGlaInIdeal.nD Cert.AdamWGlaInIdeal.τ).loc Cert.AdamWGlaInIdeal.main_arg0)
          ∧ r.2.mem ((c.tc : Thread Cert.AdamWGlaInIdeal.nD Cert.AdamWGlaInIdeal.τ).loc Cert.AdamWGlaInIdeal.main_arg1) = m ((c.tc : Thread Cert.AdamWGlaInIdeal.nD Cert.AdamWGlaInIdeal.τ).loc Cert.AdamWGlaInIdeal.main_arg1)
          ∧ r.2.mem ((c.tc : Thread Cert.AdamWGlaInIdeal.nD Cert.AdamWGlaInIdeal.τ).loc Cert.AdamWGlaInIdeal.main_arg2) = m ((c.tc : Thread Cert.AdamWGlaInIdeal.nD Cert.AdamWGlaInIdeal.τ).loc Cert.AdamWGlaInIdeal.main_arg2)
          ∧ r.2.mem ((c.tc : Thread Cert.AdamWGlaInIdeal.nD Cert.AdamWGlaInIdeal.τ).loc Cert.AdamWGlaInIdeal.main_arg3) = m ((c.tc : Thread Cert.AdamWGlaInIdeal.nD Cert.AdamWGlaInIdeal.τ).loc Cert.AdamWGlaInIdeal.main_arg3)
          ∧ r.2.mem ((c.tc : Thread Cert.AdamWGlaInIdeal.nD Cert.AdamWGlaInIdeal.τ).loc Cert.AdamWGlaInIdeal.main_arg4) = m ((c.tc : Thread Cert.AdamWGlaInIdeal.nD Cert.AdamWGlaInIdeal.τ).loc Cert.AdamWGlaInIdeal.main_arg4)
          ∧ r.2.mem ((c.tc : Thread Cert.AdamWGlaInIdeal.nD Cert.AdamWGlaInIdeal.τ).loc Cert.AdamWGlaInIdeal.main_arg5) = m ((c.tc : Thread Cert.AdamWGlaInIdeal.nD Cert.AdamWGlaInIdeal.τ).loc Cert.AdamWGlaInIdeal.main_arg5))
      ∧ θ_run (Cert.AdamWGlaInRefIdeal.defs (F := Ideal)) (onTc (τ := Cert.AdamWGlaInRefIdeal.τ) (Cert.AdamWGlaInRefIdeal.main (F := Ideal))) ⟨m', fun _ => 0, g'⟩ (fun r => ∀ c : Dev Cert.AdamWGlaInRefIdeal.nD,
          r.2.mem ((c.tc : Thread Cert.AdamWGlaInRefIdeal.nD Cert.AdamWGlaInRefIdeal.τ).loc Cert.AdamWGlaInRefIdeal.main_v12) = v0 c
          ∧ r.2.mem ((c.tc : Thread Cert.AdamWGlaInRefIdeal.nD Cert.AdamWGlaInRefIdeal.τ).loc Cert.AdamWGlaInRefIdeal.main_v36) = v1 c
          ∧ r.2.mem ((c.tc : Thread Cert.AdamWGlaInRefIdeal.nD Cert.AdamWGlaInRefIdeal.τ).loc Cert.AdamWGlaInRefIdeal.main_v17) = v2 c
          ∧ r.2.mem ((c.tc : Thread Cert.AdamWGlaInRefIdeal.nD Cert.AdamWGlaInRefIdeal.τ).loc Cert.AdamWGlaInRefIdeal.main_v23) = v3 c
          ∧ r.2.mem ((c.tc : Thread Cert.AdamWGlaInRefIdeal.nD Cert.AdamWGlaInRefIdeal.τ).loc Cert.AdamWGlaInRefIdeal.main_arg0) = m' ((c.tc : Thread Cert.AdamWGlaInRefIdeal.nD Cert.AdamWGlaInRefIdeal.τ).loc Cert.AdamWGlaInRefIdeal.main_arg0)
          ∧ r.2.mem ((c.tc : Thread Cert.AdamWGlaInRefIdeal.nD Cert.AdamWGlaInRefIdeal.τ).loc Cert.AdamWGlaInRefIdeal.main_arg1) = m' ((c.tc : Thread Cert.AdamWGlaInRefIdeal.nD Cert.AdamWGlaInRefIdeal.τ).loc Cert.AdamWGlaInRefIdeal.main_arg1)
          ∧ r.2.mem ((c.tc : Thread Cert.AdamWGlaInRefIdeal.nD Cert.AdamWGlaInRefIdeal.τ).loc Cert.AdamWGlaInRefIdeal.main_arg2) = m' ((c.tc : Thread Cert.AdamWGlaInRefIdeal.nD Cert.AdamWGlaInRefIdeal.τ).loc Cert.AdamWGlaInRefIdeal.main_arg2)
          ∧ r.2.mem ((c.tc : Thread Cert.AdamWGlaInRefIdeal.nD Cert.AdamWGlaInRefIdeal.τ).loc Cert.AdamWGlaInRefIdeal.main_arg3) = m' ((c.tc : Thread Cert.AdamWGlaInRefIdeal.nD Cert.AdamWGlaInRefIdeal.τ).loc Cert.AdamWGlaInRefIdeal.main_arg3)
          ∧ r.2.mem ((c.tc : Thread Cert.AdamWGlaInRefIdeal.nD Cert.AdamWGlaInRefIdeal.τ).loc Cert.AdamWGlaInRefIdeal.main_arg4) = m' ((c.tc : Thread Cert.AdamWGlaInRefIdeal.nD Cert.AdamWGlaInRefIdeal.τ).loc Cert.AdamWGlaInRefIdeal.main_arg4)
          ∧ r.2.mem ((c.tc : Thread Cert.AdamWGlaInRefIdeal.nD Cert.AdamWGlaInRefIdeal.τ).loc Cert.AdamWGlaInRefIdeal.main_arg5) = m' ((c.tc : Thread Cert.AdamWGlaInRefIdeal.nD Cert.AdamWGlaInRefIdeal.τ).loc Cert.AdamWGlaInRefIdeal.main_arg5))

def preserves_AdamWRetOut_AdamWRetOutIdeal : Prop :=
  True

def algebraic_AdamWRetOutIdeal_AdamWRetOutRefIdeal [hAdamWRetOutIdeal : Cert.AdamWRetOutIdeal.Facts] [hAdamWRetOutRefIdeal : Cert.AdamWRetOutRefIdeal.Facts] [hPre_on_mesh_512_2048 : Cert.Pre_on_mesh_512_2048.Facts] : Prop :=
  ∀ (m : (ℓ : Loc Cert.AdamWRetOutIdeal.nD Cert.AdamWRetOutIdeal.τ Cert.AdamWRetOutIdeal.sig) → Buf (Elt Ideal) ℓ) (g : Dev Cert.AdamWRetOutIdeal.nD → PrngReg)
    (m' : (ℓ : Loc Cert.AdamWRetOutRefIdeal.nD Cert.AdamWRetOutRefIdeal.τ Cert.AdamWRetOutRefIdeal.sig) → Buf (Elt Ideal) ℓ) (g' : Dev Cert.AdamWRetOutRefIdeal.nD → PrngReg), Pre_AdamWRetOutIdeal m →
    (∀ c : Dev Cert.AdamWRetOutIdeal.nD,
      m' ((c.tc : Thread Cert.AdamWRetOutRefIdeal.nD Cert.AdamWRetOutRefIdeal.τ).loc Cert.AdamWRetOutRefIdeal.main_arg0) = m ((c.tc : Thread Cert.AdamWRetOutIdeal.nD Cert.AdamWRetOutIdeal.τ).loc Cert.AdamWRetOutIdeal.main_arg0)
      ∧ m' ((c.tc : Thread Cert.AdamWRetOutRefIdeal.nD Cert.AdamWRetOutRefIdeal.τ).loc Cert.AdamWRetOutRefIdeal.main_arg1) = m ((c.tc : Thread Cert.AdamWRetOutIdeal.nD Cert.AdamWRetOutIdeal.τ).loc Cert.AdamWRetOutIdeal.main_arg1)
      ∧ m' ((c.tc : Thread Cert.AdamWRetOutRefIdeal.nD Cert.AdamWRetOutRefIdeal.τ).loc Cert.AdamWRetOutRefIdeal.main_arg2) = m ((c.tc : Thread Cert.AdamWRetOutIdeal.nD Cert.AdamWRetOutIdeal.τ).loc Cert.AdamWRetOutIdeal.main_arg2)
      ∧ m' ((c.tc : Thread Cert.AdamWRetOutRefIdeal.nD Cert.AdamWRetOutRefIdeal.τ).loc Cert.AdamWRetOutRefIdeal.main_arg3) = m ((c.tc : Thread Cert.AdamWRetOutIdeal.nD Cert.AdamWRetOutIdeal.τ).loc Cert.AdamWRetOutIdeal.main_arg3)
      ∧ m' ((c.tc : Thread Cert.AdamWRetOutRefIdeal.nD Cert.AdamWRetOutRefIdeal.τ).loc Cert.AdamWRetOutRefIdeal.main_arg4) = m ((c.tc : Thread Cert.AdamWRetOutIdeal.nD Cert.AdamWRetOutIdeal.τ).loc Cert.AdamWRetOutIdeal.main_arg4)
      ∧ m' ((c.tc : Thread Cert.AdamWRetOutRefIdeal.nD Cert.AdamWRetOutRefIdeal.τ).loc Cert.AdamWRetOutRefIdeal.main_arg5) = m ((c.tc : Thread Cert.AdamWRetOutIdeal.nD Cert.AdamWRetOutIdeal.τ).loc Cert.AdamWRetOutIdeal.main_arg5)) →
    ∃ (v0 : (c : Dev Cert.AdamWRetOutIdeal.nD) → Buf (Elt Ideal) ((c.tc : Thread Cert.AdamWRetOutIdeal.nD Cert.AdamWRetOutIdeal.τ).loc Cert.AdamWRetOutIdeal.main_v0_0)) (v1 : (c : Dev Cert.AdamWRetOutIdeal.nD) → Buf (Elt Ideal) ((c.tc : Thread Cert.AdamWRetOutIdeal.nD Cert.AdamWRetOutIdeal.τ).loc Cert.AdamWRetOutIdeal.main_v0_1)) (v2 : (c : Dev Cert.AdamWRetOutIdeal.nD) → Buf (Elt Ideal) ((c.tc : Thread Cert.AdamWRetOutIdeal.nD Cert.AdamWRetOutIdeal.τ).loc Cert.AdamWRetOutIdeal.main_v0_2)) (v3 : (c : Dev Cert.AdamWRetOutIdeal.nD) → Buf (Elt Ideal) ((c.tc : Thread Cert.AdamWRetOutIdeal.nD Cert.AdamWRetOutIdeal.τ).loc Cert.AdamWRetOutIdeal.main_v0_3)),
      θ_run (Cert.AdamWRetOutIdeal.defs (F := Ideal)) (onTc (τ := Cert.AdamWRetOutIdeal.τ) (Cert.AdamWRetOutIdeal.main (F := Ideal))) ⟨m, fun _ => 0, g⟩ (fun r => ∀ c : Dev Cert.AdamWRetOutIdeal.nD,
          r.2.mem ((c.tc : Thread Cert.AdamWRetOutIdeal.nD Cert.AdamWRetOutIdeal.τ).loc Cert.AdamWRetOutIdeal.main_v0_0) = v0 c
          ∧ r.2.mem ((c.tc : Thread Cert.AdamWRetOutIdeal.nD Cert.AdamWRetOutIdeal.τ).loc Cert.AdamWRetOutIdeal.main_v0_1) = v1 c
          ∧ r.2.mem ((c.tc : Thread Cert.AdamWRetOutIdeal.nD Cert.AdamWRetOutIdeal.τ).loc Cert.AdamWRetOutIdeal.main_v0_2) = v2 c
          ∧ r.2.mem ((c.tc : Thread Cert.AdamWRetOutIdeal.nD Cert.AdamWRetOutIdeal.τ).loc Cert.AdamWRetOutIdeal.main_v0_3) = v3 c
          ∧ r.2.mem ((c.tc : Thread Cert.AdamWRetOutIdeal.nD Cert.AdamWRetOutIdeal.τ).loc Cert.AdamWRetOutIdeal.main_arg0) = m ((c.tc : Thread Cert.AdamWRetOutIdeal.nD Cert.AdamWRetOutIdeal.τ).loc Cert.AdamWRetOutIdeal.main_arg0)
          ∧ r.2.mem ((c.tc : Thread Cert.AdamWRetOutIdeal.nD Cert.AdamWRetOutIdeal.τ).loc Cert.AdamWRetOutIdeal.main_arg1) = m ((c.tc : Thread Cert.AdamWRetOutIdeal.nD Cert.AdamWRetOutIdeal.τ).loc Cert.AdamWRetOutIdeal.main_arg1)
          ∧ r.2.mem ((c.tc : Thread Cert.AdamWRetOutIdeal.nD Cert.AdamWRetOutIdeal.τ).loc Cert.AdamWRetOutIdeal.main_arg2) = m ((c.tc : Thread Cert.AdamWRetOutIdeal.nD Cert.AdamWRetOutIdeal.τ).loc Cert.AdamWRetOutIdeal.main_arg2)
          ∧ r.2.mem ((c.tc : Thread Cert.AdamWRetOutIdeal.nD Cert.AdamWRetOutIdeal.τ).loc Cert.AdamWRetOutIdeal.main_arg3) = m ((c.tc : Thread Cert.AdamWRetOutIdeal.nD Cert.AdamWRetOutIdeal.τ).loc Cert.AdamWRetOutIdeal.main_arg3)
          ∧ r.2.mem ((c.tc : Thread Cert.AdamWRetOutIdeal.nD Cert.AdamWRetOutIdeal.τ).loc Cert.AdamWRetOutIdeal.main_arg4) = m ((c.tc : Thread Cert.AdamWRetOutIdeal.nD Cert.AdamWRetOutIdeal.τ).loc Cert.AdamWRetOutIdeal.main_arg4)
          ∧ r.2.mem ((c.tc : Thread Cert.AdamWRetOutIdeal.nD Cert.AdamWRetOutIdeal.τ).loc Cert.AdamWRetOutIdeal.main_arg5) = m ((c.tc : Thread Cert.AdamWRetOutIdeal.nD Cert.AdamWRetOutIdeal.τ).loc Cert.AdamWRetOutIdeal.main_arg5))
      ∧ θ_run (Cert.AdamWRetOutRefIdeal.defs (F := Ideal)) (onTc (τ := Cert.AdamWRetOutRefIdeal.τ) (Cert.AdamWRetOutRefIdeal.main (F := Ideal))) ⟨m', fun _ => 0, g'⟩ (fun r => ∀ c : Dev Cert.AdamWRetOutRefIdeal.nD,
          r.2.mem ((c.tc : Thread Cert.AdamWRetOutRefIdeal.nD Cert.AdamWRetOutRefIdeal.τ).loc Cert.AdamWRetOutRefIdeal.main_v12) = v0 c
          ∧ r.2.mem ((c.tc : Thread Cert.AdamWRetOutRefIdeal.nD Cert.AdamWRetOutRefIdeal.τ).loc Cert.AdamWRetOutRefIdeal.main_v36) = v1 c
          ∧ r.2.mem ((c.tc : Thread Cert.AdamWRetOutRefIdeal.nD Cert.AdamWRetOutRefIdeal.τ).loc Cert.AdamWRetOutRefIdeal.main_v17) = v2 c
          ∧ r.2.mem ((c.tc : Thread Cert.AdamWRetOutRefIdeal.nD Cert.AdamWRetOutRefIdeal.τ).loc Cert.AdamWRetOutRefIdeal.main_v23) = v3 c
          ∧ r.2.mem ((c.tc : Thread Cert.AdamWRetOutRefIdeal.nD Cert.AdamWRetOutRefIdeal.τ).loc Cert.AdamWRetOutRefIdeal.main_arg0) = m' ((c.tc : Thread Cert.AdamWRetOutRefIdeal.nD Cert.AdamWRetOutRefIdeal.τ).loc Cert.AdamWRetOutRefIdeal.main_arg0)
          ∧ r.2.mem ((c.tc : Thread Cert.AdamWRetOutRefIdeal.nD Cert.AdamWRetOutRefIdeal.τ).loc Cert.AdamWRetOutRefIdeal.main_arg1) = m' ((c.tc : Thread Cert.AdamWRetOutRefIdeal.nD Cert.AdamWRetOutRefIdeal.τ).loc Cert.AdamWRetOutRefIdeal.main_arg1)
          ∧ r.2.mem ((c.tc : Thread Cert.AdamWRetOutRefIdeal.nD Cert.AdamWRetOutRefIdeal.τ).loc Cert.AdamWRetOutRefIdeal.main_arg2) = m' ((c.tc : Thread Cert.AdamWRetOutRefIdeal.nD Cert.AdamWRetOutRefIdeal.τ).loc Cert.AdamWRetOutRefIdeal.main_arg2)
          ∧ r.2.mem ((c.tc : Thread Cert.AdamWRetOutRefIdeal.nD Cert.AdamWRetOutRefIdeal.τ).loc Cert.AdamWRetOutRefIdeal.main_arg3) = m' ((c.tc : Thread Cert.AdamWRetOutRefIdeal.nD Cert.AdamWRetOutRefIdeal.τ).loc Cert.AdamWRetOutRefIdeal.main_arg3)
          ∧ r.2.mem ((c.tc : Thread Cert.AdamWRetOutRefIdeal.nD Cert.AdamWRetOutRefIdeal.τ).loc Cert.AdamWRetOutRefIdeal.main_arg4) = m' ((c.tc : Thread Cert.AdamWRetOutRefIdeal.nD Cert.AdamWRetOutRefIdeal.τ).loc Cert.AdamWRetOutRefIdeal.main_arg4)
          ∧ r.2.mem ((c.tc : Thread Cert.AdamWRetOutRefIdeal.nD Cert.AdamWRetOutRefIdeal.τ).loc Cert.AdamWRetOutRefIdeal.main_arg5) = m' ((c.tc : Thread Cert.AdamWRetOutRefIdeal.nD Cert.AdamWRetOutRefIdeal.τ).loc Cert.AdamWRetOutRefIdeal.main_arg5))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] [hPre_on_mesh_256_2048 : Cert.Pre_on_mesh_256_2048.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)
      ∧ m' ((c.tc : Thread Cert.AdamWOutRefIdeal.nD Cert.AdamWOutRefIdeal.τ).loc Cert.AdamWOutRefIdeal.main_arg4) = m ((c.tc : Thread Cert.AdamWOutIdeal.nD Cert.AdamWOutIdeal.τ).loc Cert.AdamWOutIdeal.main_arg4)
      ∧ m' ((c.tc : Thread Cert.AdamWOutRefIdeal.nD Cert.AdamWOutRefIdeal.τ).loc Cert.AdamWOutRefIdeal.main_arg5) = m ((c.tc : Thread Cert.AdamWOutIdeal.nD Cert.AdamWOutIdeal.τ).loc Cert.AdamWOutIdeal.main_arg5)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)) (v3 : (c : Dev Cert.AdamWOutIdeal.nD) → Buf (Elt Ideal) ((c.tc : Thread Cert.AdamWOutIdeal.nD Cert.AdamWOutIdeal.τ).loc Cert.AdamWOutIdeal.main_v0_3)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_v0_3) = v3 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3)
          ∧ r.2.mem ((c.tc : Thread Cert.AdamWOutIdeal.nD Cert.AdamWOutIdeal.τ).loc Cert.AdamWOutIdeal.main_arg4) = m ((c.tc : Thread Cert.AdamWOutIdeal.nD Cert.AdamWOutIdeal.τ).loc Cert.AdamWOutIdeal.main_arg4)
          ∧ r.2.mem ((c.tc : Thread Cert.AdamWOutIdeal.nD Cert.AdamWOutIdeal.τ).loc Cert.AdamWOutIdeal.main_arg5) = m ((c.tc : Thread Cert.AdamWOutIdeal.nD Cert.AdamWOutIdeal.τ).loc Cert.AdamWOutIdeal.main_arg5))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v12) = v0 c
          ∧ r.2.mem ((c.tc : Thread Cert.AdamWOutRefIdeal.nD Cert.AdamWOutRefIdeal.τ).loc Cert.AdamWOutRefIdeal.main_v36) = v1 c
          ∧ r.2.mem ((c.tc : Thread Cert.AdamWOutRefIdeal.nD Cert.AdamWOutRefIdeal.τ).loc Cert.AdamWOutRefIdeal.main_v17) = v2 c
          ∧ r.2.mem ((c.tc : Thread Cert.AdamWOutRefIdeal.nD Cert.AdamWOutRefIdeal.τ).loc Cert.AdamWOutRefIdeal.main_v23) = v3 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3)
          ∧ r.2.mem ((c.tc : Thread Cert.AdamWOutRefIdeal.nD Cert.AdamWOutRefIdeal.τ).loc Cert.AdamWOutRefIdeal.main_arg4) = m' ((c.tc : Thread Cert.AdamWOutRefIdeal.nD Cert.AdamWOutRefIdeal.τ).loc Cert.AdamWOutRefIdeal.main_arg4)
          ∧ r.2.mem ((c.tc : Thread Cert.AdamWOutRefIdeal.nD Cert.AdamWOutRefIdeal.τ).loc Cert.AdamWOutRefIdeal.main_arg5) = m' ((c.tc : Thread Cert.AdamWOutRefIdeal.nD Cert.AdamWOutRefIdeal.τ).loc Cert.AdamWOutRefIdeal.main_arg5))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hRetInDw : Cert.RetInDw.Facts) (hRetInDwIdeal : Cert.RetInDwIdeal.Facts) (hRetInDwRefIdeal : Cert.RetInDwRefIdeal.Facts) (hRetInDx : Cert.RetInDx.Facts) (hRetInDxIdeal : Cert.RetInDxIdeal.Facts) (hRetInDxRefIdeal : Cert.RetInDxRefIdeal.Facts) (hRetOutDw : Cert.RetOutDw.Facts) (hRetOutDwIdeal : Cert.RetOutDwIdeal.Facts) (hRetOutDwRefIdeal : Cert.RetOutDwRefIdeal.Facts) (hRetOutDx : Cert.RetOutDx.Facts) (hRetOutDxIdeal : Cert.RetOutDxIdeal.Facts) (hRetOutDxRefIdeal : Cert.RetOutDxRefIdeal.Facts) (hRetIn : Cert.RetIn.Facts) (hRetInIdeal : Cert.RetInIdeal.Facts) (hRetInRefIdeal : Cert.RetInRefIdeal.Facts) (hRetOut : Cert.RetOut.Facts) (hRetOutIdeal : Cert.RetOutIdeal.Facts) (hRetOutRefIdeal : Cert.RetOutRefIdeal.Facts) (hGdnInDx : Cert.GdnInDx.Facts) (hGdnInDxIdeal : Cert.GdnInDxIdeal.Facts) (hGdnInDxRefIdeal : Cert.GdnInDxRefIdeal.Facts) (hGdnIn : Cert.GdnIn.Facts) (hGdnInIdeal : Cert.GdnInIdeal.Facts) (hGdnInRefIdeal : Cert.GdnInRefIdeal.Facts) (hGlaInDw : Cert.GlaInDw.Facts) (hGlaInDwIdeal : Cert.GlaInDwIdeal.Facts) (hGlaInDwRefIdeal : Cert.GlaInDwRefIdeal.Facts) (hGlaInDx : Cert.GlaInDx.Facts) (hGlaInDxIdeal : Cert.GlaInDxIdeal.Facts) (hGlaInDxRefIdeal : Cert.GlaInDxRefIdeal.Facts) (hGlaIn : Cert.GlaIn.Facts) (hGlaInIdeal : Cert.GlaInIdeal.Facts) (hGlaInRefIdeal : Cert.GlaInRefIdeal.Facts) (hLruInDw : Cert.LruInDw.Facts) (hLruInDwIdeal : Cert.LruInDwIdeal.Facts) (hLruInDwRefIdeal : Cert.LruInDwRefIdeal.Facts) (hLruInDx : Cert.LruInDx.Facts) (hLruInDxIdeal : Cert.LruInDxIdeal.Facts) (hLruInDxRefIdeal : Cert.LruInDxRefIdeal.Facts) (hLruIn : Cert.LruIn.Facts) (hLruInIdeal : Cert.LruInIdeal.Facts) (hLruInRefIdeal : Cert.LruInRefIdeal.Facts) (hMixOutDw : Cert.MixOutDw.Facts) (hMixOutDwIdeal : Cert.MixOutDwIdeal.Facts) (hMixOutDwRefIdeal : Cert.MixOutDwRefIdeal.Facts) (hMixOutDx : Cert.MixOutDx.Facts) (hMixOutDxIdeal : Cert.MixOutDxIdeal.Facts) (hMixOutDxRefIdeal : Cert.MixOutDxRefIdeal.Facts) (hMixOut : Cert.MixOut.Facts) (hMixOutIdeal : Cert.MixOutIdeal.Facts) (hMixOutRefIdeal : Cert.MixOutRefIdeal.Facts) (hAdamW : Cert.AdamW.Facts) (hAdamWIdeal : Cert.AdamWIdeal.Facts) (hAdamWRefIdeal : Cert.AdamWRefIdeal.Facts) (hAdamWSmall : Cert.AdamWSmall.Facts) (hAdamWSmallIdeal : Cert.AdamWSmallIdeal.Facts) (hAdamWSmallRefIdeal : Cert.AdamWSmallRefIdeal.Facts) (hSum : Cert.Sum.Facts) (hSumIdeal : Cert.SumIdeal.Facts) (hSumRefIdeal : Cert.SumRefIdeal.Facts) (hSumEarly : Cert.SumEarly.Facts) (hSumEarlyIdeal : Cert.SumEarlyIdeal.Facts) (hSumEarlyRefIdeal : Cert.SumEarlyRefIdeal.Facts) (hSumLate : Cert.SumLate.Facts) (hSumLateIdeal : Cert.SumLateIdeal.Facts) (hSumLateRefIdeal : Cert.SumLateRefIdeal.Facts) (hAdamWLruIn : Cert.AdamWLruIn.Facts) (hAdamWLruInIdeal : Cert.AdamWLruInIdeal.Facts) (hAdamWLruInRefIdeal : Cert.AdamWLruInRefIdeal.Facts) (hAdamWRetIn : Cert.AdamWRetIn.Facts) (hAdamWRetInIdeal : Cert.AdamWRetInIdeal.Facts) (hAdamWRetInRefIdeal : Cert.AdamWRetInRefIdeal.Facts) (hAdamWGdnIn : Cert.AdamWGdnIn.Facts) (hAdamWGdnInIdeal : Cert.AdamWGdnInIdeal.Facts) (hAdamWGdnInRefIdeal : Cert.AdamWGdnInRefIdeal.Facts) (hAdamWGlaIn : Cert.AdamWGlaIn.Facts) (hAdamWGlaInIdeal : Cert.AdamWGlaInIdeal.Facts) (hAdamWGlaInRefIdeal : Cert.AdamWGlaInRefIdeal.Facts) (hAdamWRetOut : Cert.AdamWRetOut.Facts) (hAdamWRetOutIdeal : Cert.AdamWRetOutIdeal.Facts) (hAdamWRetOutRefIdeal : Cert.AdamWRetOutRefIdeal.Facts) (hAdamWOut : Cert.AdamWOut.Facts) (hAdamWOutIdeal : Cert.AdamWOutIdeal.Facts) (hAdamWOutRefIdeal : Cert.AdamWOutRefIdeal.Facts) (hPre_finite : Cert.Pre_finite.Facts) (hPre_on_mesh_2048_512 : Cert.Pre_on_mesh_2048_512.Facts) (hPre_on_mesh_2048_1536 : Cert.Pre_on_mesh_2048_1536.Facts) (hPre_on_mesh_2048_1028 : Cert.Pre_on_mesh_2048_1028.Facts) (hPre_on_mesh_2048_770 : Cert.Pre_on_mesh_2048_770.Facts) (hPre_on_mesh_512_2048 : Cert.Pre_on_mesh_512_2048.Facts) (hPre_on_mesh_256_2048 : Cert.Pre_on_mesh_256_2048.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_RetInDw (hRetInDw := hRetInDw)
    ∧ quiescent_RetInDwIdeal (hRetInDwIdeal := hRetInDwIdeal)
    ∧ quiescent_RetInDwRefIdeal (hRetInDwRefIdeal := hRetInDwRefIdeal)
    ∧ quiescent_RetInDx (hRetInDx := hRetInDx)
    ∧ quiescent_RetInDxIdeal (hRetInDxIdeal := hRetInDxIdeal)
    ∧ quiescent_RetInDxRefIdeal (hRetInDxRefIdeal := hRetInDxRefIdeal)
    ∧ quiescent_RetOutDw (hRetOutDw := hRetOutDw)
    ∧ quiescent_RetOutDwIdeal (hRetOutDwIdeal := hRetOutDwIdeal)
    ∧ quiescent_RetOutDwRefIdeal (hRetOutDwRefIdeal := hRetOutDwRefIdeal)
    ∧ quiescent_RetOutDx (hRetOutDx := hRetOutDx)
    ∧ quiescent_RetOutDxIdeal (hRetOutDxIdeal := hRetOutDxIdeal)
    ∧ quiescent_RetOutDxRefIdeal (hRetOutDxRefIdeal := hRetOutDxRefIdeal)
    ∧ quiescent_RetIn (hRetIn := hRetIn)
    ∧ quiescent_RetInIdeal (hRetInIdeal := hRetInIdeal)
    ∧ quiescent_RetInRefIdeal (hRetInRefIdeal := hRetInRefIdeal)
    ∧ quiescent_RetOut (hRetOut := hRetOut)
    ∧ quiescent_RetOutIdeal (hRetOutIdeal := hRetOutIdeal)
    ∧ quiescent_RetOutRefIdeal (hRetOutRefIdeal := hRetOutRefIdeal)
    ∧ quiescent_GdnInDx (hGdnInDx := hGdnInDx)
    ∧ quiescent_GdnInDxIdeal (hGdnInDxIdeal := hGdnInDxIdeal)
    ∧ quiescent_GdnInDxRefIdeal (hGdnInDxRefIdeal := hGdnInDxRefIdeal)
    ∧ quiescent_GdnIn (hGdnIn := hGdnIn)
    ∧ quiescent_GdnInIdeal (hGdnInIdeal := hGdnInIdeal)
    ∧ quiescent_GdnInRefIdeal (hGdnInRefIdeal := hGdnInRefIdeal)
    ∧ quiescent_GlaInDw (hGlaInDw := hGlaInDw)
    ∧ quiescent_GlaInDwIdeal (hGlaInDwIdeal := hGlaInDwIdeal)
    ∧ quiescent_GlaInDwRefIdeal (hGlaInDwRefIdeal := hGlaInDwRefIdeal)
    ∧ quiescent_GlaInDx (hGlaInDx := hGlaInDx)
    ∧ quiescent_GlaInDxIdeal (hGlaInDxIdeal := hGlaInDxIdeal)
    ∧ quiescent_GlaInDxRefIdeal (hGlaInDxRefIdeal := hGlaInDxRefIdeal)
    ∧ quiescent_GlaIn (hGlaIn := hGlaIn)
    ∧ quiescent_GlaInIdeal (hGlaInIdeal := hGlaInIdeal)
    ∧ quiescent_GlaInRefIdeal (hGlaInRefIdeal := hGlaInRefIdeal)
    ∧ quiescent_LruInDw (hLruInDw := hLruInDw)
    ∧ quiescent_LruInDwIdeal (hLruInDwIdeal := hLruInDwIdeal)
    ∧ quiescent_LruInDwRefIdeal (hLruInDwRefIdeal := hLruInDwRefIdeal)
    ∧ quiescent_LruInDx (hLruInDx := hLruInDx)
    ∧ quiescent_LruInDxIdeal (hLruInDxIdeal := hLruInDxIdeal)
    ∧ quiescent_LruInDxRefIdeal (hLruInDxRefIdeal := hLruInDxRefIdeal)
    ∧ quiescent_LruIn (hLruIn := hLruIn)
    ∧ quiescent_LruInIdeal (hLruInIdeal := hLruInIdeal)
    ∧ quiescent_LruInRefIdeal (hLruInRefIdeal := hLruInRefIdeal)
    ∧ quiescent_MixOutDw (hMixOutDw := hMixOutDw)
    ∧ quiescent_MixOutDwIdeal (hMixOutDwIdeal := hMixOutDwIdeal)
    ∧ quiescent_MixOutDwRefIdeal (hMixOutDwRefIdeal := hMixOutDwRefIdeal)
    ∧ quiescent_MixOutDx (hMixOutDx := hMixOutDx)
    ∧ quiescent_MixOutDxIdeal (hMixOutDxIdeal := hMixOutDxIdeal)
    ∧ quiescent_MixOutDxRefIdeal (hMixOutDxRefIdeal := hMixOutDxRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_AdamWSmall (hAdamWSmall := hAdamWSmall)
    ∧ quiescent_AdamWSmallIdeal (hAdamWSmallIdeal := hAdamWSmallIdeal)
    ∧ quiescent_AdamWSmallRefIdeal (hAdamWSmallRefIdeal := hAdamWSmallRefIdeal)
    ∧ quiescent_Sum (hSum := hSum)
    ∧ quiescent_SumIdeal (hSumIdeal := hSumIdeal)
    ∧ quiescent_SumRefIdeal (hSumRefIdeal := hSumRefIdeal)
    ∧ quiescent_SumEarly (hSumEarly := hSumEarly)
    ∧ quiescent_SumEarlyIdeal (hSumEarlyIdeal := hSumEarlyIdeal)
    ∧ quiescent_SumEarlyRefIdeal (hSumEarlyRefIdeal := hSumEarlyRefIdeal)
    ∧ quiescent_SumLate (hSumLate := hSumLate)
    ∧ quiescent_SumLateIdeal (hSumLateIdeal := hSumLateIdeal)
    ∧ quiescent_SumLateRefIdeal (hSumLateRefIdeal := hSumLateRefIdeal)
    ∧ quiescent_AdamWLruIn (hAdamWLruIn := hAdamWLruIn) (hPre_on_mesh_2048_512 := hPre_on_mesh_2048_512)
    ∧ quiescent_AdamWLruInIdeal (hAdamWLruInIdeal := hAdamWLruInIdeal) (hPre_on_mesh_2048_512 := hPre_on_mesh_2048_512)
    ∧ quiescent_AdamWLruInRefIdeal (hAdamWLruInRefIdeal := hAdamWLruInRefIdeal)
    ∧ quiescent_AdamWLruInRefIdeal_pre_on_mesh_2048_512 (hAdamWLruInRefIdeal := hAdamWLruInRefIdeal) (hPre_on_mesh_2048_512 := hPre_on_mesh_2048_512)
    ∧ quiescent_AdamWRetIn (hAdamWRetIn := hAdamWRetIn) (hPre_on_mesh_2048_1536 := hPre_on_mesh_2048_1536)
    ∧ quiescent_AdamWRetInIdeal (hAdamWRetInIdeal := hAdamWRetInIdeal) (hPre_on_mesh_2048_1536 := hPre_on_mesh_2048_1536)
    ∧ quiescent_AdamWRetInRefIdeal (hAdamWRetInRefIdeal := hAdamWRetInRefIdeal)
    ∧ quiescent_AdamWRetInRefIdeal_pre_on_mesh_2048_1536 (hAdamWRetInRefIdeal := hAdamWRetInRefIdeal) (hPre_on_mesh_2048_1536 := hPre_on_mesh_2048_1536)
    ∧ quiescent_AdamWGdnIn (hAdamWGdnIn := hAdamWGdnIn) (hPre_on_mesh_2048_1028 := hPre_on_mesh_2048_1028)
    ∧ quiescent_AdamWGdnInIdeal (hAdamWGdnInIdeal := hAdamWGdnInIdeal) (hPre_on_mesh_2048_1028 := hPre_on_mesh_2048_1028)
    ∧ quiescent_AdamWGdnInRefIdeal (hAdamWGdnInRefIdeal := hAdamWGdnInRefIdeal)
    ∧ quiescent_AdamWGdnInRefIdeal_pre_on_mesh_2048_1028 (hAdamWGdnInRefIdeal := hAdamWGdnInRefIdeal) (hPre_on_mesh_2048_1028 := hPre_on_mesh_2048_1028)
    ∧ quiescent_AdamWGlaIn (hAdamWGlaIn := hAdamWGlaIn) (hPre_on_mesh_2048_770 := hPre_on_mesh_2048_770)
    ∧ quiescent_AdamWGlaInIdeal (hAdamWGlaInIdeal := hAdamWGlaInIdeal) (hPre_on_mesh_2048_770 := hPre_on_mesh_2048_770)
    ∧ quiescent_AdamWGlaInRefIdeal (hAdamWGlaInRefIdeal := hAdamWGlaInRefIdeal)
    ∧ quiescent_AdamWGlaInRefIdeal_pre_on_mesh_2048_770 (hAdamWGlaInRefIdeal := hAdamWGlaInRefIdeal) (hPre_on_mesh_2048_770 := hPre_on_mesh_2048_770)
    ∧ quiescent_AdamWRetOut (hAdamWRetOut := hAdamWRetOut) (hPre_on_mesh_512_2048 := hPre_on_mesh_512_2048)
    ∧ quiescent_AdamWRetOutIdeal (hAdamWRetOutIdeal := hAdamWRetOutIdeal) (hPre_on_mesh_512_2048 := hPre_on_mesh_512_2048)
    ∧ quiescent_AdamWRetOutRefIdeal (hAdamWRetOutRefIdeal := hAdamWRetOutRefIdeal)
    ∧ quiescent_AdamWRetOutRefIdeal_pre_on_mesh_512_2048 (hAdamWRetOutRefIdeal := hAdamWRetOutRefIdeal) (hPre_on_mesh_512_2048 := hPre_on_mesh_512_2048)
    ∧ quiescent_AdamWOut (hAdamWOut := hAdamWOut) (hPre_on_mesh_256_2048 := hPre_on_mesh_256_2048)
    ∧ quiescent_AdamWOutIdeal (hAdamWOutIdeal := hAdamWOutIdeal) (hPre_on_mesh_256_2048 := hPre_on_mesh_256_2048)
    ∧ quiescent_AdamWOutRefIdeal (hAdamWOutRefIdeal := hAdamWOutRefIdeal)
    ∧ quiescent_AdamWOutRefIdeal_pre_on_mesh_256_2048 (hAdamWOutRefIdeal := hAdamWOutRefIdeal) (hPre_on_mesh_256_2048 := hPre_on_mesh_256_2048)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_RetInDw_RetInDwIdeal
    ∧ algebraic_RetInDwIdeal_RetInDwRefIdeal (hRetInDwIdeal := hRetInDwIdeal) (hRetInDwRefIdeal := hRetInDwRefIdeal)
    ∧ preserves_RetInDx_RetInDxIdeal
    ∧ algebraic_RetInDxIdeal_RetInDxRefIdeal (hRetInDxIdeal := hRetInDxIdeal) (hRetInDxRefIdeal := hRetInDxRefIdeal)
    ∧ preserves_RetOutDw_RetOutDwIdeal
    ∧ algebraic_RetOutDwIdeal_RetOutDwRefIdeal (hRetOutDwIdeal := hRetOutDwIdeal) (hRetOutDwRefIdeal := hRetOutDwRefIdeal)
    ∧ preserves_RetOutDx_RetOutDxIdeal
    ∧ algebraic_RetOutDxIdeal_RetOutDxRefIdeal (hRetOutDxIdeal := hRetOutDxIdeal) (hRetOutDxRefIdeal := hRetOutDxRefIdeal)
    ∧ preserves_RetIn_RetInIdeal
    ∧ algebraic_RetInIdeal_RetInRefIdeal (hRetInIdeal := hRetInIdeal) (hRetInRefIdeal := hRetInRefIdeal)
    ∧ preserves_RetOut_RetOutIdeal
    ∧ algebraic_RetOutIdeal_RetOutRefIdeal (hRetOutIdeal := hRetOutIdeal) (hRetOutRefIdeal := hRetOutRefIdeal)
    ∧ preserves_GdnInDx_GdnInDxIdeal
    ∧ algebraic_GdnInDxIdeal_GdnInDxRefIdeal (hGdnInDxIdeal := hGdnInDxIdeal) (hGdnInDxRefIdeal := hGdnInDxRefIdeal)
    ∧ preserves_GdnIn_GdnInIdeal
    ∧ algebraic_GdnInIdeal_GdnInRefIdeal (hGdnInIdeal := hGdnInIdeal) (hGdnInRefIdeal := hGdnInRefIdeal)
    ∧ preserves_GlaInDw_GlaInDwIdeal
    ∧ algebraic_GlaInDwIdeal_GlaInDwRefIdeal (hGlaInDwIdeal := hGlaInDwIdeal) (hGlaInDwRefIdeal := hGlaInDwRefIdeal)
    ∧ preserves_GlaInDx_GlaInDxIdeal
    ∧ algebraic_GlaInDxIdeal_GlaInDxRefIdeal (hGlaInDxIdeal := hGlaInDxIdeal) (hGlaInDxRefIdeal := hGlaInDxRefIdeal)
    ∧ preserves_GlaIn_GlaInIdeal
    ∧ algebraic_GlaInIdeal_GlaInRefIdeal (hGlaInIdeal := hGlaInIdeal) (hGlaInRefIdeal := hGlaInRefIdeal)
    ∧ preserves_LruInDw_LruInDwIdeal
    ∧ algebraic_LruInDwIdeal_LruInDwRefIdeal (hLruInDwIdeal := hLruInDwIdeal) (hLruInDwRefIdeal := hLruInDwRefIdeal)
    ∧ preserves_LruInDx_LruInDxIdeal
    ∧ algebraic_LruInDxIdeal_LruInDxRefIdeal (hLruInDxIdeal := hLruInDxIdeal) (hLruInDxRefIdeal := hLruInDxRefIdeal)
    ∧ preserves_LruIn_LruInIdeal
    ∧ algebraic_LruInIdeal_LruInRefIdeal (hLruInIdeal := hLruInIdeal) (hLruInRefIdeal := hLruInRefIdeal)
    ∧ preserves_MixOutDw_MixOutDwIdeal
    ∧ algebraic_MixOutDwIdeal_MixOutDwRefIdeal (hMixOutDwIdeal := hMixOutDwIdeal) (hMixOutDwRefIdeal := hMixOutDwRefIdeal)
    ∧ preserves_MixOutDx_MixOutDxIdeal
    ∧ algebraic_MixOutDxIdeal_MixOutDxRefIdeal (hMixOutDxIdeal := hMixOutDxIdeal) (hMixOutDxRefIdeal := hMixOutDxRefIdeal)
    ∧ preserves_MixOut_MixOutIdeal
    ∧ algebraic_MixOutIdeal_MixOutRefIdeal (hMixOutIdeal := hMixOutIdeal) (hMixOutRefIdeal := hMixOutRefIdeal)
    ∧ preserves_AdamW_AdamWIdeal
    ∧ algebraic_AdamWIdeal_AdamWRefIdeal (hAdamWIdeal := hAdamWIdeal) (hAdamWRefIdeal := hAdamWRefIdeal)
    ∧ preserves_AdamWSmall_AdamWSmallIdeal
    ∧ algebraic_AdamWSmallIdeal_AdamWSmallRefIdeal (hAdamWSmallIdeal := hAdamWSmallIdeal) (hAdamWSmallRefIdeal := hAdamWSmallRefIdeal)
    ∧ preserves_Sum_SumIdeal
    ∧ algebraic_SumIdeal_SumRefIdeal (hSumIdeal := hSumIdeal) (hSumRefIdeal := hSumRefIdeal)
    ∧ preserves_SumEarly_SumEarlyIdeal
    ∧ algebraic_SumEarlyIdeal_SumEarlyRefIdeal (hSumEarlyIdeal := hSumEarlyIdeal) (hSumEarlyRefIdeal := hSumEarlyRefIdeal)
    ∧ preserves_SumLate_SumLateIdeal
    ∧ algebraic_SumLateIdeal_SumLateRefIdeal (hSumLateIdeal := hSumLateIdeal) (hSumLateRefIdeal := hSumLateRefIdeal)
    ∧ preserves_AdamWLruIn_AdamWLruInIdeal
    ∧ algebraic_AdamWLruInIdeal_AdamWLruInRefIdeal (hAdamWLruInIdeal := hAdamWLruInIdeal) (hAdamWLruInRefIdeal := hAdamWLruInRefIdeal) (hPre_on_mesh_2048_512 := hPre_on_mesh_2048_512)
    ∧ preserves_AdamWRetIn_AdamWRetInIdeal
    ∧ algebraic_AdamWRetInIdeal_AdamWRetInRefIdeal (hAdamWRetInIdeal := hAdamWRetInIdeal) (hAdamWRetInRefIdeal := hAdamWRetInRefIdeal) (hPre_on_mesh_2048_1536 := hPre_on_mesh_2048_1536)
    ∧ preserves_AdamWGdnIn_AdamWGdnInIdeal
    ∧ algebraic_AdamWGdnInIdeal_AdamWGdnInRefIdeal (hAdamWGdnInIdeal := hAdamWGdnInIdeal) (hAdamWGdnInRefIdeal := hAdamWGdnInRefIdeal) (hPre_on_mesh_2048_1028 := hPre_on_mesh_2048_1028)
    ∧ preserves_AdamWGlaIn_AdamWGlaInIdeal
    ∧ algebraic_AdamWGlaInIdeal_AdamWGlaInRefIdeal (hAdamWGlaInIdeal := hAdamWGlaInIdeal) (hAdamWGlaInRefIdeal := hAdamWGlaInRefIdeal) (hPre_on_mesh_2048_770 := hPre_on_mesh_2048_770)
    ∧ preserves_AdamWRetOut_AdamWRetOutIdeal
    ∧ algebraic_AdamWRetOutIdeal_AdamWRetOutRefIdeal (hAdamWRetOutIdeal := hAdamWRetOutIdeal) (hAdamWRetOutRefIdeal := hAdamWRetOutRefIdeal) (hPre_on_mesh_512_2048 := hPre_on_mesh_512_2048)
    ∧ preserves_AdamWOut_AdamWOutIdeal
    ∧ algebraic_AdamWOutIdeal_AdamWOutRefIdeal (hAdamWOutIdeal := hAdamWOutIdeal) (hAdamWOutRefIdeal := hAdamWOutRefIdeal) (hPre_on_mesh_256_2048 := hPre_on_mesh_256_2048)
-- ==== Pre_finite.lean ====
abbrev S2048x12288 : Shape := ⟨2, ![2048, 12288]⟩
abbrev S8x512 : Shape := ⟨2, ![8, 512]⟩
abbrev S2048x4096 : Shape := ⟨2, ![2048, 4096]⟩
abbrev S_ : Shape := ⟨0, ![]⟩

class Facts : Prop where
  bcast_S_S2048x12288 : S_.BroadcastsInDim S2048x12288 (![] : Fin 0 → Fin S2048x12288.rank)
  reducesTo_S2048x12288_S_d0_1 : S2048x12288.ReducesTo [0, 1] S_
  h_S_ : 0 < S_.numel
  bcast_S_S8x512 : S_.BroadcastsInDim S8x512 (![] : Fin 0 → Fin S8x512.rank)
  reducesTo_S8x512_S_d0_1 : S8x512.ReducesTo [0, 1] S_
  bcast_S_S2048x4096 : S_.BroadcastsInDim S2048x4096 (![] : Fin 0 → Fin S2048x4096.rank)
  reducesTo_S2048x4096_S_d0_1 : S2048x4096.ReducesTo [0, 1] S_

variable [Facts]

def fn {F : FTy → Type} [FloatOps F] (main_arg0 : FVec F S2048x12288 .f32) (main_arg1 : FVec F S8x512 .f32) (main_arg2 : FVec F S2048x4096 .f32) : IVec S_ 1 :=
  let main_v0 : FVec F S2048x12288 .f32 := Host.absf main_arg0
  let main_cst : FVec F S_ .f32 := constant S_ .f32 0x7F800000#32
  let main_v1 : FVec F S2048x12288 .f32 := broadcastInDim S2048x12288 ![] bcast_S_S2048x12288 main_cst
  let main_v2 : IVec S2048x12288 1 := cmpf .olt main_v0 main_v1
  let main_c : IVec S_ 1 := constantI S_ 1 1#1
  let main_v3 : IVec S_ 1 := (fun x v => Host.reduce IntOp.andi x v reducesTo_S2048x12288_S_d0_1 h_S_) main_v2 main_c
  let main_v4 : FVec F S8x512 .f32 := Host.absf main_arg1
  let main_cst_0 : FVec F S_ .f32 := constant S_ .f32 0x7F800000#32
  let main_v5 : FVec F S8x512 .f32 := broadcastInDim S8x512 ![] bcast_S_S8x512 main_cst_0
  let main_v6 : IVec S8x512 1 := cmpf .olt main_v4 main_v5
  let main_c_1 : IVec S_ 1 := constantI S_ 1 1#1
  let main_v7 : IVec S_ 1 := (fun x v => Host.reduce IntOp.andi x v reducesTo_S8x512_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  main_v13
-- ==== Pre_on_mesh_2048_1028.lean ====
abbrev S1x2048x1028 : Shape := ⟨3, ![1, 2048, 1028]⟩
abbrev S4x2048x1028 : Shape := ⟨3, ![4, 2048, 1028]⟩
abbrev S3x2048x1028 : Shape := ⟨3, ![3, 2048, 1028]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S1x2048x1028 .f32) (main_arg1 : FVec F S1x2048x1028 .f32) (main_arg2 : FVec F S1x2048x1028 .f32) (main_arg3 : FVec F S4x2048x1028 .bf16) (main_arg4 : FVec F S3x2048x1028 .bf16) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_on_mesh_2048_1536.lean ====
abbrev S1x2048x1536 : Shape := ⟨3, ![1, 2048, 1536]⟩
abbrev S4x2048x1536 : Shape := ⟨3, ![4, 2048, 1536]⟩
abbrev S3x2048x1536 : Shape := ⟨3, ![3, 2048, 1536]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S1x2048x1536 .f32) (main_arg1 : FVec F S1x2048x1536 .f32) (main_arg2 : FVec F S1x2048x1536 .f32) (main_arg3 : FVec F S4x2048x1536 .bf16) (main_arg4 : FVec F S3x2048x1536 .bf16) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_on_mesh_2048_512.lean ====
abbrev S1x2048x512 : Shape := ⟨3, ![1, 2048, 512]⟩
abbrev S4x2048x512 : Shape := ⟨3, ![4, 2048, 512]⟩
abbrev S3x2048x512 : Shape := ⟨3, ![3, 2048, 512]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S1x2048x512 .f32) (main_arg1 : FVec F S1x2048x512 .f32) (main_arg2 : FVec F S1x2048x512 .f32) (main_arg3 : FVec F S4x2048x512 .bf16) (main_arg4 : FVec F S3x2048x512 .bf16) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_on_mesh_2048_770.lean ====
abbrev S1x2048x770 : Shape := ⟨3, ![1, 2048, 770]⟩
abbrev S4x2048x770 : Shape := ⟨3, ![4, 2048, 770]⟩
abbrev S3x2048x770 : Shape := ⟨3, ![3, 2048, 770]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S1x2048x770 .f32) (main_arg1 : FVec F S1x2048x770 .f32) (main_arg2 : FVec F S1x2048x770 .f32) (main_arg3 : FVec F S4x2048x770 .bf16) (main_arg4 : FVec F S3x2048x770 .bf16) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_on_mesh_256_2048.lean ====
abbrev S1x256x2048 : Shape := ⟨3, ![1, 256, 2048]⟩
abbrev S4x256x2048 : Shape := ⟨3, ![4, 256, 2048]⟩
abbrev S3x256x2048 : Shape := ⟨3, ![3, 256, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S1x256x2048 .f32) (main_arg1 : FVec F S1x256x2048 .f32) (main_arg2 : FVec F S1x256x2048 .f32) (main_arg3 : FVec F S4x256x2048 .bf16) (main_arg4 : FVec F S3x256x2048 .bf16) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_on_mesh_512_2048.lean ====
abbrev S1x512x2048 : Shape := ⟨3, ![1, 512, 2048]⟩
abbrev S4x512x2048 : Shape := ⟨3, ![4, 512, 2048]⟩
abbrev S3x512x2048 : Shape := ⟨3, ![3, 512, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S1x512x2048 .f32) (main_arg1 : FVec F S1x512x2048 .f32) (main_arg2 : FVec F S1x512x2048 .f32) (main_arg3 : FVec F S4x512x2048 .bf16) (main_arg4 : FVec F S3x512x2048 .bf16) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Kernel.lean ====
abbrev S2048x12288 : Shape := ⟨2, ![2048, 12288]⟩
abbrev S8x512 : Shape := ⟨2, ![8, 512]⟩
abbrev S2048x4096 : Shape := ⟨2, ![2048, 4096]⟩
abbrev S8 : Shape := ⟨1, ![8]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x1x1 : Shape := ⟨3, ![8, 1, 1]⟩
abbrev S1x64x64 : Shape := ⟨3, ![1, 64, 64]⟩
abbrev S8x64x64 : Shape := ⟨3, ![8, 64, 64]⟩
abbrev S8x1 : Shape := ⟨2, ![8, 1]⟩
abbrev S8x64 : Shape := ⟨2, ![8, 64]⟩
abbrev S8x64x1 : Shape := ⟨3, ![8, 64, 1]⟩
abbrev S128 : Shape := ⟨1, ![128]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S8x1x512 : Shape := ⟨3, ![8, 1, 512]⟩
abbrev S2048x2048 : Shape := ⟨2, ![2048, 2048]⟩
abbrev S1x2048x2048 : Shape := ⟨3, ![1, 2048, 2048]⟩
abbrev S1x2048x4096 : Shape := ⟨3, ![1, 2048, 4096]⟩
abbrev S1x2048x8x256 : Shape := ⟨4, ![1, 2048, 8, 256]⟩
abbrev S2048x1x128 : Shape := ⟨3, ![2048, 1, 128]⟩
abbrev S1x2048x8x128 : Shape := ⟨4, ![1, 2048, 8, 128]⟩
abbrev S1x2048x1x128 : Shape := ⟨4, ![1, 2048, 1, 128]⟩
abbrev S1x2048x8x512 : Shape := ⟨4, ![1, 2048, 8, 512]⟩
abbrev S32 : Shape := ⟨1, ![32]⟩
abbrev S32x1 : Shape := ⟨2, ![32, 1]⟩
abbrev S1x2048 : Shape := ⟨2, ![1, 2048]⟩
abbrev S32x2048 : Shape := ⟨2, ![32, 2048]⟩
abbrev S1x32x2048 : Shape := ⟨3, ![1, 32, 2048]⟩
abbrev S8x32x2048 : Shape := ⟨3, ![8, 32, 2048]⟩
abbrev S1x8x32x2048x1 : Shape := ⟨5, ![1, 8, 32, 2048, 1]⟩
abbrev S1x8x2048x256 : Shape := ⟨4, ![1, 8, 2048, 256]⟩
abbrev S1x8x1x2048x256 : Shape := ⟨5, ![1, 8, 1, 2048, 256]⟩
abbrev S1x8x32x2048x256 : Shape := ⟨5, ![1, 8, 32, 2048, 256]⟩
abbrev S1x8x32x256x512 : Shape := ⟨5, ![1, 8, 32, 256, 512]⟩
abbrev S8x32x256x512 : Shape := ⟨4, ![8, 32, 256, 512]⟩
abbrev S64x1024 : Shape := ⟨2, ![64, 1024]⟩
abbrev S64x2048 : Shape := ⟨2, ![64, 2048]⟩
abbrev S64x128 : Shape := ⟨2, ![64, 128]⟩
abbrev S4x64x64 : Shape := ⟨3, ![4, 64, 64]⟩
abbrev S4x64x1 : Shape := ⟨3, ![4, 64, 1]⟩
abbrev S4x1x1 : Shape := ⟨3, ![4, 1, 1]⟩
abbrev S4x1x512 : Shape := ⟨3, ![4, 1, 512]⟩
abbrev S4x1x256x512 : Shape := ⟨4, ![4, 1, 256, 512]⟩
abbrev S4x256x512 : Shape := ⟨3, ![4, 256, 512]⟩
abbrev S64x256 : Shape := ⟨2, ![64, 256]⟩
abbrev S64x512 : Shape := ⟨2, ![64, 512]⟩
abbrev S1x1x256x512 : Shape := ⟨4, ![1, 1, 256, 512]⟩
abbrev S256x512 : Shape := ⟨2, ![256, 512]⟩
abbrev S1x64x1 : Shape := ⟨3, ![1, 64, 1]⟩
abbrev S1x1x512 : Shape := ⟨3, ![1, 1, 512]⟩
abbrev S1x512 : Shape := ⟨2, ![1, 512]⟩
abbrev S512 : Shape := ⟨1, ![512]⟩
abbrev S1x256x512 : Shape := ⟨3, ![1, 256, 512]⟩
abbrev S1x1x1 : Shape := ⟨3, ![1, 1, 1]⟩
abbrev S1x1 : Shape := ⟨2, ![1, 1]⟩

abbrev nBuf : Space → Nat
  | .hbm => 175
  | .vmem => 37
  | .smem => 0
  | _ => 0

abbrev hbmTy0_0 (i : Nat) : BufTy := match i % 128 with
  | 0 => ⟨S2048x12288, .f32⟩
  | 1 => ⟨S8x512, .f32⟩
  | 2 => ⟨S2048x4096, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S8, .f32⟩
  | 11 => ⟨S8, .f32⟩
  | 12 => ⟨S8, .f32⟩
  | 13 => ⟨S64, .f32⟩
  | 14 => ⟨S64x1, .f32⟩
  | 15 => ⟨S1x64, .f32⟩
  | 16 => ⟨S64x64, .f32⟩
  | 17 => ⟨S64x64, .f32⟩
  | 18 => ⟨S64x64, .f32⟩
  | 19 => ⟨S64x64, .f32⟩
  | 20 => ⟨S8x1x1, .f32⟩
  | 21 => ⟨S1x64x64, .f32⟩
  | 22 => ⟨S8x64x64, .f32⟩
  | 23 => ⟨S8x64x64, .f32⟩
  | 24 => ⟨S8x64x64, .f32⟩
  | 25 => ⟨S8x64x64, .f32⟩
  | 26 => ⟨S8x1, .f32⟩
  | 27 => ⟨S_, .f32⟩
  | 28 => ⟨S64, .f32⟩
  | 29 => ⟨S64, .f32⟩
  | 30 => ⟨S1x64, .f32⟩
  | 31 => ⟨S8x64, .f32⟩
  | 32 => ⟨S8x64, .f32⟩
  | 33 => ⟨S8x64, .f32⟩
  | 34 => ⟨S8x64, .f32⟩
  | 35 => ⟨S8x64x1, .f32⟩
  | 36 => ⟨S8x1, .f32⟩
  | 37 => ⟨S_, .f32⟩
  | 38 => ⟨S64, .f32⟩
  | 39 => ⟨S64, .f32⟩
  | 40 => ⟨S1x64, .f32⟩
  | 41 => ⟨S8x64, .f32⟩
  | 42 => ⟨S8x64, .f32⟩
  | 43 => ⟨S8x64, .f32⟩
  | 44 => ⟨S8x64, .f32⟩
  | 45 => ⟨S8x64x1, .f32⟩
  | 46 => ⟨S_, .f32⟩
  | 47 => ⟨S8, .f32⟩
  | 48 => ⟨S8, .f32⟩
  | 49 => ⟨S8, .f32⟩
  | 50 => ⟨S8x1x1, .f32⟩
  | 51 => ⟨S128, .f32⟩
  | 52 => ⟨S_, .f32⟩
  | 53 => ⟨S128, .f32⟩
  | 54 => ⟨S128, .f32⟩
  | 55 => ⟨S_, .f32⟩
  | 56 => ⟨S128, .f32⟩
  | 57 => ⟨S128, .f32⟩
  | 58 => ⟨S128, .f32⟩
  | 59 => ⟨S_, .f32⟩
  | 60 => ⟨S128, .f32⟩
  | 61 => ⟨S128, .f32⟩
  | 62 => ⟨S_, .f32⟩
  | 63 => ⟨S128, .f32⟩
  | 64 => ⟨S128, .f32⟩
  | 65 => ⟨S2048, .f32⟩
  | 66 => ⟨S2048x1, .f32⟩
  | 67 => ⟨S1x128, .f32⟩
  | 68 => ⟨S2048x128, .f32⟩
  | 69 => ⟨S2048x128, .f32⟩
  | 70 => ⟨S2048x128, .f32⟩
  | 71 => ⟨S2048x128, .f32⟩
  | 72 => ⟨S2048x128, .f32⟩
  | 73 => ⟨S8x1x512, .f32⟩
  | 74 => ⟨S2048x2048, .f32⟩
  | 75 => ⟨S1x2048x2048, .f32⟩
  | 76 => ⟨S2048x4096, .f32⟩
  | 77 => ⟨S1x2048x4096, .f32⟩
  | 78 => ⟨S1x2048x8x256, .f32⟩
  | 79 => ⟨S128, .f32⟩
  | 80 => ⟨S_, .f32⟩
  | 81 => ⟨S128, .f32⟩
  | 82 => ⟨S128, .f32⟩
  | 83 => ⟨S_, .f32⟩
  | 84 => ⟨S128, .f32⟩
  | 85 => ⟨S128, .f32⟩
  | 86 => ⟨S128, .f32⟩
  | 87 => ⟨S_, .f32⟩
  | 88 => ⟨S128, .f32⟩
  | 89 => ⟨S128, .f32⟩
  | 90 => ⟨S_, .f32⟩
  | 91 => ⟨S128, .f32⟩
  | 92 => ⟨S128, .f32⟩
  | 93 => ⟨S2048, .f32⟩
  | 94 => ⟨S2048x1, .f32⟩
  | 95 => ⟨S1x128, .f32⟩
  | 96 => ⟨S2048x128, .f32⟩
  | 97 => ⟨S2048x128, .f32⟩
  | 98 => ⟨S2048x128, .f32⟩
  | 99 => ⟨S2048x128, .f32⟩
  | 100 => ⟨S2048x1x128, .f32⟩
  | 101 => ⟨S2048x128, .f32⟩
  | 102 => ⟨S2048x1x128, .f32⟩
  | 103 => ⟨S1x2048x8x128, .f32⟩
  | 104 => ⟨S1x2048x8x128, .f32⟩
  | 105 => ⟨S1x2048x1x128, .f32⟩
  | 106 => ⟨S1x2048x8x128, .f32⟩
  | 107 => ⟨S1x2048x8x128, .f32⟩
  | 108 => ⟨S1x2048x1x128, .f32⟩
  | 109 => ⟨S1x2048x8x128, .f32⟩
  | 110 => ⟨S1x2048x8x128, .f32⟩
  | 111 => ⟨S1x2048x8x128, .f32⟩
  | 112 => ⟨S1x2048x1x128, .f32⟩
  | 113 => ⟨S1x2048x8x128, .f32⟩
  | 114 => ⟨S1x2048x8x128, .f32⟩
  | 115 => ⟨S1x2048x1x128, .f32⟩
  | 116 => ⟨S1x2048x8x128, .f32⟩
  | 117 => ⟨S1x2048x8x128, .f32⟩
  | 118 => ⟨S1x2048x8x128, .f32⟩
  | 119 => ⟨S1x2048x8x256, .f32⟩
  | 120 => ⟨S_, .f32⟩
  | 121 => ⟨S1x2048x8x256, .f32⟩
  | 122 => ⟨S1x2048x8x256, .f32⟩
  | 123 => ⟨S1x2048x8x512, .f32⟩
  | 124 => ⟨S32, .f32⟩
  | 125 => ⟨S32x1, .f32⟩
  | 126 => ⟨S_, .f32⟩
  | 127 => ⟨S32x1, .f32⟩
  | _ => ⟨S2048x12288, .f32⟩

abbrev hbmTy0_1 (i : Nat) : BufTy := match i % 128 with
  | 0 => ⟨S32x1, .f32⟩
  | 1 => ⟨S_, .f32⟩
  | 2 => ⟨S32x1, .f32⟩
  | 3 => ⟨S32x1, .f32⟩
  | 4 => ⟨S2048, .f32⟩
  | 5 => ⟨S1x2048, .f32⟩
  | 6 => ⟨S32x2048, .f32⟩
  | 7 => ⟨S32x2048, .f32⟩
  | 8 => ⟨S32x2048, .f32⟩
  | 9 => ⟨S_, .f32⟩
  | 10 => ⟨S32x2048, .f32⟩
  | 11 => ⟨S32x2048, .i1⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S8, .f32⟩
  | 20 => ⟨S8, .f32⟩
  | 21 => ⟨S8, .f32⟩
  | 22 => ⟨S8x1x1, .f32⟩
  | 23 => ⟨S1x32x2048, .f32⟩
  | 24 => ⟨S8x32x2048, .f32⟩
  | 25 => ⟨S8x32x2048, .f32⟩
  | 26 => ⟨S8x32x2048, .f32⟩
  | 27 => ⟨S8x32x2048, .f32⟩
  | 28 => ⟨S_, .f32⟩
  | 29 => ⟨S_, .f32⟩
  | 30 => ⟨S8x32x2048, .i1⟩
  | 31 => ⟨S8x32x2048, .f32⟩
  | 32 => ⟨S8x32x2048, .f32⟩
  | 33 => ⟨S1x8x32x2048x1, .f32⟩
  | 34 => ⟨S1x8x2048x256, .f32⟩
  | 35 => ⟨S1x8x1x2048x256, .f32⟩
  | 36 => ⟨S1x8x32x2048x256, .f32⟩
  | 37 => ⟨S1x8x32x2048x256, .f32⟩
  | 38 => ⟨S1x8x32x2048x256, .f32⟩
  | 39 => ⟨S1x8x32x256x512, .f32⟩
  | 40 => ⟨S8x32x256x512, .f32⟩
  | 41 => ⟨S8x32x256x512, .bf16⟩
  | 42 => ⟨S2048x2048, .bf16⟩
  | 43 => ⟨S2048x2048, .bf16⟩
  | 44 => ⟨S2048x4096, .bf16⟩
  | 45 => ⟨S2048x4096, .bf16⟩
  | 46 => ⟨S8x1x512, .f32⟩
  | _ => ⟨S2048x12288, .f32⟩

abbrev hbmTy (i : Nat) : BufTy := match i / 128 with
  | 0 => hbmTy0_0 i
  | 1 => hbmTy0_1 i
  | _ => ⟨S2048x12288, .f32⟩

abbrev bufTy : (tb : Table) → Fin (tcTables nBuf tb) → BufTy
  | .hbm, ⟨i, _⟩ => hbmTy i
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S4x64x64, .f32⟩
  | .local _ .vmem, ⟨13, _⟩ => ⟨S4x64x64, .f32⟩
  | .local _ .vmem, ⟨14, _⟩ => ⟨S4x64x1, .f32⟩
  | .local _ .vmem, ⟨15, _⟩ => ⟨S4x64x1, .f32⟩
  | .local _ .vmem, ⟨16, _⟩ => ⟨S4x64x1, .f32⟩
  | .local _ .vmem, ⟨17, _⟩ => ⟨S4x64x1, .f32⟩
  | .local _ .vmem, ⟨18, _⟩ => ⟨S4x1x1, .f32⟩
  | .local _ .vmem, ⟨19, _⟩ => ⟨S4x1x1, .f32⟩
  | .local _ .vmem, ⟨20, _⟩ => ⟨S4x1x512, .f32⟩
  | .local _ .vmem, ⟨21, _⟩ => ⟨S4x1x512, .f32⟩
  | .local _ .vmem, ⟨22, _⟩ => ⟨S4x1x256x512, .bf16⟩
  | .local _ .vmem, ⟨23, _⟩ => ⟨S4x1x256x512, .bf16⟩
  | .local _ .vmem, ⟨24, _⟩ => ⟨S64x2048, .f32⟩
  | .local _ .vmem, ⟨25, _⟩ => ⟨S64x2048, .f32⟩
  | .local _ .vmem, ⟨26, _⟩ => ⟨S64x1024, .bf16⟩
  | .local _ .vmem, ⟨27, _⟩ => ⟨S64x1024, .bf16⟩
  | .local _ .vmem, ⟨28, _⟩ => ⟨S64x1024, .bf16⟩
  | .local _ .vmem, ⟨29, _⟩ => ⟨S64x1024, .bf16⟩
  | .local _ .vmem, ⟨30, _⟩ => ⟨S64x2048, .bf16⟩
  | .local _ .vmem, ⟨31, _⟩ => ⟨S64x2048, .bf16⟩
  | .local _ .vmem, ⟨32, _⟩ => ⟨S64x2048, .bf16⟩
  | .local _ .vmem, ⟨33, _⟩ => ⟨S64x2048, .bf16⟩
  | .local _ .vmem, ⟨34, _⟩ => ⟨S4x1x512, .f32⟩
  | .local _ .vmem, ⟨35, _⟩ => ⟨S4x1x512, .f32⟩
  | .local _ .vmem, ⟨36, _⟩ => ⟨S4x256x512, .f32⟩
  | _, _ => ⟨S2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_8 : Ref sig .tc := ⟨.hbm, 80, rfl⟩
abbrev main_v68 : Ref sig .tc := ⟨.hbm, 81, rfl⟩
abbrev main_v69 : Ref sig .tc := ⟨.hbm, 82, rfl⟩
abbrev main_cst_9 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_10 : Ref sig .tc := ⟨.hbm, 87, rfl⟩
abbrev main_v73 : Ref sig .tc := ⟨.hbm, 88, rfl⟩
abbrev main_v74 : Ref sig .tc := ⟨.hbm, 89, rfl⟩
abbrev main_cst_11 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_cst_12 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_cst_13 : Ref sig .tc := ⟨.hbm, 126, rfl⟩
abbrev main_v109 : Ref sig .tc := ⟨.hbm, 127, rfl⟩
abbrev main_v110 : Ref sig .tc := ⟨.hbm, 128, rfl⟩
abbrev main_cst_14 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_cst_15 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_cst_16 : Ref sig .tc := ⟨.hbm, 141, rfl⟩
abbrev main_v121 : Ref sig .tc := ⟨.hbm, 142, rfl⟩
abbrev main_v122 : Ref sig .tc := ⟨.hbm, 143, rfl⟩
abbrev main_cst_17 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_cst_18 : Ref sig .tc := ⟨.hbm, 156, rfl⟩
abbrev main_call0_v0 : Ref sig .tc := ⟨.hbm, 157, rfl⟩
abbrev main_call0_v1 : Ref sig .tc := ⟨.hbm, 158, rfl⟩
abbrev main_call0_v2 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144_0 : Ref sig .tc := ⟨.hbm, 170, rfl⟩
abbrev main_v144_1 : Ref sig .tc := ⟨.hbm, 171, rfl⟩
abbrev main_v144_2 : Ref sig .tc := ⟨.hbm, 172, rfl⟩
abbrev main_v144_3 : Ref sig .tc := ⟨.hbm, 173, rfl⟩
abbrev main_v144_4 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.addi c2_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.addi c2_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c4_i32 : BitVec 32 := 4#32
  let v1 : BitVec 32 := Scalar.addi c4_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_15 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_16 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x64x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4x64x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S4x1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S64x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S4x1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== ReferenceIdeal.lean ====
abbrev S2048x12288 : Shape := ⟨2, ![2048, 12288]⟩
abbrev S8x512 : Shape := ⟨2, ![8, 512]⟩
abbrev S2048x4096 : Shape := ⟨2, ![2048, 4096]⟩
abbrev S1x2048x12288 : Shape := ⟨3, ![1, 2048, 12288]⟩
abbrev S1x2048x2048 : Shape := ⟨3, ![1, 2048, 2048]⟩
abbrev S1x2048x4096 : Shape := ⟨3, ![1, 2048, 4096]⟩
abbrev S1x2048x8x256 : Shape := ⟨4, ![1, 2048, 8, 256]⟩
abbrev S128 : Shape := ⟨1, ![128]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S2048x1x128 : Shape := ⟨3, ![2048, 1, 128]⟩
abbrev S1x2048x8x128 : Shape := ⟨4, ![1, 2048, 8, 128]⟩
abbrev S1x2048x1x128 : Shape := ⟨4, ![1, 2048, 1, 128]⟩
abbrev S1x2048x8x512 : Shape := ⟨4, ![1, 2048, 8, 512]⟩
abbrev S1x32x64x8x256 : Shape := ⟨5, ![1, 32, 64, 8, 256]⟩
abbrev S1x8x32x64x256 : Shape := ⟨5, ![1, 8, 32, 64, 256]⟩
abbrev S1x32x64x8x512 : Shape := ⟨5, ![1, 32, 64, 8, 512]⟩
abbrev S1x8x32x64x512 : Shape := ⟨5, ![1, 8, 32, 64, 512]⟩
abbrev S8 : Shape := ⟨1, ![8]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x1x1 : Shape := ⟨3, ![8, 1, 1]⟩
abbrev S1x64x64 : Shape := ⟨3, ![1, 64, 64]⟩
abbrev S8x64x64 : Shape := ⟨3, ![8, 64, 64]⟩
abbrev S1x8x32x64x64 : Shape := ⟨5, ![1, 8, 32, 64, 64]⟩
abbrev S1x8x1x64x64 : Shape := ⟨5, ![1, 8, 1, 64, 64]⟩
abbrev S8x1 : Shape := ⟨2, ![8, 1]⟩
abbrev S8x64 : Shape := ⟨2, ![8, 64]⟩
abbrev S1x8x1x64x1 : Shape := ⟨5, ![1, 8, 1, 64, 1]⟩
abbrev S32 : Shape := ⟨1, ![32]⟩
abbrev S32x1 : Shape := ⟨2, ![32, 1]⟩
abbrev S1x2048 : Shape := ⟨2, ![1, 2048]⟩
abbrev S32x2048 : Shape := ⟨2, ![32, 2048]⟩
abbrev S1x32x2048 : Shape := ⟨3, ![1, 32, 2048]⟩
abbrev S8x32x2048 : Shape := ⟨3, ![8, 32, 2048]⟩
abbrev S1x8x32x2048x1 : Shape := ⟨5, ![1, 8, 32, 2048, 1]⟩
abbrev S1x8x2048x256 : Shape := ⟨4, ![1, 8, 2048, 256]⟩
abbrev S1x8x1x2048x256 : Shape := ⟨5, ![1, 8, 1, 2048, 256]⟩
abbrev S1x8x32x2048x256 : Shape := ⟨5, ![1, 8, 32, 2048, 256]⟩
abbrev S1x8x32x256x512 : Shape := ⟨5, ![1, 8, 32, 256, 512]⟩
abbrev S1x2048x8 : Shape := ⟨3, ![1, 2048, 8]⟩
abbrev S1x2048x8x1 : Shape := ⟨4, ![1, 2048, 8, 1]⟩
abbrev S1x1x8x512 : Shape := ⟨4, ![1, 1, 8, 512]⟩
abbrev S1x8x512 : Shape := ⟨3, ![1, 8, 512]⟩
abbrev S2048x8 : Shape := ⟨2, ![2048, 8]⟩
abbrev S1x8x32x512x256 : Shape := ⟨5, ![1, 8, 32, 512, 256]⟩
abbrev S1x8x512x2048 : Shape := ⟨4, ![1, 8, 512, 2048]⟩
abbrev S1x8x32x256x2048 : Shape := ⟨5, ![1, 8, 32, 256, 2048]⟩
abbrev S8x2048x256 : Shape := ⟨3, ![8, 2048, 256]⟩
abbrev S1x8x32x512x64 : Shape := ⟨5, ![1, 8, 32, 512, 64]⟩
abbrev S2048x2048 : Shape := ⟨2, ![2048, 2048]⟩
abbrev S8x1x512 : Shape := ⟨3, ![8, 1, 512]⟩

abbrev nBuf : Space → Nat
  | .hbm => 366
  | .vmem => 0
  | .smem => 0
  | _ => 0

abbrev hbmTy0_0 (i : Nat) : BufTy := match i % 128 with
  | 0 => ⟨S2048x12288, .f32⟩
  | 1 => ⟨S8x512, .f32⟩
  | 2 => ⟨S2048x4096, .f32⟩
  | 3 => ⟨S1x2048x12288, .f32⟩
  | 4 => ⟨S1x2048x2048, .f32⟩
  | 5 => ⟨S1x2048x2048, .f32⟩
  | 6 => ⟨S1x2048x4096, .f32⟩
  | 7 => ⟨S1x2048x4096, .f32⟩
  | 8 => ⟨S1x2048x8x256, .f32⟩
  | 9 => ⟨S128, .f32⟩
  | 10 => ⟨S_, .f32⟩
  | 11 => ⟨S128, .f32⟩
  | 12 => ⟨S128, .f32⟩
  | 13 => ⟨S_, .f32⟩
  | 14 => ⟨S128, .f32⟩
  | 15 => ⟨S128, .f32⟩
  | 16 => ⟨S128, .f32⟩
  | 17 => ⟨S_, .f32⟩
  | 18 => ⟨S128, .f32⟩
  | 19 => ⟨S128, .f32⟩
  | 20 => ⟨S_, .f32⟩
  | 21 => ⟨S128, .f32⟩
  | 22 => ⟨S128, .f32⟩
  | 23 => ⟨S2048, .f32⟩
  | 24 => ⟨S2048x1, .f32⟩
  | 25 => ⟨S1x128, .f32⟩
  | 26 => ⟨S2048x128, .f32⟩
  | 27 => ⟨S2048x128, .f32⟩
  | 28 => ⟨S2048x128, .f32⟩
  | 29 => ⟨S2048x128, .f32⟩
  | 30 => ⟨S2048x1x128, .f32⟩
  | 31 => ⟨S2048x128, .f32⟩
  | 32 => ⟨S2048x1x128, .f32⟩
  | 33 => ⟨S1x2048x8x128, .f32⟩
  | 34 => ⟨S1x2048x8x128, .f32⟩
  | 35 => ⟨S1x2048x1x128, .f32⟩
  | 36 => ⟨S1x2048x8x128, .f32⟩
  | 37 => ⟨S1x2048x8x128, .f32⟩
  | 38 => ⟨S1x2048x1x128, .f32⟩
  | 39 => ⟨S1x2048x8x128, .f32⟩
  | 40 => ⟨S1x2048x8x128, .f32⟩
  | 41 => ⟨S1x2048x8x128, .f32⟩
  | 42 => ⟨S1x2048x1x128, .f32⟩
  | 43 => ⟨S1x2048x8x128, .f32⟩
  | 44 => ⟨S1x2048x8x128, .f32⟩
  | 45 => ⟨S1x2048x1x128, .f32⟩
  | 46 => ⟨S1x2048x8x128, .f32⟩
  | 47 => ⟨S1x2048x8x128, .f32⟩
  | 48 => ⟨S1x2048x8x128, .f32⟩
  | 49 => ⟨S1x2048x8x256, .f32⟩
  | 50 => ⟨S1x2048x8x256, .f32⟩
  | 51 => ⟨S128, .f32⟩
  | 52 => ⟨S_, .f32⟩
  | 53 => ⟨S128, .f32⟩
  | 54 => ⟨S128, .f32⟩
  | 55 => ⟨S_, .f32⟩
  | 56 => ⟨S128, .f32⟩
  | 57 => ⟨S128, .f32⟩
  | 58 => ⟨S128, .f32⟩
  | 59 => ⟨S_, .f32⟩
  | 60 => ⟨S128, .f32⟩
  | 61 => ⟨S128, .f32⟩
  | 62 => ⟨S_, .f32⟩
  | 63 => ⟨S128, .f32⟩
  | 64 => ⟨S128, .f32⟩
  | 65 => ⟨S2048, .f32⟩
  | 66 => ⟨S2048x1, .f32⟩
  | 67 => ⟨S1x128, .f32⟩
  | 68 => ⟨S2048x128, .f32⟩
  | 69 => ⟨S2048x128, .f32⟩
  | 70 => ⟨S2048x128, .f32⟩
  | 71 => ⟨S2048x128, .f32⟩
  | 72 => ⟨S2048x1x128, .f32⟩
  | 73 => ⟨S2048x128, .f32⟩
  | 74 => ⟨S2048x1x128, .f32⟩
  | 75 => ⟨S1x2048x8x128, .f32⟩
  | 76 => ⟨S1x2048x8x128, .f32⟩
  | 77 => ⟨S1x2048x1x128, .f32⟩
  | 78 => ⟨S1x2048x8x128, .f32⟩
  | 79 => ⟨S1x2048x8x128, .f32⟩
  | 80 => ⟨S1x2048x1x128, .f32⟩
  | 81 => ⟨S1x2048x8x128, .f32⟩
  | 82 => ⟨S1x2048x8x128, .f32⟩
  | 83 => ⟨S1x2048x8x128, .f32⟩
  | 84 => ⟨S1x2048x1x128, .f32⟩
  | 85 => ⟨S1x2048x8x128, .f32⟩
  | 86 => ⟨S1x2048x8x128, .f32⟩
  | 87 => ⟨S1x2048x1x128, .f32⟩
  | 88 => ⟨S1x2048x8x128, .f32⟩
  | 89 => ⟨S1x2048x8x128, .f32⟩
  | 90 => ⟨S1x2048x8x128, .f32⟩
  | 91 => ⟨S1x2048x8x256, .f32⟩
  | 92 => ⟨S_, .f32⟩
  | 93 => ⟨S1x2048x8x256, .f32⟩
  | 94 => ⟨S1x2048x8x256, .f32⟩
  | 95 => ⟨S1x2048x8x512, .f32⟩
  | 96 => ⟨S1x32x64x8x256, .f32⟩
  | 97 => ⟨S1x8x32x64x256, .f32⟩
  | 98 => ⟨S1x32x64x8x256, .f32⟩
  | 99 => ⟨S1x8x32x64x256, .f32⟩
  | 100 => ⟨S1x32x64x8x512, .f32⟩
  | 101 => ⟨S1x8x32x64x512, .f32⟩
  | 102 => ⟨S8, .f32⟩
  | 103 => ⟨S_, .f32⟩
  | 104 => ⟨S8, .f32⟩
  | 105 => ⟨S8, .f32⟩
  | 106 => ⟨S_, .f32⟩
  | 107 => ⟨S8, .f32⟩
  | 108 => ⟨S8, .f32⟩
  | 109 => ⟨S8, .f32⟩
  | 110 => ⟨S8, .f32⟩
  | 111 => ⟨S8, .f32⟩
  | 112 => ⟨S64, .f32⟩
  | 113 => ⟨S64x1, .f32⟩
  | 114 => ⟨S1x64, .f32⟩
  | 115 => ⟨S64x64, .f32⟩
  | 116 => ⟨S64x64, .f32⟩
  | 117 => ⟨S64x64, .f32⟩
  | 118 => ⟨S64x64, .f32⟩
  | 119 => ⟨S8x1x1, .f32⟩
  | 120 => ⟨S1x64x64, .f32⟩
  | 121 => ⟨S8x64x64, .f32⟩
  | 122 => ⟨S8x64x64, .f32⟩
  | 123 => ⟨S8x64x64, .f32⟩
  | 124 => ⟨S8x64x64, .f32⟩
  | 125 => ⟨S1x8x32x64x64, .f32⟩
  | 126 => ⟨S1x8x1x64x64, .f32⟩
  | 127 => ⟨S1x8x32x64x64, .f32⟩
  | _ => ⟨S2048x12288, .f32⟩

abbrev hbmTy0_1 (i : Nat) : BufTy := match i % 128 with
  | 0 => ⟨S1x8x32x64x64, .f32⟩
  | 1 => ⟨S1x8x32x64x512, .f32⟩
  | 2 => ⟨S8x1, .f32⟩
  | 3 => ⟨S_, .f32⟩
  | 4 => ⟨S64, .f32⟩
  | 5 => ⟨S64, .f32⟩
  | 6 => ⟨S1x64, .f32⟩
  | 7 => ⟨S8x64, .f32⟩
  | 8 => ⟨S8x64, .f32⟩
  | 9 => ⟨S8x64, .f32⟩
  | 10 => ⟨S8x64, .f32⟩
  | 11 => ⟨S1x8x1x64x1, .f32⟩
  | 12 => ⟨S1x8x32x64x256, .f32⟩
  | 13 => ⟨S1x8x32x64x256, .f32⟩
  | 14 => ⟨S32, .f32⟩
  | 15 => ⟨S32x1, .f32⟩
  | 16 => ⟨S_, .f32⟩
  | 17 => ⟨S32x1, .f32⟩
  | 18 => ⟨S32x1, .f32⟩
  | 19 => ⟨S_, .f32⟩
  | 20 => ⟨S32x1, .f32⟩
  | 21 => ⟨S32x1, .f32⟩
  | 22 => ⟨S2048, .f32⟩
  | 23 => ⟨S1x2048, .f32⟩
  | 24 => ⟨S32x2048, .f32⟩
  | 25 => ⟨S32x2048, .f32⟩
  | 26 => ⟨S32x2048, .f32⟩
  | 27 => ⟨S_, .f32⟩
  | 28 => ⟨S32x2048, .f32⟩
  | 29 => ⟨S32x2048, .i1⟩
  | 30 => ⟨S8, .f32⟩
  | 31 => ⟨S_, .f32⟩
  | 32 => ⟨S8, .f32⟩
  | 33 => ⟨S8, .f32⟩
  | 34 => ⟨S_, .f32⟩
  | 35 => ⟨S8, .f32⟩
  | 36 => ⟨S8, .f32⟩
  | 37 => ⟨S8, .f32⟩
  | 38 => ⟨S8, .f32⟩
  | 39 => ⟨S8, .f32⟩
  | 40 => ⟨S8x1x1, .f32⟩
  | 41 => ⟨S1x32x2048, .f32⟩
  | 42 => ⟨S8x32x2048, .f32⟩
  | 43 => ⟨S8x32x2048, .f32⟩
  | 44 => ⟨S8x32x2048, .f32⟩
  | 45 => ⟨S8x32x2048, .f32⟩
  | 46 => ⟨S_, .f32⟩
  | 47 => ⟨S_, .f32⟩
  | 48 => ⟨S8x32x2048, .i1⟩
  | 49 => ⟨S8x32x2048, .f32⟩
  | 50 => ⟨S8x32x2048, .f32⟩
  | 51 => ⟨S1x8x32x2048x1, .f32⟩
  | 52 => ⟨S1x8x2048x256, .f32⟩
  | 53 => ⟨S1x8x1x2048x256, .f32⟩
  | 54 => ⟨S1x8x32x2048x256, .f32⟩
  | 55 => ⟨S1x8x32x2048x256, .f32⟩
  | 56 => ⟨S1x8x32x2048x256, .f32⟩
  | 57 => ⟨S1x8x32x256x512, .f32⟩
  | 58 => ⟨S1x8x32x64x512, .f32⟩
  | 59 => ⟨S1x8x32x64x512, .f32⟩
  | 60 => ⟨S1x32x64x8x512, .f32⟩
  | 61 => ⟨S1x2048x8x512, .f32⟩
  | 62 => ⟨S_, .f32⟩
  | 63 => ⟨S1x2048x8, .f32⟩
  | 64 => ⟨S1x2048x8x1, .f32⟩
  | 65 => ⟨S_, .f32⟩
  | 66 => ⟨S1x2048x8x1, .f32⟩
  | 67 => ⟨S1x2048x8x1, .f32⟩
  | 68 => ⟨S1x2048x8x512, .f32⟩
  | 69 => ⟨S1x2048x8x512, .f32⟩
  | 70 => ⟨S1x2048x8x512, .f32⟩
  | 71 => ⟨S_, .f32⟩
  | 72 => ⟨S1x2048x8, .f32⟩
  | 73 => ⟨S1x2048x8x1, .f32⟩
  | 74 => ⟨S_, .f32⟩
  | 75 => ⟨S1x2048x8x1, .f32⟩
  | 76 => ⟨S1x2048x8x1, .f32⟩
  | 77 => ⟨S_, .f32⟩
  | 78 => ⟨S1x2048x8x1, .f32⟩
  | 79 => ⟨S1x2048x8x1, .f32⟩
  | 80 => ⟨S1x2048x8x1, .f32⟩
  | 81 => ⟨S1x2048x8x1, .f32⟩
  | 82 => ⟨S_, .f32⟩
  | 83 => ⟨S1x2048x8x1, .f32⟩
  | 84 => ⟨S1x2048x8x1, .f32⟩
  | 85 => ⟨S1x2048x8x512, .f32⟩
  | 86 => ⟨S1x2048x8x512, .f32⟩
  | 87 => ⟨S1x1x8x512, .f32⟩
  | 88 => ⟨S1x2048x8x512, .f32⟩
  | 89 => ⟨S1x2048x8x512, .f32⟩
  | 90 => ⟨S1x2048x4096, .f32⟩
  | 91 => ⟨S1x2048x4096, .f32⟩
  | 92 => ⟨S1x2048x4096, .f32⟩
  | 93 => ⟨S_, .f32⟩
  | 94 => ⟨S1x2048x4096, .f32⟩
  | 95 => ⟨S1x2048x4096, .f32⟩
  | 96 => ⟨S_, .f32⟩
  | 97 => ⟨S1x2048x4096, .f32⟩
  | 98 => ⟨S1x2048x4096, .f32⟩
  | 99 => ⟨S_, .f32⟩
  | 100 => ⟨S1x2048x4096, .f32⟩
  | 101 => ⟨S1x2048x4096, .f32⟩
  | 102 => ⟨S1x2048x4096, .f32⟩
  | 103 => ⟨S1x2048x4096, .f32⟩
  | 104 => ⟨S1x2048x4096, .f32⟩
  | 105 => ⟨S1x2048x4096, .f32⟩
  | 106 => ⟨S1x2048x4096, .f32⟩
  | 107 => ⟨S1x2048x4096, .f32⟩
  | 108 => ⟨S1x2048x4096, .f32⟩
  | 109 => ⟨S1x2048x4096, .f32⟩
  | 110 => ⟨S1x2048x4096, .f32⟩
  | 111 => ⟨S1x2048x4096, .f32⟩
  | 112 => ⟨S1x2048x8x512, .f32⟩
  | 113 => ⟨S1x2048x8x512, .f32⟩
  | 114 => ⟨S_, .f32⟩
  | 115 => ⟨S1x8x512, .f32⟩
  | 116 => ⟨S1x1x8x512, .f32⟩
  | 117 => ⟨S1x2048x8x512, .f32⟩
  | 118 => ⟨S1x2048x8x512, .f32⟩
  | 119 => ⟨S_, .f32⟩
  | 120 => ⟨S8x512, .f32⟩
  | 121 => ⟨S1x2048x8x512, .f32⟩
  | 122 => ⟨S_, .f32⟩
  | 123 => ⟨S1x2048x8, .f32⟩
  | 124 => ⟨S1x2048x8x1, .f32⟩
  | 125 => ⟨S1x2048x8x512, .f32⟩
  | 126 => ⟨S1x2048x8x512, .f32⟩
  | 127 => ⟨S1x2048x8x1, .f32⟩
  | _ => ⟨S2048x12288, .f32⟩

abbrev hbmTy0_2 (i : Nat) : BufTy := match i % 128 with
  | 0 => ⟨S_, .f32⟩
  | 1 => ⟨S1x2048x8x1, .f32⟩
  | 2 => ⟨S1x2048x8x1, .f32⟩
  | 3 => ⟨S_, .f32⟩
  | 4 => ⟨S2048x8, .f32⟩
  | 5 => ⟨S1x2048x8, .f32⟩
  | 6 => ⟨S1x2048x8x512, .f32⟩
  | 7 => ⟨S1x2048x8x512, .f32⟩
  | 8 => ⟨S1x2048x8x512, .f32⟩
  | 9 => ⟨S1x2048x8x512, .f32⟩
  | 10 => ⟨S1x2048x8x512, .f32⟩
  | 11 => ⟨S1x2048x8x512, .f32⟩
  | 12 => ⟨S_, .f32⟩
  | 13 => ⟨S1x2048x8, .f32⟩
  | 14 => ⟨S1x2048x8x1, .f32⟩
  | 15 => ⟨S_, .f32⟩
  | 16 => ⟨S1x2048x8x1, .f32⟩
  | 17 => ⟨S1x2048x8x1, .f32⟩
  | 18 => ⟨S_, .f32⟩
  | 19 => ⟨S2048x8, .f32⟩
  | 20 => ⟨S1x2048x8, .f32⟩
  | 21 => ⟨S1x2048x8x512, .f32⟩
  | 22 => ⟨S1x2048x8x512, .f32⟩
  | 23 => ⟨S1x32x64x8x512, .f32⟩
  | 24 => ⟨S1x8x32x64x512, .f32⟩
  | 25 => ⟨S1x8x32x512x256, .f32⟩
  | 26 => ⟨S1x8x32x256x512, .f32⟩
  | 27 => ⟨S1x8x32x64x256, .f32⟩
  | 28 => ⟨S1x8x512x2048, .f32⟩
  | 29 => ⟨S1x2048x8x512, .f32⟩
  | 30 => ⟨S1x8x32x256x2048, .f32⟩
  | 31 => ⟨S1x8x32x2048x256, .f32⟩
  | 32 => ⟨S1x8x32x2048x256, .f32⟩
  | 33 => ⟨S1x8x32x2048x256, .f32⟩
  | 34 => ⟨S_, .f32⟩
  | 35 => ⟨S1x8x2048x256, .f32⟩
  | 36 => ⟨S1x8x1x2048x256, .f32⟩
  | 37 => ⟨S_, .f32⟩
  | 38 => ⟨S8x2048x256, .f32⟩
  | 39 => ⟨S1x8x2048x256, .f32⟩
  | 40 => ⟨S1x2048x8x256, .f32⟩
  | 41 => ⟨S1x8x32x64x256, .f32⟩
  | 42 => ⟨S1x8x32x64x256, .f32⟩
  | 43 => ⟨S1x8x32x512x64, .f32⟩
  | 44 => ⟨S1x8x32x64x512, .f32⟩
  | 45 => ⟨S1x8x32x64x64, .f32⟩
  | 46 => ⟨S1x8x32x64x64, .f32⟩
  | 47 => ⟨S1x8x32x64x64, .f32⟩
  | 48 => ⟨S1x8x32x64x256, .f32⟩
  | 49 => ⟨S1x8x32x64x256, .f32⟩
  | 50 => ⟨S1x8x32x64x256, .f32⟩
  | 51 => ⟨S1x32x64x8x512, .f32⟩
  | 52 => ⟨S1x2048x8x512, .f32⟩
  | 53 => ⟨S1x2048x8x512, .f32⟩
  | 54 => ⟨S1x32x64x8x256, .f32⟩
  | 55 => ⟨S1x2048x8x256, .f32⟩
  | 56 => ⟨S1x2048x8x256, .f32⟩
  | 57 => ⟨S1x32x64x8x256, .f32⟩
  | 58 => ⟨S1x2048x8x256, .f32⟩
  | 59 => ⟨S1x2048x4096, .f32⟩
  | 60 => ⟨S_, .f32⟩
  | 61 => ⟨S1x2048x8x256, .f32⟩
  | 62 => ⟨S1x2048x8x256, .f32⟩
  | 63 => ⟨S1x2048x8x128, .f32⟩
  | 64 => ⟨S1x2048x8x128, .f32⟩
  | 65 => ⟨S1x2048x8x128, .f32⟩
  | 66 => ⟨S1x2048x8x128, .f32⟩
  | 67 => ⟨S1x2048x8x128, .f32⟩
  | 68 => ⟨S1x2048x8x128, .f32⟩
  | 69 => ⟨S1x2048x8x128, .f32⟩
  | 70 => ⟨S1x2048x8x128, .f32⟩
  | 71 => ⟨S1x2048x8x128, .f32⟩
  | 72 => ⟨S1x2048x8x128, .f32⟩
  | 73 => ⟨S1x2048x8x128, .f32⟩
  | 74 => ⟨S1x2048x8x128, .f32⟩
  | 75 => ⟨S1x2048x8x128, .f32⟩
  | 76 => ⟨S_, .f32⟩
  | 77 => ⟨S1x2048x8x256, .f32⟩
  | 78 => ⟨S_, .f32⟩
  | 79 => ⟨S1x2048x8x256, .f32⟩
  | 80 => ⟨S1x2048x8x256, .f32⟩
  | 81 => ⟨S1x2048x2048, .f32⟩
  | 82 => ⟨S1x2048x8x128, .f32⟩
  | 83 => ⟨S1x2048x8x128, .f32⟩
  | 84 => ⟨S1x2048x8x128, .f32⟩
  | 85 => ⟨S1x2048x8x128, .f32⟩
  | 86 => ⟨S1x2048x8x128, .f32⟩
  | 87 => ⟨S1x2048x8x128, .f32⟩
  | 88 => ⟨S1x2048x8x128, .f32⟩
  | 89 => ⟨S1x2048x8x128, .f32⟩
  | 90 => ⟨S1x2048x8x128, .f32⟩
  | 91 => ⟨S1x2048x8x128, .f32⟩
  | 92 => ⟨S1x2048x8x128, .f32⟩
  | 93 => ⟨S1x2048x8x128, .f32⟩
  | 94 => ⟨S1x2048x8x128, .f32⟩
  | 95 => ⟨S_, .f32⟩
  | 96 => ⟨S1x2048x8x256, .f32⟩
  | 97 => ⟨S_, .f32⟩
  | 98 => ⟨S1x2048x8x256, .f32⟩
  | 99 => ⟨S1x2048x8x256, .f32⟩
  | 100 => ⟨S1x2048x2048, .f32⟩
  | 101 => ⟨S2048x2048, .f32⟩
  | 102 => ⟨S2048x2048, .bf16⟩
  | 103 => ⟨S2048x2048, .f32⟩
  | 104 => ⟨S2048x2048, .bf16⟩
  | 105 => ⟨S2048x4096, .f32⟩
  | 106 => ⟨S2048x4096, .bf16⟩
  | 107 => ⟨S2048x4096, .f32⟩
  | 108 => ⟨S2048x4096, .bf16⟩
  | 109 => ⟨S8x1x512, .f32⟩
  | _ => ⟨S2048x12288, .f32⟩

abbrev hbmTy (i : Nat) : BufTy := match i / 128 with
  | 0 => hbmTy0_0 i
  | 1 => hbmTy0_1 i
  | 2 => hbmTy0_2 i
  | _ => ⟨S2048x12288, .f32⟩

abbrev bufTy : (tb : Table) → Fin (tcTables nBuf tb) → BufTy
  | .hbm, ⟨i, _⟩ => hbmTy i
  | _, _ => ⟨S2048x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_3 : Ref sig .tc := ⟨.hbm, 52, rfl⟩
abbrev main_v45 : Ref sig .tc := ⟨.hbm, 53, rfl⟩
abbrev main_v46 : Ref sig .tc := ⟨.hbm, 54, rfl⟩
abbrev main_cst_4 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_5 : Ref sig .tc := ⟨.hbm, 59, rfl⟩
abbrev main_v50 : Ref sig .tc := ⟨.hbm, 60, rfl⟩
abbrev main_v51 : Ref sig .tc := ⟨.hbm, 61, rfl⟩
abbrev main_cst_6 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_cst_7 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_cst_8 : Ref sig .tc := ⟨.hbm, 103, rfl⟩
abbrev main_v91 : Ref sig .tc := ⟨.hbm, 104, rfl⟩
abbrev main_v92 : Ref sig .tc := ⟨.hbm, 105, rfl⟩
abbrev main_cst_9 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_cst_10 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_cst_11 : Ref sig .tc := ⟨.hbm, 144, rfl⟩
abbrev main_v129 : Ref sig .tc := ⟨.hbm, 145, rfl⟩
abbrev main_v130 : Ref sig .tc := ⟨.hbm, 146, rfl⟩
abbrev main_cst_12 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_cst_13 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_cst_14 : Ref sig .tc := ⟨.hbm, 159, rfl⟩
abbrev main_v141 : Ref sig .tc := ⟨.hbm, 160, rfl⟩
abbrev main_v142 : Ref sig .tc := ⟨.hbm, 161, rfl⟩
abbrev main_cst_15 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_cst_16 : Ref sig .tc := ⟨.hbm, 174, rfl⟩
abbrev main_call0_v0 : Ref sig .tc := ⟨.hbm, 175, rfl⟩
abbrev main_call0_v1 : Ref sig .tc := ⟨.hbm, 176, rfl⟩
abbrev main_call0_v2 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_cst_17 : Ref sig .tc := ⟨.hbm, 190, rfl⟩
abbrev main_v166 : Ref sig .tc := ⟨.hbm, 191, rfl⟩
abbrev main_v167 : Ref sig .tc := ⟨.hbm, 192, rfl⟩
abbrev main_cst_18 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_cst_19 : Ref sig .tc := ⟨.hbm, 199, rfl⟩
abbrev main_v173 : Ref sig .tc := ⟨.hbm, 200, rfl⟩
abbrev main_v174 : Ref sig .tc := ⟨.hbm, 201, rfl⟩
abbrev main_cst_20 : Ref sig .tc := ⟨.hbm, 202, rfl⟩
abbrev main_v175 : Ref sig .tc := ⟨.hbm, 203, rfl⟩
abbrev main_v176 : Ref sig .tc := ⟨.hbm, 204, rfl⟩
abbrev main_cst_21 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_cst_22 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_call1_v0 : Ref sig .tc := ⟨.hbm, 219, rfl⟩
abbrev main_call1_v1 : Ref sig .tc := ⟨.hbm, 220, rfl⟩
abbrev main_call1_cst : Ref sig .tc := ⟨.hbm, 221, rfl⟩
abbrev main_call1_v2 : Ref sig .tc := ⟨.hbm, 222, rfl⟩
abbrev main_call1_v3 : Ref sig .tc := ⟨.hbm, 223, rfl⟩
abbrev main_call1_cst_0 : Ref sig .tc := ⟨.hbm, 224, rfl⟩
abbrev main_call1_v4 : Ref sig .tc := ⟨.hbm, 225, rfl⟩
abbrev main_v189_2 : Ref sig .tc := ⟨.hbm, 226, rfl⟩
abbrev main_call1_cst_1 : Ref sig .tc := ⟨.hbm, 227, rfl⟩
abbrev main_call1_v6 : Ref sig .tc := ⟨.hbm, 228, rfl⟩
abbrev main_call1_v7 : Ref sig .tc := ⟨.hbm, 229, rfl⟩
abbrev main_v189_1 : Ref sig .tc := ⟨.hbm, 230, rfl⟩
abbrev main_v189_0 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_call2_v0 : Ref sig .tc := ⟨.hbm, 236, rfl⟩
abbrev main_call2_v1 : Ref sig .tc := ⟨.hbm, 237, rfl⟩
abbrev main_call2_v2 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_cst_23 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_cst_24 : Ref sig .tc := ⟨.hbm, 247, rfl⟩
abbrev main_v201 : Ref sig .tc := ⟨.hbm, 248, rfl⟩
abbrev main_v202 : Ref sig .tc := ⟨.hbm, 249, rfl⟩
abbrev main_cst_25 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_cst_26 : Ref sig .tc := ⟨.hbm, 256, rfl⟩
abbrev main_v208 : Ref sig .tc := ⟨.hbm, 257, rfl⟩
abbrev main_v209 : Ref sig .tc := ⟨.hbm, 258, rfl⟩
abbrev main_cst_27 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_cst_28 : Ref sig .tc := ⟨.hbm, 268, rfl⟩
abbrev main_v218 : Ref sig .tc := ⟨.hbm, 269, rfl⟩
abbrev main_v219 : Ref sig .tc := ⟨.hbm, 270, rfl⟩
abbrev main_cst_29 : Ref sig .tc := ⟨.hbm, 271, rfl⟩
abbrev main_v220 : Ref sig .tc := ⟨.hbm, 272, rfl⟩
abbrev main_v221 : Ref sig .tc := ⟨.hbm, 273, rfl⟩
abbrev main_cst_30 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_cst_31 : Ref sig .tc := ⟨.hbm, 290, rfl⟩
abbrev main_v237 : Ref sig .tc := ⟨.hbm, 291, rfl⟩
abbrev main_v238 : Ref sig .tc := ⟨.hbm, 292, rfl⟩
abbrev main_cst_32 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_v259 : Ref sig .tc := ⟨.hbm, 314, rfl⟩
abbrev main_v260 : Ref sig .tc := ⟨.hbm, 315, rfl⟩
abbrev main_cst_33 : Ref sig .tc := ⟨.hbm, 316, rfl⟩
abbrev main_v261 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_v271 : Ref sig .tc := ⟨.hbm, 327, rfl⟩
abbrev main_v272 : Ref sig .tc := ⟨.hbm, 328, rfl⟩
abbrev main_v273 : Ref sig .tc := ⟨.hbm, 329, rfl⟩
abbrev main_v274 : Ref sig .tc := ⟨.hbm, 330, rfl⟩
abbrev main_v275 : Ref sig .tc := ⟨.hbm, 331, rfl⟩
abbrev main_cst_34 : Ref sig .tc := ⟨.hbm, 332, rfl⟩
abbrev main_v276 : Ref sig .tc := ⟨.hbm, 333, rfl⟩
abbrev main_cst_35 : Ref sig .tc := ⟨.hbm, 334, rfl⟩
abbrev main_v277 : Ref sig .tc := ⟨.hbm, 335, rfl⟩
abbrev main_v278 : Ref sig .tc := ⟨.hbm, 336, rfl⟩
abbrev main_v279 : Ref sig .tc := ⟨.hbm, 337, rfl⟩
abbrev main_v280 : Ref sig .tc := ⟨.hbm, 338, rfl⟩
abbrev main_v281 : Ref sig .tc := ⟨.hbm, 339, rfl⟩
abbrev main_v282 : Ref sig .tc := ⟨.hbm, 340, rfl⟩
abbrev main_v283 : Ref sig .tc := ⟨.hbm, 341, rfl⟩
abbrev main_v284 : Ref sig .tc := ⟨.hbm, 342, rfl⟩
abbrev main_v285 : Ref sig .tc := ⟨.hbm, 343, rfl⟩
abbrev main_v286 : Ref sig .tc := ⟨.hbm, 344, rfl⟩
abbrev main_v287 : Ref sig .tc := ⟨.hbm, 345, rfl⟩
abbrev main_v288 : Ref sig .tc := ⟨.hbm, 346, rfl⟩
abbrev main_v289 : Ref sig .tc := ⟨.hbm, 347, rfl⟩
abbrev main_v290 : Ref sig .tc := ⟨.hbm, 348, rfl⟩
abbrev main_v291 : Ref sig .tc := ⟨.hbm, 349, rfl⟩
abbrev main_v292 : Ref sig .tc := ⟨.hbm, 350, rfl⟩
abbrev main_cst_36 : Ref sig .tc := ⟨.hbm, 351, rfl⟩
abbrev main_v293 : Ref sig .tc := ⟨.hbm, 352, rfl⟩
abbrev main_cst_37 : Ref sig .tc := ⟨.hbm, 353, rfl⟩
abbrev main_v294 : Ref sig .tc := ⟨.hbm, 354, rfl⟩
abbrev main_v295 : Ref sig .tc := ⟨.hbm, 355, rfl⟩
abbrev main_v296 : Ref sig .tc := ⟨.hbm, 356, rfl⟩
abbrev main_v297 : Ref sig .tc := ⟨.hbm, 357, rfl⟩
abbrev main_v298 : Ref sig .tc := ⟨.hbm, 358, rfl⟩
abbrev main_v299 : Ref sig .tc := ⟨.hbm, 359, rfl⟩
abbrev main_v300 : Ref sig .tc := ⟨.hbm, 360, rfl⟩
abbrev main_v301 : Ref sig .tc := ⟨.hbm, 361, rfl⟩
abbrev main_v302 : Ref sig .tc := ⟨.hbm, 362, rfl⟩
abbrev main_v303 : Ref sig .tc := ⟨.hbm, 363, rfl⟩
abbrev main_v304 : Ref sig .tc := ⟨.hbm, 364, rfl⟩
abbrev main_v305 : Ref sig .tc := ⟨.hbm, 365, rfl⟩

abbrev nD : Nat := 1
abbrev τ : Topo := Topo.v7x

variable {F : FTy → Type} [FloatOps F]
-- ==== DownDx.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .bf16⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .bf16⟩
  | .hbm, ⟨3, _⟩ => ⟨S2048x8192, .f32⟩
  | .hbm, ⟨4, _⟩ => ⟨S8192x2048, .f32⟩
  | .hbm, ⟨5, _⟩ => ⟨S2048x2048, .f32⟩
  | .hbm, ⟨6, _⟩ => ⟨S_, .f32⟩
  | .hbm, ⟨7, _⟩ => ⟨S2048x8192, .f32⟩
  | .hbm, ⟨8, _⟩ => ⟨S2048x8192, .f32⟩
  | .hbm, ⟨9, _⟩ => ⟨S_, .f32⟩
  | .hbm, ⟨10, _⟩ => ⟨S2048x8192, .f32⟩
  | .hbm, ⟨11, _⟩ => ⟨S2048x8192, .i1⟩
  | .hbm, ⟨12, _⟩ => ⟨S_, .f32⟩
  | .hbm, ⟨13, _⟩ => ⟨S2048x8192, .f32⟩
  | .hbm, ⟨14, _⟩ => ⟨S2048x8192, .f32⟩
  | .hbm, ⟨15, _⟩ => ⟨S_, .f32⟩
  | .hbm, ⟨16, _⟩ => ⟨S2048x8192, .f32⟩
  | .hbm, ⟨17, _⟩ => ⟨S2048x8192, .f32⟩
  | .hbm, ⟨18, _⟩ => ⟨S2048x2048, .f32⟩
  | .hbm, ⟨19, _⟩ => ⟨S2048x8192, .f32⟩
  | .hbm, ⟨20, _⟩ => ⟨S2048x8192, .f32⟩
  | .hbm, ⟨21, _⟩ => ⟨S_, .f32⟩
  | .hbm, ⟨22, _⟩ => ⟨S2048x8192, .f32⟩
  | .hbm, ⟨23, _⟩ => ⟨S2048x8192, .f32⟩
  | .hbm, ⟨24, _⟩ => ⟨S2048x8192, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== DownDw.lean ====
abbrev S2048x8192 : Shape := ⟨2, ![2048, 8192]⟩
abbrev S2048x2048 : Shape := ⟨2, ![2048, 2048]⟩
abbrev S8192x2048 : Shape := ⟨2, ![8192, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S2048x8192, .f32⟩
  | .hbm, ⟨3, _⟩ => ⟨S2048x2048, .f32⟩
  | .hbm, ⟨4, _⟩ => ⟨S_, .f32⟩
  | .hbm, ⟨5, _⟩ => ⟨S8192x2048, .f32⟩
  | .hbm, ⟨6, _⟩ => ⟨S2048x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDx.lean ====
abbrev S2048x8192 : Shape := ⟨2, ![2048, 8192]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S2048x8192 : Shape := ⟨2, ![2048, 8192]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S2048x8192, .f32⟩
  | .hbm, ⟨3, _⟩ => ⟨S2048x8192, .f32⟩
  | .hbm, ⟨4, _⟩ => ⟨S_, .f32⟩
  | .hbm, ⟨5, _⟩ => ⟨S2048x2048, .f32⟩
  | .hbm, ⟨6, _⟩ => ⟨S2048x8192, .f32⟩
  | .hbm, ⟨7, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S2048x2048 : Shape := ⟨2, ![2048, 2048]⟩
abbrev S2048x8192 : Shape := ⟨2, ![2048, 8192]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x2048, .f32⟩
  | .hbm, ⟨3, _⟩ => ⟨S2048x8192, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S2048x2048 : Shape := ⟨2, ![2048, 2048]⟩
abbrev S2048x8192 : Shape := ⟨2, ![2048, 8192]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .bf16⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S2048x2048 : Shape := ⟨2, ![2048, 2048]⟩
abbrev S2048x8192 : Shape := ⟨2, ![2048, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x2048, .f32⟩
  | .hbm, ⟨3, _⟩ => ⟨S2048x8192, .f32⟩
  | .hbm, ⟨4, _⟩ => ⟨S2048x8192, .f32⟩
  | .hbm, ⟨5, _⟩ => ⟨S2048x8192, .bf16⟩
  | .hbm, ⟨6, _⟩ => ⟨S_, .f32⟩
  | .hbm, ⟨7, _⟩ => ⟨S2048x8192, .f32⟩
  | .hbm, ⟨8, _⟩ => ⟨S2048x8192, .f32⟩
  | .hbm, ⟨9, _⟩ => ⟨S2048x8192, .f32⟩
  | .hbm, ⟨10, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Down.lean ====
abbrev S2048x8192 : Shape := ⟨2, ![2048, 8192]⟩
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x8192, .f32⟩
  | .hbm, ⟨4, _⟩ => ⟨S8192x2048, .f32⟩
  | .hbm, ⟨5, _⟩ => ⟨S2048x2048, .f32⟩
  | .hbm, ⟨6, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== RetInDw.lean ====
abbrev S2048x2048 : Shape := ⟨2, ![2048, 2048]⟩
abbrev S2048x12288 : Shape := ⟨2, ![2048, 12288]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x12288, .bf16⟩
  | .hbm, ⟨2, _⟩ => ⟨S2048x12288, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 24, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetInDwRefIdeal.lean ====
abbrev S2048x2048 : Shape := ⟨2, ![2048, 2048]⟩
abbrev S2048x12288 : Shape := ⟨2, ![2048, 12288]⟩
abbrev S_ : Shape := ⟨0, ![]⟩
abbrev S12288x2048 : Shape := ⟨2, ![12288, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x12288, .bf16⟩
  | .hbm, ⟨2, _⟩ => ⟨S2048x2048, .f32⟩
  | .hbm, ⟨3, _⟩ => ⟨S2048x12288, .f32⟩
  | .hbm, ⟨4, _⟩ => ⟨S_, .f32⟩
  | .hbm, ⟨5, _⟩ => ⟨S2048x12288, .f32⟩
  | .hbm, ⟨6, _⟩ => ⟨S2048x12288, .f32⟩
  | .hbm, ⟨7, _⟩ => ⟨S12288x2048, .f32⟩
  | .hbm, ⟨8, _⟩ => ⟨S2048x12288, .f32⟩
  | .hbm, ⟨9, _⟩ => ⟨S2048x12288, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== RetInDx.lean ====
abbrev S2048x12288 : Shape := ⟨2, ![2048, 12288]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x12288, .bf16⟩
  | .hbm, ⟨1, _⟩ => ⟨S2048x12288, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 12], ![false, false, false]⟩

def k0_cond2 (i : grid0.Coords) : BitVec 1 :=
  let arg2 : BitVec 32 := BitVec.ofNat 32 (i 2).val
  let c11_i32 : BitVec 32 := 11#32
  let v11 : BitVec 1 := Scalar.cmpi .eq arg2 c11_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetInDxRefIdeal.lean ====
abbrev S2048x12288 : Shape := ⟨2, ![2048, 12288]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x12288, .bf16⟩
  | .hbm, ⟨1, _⟩ => ⟨S2048x12288, .bf16⟩
  | .hbm, ⟨2, _⟩ => ⟨S2048x12288, .f32⟩
  | .hbm, ⟨3, _⟩ => ⟨S2048x12288, .f32⟩
  | .hbm, ⟨4, _⟩ => ⟨S_, .f32⟩
  | .hbm, ⟨5, _⟩ => ⟨S2048x2048, .f32⟩
  | .hbm, ⟨6, _⟩ => ⟨S2048x12288, .f32⟩
  | .hbm, ⟨7, _⟩ => ⟨S2048x2048, .f32⟩
  | _, _ => ⟨S2048x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== RetOutDw.lean ====
abbrev S2048x4096 : Shape := ⟨2, ![2048, 4096]⟩
abbrev S2048x2048 : Shape := ⟨2, ![2048, 2048]⟩
abbrev S4096x2048 : Shape := ⟨2, ![4096, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S4096x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetOutDwRefIdeal.lean ====
abbrev S2048x4096 : Shape := ⟨2, ![2048, 4096]⟩
abbrev S2048x2048 : Shape := ⟨2, ![2048, 2048]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S2048x4096, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S2048x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== RetOutDx.lean ====
abbrev S4096x2048 : Shape := ⟨2, ![4096, 2048]⟩
abbrev S2048x2048 : Shape := ⟨2, ![2048, 2048]⟩
abbrev S2048x4096 : Shape := ⟨2, ![2048, 4096]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetOutDxRefIdeal.lean ====
abbrev S4096x2048 : Shape := ⟨2, ![4096, 2048]⟩
abbrev S2048x2048 : Shape := ⟨2, ![2048, 2048]⟩
abbrev S_ : Shape := ⟨0, ![]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S2048x4096, .f32⟩
  | .hbm, ⟨6, _⟩ => ⟨S2048x2048, .f32⟩
  | .hbm, ⟨7, _⟩ => ⟨S2048x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== RetIn.lean ====
abbrev S2048x2048 : Shape := ⟨2, ![2048, 2048]⟩
abbrev S2048x12288 : Shape := ⟨2, ![2048, 12288]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x12288, .bf16⟩
  | .hbm, ⟨2, _⟩ => ⟨S2048x12288, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 24, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetInRefIdeal.lean ====
abbrev S2048x2048 : Shape := ⟨2, ![2048, 2048]⟩
abbrev S2048x12288 : Shape := ⟨2, ![2048, 12288]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x12288, .bf16⟩
  | .hbm, ⟨2, _⟩ => ⟨S2048x2048, .f32⟩
  | .hbm, ⟨3, _⟩ => ⟨S2048x12288, .f32⟩
  | .hbm, ⟨4, _⟩ => ⟨S2048x12288, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RetOut.lean ====
abbrev S2048x4096 : Shape := ⟨2, ![2048, 4096]⟩
abbrev S4096x2048 : Shape := ⟨2, ![4096, 2048]⟩
abbrev S2048x2048 : Shape := ⟨2, ![2048, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S2048x2048, .f32⟩
  | .hbm, ⟨3, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RetOutRefIdeal.lean ====
abbrev S2048x4096 : Shape := ⟨2, ![2048, 4096]⟩
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S2048x2048, .f32⟩
  | .hbm, ⟨3, _⟩ => ⟨S2048x4096, .f32⟩
  | .hbm, ⟨4, _⟩ => ⟨S4096x2048, .f32⟩
  | .hbm, ⟨5, _⟩ => ⟨S2048x2048, .f32⟩
  | .hbm, ⟨6, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GdnInDx.lean ====
abbrev S2048x8224 : Shape := ⟨2, ![2048, 8224]⟩
abbrev S2048x8192 : Shape := ⟨2, ![2048, 8192]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8224, .bf16⟩
  | .hbm, ⟨1, _⟩ => ⟨S2048x8192, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdnInDxRefIdeal.lean ====
abbrev S2048x8224 : Shape := ⟨2, ![2048, 8224]⟩
abbrev S2048x8192 : Shape := ⟨2, ![2048, 8192]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x8224, .bf16⟩
  | .hbm, ⟨1, _⟩ => ⟨S2048x8192, .bf16⟩
  | .hbm, ⟨2, _⟩ => ⟨S2048x8192, .bf16⟩
  | .hbm, ⟨3, _⟩ => ⟨S2048x8192, .f32⟩
  | .hbm, ⟨4, _⟩ => ⟨S2048x8192, .f32⟩
  | .hbm, ⟨5, _⟩ => ⟨S_, .f32⟩
  | .hbm, ⟨6, _⟩ => ⟨S2048x2048, .f32⟩
  | .hbm, ⟨7, _⟩ => ⟨S2048x8192, .f32⟩
  | .hbm, ⟨8, _⟩ => ⟨S2048x2048, .f32⟩
  | _, _ => ⟨S2048x8224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GdnIn.lean ====
abbrev S2048x2048 : Shape := ⟨2, ![2048, 2048]⟩
abbrev S2048x8224 : Shape := ⟨2, ![2048, 8224]⟩
abbrev S2048x8192 : Shape := ⟨2, ![2048, 8192]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8224, .bf16⟩
  | .hbm, ⟨2, _⟩ => ⟨S2048x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdnInRefIdeal.lean ====
abbrev S2048x2048 : Shape := ⟨2, ![2048, 2048]⟩
abbrev S2048x8224 : Shape := ⟨2, ![2048, 8224]⟩
abbrev S2048x8192 : Shape := ⟨2, ![2048, 8192]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8224, .bf16⟩
  | .hbm, ⟨2, _⟩ => ⟨S2048x8192, .bf16⟩
  | .hbm, ⟨3, _⟩ => ⟨S2048x2048, .f32⟩
  | .hbm, ⟨4, _⟩ => ⟨S2048x8192, .f32⟩
  | .hbm, ⟨5, _⟩ => ⟨S2048x8192, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GlaInDw.lean ====
abbrev S2048x2048 : Shape := ⟨2, ![2048, 2048]⟩
abbrev S2048x6144 : Shape := ⟨2, ![2048, 6144]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaInDwRefIdeal.lean ====
abbrev S2048x2048 : Shape := ⟨2, ![2048, 2048]⟩
abbrev S2048x6144 : Shape := ⟨2, ![2048, 6144]⟩
abbrev S_ : Shape := ⟨0, ![]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x2048, .f32⟩
  | .hbm, ⟨3, _⟩ => ⟨S2048x6144, .f32⟩
  | .hbm, ⟨4, _⟩ => ⟨S_, .f32⟩
  | .hbm, ⟨5, _⟩ => ⟨S2048x6144, .f32⟩
  | .hbm, ⟨6, _⟩ => ⟨S2048x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GlaInDx.lean ====
abbrev S2048x6160 : Shape := ⟨2, ![2048, 6160]⟩
abbrev S2048x6144 : Shape := ⟨2, ![2048, 6144]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x6160, .bf16⟩
  | .hbm, ⟨1, _⟩ => ⟨S2048x6144, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x6160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaInDxRefIdeal.lean ====
abbrev S2048x6160 : Shape := ⟨2, ![2048, 6160]⟩
abbrev S2048x6144 : Shape := ⟨2, ![2048, 6144]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x6160, .bf16⟩
  | .hbm, ⟨1, _⟩ => ⟨S2048x6144, .bf16⟩
  | .hbm, ⟨2, _⟩ => ⟨S2048x6144, .bf16⟩
  | .hbm, ⟨3, _⟩ => ⟨S2048x6144, .f32⟩
  | .hbm, ⟨4, _⟩ => ⟨S2048x6144, .f32⟩
  | .hbm, ⟨5, _⟩ => ⟨S_, .f32⟩
  | .hbm, ⟨6, _⟩ => ⟨S2048x2048, .f32⟩
  | .hbm, ⟨7, _⟩ => ⟨S2048x6144, .f32⟩
  | .hbm, ⟨8, _⟩ => ⟨S2048x2048, .f32⟩
  | _, _ => ⟨S2048x6160, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GlaIn.lean ====
abbrev S2048x2048 : Shape := ⟨2, ![2048, 2048]⟩
abbrev S2048x6160 : Shape := ⟨2, ![2048, 6160]⟩
abbrev S2048x6144 : Shape := ⟨2, ![2048, 6144]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6160, .bf16⟩
  | .hbm, ⟨2, _⟩ => ⟨S2048x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaInRefIdeal.lean ====
abbrev S2048x2048 : Shape := ⟨2, ![2048, 2048]⟩
abbrev S2048x6160 : Shape := ⟨2, ![2048, 6160]⟩
abbrev S2048x6144 : Shape := ⟨2, ![2048, 6144]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6160, .bf16⟩
  | .hbm, ⟨2, _⟩ => ⟨S2048x6144, .bf16⟩
  | .hbm, ⟨3, _⟩ => ⟨S2048x2048, .f32⟩
  | .hbm, ⟨4, _⟩ => ⟨S2048x6144, .f32⟩
  | .hbm, ⟨5, _⟩ => ⟨S2048x6144, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== LruInDw.lean ====
abbrev S2048x2048 : Shape := ⟨2, ![2048, 2048]⟩
abbrev S2048x4096 : Shape := ⟨2, ![2048, 4096]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S2048x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruInDwRefIdeal.lean ====
abbrev S2048x2048 : Shape := ⟨2, ![2048, 2048]⟩
abbrev S2048x4096 : Shape := ⟨2, ![2048, 4096]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S2048x2048, .f32⟩
  | .hbm, ⟨3, _⟩ => ⟨S2048x4096, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== LruInDx.lean ====
abbrev S2048x4096 : Shape := ⟨2, ![2048, 4096]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruInDxRefIdeal.lean ====
abbrev S2048x4096 : Shape := ⟨2, ![2048, 4096]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .bf16⟩
  | .hbm, ⟨2, _⟩ => ⟨S2048x4096, .f32⟩
  | .hbm, ⟨3, _⟩ => ⟨S2048x4096, .f32⟩
  | .hbm, ⟨4, _⟩ => ⟨S_, .f32⟩
  | .hbm, ⟨5, _⟩ => ⟨S2048x2048, .f32⟩
  | .hbm, ⟨6, _⟩ => ⟨S2048x4096, .f32⟩
  | .hbm, ⟨7, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LruIn.lean ====
abbrev S2048x2048 : Shape := ⟨2, ![2048, 2048]⟩
abbrev S2048x4096 : Shape := ⟨2, ![2048, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruInRefIdeal.lean ====
abbrev S2048x2048 : Shape := ⟨2, ![2048, 2048]⟩
abbrev S2048x4096 : Shape := ⟨2, ![2048, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S2048x2048, .f32⟩
  | .hbm, ⟨3, _⟩ => ⟨S2048x4096, .f32⟩
  | .hbm, ⟨4, _⟩ => ⟨S2048x4096, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOutDw.lean ====
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDwRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixOutDx.lean ====
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixOut.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MixOutRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== AdamW.lean ====
abbrev S2048x128 : Shape := ⟨2, ![2048, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWRefIdeal.lean ====
abbrev S2048x128 : Shape := ⟨2, ![2048, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S2048x128, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWSmall.lean ====
abbrev S512x128 : Shape := ⟨2, ![512, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWSmallRefIdeal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Sum.lean ====
abbrev S8x2048x128 : Shape := ⟨3, ![8, 2048, 128]⟩
abbrev S2048x128 : Shape := ⟨2, ![2048, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2048x128, .f32⟩
  | .hbm, ⟨1, _⟩ => ⟨S2048x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumRefIdeal.lean ====
abbrev S8x2048x128 : Shape := ⟨3, ![8, 2048, 128]⟩
abbrev S_ : Shape := ⟨0, ![]⟩
abbrev S2048x128 : Shape := ⟨2, ![2048, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S_, .f32⟩
  | .hbm, ⟨2, _⟩ => ⟨S2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumEarly.lean ====
abbrev S8x512x128 : Shape := ⟨3, ![8, 512, 128]⟩
abbrev S512x128 : Shape := ⟨2, ![512, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x512x128, .f32⟩
  | .hbm, ⟨1, _⟩ => ⟨S512x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumEarlyRefIdeal.lean ====
abbrev S8x512x128 : Shape := ⟨3, ![8, 512, 128]⟩
abbrev S_ : Shape := ⟨0, ![]⟩
abbrev S512x128 : Shape := ⟨2, ![512, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x512x128, .f32⟩
  | .hbm, ⟨1, _⟩ => ⟨S_, .f32⟩
  | .hbm, ⟨2, _⟩ => ⟨S512x128, .f32⟩
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumLate.lean ====
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x256x128, .f32⟩
  | .hbm, ⟨1, _⟩ => ⟨S256x128, .f32⟩
  | .local _ .vmem, ⟨0, _⟩ => ⟨S8x256x128, .f32⟩
  | .local _ .vmem, ⟨1, _⟩ => ⟨S256x128, .f32⟩
  | _, _ => ⟨S8x256x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumLateRefIdeal.lean ====
abbrev S8x256x128 : Shape := ⟨3, ![8, 256, 128]⟩
abbrev S_ : Shape := ⟨0, ![]⟩
abbrev S256x128 : Shape := ⟨2, ![256, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S_, .f32⟩
  | .hbm, ⟨2, _⟩ => ⟨S256x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamWLruIn.lean ====
abbrev S1x2048x512 : Shape := ⟨3, ![1, 2048, 512]⟩
abbrev S4x2048x512 : Shape := ⟨3, ![4, 2048, 512]⟩
abbrev S3x2048x512 : Shape := ⟨3, ![3, 2048, 512]⟩
abbrev S1 : Shape := ⟨1, ![1]⟩
abbrev S1x256x512 : Shape := ⟨3, ![1, 256, 512]⟩
abbrev S3x256x512 : Shape := ⟨3, ![3, 256, 512]⟩
abbrev S256x512 : Shape := ⟨2, ![256, 512]⟩

abbrev nBuf : Space → Nat
  | .hbm => 9
  | .vmem => 18
  | .smem => 1
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S4x2048x512, .bf16⟩
  | .hbm, ⟨4, _⟩ => ⟨S3x2048x512, .bf16⟩
  | .hbm, ⟨5, _⟩ => ⟨S1x2048x512, .f32⟩
  | .hbm, ⟨6, _⟩ => ⟨S1x2048x512, .f32⟩
  | .hbm, ⟨7, _⟩ => ⟨S1x2048x512, .f32⟩
  | .hbm, ⟨8, _⟩ => ⟨S1x2048x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .bf16⟩
  | .local _ .vmem, ⟨7, _⟩ => ⟨S1x256x512, .bf16⟩
  | .local _ .vmem, ⟨8, _⟩ => ⟨S3x256x512, .bf16⟩
  | .local _ .vmem, ⟨9, _⟩ => ⟨S3x256x512, .bf16⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .smem, ⟨0, _⟩ => ⟨S1, .i32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWLruInIdeal.lean ====
abbrev S1x2048x512 : Shape := ⟨3, ![1, 2048, 512]⟩
abbrev S4x2048x512 : Shape := ⟨3, ![4, 2048, 512]⟩
abbrev S3x2048x512 : Shape := ⟨3, ![3, 2048, 512]⟩
abbrev S1 : Shape := ⟨1, ![1]⟩
abbrev S1x256x512 : Shape := ⟨3, ![1, 256, 512]⟩
abbrev S3x256x512 : Shape := ⟨3, ![3, 256, 512]⟩
abbrev S256x512 : Shape := ⟨2, ![256, 512]⟩

abbrev nBuf : Space → Nat
  | .hbm => 9
  | .vmem => 18
  | .smem => 1
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S4x2048x512, .bf16⟩
  | .hbm, ⟨4, _⟩ => ⟨S3x2048x512, .bf16⟩
  | .hbm, ⟨5, _⟩ => ⟨S1x2048x512, .f32⟩
  | .hbm, ⟨6, _⟩ => ⟨S1x2048x512, .f32⟩
  | .hbm, ⟨7, _⟩ => ⟨S1x2048x512, .f32⟩
  | .hbm, ⟨8, _⟩ => ⟨S1x2048x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .bf16⟩
  | .local _ .vmem, ⟨7, _⟩ => ⟨S1x256x512, .bf16⟩
  | .local _ .vmem, ⟨8, _⟩ => ⟨S3x256x512, .bf16⟩
  | .local _ .vmem, ⟨9, _⟩ => ⟨S3x256x512, .bf16⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .smem, ⟨0, _⟩ => ⟨S1, .i32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWLruInRefIdeal.lean ====
abbrev S1x2048x512 : Shape := ⟨3, ![1, 2048, 512]⟩
abbrev S4x2048x512 : Shape := ⟨3, ![4, 2048, 512]⟩
abbrev S3x2048x512 : Shape := ⟨3, ![3, 2048, 512]⟩
abbrev S1 : Shape := ⟨1, ![1]⟩
abbrev S4 : Shape := ⟨1, ![4]⟩
abbrev S4x1x1 : Shape := ⟨3, ![4, 1, 1]⟩
abbrev S_ : Shape := ⟨0, ![]⟩
abbrev S2048x512 : Shape := ⟨2, ![2048, 512]⟩

abbrev nBuf : Space → Nat
  | .hbm => 58
  | .vmem => 0
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S4x2048x512, .bf16⟩
  | .hbm, ⟨4, _⟩ => ⟨S3x2048x512, .bf16⟩
  | .hbm, ⟨5, _⟩ => ⟨S1, .i32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x2048x512, .f32⟩
  | .hbm, ⟨12, _⟩ => ⟨S_, .f32⟩
  | .hbm, ⟨13, _⟩ => ⟨S_, .f32⟩
  | .hbm, ⟨14, _⟩ => ⟨S4x2048x512, .i1⟩
  | .hbm, ⟨15, _⟩ => ⟨S4x2048x512, .f32⟩
  | .hbm, ⟨16, _⟩ => ⟨S4x2048x512, .f32⟩
  | .hbm, ⟨17, _⟩ => ⟨S_, .f32⟩
  | .hbm, ⟨18, _⟩ => ⟨S2048x512, .f32⟩
  | .hbm, ⟨19, _⟩ => ⟨S1x2048x512, .f32⟩
  | .hbm, ⟨20, _⟩ => ⟨S3x2048x512, .f32⟩
  | .hbm, ⟨21, _⟩ => ⟨S_, .f32⟩
  | .hbm, ⟨22, _⟩ => ⟨S2048x512, .f32⟩
  | .hbm, ⟨23, _⟩ => ⟨S1x2048x512, .f32⟩
  | .hbm, ⟨24, _⟩ => ⟨S1x2048x512, .f32⟩
  | .hbm, ⟨25, _⟩ => ⟨S_, .f32⟩
  | .hbm, ⟨26, _⟩ => ⟨S1x2048x512, .f32⟩
  | .hbm, ⟨27, _⟩ => ⟨S1x2048x512, .f32⟩
  | .hbm, ⟨28, _⟩ => ⟨S_, .f32⟩
  | .hbm, ⟨29, _⟩ => ⟨S1x2048x512, .f32⟩
  | .hbm, ⟨30, _⟩ => ⟨S1x2048x512, .f32⟩
  | .hbm, ⟨31, _⟩ => ⟨S1x2048x512, .f32⟩
  | .hbm, ⟨32, _⟩ => ⟨S_, .f32⟩
  | .hbm, ⟨33, _⟩ => ⟨S1x2048x512, .f32⟩
  | .hbm, ⟨34, _⟩ => ⟨S1x2048x512, .f32⟩
  | .hbm, ⟨35, _⟩ => ⟨S1x2048x512, .f32⟩
  | .hbm, ⟨36, _⟩ => ⟨S_, .f32⟩
  | .hbm, ⟨37, _⟩ => ⟨S1x2048x512, .f32⟩
  | .hbm, ⟨38, _⟩ => ⟨S1x2048x512, .f32⟩
  | .hbm, ⟨39, _⟩ => ⟨S1x2048x512, .f32⟩
  | .hbm, ⟨40, _⟩ => ⟨S_, .f32⟩
  | .hbm, ⟨41, _⟩ => ⟨S1x2048x512, .f32⟩
  | .hbm, ⟨42, _⟩ => ⟨S1x2048x512, .f32⟩
  | .hbm, ⟨43, _⟩ => ⟨S_, .f32⟩
  | .hbm, ⟨44, _⟩ => ⟨S1x2048x512, .f32⟩
  | .hbm, ⟨45, _⟩ => ⟨S1x2048x512, .f32⟩
  | .hbm, ⟨46, _⟩ => ⟨S1x2048x512, .f32⟩
  | .hbm, ⟨47, _⟩ => ⟨S_, .f32⟩
  | .hbm, ⟨48, _⟩ => ⟨S1x2048x512, .f32⟩
  | .hbm, ⟨49, _⟩ => ⟨S1x2048x512, .f32⟩
  | .hbm, ⟨50, _⟩ => ⟨S1x2048x512, .f32⟩
  | .hbm, ⟨51, _⟩ => ⟨S_, .f32⟩
  | .hbm, ⟨52, _⟩ => ⟨S1x2048x512, .f32⟩
  | .hbm, ⟨53, _⟩ => ⟨S1x2048x512, .f32⟩
  | .hbm, ⟨54, _⟩ => ⟨S1x2048x512, .f32⟩
  | .hbm, ⟨55, _⟩ => ⟨S_, .f32⟩
  | .hbm, ⟨56, _⟩ => ⟨S1x2048x512, .f32⟩
  | .hbm, ⟨57, _⟩ => ⟨S1x2048x512, .f32⟩
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== AdamWRetIn.lean ====
abbrev S1x2048x1536 : Shape := ⟨3, ![1, 2048, 1536]⟩
abbrev S4x2048x1536 : Shape := ⟨3, ![4, 2048, 1536]⟩
abbrev S3x2048x1536 : Shape := ⟨3, ![3, 2048, 1536]⟩
abbrev S1 : Shape := ⟨1, ![1]⟩
abbrev S1x256x1536 : Shape := ⟨3, ![1, 256, 1536]⟩
abbrev S3x256x1536 : Shape := ⟨3, ![3, 256, 1536]⟩
abbrev S256x1536 : Shape := ⟨2, ![256, 1536]⟩

abbrev nBuf : Space → Nat
  | .hbm => 9
  | .vmem => 18
  | .smem => 1
  | _ => 0

abbrev bufTy : (tb : Table) → Fin (tcTables nBuf tb) → BufTy
  | .hbm, ⟨0, _⟩ => ⟨S1x2048x1536, .f32⟩
  | .hbm, ⟨1, _⟩ => ⟨S1x2048x1536, .f32⟩
  | .hbm, ⟨2, _⟩ => ⟨S1x2048x1536, .f32⟩
  | .hbm, ⟨3, _⟩ => ⟨S4x2048x1536, .bf16⟩
  | .hbm, ⟨4, _⟩ => ⟨S3x2048x1536, .bf16⟩
  | .hbm, ⟨5, _⟩ => ⟨S1x2048x1536, .f32⟩
  | .hbm, ⟨6, _⟩ => ⟨S1x2048x1536, .f32⟩
  | .hbm, ⟨7, _⟩ => ⟨S1x2048x1536, .f32⟩
  | .hbm, ⟨8, _⟩ => ⟨S1x2048x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .bf16⟩
  | .local _ .vmem, ⟨7, _⟩ => ⟨S1x256x1536, .bf16⟩
  | .local _ .vmem, ⟨8, _⟩ => ⟨S3x256x1536, .bf16⟩
  | .local _ .vmem, ⟨9, _⟩ => ⟨S3x256x1536, .bf16⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | .local _ .vmem, ⟨16, _⟩ => ⟨S1x256x1536, .f32⟩
  | .local _ .vmem, ⟨17, _⟩ => ⟨S1x256x1536, .f32⟩
  | .local _ .smem, ⟨0, _⟩ => ⟨S1, .i32⟩
  | _, _ => ⟨S1x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWRetInIdeal.lean ====
abbrev S1x2048x1536 : Shape := ⟨3, ![1, 2048, 1536]⟩
abbrev S4x2048x1536 : Shape := ⟨3, ![4, 2048, 1536]⟩
abbrev S3x2048x1536 : Shape := ⟨3, ![3, 2048, 1536]⟩
abbrev S1 : Shape := ⟨1, ![1]⟩
abbrev S1x256x1536 : Shape := ⟨3, ![1, 256, 1536]⟩
abbrev S3x256x1536 : Shape := ⟨3, ![3, 256, 1536]⟩
abbrev S256x1536 : Shape := ⟨2, ![256, 1536]⟩

abbrev nBuf : Space → Nat
  | .hbm => 9
  | .vmem => 18
  | .smem => 1
  | _ => 0

abbrev bufTy : (tb : Table) → Fin (tcTables nBuf tb) → BufTy
  | .hbm, ⟨0, _⟩ => ⟨S1x2048x1536, .f32⟩
  | .hbm, ⟨1, _⟩ => ⟨S1x2048x1536, .f32⟩
  | .hbm, ⟨2, _⟩ => ⟨S1x2048x1536, .f32⟩
  | .hbm, ⟨3, _⟩ => ⟨S4x2048x1536, .bf16⟩
  | .hbm, ⟨4, _⟩ => ⟨S3x2048x1536, .bf16⟩
  | .hbm, ⟨5, _⟩ => ⟨S1x2048x1536, .f32⟩
  | .hbm, ⟨6, _⟩ => ⟨S1x2048x1536, .f32⟩
  | .hbm, ⟨7, _⟩ => ⟨S1x2048x1536, .f32⟩
  | .hbm, ⟨8, _⟩ => ⟨S1x2048x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .bf16⟩
  | .local _ .vmem, ⟨7, _⟩ => ⟨S1x256x1536, .bf16⟩
  | .local _ .vmem, ⟨8, _⟩ => ⟨S3x256x1536, .bf16⟩
  | .local _ .vmem, ⟨9, _⟩ => ⟨S3x256x1536, .bf16⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | .local _ .vmem, ⟨16, _⟩ => ⟨S1x256x1536, .f32⟩
  | .local _ .vmem, ⟨17, _⟩ => ⟨S1x256x1536, .f32⟩
  | .local _ .smem, ⟨0, _⟩ => ⟨S1, .i32⟩
  | _, _ => ⟨S1x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWRetInRefIdeal.lean ====
abbrev S1x2048x1536 : Shape := ⟨3, ![1, 2048, 1536]⟩
abbrev S4x2048x1536 : Shape := ⟨3, ![4, 2048, 1536]⟩
abbrev S3x2048x1536 : Shape := ⟨3, ![3, 2048, 1536]⟩
abbrev S1 : Shape := ⟨1, ![1]⟩
abbrev S4 : Shape := ⟨1, ![4]⟩
abbrev S4x1x1 : Shape := ⟨3, ![4, 1, 1]⟩
abbrev S_ : Shape := ⟨0, ![]⟩
abbrev S2048x1536 : Shape := ⟨2, ![2048, 1536]⟩

abbrev nBuf : Space → Nat
  | .hbm => 58
  | .vmem => 0
  | .smem => 0
  | _ => 0

abbrev bufTy : (tb : Table) → Fin (tcTables nBuf tb) → BufTy
  | .hbm, ⟨0, _⟩ => ⟨S1x2048x1536, .f32⟩
  | .hbm, ⟨1, _⟩ => ⟨S1x2048x1536, .f32⟩
  | .hbm, ⟨2, _⟩ => ⟨S1x2048x1536, .f32⟩
  | .hbm, ⟨3, _⟩ => ⟨S4x2048x1536, .bf16⟩
  | .hbm, ⟨4, _⟩ => ⟨S3x2048x1536, .bf16⟩
  | .hbm, ⟨5, _⟩ => ⟨S1, .i32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x2048x1536, .f32⟩
  | .hbm, ⟨12, _⟩ => ⟨S_, .f32⟩
  | .hbm, ⟨13, _⟩ => ⟨S_, .f32⟩
  | .hbm, ⟨14, _⟩ => ⟨S4x2048x1536, .i1⟩
  | .hbm, ⟨15, _⟩ => ⟨S4x2048x1536, .f32⟩
  | .hbm, ⟨16, _⟩ => ⟨S4x2048x1536, .f32⟩
  | .hbm, ⟨17, _⟩ => ⟨S_, .f32⟩
  | .hbm, ⟨18, _⟩ => ⟨S2048x1536, .f32⟩
  | .hbm, ⟨19, _⟩ => ⟨S1x2048x1536, .f32⟩
  | .hbm, ⟨20, _⟩ => ⟨S3x2048x1536, .f32⟩
  | .hbm, ⟨21, _⟩ => ⟨S_, .f32⟩
  | .hbm, ⟨22, _⟩ => ⟨S2048x1536, .f32⟩
  | .hbm, ⟨23, _⟩ => ⟨S1x2048x1536, .f32⟩
  | .hbm, ⟨24, _⟩ => ⟨S1x2048x1536, .f32⟩
  | .hbm, ⟨25, _⟩ => ⟨S_, .f32⟩
  | .hbm, ⟨26, _⟩ => ⟨S1x2048x1536, .f32⟩
  | .hbm, ⟨27, _⟩ => ⟨S1x2048x1536, .f32⟩
  | .hbm, ⟨28, _⟩ => ⟨S_, .f32⟩
  | .hbm, ⟨29, _⟩ => ⟨S1x2048x1536, .f32⟩
  | .hbm, ⟨30, _⟩ => ⟨S1x2048x1536, .f32⟩
  | .hbm, ⟨31, _⟩ => ⟨S1x2048x1536, .f32⟩
  | .hbm, ⟨32, _⟩ => ⟨S_, .f32⟩
  | .hbm, ⟨33, _⟩ => ⟨S1x2048x1536, .f32⟩
  | .hbm, ⟨34, _⟩ => ⟨S1x2048x1536, .f32⟩
  | .hbm, ⟨35, _⟩ => ⟨S1x2048x1536, .f32⟩
  | .hbm, ⟨36, _⟩ => ⟨S_, .f32⟩
  | .hbm, ⟨37, _⟩ => ⟨S1x2048x1536, .f32⟩
  | .hbm, ⟨38, _⟩ => ⟨S1x2048x1536, .f32⟩
  | .hbm, ⟨39, _⟩ => ⟨S1x2048x1536, .f32⟩
  | .hbm, ⟨40, _⟩ => ⟨S_, .f32⟩
  | .hbm, ⟨41, _⟩ => ⟨S1x2048x1536, .f32⟩
  | .hbm, ⟨42, _⟩ => ⟨S1x2048x1536, .f32⟩
  | .hbm, ⟨43, _⟩ => ⟨S_, .f32⟩
  | .hbm, ⟨44, _⟩ => ⟨S1x2048x1536, .f32⟩
  | .hbm, ⟨45, _⟩ => ⟨S1x2048x1536, .f32⟩
  | .hbm, ⟨46, _⟩ => ⟨S1x2048x1536, .f32⟩
  | .hbm, ⟨47, _⟩ => ⟨S_, .f32⟩
  | .hbm, ⟨48, _⟩ => ⟨S1x2048x1536, .f32⟩
  | .hbm, ⟨49, _⟩ => ⟨S1x2048x1536, .f32⟩
  | .hbm, ⟨50, _⟩ => ⟨S1x2048x1536, .f32⟩
  | .hbm, ⟨51, _⟩ => ⟨S_, .f32⟩
  | .hbm, ⟨52, _⟩ => ⟨S1x2048x1536, .f32⟩
  | .hbm, ⟨53, _⟩ => ⟨S1x2048x1536, .f32⟩
  | .hbm, ⟨54, _⟩ => ⟨S1x2048x1536, .f32⟩
  | .hbm, ⟨55, _⟩ => ⟨S_, .f32⟩
  | .hbm, ⟨56, _⟩ => ⟨S1x2048x1536, .f32⟩
  | .hbm, ⟨57, _⟩ => ⟨S1x2048x1536, .f32⟩
  | _, _ => ⟨S1x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== AdamWGdnIn.lean ====
abbrev S1x2048x1028 : Shape := ⟨3, ![1, 2048, 1028]⟩
abbrev S4x2048x1028 : Shape := ⟨3, ![4, 2048, 1028]⟩
abbrev S3x2048x1028 : Shape := ⟨3, ![3, 2048, 1028]⟩
abbrev S1 : Shape := ⟨1, ![1]⟩
abbrev S1x256x1028 : Shape := ⟨3, ![1, 256, 1028]⟩
abbrev S3x256x1028 : Shape := ⟨3, ![3, 256, 1028]⟩
abbrev S256x1028 : Shape := ⟨2, ![256, 1028]⟩

abbrev nBuf : Space → Nat
  | .hbm => 9
  | .vmem => 18
  | .smem => 1
  | _ => 0

abbrev bufTy : (tb : Table) → Fin (tcTables nBuf tb) → BufTy
  | .hbm, ⟨0, _⟩ => ⟨S1x2048x1028, .f32⟩
  | .hbm, ⟨1, _⟩ => ⟨S1x2048x1028, .f32⟩
  | .hbm, ⟨2, _⟩ => ⟨S1x2048x1028, .f32⟩
  | .hbm, ⟨3, _⟩ => ⟨S4x2048x1028, .bf16⟩
  | .hbm, ⟨4, _⟩ => ⟨S3x2048x1028, .bf16⟩
  | .hbm, ⟨5, _⟩ => ⟨S1x2048x1028, .f32⟩
  | .hbm, ⟨6, _⟩ => ⟨S1x2048x1028, .f32⟩
  | .hbm, ⟨7, _⟩ => ⟨S1x2048x1028, .f32⟩
  | .hbm, ⟨8, _⟩ => ⟨S1x2048x1028, .f32⟩
  | .local _ .vmem, ⟨0, _⟩ => ⟨S1x256x1028, .f32⟩
  | .local _ .vmem, ⟨1, _⟩ => ⟨S1x256x1028, .f32⟩
  | .local _ .vmem, ⟨2, _⟩ => ⟨S1x256x1028, .f32⟩
  | .local _ .vmem, ⟨3, _⟩ => ⟨S1x256x1028, .f32⟩
  | .local _ .vmem, ⟨4, _⟩ => ⟨S1x256x1028, .f32⟩
  | .local _ .vmem, ⟨5, _⟩ => ⟨S1x256x1028, .f32⟩
  | .local _ .vmem, ⟨6, _⟩ => ⟨S1x256x1028, .bf16⟩
  | .local _ .vmem, ⟨7, _⟩ => ⟨S1x256x1028, .bf16⟩
  | .local _ .vmem, ⟨8, _⟩ => ⟨S3x256x1028, .bf16⟩
  | .local _ .vmem, ⟨9, _⟩ => ⟨S3x256x1028, .bf16⟩
  | .local _ .vmem, ⟨10, _⟩ => ⟨S1x256x1028, .f32⟩
  | .local _ .vmem, ⟨11, _⟩ => ⟨S1x256x1028, .f32⟩
  | .local _ .vmem, ⟨12, _⟩ => ⟨S1x256x1028, .f32⟩
  | .local _ .vmem, ⟨13, _⟩ => ⟨S1x256x1028, .f32⟩
  | .local _ .vmem, ⟨14, _⟩ => ⟨S1x256x1028, .f32⟩
  | .local _ .vmem, ⟨15, _⟩ => ⟨S1x256x1028, .f32⟩
  | .local _ .vmem, ⟨16, _⟩ => ⟨S1x256x1028, .f32⟩
  | .local _ .vmem, ⟨17, _⟩ => ⟨S1x256x1028, .f32⟩
  | .local _ .smem, ⟨0, _⟩ => ⟨S1, .i32⟩
  | _, _ => ⟨S1x2048x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1028 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256x1028 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1028 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1028 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWGdnInIdeal.lean ====
abbrev S1x2048x1028 : Shape := ⟨3, ![1, 2048, 1028]⟩
abbrev S4x2048x1028 : Shape := ⟨3, ![4, 2048, 1028]⟩
abbrev S3x2048x1028 : Shape := ⟨3, ![3, 2048, 1028]⟩
abbrev S1 : Shape := ⟨1, ![1]⟩
abbrev S1x256x1028 : Shape := ⟨3, ![1, 256, 1028]⟩
abbrev S3x256x1028 : Shape := ⟨3, ![3, 256, 1028]⟩
abbrev S256x1028 : Shape := ⟨2, ![256, 1028]⟩

abbrev nBuf : Space → Nat
  | .hbm => 9
  | .vmem => 18
  | .smem => 1
  | _ => 0

abbrev bufTy : (tb : Table) → Fin (tcTables nBuf tb) → BufTy
  | .hbm, ⟨0, _⟩ => ⟨S1x2048x1028, .f32⟩
  | .hbm, ⟨1, _⟩ => ⟨S1x2048x1028, .f32⟩
  | .hbm, ⟨2, _⟩ => ⟨S1x2048x1028, .f32⟩
  | .hbm, ⟨3, _⟩ => ⟨S4x2048x1028, .bf16⟩
  | .hbm, ⟨4, _⟩ => ⟨S3x2048x1028, .bf16⟩
  | .hbm, ⟨5, _⟩ => ⟨S1x2048x1028, .f32⟩
  | .hbm, ⟨6, _⟩ => ⟨S1x2048x1028, .f32⟩
  | .hbm, ⟨7, _⟩ => ⟨S1x2048x1028, .f32⟩
  | .hbm, ⟨8, _⟩ => ⟨S1x2048x1028, .f32⟩
  | .local _ .vmem, ⟨0, _⟩ => ⟨S1x256x1028, .f32⟩
  | .local _ .vmem, ⟨1, _⟩ => ⟨S1x256x1028, .f32⟩
  | .local _ .vmem, ⟨2, _⟩ => ⟨S1x256x1028, .f32⟩
  | .local _ .vmem, ⟨3, _⟩ => ⟨S1x256x1028, .f32⟩
  | .local _ .vmem, ⟨4, _⟩ => ⟨S1x256x1028, .f32⟩
  | .local _ .vmem, ⟨5, _⟩ => ⟨S1x256x1028, .f32⟩
  | .local _ .vmem, ⟨6, _⟩ => ⟨S1x256x1028, .bf16⟩
  | .local _ .vmem, ⟨7, _⟩ => ⟨S1x256x1028, .bf16⟩
  | .local _ .vmem, ⟨8, _⟩ => ⟨S3x256x1028, .bf16⟩
  | .local _ .vmem, ⟨9, _⟩ => ⟨S3x256x1028, .bf16⟩
  | .local _ .vmem, ⟨10, _⟩ => ⟨S1x256x1028, .f32⟩
  | .local _ .vmem, ⟨11, _⟩ => ⟨S1x256x1028, .f32⟩
  | .local _ .vmem, ⟨12, _⟩ => ⟨S1x256x1028, .f32⟩
  | .local _ .vmem, ⟨13, _⟩ => ⟨S1x256x1028, .f32⟩
  | .local _ .vmem, ⟨14, _⟩ => ⟨S1x256x1028, .f32⟩
  | .local _ .vmem, ⟨15, _⟩ => ⟨S1x256x1028, .f32⟩
  | .local _ .vmem, ⟨16, _⟩ => ⟨S1x256x1028, .f32⟩
  | .local _ .vmem, ⟨17, _⟩ => ⟨S1x256x1028, .f32⟩
  | .local _ .smem, ⟨0, _⟩ => ⟨S1, .i32⟩
  | _, _ => ⟨S1x2048x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1028 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256x1028 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1028 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1028 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWGdnInRefIdeal.lean ====
abbrev S1x2048x1028 : Shape := ⟨3, ![1, 2048, 1028]⟩
abbrev S4x2048x1028 : Shape := ⟨3, ![4, 2048, 1028]⟩
abbrev S3x2048x1028 : Shape := ⟨3, ![3, 2048, 1028]⟩
abbrev S1 : Shape := ⟨1, ![1]⟩
abbrev S4 : Shape := ⟨1, ![4]⟩
abbrev S4x1x1 : Shape := ⟨3, ![4, 1, 1]⟩
abbrev S_ : Shape := ⟨0, ![]⟩
abbrev S2048x1028 : Shape := ⟨2, ![2048, 1028]⟩

abbrev nBuf : Space → Nat
  | .hbm => 58
  | .vmem => 0
  | .smem => 0
  | _ => 0

abbrev bufTy : (tb : Table) → Fin (tcTables nBuf tb) → BufTy
  | .hbm, ⟨0, _⟩ => ⟨S1x2048x1028, .f32⟩
  | .hbm, ⟨1, _⟩ => ⟨S1x2048x1028, .f32⟩
  | .hbm, ⟨2, _⟩ => ⟨S1x2048x1028, .f32⟩
  | .hbm, ⟨3, _⟩ => ⟨S4x2048x1028, .bf16⟩
  | .hbm, ⟨4, _⟩ => ⟨S3x2048x1028, .bf16⟩
  | .hbm, ⟨5, _⟩ => ⟨S1, .i32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x2048x1028, .f32⟩
  | .hbm, ⟨12, _⟩ => ⟨S_, .f32⟩
  | .hbm, ⟨13, _⟩ => ⟨S_, .f32⟩
  | .hbm, ⟨14, _⟩ => ⟨S4x2048x1028, .i1⟩
  | .hbm, ⟨15, _⟩ => ⟨S4x2048x1028, .f32⟩
  | .hbm, ⟨16, _⟩ => ⟨S4x2048x1028, .f32⟩
  | .hbm, ⟨17, _⟩ => ⟨S_, .f32⟩
  | .hbm, ⟨18, _⟩ => ⟨S2048x1028, .f32⟩
  | .hbm, ⟨19, _⟩ => ⟨S1x2048x1028, .f32⟩
  | .hbm, ⟨20, _⟩ => ⟨S3x2048x1028, .f32⟩
  | .hbm, ⟨21, _⟩ => ⟨S_, .f32⟩
  | .hbm, ⟨22, _⟩ => ⟨S2048x1028, .f32⟩
  | .hbm, ⟨23, _⟩ => ⟨S1x2048x1028, .f32⟩
  | .hbm, ⟨24, _⟩ => ⟨S1x2048x1028, .f32⟩
  | .hbm, ⟨25, _⟩ => ⟨S_, .f32⟩
  | .hbm, ⟨26, _⟩ => ⟨S1x2048x1028, .f32⟩
  | .hbm, ⟨27, _⟩ => ⟨S1x2048x1028, .f32⟩
  | .hbm, ⟨28, _⟩ => ⟨S_, .f32⟩
  | .hbm, ⟨29, _⟩ => ⟨S1x2048x1028, .f32⟩
  | .hbm, ⟨30, _⟩ => ⟨S1x2048x1028, .f32⟩
  | .hbm, ⟨31, _⟩ => ⟨S1x2048x1028, .f32⟩
  | .hbm, ⟨32, _⟩ => ⟨S_, .f32⟩
  | .hbm, ⟨33, _⟩ => ⟨S1x2048x1028, .f32⟩
  | .hbm, ⟨34, _⟩ => ⟨S1x2048x1028, .f32⟩
  | .hbm, ⟨35, _⟩ => ⟨S1x2048x1028, .f32⟩
  | .hbm, ⟨36, _⟩ => ⟨S_, .f32⟩
  | .hbm, ⟨37, _⟩ => ⟨S1x2048x1028, .f32⟩
  | .hbm, ⟨38, _⟩ => ⟨S1x2048x1028, .f32⟩
  | .hbm, ⟨39, _⟩ => ⟨S1x2048x1028, .f32⟩
  | .hbm, ⟨40, _⟩ => ⟨S_, .f32⟩
  | .hbm, ⟨41, _⟩ => ⟨S1x2048x1028, .f32⟩
  | .hbm, ⟨42, _⟩ => ⟨S1x2048x1028, .f32⟩
  | .hbm, ⟨43, _⟩ => ⟨S_, .f32⟩
  | .hbm, ⟨44, _⟩ => ⟨S1x2048x1028, .f32⟩
  | .hbm, ⟨45, _⟩ => ⟨S1x2048x1028, .f32⟩
  | .hbm, ⟨46, _⟩ => ⟨S1x2048x1028, .f32⟩
  | .hbm, ⟨47, _⟩ => ⟨S_, .f32⟩
  | .hbm, ⟨48, _⟩ => ⟨S1x2048x1028, .f32⟩
  | .hbm, ⟨49, _⟩ => ⟨S1x2048x1028, .f32⟩
  | .hbm, ⟨50, _⟩ => ⟨S1x2048x1028, .f32⟩
  | .hbm, ⟨51, _⟩ => ⟨S_, .f32⟩
  | .hbm, ⟨52, _⟩ => ⟨S1x2048x1028, .f32⟩
  | .hbm, ⟨53, _⟩ => ⟨S1x2048x1028, .f32⟩
  | .hbm, ⟨54, _⟩ => ⟨S1x2048x1028, .f32⟩
  | .hbm, ⟨55, _⟩ => ⟨S_, .f32⟩
  | .hbm, ⟨56, _⟩ => ⟨S1x2048x1028, .f32⟩
  | .hbm, ⟨57, _⟩ => ⟨S1x2048x1028, .f32⟩
  | _, _ => ⟨S1x2048x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== AdamWGlaIn.lean ====
abbrev S1x2048x770 : Shape := ⟨3, ![1, 2048, 770]⟩
abbrev S4x2048x770 : Shape := ⟨3, ![4, 2048, 770]⟩
abbrev S3x2048x770 : Shape := ⟨3, ![3, 2048, 770]⟩
abbrev S1 : Shape := ⟨1, ![1]⟩
abbrev S1x256x770 : Shape := ⟨3, ![1, 256, 770]⟩
abbrev S3x256x770 : Shape := ⟨3, ![3, 256, 770]⟩
abbrev S256x770 : Shape := ⟨2, ![256, 770]⟩

abbrev nBuf : Space → Nat
  | .hbm => 9
  | .vmem => 18
  | .smem => 1
  | _ => 0

abbrev bufTy : (tb : Table) → Fin (tcTables nBuf tb) → BufTy
  | .hbm, ⟨0, _⟩ => ⟨S1x2048x770, .f32⟩
  | .hbm, ⟨1, _⟩ => ⟨S1x2048x770, .f32⟩
  | .hbm, ⟨2, _⟩ => ⟨S1x2048x770, .f32⟩
  | .hbm, ⟨3, _⟩ => ⟨S4x2048x770, .bf16⟩
  | .hbm, ⟨4, _⟩ => ⟨S3x2048x770, .bf16⟩
  | .hbm, ⟨5, _⟩ => ⟨S1x2048x770, .f32⟩
  | .hbm, ⟨6, _⟩ => ⟨S1x2048x770, .f32⟩
  | .hbm, ⟨7, _⟩ => ⟨S1x2048x770, .f32⟩
  | .hbm, ⟨8, _⟩ => ⟨S1x2048x770, .f32⟩
  | .local _ .vmem, ⟨0, _⟩ => ⟨S1x256x770, .f32⟩
  | .local _ .vmem, ⟨1, _⟩ => ⟨S1x256x770, .f32⟩
  | .local _ .vmem, ⟨2, _⟩ => ⟨S1x256x770, .f32⟩
  | .local _ .vmem, ⟨3, _⟩ => ⟨S1x256x770, .f32⟩
  | .local _ .vmem, ⟨4, _⟩ => ⟨S1x256x770, .f32⟩
  | .local _ .vmem, ⟨5, _⟩ => ⟨S1x256x770, .f32⟩
  | .local _ .vmem, ⟨6, _⟩ => ⟨S1x256x770, .bf16⟩
  | .local _ .vmem, ⟨7, _⟩ => ⟨S1x256x770, .bf16⟩
  | .local _ .vmem, ⟨8, _⟩ => ⟨S3x256x770, .bf16⟩
  | .local _ .vmem, ⟨9, _⟩ => ⟨S3x256x770, .bf16⟩
  | .local _ .vmem, ⟨10, _⟩ => ⟨S1x256x770, .f32⟩
  | .local _ .vmem, ⟨11, _⟩ => ⟨S1x256x770, .f32⟩
  | .local _ .vmem, ⟨12, _⟩ => ⟨S1x256x770, .f32⟩
  | .local _ .vmem, ⟨13, _⟩ => ⟨S1x256x770, .f32⟩
  | .local _ .vmem, ⟨14, _⟩ => ⟨S1x256x770, .f32⟩
  | .local _ .vmem, ⟨15, _⟩ => ⟨S1x256x770, .f32⟩
  | .local _ .vmem, ⟨16, _⟩ => ⟨S1x256x770, .f32⟩
  | .local _ .vmem, ⟨17, _⟩ => ⟨S1x256x770, .f32⟩
  | .local _ .smem, ⟨0, _⟩ => ⟨S1, .i32⟩
  | _, _ => ⟨S1x2048x770, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x770 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x770 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x770 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x770 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256x770 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x770 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x770 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x770 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x770 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWGlaInIdeal.lean ====
abbrev S1x2048x770 : Shape := ⟨3, ![1, 2048, 770]⟩
abbrev S4x2048x770 : Shape := ⟨3, ![4, 2048, 770]⟩
abbrev S3x2048x770 : Shape := ⟨3, ![3, 2048, 770]⟩
abbrev S1 : Shape := ⟨1, ![1]⟩
abbrev S1x256x770 : Shape := ⟨3, ![1, 256, 770]⟩
abbrev S3x256x770 : Shape := ⟨3, ![3, 256, 770]⟩
abbrev S256x770 : Shape := ⟨2, ![256, 770]⟩

abbrev nBuf : Space → Nat
  | .hbm => 9
  | .vmem => 18
  | .smem => 1
  | _ => 0

abbrev bufTy : (tb : Table) → Fin (tcTables nBuf tb) → BufTy
  | .hbm, ⟨0, _⟩ => ⟨S1x2048x770, .f32⟩
  | .hbm, ⟨1, _⟩ => ⟨S1x2048x770, .f32⟩
  | .hbm, ⟨2, _⟩ => ⟨S1x2048x770, .f32⟩
  | .hbm, ⟨3, _⟩ => ⟨S4x2048x770, .bf16⟩
  | .hbm, ⟨4, _⟩ => ⟨S3x2048x770, .bf16⟩
  | .hbm, ⟨5, _⟩ => ⟨S1x2048x770, .f32⟩
  | .hbm, ⟨6, _⟩ => ⟨S1x2048x770, .f32⟩
  | .hbm, ⟨7, _⟩ => ⟨S1x2048x770, .f32⟩
  | .hbm, ⟨8, _⟩ => ⟨S1x2048x770, .f32⟩
  | .local _ .vmem, ⟨0, _⟩ => ⟨S1x256x770, .f32⟩
  | .local _ .vmem, ⟨1, _⟩ => ⟨S1x256x770, .f32⟩
  | .local _ .vmem, ⟨2, _⟩ => ⟨S1x256x770, .f32⟩
  | .local _ .vmem, ⟨3, _⟩ => ⟨S1x256x770, .f32⟩
  | .local _ .vmem, ⟨4, _⟩ => ⟨S1x256x770, .f32⟩
  | .local _ .vmem, ⟨5, _⟩ => ⟨S1x256x770, .f32⟩
  | .local _ .vmem, ⟨6, _⟩ => ⟨S1x256x770, .bf16⟩
  | .local _ .vmem, ⟨7, _⟩ => ⟨S1x256x770, .bf16⟩
  | .local _ .vmem, ⟨8, _⟩ => ⟨S3x256x770, .bf16⟩
  | .local _ .vmem, ⟨9, _⟩ => ⟨S3x256x770, .bf16⟩
  | .local _ .vmem, ⟨10, _⟩ => ⟨S1x256x770, .f32⟩
  | .local _ .vmem, ⟨11, _⟩ => ⟨S1x256x770, .f32⟩
  | .local _ .vmem, ⟨12, _⟩ => ⟨S1x256x770, .f32⟩
  | .local _ .vmem, ⟨13, _⟩ => ⟨S1x256x770, .f32⟩
  | .local _ .vmem, ⟨14, _⟩ => ⟨S1x256x770, .f32⟩
  | .local _ .vmem, ⟨15, _⟩ => ⟨S1x256x770, .f32⟩
  | .local _ .vmem, ⟨16, _⟩ => ⟨S1x256x770, .f32⟩
  | .local _ .vmem, ⟨17, _⟩ => ⟨S1x256x770, .f32⟩
  | .local _ .smem, ⟨0, _⟩ => ⟨S1, .i32⟩
  | _, _ => ⟨S1x2048x770, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x770 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x770 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x770 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x770 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256x770 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x770 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x770 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x770 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x770 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWGlaInRefIdeal.lean ====
abbrev S1x2048x770 : Shape := ⟨3, ![1, 2048, 770]⟩
abbrev S4x2048x770 : Shape := ⟨3, ![4, 2048, 770]⟩
abbrev S3x2048x770 : Shape := ⟨3, ![3, 2048, 770]⟩
abbrev S1 : Shape := ⟨1, ![1]⟩
abbrev S4 : Shape := ⟨1, ![4]⟩
abbrev S4x1x1 : Shape := ⟨3, ![4, 1, 1]⟩
abbrev S_ : Shape := ⟨0, ![]⟩
abbrev S2048x770 : Shape := ⟨2, ![2048, 770]⟩

abbrev nBuf : Space → Nat
  | .hbm => 58
  | .vmem => 0
  | .smem => 0
  | _ => 0

abbrev bufTy : (tb : Table) → Fin (tcTables nBuf tb) → BufTy
  | .hbm, ⟨0, _⟩ => ⟨S1x2048x770, .f32⟩
  | .hbm, ⟨1, _⟩ => ⟨S1x2048x770, .f32⟩
  | .hbm, ⟨2, _⟩ => ⟨S1x2048x770, .f32⟩
  | .hbm, ⟨3, _⟩ => ⟨S4x2048x770, .bf16⟩
  | .hbm, ⟨4, _⟩ => ⟨S3x2048x770, .bf16⟩
  | .hbm, ⟨5, _⟩ => ⟨S1, .i32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x2048x770, .f32⟩
  | .hbm, ⟨12, _⟩ => ⟨S_, .f32⟩
  | .hbm, ⟨13, _⟩ => ⟨S_, .f32⟩
  | .hbm, ⟨14, _⟩ => ⟨S4x2048x770, .i1⟩
  | .hbm, ⟨15, _⟩ => ⟨S4x2048x770, .f32⟩
  | .hbm, ⟨16, _⟩ => ⟨S4x2048x770, .f32⟩
  | .hbm, ⟨17, _⟩ => ⟨S_, .f32⟩
  | .hbm, ⟨18, _⟩ => ⟨S2048x770, .f32⟩
  | .hbm, ⟨19, _⟩ => ⟨S1x2048x770, .f32⟩
  | .hbm, ⟨20, _⟩ => ⟨S3x2048x770, .f32⟩
  | .hbm, ⟨21, _⟩ => ⟨S_, .f32⟩
  | .hbm, ⟨22, _⟩ => ⟨S2048x770, .f32⟩
  | .hbm, ⟨23, _⟩ => ⟨S1x2048x770, .f32⟩
  | .hbm, ⟨24, _⟩ => ⟨S1x2048x770, .f32⟩
  | .hbm, ⟨25, _⟩ => ⟨S_, .f32⟩
  | .hbm, ⟨26, _⟩ => ⟨S1x2048x770, .f32⟩
  | .hbm, ⟨27, _⟩ => ⟨S1x2048x770, .f32⟩
  | .hbm, ⟨28, _⟩ => ⟨S_, .f32⟩
  | .hbm, ⟨29, _⟩ => ⟨S1x2048x770, .f32⟩
  | .hbm, ⟨30, _⟩ => ⟨S1x2048x770, .f32⟩
  | .hbm, ⟨31, _⟩ => ⟨S1x2048x770, .f32⟩
  | .hbm, ⟨32, _⟩ => ⟨S_, .f32⟩
  | .hbm, ⟨33, _⟩ => ⟨S1x2048x770, .f32⟩
  | .hbm, ⟨34, _⟩ => ⟨S1x2048x770, .f32⟩
  | .hbm, ⟨35, _⟩ => ⟨S1x2048x770, .f32⟩
  | .hbm, ⟨36, _⟩ => ⟨S_, .f32⟩
  | .hbm, ⟨37, _⟩ => ⟨S1x2048x770, .f32⟩
  | .hbm, ⟨38, _⟩ => ⟨S1x2048x770, .f32⟩
  | .hbm, ⟨39, _⟩ => ⟨S1x2048x770, .f32⟩
  | .hbm, ⟨40, _⟩ => ⟨S_, .f32⟩
  | .hbm, ⟨41, _⟩ => ⟨S1x2048x770, .f32⟩
  | .hbm, ⟨42, _⟩ => ⟨S1x2048x770, .f32⟩
  | .hbm, ⟨43, _⟩ => ⟨S_, .f32⟩
  | .hbm, ⟨44, _⟩ => ⟨S1x2048x770, .f32⟩
  | .hbm, ⟨45, _⟩ => ⟨S1x2048x770, .f32⟩
  | .hbm, ⟨46, _⟩ => ⟨S1x2048x770, .f32⟩
  | .hbm, ⟨47, _⟩ => ⟨S_, .f32⟩
  | .hbm, ⟨48, _⟩ => ⟨S1x2048x770, .f32⟩
  | .hbm, ⟨49, _⟩ => ⟨S1x2048x770, .f32⟩
  | .hbm, ⟨50, _⟩ => ⟨S1x2048x770, .f32⟩
  | .hbm, ⟨51, _⟩ => ⟨S_, .f32⟩
  | .hbm, ⟨52, _⟩ => ⟨S1x2048x770, .f32⟩
  | .hbm, ⟨53, _⟩ => ⟨S1x2048x770, .f32⟩
  | .hbm, ⟨54, _⟩ => ⟨S1x2048x770, .f32⟩
  | .hbm, ⟨55, _⟩ => ⟨S_, .f32⟩
  | .hbm, ⟨56, _⟩ => ⟨S1x2048x770, .f32⟩
  | .hbm, ⟨57, _⟩ => ⟨S1x2048x770, .f32⟩
  | _, _ => ⟨S1x2048x770, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== AdamWRetOut.lean ====
abbrev S1x512x2048 : Shape := ⟨3, ![1, 512, 2048]⟩
abbrev S4x512x2048 : Shape := ⟨3, ![4, 512, 2048]⟩
abbrev S3x512x2048 : Shape := ⟨3, ![3, 512, 2048]⟩
abbrev S1 : Shape := ⟨1, ![1]⟩
abbrev S1x256x2048 : Shape := ⟨3, ![1, 256, 2048]⟩
abbrev S3x256x2048 : Shape := ⟨3, ![3, 256, 2048]⟩
abbrev S256x2048 : Shape := ⟨2, ![256, 2048]⟩

abbrev nBuf : Space → Nat
  | .hbm => 9
  | .vmem => 18
  | .smem => 1
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S4x512x2048, .bf16⟩
  | .hbm, ⟨4, _⟩ => ⟨S3x512x2048, .bf16⟩
  | .hbm, ⟨5, _⟩ => ⟨S1x512x2048, .f32⟩
  | .hbm, ⟨6, _⟩ => ⟨S1x512x2048, .f32⟩
  | .hbm, ⟨7, _⟩ => ⟨S1x512x2048, .f32⟩
  | .hbm, ⟨8, _⟩ => ⟨S1x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .bf16⟩
  | .local _ .vmem, ⟨7, _⟩ => ⟨S1x256x2048, .bf16⟩
  | .local _ .vmem, ⟨8, _⟩ => ⟨S3x256x2048, .bf16⟩
  | .local _ .vmem, ⟨9, _⟩ => ⟨S3x256x2048, .bf16⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .smem, ⟨0, _⟩ => ⟨S1, .i32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWRetOutIdeal.lean ====
abbrev S1x512x2048 : Shape := ⟨3, ![1, 512, 2048]⟩
abbrev S4x512x2048 : Shape := ⟨3, ![4, 512, 2048]⟩
abbrev S3x512x2048 : Shape := ⟨3, ![3, 512, 2048]⟩
abbrev S1 : Shape := ⟨1, ![1]⟩
abbrev S1x256x2048 : Shape := ⟨3, ![1, 256, 2048]⟩
abbrev S3x256x2048 : Shape := ⟨3, ![3, 256, 2048]⟩
abbrev S256x2048 : Shape := ⟨2, ![256, 2048]⟩

abbrev nBuf : Space → Nat
  | .hbm => 9
  | .vmem => 18
  | .smem => 1
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S4x512x2048, .bf16⟩
  | .hbm, ⟨4, _⟩ => ⟨S3x512x2048, .bf16⟩
  | .hbm, ⟨5, _⟩ => ⟨S1x512x2048, .f32⟩
  | .hbm, ⟨6, _⟩ => ⟨S1x512x2048, .f32⟩
  | .hbm, ⟨7, _⟩ => ⟨S1x512x2048, .f32⟩
  | .hbm, ⟨8, _⟩ => ⟨S1x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .bf16⟩
  | .local _ .vmem, ⟨7, _⟩ => ⟨S1x256x2048, .bf16⟩
  | .local _ .vmem, ⟨8, _⟩ => ⟨S3x256x2048, .bf16⟩
  | .local _ .vmem, ⟨9, _⟩ => ⟨S3x256x2048, .bf16⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .smem, ⟨0, _⟩ => ⟨S1, .i32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWRetOutRefIdeal.lean ====
abbrev S1x512x2048 : Shape := ⟨3, ![1, 512, 2048]⟩
abbrev S4x512x2048 : Shape := ⟨3, ![4, 512, 2048]⟩
abbrev S3x512x2048 : Shape := ⟨3, ![3, 512, 2048]⟩
abbrev S1 : Shape := ⟨1, ![1]⟩
abbrev S4 : Shape := ⟨1, ![4]⟩
abbrev S4x1x1 : Shape := ⟨3, ![4, 1, 1]⟩
abbrev S_ : Shape := ⟨0, ![]⟩
abbrev S512x2048 : Shape := ⟨2, ![512, 2048]⟩

abbrev nBuf : Space → Nat
  | .hbm => 58
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S4x512x2048, .bf16⟩
  | .hbm, ⟨4, _⟩ => ⟨S3x512x2048, .bf16⟩
  | .hbm, ⟨5, _⟩ => ⟨S1, .i32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x512x2048, .f32⟩
  | .hbm, ⟨12, _⟩ => ⟨S_, .f32⟩
  | .hbm, ⟨13, _⟩ => ⟨S_, .f32⟩
  | .hbm, ⟨14, _⟩ => ⟨S4x512x2048, .i1⟩
  | .hbm, ⟨15, _⟩ => ⟨S4x512x2048, .f32⟩
  | .hbm, ⟨16, _⟩ => ⟨S4x512x2048, .f32⟩
  | .hbm, ⟨17, _⟩ => ⟨S_, .f32⟩
  | .hbm, ⟨18, _⟩ => ⟨S512x2048, .f32⟩
  | .hbm, ⟨19, _⟩ => ⟨S1x512x2048, .f32⟩
  | .hbm, ⟨20, _⟩ => ⟨S3x512x2048, .f32⟩
  | .hbm, ⟨21, _⟩ => ⟨S_, .f32⟩
  | .hbm, ⟨22, _⟩ => ⟨S512x2048, .f32⟩
  | .hbm, ⟨23, _⟩ => ⟨S1x512x2048, .f32⟩
  | .hbm, ⟨24, _⟩ => ⟨S1x512x2048, .f32⟩
  | .hbm, ⟨25, _⟩ => ⟨S_, .f32⟩
  | .hbm, ⟨26, _⟩ => ⟨S1x512x2048, .f32⟩
  | .hbm, ⟨27, _⟩ => ⟨S1x512x2048, .f32⟩
  | .hbm, ⟨28, _⟩ => ⟨S_, .f32⟩
  | .hbm, ⟨29, _⟩ => ⟨S1x512x2048, .f32⟩
  | .hbm, ⟨30, _⟩ => ⟨S1x512x2048, .f32⟩
  | .hbm, ⟨31, _⟩ => ⟨S1x512x2048, .f32⟩
  | .hbm, ⟨32, _⟩ => ⟨S_, .f32⟩
  | .hbm, ⟨33, _⟩ => ⟨S1x512x2048, .f32⟩
  | .hbm, ⟨34, _⟩ => ⟨S1x512x2048, .f32⟩
  | .hbm, ⟨35, _⟩ => ⟨S1x512x2048, .f32⟩
  | .hbm, ⟨36, _⟩ => ⟨S_, .f32⟩
  | .hbm, ⟨37, _⟩ => ⟨S1x512x2048, .f32⟩
  | .hbm, ⟨38, _⟩ => ⟨S1x512x2048, .f32⟩
  | .hbm, ⟨39, _⟩ => ⟨S1x512x2048, .f32⟩
  | .hbm, ⟨40, _⟩ => ⟨S_, .f32⟩
  | .hbm, ⟨41, _⟩ => ⟨S1x512x2048, .f32⟩
  | .hbm, ⟨42, _⟩ => ⟨S1x512x2048, .f32⟩
  | .hbm, ⟨43, _⟩ => ⟨S_, .f32⟩
  | .hbm, ⟨44, _⟩ => ⟨S1x512x2048, .f32⟩
  | .hbm, ⟨45, _⟩ => ⟨S1x512x2048, .f32⟩
  | .hbm, ⟨46, _⟩ => ⟨S1x512x2048, .f32⟩
  | .hbm, ⟨47, _⟩ => ⟨S_, .f32⟩
  | .hbm, ⟨48, _⟩ => ⟨S1x512x2048, .f32⟩
  | .hbm, ⟨49, _⟩ => ⟨S1x512x2048, .f32⟩
  | .hbm, ⟨50, _⟩ => ⟨S1x512x2048, .f32⟩
  | .hbm, ⟨51, _⟩ => ⟨S_, .f32⟩
  | .hbm, ⟨52, _⟩ => ⟨S1x512x2048, .f32⟩
  | .hbm, ⟨53, _⟩ => ⟨S1x512x2048, .f32⟩
  | .hbm, ⟨54, _⟩ => ⟨S1x512x2048, .f32⟩
  | .hbm, ⟨55, _⟩ => ⟨S_, .f32⟩
  | .hbm, ⟨56, _⟩ => ⟨S1x512x2048, .f32⟩
  | .hbm, ⟨57, _⟩ => ⟨S1x512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== AdamWOut.lean ====
abbrev S1x256x2048 : Shape := ⟨3, ![1, 256, 2048]⟩
abbrev S4x256x2048 : Shape := ⟨3, ![4, 256, 2048]⟩
abbrev S3x256x2048 : Shape := ⟨3, ![3, 256, 2048]⟩
abbrev S1 : Shape := ⟨1, ![1]⟩
abbrev S256x2048 : Shape := ⟨2, ![256, 2048]⟩

abbrev nBuf : Space → Nat
  | .hbm => 9
  | .vmem => 9
  | .smem => 1
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S4x256x2048, .bf16⟩
  | .hbm, ⟨4, _⟩ => ⟨S3x256x2048, .bf16⟩
  | .hbm, ⟨5, _⟩ => ⟨S1x256x2048, .f32⟩
  | .hbm, ⟨6, _⟩ => ⟨S1x256x2048, .f32⟩
  | .hbm, ⟨7, _⟩ => ⟨S1x256x2048, .f32⟩
  | .hbm, ⟨8, _⟩ => ⟨S1x256x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .bf16⟩
  | .local _ .vmem, ⟨4, _⟩ => ⟨S3x256x2048, .bf16⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .smem, ⟨0, _⟩ => ⟨S1, .i32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamWOutRefIdeal.lean ====
abbrev S1x256x2048 : Shape := ⟨3, ![1, 256, 2048]⟩
abbrev S4x256x2048 : Shape := ⟨3, ![4, 256, 2048]⟩
abbrev S3x256x2048 : Shape := ⟨3, ![3, 256, 2048]⟩
abbrev S1 : Shape := ⟨1, ![1]⟩
abbrev S4 : Shape := ⟨1, ![4]⟩
abbrev S4x1x1 : Shape := ⟨3, ![4, 1, 1]⟩
abbrev S_ : Shape := ⟨0, ![]⟩
abbrev S256x2048 : Shape := ⟨2, ![256, 2048]⟩

abbrev nBuf : Space → Nat
  | .hbm => 58
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S4x256x2048, .bf16⟩
  | .hbm, ⟨4, _⟩ => ⟨S3x256x2048, .bf16⟩
  | .hbm, ⟨5, _⟩ => ⟨S1, .i32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x256x2048, .f32⟩
  | .hbm, ⟨12, _⟩ => ⟨S_, .f32⟩
  | .hbm, ⟨13, _⟩ => ⟨S_, .f32⟩
  | .hbm, ⟨14, _⟩ => ⟨S4x256x2048, .i1⟩
  | .hbm, ⟨15, _⟩ => ⟨S4x256x2048, .f32⟩
  | .hbm, ⟨16, _⟩ => ⟨S4x256x2048, .f32⟩
  | .hbm, ⟨17, _⟩ => ⟨S_, .f32⟩
  | .hbm, ⟨18, _⟩ => ⟨S256x2048, .f32⟩
  | .hbm, ⟨19, _⟩ => ⟨S1x256x2048, .f32⟩
  | .hbm, ⟨20, _⟩ => ⟨S3x256x2048, .f32⟩
  | .hbm, ⟨21, _⟩ => ⟨S_, .f32⟩
  | .hbm, ⟨22, _⟩ => ⟨S256x2048, .f32⟩
  | .hbm, ⟨23, _⟩ => ⟨S1x256x2048, .f32⟩
  | .hbm, ⟨24, _⟩ => ⟨S1x256x2048, .f32⟩
  | .hbm, ⟨25, _⟩ => ⟨S_, .f32⟩
  | .hbm, ⟨26, _⟩ => ⟨S1x256x2048, .f32⟩
  | .hbm, ⟨27, _⟩ => ⟨S1x256x2048, .f32⟩
  | .hbm, ⟨28, _⟩ => ⟨S_, .f32⟩
  | .hbm, ⟨29, _⟩ => ⟨S1x256x2048, .f32⟩
  | .hbm, ⟨30, _⟩ => ⟨S1x256x2048, .f32⟩
  | .hbm, ⟨31, _⟩ => ⟨S1x256x2048, .f32⟩
  | .hbm, ⟨32, _⟩ => ⟨S_, .f32⟩
  | .hbm, ⟨33, _⟩ => ⟨S1x256x2048, .f32⟩
  | .hbm, ⟨34, _⟩ => ⟨S1x256x2048, .f32⟩
  | .hbm, ⟨35, _⟩ => ⟨S1x256x2048, .f32⟩
  | .hbm, ⟨36, _⟩ => ⟨S_, .f32⟩
  | .hbm, ⟨37, _⟩ => ⟨S1x256x2048, .f32⟩
  | .hbm, ⟨38, _⟩ => ⟨S1x256x2048, .f32⟩
  | .hbm, ⟨39, _⟩ => ⟨S1x256x2048, .f32⟩
  | .hbm, ⟨40, _⟩ => ⟨S_, .f32⟩
  | .hbm, ⟨41, _⟩ => ⟨S1x256x2048, .f32⟩
  | .hbm, ⟨42, _⟩ => ⟨S1x256x2048, .f32⟩
  | .hbm, ⟨43, _⟩ => ⟨S_, .f32⟩
  | .hbm, ⟨44, _⟩ => ⟨S1x256x2048, .f32⟩
  | .hbm, ⟨45, _⟩ => ⟨S1x256x2048, .f32⟩
  | .hbm, ⟨46, _⟩ => ⟨S1x256x2048, .f32⟩
  | .hbm, ⟨47, _⟩ => ⟨S_, .f32⟩
  | .hbm, ⟨48, _⟩ => ⟨S1x256x2048, .f32⟩
  | .hbm, ⟨49, _⟩ => ⟨S1x256x2048, .f32⟩
  | .hbm, ⟨50, _⟩ => ⟨S1x256x2048, .f32⟩
  | .hbm, ⟨51, _⟩ => ⟨S_, .f32⟩
  | .hbm, ⟨52, _⟩ => ⟨S1x256x2048, .f32⟩
  | .hbm, ⟨53, _⟩ => ⟨S1x256x2048, .f32⟩
  | .hbm, ⟨54, _⟩ => ⟨S1x256x2048, .f32⟩
  | .hbm, ⟨55, _⟩ => ⟨S_, .f32⟩
  | .hbm, ⟨56, _⟩ => ⟨S1x256x2048, .f32⟩
  | .hbm, ⟨57, _⟩ => ⟨S1x256x2048, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== Proof.Mat.lean ====
/- MATRICES OF FINITE NUMBERS. Over the extended reals a matrix all of whose entries are finite is described by a real-valued
   function of row and column (`Mat`). Here: one lemma per operation that says which function its result has. Rows and columns
   are plain natural numbers, so that no bound has to be carried through index arithmetic. -/
module

public import Idealize.ShloMosaic.PureOps.Ideal.Laws
public import Idealize.ShloMosaic.Lib.Pipeline.ValueKit
public import Idealize.ShloMosaic.Lib.ValueIdxCore
public import Idealize.ShloMosaic.Lib.ValueLayout
public import Idealize.ShloMosaic.Lib.ValueLayoutCasts
public import Idealize.ShloMosaic.Lib.StableHlo

@[expose] public section

noncomputable section

namespace Cert.Proof

open Idealize.ShloMosaic Finset

variable {a b n : ℕ} {φ ψ : FTy}

/-- The shape of an `a` by `b` matrix. -/
abbrev Sh (a b : ℕ) : Shape := ⟨2, ![a, b]⟩

/-- Every entry of `x` is the real number that `f` gives at the entry's row and column. -/
def Mat (x : (Sh a b).Idx → EReal) (f : ℕ → ℕ → ℝ) : Prop := ∀ i : (Sh a b).Idx, x i = ((f (i 0).val (i 1).val : ℝ) : EReal)

theorem Mat.congr {x : (Sh a b).Idx → EReal} {f g : ℕ → ℕ → ℝ} (h : Mat x f) (e : ∀ i < a, ∀ j < b, f i j = g i j) : Mat x g :=
  fun i => (h i).trans (by rw [e _ (i 0).isLt _ (i 1).isLt])

/-- A sum of finitely many real numbers, taken over the extended reals. -/
theorem coe_sum (n : ℕ) (f : ℕ → ℝ) : ∑ k : Fin n, ((f k.val : ℝ) : EReal) = ((∑ k ∈ range n, f k : ℝ) : EReal) := by
  rw [← Fin.sum_univ_eq_sum_range]
  exact (map_sum (⟨⟨Real.toEReal, EReal.coe_zero⟩, EReal.coe_add⟩ : ℝ →+ EReal) _ _).symm

theorem coe_sum_of {n : ℕ} {g : Fin n → EReal} {f : ℕ → ℝ} (h : ∀ k, g k = ((f k.val : ℝ) : EReal)) :
    ∑ k : Fin n, g k = ((∑ k ∈ range n, f k : ℝ) : EReal) := by
  rw [← coe_sum]; exact Finset.sum_congr rfl fun k _ => h k

/-! ## Element by element -/

section Elementwise
variable {x y : FVec Ideal (Sh a b) φ} {f g : ℕ → ℕ → ℝ}

theorem Mat.add (hx : Mat x f) (hy : Mat y g) : Mat (addf x y) (fun i j => f i j + g i j) := fun i => by
  show x i + y i = _; rw [hx i, hy i, EReal.coe_add]
theorem Mat.sub (hx : Mat x f) (hy : Mat y g) : Mat (subf x y) (fun i j => f i j - g i j) := fun i => by
  show x i - y i = _; rw [hx i, hy i, EReal.coe_sub]
theorem Mat.mul (hx : Mat x f) (hy : Mat y g) : Mat (mulf x y) (fun i j => f i j * g i j) := fun i => by
  show x i * y i = _; rw [hx i, hy i, EReal.coe_mul]
theorem Mat.div (hx : Mat x f) (hy : Mat y g) (h0 : ∀ i j, g i j ≠ 0) : Mat (divf x y) (fun i j => f i j / g i j) := fun i => by
  show Ideal.div (x i) (y i) = _
  rw [hx i, hy i, Ideal.div_coe (h0 _ _), ← EReal.coe_mul]; congr 1; ring
theorem Mat.exp (hx : Mat x f) : Mat (exp x) (fun i j => Real.exp (f i j)) := fun i => by
  show Ideal.exp (x i) = _; rw [hx i, Ideal.exp_coe]
theorem Mat.rsqrt (hx : Mat x f) (h0 : ∀ i j, 0 < f i j) : Mat (rsqrt x) (fun i j => (√(f i j))⁻¹) := fun i => by
  show Ideal.rsqrt (x i) = _
  rw [hx i, Ideal.rsqrt_coe, if_neg (h0 _ _).not_gt, if_neg (h0 _ _).ne']
theorem Mat.trunc {h : ψ.bits < φ.bits} (hx : Mat x f) : Mat (truncf ψ x h) f := fun i => hx i
theorem Mat.splat {c : Ideal φ} {r : ℝ} (h : c = (r : EReal)) : Mat (broadcast (Sh a b) c) (fun _ _ => r) := fun _ => h
end Elementwise

/-! ## The constants -/

/-- A positive normal float's value, from its exponent and fraction fields. -/
theorem bits_val {w : BitVec 32} {e f : ℕ} {r : ℝ} (hs : (w.extractLsb' 31 1 == 1#1) = false) (he : (w.extractLsb' 23 8).toNat = e)
    (hf : (w.extractLsb' 0 23).toNat = f) (h0 : e ≠ 0) (h1 : e ≠ 255)
    (hr : ((2 ^ 23 + f : ℕ) : ℝ) * (2 : ℝ) ^ ((e : ℤ) - 127 - 23) = r) : Ideal.ofBits .f32 w = (r : EReal) := by
  simp only [Ideal.ofBits, Ideal.ieee, Nat.reduceAdd, hs, he, hf]
  rw [if_neg (by simpa using h1), if_neg h0, ← hr]
  congr 1
  norm_num
theorem bits_zero : (Scalar.ofBits .f32 0x00000000#32 : Ideal .f32) = ((0 : ℝ) : EReal) := Ideal.ofBits_zero_f32
theorem bits_sixteenth : (Scalar.ofBits .f32 0x3D800000#32 : Ideal .f32) = ((1 / 16 : ℝ) : EReal) :=
  bits_val (e := 123) (f := 0) rfl rfl rfl (by decide) (by decide) (by norm_num [zpow_neg])
theorem bits_one : (Scalar.ofBits .f32 0x3F800000#32 : Ideal .f32) = ((1 : ℝ) : EReal) :=
  bits_val (e := 127) (f := 0) rfl rfl rfl (by decide) (by decide) (by norm_num [zpow_neg])
theorem bits_512 : (Scalar.ofBits .f32 0x44000000#32 : Ideal .f32) = ((512 : ℝ) : EReal) :=
  bits_val (e := 136) (f := 0) rfl rfl rfl (by decide) (by decide) (by norm_num [zpow_neg])
/-- The number added under the square root: the float nearest to a millionth. -/
def eps : ℝ := 8796093 / 2 ^ 43
theorem eps_pos : 0 < eps := by norm_num [eps]
theorem bits_eps : (Scalar.ofBits .f32 0x358637BD#32 : Ideal .f32) = (eps : EReal) :=
  bits_val (e := 107) (f := 407485) rfl rfl rfl (by decide) (by decide) (by norm_num [eps, zpow_neg])

/-! ## Layout -/

section Layout
variable {x : FVec Ideal (Sh a b) φ} {f : ℕ → ℕ → ℝ}

/-- A rectangle cut out of a matrix. -/
theorem Mat.slice {a' b' : ℕ} {o p : ℕ} {h : (Sh a b).Slices ![o, p] (Sh a' b')} (hx : Mat x f) :
    Mat (extractStridedSlice (Sh a' b') ![o, p] x h) (fun i j => f (o + i) (p + j)) := fun i => hx _

/-- Two matrices side by side. -/
theorem Mat.beside {b' c : ℕ} {y : FVec Ideal (Sh a b') φ} {g : ℕ → ℕ → ℝ}
    {h : Shape.Concatenates [Sh a b, Sh a b'] (Sh a c) 1} (hx : Mat x f) (hy : Mat y g) :
    Mat (concatenate (Sh a c) 1 [⟨Sh a b, x⟩, ⟨Sh a b', y⟩] h) (fun i j => if j < b then f i j else g i (j - b)) := fun i => by
  have hc : b + b' = c := by simpa using h.2.2
  have h1 : (i 1).val < c := (i 1).isLt
  by_cases hb : (i 1).val < b
  · rw [concatenate_pair_apply_left (1 : Fin 2) x y h i rfl (ValueIdx.ix2 (i 0) ⟨(i 1).val, hb⟩)
      (fun q => by match q with | ⟨0, _⟩ => rfl | ⟨1, _⟩ => rfl), hx]
    show ((f (i 0).val (i 1).val : ℝ) : EReal) = ((if (i 1).val < b then _ else _ : ℝ) : EReal)
    rw [if_pos hb]
  · rw [concatenate_pair_apply_right (1 : Fin 2) x y h i rfl rfl (ValueIdx.ix2 (i 0) ⟨(i 1).val - b, by omega⟩)
      (fun q hq => by match q with | ⟨0, _⟩ => rfl | ⟨1, _⟩ => exact absurd rfl hq)
      (by show (i 1).val - b + b = (i 1).val; omega), hy]
    show ((g (i 0).val ((i 1).val - b) : ℝ) : EReal) = ((if (i 1).val < b then _ else _ : ℝ) : EReal)
    rw [if_neg hb]

/-- A column repeated along the rows. -/
theorem Mat.cols {x : FVec Ideal (Sh a 1) φ} {h : (Sh a 1).Broadcasts (Sh a b)} (ha : a ≠ 1) (hx : Mat x f) :
    Mat (broadcastTo (Sh a b) x h) (fun i _ => f i 0) := fun i =>
  (broadcastTo_apply x h i (ValueIdx.ix2 (i 0) 0) (fun q => by
    match q with
    | ⟨0, _⟩ => show (i 0).val = if a = 1 then 0 else (i 0).val; rw [if_neg ha]
    | ⟨1, _⟩ => rfl)).trans (hx _)
/-- A row repeated along the columns. -/
theorem Mat.rows {x : FVec Ideal (Sh 1 b) φ} {h : (Sh 1 b).Broadcasts (Sh a b)} (hb : b ≠ 1) (hx : Mat x f) :
    Mat (broadcastTo (Sh a b) x h) (fun _ j => f 0 j) := fun i =>
  (broadcastTo_apply x h i (ValueIdx.ix2 0 (i 1)) (fun q => by
    match q with
    | ⟨0, _⟩ => rfl
    | ⟨1, _⟩ => show (i 1).val = if b = 1 then 0 else (i 1).val; rw [if_neg hb])).trans (hx _)
/-- One number repeated everywhere. -/
theorem Mat.all {x : FVec Ideal (Sh 1 1) φ} {h : (Sh 1 1).Broadcasts (Sh a b)} (hx : Mat x f) :
    Mat (broadcastTo (Sh a b) x h) (fun _ _ => f 0 0) := fun i =>
  (broadcastTo_apply x h i (ValueIdx.ix2 0 0) (fun q => by match q with | ⟨0, _⟩ => rfl | ⟨1, _⟩ => rfl)).trans (hx _)

/-- A matrix under one unit axis, with it dropped. -/
theorem Mat.drop1 {x : (⟨3, ![1, a, b]⟩ : Shape).Idx → EReal} {h : (⟨3, ![1, a, b]⟩ : Shape).ShapeCasts (Sh a b)}
    (hx : ∀ i, x i = ((f (i 1).val (i 2).val : ℝ) : EReal)) : Mat (shapeCast (Sh a b) x h) f := fun i => by
  obtain ⟨r, c, rfl⟩ : ∃ r c, i = ValueIdx.ix2 r c := ⟨_, _, ValueIdx.eq_ix2 i⟩
  exact (ValueIdx.shapeCast_1ab_ab_apply x h r c).trans (hx _)
/-- A matrix under two unit axes, with them dropped. -/
theorem Mat.drop2 {x : (⟨4, ![1, 1, a, b]⟩ : Shape).Idx → EReal} {h : (⟨4, ![1, 1, a, b]⟩ : Shape).ShapeCasts (Sh a b)}
    (hx : ∀ i, x i = ((f (i 2).val (i 3).val : ℝ) : EReal)) : Mat (shapeCast (Sh a b) x h) f := fun i => by
  obtain ⟨r, c, rfl⟩ : ∃ r c, i = ValueIdx.ix2 r c := ⟨_, _, ValueIdx.eq_ix2 i⟩
  show x (Shape.reshapeEquiv h _) = _
  rw [ValueIdx.reshapeEquiv_ix2_11ab]; exact hx _
/-- A matrix with a unit axis put in front. -/
theorem Mat.add1 {h : (Sh a b).ShapeCasts (⟨3, ![1, a, b]⟩ : Shape)} (hx : Mat x f) (i : (⟨3, ![1, a, b]⟩ : Shape).Idx) :
    shapeCast (⟨3, ![1, a, b]⟩ : Shape) x h i = ((f (i 1).val (i 2).val : ℝ) : EReal) :=
  (shapeCast_apply x h i (ValueIdx.ix2 (i 1) (i 2)) (by
    have h0 : (i 0).val = 0 := Nat.lt_one_iff.1 (i 0).isLt
    rw [Shape.rowMajor_val_three, Shape.rowMajor_val_two]
    show (i 1).val * b + (i 2).val = ((i 0).val * a + (i 1).val) * b + (i 2).val
    rw [h0, Nat.zero_mul, Nat.zero_add])).trans (hx _)

/-! ## Sums along an axis -/

/-- Each row's sum, as a column. -/
theorem Mat.rowSum {h : Shape.Reduces (Sh a b) [1] ⟨1, ![a]⟩} {hφ : FKind.Formats φ} {acc : BitVec φ.bits}
    {hacc : acc = FKind.add.neutral φ hφ} {h' : (⟨1, ![a]⟩ : Shape).ShapeCasts (Sh a 1)} (hx : Mat x f) :
    Mat (shapeCast (Sh a 1) (multiReduction .add [1] ⟨1, ![a]⟩ x acc h hφ hacc) h') (fun i _ => ∑ k ∈ range b, f i k) := fun i => by
  obtain ⟨r, c, rfl⟩ : ∃ r c, i = ValueIdx.ix2 r c := ⟨_, _, ValueIdx.eq_ix2 i⟩
  rw [ValueIdx.shapeCast_a_a1_apply, Ideal.multiReduction_add_single]
  exact coe_sum_of (fun k => hx _)
/-- Each column's sum, as a row. -/
theorem Mat.colSum {h : Shape.Reduces (Sh a b) [0] ⟨1, ![b]⟩} {hφ : FKind.Formats φ} {acc : BitVec φ.bits}
    {hacc : acc = FKind.add.neutral φ hφ} {h' : (⟨1, ![b]⟩ : Shape).ShapeCasts (Sh 1 b)} (hx : Mat x f) :
    Mat (shapeCast (Sh 1 b) (multiReduction .add [0] ⟨1, ![b]⟩ x acc h hφ hacc) h') (fun _ j => ∑ k ∈ range a, f k j) := fun i => by
  obtain ⟨r, c, rfl⟩ : ∃ r c, i = ValueIdx.ix2 r c := ⟨_, _, ValueIdx.eq_ix2 i⟩
  rw [ValueIdx.shapeCast_a_1a_apply, Ideal.multiReduction_add_single]
  exact coe_sum_of (fun k => hx _)
end Layout

/-! ## Products -/

section Products
variable {m k a' b' : ℕ} {φ' : FTy} {x : FVec Ideal (Sh a b) φ} {y : FVec Ideal (Sh a' b') φ'} {f g : ℕ → ℕ → ℝ}

/-- A product into zero whose contraction runs over one axis of extent `k`: which entries are multiplied is given by `p`, `q`. -/
theorem Mat.dot {d : DotDims (Sh a b) (Sh a' b') (Sh m n)} (k : ℕ) (hr : d.contr.rank = 1) (hs : d.contr.size ⟨0, by omega⟩ = k)
    (p q : ℕ → ℕ → ℕ → ℕ × ℕ)
    (hp : ∀ i e, ((d.lhsIdx i e 0).val, (d.lhsIdx i e 1).val) = p (i 0).val (i 1).val (e ⟨0, by omega⟩).val)
    (hq : ∀ i e, ((d.rhsIdx i e 0).val, (d.rhsIdx i e 1).val) = q (i 0).val (i 1).val (e ⟨0, by omega⟩).val)
    (hx : Mat x f) (hy : Mat y g) {prec : Option ContractPrecision} :
    Mat (matmul d prec x y (constant (Sh m n) .f32 0x00000000#32))
      (fun i j => ∑ e ∈ range k, f (p i j e).1 (p i j e).2 * g (q i j e).1 (q i j e).2) := fun i => by
  show FloatOps.matmul d prec x y _ i = _
  rw [Ideal.matmul_constant_zero_apply, ← Equiv.sum_comp (ValueIdx.contrEquiv1 d k hr hs).symm]
  refine coe_sum_of fun e => ?_
  rw [hx, hy, ← EReal.coe_mul]
  have h1 := hp i ((ValueIdx.contrEquiv1 d k hr hs).symm e)
  have h2 := hq i ((ValueIdx.contrEquiv1 d k hr hs).symm e)
  rw [ValueIdx.contrEquiv1_symm_val] at h1 h2
  rw [← h1, ← h2]
end Products

end Cert.Proof
-- ==== Proof.Block.lean ====
/- ONE HEAD AND ONE CHUNK of the gradient, as the kernel computes it. `Blk` holds the blocks one head of one grid point reads;
   the definitions below it are the values the kernel computes from them, operation by operation. `Num` holds the same data as
   real-valued functions, and its definitions are the same formulas over the real numbers. `Blk.Is` says that the blocks have
   the numbers as entries; under it every computed block has the numbers of the corresponding formula (`q_mat` to `dk_mat`). -/
module

public import proofs.«01_k».proof.Proof.Mat
public import proofs.«01_k».proof.Proof.Gen.KernelIdeal

@[expose] public section

noncomputable section

namespace Cert.Proof

open Idealize.ShloMosaic Cert.KernelIdeal Cert.KernelIdeal.Gen Finset

/-- The blocks one head reads at one grid point: rotation tables, queries, keys, values, gates, the incoming gradient, the decay
    tables, the norm's gain, the state before the chunk, the decay of a whole chunk, and the state's gradient after the chunk. -/
structure Blk where
  cos : FVec Ideal S64x128 .f32
  sin : FVec Ideal S64x128 .f32
  q : FVec Ideal S64x256 .f32
  k : FVec Ideal S64x256 .f32
  v : FVec Ideal S64x512 .f32
  g : FVec Ideal S64x512 .f32
  dog : FVec Ideal S64x512 .f32
  dm : FVec Ideal S64x64 .f32
  qd : FVec Ideal S64x1 .f32
  kd : FVec Ideal S64x1 .f32
  gain : FVec Ideal S1x512 .f32
  st : FVec Ideal S256x512 .bf16
  cd : FVec Ideal S1x1 .f32
  ds : FVec Ideal S256x512 .f32

/-- The same data as numbers. -/
structure Num where
  cos : ℕ → ℕ → ℝ
  sin : ℕ → ℕ → ℝ
  q : ℕ → ℕ → ℝ
  k : ℕ → ℕ → ℝ
  v : ℕ → ℕ → ℝ
  g : ℕ → ℕ → ℝ
  dog : ℕ → ℕ → ℝ
  dm : ℕ → ℕ → ℝ
  qd : ℕ → ℝ
  kd : ℕ → ℝ
  gain : ℕ → ℝ
  st : ℕ → ℕ → ℝ
  cd : ℝ
  ds : ℕ → ℕ → ℝ

/-- The blocks' entries are the numbers. -/
structure Blk.Is (B : Blk) (N : Num) : Prop where
  cos : Mat B.cos N.cos
  sin : Mat B.sin N.sin
  q : Mat B.q N.q
  k : Mat B.k N.k
  v : Mat B.v N.v
  g : Mat B.g N.g
  dog : Mat B.dog N.dog
  dm : Mat B.dm N.dm
  qd : Mat B.qd (fun i _ => N.qd i)
  kd : Mat B.kd (fun i _ => N.kd i)
  gain : Mat B.gain (fun _ j => N.gain j)
  st : Mat B.st N.st
  cd : Mat B.cd (fun _ _ => N.cd)
  ds : Mat B.ds N.ds

/-! ## The formulas over the real numbers -/

/-- A rotation of the two halves of every row. -/
def rot (cos sin x : ℕ → ℕ → ℝ) (i j : ℕ) : ℝ :=
  if j < 128 then x i j * cos i j - x i (128 + j) * sin i j else x i (j - 128) * sin i (j - 128) + x i j * cos i (j - 128)
/-- Its transpose. -/
def unrot (cos sin x : ℕ → ℕ → ℝ) (i j : ℕ) : ℝ :=
  if j < 128 then x i j * cos i j + x i (128 + j) * sin i j else x i j * cos i (j - 128) - x i (j - 128) * sin i (j - 128)
/-- A row's mean over 512 columns. -/
def mean (x : ℕ → ℕ → ℝ) (i : ℕ) : ℝ := (∑ e ∈ range 512, x i e) / 512
/-- The logistic function. -/
def sgm (x : ℝ) : ℝ := 1 / (1 + Real.exp (-x))

namespace Num
variable (N : Num)
def Q : ℕ → ℕ → ℝ := rot N.cos N.sin N.q
def K (i j : ℕ) : ℝ := rot N.cos N.sin N.k i j * (1 / 16)
/-- The decayed scores inside the chunk. -/
def S (i j : ℕ) : ℝ := (∑ e ∈ range 256, N.Q i e * N.K j e) * N.dm i j
/-- The attention output: from inside the chunk and from the state before it. -/
def O (i j : ℕ) : ℝ := ∑ e ∈ range 64, N.S i e * N.v e j + ∑ e ∈ range 256, N.Q i e * N.qd i * N.st e j
def C (i j : ℕ) : ℝ := N.O i j - mean N.O i
def R (i : ℕ) : ℝ := (√(mean (fun i j => N.C i j * N.C i j) i + eps))⁻¹
/-- The normalised output. -/
def H (i j : ℕ) : ℝ := N.C i j * N.R i
def dg (i j : ℕ) : ℝ := N.dog i j * N.H i j * N.gain j * (sgm (N.g i j) * (1 + N.g i j * (1 - sgm (N.g i j))))
def dn (i j : ℕ) : ℝ := N.dog i j * (N.g i j * sgm (N.g i j))
def dgain (j : ℕ) : ℝ := ∑ i ∈ range 64, N.dn i j * N.H i j
def dh (i j : ℕ) : ℝ := N.dn i j * N.gain j
/-- The gradient of the attention output, through the norm. -/
def dO (i j : ℕ) : ℝ := N.R i * (N.dh i j - mean N.dh i - N.H i j * mean (fun i j => N.dh i j * N.H i j) i)
def dp (i j : ℕ) : ℝ := (∑ e ∈ range 512, N.dO i e * N.v j e) * N.dm i j
def dQ (i j : ℕ) : ℝ := ∑ e ∈ range 64, N.dp i e * N.K e j + (∑ e ∈ range 512, N.dO i e * N.st j e) * N.qd i
def dK (i j : ℕ) : ℝ := ∑ e ∈ range 64, N.dp e i * N.Q e j + (∑ e ∈ range 512, N.v i e * N.ds j e) * N.kd i
def dq : ℕ → ℕ → ℝ := unrot N.cos N.sin N.dQ
def dk : ℕ → ℕ → ℝ := unrot N.cos N.sin fun i j => N.dK i j * (1 / 16)
def dv (i j : ℕ) : ℝ := ∑ e ∈ range 64, N.S e i * N.dO e j + ∑ e ∈ range 256, N.K i e * N.kd i * N.ds e j
/-- The state's gradient before the chunk. -/
def dst (i j : ℕ) : ℝ := N.ds i j * N.cd + ∑ e ∈ range 64, N.Q e i * N.qd e * N.dO e j
end Num

/-! ## The kernel's values -/

/-- The rotation as the kernel computes it. -/
def bRot (cos sin : FVec Ideal S64x128 .f32) (x : FVec Ideal S64x256 .f32) : FVec Ideal S64x256 .f32 :=
  concatenate S64x256 1
    [⟨S64x128, subf (mulf (extractStridedSlice S64x128 ![0, 0] x slices_S64x256_o0_0_S64x128) cos)
        (mulf (extractStridedSlice S64x128 ![0, 128] x slices_S64x256_o0_128_S64x128) sin)⟩,
      ⟨S64x128, addf (mulf (extractStridedSlice S64x128 ![0, 0] x slices_S64x256_o0_0_S64x128) sin)
        (mulf (extractStridedSlice S64x128 ![0, 128] x slices_S64x256_o0_128_S64x128) cos)⟩]
    concatenates_S64x128_S64x128_S64x256_d1
/-- Its transpose as the kernel computes it. -/
def bUnrot (cos sin : FVec Ideal S64x128 .f32) (x : FVec Ideal S64x256 .f32) : FVec Ideal S64x256 .f32 :=
  concatenate S64x256 1
    [⟨S64x128, addf (mulf (extractStridedSlice S64x128 ![0, 0] x slices_S64x256_o0_0_S64x128) cos)
        (mulf (extractStridedSlice S64x128 ![0, 128] x slices_S64x256_o0_128_S64x128) sin)⟩,
      ⟨S64x128, subf (mulf (extractStridedSlice S64x128 ![0, 128] x slices_S64x256_o0_128_S64x128) cos)
        (mulf (extractStridedSlice S64x128 ![0, 0] x slices_S64x256_o0_0_S64x128) sin)⟩]
    concatenates_S64x128_S64x128_S64x256_d1
/-- A block's row means, as a column. -/
def bMean (x : FVec Ideal S64x512 .f32) : FVec Ideal S64x1 .f32 :=
  divf (shapeCast S64x1 (multiReduction .add [1] S64 x 0x00000000#32 reduces_S64x512_S64 (.inl rfl) rfl) shapeCasts_S64_S64x1)
    (broadcast S64x1 (Scalar.ofBits .f32 0x44000000#32))
def bSig (x : FVec Ideal S64x512 .f32) : FVec Ideal S64x512 .f32 :=
  divf (broadcast S64x512 (Scalar.ofBits .f32 0x3F800000#32)) (addf (broadcast S64x512 (Scalar.ofBits .f32 0x3F800000#32))
    (exp (subf (broadcast S64x512 (Scalar.ofBits .f32 0x00000000#32)) x)))

namespace Blk
variable (B : Blk)
def wide (x : FVec Ideal S64x1 .f32) : FVec Ideal S64x512 .f32 := broadcastTo S64x512 x broadcasts_S64x1_S64x512
def gainRows : FVec Ideal S64x512 .f32 := broadcastTo S64x512 B.gain broadcasts_S1x512_S64x512
def Q : FVec Ideal S64x256 .f32 := bRot B.cos B.sin B.q
def K : FVec Ideal S64x256 .f32 := mulf (bRot B.cos B.sin B.k) (broadcast S64x256 (Scalar.ofBits .f32 0x3D800000#32))
def S : FVec Ideal S64x64 .f32 :=
  mulf (matmul dot_S64x256_S64x256_S64x64_1_1_0_0_n_n none (truncf .bf16 B.Q bitsLt_bf16_f32) (truncf .bf16 B.K bitsLt_bf16_f32)
    (constant S64x64 .f32 0x00000000#32)) B.dm
def qDec : FVec Ideal S64x256 .bf16 := truncf .bf16 (mulf B.Q (broadcastTo S64x256 B.qd broadcasts_S64x1_S64x256)) bitsLt_bf16_f32
def kDec : FVec Ideal S64x256 .bf16 := truncf .bf16 (mulf B.K (broadcastTo S64x256 B.kd broadcasts_S64x1_S64x256)) bitsLt_bf16_f32
def O : FVec Ideal S64x512 .f32 :=
  addf (matmul dot_S64x64_S64x512_S64x512_1_0_0_1_n_n none (truncf .bf16 B.S bitsLt_bf16_f32) (truncf .bf16 B.v bitsLt_bf16_f32)
      (constant S64x512 .f32 0x00000000#32))
    (matmul dot_S64x256_S256x512_S64x512_1_0_0_1_n_n none B.qDec B.st (constant S64x512 .f32 0x00000000#32))
def C : FVec Ideal S64x512 .f32 := subf B.O (wide (bMean B.O))
def R : FVec Ideal S64x1 .f32 := rsqrt (addf (bMean (mulf B.C B.C)) (broadcast S64x1 (Scalar.ofBits .f32 0x358637BD#32)))
def H : FVec Ideal S64x512 .f32 := mulf B.C (wide B.R)
def dg : FVec Ideal S64x512 .bf16 :=
  truncf .bf16 (mulf (mulf (mulf B.dog B.H) B.gainRows)
    (mulf (bSig B.g) (addf (broadcast S64x512 (Scalar.ofBits .f32 0x3F800000#32))
      (mulf B.g (subf (broadcast S64x512 (Scalar.ofBits .f32 0x3F800000#32)) (bSig B.g)))))) bitsLt_bf16_f32
def dn : FVec Ideal S64x512 .f32 := mulf B.dog (mulf B.g (bSig B.g))
/-- The chunk's part of the gain's gradient. -/
def dgain : FVec Ideal S1x512 .f32 :=
  shapeCast S1x512 (multiReduction .add [0] S512 (mulf B.dn B.H) 0x00000000#32 reduces_S64x512_S512 (.inl rfl) rfl) shapeCasts_S512_S1x512
def dh : FVec Ideal S64x512 .f32 := mulf B.dn B.gainRows
def dO : FVec Ideal S64x512 .f32 :=
  mulf (wide B.R) (subf (subf B.dh (wide (bMean B.dh))) (mulf B.H (wide (bMean (mulf B.dh B.H)))))
def dp : FVec Ideal S64x64 .f32 :=
  mulf (matmul dot_S64x512_S64x512_S64x64_1_1_0_0_n_n none (truncf .bf16 B.dO bitsLt_bf16_f32) (truncf .bf16 B.v bitsLt_bf16_f32)
    (constant S64x64 .f32 0x00000000#32)) B.dm
def dQ : FVec Ideal S64x256 .f32 :=
  addf (matmul dot_S64x64_S64x256_S64x256_1_0_0_1_n_n none (truncf .bf16 B.dp bitsLt_bf16_f32) (truncf .bf16 B.K bitsLt_bf16_f32)
      (constant S64x256 .f32 0x00000000#32))
    (mulf (matmul dot_S64x512_S256x512_S64x256_1_1_0_0_n_n none (truncf .bf16 B.dO bitsLt_bf16_f32) B.st
      (constant S64x256 .f32 0x00000000#32)) (broadcastTo S64x256 B.qd broadcasts_S64x1_S64x256))
def dK : FVec Ideal S64x256 .f32 :=
  addf (matmul dot_S64x64_S64x256_S64x256_0_0_1_1_n_n none (truncf .bf16 B.dp bitsLt_bf16_f32) (truncf .bf16 B.Q bitsLt_bf16_f32)
      (constant S64x256 .f32 0x00000000#32))
    (mulf (matmul dot_S64x512_S256x512_S64x256_1_1_0_0_n_n none (truncf .bf16 B.v bitsLt_bf16_f32) (truncf .bf16 B.ds bitsLt_bf16_f32)
      (constant S64x256 .f32 0x00000000#32)) (broadcastTo S64x256 B.kd broadcasts_S64x1_S64x256))
def dq : FVec Ideal S64x256 .bf16 := truncf .bf16 (bUnrot B.cos B.sin B.dQ) bitsLt_bf16_f32
def dk : FVec Ideal S64x256 .bf16 :=
  truncf .bf16 (bUnrot B.cos B.sin (mulf B.dK (broadcast S64x256 (Scalar.ofBits .f32 0x3D800000#32)))) bitsLt_bf16_f32
def dv : FVec Ideal S64x512 .bf16 :=
  truncf .bf16 (addf (matmul dot_S64x64_S64x512_S64x512_0_0_1_1_n_n none (truncf .bf16 B.S bitsLt_bf16_f32)
      (truncf .bf16 B.dO bitsLt_bf16_f32) (constant S64x512 .f32 0x00000000#32))
    (matmul dot_S64x256_S256x512_S64x512_1_0_0_1_n_n none B.kDec (truncf .bf16 B.ds bitsLt_bf16_f32)
      (constant S64x512 .f32 0x00000000#32))) bitsLt_bf16_f32
def dst : FVec Ideal S256x512 .f32 :=
  addf (mulf B.ds (broadcastTo S256x512 B.cd broadcasts_S1x1_S256x512))
    (matmul dot_S64x256_S64x512_S256x512_0_0_1_1_n_n none B.qDec (truncf .bf16 B.dO bitsLt_bf16_f32)
      (constant S256x512 .f32 0x00000000#32))
end Blk

/-! ## The kernel's values are the formulas' -/

section Ops
variable {x : FVec Ideal S64x512 .f32} {f : ℕ → ℕ → ℝ}

theorem mean_mat (hx : Mat x f) : Mat (bMean x) (fun i _ => mean f i) :=
  (Mat.rowSum hx).div (Mat.splat bits_512) (fun _ _ => by norm_num)
theorem sgm_mat (hx : Mat x f) : Mat (bSig x) (fun i j => sgm (f i j)) :=
  ((Mat.splat bits_one).div ((Mat.splat bits_one).add ((Mat.splat bits_zero).sub hx).exp)
    (fun _ _ => (add_pos one_pos (Real.exp_pos _)).ne')).congr fun i _ j _ => by simp only [sgm, zero_sub]
theorem wide_mat {x : FVec Ideal S64x1 .f32} (hx : Mat x f) : Mat (Blk.wide x) (fun i _ => f i 0) := Mat.cols (by decide) hx

theorem rot_mat {cos sin : FVec Ideal S64x128 .f32} {x : FVec Ideal S64x256 .f32} {c s : ℕ → ℕ → ℝ}
    (hc : Mat cos c) (hs : Mat sin s) (hx : Mat x f) : Mat (bRot cos sin x) (rot c s f) :=
  (Mat.beside ((hx.slice.mul hc).sub (hx.slice.mul hs)) ((hx.slice.mul hs).add (hx.slice.mul hc))).congr fun i _ j _ => by
    by_cases h : j < 128
    · simp only [rot, if_pos h, Nat.zero_add]
    · simp only [rot, if_neg h, Nat.zero_add, Nat.add_sub_cancel' (Nat.le_of_not_lt h)]
theorem unrot_mat {cos sin : FVec Ideal S64x128 .f32} {x : FVec Ideal S64x256 .f32} {c s : ℕ → ℕ → ℝ}
    (hc : Mat cos c) (hs : Mat sin s) (hx : Mat x f) : Mat (bUnrot cos sin x) (unrot c s f) :=
  (Mat.beside ((hx.slice.mul hc).add (hx.slice.mul hs)) ((hx.slice.mul hc).sub (hx.slice.mul hs))).congr fun i _ j _ => by
    by_cases h : j < 128
    · simp only [unrot, if_pos h, Nat.zero_add]
    · simp only [unrot, if_neg h, Nat.zero_add, Nat.add_sub_cancel' (Nat.le_of_not_lt h)]
end Ops

theorem mean_nonneg {f : ℕ → ℕ → ℝ} (h : ∀ i j, 0 ≤ f i j) (i : ℕ) : 0 ≤ mean f i :=
  div_nonneg (sum_nonneg fun e _ => h i e) (by norm_num)

namespace Blk.Is
variable {B : Blk} {N : Num} (h : B.Is N)
include h

theorem Q : Mat B.Q N.Q := rot_mat h.cos h.sin h.q
theorem K : Mat B.K N.K := (rot_mat h.cos h.sin h.k).mul (Mat.splat bits_sixteenth)
theorem S : Mat B.S N.S :=
  (Mat.dot 256 rfl rfl (fun i _ e => (i, e)) (fun _ j e => (j, e)) (fun _ _ => rfl) (fun _ _ => rfl) h.Q.trunc h.K.trunc).mul h.dm
theorem qDec : Mat B.qDec (fun i j => N.Q i j * N.qd i) := (h.Q.mul (Mat.cols (by decide) h.qd)).trunc
theorem kDec : Mat B.kDec (fun i j => N.K i j * N.kd i) := (h.K.mul (Mat.cols (by decide) h.kd)).trunc
theorem O : Mat B.O N.O :=
  (Mat.dot 64 rfl rfl (fun i _ e => (i, e)) (fun _ j e => (e, j)) (fun _ _ => rfl) (fun _ _ => rfl) h.S.trunc h.v.trunc).add
    (Mat.dot 256 rfl rfl (fun i _ e => (i, e)) (fun _ j e => (e, j)) (fun _ _ => rfl) (fun _ _ => rfl) h.qDec h.st)
theorem C : Mat B.C N.C := h.O.sub (wide_mat (mean_mat h.O))
theorem R : Mat B.R (fun i _ => N.R i) :=
  ((mean_mat (h.C.mul h.C)).add (Mat.splat bits_eps)).rsqrt fun i _ =>
    add_pos_of_nonneg_of_pos (mean_nonneg (fun _ _ => mul_self_nonneg _) i) eps_pos
theorem H : Mat B.H N.H := h.C.mul (wide_mat h.R)
theorem gainRows : Mat B.gainRows (fun _ j => N.gain j) := Mat.rows (by decide) h.gain
theorem dg : Mat B.dg N.dg :=
  (((h.dog.mul h.H).mul h.gainRows).mul ((sgm_mat h.g).mul ((Mat.splat bits_one).add (h.g.mul ((Mat.splat bits_one).sub (sgm_mat h.g)))))).trunc
theorem dn : Mat B.dn N.dn := h.dog.mul (h.g.mul (sgm_mat h.g))
theorem dgain : Mat B.dgain (fun _ j => N.dgain j) := Mat.colSum (h.dn.mul h.H)
theorem dh : Mat B.dh N.dh := h.dn.mul h.gainRows
theorem dO : Mat B.dO N.dO :=
  (wide_mat h.R).mul ((h.dh.sub (wide_mat (mean_mat h.dh))).sub (h.H.mul (wide_mat (mean_mat (h.dh.mul h.H)))))
theorem dp : Mat B.dp N.dp :=
  (Mat.dot 512 rfl rfl (fun i _ e => (i, e)) (fun _ j e => (j, e)) (fun _ _ => rfl) (fun _ _ => rfl) h.dO.trunc h.v.trunc).mul h.dm
theorem dQ : Mat B.dQ N.dQ :=
  (Mat.dot 64 rfl rfl (fun i _ e => (i, e)) (fun _ j e => (e, j)) (fun _ _ => rfl) (fun _ _ => rfl) h.dp.trunc h.K.trunc).add
    ((Mat.dot 512 rfl rfl (fun i _ e => (i, e)) (fun _ j e => (j, e)) (fun _ _ => rfl) (fun _ _ => rfl) h.dO.trunc h.st).mul
      (Mat.cols (by decide) h.qd))
theorem dK : Mat B.dK N.dK :=
  (Mat.dot 64 rfl rfl (fun i _ e => (e, i)) (fun _ j e => (e, j)) (fun _ _ => rfl) (fun _ _ => rfl) h.dp.trunc h.Q.trunc).add
    ((Mat.dot 512 rfl rfl (fun i _ e => (i, e)) (fun _ j e => (j, e)) (fun _ _ => rfl) (fun _ _ => rfl) h.v.trunc h.ds.trunc).mul
      (Mat.cols (by decide) h.kd))
theorem dq : Mat B.dq N.dq := (unrot_mat h.cos h.sin h.dQ).trunc
theorem dk : Mat B.dk N.dk := (unrot_mat h.cos h.sin (h.dK.mul (Mat.splat bits_sixteenth))).trunc
theorem dv : Mat B.dv N.dv :=
  ((Mat.dot 64 rfl rfl (fun i _ e => (e, i)) (fun _ j e => (e, j)) (fun _ _ => rfl) (fun _ _ => rfl) h.S.trunc h.dO.trunc).add
    (Mat.dot 256 rfl rfl (fun i _ e => (i, e)) (fun _ j e => (e, j)) (fun _ _ => rfl) (fun _ _ => rfl) h.kDec h.ds.trunc)).trunc
theorem dst : Mat B.dst N.dst :=
  (h.ds.mul (Mat.all h.cd)).add
    (Mat.dot 64 rfl rfl (fun i _ e => (e, i)) (fun _ j e => (e, j)) (fun _ _ => rfl) (fun _ _ => rfl) h.qDec h.dO.trunc)
end Blk.Is

end Cert.Proof
-- ==== Proof.Model.lean ====
/- THE WHOLE LAYER OVER THE REAL NUMBERS. `Data` holds the arguments and the tables as real-valued functions of natural-number
   coordinates. `Data.num h n ds` is what one head and one chunk read (`Num`), given the state's gradient after the chunk, and
   `Data.DS` is that gradient, running from the last chunk to the first. Here: the equations between the kernel's formulas and
   those of the differentiated reference. -/
module

public import proofs.«01_k».proof.Proof.Block

@[expose] public section

noncomputable section

namespace Cert.Proof

open Finset

/-- The projection, the norm's gain, the incoming gradient, the rotation tables and the logarithm of a head's decay. -/
structure Data where
  P : ℕ → ℕ → ℝ
  A : ℕ → ℕ → ℝ
  D : ℕ → ℕ → ℝ
  cos : ℕ → ℕ → ℝ
  sin : ℕ → ℕ → ℝ
  lg : ℕ → ℝ

namespace Data
variable (d : Data)

def q (h t j : ℕ) : ℝ := d.P t (256 * h + j)
def k (h t j : ℕ) : ℝ := d.P t (2048 + 256 * h + j)
def v (h t e : ℕ) : ℝ := d.P t (4096 + 512 * h + e)
def g (h t e : ℕ) : ℝ := d.P t (8192 + 512 * h + e)
def Q (h : ℕ) : ℕ → ℕ → ℝ := rot d.cos d.sin (d.q h)
def K (h t j : ℕ) : ℝ := rot d.cos d.sin (d.k h) t j * (1 / 16)
/-- The weight of position `t` in the state before chunk `n`: the decay to the power of its age, for the earlier positions. -/
def w (h n t : ℕ) : ℝ := if t < 64 * n then Real.exp (d.lg h * (64 * (n : ℝ) - 1 - (t : ℝ))) else 0
/-- The state before chunk `n`. -/
def st (h n i j : ℕ) : ℝ := ∑ t ∈ range 2048, d.w h n t * d.K h t i * d.v h t j

/-- What head `h` reads in chunk `n`, with `ds` the state's gradient after the chunk. -/
def num (h n : ℕ) (ds : ℕ → ℕ → ℝ) : Num where
  cos c := d.cos (64 * n + c)
  sin c := d.sin (64 * n + c)
  q c := d.q h (64 * n + c)
  k c := d.k h (64 * n + c)
  v c := d.v h (64 * n + c)
  g c := d.g h (64 * n + c)
  dog c e := d.D (64 * n + c) (512 * h + e)
  dm c m := Real.exp (d.lg h * |(c : ℝ) - (m : ℝ)|)
  qd c := Real.exp (d.lg h * ((c : ℝ) + 1))
  kd c := Real.exp (d.lg h * (63 - (c : ℝ)))
  gain := d.A h
  st := d.st h n
  cd := Real.exp (d.lg h * 64)
  ds := ds

/-- The chunk without a gradient from later chunks: enough for everything but the gradients of keys and values. -/
def at0 (h n : ℕ) : Num := d.num h n fun _ _ => 0

/-- The state's gradient after the last `r` chunks have been passed. -/
def DSr (h : ℕ) : ℕ → ℕ → ℕ → ℝ
  | 0 => fun _ _ => 0
  | r + 1 => (d.num h (31 - r) (DSr h r)).dst
/-- The chunk together with the gradient it gets from the later chunks. -/
def N (h n : ℕ) : Num := d.num h n (d.DSr h (31 - n))

/-- What a chunk adds to the state's gradient. -/
def X (h n i j : ℕ) : ℝ := ∑ c ∈ range 64, (d.at0 h n).dO c j * ((d.at0 h n).Q c i * (d.at0 h n).qd c)

/-! ## The gradient of the state -/

/-- The weights of a position in a chunk for the next state and all later ones: the former is the decay to the chunk's end, the
    latter are one chunk's decay less. -/
theorem w_step (h n' m i : ℕ) (hi : i < 64) :
    d.w h n' (64 * m + i) = Real.exp (d.lg h * 64) * d.w h n' (64 * (m + 1) + i) +
      if n' = m + 1 then Real.exp (d.lg h * (63 - (i : ℝ))) else 0 := by
  unfold w
  by_cases h1 : n' = m + 1
  · subst h1
    rw [if_pos (by omega), if_neg (by omega), if_pos rfl, mul_zero, zero_add]
    congr 2
    push_cast
    ring
  · rw [if_neg h1, add_zero]
    by_cases h2 : 64 * (m + 1) + i < 64 * n'
    · rw [if_pos h2, if_pos (by omega), ← Real.exp_add]
      congr 1
      push_cast
      ring
    · rw [if_neg h2, if_neg (by omega), mul_zero]

/-- The running gradient, scaled by a position's decay to its chunk's end, is the sum over all chunks of their contributions,
    each with the position's weight in that chunk's state. -/
theorem DSr_eq (h r : ℕ) (hr : r ≤ 31) (c i j : ℕ) (hc : c < 64) :
    Real.exp (d.lg h * (63 - (c : ℝ))) * d.DSr h r i j = ∑ n ∈ range 32, d.w h n (64 * (31 - r) + c) * d.X h n i j := by
  induction r with
  | zero =>
    rw [show d.DSr h 0 i j = 0 from rfl, mul_zero]
    refine (sum_eq_zero fun n hn => ?_).symm
    have := mem_range.1 hn
    rw [w, if_neg (by omega), zero_mul]
  | succ r ih =>
    have e : 31 - r = 31 - (r + 1) + 1 := by omega
    have hs : ∀ n, d.w h n (64 * (31 - (r + 1)) + c) * d.X h n i j =
        Real.exp (d.lg h * 64) * (d.w h n (64 * (31 - r) + c) * d.X h n i j) +
          if n = 31 - r then Real.exp (d.lg h * (63 - (c : ℝ))) * d.X h n i j else 0 := fun n => by
      rw [d.w_step h n (31 - (r + 1)) c hc, ← e]
      split_ifs <;> ring
    rw [sum_congr rfl fun n _ => hs n, sum_add_distrib, ← mul_sum, ← ih (by omega), sum_ite_eq' (range 32) (31 - r),
      if_pos (mem_range.2 (by omega))]
    have hx : d.DSr h (r + 1) i j = d.DSr h r i j * Real.exp (d.lg h * 64) + d.X h (31 - r) i j := by
      show d.DSr h r i j * Real.exp (d.lg h * 64) + _ = _
      refine congrArg _ (sum_congr rfl fun e _ => ?_)
      exact mul_comm _ _
    rw [hx]
    ring

/-- The same for a chunk. -/
theorem ds_eq (h n c i j : ℕ) (hn : n < 32) (hc : c < 64) :
    (d.N h n).kd c * (d.N h n).ds i j = ∑ m ∈ range 32, d.w h m (64 * n + c) * d.X h m i j := by
  have := d.DSr_eq h (31 - n) (by omega) c i j hc
  rwa [show 31 - (31 - n) = n by omega] at this

end Data

/-! ## The norm's gradient -/

namespace Num
variable (N : Num)

/-- The variance with the small constant. -/
def var (i : ℕ) : ℝ := mean (fun i j => N.C i j * N.C i j) i + eps
theorem var_pos (i : ℕ) : 0 < N.var i := add_pos_of_nonneg_of_pos (mean_nonneg (fun _ _ => mul_self_nonneg _) i) eps_pos

theorem R_sq (i : ℕ) : N.R i * N.R i = (N.var i)⁻¹ := by
  show (√(N.var i))⁻¹ * (√(N.var i))⁻¹ = _
  rw [← mul_inv, Real.mul_self_sqrt (N.var_pos i).le]

theorem sum_C (i : ℕ) : ∑ e ∈ range 512, N.C i e = 0 := by
  show ∑ e ∈ range 512, (N.O i e - mean N.O i) = 0
  rw [sum_sub_distrib, sum_const, card_range, mean]
  simp only [nsmul_eq_mul]
  push_cast
  ring

/-- The gradient of the variance's mean, as the reference has it. -/
def dvar (i : ℕ) : ℝ := (∑ e ∈ range 512, N.C i e * N.dh i e) * (-(1 / 2) * (N.R i / N.var i)) / 512
/-- The gradient before the centring is passed. -/
def dC (i j : ℕ) : ℝ := N.dh i j * N.R i + N.C i j * N.dvar i + N.dvar i * N.C i j

/-- The reference's gradient through the norm is the kernel's. -/
theorem dO_eq (i j : ℕ) : N.dC i j + (∑ e ∈ range 512, -N.dC i e) / 512 = N.dO i j := by
  have h1 : ∑ e ∈ range 512, -N.dC i e = -((∑ e ∈ range 512, N.dh i e) * N.R i) := by
    have h2 : ∀ e, -N.dC i e = -(N.dh i e * N.R i) + -(2 * N.dvar i) * N.C i e := fun e => by unfold dC; ring
    rw [sum_congr rfl fun e _ => h2 e, sum_add_distrib, ← mul_sum, N.sum_C, mul_zero, add_zero, sum_neg_distrib, sum_mul]
  have h3 : mean (fun i j => N.dh i j * N.H i j) i = (∑ e ∈ range 512, N.C i e * N.dh i e) * N.R i / 512 := by
    unfold mean
    rw [sum_mul]
    refine congrArg (· / 512) (sum_congr rfl fun e _ => ?_)
    show N.dh i e * (N.C i e * N.R i) = _
    ring
  rw [h1, dO, h3, mean, dC, dvar, div_eq_mul_inv (N.R i), ← N.R_sq i]
  show _ = N.R i * (N.dh i j - _ - N.C i j * N.R i * _)
  ring

/-- The gate's gradient, as the reference has it. -/
theorem dg_eq (i j : ℕ) : N.H i j * N.gain j * N.dog i j * sgm (N.g i j)
    + N.g i j * (N.H i j * N.gain j * N.dog i j) * (sgm (N.g i j) * (1 - sgm (N.g i j))) = N.dg i j := by
  unfold dg
  ring
end Num

/-- A sum over all positions, chunk by chunk. -/
theorem sum_chunks (f : ℕ → ℝ) (n : ℕ) : ∑ t ∈ range (64 * n), f t = ∑ m ∈ range n, ∑ c ∈ range 64, f (64 * m + c) := by
  induction n with
  | zero => rfl
  | succ n ih => rw [Nat.mul_succ, sum_range_add, ih, sum_range_succ (fun m => ∑ c ∈ range 64, f (64 * m + c)) n]

end Cert.Proof
-- ==== Proof.Load.lean ====
/- WHAT A HEAD READS FROM THE BLOCKS OF ONE GRID POINT. `Ins` holds the thirteen input blocks; `Ins.blk` cuts out of them, and out of
   the carried state gradient, the blocks of one of the point's four heads. -/
module

public import proofs.«01_k».proof.Proof.Model
public import proofs.«01_k».proof.Proof.Gen.KernelIdeal.Value
public import Idealize.ShloMosaic.Lib.Pipeline.ValueKit
public import Idealize.ShloMosaic.Lib.Pipeline.ReadBack

@[expose] public section

noncomputable section

namespace Cert.Proof

open Idealize.ShloMosaic Cert.KernelIdeal Cert.KernelIdeal.Gen Finset

/-- The input blocks of one grid point. -/
structure Ins where
  q : FVec Ideal S64x1024 .f32
  k : FVec Ideal S64x1024 .f32
  v : FVec Ideal S64x2048 .f32
  g : FVec Ideal S64x2048 .f32
  cos : FVec Ideal S64x128 .f32
  sin : FVec Ideal S64x128 .f32
  dm : FVec Ideal S4x64x64 .f32
  qd : FVec Ideal S4x64x1 .f32
  kd : FVec Ideal S4x64x1 .f32
  cd : FVec Ideal S4x1x1 .f32
  gain : FVec Ideal S4x1x512 .f32
  st : FVec Ideal S4x1x256x512 .bf16
  dog : FVec Ideal S64x2048 .f32

/-- The columns of head `b` in a block of queries or keys. -/
def cut256 (x : FVec Ideal S64x1024 .f32) (b : Fin 4) : FVec Ideal S64x256 .f32 :=
  View.ld (Val := Elt Ideal) (e' := .f32) x (Rect.unit (s := S64x1024) ![0, 256 * b.val] ![64, 256] (by
    intro a; match a with
    | ⟨0, _⟩ => exact (by decide : 0 + 64 ≤ 64)
    | ⟨1, _⟩ => have := b.isLt; show 256 * b.val + 256 ≤ 1024; omega))
/-- The columns of head `b` in a block of values, gates or gradients. -/
def cut512 (x : FVec Ideal S64x2048 .f32) (b : Fin 4) : FVec Ideal S64x512 .f32 :=
  View.ld (Val := Elt Ideal) (e' := .f32) x (Rect.unit (s := S64x2048) ![0, 512 * b.val] ![64, 512] (by
    intro a; match a with
    | ⟨0, _⟩ => exact (by decide : 0 + 64 ≤ 64)
    | ⟨1, _⟩ => have := b.isLt; show 512 * b.val + 512 ≤ 2048; omega))
/-- Member `b` of a stack of four. -/
def pick (n k : ℕ) (x : FVec Ideal ⟨3, ![4, n, k]⟩ .f32) (b : Fin 4) : FVec Ideal ⟨3, ![1, n, k]⟩ .f32 :=
  View.ld (Val := Elt Ideal) (e' := .f32) x (Rect.unit (s := ⟨3, ![4, n, k]⟩) ![b.val, 0, 0] ![1, n, k] (by
    intro a; match a with
    | ⟨0, _⟩ => have := b.isLt; show b.val + 1 ≤ 4; omega
    | ⟨1, _⟩ => exact (Nat.zero_add n).le
    | ⟨2, _⟩ => exact (Nat.zero_add k).le))
/-- The state of head `b`. -/
def pickSt (x : FVec Ideal S4x1x256x512 .bf16) (b : Fin 4) : FVec Ideal S1x1x256x512 .bf16 :=
  View.ld (Val := Elt Ideal) (e' := .bf16) x (Rect.unit (s := S4x1x256x512) ![b.val, 0, 0, 0] ![1, 1, 256, 512] (by
    intro a; match a with
    | ⟨0, _⟩ => have := b.isLt; show b.val + 1 ≤ 4; omega
    | ⟨1, _⟩ => exact (by decide : 0 + 1 ≤ 1)
    | ⟨2, _⟩ => exact (by decide : 0 + 256 ≤ 256)
    | ⟨3, _⟩ => exact (by decide : 0 + 512 ≤ 512)))

/-- The blocks head `b` computes from, with `ds` the state gradient the point before left. -/
def Ins.blk (I : Ins) (ds : FVec Ideal S4x256x512 .f32) (b : Fin 4) : Blk where
  cos := shapeCast S64x128 I.cos shapeCasts_S64x128_S64x128
  sin := shapeCast S64x128 I.sin shapeCasts_S64x128_S64x128
  q := cut256 I.q b
  k := cut256 I.k b
  v := cut512 I.v b
  g := cut512 I.g b
  dog := cut512 I.dog b
  dm := shapeCast S64x64 (pick 64 64 I.dm b) shapeCasts_S1x64x64_S64x64
  qd := shapeCast S64x1 (pick 64 1 I.qd b) shapeCasts_S1x64x1_S64x1
  kd := shapeCast S64x1 (pick 64 1 I.kd b) shapeCasts_S1x64x1_S64x1
  gain := shapeCast S1x512 (pick 1 512 I.gain b) shapeCasts_S1x1x512_S1x512
  st := shapeCast S256x512 (pickSt I.st b) shapeCasts_S1x1x256x512_S256x512
  cd := shapeCast S1x1 (pick 1 1 I.cd b) shapeCasts_S1x1x1_S1x1
  ds := shapeCast S256x512 (pick 256 512 ds b) shapeCasts_S1x256x512_S256x512

/-- The input blocks of grid point `t` in a launch from memory `m`. -/
def ins (m : (ℓ : Loc nD τ sig) → Buf (Elt Ideal) ℓ) (c : Dev nD) (t : Fin cfg0.N) : Ins where
  q := iblk m c 0 t
  k := iblk m c 1 t
  v := iblk m c 2 t
  g := iblk m c 3 t
  cos := iblk m c 4 t
  sin := iblk m c 5 t
  dm := iblk m c 6 t
  qd := iblk m c 7 t
  kd := iblk m c 8 t
  cd := iblk m c 9 t
  gain := iblk m c 10 t
  st := iblk m c 11 t
  dog := iblk m c 12 t

/-- The gain gradient of head `b` after the point, with `acc` what the point before left. -/
def Ins.gsum (I : Ins) (ds : FVec Ideal S4x256x512 .f32) (acc : FVec Ideal S4x1x512 .f32) (b : Fin 4) : FVec Ideal S1x1x512 .f32 :=
  shapeCast S1x1x512 (addf (shapeCast S1x512 (pick 1 512 acc b) shapeCasts_S1x1x512_S1x512) (I.blk ds b).dgain)
    shapeCasts_S1x512_S1x1x512

theorem at3 (P : ℕ → ℕ → ℕ → ℝ) {a b c a' b' c' : ℕ} (ha : a = a') (hb : b = b') (hc : c = c') :
    ((P a b c : ℝ) : EReal) = ((P a' b' c' : ℝ) : EReal) := by
  rw [ha, hb, hc]

/-- An entry of a picked member. -/
theorem pick_apply {n k : ℕ} {x : FVec Ideal ⟨3, ![4, n, k]⟩ .f32} {f : ℕ → ℕ → ℕ → ℝ}
    (hx : ∀ i, x i = ((f (i 0).val (i 1).val (i 2).val : ℝ) : EReal)) (b : Fin 4) (i : (⟨3, ![1, n, k]⟩ : Shape).Idx) :
    pick n k x b i = ((f b.val (i 1).val (i 2).val : ℝ) : EReal) := by
  have h0 : (i 0).val = 0 := Nat.lt_one_iff.1 (i 0).isLt
  refine (hx _).trans (at3 f ?_ ?_ ?_)
  · show b.val + 1 * (i 0).val = b.val; omega
  · show 0 + 1 * (i 1).val = (i 1).val; omega
  · show 0 + 1 * (i 2).val = (i 2).val; omega

theorem Ins.gsum_is (I : Ins) (ds : FVec Ideal S4x256x512 .f32) (acc : FVec Ideal S4x1x512 .f32) (b : Fin 4) (G : ℕ → ℕ → ℝ)
    (hG : ∀ i, acc i = ((G (i 0).val (i 2).val : ℝ) : EReal)) (N : Num) (h : (I.blk ds b).Is N) (i : S1x1x512.Idx) :
    I.gsum ds acc b i = ((G b.val (i 2).val + N.dgain (i 2).val : ℝ) : EReal) :=
  Mat.add1 (f := fun _ j => G b.val j + N.dgain j) (h := shapeCasts_S1x512_S1x1x512)
    ((Mat.drop1 (f := fun _ j => G b.val j) (h := shapeCasts_S1x1x512_S1x512)
      (pick_apply (f := fun b _ j => G b j) hG b)).add h.dgain) i

/-- Stores that cover the block hide what was stored before them. -/
theorem canon_hide {s : Shape} {e : EltTy} (L L' : List (View.Piece (Elt Ideal) s e)) (y : s.Idx) (h : ∃ p ∈ L, y ∈ p.1.set) :
    View.canon (L ++ L') y = View.canon L y := by
  induction L with
  | nil => obtain ⟨p, hp, _⟩ := h; exact absurd hp List.not_mem_nil
  | cons p L ih =>
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      obtain ⟨q, hq, hy⟩ := h
      rcases List.mem_cons.mp hq with rfl | hq
      · exact absurd hy hm
      · exact ih ⟨q, hq, hy⟩

end Cert.Proof
-- ==== Proof.Tables.lean ====
/- THE TABLES THE KERNEL READS, computed before its launch. Each is the array that the reference computes for the same purpose:
   the rotation's cosines and sines, the decay inside a chunk, the decay of the queries and the states before each chunk. The
   decay of the keys and of a whole chunk, which only the kernel uses, are written out. -/
module

public import proofs.«01_k».proof.Proof.Load
public import proofs.«01_k».proof.Proof.Gen.ReferenceIdeal.Read
public import Idealize.ShloMosaic.Lib.StableHlo.RunRead

@[expose] public section

set_option maxRecDepth 16384

noncomputable section

namespace Cert.Proof

open Idealize.ShloMosaic Cert.KernelIdeal Cert.KernelIdeal.Gen Finset
open Cert.ReferenceIdeal.Read (val_main_v0 val_main_v2 val_main_v3 val_main_v22 val_main_v24 val_main_v97 val_main_v110 val_main_v123 val_main_v161)

variable (m : (ℓ : Loc nD τ sig) → Buf (Elt Ideal) ℓ) (c : Dev nD)

/-- The keys' columns cut out of the projection before or after a unit axis is put in front. -/
theorem keys_eq (x : FVec Ideal S2048x12288 .f32) :
    broadcastInDim S1x2048x2048 ![1, 2] bcast_S2048x2048_S1x2048x2048_1_2
      (extractStridedSlice S2048x2048 ![0, 2048] x slices_S2048x12288_S2048x2048_0_2048) = val_main_v2 (F := Ideal) x := by
  funext i
  rw [Cert.ReferenceIdeal.Read.val_main_v2_apply, Cert.ReferenceIdeal.Read.val_main_v0_apply]
  refine congrArg x (funext fun a => ?_)
  match a with
  | ⟨0, _⟩ => exact Fin.ext (Nat.zero_add (i 1).val)
  | ⟨1, _⟩ => exact Fin.ext rfl
theorem values_eq (x : FVec Ideal S2048x12288 .f32) :
    broadcastInDim S1x2048x4096 ![1, 2] bcast_S2048x4096_S1x2048x4096_1_2
      (extractStridedSlice S2048x4096 ![0, 4096] x slices_S2048x12288_S2048x4096_0_4096) = val_main_v3 (F := Ideal) x := by
  funext i
  rw [Cert.ReferenceIdeal.Read.val_main_v3_apply, Cert.ReferenceIdeal.Read.val_main_v0_apply]
  refine congrArg x (funext fun a => ?_)
  match a with
  | ⟨0, _⟩ => exact Fin.ext (Nat.zero_add (i 1).val)
  | ⟨1, _⟩ => exact Fin.ext rfl

theorem V_cos : V m c main_v59 = val_main_v22 (F := Ideal) := by
  unfold V
  simp only [List.flatten_cons, List.flatten_nil, List.append_nil]
  after_reads_simp
  rfl
theorem V_sin : V m c main_v60 = val_main_v24 (F := Ideal) := by
  unfold V
  simp only [List.flatten_cons, List.flatten_nil, List.append_nil]
  after_reads_simp
  rfl
theorem V_dm : V m c main_v20 = val_main_v110 (F := Ideal) := by
  unfold V
  simp only [List.flatten_cons, List.flatten_nil, List.append_nil]
  after_reads_simp
  rfl
theorem V_qd : V m c main_v29 = broadcastInDim S8x64x1 ![0, 1] bcast_S8x64_S8x64x1_0_1 (val_main_v123 (F := Ideal)) := by
  unfold V
  simp only [List.flatten_cons, List.flatten_nil, List.append_nil]
  after_reads_simp
  rfl
/-- The decay of a chunk's keys up to the chunk's end. -/
def kdT : FVec Ideal S8x64x1 .f32 :=
  broadcastInDim S8x64x1 ![0, 1] bcast_S8x64_S8x64x1_0_1 (Host.exp (mulf
    (broadcastInDim S8x64 ![0, 1] bcast_S8x1_S8x64_0_1 (broadcastInDim S8x1 ![0] bcast_S8_S8x1_0 (val_main_v97 (F := Ideal))))
    (broadcastInDim S8x64 ![0, 1] bcast_S1x64_S8x64_0_1 (broadcastInDim S1x64 ![1] bcast_S64_S1x64_1
      (subf (broadcastInDim S64 ![] bcast_S_S64 (constant S_ .f32 0x427C0000#32)) (sitofp .f32 (iotaInDim S64 32 0)))))))
/-- The decay of a whole chunk. -/
def cdT : FVec Ideal S8x1x1 .f32 :=
  broadcastInDim S8x1x1 ![0] bcast_S8_S8x1x1_0 (Host.exp (mulf (val_main_v97 (F := Ideal))
    (broadcastInDim S8 ![] bcast_S_S8 (constant S_ .f32 0x42800000#32))))
/-- The states before the chunks, rounded. -/
def stT (x : FVec Ideal S2048x12288 .f32) : FVec Ideal S8x32x256x512 .bf16 :=
  truncf .bf16 (shapeCast S8x32x256x512 (val_main_v161 (F := Ideal) x : FVec Ideal S1x8x32x256x512 .f32)
    shapeCasts_S1x8x32x256x512_S8x32x256x512) bitsLt_bf16_f32
def gainT (x : FVec Ideal S8x512 .f32) : FVec Ideal S8x1x512 .f32 := broadcastInDim S8x1x512 ![0, 2] bcast_S8x512_S8x1x512_0_2 x
theorem V_kd : V m c main_v38 = kdT := by
  unfold V
  simp only [List.flatten_cons, List.flatten_nil, List.append_nil]
  after_reads_simp
  rfl
theorem V_cd : V m c main_v42 = cdT := by
  unfold V
  simp only [List.flatten_cons, List.flatten_nil, List.append_nil]
  after_reads_simp
  rfl
theorem V_gain : V m c main_v61 = gainT (m (c.tc.loc main_arg1)) := by
  unfold V
  simp only [List.flatten_cons, List.flatten_nil, List.append_nil]
  after_reads_simp
  rfl
theorem V_st : V m c main_v143 = stT (m (c.tc.loc main_arg0)) := by
  unfold V
  simp only [List.flatten_cons, List.flatten_nil, List.append_nil]
  after_reads_simp
  rw [show StableHlo.upto (hostOps0 ++ (hostOps0_1 ++ hostOps0_2)) (fun b => m (c, b)) 116 (Proc.tc.devRef main_v95) =
    Cert.ReferenceIdeal.Read.val_main_v72 (F := Ideal) ((m (c.tc.loc main_arg0) : FVec Ideal S2048x12288 .f32)) by
      after_reads_simp
      rw [keys_eq]
      rfl,
    show StableHlo.upto (hostOps0 ++ (hostOps0_1 ++ hostOps0_2)) (fun b => m (c, b)) 116 (Proc.tc.devRef main_v102) =
    Cert.ReferenceIdeal.Read.val_main_v79 (F := Ideal) ((m (c.tc.loc main_arg0) : FVec Ideal S2048x12288 .f32)) by
      after_reads_simp
      rw [keys_eq]
      rfl, values_eq]
  rfl
end Cert.Proof
-- ==== Proof.RefA.lean ====
/- THE REFERENCE'S TABLES OVER THE REAL NUMBERS. First one lemma per operation on a single number: an operation on finite numbers
   gives the real number one expects. Then the tables: rotation angles, decays inside a chunk, decays of queries and keys, and the
   weight of a position in the state before a chunk. -/
module

public import proofs.«01_k».proof.Proof.Tables
public import Idealize.ShloMosaic.Lib.IdealHost

@[expose] public section

set_option maxRecDepth 16384

noncomputable section

namespace Cert.Proof

open Idealize.ShloMosaic Cert.ReferenceIdeal Cert.ReferenceIdeal.Gen Cert.ReferenceIdeal.Read Finset

/-! ## One number at a time -/

section Scalars
variable {x y : EReal} {a b : ℝ}

theorem r_add (hx : x = (a : EReal)) (hy : y = (b : EReal)) :
    FloatOps.addf (F := Ideal) (φ := .f32) x y = ((a + b : ℝ) : EReal) := by
  show x + y = _; rw [hx, hy, EReal.coe_add]
theorem r_sub (hx : x = (a : EReal)) (hy : y = (b : EReal)) :
    FloatOps.subf (F := Ideal) (φ := .f32) x y = ((a - b : ℝ) : EReal) := by
  show x - y = _; rw [hx, hy, EReal.coe_sub]
theorem r_mul (hx : x = (a : EReal)) (hy : y = (b : EReal)) :
    FloatOps.mulf (F := Ideal) (φ := .f32) x y = ((a * b : ℝ) : EReal) := by
  show x * y = _; rw [hx, hy, EReal.coe_mul]
theorem r_div (hx : x = (a : EReal)) (hy : y = (b : EReal)) (h : b ≠ 0) :
    FloatOps.hostDivf (F := Ideal) (φ := .f32) x y = ((a / b : ℝ) : EReal) := by
  show Ideal.div x y = _
  rw [hx, hy, Ideal.div_coe h, ← EReal.coe_mul]; congr 1; ring
theorem r_neg (hx : x = (a : EReal)) : FloatOps.hostNegf (F := Ideal) (φ := .f32) x = ((-a : ℝ) : EReal) := by
  show -x = _; rw [hx, EReal.coe_neg]
theorem r_abs (hx : x = (a : EReal)) : FloatOps.hostAbsf (F := Ideal) (φ := .f32) x = ((|a| : ℝ) : EReal) := by
  subst hx
  show max (a : EReal) (-(a : EReal)) = _
  rw [← EReal.coe_neg, show |a| = max a (-a) from rfl]
  rcases le_total a (-a) with h | h
  · rw [max_eq_right (EReal.coe_le_coe_iff.2 h), max_eq_right h]
  · rw [max_eq_left (EReal.coe_le_coe_iff.2 h), max_eq_left h]
theorem r_exp (hx : x = (a : EReal)) : FloatOps.hostUnary (F := Ideal) (φ := .f32) .exp x = ((Real.exp a : ℝ) : EReal) := by
  show Ideal.exp x = _; rw [hx, Ideal.exp_coe]
theorem r_cos (hx : x = (a : EReal)) : FloatOps.hostUnary (F := Ideal) (φ := .f32) .cos x = ((Real.cos a : ℝ) : EReal) := by
  show Ideal.cos x = _; rw [hx, Ideal.cos_coe]
theorem r_sin (hx : x = (a : EReal)) : FloatOps.hostUnary (F := Ideal) (φ := .f32) .sin x = ((Real.sin a : ℝ) : EReal) := by
  show Ideal.sin x = _; rw [hx, Ideal.sin_coe]
theorem r_pow (hx : x = (a : EReal)) (hy : y = (b : EReal)) :
    FloatOps.hostPowf (F := Ideal) (φ := .f32) x y = ((Real.rpow a b : ℝ) : EReal) := by
  show Ideal.pow x y = _; rw [hx, hy, Ideal.pow_coe_coe]
theorem r_log1p (hx : x = (a : EReal)) (h : 0 < 1 + a) :
    FloatOps.hostUnary (F := Ideal) (φ := .f32) .log1p x = ((Real.log (1 + a) : ℝ) : EReal) := by
  show Ideal.log (1 + x) = _
  rw [hx, show (1 : EReal) + (a : EReal) = ((1 + a : ℝ) : EReal) by rw [EReal.coe_add, EReal.coe_one], Ideal.log_coe, if_neg h.not_ge]
theorem r_rsqrt (hx : x = (a : EReal)) (h : 0 < a) :
    FloatOps.hostUnary (F := Ideal) (φ := .f32) .rsqrt x = (((√a)⁻¹ : ℝ) : EReal) := by
  show Ideal.rsqrt x = _
  rw [hx, Ideal.rsqrt_coe, if_neg h.not_gt, if_neg h.ne']
/-- A product of entries inside a sum of products. -/
theorem r_prod (hx : x = (a : EReal)) (hy : y = (b : EReal)) : x * y = ((a * b : ℝ) : EReal) := by
  rw [hx, hy, EReal.coe_mul]
/-- A sum that starts from the constant zero. -/
theorem r_zsum (hx : x = ((0 : ℝ) : EReal)) (hy : y = (b : EReal)) : x + y = (b : EReal) := by
  rw [hx, hy, EReal.coe_zero, zero_add]
theorem r_congr (hx : x = (a : EReal)) (h : a = b) : x = (b : EReal) := h ▸ hx
end Scalars

theorem at1 (P : ℕ → ℝ) {a a' : ℕ} (ha : a = a') : ((P a : ℝ) : EReal) = ((P a' : ℝ) : EReal) := by rw [ha]
theorem at2 (P : ℕ → ℕ → ℝ) {a b a' b' : ℕ} (ha : a = a') (hb : b = b') : ((P a b : ℝ) : EReal) = ((P a' b' : ℝ) : EReal) := by
  rw [ha, hb]

/-- A counter's entry, as a float. -/
theorem iota_val (n : ℕ) (h : n < 2048) :
    FloatOps.sitofp (F := Ideal) .f32 (BitVec.ofNat 32 n) = (((n : ℝ) : ℝ) : EReal) := by
  show (((BitVec.ofNat 32 n).toInt : ℝ) : EReal) = _
  rw [BitVec.toInt_ofNat', Int.bmod_eq_of_le (by omega) (by omega)]
  simp

theorem bits_two : (Scalar.ofBits .f32 0x40000000#32 : Ideal .f32) = ((2 : ℝ) : EReal) :=
  bits_val (e := 128) (f := 0) rfl rfl rfl (by decide) (by decide) (by norm_num [zpow_neg])
theorem bits_256 : (Scalar.ofBits .f32 0x43800000#32 : Ideal .f32) = ((256 : ℝ) : EReal) :=
  bits_val (e := 135) (f := 0) rfl rfl rfl (by decide) (by decide) (by norm_num [zpow_neg])
theorem bits_10000 : (Scalar.ofBits .f32 0x461C4000#32 : Ideal .f32) = ((10000 : ℝ) : EReal) :=
  bits_val (e := 140) (f := 1851392) rfl rfl rfl (by decide) (by decide) (by norm_num [zpow_neg])
theorem bits_64 : (Scalar.ofBits .f32 0x42800000#32 : Ideal .f32) = ((64 : ℝ) : EReal) :=
  bits_val (e := 133) (f := 0) rfl rfl rfl (by decide) (by decide) (by norm_num [zpow_neg])
theorem bits_63 : (Scalar.ofBits .f32 0x427C0000#32 : Ideal .f32) = ((63 : ℝ) : EReal) :=
  bits_val (e := 132) (f := 8126464) rfl rfl rfl (by decide) (by decide) (by norm_num [zpow_neg])
/-- The float nearest to the logarithm of two. -/
def ln2 : ℝ := 11629080 / 2 ^ 24
theorem bits_ln2 : (Scalar.ofBits .f32 0x3F317218#32 : Ideal .f32) = (ln2 : EReal) :=
  bits_val (e := 126) (f := 3240472) rfl rfl rfl (by decide) (by decide) (by norm_num [ln2, zpow_neg])
/-- A negative normal float's value. -/
theorem bits_val_neg {w : BitVec 32} {e f : ℕ} {r : ℝ} (hs : (w.extractLsb' 31 1 == 1#1) = true) (he : (w.extractLsb' 23 8).toNat = e)
    (hf : (w.extractLsb' 0 23).toNat = f) (h0 : e ≠ 0) (h1 : e ≠ 255)
    (hr : -(((2 ^ 23 + f : ℕ) : ℝ) * (2 : ℝ) ^ ((e : ℤ) - 127 - 23)) = r) : Ideal.ofBits .f32 w = (r : EReal) := by
  simp only [Ideal.ofBits, Ideal.ieee, Nat.reduceAdd, hs, he, hf]
  rw [if_neg (by simpa using h1), if_neg h0, ← hr]
  congr 1
  norm_num
  ring
theorem bits_m5 : (Scalar.ofBits .f32 0xC0A00000#32 : Ideal .f32) = ((-5 : ℝ) : EReal) :=
  bits_val_neg (e := 129) (f := 2097152) rfl rfl rfl (by decide) (by decide) (by norm_num [zpow_neg])
theorem bits_mhalf : (Scalar.ofBits .f32 0xBF000000#32 : Ideal .f32) = ((-(1 / 2) : ℝ) : EReal) :=
  bits_val_neg (e := 126) (f := 0) rfl rfl rfl (by decide) (by decide) (by norm_num [zpow_neg])

/-! ## The tables -/

/-- The angle by which position `t` turns the pair `j`. -/
def ang (t j : ℕ) : ℝ := (t : ℝ) * Real.rpow 10000 (-(0 + 2 * (j : ℝ)) / 256)
/-- The logarithm of head `h`'s decay. -/
def lgOf (h : ℕ) : ℝ := Real.log (1 + -Real.exp (ln2 * (-5 - (h : ℝ))))

theorem ang_eq (i : S2048x128.Idx) : val_main_v21 (F := Ideal) i = ((ang (i 0).val (i 1).val : ℝ) : EReal) := by
  rw [val_main_v21_apply, val_main_v19_apply, val_main_v17_apply, val_main_v20_apply, val_main_v18_apply]
  refine r_mul (iota_val _ (i 0).isLt) ?_
  rw [val_main_v15_apply, val_main_v14_apply]
  refine r_pow bits_10000 ?_
  rw [val_main_v13_apply, val_main_v12_apply]
  refine r_div ?_ bits_256 (by norm_num)
  rw [val_main_v11_apply, val_main_v10_apply, val_main_v9_apply, val_main_v8_apply, val_main_v7_apply]
  exact r_neg (r_add bits_zero (r_mul bits_two (iota_val _ (Nat.lt_trans (i 1).isLt (by decide)))))
theorem cos_eq (i : S2048x128.Idx) : val_main_v22 (F := Ideal) i = ((Real.cos (ang (i 0).val (i 1).val) : ℝ) : EReal) :=
  (val_main_v22_apply i).trans (r_cos (ang_eq i))
theorem sin_eq (i : S2048x128.Idx) : val_main_v24 (F := Ideal) i = ((Real.sin (ang (i 0).val (i 1).val) : ℝ) : EReal) :=
  (val_main_v24_apply i).trans (r_sin (ang_eq i))
theorem lg_eq (i : S8.Idx) : val_main_v97 (F := Ideal) i = ((lgOf (i 0).val : ℝ) : EReal) := by
  rw [val_main_v97_apply]
  refine r_log1p (a := -Real.exp (ln2 * (-5 - ((i 0).val : ℝ)))) ?_ ?_
  · rw [val_main_v96_apply, val_main_v95_apply, val_main_v94_apply, val_main_v93_apply, val_main_v92_apply, val_main_v91_apply]
    exact r_neg (r_exp (r_mul bits_ln2 (r_sub bits_m5 (iota_val _ (Nat.lt_trans (i 0).isLt (by decide))))))
  · have : Real.exp (ln2 * (-5 - ((i 0).val : ℝ))) < 1 := by
      rw [Real.exp_lt_one_iff]
      have h1 : 0 < ln2 := by norm_num [ln2]
      have h2 : (0 : ℝ) ≤ ((i 0).val : ℝ) := Nat.cast_nonneg _
      nlinarith
    linarith

/-- The tables' numbers are those of `d`. -/
structure Data.Tab (d : Data) : Prop where
  cos : ∀ i : S2048x128.Idx, val_main_v22 (F := Ideal) i = ((d.cos (i 0).val (i 1).val : ℝ) : EReal)
  sin : ∀ i : S2048x128.Idx, val_main_v24 (F := Ideal) i = ((d.sin (i 0).val (i 1).val : ℝ) : EReal)
  lg : ∀ i : S8.Idx, val_main_v97 (F := Ideal) i = ((d.lg (i 0).val : ℝ) : EReal)

namespace Data.Tab
variable {d : Data} (T : d.Tab)
include T

theorem v110 (i : S8x64x64.Idx) : val_main_v110 (F := Ideal) i =
    ((Real.exp (d.lg (i 0).val * |((i 1).val : ℝ) - ((i 2).val : ℝ)|) : ℝ) : EReal) := by
  rw [val_main_v110_apply, val_main_v109_apply, val_main_v107_apply, val_main_v105_apply, val_main_v108_apply, val_main_v106_apply,
    val_main_v104_apply, val_main_v103_apply, val_main_v101_apply, val_main_v99_apply, val_main_v102_apply, val_main_v100_apply]
  exact r_exp (r_mul (T.lg _) (r_abs (r_sub (iota_val _ (Nat.lt_trans (i 1).isLt (by decide)))
    (iota_val _ (Nat.lt_trans (i 2).isLt (by decide))))))
theorem v123 (i : S8x64.Idx) : val_main_v123 (F := Ideal) i =
    ((Real.exp (d.lg (i 0).val * (((i 1).val : ℝ) + 1)) : ℝ) : EReal) := by
  rw [val_main_v123_apply, val_main_v122_apply, val_main_v120_apply, val_main_v116_apply, val_main_v121_apply, val_main_v119_apply,
    val_main_v118_apply, val_main_v117_apply]
  exact r_exp (r_mul (T.lg _) (r_add (iota_val _ (Nat.lt_trans (i 1).isLt (by decide))) bits_one))
theorem kd (i : (⟨3, ![8, 64, 1]⟩ : Shape).Idx) : kdT i = ((Real.exp (d.lg (i 0).val * (63 - ((i 1).val : ℝ))) : ℝ) : EReal) :=
  r_exp (r_mul (T.lg _) (r_sub bits_63 (iota_val _ (Nat.lt_trans (i 1).isLt (by decide)))))
theorem cd (i : S8x1x1.Idx) : cdT i = ((Real.exp (d.lg (i 0).val * 64) : ℝ) : EReal) :=
  r_exp (r_mul (T.lg _) bits_64)
theorem v137 (i : S32x2048.Idx) : val_main_v137 (F := Ideal) i = ((64 * ((i 0).val : ℝ) - 1 - ((i 1).val : ℝ) : ℝ) : EReal) := by
  rw [val_main_v137_apply, val_main_v135_apply, val_main_v132_apply, val_main_v131_apply, val_main_v130_apply, val_main_v129_apply,
    val_main_v128_apply, val_main_v136_apply, val_main_v134_apply]
  exact r_sub (r_sub (r_mul bits_64 (iota_val _ (Nat.lt_trans (i 0).isLt (by decide)))) bits_one) (iota_val _ (i 1).isLt)
theorem w (i : S8x32x2048.Idx) : val_main_v154 (F := Ideal) i = ((d.w (i 0).val (i 1).val (i 2).val : ℝ) : EReal) := by
  rw [val_main_v154_apply, val_main_call0_v1_apply, val_main_v139_apply, val_main_v138_apply, T.v137]
  have e : val_main_v153 (F := Ideal) i =
      ((Real.exp (d.lg (i 0).val * (64 * ((i 1).val : ℝ) - 1 - ((i 2).val : ℝ))) : ℝ) : EReal) := by
    rw [val_main_v153_apply, val_main_v152_apply, val_main_v150_apply, val_main_v148_apply, val_main_v151_apply, val_main_v149_apply]
    exact r_exp (r_mul (T.lg _) (T.v137 _))
  have z : val_main_call0_v2 (F := Ideal) i = ((0 : ℝ) : EReal) := bits_zero
  have z' : val_main_cst_13 (F := Ideal) (idx_main_v138 (idx_main_call0_v1 i)) = ((0 : ℝ) : EReal) := bits_zero
  rw [e, z, z', Data.w]
  show (if BitVec.ofBool (decide (((0 : ℝ) : EReal) ≤ ((64 * ((i 1).val : ℝ) - 1 - ((i 2).val : ℝ) : ℝ) : EReal))) = 1#1 then _
    else _) = _
  by_cases h : (i 2).val < 64 * (i 1).val
  · have h' : ((i 2).val : ℝ) + 1 ≤ 64 * ((i 1).val : ℝ) := by exact_mod_cast h
    rw [if_pos h, decide_eq_true (EReal.coe_le_coe_iff.2 (by linarith))]
    rfl
  · have h' : 64 * ((i 1).val : ℝ) ≤ ((i 2).val : ℝ) := by exact_mod_cast Nat.le_of_not_lt h
    rw [if_neg h, decide_eq_false fun h2 => by have := EReal.coe_le_coe_iff.1 h2; linarith]
    rfl
end Data.Tab

end Cert.Proof
-- ==== Proof.RefB.lean ====
/- THE REFERENCE'S FORWARD PART OVER THE REAL NUMBERS: the heads' queries, keys and values, the rotation, the cut into chunks, the
   states before the chunks and the attention output. Coordinates: position, head, feature before the cut; head, chunk, place in
   the chunk, feature after it. -/
module

public import proofs.«01_k».proof.Proof.RefA

@[expose] public section

set_option maxRecDepth 16384

noncomputable section

namespace Cert.Proof

open Idealize.ShloMosaic Cert.ReferenceIdeal Cert.ReferenceIdeal.Gen Cert.ReferenceIdeal.Read Finset

/-- The arguments' and the tables' numbers are those of `d`. -/
structure Data.Reads (d : Data) (x0 : FVec Ideal S2048x12288 .f32) (x1 : FVec Ideal S8x512 .f32) (x2 : FVec Ideal S2048x4096 .f32) : Prop
    extends Data.Tab d where
  P : ∀ i : S2048x12288.Idx, x0 i = ((d.P (i 0).val (i 1).val : ℝ) : EReal)
  A : ∀ i : S8x512.Idx, x1 i = ((d.A (i 0).val (i 1).val : ℝ) : EReal)
  D : ∀ i : S2048x4096.Idx, x2 i = ((d.D (i 0).val (i 1).val : ℝ) : EReal)

/-- Two rotated halves side by side, as the first and the second half of one axis. -/
theorem concat_halves {x y : FVec Ideal S1x2048x8x128 .f32} {f g : ℕ → ℕ → ℕ → ℝ}
    {h : Shape.Concatenates [S1x2048x8x128, S1x2048x8x128] S1x2048x8x256 3}
    (hx : ∀ i, x i = ((f (i 1).val (i 2).val (i 3).val : ℝ) : EReal))
    (hy : ∀ i, y i = ((g (i 1).val (i 2).val (i 3).val : ℝ) : EReal)) (i : S1x2048x8x256.Idx) :
    concatenate S1x2048x8x256 3 [⟨S1x2048x8x128, x⟩, ⟨S1x2048x8x128, y⟩] h i =
      ((if (i 3).val < 128 then f (i 1).val (i 2).val (i 3).val else g (i 1).val (i 2).val ((i 3).val - 128) : ℝ) : EReal) := by
  have h3 : (i 3).val < 256 := (i 3).isLt
  by_cases hb : (i 3).val < 128
  · rw [concatenate_pair_apply_left (3 : Fin 4) x y h i rfl
      (fun a => match a with
        | ⟨0, _⟩ => ⟨(i 0).val, (i 0).isLt⟩ | ⟨1, _⟩ => ⟨(i 1).val, (i 1).isLt⟩ | ⟨2, _⟩ => ⟨(i 2).val, (i 2).isLt⟩
        | ⟨3, _⟩ => ⟨(i 3).val, hb⟩)
      (fun q => by match q with | ⟨0, _⟩ => rfl | ⟨1, _⟩ => rfl | ⟨2, _⟩ => rfl | ⟨3, _⟩ => rfl), hx, if_pos hb]
  · rw [concatenate_pair_apply_right (3 : Fin 4) x y h i rfl rfl
      (fun a => match a with
        | ⟨0, _⟩ => ⟨(i 0).val, (i 0).isLt⟩ | ⟨1, _⟩ => ⟨(i 1).val, (i 1).isLt⟩ | ⟨2, _⟩ => ⟨(i 2).val, (i 2).isLt⟩
        | ⟨3, _⟩ => ⟨(i 3).val - 128, by show (i 3).val - 128 < 128; omega⟩)
      (fun q hq => by match q with | ⟨0, _⟩ => rfl | ⟨1, _⟩ => rfl | ⟨2, _⟩ => rfl | ⟨3, _⟩ => exact absurd rfl hq)
      (by show (i 3).val - 128 + 128 = (i 3).val; omega), hy, if_neg hb]

namespace Data.Reads
variable {d : Data} {x0 : FVec Ideal S2048x12288 .f32} {x1 : FVec Ideal S8x512 .f32} {x2 : FVec Ideal S2048x4096 .f32} (r : d.Reads x0 x1 x2)
include r

theorem v5 (i : S1x2048x8x256.Idx) : val_main_v5 (F := Ideal) x0 i = ((d.q (i 2).val (i 1).val (i 3).val : ℝ) : EReal) := by
  rw [val_main_v5_apply, val_main_v1_apply, val_main_v0_apply, r.P]
  have h0 : (i 0).val < 1 := (i 0).isLt
  have h1 : (i 1).val < 2048 := (i 1).isLt
  have h2 : (i 2).val < 8 := (i 2).isLt
  have h3 : (i 3).val < 256 := (i 3).isLt
  refine at2 d.P ?_ ?_
  · simp only [idx_main_v0, idx_main_v1, idx_main_v5]; omega
  · simp only [idx_main_v0, idx_main_v1, idx_main_v5]; omega
theorem v43 (i : S1x2048x8x256.Idx) : val_main_v43 (F := Ideal) x0 i = ((d.k (i 2).val (i 1).val (i 3).val : ℝ) : EReal) := by
  rw [val_main_v43_apply, val_main_v2_apply, val_main_v0_apply, r.P]
  have h0 : (i 0).val < 1 := (i 0).isLt
  have h1 : (i 1).val < 2048 := (i 1).isLt
  have h2 : (i 2).val < 8 := (i 2).isLt
  have h3 : (i 3).val < 256 := (i 3).isLt
  refine at2 d.P ?_ ?_
  · simp only [idx_main_v0, idx_main_v2, idx_main_v43]; omega
  · simp only [idx_main_v0, idx_main_v2, idx_main_v43]; omega
theorem v83 (i : S1x2048x8x512.Idx) : val_main_v83 (F := Ideal) x0 i = ((d.v (i 2).val (i 1).val (i 3).val : ℝ) : EReal) := by
  rw [val_main_v83_apply, val_main_v3_apply, val_main_v0_apply, r.P]
  have h0 : (i 0).val < 1 := (i 0).isLt
  have h1 : (i 1).val < 2048 := (i 1).isLt
  have h2 : (i 2).val < 8 := (i 2).isLt
  have h3 : (i 3).val < 512 := (i 3).isLt
  refine at2 d.P ?_ ?_
  · simp only [idx_main_v0, idx_main_v3, idx_main_v83]; omega
  · simp only [idx_main_v0, idx_main_v3, idx_main_v83]; omega

/-- Queries, rotated. -/
theorem v42 (i : S1x2048x8x256.Idx) : val_main_v42 (F := Ideal) x0 i = ((d.Q (i 2).val (i 1).val (i 3).val : ℝ) : EReal) := by
  unfold val_main_v42
  rw [concat_halves (f := fun t h j => d.q h t j * d.cos t j - d.q h t (128 + j) * d.sin t j)
    (g := fun t h j => d.q h t j * d.sin t j + d.q h t (128 + j) * d.cos t j)
    (fun i => by
      rw [val_main_v34_apply, val_main_v30_apply, val_main_v26_apply, val_main_v29_apply, val_main_v28_apply, val_main_v23_apply,
        val_main_v33_apply, val_main_v27_apply, val_main_v32_apply, val_main_v31_apply, val_main_v25_apply]
      exact r_sub (r_mul (r.v5 _) (r.cos _)) (r_mul (r.v5 _) (r.sin _)))
    (fun i => by
      rw [val_main_v41_apply, val_main_v37_apply, val_main_v26_apply, val_main_v36_apply, val_main_v35_apply, val_main_v25_apply,
        val_main_v40_apply, val_main_v27_apply, val_main_v39_apply, val_main_v38_apply, val_main_v23_apply]
      exact r_add (r_mul (r.v5 _) (r.sin _)) (r_mul (r.v5 _) (r.cos _)))]
  refine congrArg _ ?_
  show _ = rot d.cos d.sin (d.q (i 2).val) (i 1).val (i 3).val
  unfold rot
  split_ifs with h
  · rfl
  · rw [show 128 + ((i 3).val - 128) = (i 3).val by omega]
/-- Keys, rotated and scaled. -/
theorem v82 (i : S1x2048x8x256.Idx) : val_main_v82 (F := Ideal) x0 i = ((d.K (i 2).val (i 1).val (i 3).val : ℝ) : EReal) := by
  rw [val_main_v82_apply, val_main_v81_apply]
  refine r_mul (b := 1 / 16) ?_ bits_sixteenth
  unfold val_main_v80
  rw [concat_halves (f := fun t h j => d.k h t j * d.cos t j - d.k h t (128 + j) * d.sin t j)
    (g := fun t h j => d.k h t j * d.sin t j + d.k h t (128 + j) * d.cos t j)
    (fun i => by
      rw [val_main_v72_apply, val_main_v68_apply, val_main_v64_apply, val_main_v67_apply, val_main_v66_apply, val_main_v61_apply,
        val_main_v71_apply, val_main_v65_apply, val_main_v70_apply, val_main_v69_apply, val_main_v63_apply]
      exact r_sub (r_mul (r.v43 _) (r.cos _)) (r_mul (r.v43 _) (r.sin _)))
    (fun i => by
      rw [val_main_v79_apply, val_main_v75_apply, val_main_v64_apply, val_main_v74_apply, val_main_v73_apply, val_main_v63_apply,
        val_main_v78_apply, val_main_v65_apply, val_main_v77_apply, val_main_v76_apply, val_main_v61_apply]
      exact r_add (r_mul (r.v43 _) (r.sin _)) (r_mul (r.v43 _) (r.cos _)))]
  refine congrArg _ ?_
  unfold rot
  split_ifs with h
  · rfl
  · rw [show 128 + ((i 3).val - 128) = (i 3).val by omega]

/-! ## In chunks -/

theorem v85 (i : S1x8x32x64x256.Idx) :
    val_main_v85 (F := Ideal) x0 i = (((d.at0 (i 1).val (i 2).val).Q (i 3).val (i 4).val : ℝ) : EReal) := by
  rw [val_main_v85_apply, val_main_v84_apply, r.v42]
  have h0 : (i 0).val < 1 := (i 0).isLt
  have h1 : (i 1).val < 8 := (i 1).isLt
  have h2 : (i 2).val < 32 := (i 2).isLt
  have h3 : (i 3).val < 64 := (i 3).isLt
  have h4 : (i 4).val < 256 := (i 4).isLt
  refine at3 d.Q (b' := 64 * (i 2).val + (i 3).val) ?_ ?_ ?_
  · simp only [idx_main_v84, idx_main_v85]; omega
  · simp only [idx_main_v84, idx_main_v85]; omega
  · simp only [idx_main_v84, idx_main_v85]; omega
theorem v87 (i : S1x8x32x64x256.Idx) :
    val_main_v87 (F := Ideal) x0 i = (((d.at0 (i 1).val (i 2).val).K (i 3).val (i 4).val : ℝ) : EReal) := by
  rw [val_main_v87_apply, val_main_v86_apply, r.v82]
  have h0 : (i 0).val < 1 := (i 0).isLt
  have h1 : (i 1).val < 8 := (i 1).isLt
  have h2 : (i 2).val < 32 := (i 2).isLt
  have h3 : (i 3).val < 64 := (i 3).isLt
  have h4 : (i 4).val < 256 := (i 4).isLt
  refine at3 d.K (b' := 64 * (i 2).val + (i 3).val) ?_ ?_ ?_
  · simp only [idx_main_v86, idx_main_v87]; omega
  · simp only [idx_main_v86, idx_main_v87]; omega
  · simp only [idx_main_v86, idx_main_v87]; omega
theorem v89 (i : S1x8x32x64x512.Idx) :
    val_main_v89 (F := Ideal) x0 i = (((d.at0 (i 1).val (i 2).val).v (i 3).val (i 4).val : ℝ) : EReal) := by
  rw [val_main_v89_apply, val_main_v88_apply, r.v83]
  have h0 : (i 0).val < 1 := (i 0).isLt
  have h1 : (i 1).val < 8 := (i 1).isLt
  have h2 : (i 2).val < 32 := (i 2).isLt
  have h3 : (i 3).val < 64 := (i 3).isLt
  have h4 : (i 4).val < 512 := (i 4).isLt
  refine at3 d.v (b' := 64 * (i 2).val + (i 3).val) ?_ ?_ ?_
  · simp only [idx_main_v88, idx_main_v89]; omega
  · simp only [idx_main_v88, idx_main_v89]; omega
  · simp only [idx_main_v88, idx_main_v89]; omega
/-- The decayed scores. -/
theorem v114 (i : S1x8x32x64x64.Idx) :
    val_main_v114 (F := Ideal) x0 i = (((d.at0 (i 1).val (i 2).val).S (i 3).val (i 4).val : ℝ) : EReal) := by
  rw [val_main_v114_apply, val_main_v111_apply, val_main_v113_apply, val_main_v112_apply]
  exact r_mul (coe_sum_of (f := fun e => (d.at0 (i 1).val (i 2).val).Q (i 3).val e * (d.at0 (i 1).val (i 2).val).K (i 4).val e)
    fun e => r_prod (r.v85 _) (r.v87 _)) (r.v110 _)
theorem v126 (i : S1x8x32x64x256.Idx) : val_main_v126 (F := Ideal) x0 i =
    (((d.at0 (i 1).val (i 2).val).Q (i 3).val (i 4).val * (d.at0 (i 1).val (i 2).val).qd (i 3).val : ℝ) : EReal) := by
  rw [val_main_v126_apply, val_main_v125_apply, val_main_v124_apply]
  exact r_mul (r.v85 _) (r.v123 _)
/-- The keys weighted for the states. -/
theorem v160 (i : S1x8x32x2048x256.Idx) : val_main_v160 (F := Ideal) x0 i =
    ((d.w (i 1).val (i 2).val (i 3).val * d.K (i 1).val (i 3).val (i 4).val : ℝ) : EReal) := by
  rw [val_main_v160_apply, val_main_v158_apply, val_main_v155_apply, val_main_v159_apply, val_main_v157_apply, val_main_v156_apply]
  exact r_mul (r.w _) (r.v82 _)
/-- The states. -/
theorem v161 (i : S1x8x32x256x512.Idx) :
    val_main_v161 (F := Ideal) x0 i = ((d.st (i 1).val (i 2).val (i 3).val (i 4).val : ℝ) : EReal) := by
  rw [val_main_v161_apply]
  exact coe_sum_of (f := fun t => d.w (i 1).val (i 2).val t * d.K (i 1).val t (i 3).val * d.v (i 1).val t (i 4).val)
    fun e => r_prod (r.v160 _) (r.v83 _)
/-- The attention output. -/
theorem v163 (i : S1x8x32x64x512.Idx) :
    val_main_v163 (F := Ideal) x0 i = (((d.at0 (i 1).val (i 2).val).O (i 3).val (i 4).val : ℝ) : EReal) := by
  rw [val_main_v163_apply, val_main_v115_apply, val_main_v162_apply]
  exact r_add
    (coe_sum_of (f := fun e => (d.at0 (i 1).val (i 2).val).S (i 3).val e * (d.at0 (i 1).val (i 2).val).v e (i 4).val)
      fun e => r_prod (r.v114 _) (r.v89 _))
    (coe_sum_of (f := fun e => (d.at0 (i 1).val (i 2).val).Q (i 3).val e * (d.at0 (i 1).val (i 2).val).qd (i 3).val *
      (d.at0 (i 1).val (i 2).val).st e (i 4).val) fun e => r_prod (r.v126 _) (r.v161 _))
theorem v165 (i : S1x2048x8x512.Idx) : val_main_v165 (F := Ideal) x0 i =
    (((d.at0 (i 2).val ((i 1).val / 64)).O ((i 1).val % 64) (i 3).val : ℝ) : EReal) := by
  rw [val_main_v165_apply, val_main_v164_apply, r.v163]
  have h0 : (i 0).val < 1 := (i 0).isLt
  have h1 : (i 1).val < 2048 := (i 1).isLt
  have h2 : (i 2).val < 8 := (i 2).isLt
  have h3 : (i 3).val < 512 := (i 3).isLt
  refine (at2 (fun a b => (d.at0 a b).O _ _) (a' := (i 2).val) (b' := (i 1).val / 64) ?_ ?_).trans
    (at2 (d.at0 (i 2).val ((i 1).val / 64)).O ?_ ?_)
  · simp only [idx_main_v164, idx_main_v165]; omega
  · simp only [idx_main_v164, idx_main_v165]; omega
  · simp only [idx_main_v164, idx_main_v165]; omega
  · simp only [idx_main_v164, idx_main_v165]; omega
end Data.Reads

end Cert.Proof
-- ==== Proof.RefC.lean ====
/- THE REFERENCE'S NORM, GATE AND THEIR GRADIENTS OVER THE REAL NUMBERS. Coordinates: position, head, feature; the numbers are those
   of the position's chunk. -/
module

public import proofs.«01_k».proof.Proof.RefB

@[expose] public section

set_option maxRecDepth 16384

noncomputable section

namespace Cert.Proof

open Idealize.ShloMosaic Cert.ReferenceIdeal Cert.ReferenceIdeal.Gen Cert.ReferenceIdeal.Read Finset

/-- A chunk's numbers, at a position of the whole sequence. -/
def Data.row (d : Data) (f : Num → ℕ → ℕ → ℝ) (t h e : ℕ) : ℝ := f (d.at0 h (t / 64)) (t % 64) e
def Data.row1 (d : Data) (f : Num → ℕ → ℝ) (t h : ℕ) : ℝ := f (d.at0 h (t / 64)) (t % 64)

/-- A sum over unit axes has one term. -/
theorem reduce_one {s t : Shape} {axes : List (Fin s.rank)} (h : s.ReducesTo axes t) (x : s.Idx → EReal) (z : EReal) (j : t.Idx)
    (k : s.Idx) (hk : h.drop k = j) (hu : ∀ i, h.drop i = j → i = k) : Ideal.hostReduceAdd h x z j = z + x k := by
  unfold Ideal.hostReduceAdd
  rw [show (univ.filter fun i => h.drop i = j) = {k} from Finset.ext fun i => by
    simp only [mem_filter, mem_univ, true_and, mem_singleton]
    exact ⟨hu i, fun e => e ▸ hk⟩, sum_singleton]
theorem drop_8_512 (x : S1x1x8x512.Idx → EReal) (z : EReal) (j : S8x512.Idx) :
    Ideal.hostReduceAdd reducesTo_S1x1x8x512_S8x512_d0_1 x z j = z + x (fun a => match a with
      | ⟨0, _⟩ => ⟨0, Nat.one_pos⟩ | ⟨1, _⟩ => ⟨0, Nat.one_pos⟩ | ⟨2, _⟩ => ⟨(j 0).val, (j 0).isLt⟩ | ⟨3, _⟩ => ⟨(j 1).val, (j 1).isLt⟩) := by
  refine reduce_one _ x z j _ (funext fun a => Fin.ext ?_) fun i e => funext fun a => Fin.ext ?_
  · match a with
    | ⟨0, _⟩ => exact Shape.ReducesTo.drop_apply_val_of_eq reducesTo_S1x1x8x512_S8x512_d0_1 _ 0 2
    | ⟨1, _⟩ => exact Shape.ReducesTo.drop_apply_val_of_eq reducesTo_S1x1x8x512_S8x512_d0_1 _ 1 3
  · subst e
    match a with
    | ⟨0, _⟩ => exact Nat.lt_one_iff.1 (i 0).isLt
    | ⟨1, _⟩ => exact Nat.lt_one_iff.1 (i 1).isLt
    | ⟨2, _⟩ => exact (Shape.ReducesTo.drop_apply_val_of_eq reducesTo_S1x1x8x512_S8x512_d0_1 i 0 2).symm
    | ⟨3, _⟩ => exact (Shape.ReducesTo.drop_apply_val_of_eq reducesTo_S1x1x8x512_S8x512_d0_1 i 1 3).symm
theorem drop_2048_8 (x : S1x2048x8x1.Idx → EReal) (z : EReal) (j : S2048x8.Idx) :
    Ideal.hostReduceAdd reducesTo_S1x2048x8x1_S2048x8_d0_3 x z j = z + x (fun a => match a with
      | ⟨0, _⟩ => ⟨0, Nat.one_pos⟩ | ⟨1, _⟩ => ⟨(j 0).val, (j 0).isLt⟩ | ⟨2, _⟩ => ⟨(j 1).val, (j 1).isLt⟩ | ⟨3, _⟩ => ⟨0, Nat.one_pos⟩) := by
  refine reduce_one _ x z j _ (funext fun a => Fin.ext ?_) fun i e => funext fun a => Fin.ext ?_
  · match a with
    | ⟨0, _⟩ => exact Shape.ReducesTo.drop_apply_val_of_eq reducesTo_S1x2048x8x1_S2048x8_d0_3 _ 0 1
    | ⟨1, _⟩ => exact Shape.ReducesTo.drop_apply_val_of_eq reducesTo_S1x2048x8x1_S2048x8_d0_3 _ 1 2
  · subst e
    match a with
    | ⟨0, _⟩ => exact Nat.lt_one_iff.1 (i 0).isLt
    | ⟨1, _⟩ => exact (Shape.ReducesTo.drop_apply_val_of_eq reducesTo_S1x2048x8x1_S2048x8_d0_3 i 0 1).symm
    | ⟨2, _⟩ => exact (Shape.ReducesTo.drop_apply_val_of_eq reducesTo_S1x2048x8x1_S2048x8_d0_3 i 1 2).symm
    | ⟨3, _⟩ => exact Nat.lt_one_iff.1 (i 3).isLt

namespace Data.Reads
variable {d : Data} {x0 : FVec Ideal S2048x12288 .f32} {x1 : FVec Ideal S8x512 .f32} {x2 : FVec Ideal S2048x4096 .f32} (r : d.Reads x0 x1 x2)
include r

/-! ## The norm -/

theorem v171 (i : S1x2048x8x512.Idx) :
    val_main_v171 (F := Ideal) x0 i = ((d.row Num.C (i 1).val (i 2).val (i 3).val : ℝ) : EReal) := by
  rw [val_main_v171_apply, val_main_v170_apply, val_main_v169_apply, val_main_v168_apply, val_main_v167_apply, val_main_v166_apply]
  exact r_sub (r.v165 _) (r_div (r_zsum bits_zero (coe_sum_of (f := fun e => d.row Num.O (i 1).val (i 2).val e) fun e => r.v165 _)) bits_512
    (by norm_num))
theorem v178 (i : S1x2048x8x1.Idx) :
    val_main_v178 (F := Ideal) x0 i = ((d.row1 Num.var (i 1).val (i 2).val : ℝ) : EReal) := by
  rw [val_main_v178_apply, val_main_v177_apply, val_main_v176_apply, val_main_v175_apply, val_main_v174_apply, val_main_v173_apply]
  refine r_add (r_div (r_zsum bits_zero (coe_sum_of (f := fun e => d.row Num.C (i 1).val (i 2).val e * d.row Num.C (i 1).val (i 2).val e)
    fun e => ?_)) bits_512 (by norm_num)) bits_eps
  rw [val_main_v172_apply]
  exact r_mul (r.v171 _) (r.v171 _)
theorem v179 (i : S1x2048x8x1.Idx) :
    val_main_v179 (F := Ideal) x0 i = ((d.row1 Num.R (i 1).val (i 2).val : ℝ) : EReal) := by
  rw [val_main_v179_apply]
  exact r_rsqrt (r.v178 _) (Num.var_pos _ _)
theorem v182 (i : S1x2048x8x1.Idx) : val_main_v182 (F := Ideal) x0 i =
    ((-(1 / 2) * (d.row1 Num.R (i 1).val (i 2).val / d.row1 Num.var (i 1).val (i 2).val) : ℝ) : EReal) := by
  rw [val_main_v182_apply, val_main_v181_apply, val_main_v180_apply]
  exact r_mul bits_mhalf (r_div (r.v179 _) (r.v178 _) (Num.var_pos _ _).ne')
theorem v184 (i : S1x2048x8x512.Idx) :
    val_main_v184 (F := Ideal) x0 i = ((d.row Num.H (i 1).val (i 2).val (i 3).val : ℝ) : EReal) := by
  rw [val_main_v184_apply, val_main_v183_apply]
  exact r_mul (r.v171 _) (r.v179 _)
theorem v187 (i : S1x2048x8x512.Idx) : val_main_v187 (F := Ideal) x0 x1 i =
    ((d.row Num.H (i 1).val (i 2).val (i 3).val * d.A (i 2).val (i 3).val : ℝ) : EReal) := by
  rw [val_main_v187_apply, val_main_v186_apply, val_main_v185_apply]
  exact r_mul (r.v184 _) (r.A _)

/-! ## The gate -/

theorem v188 (i : S1x2048x4096.Idx) : val_main_v188 (F := Ideal) x0 x1 i =
    ((d.row Num.H (i 1).val ((i 2).val / 512) ((i 2).val % 512) * d.A ((i 2).val / 512) ((i 2).val % 512) : ℝ) : EReal) := by
  rw [val_main_v188_apply, r.v187]
  have h0 : (i 0).val < 1 := (i 0).isLt
  have h1 : (i 1).val < 2048 := (i 1).isLt
  have h2 : (i 2).val < 4096 := (i 2).isLt
  refine at3 (fun t h e => d.row Num.H t h e * d.A h e) ?_ ?_ ?_
  · simp only [idx_main_v188]; omega
  · simp only [idx_main_v188]; omega
  · simp only [idx_main_v188]; omega
theorem v4 (i : S1x2048x4096.Idx) : val_main_v4 (F := Ideal) x0 i =
    ((d.row Num.g (i 1).val ((i 2).val / 512) ((i 2).val % 512) : ℝ) : EReal) := by
  rw [val_main_v4_apply, val_main_v0_apply, r.P]
  show _ = ((d.P (64 * ((i 1).val / 64) + (i 1).val % 64) (8192 + 512 * ((i 2).val / 512) + (i 2).val % 512) : ℝ) : EReal)
  refine at2 d.P ?_ ?_
  · simp only [idx_main_v0, idx_main_v4]; omega
  · simp only [idx_main_v0, idx_main_v4]; omega
theorem v191 (i : S1x2048x4096.Idx) : val_main_v191 (F := Ideal) x2 i =
    ((d.row Num.dog (i 1).val ((i 2).val / 512) ((i 2).val % 512) : ℝ) : EReal) := by
  rw [val_main_v191_apply, r.D]
  show _ = ((d.D (64 * ((i 1).val / 64) + (i 1).val % 64) (512 * ((i 2).val / 512) + (i 2).val % 512) : ℝ) : EReal)
  refine at2 d.D ?_ ?_
  · simp only [idx_main_v191]; omega
  · simp only [idx_main_v191]; omega
theorem sig (i : S1x2048x4096.Idx) : val_main_v189_2 (F := Ideal) x0 i =
    ((sgm (d.row Num.g (i 1).val ((i 2).val / 512) ((i 2).val % 512)) : ℝ) : EReal) := by
  rw [val_main_v189_2_apply, val_main_call1_v4_apply, val_main_call1_v3_apply, val_main_call1_v2_apply, val_main_call1_v1_apply,
    val_main_call1_v0_apply]
  exact r_div bits_one (r_add bits_one (r_exp (r_neg (r.v4 i)))) (by positivity)
/-- The gate's gradient. -/
theorem v194 (i : S1x2048x4096.Idx) : val_main_v194 (F := Ideal) x0 x1 x2 i =
    ((d.row Num.dg (i 1).val ((i 2).val / 512) ((i 2).val % 512) : ℝ) : EReal) := by
  have e : val_main_v192 (F := Ideal) x0 x1 x2 i = ((d.row Num.H (i 1).val ((i 2).val / 512) ((i 2).val % 512) *
      d.A ((i 2).val / 512) ((i 2).val % 512) * d.row Num.dog (i 1).val ((i 2).val / 512) ((i 2).val % 512) : ℝ) : EReal) := by
    rw [val_main_v192_apply]
    exact r_mul (r.v188 i) (r.v191 i)
  rw [val_main_v194_apply, val_main_call2_v1_apply, val_main_call2_v2_apply, val_main_call2_v0_apply, val_main_v189_1_apply,
    val_main_call1_v7_apply, val_main_call1_v6_apply]
  exact r_congr (r_add (r_mul e (r.sig i)) (r_mul (r_mul (r.v4 i) e) (r_mul (r.sig i) (r_sub bits_one (r.sig i)))))
    (Num.dg_eq (d.at0 ((i 2).val / 512) ((i 1).val / 64)) ((i 1).val % 64) ((i 2).val % 512))
/-- What reaches the norm's output before the gain. -/
theorem v195 (i : S1x2048x8x512.Idx) :
    val_main_v195 (F := Ideal) x0 x2 i = ((d.row Num.dn (i 1).val (i 2).val (i 3).val : ℝ) : EReal) := by
  rw [val_main_v195_apply, val_main_v193_apply, val_main_v189_0_apply]
  refine (r_mul (r.v191 _) (r_mul (r.v4 _) (r.sig _))).trans ?_
  have h0 : (i 0).val < 1 := (i 0).isLt
  have h1 : (i 1).val < 2048 := (i 1).isLt
  have h2 : (i 2).val < 8 := (i 2).isLt
  have h3 : (i 3).val < 512 := (i 3).isLt
  refine at3 (fun t h e => d.row Num.dog t h e * (d.row Num.g t h e * sgm (d.row Num.g t h e))) ?_ ?_ ?_
  · simp only [idx_main_v195]; omega
  · simp only [idx_main_v195]; omega
  · simp only [idx_main_v195]; omega
/-- The gain's gradient. -/
theorem v201 (i : S8x512.Idx) : val_main_v201 (F := Ideal) x0 x2 i =
    ((∑ t ∈ range 2048, d.row Num.H t (i 0).val (i 1).val * d.row Num.dn t (i 0).val (i 1).val : ℝ) : EReal) := by
  have h0 : (i 0).val < 8 := (i 0).isLt
  have h1 : (i 1).val < 512 := (i 1).isLt
  unfold val_main_v201
  simp only [Host.reduceAdd, Ideal.hostReduceAdd_def]
  rw [drop_8_512]
  refine r_zsum bits_zero ?_
  rw [val_main_v198_apply, val_main_v197_apply]
  refine r_zsum bits_zero (coe_sum_of
    (f := fun t => d.row Num.H t (i 0).val (i 1).val * d.row Num.dn t (i 0).val (i 1).val) fun t => ?_)
  rw [val_main_v196_apply]
  refine (r_mul (r.v184 _) (r.v195 _)).trans (at2 (fun h e => d.row Num.H _ h e * d.row Num.dn _ h e) ?_ ?_)
  · simp only [idx_main_v197, idx_main_v198]; omega
  · simp only [idx_main_v197, idx_main_v198]; omega

/-! ## Back through the norm -/

theorem v200 (i : S1x2048x8x512.Idx) : val_main_v200 (F := Ideal) x0 x1 x2 i =
    ((d.row Num.dh (i 1).val (i 2).val (i 3).val : ℝ) : EReal) := by
  rw [val_main_v200_apply, val_main_v199_apply, val_main_v185_apply]
  exact r_mul (r.v195 _) (r.A _)
theorem v209 (i : S1x2048x8x1.Idx) : val_main_v209 (F := Ideal) x0 x1 x2 i =
    ((d.row1 Num.dvar (i 1).val (i 2).val : ℝ) : EReal) := by
  rw [val_main_v209_apply, val_main_v208_apply, val_main_v207_apply, val_main_v204_apply, val_main_v203_apply]
  refine r_div (r_mul ?_ (r.v182 _)) bits_512 (by norm_num)
  refine r_zsum bits_zero ((coe_sum_of (f := fun e => d.row Num.C (i 1).val (i 2).val e * d.row Num.dh (i 1).val (i 2).val e) fun e => ?_))
  rw [val_main_v202_apply]
  have h0 : (i 0).val < 1 := (i 0).isLt
  have h1 : (i 1).val < 2048 := (i 1).isLt
  have h2 : (i 2).val < 8 := (i 2).isLt
  have h3 : (i 3).val < 1 := (i 3).isLt
  refine (r_mul (r.v171 _) (r.v200 _)).trans (at2 (fun t h => d.row Num.C t h _ * d.row Num.dh t h _) ?_ ?_)
  · simp only [idx_main_v203, idx_main_v204]; omega
  · simp only [idx_main_v203, idx_main_v204]; omega
theorem v212 (i : S1x2048x8x512.Idx) : val_main_v212 (F := Ideal) x0 x1 x2 i =
    ((d.row1 Num.dvar (i 1).val (i 2).val : ℝ) : EReal) := by
  rw [val_main_v212_apply, val_main_v211_apply]
  unfold val_main_v210
  simp only [Host.reduceAdd, Ideal.hostReduceAdd_def]
  rw [drop_2048_8]
  exact r_zsum bits_zero (r.v209 _)
theorem v216 (i : S1x2048x8x512.Idx) : val_main_v216 (F := Ideal) x0 x1 x2 i =
    ((d.row Num.dC (i 1).val (i 2).val (i 3).val : ℝ) : EReal) := by
  rw [val_main_v216_apply, val_main_v214_apply, val_main_v206_apply, val_main_v205_apply, val_main_v213_apply, val_main_v215_apply]
  exact r_add (r_add (r_mul (r.v200 _) (r.v179 _)) (r_mul (r.v171 _) (r.v212 _))) (r_mul (r.v212 _) (r.v171 _))
theorem v221 (i : S1x2048x8x1.Idx) : val_main_v221 (F := Ideal) x0 x1 x2 i =
    (((∑ e ∈ range 512, -d.row Num.dC (i 1).val (i 2).val e) / 512 : ℝ) : EReal) := by
  rw [val_main_v221_apply, val_main_v220_apply, val_main_v219_apply, val_main_v218_apply]
  refine r_div ?_ bits_512 (by norm_num)
  refine r_zsum bits_zero ((coe_sum_of (f := fun e => -d.row Num.dC (i 1).val (i 2).val e) fun e => ?_))
  rw [val_main_v217_apply]
  have h0 : (i 0).val < 1 := (i 0).isLt
  have h1 : (i 1).val < 2048 := (i 1).isLt
  have h2 : (i 2).val < 8 := (i 2).isLt
  have h3 : (i 3).val < 1 := (i 3).isLt
  refine (r_neg (r.v216 _)).trans (at2 (fun t h => -d.row Num.dC t h _) ?_ ?_)
  · simp only [idx_main_v218, idx_main_v219]; omega
  · simp only [idx_main_v218, idx_main_v219]; omega
theorem v225 (i : S1x2048x8x512.Idx) : val_main_v225 (F := Ideal) x0 x1 x2 i =
    ((d.row Num.dO (i 1).val (i 2).val (i 3).val : ℝ) : EReal) := by
  rw [val_main_v225_apply, val_main_v224_apply, val_main_v223_apply]
  unfold val_main_v222
  simp only [Host.reduceAdd, Ideal.hostReduceAdd_def]
  rw [drop_2048_8]
  exact r_congr (r_add (r.v216 _) (r_zsum bits_zero (r.v221 _))) (Num.dO_eq (d.at0 (i 2).val ((i 1).val / 64)) ((i 1).val % 64) (i 3).val)
/-- The attention output's gradient, in chunks. -/
theorem v227 (i : S1x8x32x64x512.Idx) : val_main_v227 (F := Ideal) x0 x1 x2 i =
    (((d.at0 (i 1).val (i 2).val).dO (i 3).val (i 4).val : ℝ) : EReal) := by
  rw [val_main_v227_apply, val_main_v226_apply, r.v225]
  have h0 : (i 0).val < 1 := (i 0).isLt
  have h1 : (i 1).val < 8 := (i 1).isLt
  have h2 : (i 2).val < 32 := (i 2).isLt
  have h3 : (i 3).val < 64 := (i 3).isLt
  have h4 : (i 4).val < 512 := (i 4).isLt
  have e : d.row Num.dO (64 * (i 2).val + (i 3).val) (i 1).val (i 4).val = (d.at0 (i 1).val (i 2).val).dO (i 3).val (i 4).val := by
    unfold Data.row
    rw [show (64 * (i 2).val + (i 3).val) / 64 = (i 2).val by omega, show (64 * (i 2).val + (i 3).val) % 64 = (i 3).val by omega]
  rw [← e]
  refine at3 (d.row Num.dO) ?_ ?_ ?_
  · simp only [idx_main_v226, idx_main_v227]; omega
  · simp only [idx_main_v226, idx_main_v227]; omega
  · simp only [idx_main_v226, idx_main_v227]; omega
end Data.Reads

end Cert.Proof
-- ==== Proof.Input.lean ====
/- THE BLOCKS OF A GRID POINT ARE A CHUNK OF THE LAYER: point `t` computes chunk `31 - t % 32` of the four heads `4 (t / 32) + b`. -/
module

public import proofs.«01_k».proof.Proof.RefC
public import proofs.«01_k».proof.Proof.Tables

@[expose] public section

set_option maxRecDepth 16384

noncomputable section

namespace Cert.Proof

open Idealize.ShloMosaic Cert.KernelIdeal Cert.KernelIdeal.Gen Finset

/-! ## Where the windows are -/

theorem pos0 : ∀ t : Fin cfg0.N, win0_0.index t = ![31 - t.val % 32, t.val / 32] := (by decide +kernel : ∀ t : Fin grid0.N, _)
theorem pos1 : ∀ t : Fin cfg0.N, win0_1.index t = ![31 - t.val % 32, 2 + t.val / 32] := (by decide +kernel : ∀ t : Fin grid0.N, _)
theorem pos2 : ∀ t : Fin cfg0.N, win0_2.index t = ![31 - t.val % 32, 2 + t.val / 32] := (by decide +kernel : ∀ t : Fin grid0.N, _)
theorem pos3 : ∀ t : Fin cfg0.N, win0_3.index t = ![31 - t.val % 32, 4 + t.val / 32] := (by decide +kernel : ∀ t : Fin grid0.N, _)
theorem pos4 : ∀ t : Fin cfg0.N, win0_4.index t = ![31 - t.val % 32, 0] := (by decide +kernel : ∀ t : Fin grid0.N, _)
theorem pos5 : ∀ t : Fin cfg0.N, win0_5.index t = ![31 - t.val % 32, 0] := (by decide +kernel : ∀ t : Fin grid0.N, _)
theorem pos6 : ∀ t : Fin cfg0.N, win0_6.index t = ![t.val / 32, 0, 0] := (by decide +kernel : ∀ t : Fin grid0.N, _)
theorem pos7 : ∀ t : Fin cfg0.N, win0_7.index t = ![t.val / 32, 0, 0] := (by decide +kernel : ∀ t : Fin grid0.N, _)
theorem pos8 : ∀ t : Fin cfg0.N, win0_8.index t = ![t.val / 32, 0, 0] := (by decide +kernel : ∀ t : Fin grid0.N, _)
theorem pos9 : ∀ t : Fin cfg0.N, win0_9.index t = ![t.val / 32, 0, 0] := (by decide +kernel : ∀ t : Fin grid0.N, _)
theorem pos10 : ∀ t : Fin cfg0.N, win0_10.index t = ![t.val / 32, 0, 0] := (by decide +kernel : ∀ t : Fin grid0.N, _)
theorem pos11 : ∀ t : Fin cfg0.N, win0_11.index t = ![t.val / 32, 31 - t.val % 32, 0, 0] := (by decide +kernel : ∀ t : Fin grid0.N, _)
theorem pos12 : ∀ t : Fin cfg0.N, win0_12.index t = ![31 - t.val % 32, t.val / 32] := (by decide +kernel : ∀ t : Fin grid0.N, _)

theorem at4 (P : ℕ → ℕ → ℕ → ℕ → ℝ) {a b c e a' b' c' e' : ℕ} (ha : a = a') (hb : b = b') (hc : c = c') (he : e = e') :
    ((P a b c e : ℝ) : EReal) = ((P a' b' c' e' : ℝ) : EReal) := by
  rw [ha, hb, hc, he]

/-! ## A head's cut out of four heads' blocks -/

theorem cut256_is {x : FVec Ideal S64x1024 .f32} {f g : ℕ → ℕ → ℝ} (hx : ∀ i, x i = ((f (i 0).val (i 1).val : ℝ) : EReal)) (b : Fin 4)
    (e : ∀ i j, f i (256 * b.val + j) = g i j) : Mat (cut256 x b) g := fun i => by
  refine (hx _).trans ((at2 f ?_ ?_).trans (congrArg _ (e _ _)))
  · show 0 + 1 * (i 0).val = (i 0).val; omega
  · show 256 * b.val + 1 * (i 1).val = _; omega
theorem cut512_is {x : FVec Ideal S64x2048 .f32} {f g : ℕ → ℕ → ℝ} (hx : ∀ i, x i = ((f (i 0).val (i 1).val : ℝ) : EReal)) (b : Fin 4)
    (e : ∀ i j, f i (512 * b.val + j) = g i j) : Mat (cut512 x b) g := fun i => by
  refine (hx _).trans ((at2 f ?_ ?_).trans (congrArg _ (e _ _)))
  · show 0 + 1 * (i 0).val = (i 0).val; omega
  · show 512 * b.val + 1 * (i 1).val = _; omega
theorem pickSt_is {x : FVec Ideal S4x1x256x512 .bf16} {f : ℕ → ℕ → ℕ → ℝ} (hx : ∀ i, x i = ((f (i 0).val (i 2).val (i 3).val : ℝ) : EReal))
    (b : Fin 4) (i : S1x1x256x512.Idx) : pickSt x b i = ((f b.val (i 2).val (i 3).val : ℝ) : EReal) := by
  have h0 : (i 0).val = 0 := Nat.lt_one_iff.1 (i 0).isLt
  refine (hx _).trans (at3 f ?_ ?_ ?_)
  · show b.val + 1 * (i 0).val = b.val; omega
  · show 0 + 1 * (i 2).val = (i 2).val; omega
  · show 0 + 1 * (i 3).val = (i 3).val; omega

/-- The blocks' entries, for heads `4 T + b` and chunk `n`. -/
structure Ins.Of (I : Ins) (d : Data) (T n : ℕ) : Prop where
  q : ∀ x, I.q x = ((d.P (64 * n + (x 0).val) (1024 * T + (x 1).val) : ℝ) : EReal)
  k : ∀ x, I.k x = ((d.P (64 * n + (x 0).val) (2048 + 1024 * T + (x 1).val) : ℝ) : EReal)
  v : ∀ x, I.v x = ((d.P (64 * n + (x 0).val) (4096 + 2048 * T + (x 1).val) : ℝ) : EReal)
  g : ∀ x, I.g x = ((d.P (64 * n + (x 0).val) (8192 + 2048 * T + (x 1).val) : ℝ) : EReal)
  dog : ∀ x, I.dog x = ((d.D (64 * n + (x 0).val) (2048 * T + (x 1).val) : ℝ) : EReal)
  cos : ∀ x, I.cos x = ((d.cos (64 * n + (x 0).val) (x 1).val : ℝ) : EReal)
  sin : ∀ x, I.sin x = ((d.sin (64 * n + (x 0).val) (x 1).val : ℝ) : EReal)
  dm : ∀ x, I.dm x = ((Real.exp (d.lg (4 * T + (x 0).val) * |((x 1).val : ℝ) - ((x 2).val : ℝ)|) : ℝ) : EReal)
  qd : ∀ x, I.qd x = ((Real.exp (d.lg (4 * T + (x 0).val) * (((x 1).val : ℝ) + 1)) : ℝ) : EReal)
  kd : ∀ x, I.kd x = ((Real.exp (d.lg (4 * T + (x 0).val) * (63 - ((x 1).val : ℝ))) : ℝ) : EReal)
  cd : ∀ x, I.cd x = ((Real.exp (d.lg (4 * T + (x 0).val) * 64) : ℝ) : EReal)
  gain : ∀ x, I.gain x = ((d.A (4 * T + (x 0).val) (x 2).val : ℝ) : EReal)
  st : ∀ x, I.st x = ((d.st (4 * T + (x 0).val) n (x 2).val (x 3).val : ℝ) : EReal)

/-- What each head computes from is its chunk's numbers, for any gradient carried to the point. -/
theorem Ins.Of.is {I : Ins} {d : Data} {T n : ℕ} (h : I.Of d T n) (ds : FVec Ideal S4x256x512 .f32) (DS : ℕ → ℕ → ℕ → ℝ)
    (hds : ∀ i, ds i = ((DS (i 0).val (i 1).val (i 2).val : ℝ) : EReal)) (b : Fin 4) :
    (I.blk ds b).Is (d.num (4 * T + b.val) n (DS b.val)) where
  cos := by
    show Mat (shapeCast S64x128 I.cos shapeCasts_S64x128_S64x128) _
    rw [shapeCast_id]
    exact h.cos
  sin := by
    show Mat (shapeCast S64x128 I.sin shapeCasts_S64x128_S64x128) _
    rw [shapeCast_id]
    exact h.sin
  q := cut256_is (f := fun i j => d.P (64 * n + i) (1024 * T + j)) h.q b fun i j => by
    show d.P _ _ = d.P _ (256 * (4 * T + b.val) + j)
    congr 1; omega
  k := cut256_is (f := fun i j => d.P (64 * n + i) (2048 + 1024 * T + j)) h.k b fun i j => by
    show d.P _ _ = d.P _ (2048 + 256 * (4 * T + b.val) + j)
    congr 1; omega
  v := cut512_is (f := fun i j => d.P (64 * n + i) (4096 + 2048 * T + j)) h.v b fun i j => by
    show d.P _ _ = d.P _ (4096 + 512 * (4 * T + b.val) + j)
    congr 1; omega
  g := cut512_is (f := fun i j => d.P (64 * n + i) (8192 + 2048 * T + j)) h.g b fun i j => by
    show d.P _ _ = d.P _ (8192 + 512 * (4 * T + b.val) + j)
    congr 1; omega
  dog := cut512_is (f := fun i j => d.D (64 * n + i) (2048 * T + j)) h.dog b fun i j => by
    show d.D _ _ = d.D _ (512 * (4 * T + b.val) + j)
    congr 1; omega
  dm := Mat.drop1 (f := fun a e => Real.exp (d.lg (4 * T + b.val) * |(a : ℝ) - (e : ℝ)|)) (h := shapeCasts_S1x64x64_S64x64)
    (pick_apply (f := fun h a e => Real.exp (d.lg (4 * T + h) * |(a : ℝ) - (e : ℝ)|)) h.dm b)
  qd := Mat.drop1 (f := fun a _ => Real.exp (d.lg (4 * T + b.val) * ((a : ℝ) + 1))) (h := shapeCasts_S1x64x1_S64x1)
    (pick_apply (f := fun h a _ => Real.exp (d.lg (4 * T + h) * ((a : ℝ) + 1))) h.qd b)
  kd := Mat.drop1 (f := fun a _ => Real.exp (d.lg (4 * T + b.val) * (63 - (a : ℝ)))) (h := shapeCasts_S1x64x1_S64x1)
    (pick_apply (f := fun h a _ => Real.exp (d.lg (4 * T + h) * (63 - (a : ℝ)))) h.kd b)
  gain := Mat.drop1 (f := fun _ e => d.A (4 * T + b.val) e) (h := shapeCasts_S1x1x512_S1x512)
    (pick_apply (f := fun h _ e => d.A (4 * T + h) e) h.gain b)
  st := Mat.drop2 (f := d.st (4 * T + b.val) n) (h := shapeCasts_S1x1x256x512_S256x512)
    (pickSt_is (f := fun h a e => d.st (4 * T + h) n a e) h.st b)
  cd := Mat.drop1 (f := fun _ _ => Real.exp (d.lg (4 * T + b.val) * 64)) (h := shapeCasts_S1x1x1_S1x1)
    (pick_apply (f := fun h _ _ => Real.exp (d.lg (4 * T + h) * 64)) h.cd b)
  ds := Mat.drop1 (f := DS b.val) (h := shapeCasts_S1x256x512_S256x512) (pick_apply hds b)

/-! ## The blocks -/

variable {m : (ℓ : Loc nD τ sig) → Buf (Elt Ideal) ℓ} {c : Dev nD} {d : Data}
  (r : d.Reads (m (c.tc.loc main_arg0)) (m (c.tc.loc main_arg1)) (m (c.tc.loc main_arg2))) (t : Fin cfg0.N)
include r

theorem stT_apply (i : S8x32x256x512.Idx) : stT (m (c.tc.loc main_arg0)) i =
    ((d.st (i 0).val (i 1).val (i 2).val (i 3).val : ℝ) : EReal) := by
  show shapeCast S8x32x256x512 (Cert.ReferenceIdeal.Read.val_main_v161 (F := Ideal) (m (c.tc.loc main_arg0))) _ i = _
  rw [shapeCast_apply _ _ i (fun a => match a with
    | ⟨0, _⟩ => ⟨0, Nat.one_pos⟩ | ⟨1, _⟩ => ⟨(i 0).val, (i 0).isLt⟩ | ⟨2, _⟩ => ⟨(i 1).val, (i 1).isLt⟩
    | ⟨3, _⟩ => ⟨(i 2).val, (i 2).isLt⟩ | ⟨4, _⟩ => ⟨(i 3).val, (i 3).isLt⟩ : Cert.ReferenceIdeal.S1x8x32x256x512.Idx) (by
      rw [Shape.rowMajor_val_five, Shape.rowMajor_val_four]
      show (((0 * 8 + (i 0).val) * 32 + (i 1).val) * 256 + (i 2).val) * 512 + (i 3).val = _
      rw [Nat.zero_mul, Nat.zero_add]
      rfl)]
  exact r.v161 _
theorem q_blk (x : S64x1024.Idx) : (ins m c t).q x =
    ((d.P (64 * (31 - t.val % 32) + (x 0).val) (1024 * (t.val / 32) + (x 1).val) : ℝ) : EReal) := by
  show iblk m c 0 t x = _
  blk_simp [iblk]
  rw [V_main_arg0, r.P]
  refine at2 d.P ?_ ?_
  · blk_simp [pos0] <;> simp <;> omega
  · blk_simp [pos0] <;> simp <;> omega
theorem k_blk (x : S64x1024.Idx) : (ins m c t).k x =
    ((d.P (64 * (31 - t.val % 32) + (x 0).val) (2048 + 1024 * (t.val / 32) + (x 1).val) : ℝ) : EReal) := by
  show iblk m c 1 t x = _
  blk_simp [iblk]
  rw [V_main_arg0, r.P]
  refine at2 d.P ?_ ?_
  · blk_simp [pos1] <;> simp <;> omega
  · blk_simp [pos1] <;> simp <;> omega
theorem v_blk (x : S64x2048.Idx) : (ins m c t).v x =
    ((d.P (64 * (31 - t.val % 32) + (x 0).val) (4096 + 2048 * (t.val / 32) + (x 1).val) : ℝ) : EReal) := by
  show iblk m c 2 t x = _
  blk_simp [iblk]
  rw [V_main_arg0, r.P]
  refine at2 d.P ?_ ?_
  · blk_simp [pos2] <;> simp <;> omega
  · blk_simp [pos2] <;> simp <;> omega
theorem g_blk (x : S64x2048.Idx) : (ins m c t).g x =
    ((d.P (64 * (31 - t.val % 32) + (x 0).val) (8192 + 2048 * (t.val / 32) + (x 1).val) : ℝ) : EReal) := by
  show iblk m c 3 t x = _
  blk_simp [iblk]
  rw [V_main_arg0, r.P]
  refine at2 d.P ?_ ?_
  · blk_simp [pos3] <;> simp <;> omega
  · blk_simp [pos3] <;> simp <;> omega
theorem dog_blk (x : S64x2048.Idx) : (ins m c t).dog x =
    ((d.D (64 * (31 - t.val % 32) + (x 0).val) (2048 * (t.val / 32) + (x 1).val) : ℝ) : EReal) := by
  show iblk m c 12 t x = _
  blk_simp [iblk]
  rw [V_main_arg2, r.D]
  refine at2 d.D ?_ ?_
  · blk_simp [pos12] <;> simp <;> omega
  · blk_simp [pos12] <;> simp <;> omega
theorem cos_blk (x : S64x128.Idx) : (ins m c t).cos x =
    ((d.cos (64 * (31 - t.val % 32) + (x 0).val) (x 1).val : ℝ) : EReal) := by
  show iblk m c 4 t x = _
  blk_simp [iblk]
  rw [V_cos, r.cos]
  refine at2 d.cos ?_ ?_
  · blk_simp [pos4] <;> simp <;> omega
  · blk_simp [pos4] <;> simp <;> omega
theorem sin_blk (x : S64x128.Idx) : (ins m c t).sin x =
    ((d.sin (64 * (31 - t.val % 32) + (x 0).val) (x 1).val : ℝ) : EReal) := by
  show iblk m c 5 t x = _
  blk_simp [iblk]
  rw [V_sin, r.sin]
  refine at2 d.sin ?_ ?_
  · blk_simp [pos5] <;> simp <;> omega
  · blk_simp [pos5] <;> simp <;> omega
theorem dm_blk (x : S4x64x64.Idx) : (ins m c t).dm x =
    ((Real.exp (d.lg (4 * (t.val / 32) + (x 0).val) * |((x 1).val : ℝ) - ((x 2).val : ℝ)|) : ℝ) : EReal) := by
  show iblk m c 6 t x = _
  blk_simp [iblk]
  rw [V_dm, r.v110]
  refine at3 (fun h a b : ℕ => Real.exp (d.lg h * |(a : ℝ) - (b : ℝ)|)) ?_ ?_ ?_
  · blk_simp [pos6] <;> simp <;> omega
  · blk_simp [pos6] <;> simp <;> omega
  · blk_simp [pos6] <;> simp <;> omega
theorem qd_blk (x : S4x64x1.Idx) : (ins m c t).qd x =
    ((Real.exp (d.lg (4 * (t.val / 32) + (x 0).val) * (((x 1).val : ℝ) + 1)) : ℝ) : EReal) := by
  show iblk m c 7 t x = _
  blk_simp [iblk]
  rw [V_qd]
  refine (r.v123 _).trans (at2 (fun h a : ℕ => Real.exp (d.lg h * ((a : ℝ) + 1))) ?_ ?_)
  · show ((win0_7.blk t).view.emb x 0).val = _
    blk_simp [pos7] <;> simp <;> omega
  · show ((win0_7.blk t).view.emb x 1).val = _
    blk_simp [pos7] <;> simp
theorem kd_blk (x : S4x64x1.Idx) : (ins m c t).kd x =
    ((Real.exp (d.lg (4 * (t.val / 32) + (x 0).val) * (63 - ((x 1).val : ℝ))) : ℝ) : EReal) := by
  show iblk m c 8 t x = _
  blk_simp [iblk]
  rw [V_kd, r.kd]
  refine at2 (fun h a : ℕ => Real.exp (d.lg h * (63 - (a : ℝ)))) ?_ ?_
  · blk_simp [pos8] <;> simp <;> omega
  · blk_simp [pos8] <;> simp <;> omega
theorem cd_blk (x : S4x1x1.Idx) : (ins m c t).cd x =
    ((Real.exp (d.lg (4 * (t.val / 32) + (x 0).val) * 64) : ℝ) : EReal) := by
  show iblk m c 9 t x = _
  blk_simp [iblk]
  rw [V_cd, Data.Tab.cd r.toTab]
  refine at1 (fun h : ℕ => Real.exp (d.lg h * 64)) ?_
  blk_simp [pos9] <;> simp <;> omega
theorem gain_blk (x : S4x1x512.Idx) : (ins m c t).gain x =
    ((d.A (4 * (t.val / 32) + (x 0).val) (x 2).val : ℝ) : EReal) := by
  show iblk m c 10 t x = _
  blk_simp [iblk]
  rw [V_gain]
  refine (r.A _).trans (at2 d.A ?_ ?_)
  · show ((win0_10.blk t).view.emb x 0).val = _
    blk_simp [pos10] <;> simp <;> omega
  · show ((win0_10.blk t).view.emb x 2).val = _
    blk_simp [pos10] <;> simp
theorem st_blk (x : S4x1x256x512.Idx) : (ins m c t).st x =
    ((d.st (4 * (t.val / 32) + (x 0).val) (31 - t.val % 32) (x 2).val (x 3).val : ℝ) : EReal) := by
  have h1 : (x 1).val = 0 := Nat.lt_one_iff.1 (x 1).isLt
  show iblk m c 11 t x = _
  blk_simp [iblk]
  rw [V_st]
  refine (stT_apply r _).trans (at4 d.st ?_ ?_ ?_ ?_)
  · blk_simp [pos11] <;> simp <;> omega
  · blk_simp [pos11] <;> simp <;> omega
  · blk_simp [pos11] <;> simp <;> omega
  · blk_simp [pos11] <;> simp <;> omega
theorem ins_of : (ins m c t).Of d (t.val / 32) (31 - t.val % 32) :=
  ⟨q_blk r t, k_blk r t, v_blk r t, g_blk r t, dog_blk r t, cos_blk r t, sin_blk r t, dm_blk r t, qd_blk r t, kd_blk r t, cd_blk r t,
    gain_blk r t, st_blk r t⟩
end Cert.Proof
-- ==== Proof.PointA.lean ====
/- THE POINTS THAT BEGIN A GROUP OF FOUR HEADS (the last chunk): from zero state gradient and zero gain gradient, each of the six
   values the point leaves is the kernel's formula of the blocks read. -/
module

public import proofs.«01_k».proof.Proof.Load

@[expose] public section

set_option maxRecDepth 16384

noncomputable section

namespace Cert.Proof

open Idealize.ShloMosaic Cert.KernelIdeal Cert.KernelIdeal.Gen Cert.KernelIdeal.Value Finset

variable (m : (ℓ : Loc nD τ sig) → Buf (Elt Ideal) ℓ) (c : Dev nD) (t : Fin cfg0.N)

theorem dq_A (h0 : t.val % 32 = 0) (N : ℕ → Num)
    (h : ∀ b : Fin 4, ((ins m c t).blk k0_pay4 b).Is (N b.val)) (y : S64x1024.Idx) :
    (outsAt0 m c t.val t.isLt).1 y = (((N ((y 1).val / 256)).dq (y 0).val ((y 1).val % 256) : ℝ) : EReal) := by
  rw [outsAt0_A m c t h0]
  dsimp only
  frame_open
  simp (disch := decide) only [↓ View.readCov_skip, ↓ View.readCov_cons_toLoadRect, ↓ View.readCov_fill]
  frame_out
  canon_tiles x e
  · refine (Eq.trans (congrFun ?_ x) ((h 3).dq x)).trans (at3 (fun b => (N b).dq) (show 3 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 2).dq x)).trans (at3 (fun b => (N b).dq) (show 2 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 1).dq x)).trans (at3 (fun b => (N b).dq) (show 1 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 0).dq x)).trans (at3 (fun b => (N b).dq) (show 0 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl

theorem dk_A (h0 : t.val % 32 = 0) (N : ℕ → Num)
    (h : ∀ b : Fin 4, ((ins m c t).blk k0_pay4 b).Is (N b.val)) (y : S64x1024.Idx) :
    (outsAt0 m c t.val t.isLt).2.1 y = (((N ((y 1).val / 256)).dk (y 0).val ((y 1).val % 256) : ℝ) : EReal) := by
  rw [outsAt0_A m c t h0]
  dsimp only
  frame_open
  simp (disch := decide) only [↓ View.readCov_skip, ↓ View.readCov_cons_toLoadRect, ↓ View.readCov_fill]
  frame_out
  canon_tiles x e
  · refine (Eq.trans (congrFun ?_ x) ((h 3).dk x)).trans (at3 (fun b => (N b).dk) (show 3 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 2).dk x)).trans (at3 (fun b => (N b).dk) (show 2 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 1).dk x)).trans (at3 (fun b => (N b).dk) (show 1 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 0).dk x)).trans (at3 (fun b => (N b).dk) (show 0 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl

theorem dv_A (h0 : t.val % 32 = 0) (N : ℕ → Num)
    (h : ∀ b : Fin 4, ((ins m c t).blk k0_pay4 b).Is (N b.val)) (y : S64x2048.Idx) :
    (outsAt0 m c t.val t.isLt).2.2.1 y = (((N ((y 1).val / 512)).dv (y 0).val ((y 1).val % 512) : ℝ) : EReal) := by
  rw [outsAt0_A m c t h0]
  dsimp only
  frame_open
  simp (disch := decide) only [↓ View.readCov_skip, ↓ View.readCov_cons_toLoadRect, ↓ View.readCov_fill]
  frame_out
  canon_tiles x e
  · refine (Eq.trans (congrFun ?_ x) ((h 3).dv x)).trans (at3 (fun b => (N b).dv) (show 3 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 2).dv x)).trans (at3 (fun b => (N b).dv) (show 2 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 1).dv x)).trans (at3 (fun b => (N b).dv) (show 1 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 0).dv x)).trans (at3 (fun b => (N b).dv) (show 0 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl

theorem dg_A (h0 : t.val % 32 = 0) (N : ℕ → Num)
    (h : ∀ b : Fin 4, ((ins m c t).blk k0_pay4 b).Is (N b.val)) (y : S64x2048.Idx) :
    (outsAt0 m c t.val t.isLt).2.2.2.1 y = (((N ((y 1).val / 512)).dg (y 0).val ((y 1).val % 512) : ℝ) : EReal) := by
  rw [outsAt0_A m c t h0]
  dsimp only
  frame_open
  simp (disch := decide) only [↓ View.readCov_skip, ↓ View.readCov_cons_toLoadRect, ↓ View.readCov_fill]
  frame_out
  canon_tiles x e
  · refine (Eq.trans (congrFun ?_ x) ((h 3).dg x)).trans (at3 (fun b => (N b).dg) (show 3 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 2).dg x)).trans (at3 (fun b => (N b).dg) (show 2 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 1).dg x)).trans (at3 (fun b => (N b).dg) (show 1 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 0).dg x)).trans (at3 (fun b => (N b).dg) (show 0 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl

theorem dgain_A (h0 : t.val % 32 = 0) (N : ℕ → Num)
    (h : ∀ b : Fin 4, ((ins m c t).blk k0_pay4 b).Is (N b.val))
    (G : ℕ → ℕ → ℝ) (hG : ∀ i, (k0_pay5 : FVec Ideal S4x1x512 .f32) i = ((G (i 0).val (i 2).val : ℝ) : EReal)) (y : S4x1x512.Idx) :
    (outsAt0 m c t.val t.isLt).2.2.2.2.1 y = ((G (y 0).val (y 2).val + (N (y 0).val).dgain (y 2).val : ℝ) : EReal) := by
  rw [outsAt0_A m c t h0]
  dsimp only
  frame_open
  simp (disch := decide) only [↓ View.readCov_skip, ↓ View.readCov_cons_toLoadRect, ↓ View.readCov_fill]
  frame_out
  refine (canon_hide [_, _, _, _] [_] y (View.cover_of_tiled_head _ _ _ rfl y)).trans ?_
  canon_tiles x e
  · refine (Eq.trans (congrFun ?_ x) (Ins.gsum_is _ _ _ 3 G hG (N 3) (h 3) x)).trans (at3 (fun b _ j => G b j + (N b).dgain j) (b := 0) (b' := 0) (show 3 = _ by omega) rfl (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) (Ins.gsum_is _ _ _ 2 G hG (N 2) (h 2) x)).trans (at3 (fun b _ j => G b j + (N b).dgain j) (b := 0) (b' := 0) (show 2 = _ by omega) rfl (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) (Ins.gsum_is _ _ _ 1 G hG (N 1) (h 1) x)).trans (at3 (fun b _ j => G b j + (N b).dgain j) (b := 0) (b' := 0) (show 1 = _ by omega) rfl (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) (Ins.gsum_is _ _ _ 0 G hG (N 0) (h 0) x)).trans (at3 (fun b _ j => G b j + (N b).dgain j) (b := 0) (b' := 0) (show 0 = _ by omega) rfl (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl

theorem dst_A (h0 : t.val % 32 = 0) (N : ℕ → Num)
    (h : ∀ b : Fin 4, ((ins m c t).blk k0_pay4 b).Is (N b.val)) (y : S4x256x512.Idx) :
    (outsAt0 m c t.val t.isLt).2.2.2.2.2 y = (((N (y 0).val).dst (y 1).val (y 2).val : ℝ) : EReal) := by
  rw [outsAt0_A m c t h0]
  dsimp only
  frame_open
  simp (disch := decide) only [↓ View.readCov_skip, ↓ View.readCov_cons_toLoadRect, ↓ View.readCov_fill]
  frame_out
  refine (canon_hide [_, _, _, _] [_] y (View.cover_of_tiled_head _ _ _ rfl y)).trans ?_
  canon_tiles x e
  · refine (Eq.trans (congrFun ?_ x) (Mat.add1 (h := shapeCasts_S256x512_S1x256x512) (h 3).dst x)).trans (at3 (fun b => (N b).dst) (show 3 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) (Mat.add1 (h := shapeCasts_S256x512_S1x256x512) (h 2).dst x)).trans (at3 (fun b => (N b).dst) (show 2 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) (Mat.add1 (h := shapeCasts_S256x512_S1x256x512) (h 1).dst x)).trans (at3 (fun b => (N b).dst) (show 1 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) (Mat.add1 (h := shapeCasts_S256x512_S1x256x512) (h 0).dst x)).trans (at3 (fun b => (N b).dst) (show 0 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl

end Cert.Proof
-- ==== Proof.PointB.lean ====
/- THE OTHER POINTS: from the state gradient and the gain gradient that the point before left, each of the six values the point
   leaves is the kernel's formula of the blocks read. -/
module

public import proofs.«01_k».proof.Proof.Load

@[expose] public section

set_option maxRecDepth 16384

noncomputable section

namespace Cert.Proof

open Idealize.ShloMosaic Cert.KernelIdeal Cert.KernelIdeal.Gen Cert.KernelIdeal.Value Finset

variable (m : (ℓ : Loc nD τ sig) → Buf (Elt Ideal) ℓ) (c : Dev nD) (t : Fin cfg0.N)

theorem dq_B (h0 : ¬ t.val % 32 = 0) (N : ℕ → Num)
    (h : ∀ b : Fin 4, ((ins m c t).blk (outsAt0 m c (t.val - 1) (Nat.lt_of_le_of_lt (Nat.sub_le _ _) t.isLt)).2.2.2.2.2 b).Is (N b.val)) (y : S64x1024.Idx) :
    (outsAt0 m c t.val t.isLt).1 y = (((N ((y 1).val / 256)).dq (y 0).val ((y 1).val % 256) : ℝ) : EReal) := by
  rw [outsAt0_B m c t h0]
  dsimp only
  frame_open
  simp (disch := decide) only [↓ View.readCov_skip, ↓ View.readCov_cons_toLoadRect, ↓ View.readCov_fill]
  frame_out
  canon_tiles x e
  · refine (Eq.trans (congrFun ?_ x) ((h 3).dq x)).trans (at3 (fun b => (N b).dq) (show 3 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 2).dq x)).trans (at3 (fun b => (N b).dq) (show 2 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 1).dq x)).trans (at3 (fun b => (N b).dq) (show 1 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 0).dq x)).trans (at3 (fun b => (N b).dq) (show 0 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl

theorem dk_B (h0 : ¬ t.val % 32 = 0) (N : ℕ → Num)
    (h : ∀ b : Fin 4, ((ins m c t).blk (outsAt0 m c (t.val - 1) (Nat.lt_of_le_of_lt (Nat.sub_le _ _) t.isLt)).2.2.2.2.2 b).Is (N b.val)) (y : S64x1024.Idx) :
    (outsAt0 m c t.val t.isLt).2.1 y = (((N ((y 1).val / 256)).dk (y 0).val ((y 1).val % 256) : ℝ) : EReal) := by
  rw [outsAt0_B m c t h0]
  dsimp only
  frame_open
  simp (disch := decide) only [↓ View.readCov_skip, ↓ View.readCov_cons_toLoadRect, ↓ View.readCov_fill]
  frame_out
  simp only [read_unread_whole]
  canon_tiles x e
  · refine (Eq.trans (congrFun ?_ x) ((h 3).dk x)).trans (at3 (fun b => (N b).dk) (show 3 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 2).dk x)).trans (at3 (fun b => (N b).dk) (show 2 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 1).dk x)).trans (at3 (fun b => (N b).dk) (show 1 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 0).dk x)).trans (at3 (fun b => (N b).dk) (show 0 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl

theorem dv_B (h0 : ¬ t.val % 32 = 0) (N : ℕ → Num)
    (h : ∀ b : Fin 4, ((ins m c t).blk (outsAt0 m c (t.val - 1) (Nat.lt_of_le_of_lt (Nat.sub_le _ _) t.isLt)).2.2.2.2.2 b).Is (N b.val)) (y : S64x2048.Idx) :
    (outsAt0 m c t.val t.isLt).2.2.1 y = (((N ((y 1).val / 512)).dv (y 0).val ((y 1).val % 512) : ℝ) : EReal) := by
  rw [outsAt0_B m c t h0]
  dsimp only
  frame_open
  simp (disch := decide) only [↓ View.readCov_skip, ↓ View.readCov_cons_toLoadRect, ↓ View.readCov_fill]
  frame_out
  simp only [read_unread_whole]
  canon_tiles x e
  · refine (Eq.trans (congrFun ?_ x) ((h 3).dv x)).trans (at3 (fun b => (N b).dv) (show 3 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 2).dv x)).trans (at3 (fun b => (N b).dv) (show 2 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 1).dv x)).trans (at3 (fun b => (N b).dv) (show 1 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 0).dv x)).trans (at3 (fun b => (N b).dv) (show 0 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl

theorem dg_B (h0 : ¬ t.val % 32 = 0) (N : ℕ → Num)
    (h : ∀ b : Fin 4, ((ins m c t).blk (outsAt0 m c (t.val - 1) (Nat.lt_of_le_of_lt (Nat.sub_le _ _) t.isLt)).2.2.2.2.2 b).Is (N b.val)) (y : S64x2048.Idx) :
    (outsAt0 m c t.val t.isLt).2.2.2.1 y = (((N ((y 1).val / 512)).dg (y 0).val ((y 1).val % 512) : ℝ) : EReal) := by
  rw [outsAt0_B m c t h0]
  dsimp only
  frame_open
  simp (disch := decide) only [↓ View.readCov_skip, ↓ View.readCov_cons_toLoadRect, ↓ View.readCov_fill]
  frame_out
  canon_tiles x e
  · refine (Eq.trans (congrFun ?_ x) ((h 3).dg x)).trans (at3 (fun b => (N b).dg) (show 3 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 2).dg x)).trans (at3 (fun b => (N b).dg) (show 2 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 1).dg x)).trans (at3 (fun b => (N b).dg) (show 1 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) ((h 0).dg x)).trans (at3 (fun b => (N b).dg) (show 0 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl

theorem dgain_B (h0 : ¬ t.val % 32 = 0) (N : ℕ → Num)
    (h : ∀ b : Fin 4, ((ins m c t).blk (outsAt0 m c (t.val - 1) (Nat.lt_of_le_of_lt (Nat.sub_le _ _) t.isLt)).2.2.2.2.2 b).Is (N b.val))
    (G : ℕ → ℕ → ℝ) (hG : ∀ i, ((outsAt0 m c (t.val - 1) (Nat.lt_of_le_of_lt (Nat.sub_le _ _) t.isLt)).2.2.2.2.1 : FVec Ideal S4x1x512 .f32) i = ((G (i 0).val (i 2).val : ℝ) : EReal)) (y : S4x1x512.Idx) :
    (outsAt0 m c t.val t.isLt).2.2.2.2.1 y = ((G (y 0).val (y 2).val + (N (y 0).val).dgain (y 2).val : ℝ) : EReal) := by
  rw [outsAt0_B m c t h0]
  dsimp only
  frame_open
  simp (disch := decide) only [↓ View.readCov_skip, ↓ View.readCov_cons_toLoadRect, ↓ View.readCov_fill]
  frame_out
  canon_tiles x e
  · refine (Eq.trans (congrFun ?_ x) (Ins.gsum_is _ _ _ 3 G hG (N 3) (h 3) x)).trans (at3 (fun b _ j => G b j + (N b).dgain j) (b := 0) (b' := 0) (show 3 = _ by omega) rfl (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) (Ins.gsum_is _ _ _ 2 G hG (N 2) (h 2) x)).trans (at3 (fun b _ j => G b j + (N b).dgain j) (b := 0) (b' := 0) (show 2 = _ by omega) rfl (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) (Ins.gsum_is _ _ _ 1 G hG (N 1) (h 1) x)).trans (at3 (fun b _ j => G b j + (N b).dgain j) (b := 0) (b' := 0) (show 1 = _ by omega) rfl (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) (Ins.gsum_is _ _ _ 0 G hG (N 0) (h 0) x)).trans (at3 (fun b _ j => G b j + (N b).dgain j) (b := 0) (b' := 0) (show 0 = _ by omega) rfl (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl

theorem dst_B (h0 : ¬ t.val % 32 = 0) (N : ℕ → Num)
    (h : ∀ b : Fin 4, ((ins m c t).blk (outsAt0 m c (t.val - 1) (Nat.lt_of_le_of_lt (Nat.sub_le _ _) t.isLt)).2.2.2.2.2 b).Is (N b.val)) (y : S4x256x512.Idx) :
    (outsAt0 m c t.val t.isLt).2.2.2.2.2 y = (((N (y 0).val).dst (y 1).val (y 2).val : ℝ) : EReal) := by
  rw [outsAt0_B m c t h0]
  dsimp only
  frame_open
  simp (disch := decide) only [↓ View.readCov_skip, ↓ View.readCov_cons_toLoadRect, ↓ View.readCov_fill]
  frame_out
  simp only [read_unread_whole]
  canon_tiles x e
  · refine (Eq.trans (congrFun ?_ x) (Mat.add1 (h := shapeCasts_S256x512_S1x256x512) (h 3).dst x)).trans (at3 (fun b => (N b).dst) (show 3 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) (Mat.add1 (h := shapeCasts_S256x512_S1x256x512) (h 2).dst x)).trans (at3 (fun b => (N b).dst) (show 2 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) (Mat.add1 (h := shapeCasts_S256x512_S1x256x512) (h 1).dst x)).trans (at3 (fun b => (N b).dst) (show 1 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl
  · refine (Eq.trans (congrFun ?_ x) (Mat.add1 (h := shapeCasts_S256x512_S1x256x512) (h 0).dst x)).trans (at3 (fun b => (N b).dst) (show 0 = _ by omega) (by omega) (by omega))
    dsimp only [Blk.dq, Blk.dk, Blk.dv, Blk.dg, Blk.dst, Blk.dgain, Blk.dQ, Blk.dK, Blk.dp, Blk.dO, Blk.dh, Blk.dn, Blk.H, Blk.R, Blk.C,
    Blk.O, Blk.S, Blk.K, Blk.Q, Blk.gainRows, Blk.qDec, Blk.kDec, Blk.wide, bUnrot, bRot, bMean, bSig, Ins.blk, Ins.gsum, ins,
    cut256, cut512, pick, pickSt,
    k0_pay1, k0_pay2, k0_pay3, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98,
    k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129]
    try rfl

end Cert.Proof
-- ==== Proof.RefD.lean ====
/- THE REFERENCE'S GRADIENTS OF QUERIES, KEYS AND VALUES OVER THE REAL NUMBERS, from the attention output's gradient: the sums over
   all chunks that follow a position are the running gradient that the kernel carries. -/
module

public import proofs.«01_k».proof.Proof.RefC
public import Idealize.ShloMosaic.Lib.TwoAxisContraction
public import Idealize.ShloMosaic.Lib.KernelVsHost

@[expose] public section

set_option maxRecDepth 16384

noncomputable section

namespace Cert.Proof

open Idealize.ShloMosaic Cert.ReferenceIdeal Cert.ReferenceIdeal.Gen Cert.ReferenceIdeal.Read Finset

namespace Data
variable (d : Data)

/-- A chunk's numbers with the gradient from later chunks, at a position of the whole sequence. -/
def rowN (f : Num → ℕ → ℕ → ℝ) (t h e : ℕ) : ℝ := f (d.N h (t / 64)) (t % 64) e

/-- The values' gradient: the part from later chunks is a sum over all chunks of their contribution to the state's gradient. -/
theorem dv_eq (h n c j : ℕ) (hn : n < 32) (hc : c < 64) :
    ∑ m ∈ range 32, ∑ i ∈ range 256, d.X h m i j * (d.w h m (64 * n + c) * d.K h (64 * n + c) i) +
      ∑ e ∈ range 64, (d.at0 h n).dO e j * (d.at0 h n).S e c = (d.N h n).dv c j := by
  show _ = ∑ e ∈ range 64, (d.N h n).S e c * (d.N h n).dO e j + ∑ i ∈ range 256, (d.N h n).K c i * (d.N h n).kd c * (d.N h n).ds i j
  rw [add_comm, sum_comm]
  congr 1
  · exact sum_congr rfl fun e _ => mul_comm _ _
  · refine sum_congr rfl fun i _ => ?_
    rw [mul_assoc, d.ds_eq h n c i j hn hc, mul_sum]
    refine sum_congr rfl fun m _ => ?_
    show _ = d.K h (64 * n + c) i * _
    ring
/-- The keys' gradient, likewise. -/
theorem dK_eq (h n c j : ℕ) (hn : n < 32) (hc : c < 64) :
    ∑ m ∈ range 32, d.w h m (64 * n + c) * ∑ e ∈ range 512, d.X h m j e * d.v h (64 * n + c) e +
      ∑ e ∈ range 64, (d.at0 h n).dp e c * (d.at0 h n).Q e j = (d.N h n).dK c j := by
  show _ = ∑ e ∈ range 64, (d.N h n).dp e c * (d.N h n).Q e j + (∑ e ∈ range 512, (d.N h n).v c e * (d.N h n).ds j e) * (d.N h n).kd c
  rw [add_comm]
  congr 1
  rw [sum_mul, sum_congr rfl fun m _ => mul_sum (range 512) _ _, sum_comm]
  refine sum_congr rfl fun e _ => ?_
  rw [mul_assoc, mul_comm ((d.N h n).ds j e), d.ds_eq h n c j e hn hc, mul_sum]
  refine sum_congr rfl fun m _ => ?_
  show _ = d.v h (64 * n + c) e * _
  ring
end Data

/-- A sum over unit axes has one term, at the shape of the keys' gradient. -/
theorem drop_8_2048_256 (x : S1x8x1x2048x256.Idx → EReal) (z : EReal) (j : S8x2048x256.Idx) :
    Ideal.hostReduceAdd reducesTo_S1x8x1x2048x256_S8x2048x256_d0_2 x z j = z + x (fun a => match a with
      | ⟨0, _⟩ => ⟨0, Nat.one_pos⟩ | ⟨1, _⟩ => ⟨(j 0).val, (j 0).isLt⟩ | ⟨2, _⟩ => ⟨0, Nat.one_pos⟩
      | ⟨3, _⟩ => ⟨(j 1).val, (j 1).isLt⟩ | ⟨4, _⟩ => ⟨(j 2).val, (j 2).isLt⟩) := by
  refine reduce_one _ x z j _ (funext fun a => Fin.ext ?_) fun i e => funext fun a => Fin.ext ?_
  · match a with
    | ⟨0, _⟩ => exact Shape.ReducesTo.drop_apply_val_of_eq reducesTo_S1x8x1x2048x256_S8x2048x256_d0_2 _ 0 1
    | ⟨1, _⟩ => exact Shape.ReducesTo.drop_apply_val_of_eq reducesTo_S1x8x1x2048x256_S8x2048x256_d0_2 _ 1 3
    | ⟨2, _⟩ => exact Shape.ReducesTo.drop_apply_val_of_eq reducesTo_S1x8x1x2048x256_S8x2048x256_d0_2 _ 2 4
  · subst e
    match a with
    | ⟨0, _⟩ => exact Nat.lt_one_iff.1 (i 0).isLt
    | ⟨1, _⟩ => exact (Shape.ReducesTo.drop_apply_val_of_eq reducesTo_S1x8x1x2048x256_S8x2048x256_d0_2 i 0 1).symm
    | ⟨2, _⟩ => exact Nat.lt_one_iff.1 (i 2).isLt
    | ⟨3, _⟩ => exact (Shape.ReducesTo.drop_apply_val_of_eq reducesTo_S1x8x1x2048x256_S8x2048x256_d0_2 i 1 3).symm
    | ⟨4, _⟩ => exact (Shape.ReducesTo.drop_apply_val_of_eq reducesTo_S1x8x1x2048x256_S8x2048x256_d0_2 i 2 4).symm

/-- A product contracted over chunks and features at once. -/
theorem dot_two {x : FVec Ideal S1x8x32x256x512 .f32} {y : FVec Ideal S1x8x32x2048x256 .f32} {f g : ℕ → ℕ → ℕ → ℕ → ℝ}
    (hx : ∀ i, x i = ((f (i 1).val (i 2).val (i 3).val (i 4).val : ℝ) : EReal))
    (hy : ∀ i, y i = ((g (i 1).val (i 2).val (i 3).val (i 4).val : ℝ) : EReal)) (i : S1x8x512x2048.Idx) :
    Host.dotGeneral dot_S1x8x32x256x512_S1x8x32x2048x256_S1x8x512x2048_23_24_4_3_01_01 none x y i =
      ((∑ n ∈ range 32, ∑ e ∈ range 256, f (i 1).val n e (i 2).val * g (i 1).val n (i 3).val e : ℝ) : EReal) := by
  simp only [Host.dotGeneral]
  rw [Ideal.dotGeneral_apply, ValueIdx.sum_contr2 _ 32 256 rfl rfl rfl]
  refine coe_sum_of fun n => coe_sum_of (f := fun e => f (i 1).val n.val e (i 2).val * g (i 1).val n.val (i 3).val e) fun e => ?_
  have q0 := ValueIdx.contrEquiv2_symm_val0 dot_S1x8x32x256x512_S1x8x32x2048x256_S1x8x512x2048_23_24_4_3_01_01 32 256 rfl rfl rfl (n, e)
  have q1 := ValueIdx.contrEquiv2_symm_val1 dot_S1x8x32x256x512_S1x8x32x2048x256_S1x8x512x2048_23_24_4_3_01_01 32 256 rfl rfl rfl (n, e)
  generalize (ValueIdx.contrEquiv2 dot_S1x8x32x256x512_S1x8x32x2048x256_S1x8x512x2048_23_24_4_3_01_01 32 256 rfl rfl rfl).symm (n, e) = q at q0 q1
  refine r_prod ((hx _).trans ?_) ((hy _).trans ?_)
  · show ((f (i 1).val (q ⟨0, by decide⟩).val (q ⟨1, by decide⟩).val (i 2).val : ℝ) : EReal) = _
    exact at2 (fun a b => f _ a b _) q0 q1
  · show ((g (i 1).val (q ⟨0, by decide⟩).val (i 3).val (q ⟨1, by decide⟩).val : ℝ) : EReal) = _
    exact at2 (fun a b => g _ a _ b) q0 q1

/-- Two halves of one axis, each put in its place among zeros and then added. -/
theorem pad_halves {x y : FVec Ideal S1x2048x8x128 .f32} {z z' : FVec Ideal S_ .f32} {f g : ℕ → ℕ → ℕ → ℝ}
    (hx : ∀ i, x i = ((f (i 1).val (i 2).val (i 3).val : ℝ) : EReal)) (hy : ∀ i, y i = ((g (i 1).val (i 2).val (i 3).val : ℝ) : EReal))
    (hz : ∀ i, z i = ((0 : ℝ) : EReal)) (hz' : ∀ i, z' i = ((0 : ℝ) : EReal)) (i : S1x2048x8x256.Idx) :
    FloatOps.addf (F := Ideal) (φ := .f32)
      (pad S1x2048x8x256 ![0, 0, 0, 128] ![0, 0, 0, 0] ![0, 0, 0, 0] x z pads_S1x2048x8x128_S1x2048x8x256_000_000_000_12800 h_S_ i)
      (pad S1x2048x8x256 ![0, 0, 0, 0] ![0, 0, 0, 128] ![0, 0, 0, 0] y z' pads_S1x2048x8x128_S1x2048x8x256_000_000_000_01280 h_S_ i) =
      ((if (i 3).val < 128 then g (i 1).val (i 2).val (i 3).val else f (i 1).val (i 2).val ((i 3).val - 128) : ℝ) : EReal) := by
  have h3 : (i 3).val < 256 := (i 3).isLt
  by_cases hb : (i 3).val < 128
  · rw [pad_apply_of_not_inside _ _ _ x z _ _ i 3 (fun h => by have h1 : 128 ≤ (i 3).val := h.1; omega),
      pad_apply_of_inside _ _ _ y z' _ _ i (fun a => match a with
        | ⟨0, _⟩ => ⟨(i 0).val, (i 0).isLt⟩ | ⟨1, _⟩ => ⟨(i 1).val, (i 1).isLt⟩ | ⟨2, _⟩ => ⟨(i 2).val, (i 2).isLt⟩
        | ⟨3, _⟩ => ⟨(i 3).val, hb⟩) (fun a => by
          match a with
          | ⟨0, _⟩ => show (i 0).val = 0 + (i 0).val * (0 + 1); omega
          | ⟨1, _⟩ => show (i 1).val = 0 + (i 1).val * (0 + 1); omega
          | ⟨2, _⟩ => show (i 2).val = 0 + (i 2).val * (0 + 1); omega
          | ⟨3, _⟩ => show (i 3).val = 0 + (i 3).val * (0 + 1); omega), if_pos hb]
    exact r_congr (r_add (hz _) (hy _)) (zero_add _)
  · rw [pad_apply_of_inside _ _ _ x z _ _ i (fun a => match a with
        | ⟨0, _⟩ => ⟨(i 0).val, (i 0).isLt⟩ | ⟨1, _⟩ => ⟨(i 1).val, (i 1).isLt⟩ | ⟨2, _⟩ => ⟨(i 2).val, (i 2).isLt⟩
        | ⟨3, _⟩ => ⟨(i 3).val - 128, by show (i 3).val - 128 < 128; omega⟩) (fun a => by
          match a with
          | ⟨0, _⟩ => show (i 0).val = 0 + (i 0).val * (0 + 1); omega
          | ⟨1, _⟩ => show (i 1).val = 0 + (i 1).val * (0 + 1); omega
          | ⟨2, _⟩ => show (i 2).val = 0 + (i 2).val * (0 + 1); omega
          | ⟨3, _⟩ => show (i 3).val = 128 + ((i 3).val - 128) * (0 + 1); omega),
      pad_apply_of_not_inside _ _ _ y z' _ _ i 3 (fun h => by
        have h1 : ((i 3).val - 0) / (0 + 1) < 128 := h.2.2
        omega), if_neg hb]
    exact r_congr (r_add (hx _) (hz' _)) (add_zero _)

namespace Data.Reads
variable {d : Data} {x0 : FVec Ideal S2048x12288 .f32} {x1 : FVec Ideal S8x512 .f32} {x2 : FVec Ideal S2048x4096 .f32} (r : d.Reads x0 x1 x2)
include r

/-- What a chunk adds to the state's gradient. -/
theorem v229 (i : S1x8x32x256x512.Idx) : val_main_v229 (F := Ideal) x0 x1 x2 i =
    ((d.X (i 1).val (i 2).val (i 3).val (i 4).val : ℝ) : EReal) := by
  rw [val_main_v229_apply, val_main_v228_apply]
  exact coe_sum_of (f := fun c => (d.at0 (i 1).val (i 2).val).dO c (i 4).val *
    ((d.at0 (i 1).val (i 2).val).Q c (i 3).val * (d.at0 (i 1).val (i 2).val).qd c)) fun c => r_prod (r.v227 _) (r.v126 _)
theorem v248 (i : S1x8x32x64x64.Idx) : val_main_v248 (F := Ideal) x0 x1 x2 i =
    (((d.at0 (i 1).val (i 2).val).dp (i 3).val (i 4).val : ℝ) : EReal) := by
  rw [val_main_v248_apply, val_main_v246_apply, val_main_v247_apply, val_main_v112_apply]
  exact r_mul (coe_sum_of (f := fun e => (d.at0 (i 1).val (i 2).val).dO (i 3).val e * (d.at0 (i 1).val (i 2).val).v (i 4).val e)
    fun e => r_prod (r.v227 _) (r.v89 _)) (r.v110 _)

/-! ## Values -/

theorem v245 (i : S1x8x32x64x512.Idx) : val_main_v245 (F := Ideal) x0 x1 x2 i =
    ((∑ e ∈ range 64, (d.at0 (i 1).val (i 2).val).dO e (i 4).val * (d.at0 (i 1).val (i 2).val).S e (i 3).val : ℝ) : EReal) := by
  rw [val_main_v245_apply, val_main_v244_apply]
  exact coe_sum_of (f := fun e => (d.at0 (i 1).val (i 2).val).dO e (i 4).val * (d.at0 (i 1).val (i 2).val).S e (i 3).val)
    fun e => r_prod (r.v227 _) (r.v114 _)
theorem v253 (i : S1x2048x8x512.Idx) : val_main_v253 (F := Ideal) x0 x1 x2 i =
    ((∑ e ∈ range 64, (d.at0 (i 2).val ((i 1).val / 64)).dO e (i 3).val *
      (d.at0 (i 2).val ((i 1).val / 64)).S e ((i 1).val % 64) : ℝ) : EReal) := by
  rw [val_main_v253_apply, val_main_v252_apply, r.v245]
  have h0 : (i 0).val < 1 := (i 0).isLt
  have h1 : (i 1).val < 2048 := (i 1).isLt
  have h2 : (i 2).val < 8 := (i 2).isLt
  have h3 : (i 3).val < 512 := (i 3).isLt
  refine (at2 (fun a b => ∑ e ∈ range 64, (d.at0 a b).dO e _ * (d.at0 a b).S e _) (a' := (i 2).val) (b' := (i 1).val / 64) ?_ ?_).trans
    (at2 (fun a b => ∑ e ∈ range 64, (d.at0 (i 2).val ((i 1).val / 64)).dO e b * (d.at0 (i 2).val ((i 1).val / 64)).S e a) ?_ ?_)
  · simp only [idx_main_v252, idx_main_v253]; omega
  · simp only [idx_main_v252, idx_main_v253]; omega
  · simp only [idx_main_v252, idx_main_v253]; omega
  · simp only [idx_main_v252, idx_main_v253]; omega
theorem v254 (i : S1x2048x8x512.Idx) : val_main_v254 (F := Ideal) x0 x1 x2 i =
    ((d.rowN Num.dv (i 1).val (i 2).val (i 3).val : ℝ) : EReal) := by
  have h1 : (i 1).val < 2048 := (i 1).isLt
  rw [val_main_v254_apply, val_main_v232_apply]
  unfold val_main_v231
  refine r_congr (r_add (dot_two (f := d.X) (g := fun h n t j => d.w h n t * d.K h t j) r.v229 r.v160 _) (r.v253 i)) ?_
  refine Eq.trans ?_ (d.dv_eq (i 2).val ((i 1).val / 64) ((i 1).val % 64) (i 3).val (by omega) (by omega))
  rw [show 64 * ((i 1).val / 64) + (i 1).val % 64 = (i 1).val by omega]

/-! ## Keys -/

theorem v234 (i : S1x8x32x2048x256.Idx) : val_main_v234 (F := Ideal) x0 x1 x2 i =
    ((∑ e ∈ range 512, d.X (i 1).val (i 2).val (i 4).val e * d.v (i 1).val (i 3).val e : ℝ) : EReal) := by
  rw [val_main_v234_apply, val_main_v233_apply]
  exact coe_sum_of (f := fun e => d.X (i 1).val (i 2).val (i 4).val e * d.v (i 1).val (i 3).val e)
    fun e => r_prod (r.v229 _) (r.v83 _)
theorem v241 (i : S1x2048x8x256.Idx) : val_main_v241 (F := Ideal) x0 x1 x2 i =
    ((∑ m ∈ range 32, d.w (i 2).val m (i 1).val * ∑ e ∈ range 512, d.X (i 2).val m (i 3).val e * d.v (i 2).val (i 1).val e : ℝ) : EReal) := by
  rw [val_main_v241_apply, val_main_v240_apply]
  unfold val_main_v239
  simp only [Host.reduceAdd, Ideal.hostReduceAdd_def]
  rw [drop_8_2048_256]
  refine r_zsum bits_zero ?_
  rw [val_main_v238_apply, val_main_v237_apply]
  have h0 : (i 0).val < 1 := (i 0).isLt
  have h1 : (i 1).val < 2048 := (i 1).isLt
  have h2 : (i 2).val < 8 := (i 2).isLt
  have h3 : (i 3).val < 256 := (i 3).isLt
  refine r_zsum bits_zero (coe_sum_of
    (f := fun m => d.w (i 2).val m (i 1).val * ∑ e ∈ range 512, d.X (i 2).val m (i 3).val e * d.v (i 2).val (i 1).val e) fun m => ?_)
  rw [val_main_v236_apply, val_main_v235_apply, val_main_v155_apply]
  refine (r_mul (r.w _) (r.v234 _)).trans
    (at3 (fun h t j => d.w h m.val t * ∑ e ∈ range 512, d.X h m.val j e * d.v h t e) ?_ ?_ ?_)
  · simp only [idx_main_v237, idx_main_v238, idx_main_v240, idx_main_v241]; omega
  · simp only [idx_main_v237, idx_main_v238, idx_main_v240, idx_main_v241]; omega
  · simp only [idx_main_v237, idx_main_v238, idx_main_v240, idx_main_v241]; omega
theorem v249 (i : S1x8x32x64x256.Idx) : val_main_v249 (F := Ideal) x0 x1 x2 i =
    ((∑ e ∈ range 64, (d.at0 (i 1).val (i 2).val).dp e (i 3).val * (d.at0 (i 1).val (i 2).val).Q e (i 4).val : ℝ) : EReal) := by
  rw [val_main_v249_apply]
  exact coe_sum_of (f := fun e => (d.at0 (i 1).val (i 2).val).dp e (i 3).val * (d.at0 (i 1).val (i 2).val).Q e (i 4).val)
    fun e => r_prod (r.v248 _) (r.v85 _)
theorem v256 (i : S1x2048x8x256.Idx) : val_main_v256 (F := Ideal) x0 x1 x2 i =
    ((∑ e ∈ range 64, (d.at0 (i 2).val ((i 1).val / 64)).dp e ((i 1).val % 64) *
      (d.at0 (i 2).val ((i 1).val / 64)).Q e (i 3).val : ℝ) : EReal) := by
  rw [val_main_v256_apply, val_main_v255_apply, r.v249]
  have h0 : (i 0).val < 1 := (i 0).isLt
  have h1 : (i 1).val < 2048 := (i 1).isLt
  have h2 : (i 2).val < 8 := (i 2).isLt
  have h3 : (i 3).val < 256 := (i 3).isLt
  refine (at2 (fun a b => ∑ e ∈ range 64, (d.at0 a b).dp e _ * (d.at0 a b).Q e _) (a' := (i 2).val) (b' := (i 1).val / 64) ?_ ?_).trans
    (at2 (fun a b => ∑ e ∈ range 64, (d.at0 (i 2).val ((i 1).val / 64)).dp e a * (d.at0 (i 2).val ((i 1).val / 64)).Q e b) ?_ ?_)
  · simp only [idx_main_v255, idx_main_v256]; omega
  · simp only [idx_main_v255, idx_main_v256]; omega
  · simp only [idx_main_v255, idx_main_v256]; omega
  · simp only [idx_main_v255, idx_main_v256]; omega
theorem v262 (i : S1x2048x8x256.Idx) : val_main_v262 (F := Ideal) x0 x1 x2 i =
    ((d.rowN Num.dK (i 1).val (i 2).val (i 3).val * (1 / 16) : ℝ) : EReal) := by
  have h1 : (i 1).val < 2048 := (i 1).isLt
  rw [val_main_v262_apply, val_main_v261_apply]
  refine r_mul (b := 1 / 16) ?_ bits_sixteenth
  rw [val_main_v257_apply]
  refine r_congr (r_add (r.v241 i) (r.v256 i)) ?_
  refine Eq.trans ?_ (d.dK_eq (i 2).val ((i 1).val / 64) ((i 1).val % 64) (i 3).val (by omega) (by omega))
  rw [show 64 * ((i 1).val / 64) + (i 1).val % 64 = (i 1).val by omega]

/-! ## Queries -/

theorem v251 (i : S1x8x32x64x256.Idx) : val_main_v251 (F := Ideal) x0 x1 x2 i =
    (((d.at0 (i 1).val (i 2).val).dQ (i 3).val (i 4).val : ℝ) : EReal) := by
  rw [val_main_v251_apply, val_main_v243_apply, val_main_v230_apply, val_main_v242_apply, val_main_v124_apply, val_main_v250_apply]
  refine r_congr (r_add (r_mul (coe_sum_of
    (f := fun e => (d.at0 (i 1).val (i 2).val).dO (i 3).val e * (d.at0 (i 1).val (i 2).val).st (i 4).val e)
      fun e => r_prod (r.v227 _) (r.v161 _)) (r.v123 _)) (coe_sum_of
    (f := fun e => (d.at0 (i 1).val (i 2).val).dp (i 3).val e * (d.at0 (i 1).val (i 2).val).K e (i 4).val)
      fun e => r_prod (r.v248 _) (r.v87 _))) ?_
  exact add_comm _ _
theorem v259 (i : S1x2048x8x256.Idx) : val_main_v259 (F := Ideal) x0 x1 x2 i =
    ((d.rowN Num.dQ (i 1).val (i 2).val (i 3).val : ℝ) : EReal) := by
  rw [val_main_v259_apply, val_main_v258_apply, r.v251]
  have h0 : (i 0).val < 1 := (i 0).isLt
  have h1 : (i 1).val < 2048 := (i 1).isLt
  have h2 : (i 2).val < 8 := (i 2).isLt
  have h3 : (i 3).val < 256 := (i 3).isLt
  refine (at2 (fun a b => (d.at0 a b).dQ _ _) (a' := (i 2).val) (b' := (i 1).val / 64) ?_ ?_).trans
    (at2 (d.at0 (i 2).val ((i 1).val / 64)).dQ ?_ ?_)
  · simp only [idx_main_v258, idx_main_v259]; omega
  · simp only [idx_main_v258, idx_main_v259]; omega
  · simp only [idx_main_v258, idx_main_v259]; omega
  · simp only [idx_main_v258, idx_main_v259]; omega

/-! ## The results -/

theorem v278 (i : S1x2048x8x256.Idx) : val_main_v278 (F := Ideal) x0 x1 x2 i =
    ((d.rowN Num.dk (i 1).val (i 2).val (i 3).val : ℝ) : EReal) := by
  have h1 : (i 1).val < 2048 := (i 1).isLt
  rw [val_main_v278_apply]
  unfold val_main_v276 val_main_v277
  refine (pad_halves
    (f := fun t h j => d.rowN Num.dK t h (128 + j) * (1 / 16) * d.cos t j + -(d.rowN Num.dK t h j * (1 / 16)) * d.sin t j)
    (g := fun t h j => d.rowN Num.dK t h (128 + j) * (1 / 16) * d.sin t j + d.rowN Num.dK t h j * (1 / 16) * d.cos t j)
    (fun i => by
      rw [val_main_v272_apply, val_main_v266_apply, val_main_v264_apply, val_main_v265_apply, val_main_v76_apply, val_main_v61_apply,
        val_main_v271_apply, val_main_v269_apply, val_main_v263_apply, val_main_v270_apply, val_main_v69_apply, val_main_v63_apply]
      exact r_add (r_mul (r.v262 _) (r.cos _)) (r_mul (r_neg (r.v262 _)) (r.sin _)))
    (fun i => by
      rw [val_main_v275_apply, val_main_v268_apply, val_main_v264_apply, val_main_v267_apply, val_main_v73_apply, val_main_v63_apply,
        val_main_v274_apply, val_main_v263_apply, val_main_v273_apply, val_main_v66_apply, val_main_v61_apply]
      exact r_add (r_mul (r.v262 _) (r.sin _)) (r_mul (r.v262 _) (r.cos _)))
    (fun _ => bits_zero) (fun _ => bits_zero) i).trans (congrArg _ ?_)
  show _ = unrot (d.N (i 2).val ((i 1).val / 64)).cos (d.N (i 2).val ((i 1).val / 64)).sin
    (fun a b => (d.N (i 2).val ((i 1).val / 64)).dK a b * (1 / 16)) ((i 1).val % 64) (i 3).val
  unfold unrot
  show _ = if _ then _ * d.cos (64 * ((i 1).val / 64) + (i 1).val % 64) _ + _ * d.sin (64 * ((i 1).val / 64) + (i 1).val % 64) _
    else _ * d.cos (64 * ((i 1).val / 64) + (i 1).val % 64) _ - _ * d.sin (64 * ((i 1).val / 64) + (i 1).val % 64) _
  rw [show 64 * ((i 1).val / 64) + (i 1).val % 64 = (i 1).val by omega]
  split_ifs with h
  · exact add_comm _ _
  · rw [show 128 + ((i 3).val - 128) = (i 3).val by omega, neg_mul, ← sub_eq_add_neg]
    rfl
theorem v295 (i : S1x2048x8x256.Idx) : val_main_v295 (F := Ideal) x0 x1 x2 i =
    ((d.rowN Num.dq (i 1).val (i 2).val (i 3).val : ℝ) : EReal) := by
  have h1 : (i 1).val < 2048 := (i 1).isLt
  rw [val_main_v295_apply]
  unfold val_main_v293 val_main_v294
  refine (pad_halves
    (f := fun t h j => d.rowN Num.dQ t h (128 + j) * d.cos t j + -(d.rowN Num.dQ t h j) * d.sin t j)
    (g := fun t h j => d.rowN Num.dQ t h (128 + j) * d.sin t j + d.rowN Num.dQ t h j * d.cos t j)
    (fun i => by
      rw [val_main_v289_apply, val_main_v283_apply, val_main_v281_apply, val_main_v282_apply, val_main_v38_apply, val_main_v23_apply,
        val_main_v288_apply, val_main_v286_apply, val_main_v280_apply, val_main_v287_apply, val_main_v31_apply, val_main_v25_apply]
      exact r_add (r_mul (r.v259 _) (r.cos _)) (r_mul (r_neg (r.v259 _)) (r.sin _)))
    (fun i => by
      rw [val_main_v292_apply, val_main_v285_apply, val_main_v281_apply, val_main_v284_apply, val_main_v35_apply, val_main_v25_apply,
        val_main_v291_apply, val_main_v280_apply, val_main_v290_apply, val_main_v28_apply, val_main_v23_apply]
      exact r_add (r_mul (r.v259 _) (r.sin _)) (r_mul (r.v259 _) (r.cos _)))
    (fun _ => bits_zero) (fun _ => bits_zero) i).trans (congrArg _ ?_)
  show _ = unrot (d.N (i 2).val ((i 1).val / 64)).cos (d.N (i 2).val ((i 1).val / 64)).sin
    (d.N (i 2).val ((i 1).val / 64)).dQ ((i 1).val % 64) (i 3).val
  unfold unrot
  show _ = if _ then _ * d.cos (64 * ((i 1).val / 64) + (i 1).val % 64) _ + _ * d.sin (64 * ((i 1).val / 64) + (i 1).val % 64) _
    else _ * d.cos (64 * ((i 1).val / 64) + (i 1).val % 64) _ - _ * d.sin (64 * ((i 1).val / 64) + (i 1).val % 64) _
  rw [show 64 * ((i 1).val / 64) + (i 1).val % 64 = (i 1).val by omega]
  split_ifs with h
  · exact add_comm _ _
  · rw [show 128 + ((i 3).val - 128) = (i 3).val by omega, neg_mul, ← sub_eq_add_neg]
    rfl

theorem dq_ref (i : S2048x2048.Idx) : val_main_v298 (F := Ideal) x0 x1 x2 i =
    ((d.rowN Num.dq (i 0).val ((i 1).val / 256) ((i 1).val % 256) : ℝ) : EReal) := by
  show val_main_v297 (F := Ideal) x0 x1 x2 i = _
  rw [val_main_v297_apply, val_main_v296_apply, r.v295]
  have h0 : (i 0).val < 2048 := (i 0).isLt
  have h1 : (i 1).val < 2048 := (i 1).isLt
  refine at3 (d.rowN Num.dq) ?_ ?_ ?_
  · simp only [idx_main_v297, idx_main_v296]; omega
  · simp only [idx_main_v297, idx_main_v296]; omega
  · simp only [idx_main_v297, idx_main_v296]; omega
theorem dk_ref (i : S2048x2048.Idx) : val_main_v300 (F := Ideal) x0 x1 x2 i =
    ((d.rowN Num.dk (i 0).val ((i 1).val / 256) ((i 1).val % 256) : ℝ) : EReal) := by
  show val_main_v299 (F := Ideal) x0 x1 x2 i = _
  rw [val_main_v299_apply, val_main_v279_apply, r.v278]
  have h0 : (i 0).val < 2048 := (i 0).isLt
  have h1 : (i 1).val < 2048 := (i 1).isLt
  refine at3 (d.rowN Num.dk) ?_ ?_ ?_
  · simp only [idx_main_v299, idx_main_v279]; omega
  · simp only [idx_main_v299, idx_main_v279]; omega
  · simp only [idx_main_v299, idx_main_v279]; omega
theorem dv_ref (i : S2048x4096.Idx) : val_main_v302 (F := Ideal) x0 x1 x2 i =
    ((d.rowN Num.dv (i 0).val ((i 1).val / 512) ((i 1).val % 512) : ℝ) : EReal) := by
  show val_main_v301 (F := Ideal) x0 x1 x2 i = _
  rw [val_main_v301_apply, val_main_v260_apply, r.v254]
  have h0 : (i 0).val < 2048 := (i 0).isLt
  have h1 : (i 1).val < 4096 := (i 1).isLt
  refine at3 (d.rowN Num.dv) ?_ ?_ ?_
  · simp only [idx_main_v301, idx_main_v260]; omega
  · simp only [idx_main_v301, idx_main_v260]; omega
  · simp only [idx_main_v301, idx_main_v260]; omega
theorem dg_ref (i : S2048x4096.Idx) : val_main_v304 (F := Ideal) x0 x1 x2 i =
    ((d.rowN Num.dg (i 0).val ((i 1).val / 512) ((i 1).val % 512) : ℝ) : EReal) := by
  show val_main_v303 (F := Ideal) x0 x1 x2 i = _
  rw [val_main_v303_apply, r.v194]
  have h0 : (i 0).val < 2048 := (i 0).isLt
  have h1 : (i 1).val < 4096 := (i 1).isLt
  refine at3 (d.row Num.dg) ?_ ?_ ?_
  · simp only [idx_main_v303]; omega
  · simp only [idx_main_v303]; omega
  · simp only [idx_main_v303]; omega
theorem dgain_ref (i : S8x1x512.Idx) : val_main_v305 (F := Ideal) x0 x2 i =
    ((∑ n ∈ range 32, (d.N (i 0).val n).dgain (i 2).val : ℝ) : EReal) := by
  rw [val_main_v305_apply, r.v201]
  refine congrArg _ ?_
  rw [show 2048 = 64 * 32 from rfl, sum_chunks]
  refine sum_congr rfl fun n _ => ?_
  show _ = ∑ c ∈ range 64, (d.N (i 0).val n).dn c (i 2).val * (d.N (i 0).val n).H c (i 2).val
  refine sum_congr rfl fun c hc => ?_
  have hc' := mem_range.1 hc
  unfold Data.row
  rw [show (64 * n + c) / 64 = n by omega, show (64 * n + c) % 64 = c by omega, mul_comm]
  rfl
end Data.Reads

end Cert.Proof
-- ==== Proof.Arrays.lean ====
/- THE KERNEL'S FIVE RESULT ARRAYS OVER THE REAL NUMBERS: what the carried state gradient and the gain gradient hold after each
   point, by induction over the points of a group of heads, and then every entry of every result. -/
module

public import proofs.«01_k».proof.Proof.Input
public import proofs.«01_k».proof.Proof.PointA
public import proofs.«01_k».proof.Proof.PointB
public import proofs.«01_k».proof.Proof.RefD

@[expose] public section

set_option maxRecDepth 16384

noncomputable section

namespace Cert.Proof

open Idealize.ShloMosaic Cert.KernelIdeal Cert.KernelIdeal.Gen Finset

/-- What head `b` of group `T` reads at the group's point `s`: the chunks come last first. -/
def Data.pt (d : Data) (T s b : ℕ) : Num := d.num (4 * T + b) (31 - s) (d.DSr (4 * T + b) s)

theorem Data.pt_eq (d : Data) (T s b : ℕ) (hs : s < 32) : d.pt T s b = d.N (4 * T + b) (31 - s) := by
  unfold Data.pt Data.N
  rw [show 31 - (31 - s) = s by omega]

variable {m : (ℓ : Loc nD τ sig) → Buf (Elt Ideal) ℓ} {c : Dev nD} {d : Data}
  (r : d.Reads (m (c.tc.loc main_arg0)) (m (c.tc.loc main_arg1)) (m (c.tc.loc main_arg2)))
include r

/-- At a group's first point no gradient is carried. -/
theorem blk_A (t : Fin cfg0.N) (h0 : t.val % 32 = 0) (b : Fin 4) : ((ins m c t).blk k0_pay4 b).Is (d.pt (t.val / 32) (t.val % 32) b.val) := by
  have h := (ins_of r t).is k0_pay4 (fun _ _ _ => 0) (fun _ => bits_zero) b
  unfold Data.pt
  rw [h0] at h ⊢
  exact h

/-- After each point: the carried state gradient, and the gain gradient summed so far. -/
theorem carried (n : ℕ) (hn : n < cfg0.N) :
    (∀ i : S4x256x512.Idx, (outsAt0 m c n hn).2.2.2.2.2 i =
      ((d.DSr (4 * (n / 32) + (i 0).val) (n % 32 + 1) (i 1).val (i 2).val : ℝ) : EReal)) ∧
    ∀ i : S4x1x512.Idx, (outsAt0 m c n hn).2.2.2.2.1 i =
      ((∑ s ∈ range (n % 32 + 1), (d.pt (n / 32) s (i 0).val).dgain (i 2).val : ℝ) : EReal) := by
  induction n with
  | zero =>
    have h := blk_A r ⟨0, hn⟩ rfl
    refine ⟨fun i => dst_A m c ⟨0, hn⟩ rfl _ h i, fun i => (dgain_A m c ⟨0, hn⟩ rfl _ h (fun _ _ => 0) (fun _ => bits_zero) i).trans ?_⟩
    refine congrArg _ ?_
    rw [sum_range_one]
    exact zero_add _
  | succ n ih =>
    have hN : n + 1 < 64 := lt_of_lt_of_eq hn (show cfg0.N = 64 from N_0)
    by_cases h0 : (n + 1) % 32 = 0
    · have h := blk_A r ⟨n + 1, hn⟩ h0
      refine ⟨fun i => dst_A m c ⟨n + 1, hn⟩ h0 _ h i,
        fun i => (dgain_A m c ⟨n + 1, hn⟩ h0 _ h (fun _ _ => 0) (fun _ => bits_zero) i).trans ?_⟩
      refine congrArg _ ?_
      show 0 + (d.pt ((n + 1) / 32) ((n + 1) % 32) (i 0).val).dgain (i 2).val = _
      rw [h0, zero_add, zero_add, sum_range_one]
    · have ih' := ih (Nat.lt_of_succ_lt hn)
      have h : ∀ b : Fin 4, ((ins m c ⟨n + 1, hn⟩).blk (outsAt0 m c n (Nat.lt_of_succ_lt hn)).2.2.2.2.2 b).Is
          (d.pt ((n + 1) / 32) ((n + 1) % 32) b.val) := fun b => by
        have h := (ins_of r ⟨n + 1, hn⟩).is (outsAt0 m c n (Nat.lt_of_succ_lt hn)).2.2.2.2.2
          (fun b => d.DSr (4 * (n / 32) + b) (n % 32 + 1)) ih'.1 b
        unfold Data.pt
        rw [show n / 32 = (n + 1) / 32 by omega, show n % 32 + 1 = (n + 1) % 32 by omega] at h
        exact h
      refine ⟨fun i => dst_B m c ⟨n + 1, hn⟩ h0 (d.pt ((n + 1) / 32) ((n + 1) % 32)) h i,
        fun i => (dgain_B m c ⟨n + 1, hn⟩ h0 (d.pt ((n + 1) / 32) ((n + 1) % 32)) h
          (fun b e => ∑ s ∈ range (n % 32 + 1), (d.pt (n / 32) s b).dgain e) ih'.2 i).trans ?_⟩
      refine congrArg _ ?_
      rw [show n / 32 = (n + 1) / 32 by omega, show n % 32 + 1 = (n + 1) % 32 by omega]
      exact (sum_range_succ _ _).symm

/-- At a group's later points the carried gradient is what the point before left. -/
theorem blk_B (t : Fin cfg0.N) (h0 : ¬ t.val % 32 = 0) (b : Fin 4) :
    ((ins m c t).blk (outsAt0 m c (t.val - 1) (Nat.lt_of_le_of_lt (Nat.sub_le _ _) t.isLt)).2.2.2.2.2 b).Is
      (d.pt (t.val / 32) (t.val % 32) b.val) := by
  have h := (ins_of r t).is _ (fun b => d.DSr (4 * ((t.val - 1) / 32) + b) ((t.val - 1) % 32 + 1))
    (carried r (t.val - 1) (Nat.lt_of_le_of_lt (Nat.sub_le _ _) t.isLt)).1 b
  unfold Data.pt
  rw [show (t.val - 1) / 32 = t.val / 32 by omega, show (t.val - 1) % 32 + 1 = t.val % 32 by omega] at h
  exact h

/-! ## What a point leaves for the four gradients it writes whole -/

theorem dq_pt (t : Fin cfg0.N) (y : S64x1024.Idx) : (outsAt0 m c t.val t.isLt).1 y =
    (((d.pt (t.val / 32) (t.val % 32) ((y 1).val / 256)).dq (y 0).val ((y 1).val % 256) : ℝ) : EReal) := by
  by_cases h0 : t.val % 32 = 0
  · exact dq_A m c t h0 _ (blk_A r t h0) y
  · exact dq_B m c t h0 _ (blk_B r t h0) y
theorem dk_pt (t : Fin cfg0.N) (y : S64x1024.Idx) : (outsAt0 m c t.val t.isLt).2.1 y =
    (((d.pt (t.val / 32) (t.val % 32) ((y 1).val / 256)).dk (y 0).val ((y 1).val % 256) : ℝ) : EReal) := by
  by_cases h0 : t.val % 32 = 0
  · exact dk_A m c t h0 _ (blk_A r t h0) y
  · exact dk_B m c t h0 _ (blk_B r t h0) y
theorem dv_pt (t : Fin cfg0.N) (y : S64x2048.Idx) : (outsAt0 m c t.val t.isLt).2.2.1 y =
    (((d.pt (t.val / 32) (t.val % 32) ((y 1).val / 512)).dv (y 0).val ((y 1).val % 512) : ℝ) : EReal) := by
  by_cases h0 : t.val % 32 = 0
  · exact dv_A m c t h0 _ (blk_A r t h0) y
  · exact dv_B m c t h0 _ (blk_B r t h0) y
theorem dg_pt (t : Fin cfg0.N) (y : S64x2048.Idx) : (outsAt0 m c t.val t.isLt).2.2.2.1 y =
    (((d.pt (t.val / 32) (t.val % 32) ((y 1).val / 512)).dg (y 0).val ((y 1).val % 512) : ℝ) : EReal) := by
  by_cases h0 : t.val % 32 = 0
  · exact dg_A m c t h0 _ (blk_A r t h0) y
  · exact dg_B m c t h0 _ (blk_B r t h0) y

/-! ## The arrays -/

omit r in
theorem pos13 : ∀ t : Fin cfg0.N, win0_13.index t = ![31 - t.val % 32, t.val / 32] := (by decide +kernel : ∀ t : Fin grid0.N, _)
omit r in
theorem pos14 : ∀ t : Fin cfg0.N, win0_14.index t = ![31 - t.val % 32, t.val / 32] := (by decide +kernel : ∀ t : Fin grid0.N, _)
omit r in
theorem pos15 : ∀ t : Fin cfg0.N, win0_15.index t = ![31 - t.val % 32, t.val / 32] := (by decide +kernel : ∀ t : Fin grid0.N, _)
omit r in
theorem pos16 : ∀ t : Fin cfg0.N, win0_16.index t = ![31 - t.val % 32, t.val / 32] := (by decide +kernel : ∀ t : Fin grid0.N, _)
omit r in
theorem pos17 : ∀ t : Fin cfg0.N, win0_17.index t = ![t.val / 32, 0, 0] := (by decide +kernel : ∀ t : Fin grid0.N, _)

omit r in
/-- A point's number at its place in the whole array. -/
theorem place {f : Num → ℕ → ℕ → ℝ} {t w a b i j h e : ℕ} (ht : t < 64) (ha : a < 64) (hi : i = (31 - t % 32) * 64 + a)
    (hw : h = 4 * (t / 32) + w) (he : e = b) (hj : j = h) :
    ((f (d.pt (t / 32) (t % 32) w) a b : ℝ) : EReal) = ((d.rowN f i j e : ℝ) : EReal) := by
  rw [d.pt_eq _ _ _ (by omega)]
  unfold Data.rowN
  subst hj hw he
  rw [show i / 64 = 31 - t % 32 by omega, show i % 64 = a by omega]

theorem arr13 : (dats m 0 c).arrAt 13 cfg0.N = fun i : S2048x2048.Idx =>
    ((d.rowN Num.dq (i 0).val ((i 1).val / 256) ((i 1).val % 256) : ℝ) : EReal) := by
  refine (dats m 0 c).arrAt_eq_of_covers 13 _ (by decide +kernel) fun t hf y => ?_
  blk_simp
  rw [after0_13]
  have ht : t.val < 64 := t.isLt
  have h0 : (y 0).val < 64 := (y 0).isLt
  have h1 : (y 1).val < 1024 := (y 1).isLt
  have e0 : win0_13.index t 0 * 64 + (y 0).val = (31 - t.val % 32) * 64 + (y 0).val := by rw [pos13]; rfl
  have e1 : win0_13.index t 1 * 1024 + (y 1).val = t.val / 32 * 1024 + (y 1).val := by rw [pos13]; rfl
  refine (dq_pt r t y).trans (place ht h0 e0 rfl ?_ ?_)
  · rw [e1]; omega
  · rw [e1]; omega
theorem arr14 : (dats m 0 c).arrAt 14 cfg0.N = fun i : S2048x2048.Idx =>
    ((d.rowN Num.dk (i 0).val ((i 1).val / 256) ((i 1).val % 256) : ℝ) : EReal) := by
  refine (dats m 0 c).arrAt_eq_of_covers 14 _ (by decide +kernel) fun t hf y => ?_
  blk_simp
  rw [after0_14]
  have ht : t.val < 64 := t.isLt
  have h0 : (y 0).val < 64 := (y 0).isLt
  have h1 : (y 1).val < 1024 := (y 1).isLt
  have e0 : win0_14.index t 0 * 64 + (y 0).val = (31 - t.val % 32) * 64 + (y 0).val := by rw [pos14]; rfl
  have e1 : win0_14.index t 1 * 1024 + (y 1).val = t.val / 32 * 1024 + (y 1).val := by rw [pos14]; rfl
  refine (dk_pt r t y).trans (place ht h0 e0 rfl ?_ ?_)
  · rw [e1]; omega
  · rw [e1]; omega
theorem arr15 : (dats m 0 c).arrAt 15 cfg0.N = fun i : S2048x4096.Idx =>
    ((d.rowN Num.dv (i 0).val ((i 1).val / 512) ((i 1).val % 512) : ℝ) : EReal) := by
  refine (dats m 0 c).arrAt_eq_of_covers 15 _ (by decide +kernel) fun t hf y => ?_
  blk_simp
  rw [after0_15]
  have ht : t.val < 64 := t.isLt
  have h0 : (y 0).val < 64 := (y 0).isLt
  have h1 : (y 1).val < 2048 := (y 1).isLt
  have e0 : win0_15.index t 0 * 64 + (y 0).val = (31 - t.val % 32) * 64 + (y 0).val := by rw [pos15]; rfl
  have e1 : win0_15.index t 1 * 2048 + (y 1).val = t.val / 32 * 2048 + (y 1).val := by rw [pos15]; rfl
  refine (dv_pt r t y).trans (place ht h0 e0 rfl ?_ ?_)
  · rw [e1]; omega
  · rw [e1]; omega
theorem arr16 : (dats m 0 c).arrAt 16 cfg0.N = fun i : S2048x4096.Idx =>
    ((d.rowN Num.dg (i 0).val ((i 1).val / 512) ((i 1).val % 512) : ℝ) : EReal) := by
  refine (dats m 0 c).arrAt_eq_of_covers 16 _ (by decide +kernel) fun t hf y => ?_
  blk_simp
  rw [after0_16]
  have ht : t.val < 64 := t.isLt
  have h0 : (y 0).val < 64 := (y 0).isLt
  have h1 : (y 1).val < 2048 := (y 1).isLt
  have e0 : win0_16.index t 0 * 64 + (y 0).val = (31 - t.val % 32) * 64 + (y 0).val := by rw [pos16]; rfl
  have e1 : win0_16.index t 1 * 2048 + (y 1).val = t.val / 32 * 2048 + (y 1).val := by rw [pos16]; rfl
  refine (dg_pt r t y).trans (place ht h0 e0 rfl ?_ ?_)
  · rw [e1]; omega
  · rw [e1]; omega
theorem arr17 : (dats m 0 c).arrAt 17 cfg0.N = fun i : S8x1x512.Idx =>
    ((∑ n ∈ range 32, (d.N (i 0).val n).dgain (i 2).val : ℝ) : EReal) := by
  refine (dats m 0 c).arrAt_eq_of_covers 17 _ (by decide +kernel) fun t hf y => ?_
  have hf' : t.val % 32 = 31 := (flush0_17 t).1 hf
  blk_simp
  rw [after0_17]
  have e0 : win0_17.index t 0 * 4 + (y 0).val = 4 * (t.val / 32) + (y 0).val := by
    rw [pos17]
    show t.val / 32 * 4 + _ = _
    rw [Nat.mul_comm]
  have e2 : win0_17.index t 2 * 512 + (y 2).val = (y 2).val := by
    rw [pos17]
    show 0 * 512 + _ = _
    rw [Nat.zero_mul, Nat.zero_add]
  refine ((carried r t.val t.isLt).2 y).trans (congrArg _ ?_)
  rw [hf']
  rw [e0, e2, ← sum_range_reflect]
  refine sum_congr rfl fun s hs => ?_
  have hs' := mem_range.1 hs
  rw [d.pt_eq _ _ _ (by omega), show 31 - (31 + 1 - 1 - s) = s by omega]
end Cert.Proof
-- ==== Proof.Pre.lean ====
/- THE PRECONDITION READ BACK: every entry of the three arguments is a real number. With the tables' numbers these are the layer's
   data. -/
module

public import proofs.«01_k».proof.Pre_finite
public import proofs.«01_k».proof.Proof.RefB
public import Idealize.ShloMosaic.Lib.ReduceAll
public import Idealize.ShloMosaic.Lib.KernelVsHost

@[expose] public section

noncomputable section

namespace Cert.Proof

open Idealize.ShloMosaic Cert.ReferenceIdeal Cert.ReferenceIdeal.Gen Finset

theorem finite_facts : Cert.Pre_finite.Facts where
  bcast_S_S2048x12288 := by decide +kernel
  reducesTo_S2048x12288_S_d0_1 := by decide +kernel
  h_S_ := by decide +kernel
  bcast_S_S8x512 := by decide +kernel
  reducesTo_S8x512_S_d0_1 := by decide +kernel
  bcast_S_S2048x4096 := by decide +kernel
  reducesTo_S2048x4096_S_d0_1 := by decide +kernel

/-- A number whose absolute value is below infinity is real. -/
theorem real_of_lt (x : EReal) (h : FloatOps.cmpf (F := Ideal) (φ := .f32) .olt (FloatOps.hostAbsf (F := Ideal) (φ := .f32) x)
    (FloatOps.ofBits (F := Ideal) .f32 0x7F800000#32) = 1#1) : ((x.toReal : ℝ) : EReal) = x := by
  rw [← Ideal.xori_weird_eq_hostAbsf_olt_inf] at h
  refine EReal.coe_toReal (fun e => ?_) fun e => ?_
  · subst e
    have : FloatOps.weird (show Ideal .f32 from (⊤ : EReal)) = 1#1 := by
      show BitVec.ofBool (decide ((⊤ : EReal) = ⊤ ∨ (⊤ : EReal) = ⊥)) = _
      rw [decide_eq_true (Or.inl rfl)]; rfl
    rw [this] at h
    exact absurd h (by decide)
  · subst e
    have : FloatOps.weird (show Ideal .f32 from (⊥ : EReal)) = 1#1 := by
      show BitVec.ofBool (decide ((⊥ : EReal) = ⊤ ∨ (⊥ : EReal) = ⊥)) = _
      rw [decide_eq_true (Or.inr rfl)]; rfl
    rw [this] at h
    exact absurd h (by decide)

/-- The layer's data of three arrays. -/
def dataOf (x0 : FVec Ideal S2048x12288 .f32) (x1 : FVec Ideal S8x512 .f32) (x2 : FVec Ideal S2048x4096 .f32) : Data where
  P i j := if h : i < 2048 ∧ j < 12288 then EReal.toReal (x0 (ValueIdx.ix2 ⟨i, h.1⟩ ⟨j, h.2⟩)) else 0
  A i j := if h : i < 8 ∧ j < 512 then EReal.toReal (x1 (ValueIdx.ix2 ⟨i, h.1⟩ ⟨j, h.2⟩)) else 0
  D i j := if h : i < 2048 ∧ j < 4096 then EReal.toReal (x2 (ValueIdx.ix2 ⟨i, h.1⟩ ⟨j, h.2⟩)) else 0
  cos i j := Real.cos (ang i j)
  sin i j := Real.sin (ang i j)
  lg := lgOf

theorem reads {x0 : FVec Ideal S2048x12288 .f32} {x1 : FVec Ideal S8x512 .f32} {x2 : FVec Ideal S2048x4096 .f32}
    (h : @Cert.Pre_finite.fn finite_facts Ideal _ x0 x1 x2 = fun _ => 1#1) : (dataOf x0 x1 x2).Reads x0 x1 x2 := by
  haveI : Subsingleton (S_).Idx := ⟨fun a b => funext fun i => i.elim0⟩
  have h' := congrFun h (fun a => a.elim0)
  obtain ⟨h01, h2⟩ := IntOp.andi_eq_one.1 h'
  obtain ⟨h0, h1⟩ := IntOp.andi_eq_one.1 h01
  have f0 := fun i => real_of_lt _ (Host.reduce_andi_all _ _ _ _ _ h0 i)
  have f1 := fun i => real_of_lt _ (Host.reduce_andi_all _ _ _ _ _ h1 i)
  have f2 := fun i => real_of_lt _ (Host.reduce_andi_all _ _ _ _ _ h2 i)
  refine ⟨⟨cos_eq, sin_eq, lg_eq⟩, fun i => ?_, fun i => ?_, fun i => ?_⟩
  · show x0 i = ((if h : (i 0).val < 2048 ∧ (i 1).val < 12288 then _ else 0 : ℝ) : EReal)
    rw [dif_pos ⟨(i 0).isLt, (i 1).isLt⟩]
    exact (f0 i).symm.trans (congrArg (fun j => ((EReal.toReal (x0 j) : ℝ) : EReal)) (ValueIdx.eq_ix2 i))
  · show x1 i = ((if h : (i 0).val < 8 ∧ (i 1).val < 512 then _ else 0 : ℝ) : EReal)
    rw [dif_pos ⟨(i 0).isLt, (i 1).isLt⟩]
    exact (f1 i).symm.trans (congrArg (fun j => ((EReal.toReal (x1 j) : ℝ) : EReal)) (ValueIdx.eq_ix2 i))
  · show x2 i = ((if h : (i 0).val < 2048 ∧ (i 1).val < 4096 then _ else 0 : ℝ) : EReal)
    rw [dif_pos ⟨(i 0).isLt, (i 1).isLt⟩]
    exact (f2 i).symm.trans (congrArg (fun j => ((EReal.toReal (x2 j) : ℝ) : EReal)) (ValueIdx.eq_ix2 i))

end Cert.Proof
-- ==== Proof.Prod.lean ====
/- MATRIX PRODUCTS OVER THE EXTENDED REALS, read entry by entry with natural-number coordinates: the three kinds of product the
   feed-forward layer's calls compute in a block, each as one sum over the contracted coordinate. Addition and multiplication
   there are commutative and associative, so no entry has to be finite. -/
module

public import Idealize.ShloMosaic.Lib.MatmulPlain

@[expose] public section

noncomputable section

namespace Cert.Proof

open Idealize.ShloMosaic Idealize.ShloMosaic.ValueIdx Finset

/-- The matrix `x` has the entries `f`. -/
def Ent {a b : ℕ} (x : (⟨2, ![a, b]⟩ : Shape).Idx → EReal) (f : ℕ → ℕ → EReal) : Prop := ∀ i, x i = f (i 0).val (i 1).val

/-- The entries of a matrix. -/
def ent {a b : ℕ} (x : (⟨2, ![a, b]⟩ : Shape).Idx → EReal) (i j : ℕ) : EReal :=
  if h : i < a ∧ j < b then x (ix2 ⟨i, h.1⟩ ⟨j, h.2⟩) else 0

theorem ent_is {a b : ℕ} (x : (⟨2, ![a, b]⟩ : Shape).Idx → EReal) : Ent x (ent x) := fun i => by
  have h : (i 0).val < a ∧ (i 1).val < b := ⟨(i 0).isLt, (i 1).isLt⟩
  unfold ent
  rw [dif_pos h]
  exact congrArg x (eq_ix2 i)

theorem entry (f : ℕ → ℕ → EReal) {i j i' j' : ℕ} (hi : i = i') (hj : j = j') : f i j = f i' j' := by rw [hi, hj]

/-- Rows of `f` times columns of `g`. -/
def dotNN (K : ℕ) (f g : ℕ → ℕ → EReal) (i j : ℕ) : EReal := ∑ k ∈ range K, f i k * g k j
/-- Rows of `f` times rows of `g`. -/
def dotNT (K : ℕ) (f g : ℕ → ℕ → EReal) (i j : ℕ) : EReal := ∑ k ∈ range K, f i k * g j k
/-- Columns of `f` times columns of `g`. -/
def dotTN (K : ℕ) (f g : ℕ → ℕ → EReal) (i j : ℕ) : EReal := ∑ k ∈ range K, f k i * g k j

/-- A product whose first operand is transposed. -/
def dimsTN (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, (by decide : (([] ++ [1] ++ [0] : List (Fin 2))).Perm (List.finRange 2)),
    (by decide : (([] ++ [1] ++ [0] : List (Fin 2))).Perm (List.finRange 2)), rfl, Nat.two_pos, fun b => by fin_cases b <;> rfl⟩

section
variable {M K N : ℕ} {φ₁ φ₂ : FTy} {f g : ℕ → ℕ → EReal}

theorem prodNN {x : FVec Ideal ⟨2, ![M, K]⟩ φ₁} {w : FVec Ideal ⟨2, ![K, N]⟩ φ₂} (hx : Ent x f) (hw : Ent w g) :
    Ent (matmul (DotDims.plain M K N) none x w (constant ⟨2, ![M, N]⟩ .f32 0x00000000#32)) (dotNN K f g) := fun i => by
  rw [eq_ix2 i]
  refine (Ideal.matmul_plain_apply none x w _ (i 0) (i 1)).trans ?_
  rw [show (constant ⟨2, ![M, N]⟩ .f32 0x00000000#32 : FVec Ideal ⟨2, ![M, N]⟩ .f32) (ix2 (i 0) (i 1)) = 0 from Ideal.ofBits_zero_f32, zero_add]
  unfold dotNN
  rw [Finset.sum_range]
  exact Finset.sum_congr rfl fun k _ => congrArg₂ _ (hx _) (hw _)

theorem prodNT {x : FVec Ideal ⟨2, ![M, K]⟩ φ₁} {w : FVec Ideal ⟨2, ![N, K]⟩ φ₂} (hx : Ent x f) (hw : Ent w g) :
    Ent (matmul (DotDims.transposedRhs M K N) none x w (constant ⟨2, ![M, N]⟩ .f32 0x00000000#32)) (dotNT K f g) := fun i => by
  rw [eq_ix2 i]
  refine (Ideal.matmul_transposedRhs_apply none x w _ (i 0) (i 1)).trans ?_
  rw [show (constant ⟨2, ![M, N]⟩ .f32 0x00000000#32 : FVec Ideal ⟨2, ![M, N]⟩ .f32) (ix2 (i 0) (i 1)) = 0 from Ideal.ofBits_zero_f32, zero_add]
  unfold dotNT
  rw [Finset.sum_range]
  exact Finset.sum_congr rfl fun k _ => congrArg₂ _ (hx _) (hw _)

theorem prodTN {x : FVec Ideal ⟨2, ![K, M]⟩ φ₁} {w : FVec Ideal ⟨2, ![K, N]⟩ φ₂} (hx : Ent x f) (hw : Ent w g) :
    Ent (matmul (dimsTN M K N) none x w (constant ⟨2, ![M, N]⟩ .f32 0x00000000#32)) (dotTN K f g) := fun i => by
  refine (Ideal.matmul_apply (dimsTN M K N) none x w _ i).trans ?_
  rw [show (constant ⟨2, ![M, N]⟩ .f32 0x00000000#32 : FVec Ideal ⟨2, ![M, N]⟩ .f32) i = 0 from Ideal.ofBits_zero_f32, zero_add,
    ← Equiv.sum_comp (contrEquiv1 (dimsTN M K N) K rfl rfl).symm]
  unfold dotTN
  rw [Finset.sum_range]
  refine Finset.sum_congr rfl fun k _ => ?_
  have hk := contrEquiv1_symm_val (dimsTN M K N) K rfl rfl k
  exact congrArg₂ _ ((hx _).trans (entry f hk rfl)) ((hw _).trans (entry g hk rfl))

end

/-- The first `n` blocks of a sum, and one more. -/
theorem dotNN_step (n B : ℕ) (f g : ℕ → ℕ → EReal) (i j : ℕ) :
    dotNN (B * n) f g i j + dotNN B (fun i k => f i (B * n + k)) (fun k j => g (B * n + k) j) i j = dotNN (B * (n + 1)) f g i j := by
  unfold dotNN
  rw [Nat.mul_succ, Finset.sum_range_add]
theorem dotNT_step (n B : ℕ) (f g : ℕ → ℕ → EReal) (i j : ℕ) :
    dotNT (B * n) f g i j + dotNT B (fun i k => f i (B * n + k)) (fun j k => g j (B * n + k)) i j = dotNT (B * (n + 1)) f g i j := by
  unfold dotNT
  rw [Nat.mul_succ, Finset.sum_range_add]

end Cert.Proof

end
-- ==== Proof.GradDownDx.lean ====
/- THE GRADIENT OF THE DOWN PROJECTION WITH RESPECT TO THE ACTIVATION'S ARGUMENT: entry `(i, j)` is the product of the incoming gradient
   with the transposed weights, times twice the positive part of the argument. The kernel's array and the derivative both hold it. -/
module

public import proofs.«01_k».proof.Proof.Prod
public import proofs.«01_k».proof.Proof.Gen.DownDxIdeal.Value
public import proofs.«01_k».proof.Proof.Gen.DownDxRefIdeal.Read
public import Idealize.ShloMosaic.Lib.Pipeline.ValueKit

@[expose] public section

set_option maxRecDepth 16384

noncomputable section

namespace Cert.Proof.DownDx

open Idealize.ShloMosaic Cert.DownDxIdeal Cert.DownDxIdeal.Gen Finset

/-- The constant 2 as both programs write it. -/
def two : EReal := Ideal.ofBits .f32 0x40000000#32

/-- The gradient's entries, from those of the argument, the weights and the incoming gradient. -/
def val (u w dy : ℕ → ℕ → EReal) (i j : ℕ) : EReal := dotNT 2048 dy w i j * two * max (u i j) 0

theorem pay {x0 : Vec Ideal S1024x2048 .bf16} {x1 : Vec Ideal S512x2048 .bf16} {x2 : Vec Ideal S1024x512 .bf16} {u w dy : ℕ → ℕ → EReal}
    (h0 : Ent x0 dy) (h1 : Ent x1 w) (h2 : Ent x2 u) : Ent (k0_pay1 (F := Ideal) x0 x1 x2) (val u w dy) := fun i => by
  show _ * _ * max (x2 i) (Ideal.ofBits .bf16 0x0000#16) = _
  rw [Ideal.ofBits_zero_bf16, h2 i]
  exact congrArg (· * two * max (u (i 0).val (i 1).val) 0) (prodNT h0 h1 i)

theorem out {x0 : Vec Ideal S1024x2048 .bf16} {x1 : Vec Ideal S512x2048 .bf16} {x2 : Vec Ideal S1024x512 .bf16} {u w dy : ℕ → ℕ → EReal}
    (h0 : Ent x0 dy) (h1 : Ent x1 w) (h2 : Ent x2 u) : Ent (out0_3 (F := Ideal) x0 x1 x2) (val u w dy) := by
  have hz : (![0, 0] : Fin 2 → ℕ) = fun _ => 0 := funext fun a => by fin_cases a <;> rfl
  unfold out0_3
  rw [View.canon_unit_zero hz]
  simp only [View.ld_unit_zero (S := S1024x2048) hz, View.ld_unit_zero (S := S512x2048) hz, View.ld_unit_zero (S := S1024x512) hz]
  exact pay h0 h1 h2

theorem pos0 : ∀ t : Fin cfg0.N, win0_0.index t = ![t.val / 16, 0] := (by decide +kernel : ∀ t : Fin grid0.N, _)
theorem pos1 : ∀ t : Fin cfg0.N, win0_1.index t = ![t.val % 16, 0] := (by decide +kernel : ∀ t : Fin grid0.N, _)
theorem pos2 : ∀ t : Fin cfg0.N, win0_2.index t = ![t.val / 16, t.val % 16] := (by decide +kernel : ∀ t : Fin grid0.N, _)
theorem pos3 : ∀ t : Fin cfg0.N, win0_3.index t = ![t.val / 16, t.val % 16] := (by decide +kernel : ∀ t : Fin grid0.N, _)

variable {m : (ℓ : Loc nD τ sig) → Buf (Elt Ideal) ℓ} {c : Dev nD} {u w dy : ℕ → ℕ → EReal}
  (hu : Ent (m (c.tc.loc main_arg0)) u) (hw : Ent (m (c.tc.loc main_arg1)) w) (hy : Ent (m (c.tc.loc main_arg2)) dy)

include hy in
theorem blk0 (t : Fin cfg0.N) : Ent (iblk m c 0 t) (fun i k => dy (1024 * (t.val / 16) + i) k) := fun x => by
  blk_simp [iblk]
  rw [V_main_arg2, hy]
  refine entry dy ?_ ?_
  · blk_simp [pos0] <;> simp <;> omega
  · blk_simp [pos0] <;> simp
include hw in
theorem blk1 (t : Fin cfg0.N) : Ent (iblk m c 1 t) (fun i k => w (512 * (t.val % 16) + i) k) := fun x => by
  blk_simp [iblk]
  rw [V_main_arg1, hw]
  refine entry w ?_ ?_
  · blk_simp [pos1] <;> simp <;> omega
  · blk_simp [pos1] <;> simp
include hu in
theorem blk2 (t : Fin cfg0.N) : Ent (iblk m c 2 t) (fun i j => u (1024 * (t.val / 16) + i) (512 * (t.val % 16) + j)) := fun x => by
  blk_simp [iblk]
  rw [V_main_arg0, hu]
  refine entry u ?_ ?_
  · blk_simp [pos2] <;> simp <;> omega
  · blk_simp [pos2] <;> simp <;> omega

include hu hw hy in
/-- The kernel's array. -/
theorem arr : (dats m 0 c).arrAt 3 cfg0.N = fun i : S2048x8192.Idx => val u w dy (i 0).val (i 1).val := by
  refine (dats m 0 c).arrAt_eq_of_covers 3 _ (by decide +kernel) fun t hf y => ?_
  blk_simp
  rw [after0_3]
  have e0 : win0_3.index t 0 * 1024 + (y 0).val = 1024 * (t.val / 16) + (y 0).val := by rw [pos3, Nat.mul_comm]; rfl
  have e1 : win0_3.index t 1 * 512 + (y 1).val = 512 * (t.val % 16) + (y 1).val := by rw [pos3, Nat.mul_comm]; rfl
  rw [e0, e1]
  exact out (blk0 hy t) (blk1 hw t) (blk2 hu t) y

open Cert.DownDxRefIdeal.Read in
/-- The derivative's array. -/
theorem ref {x0 : FVec Ideal S2048x8192 .bf16} {x1 : FVec Ideal S8192x2048 .bf16} {x2 : FVec Ideal S2048x2048 .bf16}
    (hu : Ent x0 u) (hw : Ent x1 w) (hy : Ent x2 dy) : Ent (val_main_v15 (F := Ideal) x0 x1 x2) (val u w dy) := fun i => by
  have h11 : val_main_v11 (F := Ideal) x1 x2 i = dotNT 2048 dy w (i 0).val (i 1).val := by
    rw [val_main_v11_apply]
    unfold dotNT
    rw [Finset.sum_range]
    exact Finset.sum_congr rfl fun k _ => congrArg₂ _ (hy _) (hw _)
  rw [val_main_v15_apply]
  show val_main_v14 (F := Ideal) x0 x1 x2 i = _
  rw [val_main_v14_apply, val_main_v12_apply, h11]
  show Scalar.select (Ideal.cmp .ogt (x0 i) (Ideal.ofBits .f32 0x00000000#32)) (_ * (two * max (x0 i) (Ideal.ofBits .f32 0x00000000#32)))
    (Ideal.ofBits .f32 0x00000000#32) = _
  rw [Ideal.ofBits_zero_f32, hu i]
  unfold val
  by_cases h : 0 < u (i 0).val (i 1).val
  · rw [mul_assoc]
    simp [Ideal.cmp, Scalar.select, h]
  · rw [max_eq_right (not_lt.1 h), mul_zero]
    simp [Ideal.cmp, Scalar.select, h]

end Cert.Proof.DownDx

end
-- ==== Proof.GradDownDw.lean ====
/- THE GRADIENT OF THE DOWN PROJECTION'S WEIGHTS: entry `(i, j)` is the sum, over the positions, of activation `i` times incoming
   gradient `j`. The kernel's array and the derivative both hold it. -/
module

public import proofs.«01_k».proof.Proof.Prod
public import proofs.«01_k».proof.Proof.Gen.DownDwIdeal.Value
public import proofs.«01_k».proof.Proof.Gen.DownDwRefIdeal.Read
public import Idealize.ShloMosaic.Lib.Pipeline.ValueKit

@[expose] public section

set_option maxRecDepth 16384

noncomputable section

namespace Cert.Proof.DownDw

open Idealize.ShloMosaic Cert.DownDwIdeal Cert.DownDwIdeal.Gen Finset

theorem out {x0 : Vec Ideal S2048x512 .bf16} {x1 : Vec Ideal S2048x2048 .bf16} {a dy : ℕ → ℕ → EReal}
    (h0 : Ent x0 a) (h1 : Ent x1 dy) : Ent (out0_2 (F := Ideal) x0 x1) (dotTN 2048 a dy) := by
  have hz : (![0, 0] : Fin 2 → ℕ) = fun _ => 0 := funext fun a => by fin_cases a <;> rfl
  unfold out0_2
  rw [View.canon_unit_zero hz]
  simp only [View.ld_unit_zero (S := S2048x512) hz, View.ld_unit_zero (S := S2048x2048) hz]
  exact prodTN (φ₁ := .bf16) (φ₂ := .bf16) h0 h1

theorem pos0 : ∀ t : Fin cfg0.N, win0_0.index t = ![0, t.val] := (by decide +kernel : ∀ t : Fin grid0.N, _)
theorem pos1 : ∀ t : Fin cfg0.N, win0_1.index t = ![0, 0] := (by decide +kernel : ∀ t : Fin grid0.N, _)
theorem pos2 : ∀ t : Fin cfg0.N, win0_2.index t = ![t.val, 0] := (by decide +kernel : ∀ t : Fin grid0.N, _)

variable {m : (ℓ : Loc nD τ sig) → Buf (Elt Ideal) ℓ} {c : Dev nD} {a dy : ℕ → ℕ → EReal}
  (ha : Ent (m (c.tc.loc main_arg0)) a) (hy : Ent (m (c.tc.loc main_arg1)) dy)

include ha in
theorem blk0 (t : Fin cfg0.N) : Ent (iblk m c 0 t) (fun k i => a k (512 * t.val + i)) := fun x => by
  blk_simp [iblk]
  rw [V_main_arg0, ha]
  refine entry a ?_ ?_
  · blk_simp [pos0] <;> simp
  · blk_simp [pos0] <;> simp <;> omega
include hy in
theorem blk1 (t : Fin cfg0.N) : Ent (iblk m c 1 t) dy := fun x => by
  blk_simp [iblk]
  rw [V_main_arg1, hy]
  refine entry dy ?_ ?_
  · blk_simp [pos1] <;> simp
  · blk_simp [pos1] <;> simp

include ha hy in
/-- The kernel's array. -/
theorem arr : (dats m 0 c).arrAt 2 cfg0.N = fun i : S8192x2048.Idx => dotTN 2048 a dy (i 0).val (i 1).val := by
  refine (dats m 0 c).arrAt_eq_of_covers 2 _ (by decide +kernel) fun t hf y => ?_
  blk_simp
  rw [after0_2]
  have e0 : win0_2.index t 0 * 512 + (y 0).val = 512 * t.val + (y 0).val := by rw [pos2, Nat.mul_comm]; rfl
  have e1 : win0_2.index t 1 * 2048 + (y 1).val = (y 1).val := by rw [pos2]; exact (congrArg (· + (y 1).val) (Nat.zero_mul 2048)).trans (Nat.zero_add _)
  rw [e0, e1]
  exact out (blk0 ha t) (blk1 hy t) y

open Cert.DownDwRefIdeal.Read in
/-- The derivative's array. -/
theorem ref {x0 : FVec Ideal S2048x8192 .bf16} {x1 : FVec Ideal S2048x2048 .bf16}
    (ha : Ent x0 a) (hy : Ent x1 dy) : Ent (val_main_v6 (F := Ideal) x0 x1) (dotTN 2048 a dy) := fun i => by
  rw [val_main_v6_apply]
  show val_main_v5 (F := Ideal) x0 x1 i = _
  rw [val_main_v5_apply, val_main_v4_apply]
  unfold dotTN
  rw [Finset.sum_range]
  exact Finset.sum_congr rfl fun k _ => (mul_comm _ _).trans (congrArg₂ _ (ha _) (hy _))

end Cert.Proof.DownDw

end
-- ==== Proof.GradUpDx.lean ====
/- THE GRADIENT OF THE UP PROJECTION'S INPUT: entry `(i, j)` is the sum, over the 8192 hidden units, of incoming gradient times weight.
   The kernel adds it up in eight blocks of 1024 units, in a buffer it carries from point to point; the derivative is one sum. -/
module

public import proofs.«01_k».proof.Proof.Prod
public import proofs.«01_k».proof.Proof.Gen.UpDxIdeal.Value
public import proofs.«01_k».proof.Proof.Gen.UpDxRefIdeal.Read
public import Idealize.ShloMosaic.Lib.Pipeline.ValueKit
public import Idealize.ShloMosaic.Lib.Tactic

@[expose] public section

set_option maxRecDepth 16384

noncomputable section

namespace Cert.Proof.UpDx

open Idealize.ShloMosaic Cert.UpDxIdeal Cert.UpDxIdeal.Gen Finset

/-! ## One point -/

theorem hz : (![0, 0] : Fin 2 → ℕ) = fun _ => 0 := funext fun a => by fin_cases a <;> rfl

/-- What a point adds to the carried buffer. -/
theorem pay {acc : Vec Ideal S1024x1024 .f32} {x0 x1 : Vec Ideal S1024x1024 .bf16} {s f g : ℕ → ℕ → EReal}
    (ha : Ent acc s) (h0 : Ent x0 f) (h1 : Ent x1 g) : Ent (k0_pay2 (F := Ideal) acc x0 x1) (fun i j => s i j + dotNT 1024 f g i j) := fun i => by
  unfold k0_pay2
  simp only [shapeCast_self]
  exact congrArg₂ _ (ha i) (prodNT (φ₁ := .bf16) (φ₂ := .bf16) h0 h1 i)

theorem zero_is : Ent (k0_pay1 (F := Ideal)) (fun _ _ => 0) := fun i => by
  unfold k0_pay1
  simp only [shapeCast_self]
  exact Ideal.ofBits_zero_f32

section
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole) (x0 x1 : Vec Ideal S1024x1024 .bf16) (acc : Vec Ideal S1024x1024 .f32)

theorem first (hc0 : cond0_0 i) (hc1 : ¬cond0_1 i) :
    sout0_A_0 (F := Ideal) c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

theorem next (hc0 : ¬cond0_0 i) (hc1 : ¬cond0_1 i) :
    sout0_B_0 (F := Ideal) c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  rw [View.canon_unit_zero hz]
  simp only [View.readAt_eq_ld, h3.read_unread, h4.read_unread, h6.read_unread, View.ld_unit_zero (S := S1024x1024) hz]

theorem last (hc0 : ¬cond0_0 i) (hc1 : cond0_1 i) :
    out0_C_2 (F := Ideal) c i a3 h3 a4 h4 a5 h5 a6 h6 hc0 hc1 x0 x1 acc = k0_pay2 acc x0 x1 := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]
end

/-! ## The blocks a point reads -/

theorem pos0 : ∀ t : Fin cfg0.N, win0_0.index t = ![t.val / 16, t.val % 8] := (by decide +kernel : ∀ t : Fin grid0.N, _)
theorem pos1 : ∀ t : Fin cfg0.N, win0_1.index t = ![t.val / 8 % 2, t.val % 8] := (by decide +kernel : ∀ t : Fin grid0.N, _)
theorem pos2 : ∀ t : Fin cfg0.N, win0_2.index t = ![t.val / 16, t.val / 8 % 2] := (by decide +kernel : ∀ t : Fin grid0.N, _)

/-- Block `n` of a band of rows. -/
def rows (f : ℕ → ℕ → EReal) (p n i k : ℕ) : EReal := f (1024 * p + i) (1024 * n + k)

variable {m : (ℓ : Loc nD τ sig) → Buf (Elt Ideal) ℓ} {c : Dev nD} {w du : ℕ → ℕ → EReal}
  (hw : Ent (m (c.tc.loc main_arg0)) w) (hd : Ent (m (c.tc.loc main_arg1)) du)

include hd in
theorem blk0 (t : Fin cfg0.N) : Ent (iblk m c 0 t) (rows du (t.val / 16) (t.val % 8)) := fun x => by
  blk_simp [iblk]
  rw [V_main_arg1, hd]
  refine entry du ?_ ?_
  · blk_simp [pos0] <;> simp <;> omega
  · blk_simp [pos0] <;> simp <;> omega
include hw in
theorem blk1 (t : Fin cfg0.N) : Ent (iblk m c 1 t) (rows w (t.val / 8 % 2) (t.val % 8)) := fun x => by
  blk_simp [iblk]
  rw [V_main_arg0, hw]
  refine entry w ?_ ?_
  · blk_simp [pos1] <;> simp <;> omega
  · blk_simp [pos1] <;> simp <;> omega

/-! ## The carried sum, and the array -/

/-- The sum over the first `n` blocks of units, for block `(p, q)` of the result. -/
def part (w du : ℕ → ℕ → EReal) (p q n i j : ℕ) : EReal := dotNT (1024 * n) du w (1024 * p + i) (1024 * q + j)

theorem part_zero (w du : ℕ → ℕ → EReal) (p q : ℕ) : part w du p q 0 = fun _ _ => 0 := by
  funext i j
  unfold part dotNT
  rw [Nat.mul_zero, Finset.sum_range_zero]
theorem part_succ (w du : ℕ → ℕ → EReal) (p q n : ℕ) :
    (fun i j => part w du p q n i j + dotNT 1024 (rows du p n) (rows w q n) i j) = part w du p q (n + 1) := by
  funext i j
  exact dotNT_step n 1024 du w (1024 * p + i) (1024 * q + j)

include hw hd in
/-- What is carried after a point that is not a block's last. -/
theorem carried (n : ℕ) (hn : n < cfg0.N) (h7 : ¬n % 8 = 7) :
    Ent (outsAt0 m c n hn).2 (part w du (n / 16) (n / 8 % 2) (n % 8 + 1)) := by
  induction n with
  | zero =>
    rw [outsAt0_A m c ⟨0, hn⟩ rfl h7]
    dsimp only
    rw [first, ← part_succ]
    have h := pay zero_is (blk0 hd ⟨0, hn⟩) (blk1 hw ⟨0, hn⟩)
    rw [part_zero]
    exact h
  | succ n ih =>
    by_cases h0 : (n + 1) % 8 = 0
    · rw [outsAt0_A m c ⟨n + 1, hn⟩ h0 h7]
      dsimp only
      rw [first, ← part_succ, h0, part_zero]
      have h := pay zero_is (blk0 hd ⟨n + 1, hn⟩) (blk1 hw ⟨n + 1, hn⟩)
      dsimp only at h
      rw [h0] at h
      exact h
    · rw [outsAt0_B m c ⟨n + 1, hn⟩ h0 h7]
      dsimp only
      rw [next, ← part_succ]
      have i' := ih (Nat.lt_of_succ_lt hn) (by omega)
      rw [show n / 16 = (n + 1) / 16 by omega, show n / 8 % 2 = (n + 1) / 8 % 2 by omega, show n % 8 + 1 = (n + 1) % 8 by omega] at i'
      exact pay i' (blk0 hd ⟨n + 1, hn⟩) (blk1 hw ⟨n + 1, hn⟩)

include hw hd in
/-- What a block's last point writes. -/
theorem written (t : Fin cfg0.N) (h7 : t.val % 8 = 7) :
    Ent (outsAt0 m c t.val t.isLt).1 (part w du (t.val / 16) (t.val / 8 % 2) 8) := by
  rw [outsAt0_C m c t (by omega) h7]
  dsimp only
  rw [last, ← part_succ]
  have i' := carried hw hd (t.val - 1) (Nat.lt_of_le_of_lt (Nat.sub_le _ _) t.isLt) (by omega)
  rw [show (t.val - 1) / 16 = t.val / 16 by omega, show (t.val - 1) / 8 % 2 = t.val / 8 % 2 by omega,
    show (t.val - 1) % 8 + 1 = 7 by omega] at i'
  have h := pay i' (blk0 hd t) (blk1 hw t)
  rw [h7] at h
  exact h

include hw hd in
/-- The kernel's array. -/
theorem arr : (dats m 0 c).arrAt 2 cfg0.N = fun i : S2048x2048.Idx => dotNT 8192 du w (i 0).val (i 1).val := by
  refine (dats m 0 c).arrAt_eq_of_covers 2 _ (by decide +kernel) fun t hf y => ?_
  blk_simp
  rw [after0_2]
  have e0 : win0_2.index t 0 * 1024 + (y 0).val = 1024 * (t.val / 16) + (y 0).val := by rw [pos2, Nat.mul_comm]; rfl
  have e1 : win0_2.index t 1 * 1024 + (y 1).val = 1024 * (t.val / 8 % 2) + (y 1).val := by rw [pos2, Nat.mul_comm]; rfl
  rw [e0, e1]
  exact written hw hd t ((flush0_2 t).1 hf) y

open Cert.UpDxRefIdeal.Read in
/-- The derivative's array. -/
theorem ref {x0 x1 : FVec Ideal S2048x8192 .bf16} (hw : Ent x0 w) (hd : Ent x1 du) :
    Ent (val_main_v4 (F := Ideal) x0 x1) (dotNT 8192 du w) := fun i => by
  rw [val_main_v4_apply]
  unfold dotNT
  rw [Finset.sum_range]
  exact Finset.sum_congr rfl fun k _ => congrArg₂ _ (hd _) (hw _)

end Cert.Proof.UpDx

end
-- ==== Proof.GradUpDw.lean ====
/- THE GRADIENT OF THE UP PROJECTION'S WEIGHTS: entry `(i, j)` is the sum, over the positions, of input `i` times incoming gradient `j`.
   The kernel's array and the derivative both hold it. -/
module

public import proofs.«01_k».proof.Proof.Prod
public import proofs.«01_k».proof.Proof.Gen.UpDwIdeal.Value
public import proofs.«01_k».proof.Proof.Gen.UpDwRefIdeal.Read
public import Idealize.ShloMosaic.Lib.Pipeline.ValueKit

@[expose] public section

set_option maxRecDepth 16384

noncomputable section

namespace Cert.Proof.UpDw

open Idealize.ShloMosaic Cert.UpDwIdeal Cert.UpDwIdeal.Gen Finset

theorem out {x0 : Vec Ideal S2048x1024 .bf16} {x1 : Vec Ideal S2048x512 .bf16} {h du : ℕ → ℕ → EReal}
    (h0 : Ent x0 h) (h1 : Ent x1 du) : Ent (out0_2 (F := Ideal) x0 x1) (dotTN 2048 h du) := by
  have hz : (![0, 0] : Fin 2 → ℕ) = fun _ => 0 := funext fun a => by fin_cases a <;> rfl
  unfold out0_2
  rw [View.canon_unit_zero hz]
  simp only [View.ld_unit_zero (S := S2048x1024) hz, View.ld_unit_zero (S := S2048x512) hz]
  exact prodTN (φ₁ := .bf16) (φ₂ := .bf16) h0 h1

theorem pos0 : ∀ t : Fin cfg0.N, win0_0.index t = ![0, t.val / 16] := (by decide +kernel : ∀ t : Fin grid0.N, _)
theorem pos1 : ∀ t : Fin cfg0.N, win0_1.index t = ![0, t.val % 16] := (by decide +kernel : ∀ t : Fin grid0.N, _)
theorem pos2 : ∀ t : Fin cfg0.N, win0_2.index t = ![t.val / 16, t.val % 16] := (by decide +kernel : ∀ t : Fin grid0.N, _)

variable {m : (ℓ : Loc nD τ sig) → Buf (Elt Ideal) ℓ} {c : Dev nD} {h du : ℕ → ℕ → EReal}
  (hh : Ent (m (c.tc.loc main_arg0)) h) (hd : Ent (m (c.tc.loc main_arg1)) du)

include hh in
theorem blk0 (t : Fin cfg0.N) : Ent (iblk m c 0 t) (fun k i => h k (1024 * (t.val / 16) + i)) := fun x => by
  blk_simp [iblk]
  rw [V_main_arg0, hh]
  refine entry h ?_ ?_
  · blk_simp [pos0] <;> simp
  · blk_simp [pos0] <;> simp <;> omega
include hd in
theorem blk1 (t : Fin cfg0.N) : Ent (iblk m c 1 t) (fun k j => du k (512 * (t.val % 16) + j)) := fun x => by
  blk_simp [iblk]
  rw [V_main_arg1, hd]
  refine entry du ?_ ?_
  · blk_simp [pos1] <;> simp
  · blk_simp [pos1] <;> simp <;> omega

include hh hd in
/-- The kernel's array. -/
theorem arr : (dats m 0 c).arrAt 2 cfg0.N = fun i : S2048x8192.Idx => dotTN 2048 h du (i 0).val (i 1).val := by
  refine (dats m 0 c).arrAt_eq_of_covers 2 _ (by decide +kernel) fun t hf y => ?_
  blk_simp
  rw [after0_2]
  have e0 : win0_2.index t 0 * 1024 + (y 0).val = 1024 * (t.val / 16) + (y 0).val := by rw [pos2, Nat.mul_comm]; rfl
  have e1 : win0_2.index t 1 * 512 + (y 1).val = 512 * (t.val % 16) + (y 1).val := by rw [pos2, Nat.mul_comm]; rfl
  rw [e0, e1]
  exact out (blk0 hh t) (blk1 hd t) y

open Cert.UpDwRefIdeal.Read in
/-- The derivative's array. -/
theorem ref {x0 : FVec Ideal S2048x2048 .bf16} {x1 : FVec Ideal S2048x8192 .bf16}
    (hh : Ent x0 h) (hd : Ent x1 du) : Ent (val_main_v6 (F := Ideal) x0 x1) (dotTN 2048 h du) := fun i => by
  rw [val_main_v6_apply]
  show val_main_v5 (F := Ideal) x0 x1 i = _
  rw [val_main_v5_apply, val_main_v4_apply]
  unfold dotTN
  rw [Finset.sum_range]
  exact Finset.sum_congr rfl fun k _ => (mul_comm _ _).trans (congrArg₂ _ (hh _) (hd _))

end Cert.Proof.UpDw

end
-- ==== Proof.ValueUp.lean ====
/- THE UP PROJECTION: the product of the input with the weights, and the square of its positive part. The kernel's two arrays and the
   layer's formula both hold them. -/
module

public import proofs.«01_k».proof.Proof.Prod
public import proofs.«01_k».proof.Proof.Gen.UpIdeal.Value
public import proofs.«01_k».proof.Proof.Gen.UpRefIdeal.Read
public import Idealize.ShloMosaic.Lib.Pipeline.ValueKit

@[expose] public section

set_option maxRecDepth 16384

noncomputable section

namespace Cert.Proof.Up

open Idealize.ShloMosaic Cert.UpIdeal Cert.UpIdeal.Gen Finset

/-- The activation of the product's entries. -/
def act (h w : ℕ → ℕ → EReal) (i j : ℕ) : EReal := max (dotNN 2048 h w i j) 0 * max (dotNN 2048 h w i j) 0

theorem out_u {x0 : Vec Ideal S1024x2048 .bf16} {x1 : Vec Ideal S2048x512 .bf16} {h w : ℕ → ℕ → EReal}
    (h0 : Ent x0 h) (h1 : Ent x1 w) : Ent (out0_2 (F := Ideal) x0 x1) (dotNN 2048 h w) := by
  have hz : (![0, 0] : Fin 2 → ℕ) = fun _ => 0 := funext fun a => by fin_cases a <;> rfl
  unfold out0_2
  rw [View.canon_unit_zero hz]
  simp only [View.ld_unit_zero (S := S1024x2048) hz, View.ld_unit_zero (S := S2048x512) hz]
  exact prodNN (φ₁ := .bf16) (φ₂ := .bf16) h0 h1
theorem out_a {x0 : Vec Ideal S1024x2048 .bf16} {x1 : Vec Ideal S2048x512 .bf16} {h w : ℕ → ℕ → EReal}
    (h0 : Ent x0 h) (h1 : Ent x1 w) : Ent (out0_3 (F := Ideal) x0 x1) (act h w) := fun i => by
  have hz : (![0, 0] : Fin 2 → ℕ) = fun _ => 0 := funext fun a => by fin_cases a <;> rfl
  unfold out0_3
  rw [View.canon_unit_zero hz]
  simp only [View.ld_unit_zero (S := S1024x2048) hz, View.ld_unit_zero (S := S2048x512) hz]
  have e : k0_pay1 (F := Ideal) x0 x1 i = dotNN 2048 h w (i 0).val (i 1).val := prodNN (φ₁ := .bf16) (φ₂ := .bf16) h0 h1 i
  show max (k0_pay1 (F := Ideal) x0 x1 i) (Ideal.ofBits .f32 0x00000000#32) * max (k0_pay1 (F := Ideal) x0 x1 i) (Ideal.ofBits .f32 0x00000000#32) = _
  rw [e, Ideal.ofBits_zero_f32]
  rfl

theorem pos0 : ∀ t : Fin cfg0.N, win0_0.index t = ![t.val / 16, 0] := (by decide +kernel : ∀ t : Fin grid0.N, _)
theorem pos1 : ∀ t : Fin cfg0.N, win0_1.index t = ![0, t.val % 16] := (by decide +kernel : ∀ t : Fin grid0.N, _)
theorem pos2 : ∀ t : Fin cfg0.N, win0_2.index t = ![t.val / 16, t.val % 16] := (by decide +kernel : ∀ t : Fin grid0.N, _)
theorem pos3 : ∀ t : Fin cfg0.N, win0_3.index t = ![t.val / 16, t.val % 16] := (by decide +kernel : ∀ t : Fin grid0.N, _)

variable {m : (ℓ : Loc nD τ sig) → Buf (Elt Ideal) ℓ} {c : Dev nD} {h w : ℕ → ℕ → EReal}
  (hh : Ent (m (c.tc.loc main_arg0)) h) (hw : Ent (m (c.tc.loc main_arg1)) w)

include hh in
theorem blk0 (t : Fin cfg0.N) : Ent (iblk m c 0 t) (fun i k => h (1024 * (t.val / 16) + i) k) := fun x => by
  blk_simp [iblk]
  rw [V_main_arg0, hh]
  refine entry h ?_ ?_
  · blk_simp [pos0] <;> simp <;> omega
  · blk_simp [pos0] <;> simp
include hw in
theorem blk1 (t : Fin cfg0.N) : Ent (iblk m c 1 t) (fun k j => w k (512 * (t.val % 16) + j)) := fun x => by
  blk_simp [iblk]
  rw [V_main_arg1, hw]
  refine entry w ?_ ?_
  · blk_simp [pos1] <;> simp
  · blk_simp [pos1] <;> simp <;> omega

include hh hw in
/-- The kernel's first array. -/
theorem arr_u : (dats m 0 c).arrAt 2 cfg0.N = fun i : S2048x8192.Idx => dotNN 2048 h w (i 0).val (i 1).val := by
  refine (dats m 0 c).arrAt_eq_of_covers 2 _ (by decide +kernel) fun t hf y => ?_
  blk_simp
  rw [after0_2]
  have e0 : win0_2.index t 0 * 1024 + (y 0).val = 1024 * (t.val / 16) + (y 0).val := by rw [pos2, Nat.mul_comm]; rfl
  have e1 : win0_2.index t 1 * 512 + (y 1).val = 512 * (t.val % 16) + (y 1).val := by rw [pos2, Nat.mul_comm]; rfl
  rw [e0, e1]
  exact out_u (blk0 hh t) (blk1 hw t) y
include hh hw in
/-- The kernel's second array. -/
theorem arr_a : (dats m 0 c).arrAt 3 cfg0.N = fun i : S2048x8192.Idx => act h w (i 0).val (i 1).val := by
  refine (dats m 0 c).arrAt_eq_of_covers 3 _ (by decide +kernel) fun t hf y => ?_
  blk_simp
  rw [after0_3]
  have e0 : win0_3.index t 0 * 1024 + (y 0).val = 1024 * (t.val / 16) + (y 0).val := by rw [pos3, Nat.mul_comm]; rfl
  have e1 : win0_3.index t 1 * 512 + (y 1).val = 512 * (t.val % 16) + (y 1).val := by rw [pos3, Nat.mul_comm]; rfl
  rw [e0, e1]
  exact out_a (blk0 hh t) (blk1 hw t) y

section
open Cert.UpRefIdeal.Read
variable {x0 : FVec Ideal S2048x2048 .bf16} {x1 : FVec Ideal S2048x8192 .bf16} (hx : Ent x0 h) (hv : Ent x1 w)
include hx hv

theorem ref_prod (i : S2048x8192.Idx) : val_main_v2 (F := Ideal) x0 x1 i = dotNN 2048 h w (i 0).val (i 1).val := by
  rw [val_main_v2_apply]
  unfold dotNN
  rw [Finset.sum_range]
  exact Finset.sum_congr rfl fun k _ => congrArg₂ _ (hx _) (hv _)
/-- The formula's first array. -/
theorem ref_u : Ent (val_main_v3 (F := Ideal) x0 x1) (dotNN 2048 h w) := fun i => ref_prod hx hv i
/-- The formula's second array. -/
theorem ref_a : Ent (val_main_v6 (F := Ideal) x0 x1) (act h w) := fun i => by
  rw [val_main_v6_apply]
  show val_main_v5 (F := Ideal) x0 x1 i = _
  rw [val_main_v5_apply]
  show max (val_main_v2 (F := Ideal) x0 x1 i) (Ideal.ofBits .f32 0x00000000#32) * max (val_main_v2 (F := Ideal) x0 x1 i) (Ideal.ofBits .f32 0x00000000#32) = _
  rw [ref_prod hx hv, Ideal.ofBits_zero_f32]
  rfl
end

end Cert.Proof.Up

end
-- ==== Proof.ValueDown.lean ====
/- THE DOWN PROJECTION: the residual stream plus the product of the activations with the weights, a sum over the 8192 hidden units. The
   kernel adds it up in eight blocks of 1024 units, in a buffer it carries from point to point; the layer's formula is one sum. -/
module

public import proofs.«01_k».proof.Proof.Prod
public import proofs.«01_k».proof.Proof.Gen.DownIdeal.Value
public import proofs.«01_k».proof.Proof.Gen.DownRefIdeal.Read
public import Idealize.ShloMosaic.Lib.Pipeline.ValueKit
public import Idealize.ShloMosaic.Lib.Tactic

@[expose] public section

set_option maxRecDepth 16384

noncomputable section

namespace Cert.Proof.Down

open Idealize.ShloMosaic Cert.DownIdeal Cert.DownIdeal.Gen Finset

/-! ## One point -/

theorem hz : (![0, 0] : Fin 2 → ℕ) = fun _ => 0 := funext fun a => by fin_cases a <;> rfl

/-- What a point adds to the carried buffer. -/
theorem pay {acc : Vec Ideal S1024x1024 .f32} {x0 x1 : Vec Ideal S1024x1024 .bf16} {s f g : ℕ → ℕ → EReal}
    (ha : Ent acc s) (h0 : Ent x0 f) (h1 : Ent x1 g) : Ent (k0_pay2 (F := Ideal) acc x0 x1) (fun i j => s i j + dotNN 1024 f g i j) := fun i => by
  unfold k0_pay2
  simp only [shapeCast_self]
  exact congrArg₂ _ (ha i) (prodNN (φ₁ := .bf16) (φ₂ := .bf16) h0 h1 i)

/-- What a block's last point writes: the residual block is added. -/
theorem pay_res {acc x2 : Vec Ideal S1024x1024 .f32} {s r : ℕ → ℕ → EReal} (ha : Ent acc s) (h2 : Ent x2 r) :
    Ent (k0_pay3 (F := Ideal) acc x2) (fun i j => s i j + r i j) := fun i => by
  show acc i + x2 i = _
  rw [ha i, h2 i]

theorem zero_is : Ent (k0_pay1 (F := Ideal)) (fun _ _ => 0) := fun i => by
  unfold k0_pay1
  simp only [shapeCast_self]
  exact Ideal.ofBits_zero_f32

section
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x0 x1 : Vec Ideal S1024x1024 .bf16) (x2 acc : Vec Ideal S1024x1024 .f32)

theorem first (hc0 : cond0_0 i) (hc1 : ¬cond0_1 i) :
    sout0_A_0 (F := Ideal) c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

theorem next (hc0 : ¬cond0_0 i) (hc1 : ¬cond0_1 i) :
    sout0_B_0 (F := Ideal) c i a3 h3 a4 h4 a5 h5 a6 h6 a7 h7 hc0 hc1 x0 x1 x2 acc = k0_pay2 acc x0 x1 := by
  unfold sout0_B_0
  rw [View.read_writes_eq_canon _ _ _ (scover0_B_0 c i a3 h3 a4 h4 a5 h5 a6 h6 a7 h7 hc0 hc1 x0 x1 x2 acc)]
  unfold kernelRun0_B
  dsimp only
  rw [View.canon_unit_zero hz]
  simp only [View.readAt_eq_ld, h3.read_unread, h4.read_unread, h7.read_unread, View.ld_unit_zero (S := S1024x1024) hz]

theorem last (hc0 : ¬cond0_0 i) (hc1 : cond0_1 i) :
    out0_C_3 (F := Ideal) c i a3 h3 a4 h4 a5 h5 a6 h6 a7 h7 hc0 hc1 x0 x1 x2 acc = k0_pay3 (k0_pay2 acc x0 x1) x2 := by
  unfold out0_C_3
  rw [View.read_writes_eq_canon _ _ _ (cover0_C_3 c i a3 h3 a4 h4 a5 h5 a6 h6 a7 h7 hc0 hc1 x0 x1 x2 acc)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread, View.ld_unit_zero (S := S1024x1024) hz]
end

/-! ## The blocks a point reads -/

theorem pos0 : ∀ t : Fin cfg0.N, win0_0.index t = ![t.val / 16, t.val % 8] := (by decide +kernel : ∀ t : Fin grid0.N, _)
theorem pos1 : ∀ t : Fin cfg0.N, win0_1.index t = ![t.val % 8, t.val / 8 % 2] := (by decide +kernel : ∀ t : Fin grid0.N, _)
theorem pos2 : ∀ t : Fin cfg0.N, win0_2.index t = ![t.val / 16, t.val / 8 % 2] := (by decide +kernel : ∀ t : Fin grid0.N, _)
theorem pos3 : ∀ t : Fin cfg0.N, win0_3.index t = ![t.val / 16, t.val / 8 % 2] := (by decide +kernel : ∀ t : Fin grid0.N, _)

/-- Block `(p, q)` of a matrix. -/
def blk (f : ℕ → ℕ → EReal) (p q i j : ℕ) : EReal := f (1024 * p + i) (1024 * q + j)

variable {m : (ℓ : Loc nD τ sig) → Buf (Elt Ideal) ℓ} {c : Dev nD} {a w x : ℕ → ℕ → EReal}
  (ha : Ent (m (c.tc.loc main_arg0)) a) (hw : Ent (m (c.tc.loc main_arg1)) w) (hx : Ent (m (c.tc.loc main_arg2)) x)

include ha in
theorem blk0 (t : Fin cfg0.N) : Ent (iblk m c 0 t) (blk a (t.val / 16) (t.val % 8)) := fun y => by
  blk_simp [iblk]
  rw [V_main_arg0, ha]
  refine entry a ?_ ?_
  · blk_simp [pos0] <;> simp <;> omega
  · blk_simp [pos0] <;> simp <;> omega
include hw in
theorem blk1 (t : Fin cfg0.N) : Ent (iblk m c 1 t) (blk w (t.val % 8) (t.val / 8 % 2)) := fun y => by
  blk_simp [iblk]
  rw [V_main_arg1, hw]
  refine entry w ?_ ?_
  · blk_simp [pos1] <;> simp <;> omega
  · blk_simp [pos1] <;> simp <;> omega
include hx in
theorem blk2 (t : Fin cfg0.N) : Ent (iblk m c 2 t) (blk x (t.val / 16) (t.val / 8 % 2)) := fun y => by
  blk_simp [iblk]
  rw [V_main_arg2, hx]
  refine entry x ?_ ?_
  · blk_simp [pos2] <;> simp <;> omega
  · blk_simp [pos2] <;> simp <;> omega

/-! ## The carried sum, and the array -/

/-- The sum over the first `n` blocks of units, for block `(p, q)` of the result. -/
def part (a w : ℕ → ℕ → EReal) (p q n i j : ℕ) : EReal := dotNN (1024 * n) a w (1024 * p + i) (1024 * q + j)

theorem part_zero (a w : ℕ → ℕ → EReal) (p q : ℕ) : part a w p q 0 = fun _ _ => 0 := by
  funext i j
  unfold part dotNN
  rw [Nat.mul_zero, Finset.sum_range_zero]
theorem part_succ (a w : ℕ → ℕ → EReal) (p q n : ℕ) :
    (fun i j => part a w p q n i j + dotNN 1024 (blk a p n) (blk w n q) i j) = part a w p q (n + 1) := by
  funext i j
  exact dotNN_step n 1024 a w (1024 * p + i) (1024 * q + j)

include ha hw in
/-- What is carried after a point that is not a block's last. -/
theorem carried (n : ℕ) (hn : n < cfg0.N) (h7 : ¬n % 8 = 7) :
    Ent (outsAt0 m c n hn).2 (part a w (n / 16) (n / 8 % 2) (n % 8 + 1)) := by
  induction n with
  | zero =>
    rw [outsAt0_A m c ⟨0, hn⟩ rfl h7]
    dsimp only
    rw [first, ← part_succ]
    have h := pay zero_is (blk0 ha ⟨0, hn⟩) (blk1 hw ⟨0, hn⟩)
    rw [part_zero]
    exact h
  | succ n ih =>
    by_cases h0 : (n + 1) % 8 = 0
    · rw [outsAt0_A m c ⟨n + 1, hn⟩ h0 h7]
      dsimp only
      rw [first, ← part_succ, h0, part_zero]
      have h := pay zero_is (blk0 ha ⟨n + 1, hn⟩) (blk1 hw ⟨n + 1, hn⟩)
      dsimp only at h
      rw [h0] at h
      exact h
    · rw [outsAt0_B m c ⟨n + 1, hn⟩ h0 h7]
      dsimp only
      rw [next, ← part_succ]
      have i' := ih (Nat.lt_of_succ_lt hn) (by omega)
      rw [show n / 16 = (n + 1) / 16 by omega, show n / 8 % 2 = (n + 1) / 8 % 2 by omega, show n % 8 + 1 = (n + 1) % 8 by omega] at i'
      exact pay i' (blk0 ha ⟨n + 1, hn⟩) (blk1 hw ⟨n + 1, hn⟩)

include ha hw hx in
/-- What a block's last point writes. -/
theorem written (t : Fin cfg0.N) (h7 : t.val % 8 = 7) :
    Ent (outsAt0 m c t.val t.isLt).1 (fun i j => part a w (t.val / 16) (t.val / 8 % 2) 8 i j + blk x (t.val / 16) (t.val / 8 % 2) i j) := by
  rw [outsAt0_C m c t (by omega) h7]
  dsimp only
  rw [last, ← part_succ]
  have i' := carried ha hw (t.val - 1) (Nat.lt_of_le_of_lt (Nat.sub_le _ _) t.isLt) (by omega)
  rw [show (t.val - 1) / 16 = t.val / 16 by omega, show (t.val - 1) / 8 % 2 = t.val / 8 % 2 by omega,
    show (t.val - 1) % 8 + 1 = 7 by omega] at i'
  have h := pay i' (blk0 ha t) (blk1 hw t)
  rw [h7] at h
  exact pay_res h (blk2 hx t)

include ha hw hx in
/-- The kernel's array. -/
theorem arr : (dats m 0 c).arrAt 3 cfg0.N = fun i : S2048x2048.Idx => dotNN 8192 a w (i 0).val (i 1).val + x (i 0).val (i 1).val := by
  refine (dats m 0 c).arrAt_eq_of_covers 3 _ (by decide +kernel) fun t hf y => ?_
  blk_simp
  rw [after0_3]
  have e0 : win0_3.index t 0 * 1024 + (y 0).val = 1024 * (t.val / 16) + (y 0).val := by rw [pos3, Nat.mul_comm]; rfl
  have e1 : win0_3.index t 1 * 1024 + (y 1).val = 1024 * (t.val / 8 % 2) + (y 1).val := by rw [pos3, Nat.mul_comm]; rfl
  rw [e0, e1]
  exact written ha hw hx t ((flush0_3 t).1 hf) y

open Cert.DownRefIdeal.Read in
/-- The formula's array. -/
theorem ref {x0 : FVec Ideal S2048x8192 .bf16} {x1 : FVec Ideal S8192x2048 .bf16} {x2 : FVec Ideal S2048x2048 .f32}
    (ha : Ent x0 a) (hw : Ent x1 w) (hx : Ent x2 x) :
    Ent (val_main_v3 (F := Ideal) x0 x1 x2) (fun i j => dotNN 8192 a w i j + x i j) := fun i => by
  rw [val_main_v3_apply, val_main_v2_apply]
  show x2 i + _ = dotNN 8192 a w (i 0).val (i 1).val + x (i 0).val (i 1).val
  unfold dotNN
  rw [Finset.sum_range, hx i, add_comm]
  exact congrArg (· + x (i 0).val (i 1).val) (Finset.sum_congr rfl fun k _ => congrArg₂ _ (ha _) (hw _))

end Cert.Proof.Down

end
-- ==== Proof.Mlp.lean ====
/- The squared-ReLU MLP: for each of its six products, the claims about the reference's frame and the value. -/
module

public import proofs.«01_k».proof.Defs
public import proofs.«01_k».proof.Proof.Gen.DownDx
public import proofs.«01_k».proof.Proof.Gen.DownDxIdeal
public import proofs.«01_k».proof.Proof.Gen.DownDxRefIdeal
public import proofs.«01_k».proof.Proof.GradDownDx
public import proofs.«01_k».proof.Proof.Gen.DownDw
public import proofs.«01_k».proof.Proof.Gen.DownDwIdeal
public import proofs.«01_k».proof.Proof.Gen.DownDwRefIdeal
public import proofs.«01_k».proof.Proof.GradDownDw
public import proofs.«01_k».proof.Proof.Gen.UpDx
public import proofs.«01_k».proof.Proof.Gen.UpDxIdeal
public import proofs.«01_k».proof.Proof.Gen.UpDxRefIdeal
public import proofs.«01_k».proof.Proof.GradUpDx
public import proofs.«01_k».proof.Proof.Gen.UpDw
public import proofs.«01_k».proof.Proof.Gen.UpDwIdeal
public import proofs.«01_k».proof.Proof.Gen.UpDwRefIdeal
public import proofs.«01_k».proof.Proof.GradUpDw
public import proofs.«01_k».proof.Proof.Gen.Up
public import proofs.«01_k».proof.Proof.Gen.UpIdeal
public import proofs.«01_k».proof.Proof.Gen.UpRefIdeal
public import proofs.«01_k».proof.Proof.ValueUp
public import proofs.«01_k».proof.Proof.Gen.Down
public import proofs.«01_k».proof.Proof.Gen.DownIdeal
public import proofs.«01_k».proof.Proof.Gen.DownRefIdeal
public import proofs.«01_k».proof.Proof.ValueDown

@[expose] public section

noncomputable section

namespace Cert.Proof

open Idealize.ShloMosaic Idealize.SL.Sem

/-- The product down, its gradient in the layer's `u`: the reference runs no kernel and has no counters. -/
theorem DownDx.frame_ref : quiescent_DownDxRefIdeal (hDownDxRefIdeal := Cert.DownDxRefIdeal.Gen.facts) := fun m g _ =>
  (θ_run Cert.DownDxRefIdeal.defs _ _).mono (fun r h => ⟨fun c => (h c).2,
      Idealize.ShloMosaic.sem_eq_zero_of_no_sems (by decide) r.2⟩)
    (Cert.DownDxRefIdeal.Value.run (F := Ideal) m g)

/-- The product down, its gradient in the layer's `u`: kernel and reference end with the same array. -/
theorem DownDx.algebraic : algebraic_DownDxIdeal_DownDxRefIdeal (hDownDxIdeal := Cert.DownDxIdeal.Gen.facts)
    (hDownDxRefIdeal := Cert.DownDxRefIdeal.Gen.facts) := by
  intro m g m' g' _ hagree
  refine ⟨_, Cert.DownDxIdeal.Value.run_blocks m g,
    (θ_run Cert.DownDxRefIdeal.defs _ _).mono (fun r h c => ?_) (Cert.DownDxRefIdeal.Value.run (F := Ideal) m' g')⟩
  obtain ⟨h0, ha⟩ := h c
  obtain ⟨e0, e1, e2⟩ := hagree c
  have k0 := ent_is (m (c.tc.loc Cert.DownDxIdeal.main_arg0))
  have r0 : Ent (m' (c.tc.loc Cert.DownDxRefIdeal.main_arg0)) (ent (m (c.tc.loc Cert.DownDxIdeal.main_arg0))) := by rw [e0]; exact k0
  have k1 := ent_is (m (c.tc.loc Cert.DownDxIdeal.main_arg1))
  have r1 : Ent (m' (c.tc.loc Cert.DownDxRefIdeal.main_arg1)) (ent (m (c.tc.loc Cert.DownDxIdeal.main_arg1))) := by rw [e1]; exact k1
  have k2 := ent_is (m (c.tc.loc Cert.DownDxIdeal.main_arg2))
  have r2 : Ent (m' (c.tc.loc Cert.DownDxRefIdeal.main_arg2)) (ent (m (c.tc.loc Cert.DownDxIdeal.main_arg2))) := by rw [e2]; exact k2
  refine ⟨h0.trans ?_, ha⟩
  rw [Cert.DownDxRefIdeal.Read.val_main_v15_eq]
  exact (funext fun i => DownDx.ref r0 r1 r2 i).trans (DownDx.arr k0 k1 k2).symm

/-- The product down, its gradient in the weights: the reference runs no kernel and has no counters. -/
theorem DownDw.frame_ref : quiescent_DownDwRefIdeal (hDownDwRefIdeal := Cert.DownDwRefIdeal.Gen.facts) := fun m g _ =>
  (θ_run Cert.DownDwRefIdeal.defs _ _).mono (fun r h => ⟨fun c => (h c).2,
      Idealize.ShloMosaic.sem_eq_zero_of_no_sems (by decide) r.2⟩)
    (Cert.DownDwRefIdeal.Value.run (F := Ideal) m g)

/-- The product down, its gradient in the weights: kernel and reference end with the same array. -/
theorem DownDw.algebraic : algebraic_DownDwIdeal_DownDwRefIdeal (hDownDwIdeal := Cert.DownDwIdeal.Gen.facts)
    (hDownDwRefIdeal := Cert.DownDwRefIdeal.Gen.facts) := by
  intro m g m' g' _ hagree
  refine ⟨_, Cert.DownDwIdeal.Value.run_blocks m g,
    (θ_run Cert.DownDwRefIdeal.defs _ _).mono (fun r h c => ?_) (Cert.DownDwRefIdeal.Value.run (F := Ideal) m' g')⟩
  obtain ⟨h0, ha⟩ := h c
  obtain ⟨e0, e1⟩ := hagree c
  have k0 := ent_is (m (c.tc.loc Cert.DownDwIdeal.main_arg0))
  have r0 : Ent (m' (c.tc.loc Cert.DownDwRefIdeal.main_arg0)) (ent (m (c.tc.loc Cert.DownDwIdeal.main_arg0))) := by rw [e0]; exact k0
  have k1 := ent_is (m (c.tc.loc Cert.DownDwIdeal.main_arg1))
  have r1 : Ent (m' (c.tc.loc Cert.DownDwRefIdeal.main_arg1)) (ent (m (c.tc.loc Cert.DownDwIdeal.main_arg1))) := by rw [e1]; exact k1
  refine ⟨h0.trans ?_, ha⟩
  rw [Cert.DownDwRefIdeal.Read.val_main_v6_eq]
  exact (funext fun i => DownDw.ref r0 r1 i).trans (DownDw.arr k0 k1).symm

/-- The product up, its gradient in the input: the reference runs no kernel and has no counters. -/
theorem UpDx.frame_ref : quiescent_UpDxRefIdeal (hUpDxRefIdeal := Cert.UpDxRefIdeal.Gen.facts) := fun m g _ =>
  (θ_run Cert.UpDxRefIdeal.defs _ _).mono (fun r h => ⟨fun c => (h c).2,
      Idealize.ShloMosaic.sem_eq_zero_of_no_sems (by decide) r.2⟩)
    (Cert.UpDxRefIdeal.Value.run (F := Ideal) m g)

/-- The product up, its gradient in the input: kernel and reference end with the same array. -/
theorem UpDx.algebraic : algebraic_UpDxIdeal_UpDxRefIdeal (hUpDxIdeal := Cert.UpDxIdeal.Gen.facts)
    (hUpDxRefIdeal := Cert.UpDxRefIdeal.Gen.facts) := by
  intro m g m' g' _ hagree
  refine ⟨_, Cert.UpDxIdeal.Value.run_blocks m g,
    (θ_run Cert.UpDxRefIdeal.defs _ _).mono (fun r h c => ?_) (Cert.UpDxRefIdeal.Value.run (F := Ideal) m' g')⟩
  obtain ⟨h0, ha⟩ := h c
  obtain ⟨e0, e1⟩ := hagree c
  have k0 := ent_is (m (c.tc.loc Cert.UpDxIdeal.main_arg0))
  have r0 : Ent (m' (c.tc.loc Cert.UpDxRefIdeal.main_arg0)) (ent (m (c.tc.loc Cert.UpDxIdeal.main_arg0))) := by rw [e0]; exact k0
  have k1 := ent_is (m (c.tc.loc Cert.UpDxIdeal.main_arg1))
  have r1 : Ent (m' (c.tc.loc Cert.UpDxRefIdeal.main_arg1)) (ent (m (c.tc.loc Cert.UpDxIdeal.main_arg1))) := by rw [e1]; exact k1
  refine ⟨h0.trans ?_, ha⟩
  rw [Cert.UpDxRefIdeal.Read.val_main_v4_eq]
  exact (funext fun i => UpDx.ref r0 r1 i).trans (UpDx.arr k0 k1).symm

/-- The product up, its gradient in the weights: the reference runs no kernel and has no counters. -/
theorem UpDw.frame_ref : quiescent_UpDwRefIdeal (hUpDwRefIdeal := Cert.UpDwRefIdeal.Gen.facts) := fun m g _ =>
  (θ_run Cert.UpDwRefIdeal.defs _ _).mono (fun r h => ⟨fun c => (h c).2,
      Idealize.ShloMosaic.sem_eq_zero_of_no_sems (by decide) r.2⟩)
    (Cert.UpDwRefIdeal.Value.run (F := Ideal) m g)

/-- The product up, its gradient in the weights: kernel and reference end with the same array. -/
theorem UpDw.algebraic : algebraic_UpDwIdeal_UpDwRefIdeal (hUpDwIdeal := Cert.UpDwIdeal.Gen.facts)
    (hUpDwRefIdeal := Cert.UpDwRefIdeal.Gen.facts) := by
  intro m g m' g' _ hagree
  refine ⟨_, Cert.UpDwIdeal.Value.run_blocks m g,
    (θ_run Cert.UpDwRefIdeal.defs _ _).mono (fun r h c => ?_) (Cert.UpDwRefIdeal.Value.run (F := Ideal) m' g')⟩
  obtain ⟨h0, ha⟩ := h c
  obtain ⟨e0, e1⟩ := hagree c
  have k0 := ent_is (m (c.tc.loc Cert.UpDwIdeal.main_arg0))
  have r0 : Ent (m' (c.tc.loc Cert.UpDwRefIdeal.main_arg0)) (ent (m (c.tc.loc Cert.UpDwIdeal.main_arg0))) := by rw [e0]; exact k0
  have k1 := ent_is (m (c.tc.loc Cert.UpDwIdeal.main_arg1))
  have r1 : Ent (m' (c.tc.loc Cert.UpDwRefIdeal.main_arg1)) (ent (m (c.tc.loc Cert.UpDwIdeal.main_arg1))) := by rw [e1]; exact k1
  refine ⟨h0.trans ?_, ha⟩
  rw [Cert.UpDwRefIdeal.Read.val_main_v6_eq]
  exact (funext fun i => UpDw.ref r0 r1 i).trans (UpDw.arr k0 k1).symm

/-- The product up: the reference runs no kernel and has no counters. -/
theorem Up.frame_ref : quiescent_UpRefIdeal (hUpRefIdeal := Cert.UpRefIdeal.Gen.facts) := fun m g _ =>
  (θ_run Cert.UpRefIdeal.defs _ _).mono (fun r h => ⟨fun c => (h c).2.2,
      Idealize.ShloMosaic.sem_eq_zero_of_no_sems (by decide) r.2⟩)
    (Cert.UpRefIdeal.Value.run (F := Ideal) m g)

/-- The product up: kernel and reference end with the same arrays. -/
theorem Up.algebraic : algebraic_UpIdeal_UpRefIdeal (hUpIdeal := Cert.UpIdeal.Gen.facts)
    (hUpRefIdeal := Cert.UpRefIdeal.Gen.facts) := by
  intro m g m' g' _ hagree
  refine ⟨_, _, Cert.UpIdeal.Value.run_blocks m g,
    (θ_run Cert.UpRefIdeal.defs _ _).mono (fun r h c => ?_) (Cert.UpRefIdeal.Value.run (F := Ideal) m' g')⟩
  obtain ⟨h0, h1, ha⟩ := h c
  obtain ⟨e0, e1⟩ := hagree c
  have k0 := ent_is (m (c.tc.loc Cert.UpIdeal.main_arg0))
  have r0 : Ent (m' (c.tc.loc Cert.UpRefIdeal.main_arg0)) (ent (m (c.tc.loc Cert.UpIdeal.main_arg0))) := by rw [e0]; exact k0
  have k1 := ent_is (m (c.tc.loc Cert.UpIdeal.main_arg1))
  have r1 : Ent (m' (c.tc.loc Cert.UpRefIdeal.main_arg1)) (ent (m (c.tc.loc Cert.UpIdeal.main_arg1))) := by rw [e1]; exact k1
  refine ⟨h0.trans ?_, h1.trans ?_, ha⟩
  · rw [Cert.UpRefIdeal.Read.val_main_v3_eq]
    exact (funext fun i => Up.ref_u r0 r1 i).trans (Up.arr_u k0 k1).symm
  · rw [Cert.UpRefIdeal.Read.val_main_v6_eq]
    exact (funext fun i => Up.ref_a r0 r1 i).trans (Up.arr_a k0 k1).symm

/-- The product down: the reference runs no kernel and has no counters. -/
theorem Down.frame_ref : quiescent_DownRefIdeal (hDownRefIdeal := Cert.DownRefIdeal.Gen.facts) := fun m g _ =>
  (θ_run Cert.DownRefIdeal.defs _ _).mono (fun r h => ⟨fun c => (h c).2,
      Idealize.ShloMosaic.sem_eq_zero_of_no_sems (by decide) r.2⟩)
    (Cert.DownRefIdeal.Value.run (F := Ideal) m g)

/-- The product down: kernel and reference end with the same array. -/
theorem Down.algebraic : algebraic_DownIdeal_DownRefIdeal (hDownIdeal := Cert.DownIdeal.Gen.facts)
    (hDownRefIdeal := Cert.DownRefIdeal.Gen.facts) := by
  intro m g m' g' _ hagree
  refine ⟨_, Cert.DownIdeal.Value.run_blocks m g,
    (θ_run Cert.DownRefIdeal.defs _ _).mono (fun r h c => ?_) (Cert.DownRefIdeal.Value.run (F := Ideal) m' g')⟩
  obtain ⟨h0, ha⟩ := h c
  obtain ⟨e0, e1, e2⟩ := hagree c
  have k0 := ent_is (m (c.tc.loc Cert.DownIdeal.main_arg0))
  have r0 : Ent (m' (c.tc.loc Cert.DownRefIdeal.main_arg0)) (ent (m (c.tc.loc Cert.DownIdeal.main_arg0))) := by rw [e0]; exact k0
  have k1 := ent_is (m (c.tc.loc Cert.DownIdeal.main_arg1))
  have r1 : Ent (m' (c.tc.loc Cert.DownRefIdeal.main_arg1)) (ent (m (c.tc.loc Cert.DownIdeal.main_arg1))) := by rw [e1]; exact k1
  have k2 := ent_is (m (c.tc.loc Cert.DownIdeal.main_arg2))
  have r2 : Ent (m' (c.tc.loc Cert.DownRefIdeal.main_arg2)) (ent (m (c.tc.loc Cert.DownIdeal.main_arg2))) := by rw [e2]; exact k2
  refine ⟨h0.trans ?_, ha⟩
  rw [Cert.DownRefIdeal.Read.val_main_v3_eq]
  exact (funext fun i => Down.ref r0 r1 r2 i).trans (Down.arr k0 k1 k2).symm

end Cert.Proof

end
-- ==== Proof.GradRetInDw.lean ====
/- THE GRADIENT OF THE RETENTION'S PROJECTION IN, ITS WEIGHTS: entry `(i, j)` is the sum, over the positions, of input `i` times incoming gradient `j`. The
   kernel's array and the derivative both hold it. -/
module

public import proofs.«01_k».proof.Proof.Prod
public import proofs.«01_k».proof.Proof.Gen.RetInDwIdeal.Value
public import proofs.«01_k».proof.Proof.Gen.RetInDwRefIdeal.Read
public import Idealize.ShloMosaic.Lib.Pipeline.ValueKit

@[expose] public section

set_option maxRecDepth 16384

noncomputable section

namespace Cert.Proof.RetInDw

open Idealize.ShloMosaic Cert.RetInDwIdeal Cert.RetInDwIdeal.Gen Finset

theorem out {x0 : Vec Ideal S2048x1024 .bf16} {x1 : Vec Ideal S2048x512 .bf16} {h dy : ℕ → ℕ → EReal}
    (h0 : Ent x0 h) (h1 : Ent x1 dy) : Ent (out0_2 (F := Ideal) x0 x1) (dotTN 2048 h dy) := by
  have hz : (![0, 0] : Fin 2 → ℕ) = fun _ => 0 := funext fun a => by fin_cases a <;> rfl
  unfold out0_2
  rw [View.canon_unit_zero hz]
  simp only [View.ld_unit_zero (S := S2048x1024) hz, View.ld_unit_zero (S := S2048x512) hz]
  exact prodTN (φ₁ := .bf16) (φ₂ := .bf16) h0 h1

theorem pos0 : ∀ t : Fin cfg0.N, win0_0.index t = ![0, t.val / 24] := (by decide +kernel : ∀ t : Fin grid0.N, _)
theorem pos1 : ∀ t : Fin cfg0.N, win0_1.index t = ![0, t.val % 24] := (by decide +kernel : ∀ t : Fin grid0.N, _)
theorem pos2 : ∀ t : Fin cfg0.N, win0_2.index t = ![t.val / 24, t.val % 24] := (by decide +kernel : ∀ t : Fin grid0.N, _)

variable {m : (ℓ : Loc nD τ sig) → Buf (Elt Ideal) ℓ} {c : Dev nD} {h dy : ℕ → ℕ → EReal}
  (k0 : Ent (m (c.tc.loc main_arg0)) h) (k1 : Ent (m (c.tc.loc main_arg1)) dy)

include k0 in
theorem blk0 (t : Fin cfg0.N) : Ent (iblk m c 0 t) (fun k i => h k (1024 * (t.val / 24) + i)) := fun x => by
  blk_simp [iblk]
  rw [V_main_arg0, k0]
  refine entry h ?_ ?_
  · blk_simp [pos0] <;> simp
  · blk_simp [pos0] <;> simp <;> omega
include k1 in
theorem blk1 (t : Fin cfg0.N) : Ent (iblk m c 1 t) (fun k j => dy k (512 * (t.val % 24) + j)) := fun x => by
  blk_simp [iblk]
  rw [V_main_arg1, k1]
  refine entry dy ?_ ?_
  · blk_simp [pos1] <;> simp
  · blk_simp [pos1] <;> simp <;> omega

include k0 k1 in
/-- The kernel's array. -/
theorem arr : (dats m 0 c).arrAt 2 cfg0.N = fun i : S2048x12288.Idx => dotTN 2048 h dy (i 0).val (i 1).val := by
  refine (dats m 0 c).arrAt_eq_of_covers 2 _ (by decide +kernel) fun t hf y => ?_
  blk_simp
  rw [after0_2]
  have e0 : win0_2.index t 0 * 1024 + (y 0).val = 1024 * (t.val / 24) + (y 0).val := by rw [pos2, Nat.mul_comm]; rfl
  have e1 : win0_2.index t 1 * 512 + (y 1).val = 512 * (t.val % 24) + (y 1).val := by rw [pos2, Nat.mul_comm]; rfl
  rw [e0, e1]
  exact out (blk0 k0 t) (blk1 k1 t) y

open Cert.RetInDwRefIdeal.Read in
/-- The derivative's array. -/
theorem ref {x0 : FVec Ideal S2048x2048 .bf16} {x1 : FVec Ideal S2048x12288 .bf16} (k0 : Ent x0 h) (k1 : Ent x1 dy) :
    Ent (val_main_v6 (F := Ideal) x0 x1) (dotTN 2048 h dy) := fun i => by
  rw [val_main_v6_apply]
  show val_main_v5 (F := Ideal) x0 x1 i = _
  rw [val_main_v5_apply, val_main_v4_apply]
  unfold dotTN
  rw [Finset.sum_range]
  exact Finset.sum_congr rfl fun k _ => (mul_comm _ _).trans (congrArg₂ _ (k0 _) (k1 _))

end Cert.Proof.RetInDw

end
-- ==== Proof.GradRetInDx.lean ====
/- THE GRADIENT OF THE RETENTION'S PROJECTION IN, ITS INPUT: entry `(i, j)` is one sum of incoming gradient times weight. The kernel adds it up in twelve
   blocks, in a buffer it carries from point to point. -/
module

public import proofs.«01_k».proof.Proof.Prod
public import proofs.«01_k».proof.Proof.Gen.RetInDxIdeal.Value
public import proofs.«01_k».proof.Proof.Gen.RetInDxRefIdeal.Read
public import Idealize.ShloMosaic.Lib.Pipeline.ValueKit
public import Idealize.ShloMosaic.Lib.Tactic

@[expose] public section

set_option maxRecDepth 16384

noncomputable section

namespace Cert.Proof.RetInDx

open Idealize.ShloMosaic Cert.RetInDxIdeal Cert.RetInDxIdeal.Gen Finset

/-! ## One point -/

theorem hz : (![0, 0] : Fin 2 → ℕ) = fun _ => 0 := funext fun a => by fin_cases a <;> rfl

/-- What a point adds to the carried buffer. -/
theorem pay {acc : Vec Ideal S1024x1024 .f32} {x0 x1 : Vec Ideal S1024x1024 .bf16} {s f g : ℕ → ℕ → EReal}
    (ha : Ent acc s) (h0 : Ent x0 f) (h1 : Ent x1 g) : Ent (k0_pay2 (F := Ideal) acc x0 x1) (fun i j => s i j + dotNT 1024 f g i j) := fun i => by
  unfold k0_pay2
  simp only [shapeCast_self]
  exact congrArg₂ _ (ha i) (prodNT (φ₁ := .bf16) (φ₂ := .bf16) h0 h1 i)

theorem zero_is : Ent (k0_pay1 (F := Ideal)) (fun _ _ => 0) := fun i => by
  unfold k0_pay1
  simp only [shapeCast_self]
  exact Ideal.ofBits_zero_f32

section
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole) (x0 x1 : Vec Ideal S1024x1024 .bf16) (acc : Vec Ideal S1024x1024 .f32)

theorem first (hc0 : cond0_0 i) (hc1 : ¬cond0_1 i) :
    sout0_A_0 (F := Ideal) c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

theorem next (hc0 : ¬cond0_0 i) (hc1 : ¬cond0_1 i) :
    sout0_B_0 (F := Ideal) c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  rw [View.canon_unit_zero hz]
  simp only [View.readAt_eq_ld, h3.read_unread, h4.read_unread, h6.read_unread, View.ld_unit_zero (S := S1024x1024) hz]

theorem last (hc0 : ¬cond0_0 i) (hc1 : cond0_1 i) :
    out0_C_2 (F := Ideal) c i a3 h3 a4 h4 a5 h5 a6 h6 hc0 hc1 x0 x1 acc = k0_pay2 acc x0 x1 := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]
end

/-! ## The blocks a point reads -/

theorem pos0 : ∀ t : Fin cfg0.N, win0_0.index t = ![t.val / 24, t.val % 12] := (by decide +kernel : ∀ t : Fin grid0.N, _)
theorem pos1 : ∀ t : Fin cfg0.N, win0_1.index t = ![t.val / 12 % 2, t.val % 12] := (by decide +kernel : ∀ t : Fin grid0.N, _)
theorem pos2 : ∀ t : Fin cfg0.N, win0_2.index t = ![t.val / 24, t.val / 12 % 2] := (by decide +kernel : ∀ t : Fin grid0.N, _)

/-- Block `n` of a band of rows. -/
def rows (f : ℕ → ℕ → EReal) (p n i k : ℕ) : EReal := f (1024 * p + i) (1024 * n + k)

variable {m : (ℓ : Loc nD τ sig) → Buf (Elt Ideal) ℓ} {c : Dev nD} {w dy : ℕ → ℕ → EReal}
  (k0 : Ent (m (c.tc.loc main_arg0)) w) (k1 : Ent (m (c.tc.loc main_arg1)) dy)

include k1 in
theorem blk0 (t : Fin cfg0.N) : Ent (iblk m c 0 t) (rows dy (t.val / 24) (t.val % 12)) := fun x => by
  blk_simp [iblk]
  rw [V_main_arg1, k1]
  refine entry dy ?_ ?_
  · blk_simp [pos0] <;> simp <;> omega
  · blk_simp [pos0] <;> simp <;> omega
include k0 in
theorem blk1 (t : Fin cfg0.N) : Ent (iblk m c 1 t) (rows w (t.val / 12 % 2) (t.val % 12)) := fun x => by
  blk_simp [iblk]
  rw [V_main_arg0, k0]
  refine entry w ?_ ?_
  · blk_simp [pos1] <;> simp <;> omega
  · blk_simp [pos1] <;> simp <;> omega

/-! ## The carried sum, and the array -/

/-- The sum over the first `n` blocks, for block `(p, q)` of the result. -/
def part (w dy : ℕ → ℕ → EReal) (p q n i j : ℕ) : EReal := dotNT (1024 * n) dy w (1024 * p + i) (1024 * q + j)

theorem part_zero (w dy : ℕ → ℕ → EReal) (p q : ℕ) : part w dy p q 0 = fun _ _ => 0 := by
  funext i j
  unfold part dotNT
  rw [Nat.mul_zero, Finset.sum_range_zero]
theorem part_succ (w dy : ℕ → ℕ → EReal) (p q n : ℕ) :
    (fun i j => part w dy p q n i j + dotNT 1024 (rows dy p n) (rows w q n) i j) = part w dy p q (n + 1) := by
  funext i j
  exact dotNT_step n 1024 dy w (1024 * p + i) (1024 * q + j)

include k0 k1 in
/-- What is carried after a point that is not a block's last. -/
theorem carried (n : ℕ) (hn : n < cfg0.N) (hl : ¬n % 12 = 11) :
    Ent (outsAt0 m c n hn).2 (part w dy (n / 24) (n / 12 % 2) (n % 12 + 1)) := by
  induction n with
  | zero =>
    rw [outsAt0_A m c ⟨0, hn⟩ rfl hl]
    dsimp only
    rw [first, ← part_succ]
    have h := pay zero_is (blk0 k1 ⟨0, hn⟩) (blk1 k0 ⟨0, hn⟩)
    rw [part_zero]
    exact h
  | succ n ih =>
    by_cases h0 : (n + 1) % 12 = 0
    · rw [outsAt0_A m c ⟨n + 1, hn⟩ h0 hl]
      dsimp only
      rw [first, ← part_succ, h0, part_zero]
      have h := pay zero_is (blk0 k1 ⟨n + 1, hn⟩) (blk1 k0 ⟨n + 1, hn⟩)
      dsimp only at h
      rw [h0] at h
      exact h
    · rw [outsAt0_B m c ⟨n + 1, hn⟩ h0 hl]
      dsimp only
      rw [next, ← part_succ]
      have i' := ih (Nat.lt_of_succ_lt hn) (by omega)
      rw [show n / 24 = (n + 1) / 24 by omega, show n / 12 % 2 = (n + 1) / 12 % 2 by omega, show n % 12 + 1 = (n + 1) % 12 by omega] at i'
      exact pay i' (blk0 k1 ⟨n + 1, hn⟩) (blk1 k0 ⟨n + 1, hn⟩)

include k0 k1 in
/-- What a block's last point writes. -/
theorem written (t : Fin cfg0.N) (hl : t.val % 12 = 11) :
    Ent (outsAt0 m c t.val t.isLt).1 (part w dy (t.val / 24) (t.val / 12 % 2) 12) := by
  rw [outsAt0_C m c t (by omega) hl]
  dsimp only
  rw [last, ← part_succ]
  have i' := carried k0 k1 (t.val - 1) (Nat.lt_of_le_of_lt (Nat.sub_le _ _) t.isLt) (by omega)
  rw [show (t.val - 1) / 24 = t.val / 24 by omega, show (t.val - 1) / 12 % 2 = t.val / 12 % 2 by omega,
    show (t.val - 1) % 12 + 1 = 11 by omega] at i'
  have h := pay i' (blk0 k1 t) (blk1 k0 t)
  rw [hl] at h
  exact h

include k0 k1 in
/-- The kernel's array. -/
theorem arr : (dats m 0 c).arrAt 2 cfg0.N = fun i : S2048x2048.Idx => dotNT 12288 dy w (i 0).val (i 1).val := by
  refine (dats m 0 c).arrAt_eq_of_covers 2 _ (by decide +kernel) fun t hf y => ?_
  blk_simp
  rw [after0_2]
  have e0 : win0_2.index t 0 * 1024 + (y 0).val = 1024 * (t.val / 24) + (y 0).val := by rw [pos2, Nat.mul_comm]; rfl
  have e1 : win0_2.index t 1 * 1024 + (y 1).val = 1024 * (t.val / 12 % 2) + (y 1).val := by rw [pos2, Nat.mul_comm]; rfl
  rw [e0, e1]
  exact written k0 k1 t ((flush0_2 t).1 hf) y

open Cert.RetInDxRefIdeal.Read in
/-- The derivative's array. -/
theorem ref {x0 : FVec Ideal S2048x12288 .bf16} {x1 : FVec Ideal S2048x12288 .bf16} (k0 : Ent x0 w) (k1 : Ent x1 dy) :
    Ent (val_main_v4 (F := Ideal) x0 x1) (dotNT 12288 dy w) := fun i => by
  rw [val_main_v4_apply]
  unfold dotNT
  rw [Finset.sum_range]
  exact Finset.sum_congr rfl fun k _ => congrArg₂ _ (k1 _) (k0 _)

end Cert.Proof.RetInDx

end
-- ==== Proof.GradRetOutDw.lean ====
/- THE GRADIENT OF THE RETENTION'S PROJECTION OUT, ITS WEIGHTS: entry `(i, j)` is the sum, over the positions, of input `i` times incoming gradient `j`. The
   kernel's array and the derivative both hold it. -/
module

public import proofs.«01_k».proof.Proof.Prod
public import proofs.«01_k».proof.Proof.Gen.RetOutDwIdeal.Value
public import proofs.«01_k».proof.Proof.Gen.RetOutDwRefIdeal.Read
public import Idealize.ShloMosaic.Lib.Pipeline.ValueKit

@[expose] public section

set_option maxRecDepth 16384

noncomputable section

namespace Cert.Proof.RetOutDw

open Idealize.ShloMosaic Cert.RetOutDwIdeal Cert.RetOutDwIdeal.Gen Finset

theorem out {x0 : Vec Ideal S2048x512 .bf16} {x1 : Vec Ideal S2048x2048 .bf16} {h dy : ℕ → ℕ → EReal}
    (h0 : Ent x0 h) (h1 : Ent x1 dy) : Ent (out0_2 (F := Ideal) x0 x1) (dotTN 2048 h dy) := by
  have hz : (![0, 0] : Fin 2 → ℕ) = fun _ => 0 := funext fun a => by fin_cases a <;> rfl
  unfold out0_2
  rw [View.canon_unit_zero hz]
  simp only [View.ld_unit_zero (S := S2048x512) hz, View.ld_unit_zero (S := S2048x2048) hz]
  exact prodTN (φ₁ := .bf16) (φ₂ := .bf16) h0 h1

theorem pos0 : ∀ t : Fin cfg0.N, win0_0.index t = ![0, t.val] := (by decide +kernel : ∀ t : Fin grid0.N, _)
theorem pos1 : ∀ t : Fin cfg0.N, win0_1.index t = ![0, 0] := (by decide +kernel : ∀ t : Fin grid0.N, _)
theorem pos2 : ∀ t : Fin cfg0.N, win0_2.index t = ![t.val, 0] := (by decide +kernel : ∀ t : Fin grid0.N, _)

variable {m : (ℓ : Loc nD τ sig) → Buf (Elt Ideal) ℓ} {c : Dev nD} {h dy : ℕ → ℕ → EReal}
  (k0 : Ent (m (c.tc.loc main_arg0)) h) (k1 : Ent (m (c.tc.loc main_arg1)) dy)

include k0 in
theorem blk0 (t : Fin cfg0.N) : Ent (iblk m c 0 t) (fun k i => h k (512 * t.val + i)) := fun x => by
  blk_simp [iblk]
  rw [V_main_arg0, k0]
  refine entry h ?_ ?_
  · blk_simp [pos0] <;> simp
  · blk_simp [pos0] <;> simp <;> omega
include k1 in
theorem blk1 (t : Fin cfg0.N) : Ent (iblk m c 1 t) dy := fun x => by
  blk_simp [iblk]
  rw [V_main_arg1, k1]
  refine entry dy ?_ ?_
  · blk_simp [pos1] <;> simp
  · blk_simp [pos1] <;> simp

include k0 k1 in
/-- The kernel's array. -/
theorem arr : (dats m 0 c).arrAt 2 cfg0.N = fun i : S4096x2048.Idx => dotTN 2048 h dy (i 0).val (i 1).val := by
  refine (dats m 0 c).arrAt_eq_of_covers 2 _ (by decide +kernel) fun t hf y => ?_
  blk_simp
  rw [after0_2]
  have e0 : win0_2.index t 0 * 512 + (y 0).val = 512 * t.val + (y 0).val := by rw [pos2, Nat.mul_comm]; rfl
  have e1 : win0_2.index t 1 * 2048 + (y 1).val = (y 1).val := by
    rw [pos2]; exact (congrArg (· + (y 1).val) (Nat.zero_mul 2048)).trans (Nat.zero_add _)
  rw [e0, e1]
  exact out (blk0 k0 t) (blk1 k1 t) y

open Cert.RetOutDwRefIdeal.Read in
/-- The derivative's array. -/
theorem ref {x0 : FVec Ideal S2048x4096 .bf16} {x1 : FVec Ideal S2048x2048 .bf16} (k0 : Ent x0 h) (k1 : Ent x1 dy) :
    Ent (val_main_v6 (F := Ideal) x0 x1) (dotTN 2048 h dy) := fun i => by
  rw [val_main_v6_apply]
  show val_main_v5 (F := Ideal) x0 x1 i = _
  rw [val_main_v5_apply, val_main_v4_apply]
  unfold dotTN
  rw [Finset.sum_range]
  exact Finset.sum_congr rfl fun k _ => (mul_comm _ _).trans (congrArg₂ _ (k0 _) (k1 _))

end Cert.Proof.RetOutDw

end
-- ==== Proof.GradRetOutDx.lean ====
/- THE GRADIENT OF THE RETENTION'S PROJECTION OUT, ITS INPUT: entry `(i, j)` is one sum of incoming gradient times weight. The kernel's array and the
   derivative both hold it. -/
module

public import proofs.«01_k».proof.Proof.Prod
public import proofs.«01_k».proof.Proof.Gen.RetOutDxIdeal.Value
public import proofs.«01_k».proof.Proof.Gen.RetOutDxRefIdeal.Read
public import Idealize.ShloMosaic.Lib.Pipeline.ValueKit

@[expose] public section

set_option maxRecDepth 16384

noncomputable section

namespace Cert.Proof.RetOutDx

open Idealize.ShloMosaic Cert.RetOutDxIdeal Cert.RetOutDxIdeal.Gen Finset

theorem out {x0 : Vec Ideal S1024x2048 .bf16} {x1 : Vec Ideal S512x2048 .bf16} {dy w : ℕ → ℕ → EReal}
    (h0 : Ent x0 dy) (h1 : Ent x1 w) : Ent (out0_2 (F := Ideal) x0 x1) (dotNT 2048 dy w) := by
  have hz : (![0, 0] : Fin 2 → ℕ) = fun _ => 0 := funext fun a => by fin_cases a <;> rfl
  unfold out0_2
  rw [View.canon_unit_zero hz]
  simp only [View.ld_unit_zero (S := S1024x2048) hz, View.ld_unit_zero (S := S512x2048) hz]
  exact prodNT (φ₁ := .bf16) (φ₂ := .bf16) h0 h1

theorem pos0 : ∀ t : Fin cfg0.N, win0_0.index t = ![t.val / 8, 0] := (by decide +kernel : ∀ t : Fin grid0.N, _)
theorem pos1 : ∀ t : Fin cfg0.N, win0_1.index t = ![t.val % 8, 0] := (by decide +kernel : ∀ t : Fin grid0.N, _)
theorem pos2 : ∀ t : Fin cfg0.N, win0_2.index t = ![t.val / 8, t.val % 8] := (by decide +kernel : ∀ t : Fin grid0.N, _)

variable {m : (ℓ : Loc nD τ sig) → Buf (Elt Ideal) ℓ} {c : Dev nD} {w dy : ℕ → ℕ → EReal}
  (k0 : Ent (m (c.tc.loc main_arg0)) w) (k1 : Ent (m (c.tc.loc main_arg1)) dy)

include k1 in
theorem blk0 (t : Fin cfg0.N) : Ent (iblk m c 0 t) (fun i k => dy (1024 * (t.val / 8) + i) k) := fun x => by
  blk_simp [iblk]
  rw [V_main_arg1, k1]
  refine entry dy ?_ ?_
  · blk_simp [pos0] <;> simp <;> omega
  · blk_simp [pos0] <;> simp
include k0 in
theorem blk1 (t : Fin cfg0.N) : Ent (iblk m c 1 t) (fun j k => w (512 * (t.val % 8) + j) k) := fun x => by
  blk_simp [iblk]
  rw [V_main_arg0, k0]
  refine entry w ?_ ?_
  · blk_simp [pos1] <;> simp <;> omega
  · blk_simp [pos1] <;> simp

include k0 k1 in
/-- The kernel's array. -/
theorem arr : (dats m 0 c).arrAt 2 cfg0.N = fun i : S2048x4096.Idx => dotNT 2048 dy w (i 0).val (i 1).val := by
  refine (dats m 0 c).arrAt_eq_of_covers 2 _ (by decide +kernel) fun t hf y => ?_
  blk_simp
  rw [after0_2]
  have e0 : win0_2.index t 0 * 1024 + (y 0).val = 1024 * (t.val / 8) + (y 0).val := by rw [pos2, Nat.mul_comm]; rfl
  have e1 : win0_2.index t 1 * 512 + (y 1).val = 512 * (t.val % 8) + (y 1).val := by rw [pos2, Nat.mul_comm]; rfl
  rw [e0, e1]
  exact out (blk0 k1 t) (blk1 k0 t) y

open Cert.RetOutDxRefIdeal.Read in
/-- The derivative's array. -/
theorem ref {x0 : FVec Ideal S4096x2048 .bf16} {x1 : FVec Ideal S2048x2048 .bf16} (k0 : Ent x0 w) (k1 : Ent x1 dy) :
    Ent (val_main_v4 (F := Ideal) x0 x1) (dotNT 2048 dy w) := fun i => by
  rw [val_main_v4_apply]
  unfold dotNT
  rw [Finset.sum_range]
  exact Finset.sum_congr rfl fun k _ => congrArg₂ _ (k1 _) (k0 _)

end Cert.Proof.RetOutDx

end
-- ==== Proof.ValueRetIn.lean ====
/- THE RETENTION'S PROJECTION IN: entry `(i, j)` is row `i` of the input times column `j` of the weights. The kernel's array and the formula
   both hold it. -/
module

public import proofs.«01_k».proof.Proof.Prod
public import proofs.«01_k».proof.Proof.Gen.RetInIdeal.Value
public import proofs.«01_k».proof.Proof.Gen.RetInRefIdeal.Read
public import Idealize.ShloMosaic.Lib.Pipeline.ValueKit

@[expose] public section

set_option maxRecDepth 16384

noncomputable section

namespace Cert.Proof.RetIn

open Idealize.ShloMosaic Cert.RetInIdeal Cert.RetInIdeal.Gen Finset

theorem out {x0 : Vec Ideal S1024x2048 .bf16} {x1 : Vec Ideal S2048x512 .bf16} {h w : ℕ → ℕ → EReal}
    (h0 : Ent x0 h) (h1 : Ent x1 w) : Ent (out0_2 (F := Ideal) x0 x1) (dotNN 2048 h w) := by
  have hz : (![0, 0] : Fin 2 → ℕ) = fun _ => 0 := funext fun a => by fin_cases a <;> rfl
  unfold out0_2
  rw [View.canon_unit_zero hz]
  simp only [View.ld_unit_zero (S := S1024x2048) hz, View.ld_unit_zero (S := S2048x512) hz]
  exact prodNN (φ₁ := .bf16) (φ₂ := .bf16) h0 h1

theorem pos0 : ∀ t : Fin cfg0.N, win0_0.index t = ![t.val / 24, 0] := (by decide +kernel : ∀ t : Fin grid0.N, _)
theorem pos1 : ∀ t : Fin cfg0.N, win0_1.index t = ![0, t.val % 24] := (by decide +kernel : ∀ t : Fin grid0.N, _)
theorem pos2 : ∀ t : Fin cfg0.N, win0_2.index t = ![t.val / 24, t.val % 24] := (by decide +kernel : ∀ t : Fin grid0.N, _)

variable {m : (ℓ : Loc nD τ sig) → Buf (Elt Ideal) ℓ} {c : Dev nD} {h w : ℕ → ℕ → EReal}
  (k0 : Ent (m (c.tc.loc main_arg0)) h) (k1 : Ent (m (c.tc.loc main_arg1)) w)

include k0 in
theorem blk0 (t : Fin cfg0.N) : Ent (iblk m c 0 t) (fun i k => h (1024 * (t.val / 24) + i) k) := fun x => by
  blk_simp [iblk]
  rw [V_main_arg0, k0]
  refine entry h ?_ ?_
  · blk_simp [pos0] <;> simp <;> omega
  · blk_simp [pos0] <;> simp
include k1 in
theorem blk1 (t : Fin cfg0.N) : Ent (iblk m c 1 t) (fun k j => w k (512 * (t.val % 24) + j)) := fun x => by
  blk_simp [iblk]
  rw [V_main_arg1, k1]
  refine entry w ?_ ?_
  · blk_simp [pos1] <;> simp
  · blk_simp [pos1] <;> simp <;> omega

include k0 k1 in
/-- The kernel's array. -/
theorem arr : (dats m 0 c).arrAt 2 cfg0.N = fun i : S2048x12288.Idx => dotNN 2048 h w (i 0).val (i 1).val := by
  refine (dats m 0 c).arrAt_eq_of_covers 2 _ (by decide +kernel) fun t hf y => ?_
  blk_simp
  rw [after0_2]
  have e0 : win0_2.index t 0 * 1024 + (y 0).val = 1024 * (t.val / 24) + (y 0).val := by rw [pos2, Nat.mul_comm]; rfl
  have e1 : win0_2.index t 1 * 512 + (y 1).val = 512 * (t.val % 24) + (y 1).val := by rw [pos2, Nat.mul_comm]; rfl
  rw [e0, e1]
  exact out (blk0 k0 t) (blk1 k1 t) y

open Cert.RetInRefIdeal.Read in
/-- The formula's array. -/
theorem ref {x0 : FVec Ideal S2048x2048 .bf16} {x1 : FVec Ideal S2048x12288 .bf16} (k0 : Ent x0 h) (k1 : Ent x1 w) :
    Ent (val_main_v2 (F := Ideal) x0 x1) (dotNN 2048 h w) := fun i => by
  rw [val_main_v2_apply]
  unfold dotNN
  rw [Finset.sum_range]
  exact Finset.sum_congr rfl fun k _ => congrArg₂ _ (k0 _) (k1 _)

end Cert.Proof.RetIn

end
-- ==== Proof.ValueRetOut.lean ====
/- THE RETENTION'S PROJECTION OUT: the residual stream plus the product of the mixer's output with the weights. The kernel adds it up
   in four blocks, in a buffer it carries from point to point; the layer's formula is one sum. -/
module

public import proofs.«01_k».proof.Proof.Prod
public import proofs.«01_k».proof.Proof.Gen.RetOutIdeal.Value
public import proofs.«01_k».proof.Proof.Gen.RetOutRefIdeal.Read
public import Idealize.ShloMosaic.Lib.Pipeline.ValueKit
public import Idealize.ShloMosaic.Lib.Tactic

@[expose] public section

set_option maxRecDepth 16384

noncomputable section

namespace Cert.Proof.RetOut

open Idealize.ShloMosaic Cert.RetOutIdeal Cert.RetOutIdeal.Gen Finset

/-! ## One point -/

theorem hz : (![0, 0] : Fin 2 → ℕ) = fun _ => 0 := funext fun a => by fin_cases a <;> rfl

/-- What a point adds to the carried buffer. -/
theorem pay {acc : Vec Ideal S1024x1024 .f32} {x0 x1 : Vec Ideal S1024x1024 .bf16} {s f g : ℕ → ℕ → EReal}
    (ha : Ent acc s) (h0 : Ent x0 f) (h1 : Ent x1 g) : Ent (k0_pay2 (F := Ideal) acc x0 x1) (fun i j => s i j + dotNN 1024 f g i j) := fun i => by
  unfold k0_pay2
  simp only [shapeCast_self]
  exact congrArg₂ _ (ha i) (prodNN (φ₁ := .bf16) (φ₂ := .bf16) h0 h1 i)

/-- What a block's last point writes: the residual block is added. -/
theorem pay_res {acc x2 : Vec Ideal S1024x1024 .f32} {s r : ℕ → ℕ → EReal} (ha : Ent acc s) (h2 : Ent x2 r) :
    Ent (k0_pay3 (F := Ideal) acc x2) (fun i j => s i j + r i j) := fun i => by
  show acc i + x2 i = _
  rw [ha i, h2 i]

theorem zero_is : Ent (k0_pay1 (F := Ideal)) (fun _ _ => 0) := fun i => by
  unfold k0_pay1
  simp only [shapeCast_self]
  exact Ideal.ofBits_zero_f32

section
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x0 x1 : Vec Ideal S1024x1024 .bf16) (x2 acc : Vec Ideal S1024x1024 .f32)

theorem first (hc0 : cond0_0 i) (hc1 : ¬cond0_1 i) :
    sout0_A_0 (F := Ideal) c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

theorem next (hc0 : ¬cond0_0 i) (hc1 : ¬cond0_1 i) :
    sout0_B_0 (F := Ideal) c i a3 h3 a4 h4 a5 h5 a6 h6 a7 h7 hc0 hc1 x0 x1 x2 acc = k0_pay2 acc x0 x1 := by
  unfold sout0_B_0
  rw [View.read_writes_eq_canon _ _ _ (scover0_B_0 c i a3 h3 a4 h4 a5 h5 a6 h6 a7 h7 hc0 hc1 x0 x1 x2 acc)]
  unfold kernelRun0_B
  dsimp only
  rw [View.canon_unit_zero hz]
  simp only [View.readAt_eq_ld, h3.read_unread, h4.read_unread, h7.read_unread, View.ld_unit_zero (S := S1024x1024) hz]

theorem last (hc0 : ¬cond0_0 i) (hc1 : cond0_1 i) :
    out0_C_3 (F := Ideal) c i a3 h3 a4 h4 a5 h5 a6 h6 a7 h7 hc0 hc1 x0 x1 x2 acc = k0_pay3 (k0_pay2 acc x0 x1) x2 := by
  unfold out0_C_3
  rw [View.read_writes_eq_canon _ _ _ (cover0_C_3 c i a3 h3 a4 h4 a5 h5 a6 h6 a7 h7 hc0 hc1 x0 x1 x2 acc)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread, View.ld_unit_zero (S := S1024x1024) hz]
end

/-! ## The blocks a point reads -/

theorem pos0 : ∀ t : Fin cfg0.N, win0_0.index t = ![t.val / 8, t.val % 4] := (by decide +kernel : ∀ t : Fin grid0.N, _)
theorem pos1 : ∀ t : Fin cfg0.N, win0_1.index t = ![t.val % 4, t.val / 4 % 2] := (by decide +kernel : ∀ t : Fin grid0.N, _)
theorem pos2 : ∀ t : Fin cfg0.N, win0_2.index t = ![t.val / 8, t.val / 4 % 2] := (by decide +kernel : ∀ t : Fin grid0.N, _)
theorem pos3 : ∀ t : Fin cfg0.N, win0_3.index t = ![t.val / 8, t.val / 4 % 2] := (by decide +kernel : ∀ t : Fin grid0.N, _)

/-- Block `(p, q)` of a matrix. -/
def blk (f : ℕ → ℕ → EReal) (p q i j : ℕ) : EReal := f (1024 * p + i) (1024 * q + j)

variable {m : (ℓ : Loc nD τ sig) → Buf (Elt Ideal) ℓ} {c : Dev nD} {a w x : ℕ → ℕ → EReal}
  (ha : Ent (m (c.tc.loc main_arg0)) a) (hw : Ent (m (c.tc.loc main_arg1)) w) (hx : Ent (m (c.tc.loc main_arg2)) x)

include ha in
theorem blk0 (t : Fin cfg0.N) : Ent (iblk m c 0 t) (blk a (t.val / 8) (t.val % 4)) := fun y => by
  blk_simp [iblk]
  rw [V_main_arg0, ha]
  refine entry a ?_ ?_
  · blk_simp [pos0] <;> simp <;> omega
  · blk_simp [pos0] <;> simp <;> omega
include hw in
theorem blk1 (t : Fin cfg0.N) : Ent (iblk m c 1 t) (blk w (t.val % 4) (t.val / 4 % 2)) := fun y => by
  blk_simp [iblk]
  rw [V_main_arg1, hw]
  refine entry w ?_ ?_
  · blk_simp [pos1] <;> simp <;> omega
  · blk_simp [pos1] <;> simp <;> omega
include hx in
theorem blk2 (t : Fin cfg0.N) : Ent (iblk m c 2 t) (blk x (t.val / 8) (t.val / 4 % 2)) := fun y => by
  blk_simp [iblk]
  rw [V_main_arg2, hx]
  refine entry x ?_ ?_
  · blk_simp [pos2] <;> simp <;> omega
  · blk_simp [pos2] <;> simp <;> omega

/-! ## The carried sum, and the array -/

/-- The sum over the first `n` blocks, for block `(p, q)` of the result. -/
def part (a w : ℕ → ℕ → EReal) (p q n i j : ℕ) : EReal := dotNN (1024 * n) a w (1024 * p + i) (1024 * q + j)

theorem part_zero (a w : ℕ → ℕ → EReal) (p q : ℕ) : part a w p q 0 = fun _ _ => 0 := by
  funext i j
  unfold part dotNN
  rw [Nat.mul_zero, Finset.sum_range_zero]
theorem part_succ (a w : ℕ → ℕ → EReal) (p q n : ℕ) :
    (fun i j => part a w p q n i j + dotNN 1024 (blk a p n) (blk w n q) i j) = part a w p q (n + 1) := by
  funext i j
  exact dotNN_step n 1024 a w (1024 * p + i) (1024 * q + j)

include ha hw in
/-- What is carried after a point that is not a block's last. -/
theorem carried (n : ℕ) (hn : n < cfg0.N) (hl : ¬n % 4 = 3) :
    Ent (outsAt0 m c n hn).2 (part a w (n / 8) (n / 4 % 2) (n % 4 + 1)) := by
  induction n with
  | zero =>
    rw [outsAt0_A m c ⟨0, hn⟩ rfl hl]
    dsimp only
    rw [first, ← part_succ]
    have h := pay zero_is (blk0 ha ⟨0, hn⟩) (blk1 hw ⟨0, hn⟩)
    rw [part_zero]
    exact h
  | succ n ih =>
    by_cases h0 : (n + 1) % 4 = 0
    · rw [outsAt0_A m c ⟨n + 1, hn⟩ h0 hl]
      dsimp only
      rw [first, ← part_succ, h0, part_zero]
      have h := pay zero_is (blk0 ha ⟨n + 1, hn⟩) (blk1 hw ⟨n + 1, hn⟩)
      dsimp only at h
      rw [h0] at h
      exact h
    · rw [outsAt0_B m c ⟨n + 1, hn⟩ h0 hl]
      dsimp only
      rw [next, ← part_succ]
      have i' := ih (Nat.lt_of_succ_lt hn) (by omega)
      rw [show n / 8 = (n + 1) / 8 by omega, show n / 4 % 2 = (n + 1) / 4 % 2 by omega, show n % 4 + 1 = (n + 1) % 4 by omega] at i'
      exact pay i' (blk0 ha ⟨n + 1, hn⟩) (blk1 hw ⟨n + 1, hn⟩)

include ha hw hx in
/-- What a block's last point writes. -/
theorem written (t : Fin cfg0.N) (hl : t.val % 4 = 3) :
    Ent (outsAt0 m c t.val t.isLt).1 (fun i j => part a w (t.val / 8) (t.val / 4 % 2) 4 i j + blk x (t.val / 8) (t.val / 4 % 2) i j) := by
  rw [outsAt0_C m c t (by omega) hl]
  dsimp only
  rw [last, ← part_succ]
  have i' := carried ha hw (t.val - 1) (Nat.lt_of_le_of_lt (Nat.sub_le _ _) t.isLt) (by omega)
  rw [show (t.val - 1) / 8 = t.val / 8 by omega, show (t.val - 1) / 4 % 2 = t.val / 4 % 2 by omega,
    show (t.val - 1) % 4 + 1 = 3 by omega] at i'
  have h := pay i' (blk0 ha t) (blk1 hw t)
  rw [hl] at h
  exact pay_res h (blk2 hx t)

include ha hw hx in
/-- The kernel's array. -/
theorem arr : (dats m 0 c).arrAt 3 cfg0.N = fun i : S2048x2048.Idx => dotNN 4096 a w (i 0).val (i 1).val + x (i 0).val (i 1).val := by
  refine (dats m 0 c).arrAt_eq_of_covers 3 _ (by decide +kernel) fun t hf y => ?_
  blk_simp
  rw [after0_3]
  have e0 : win0_3.index t 0 * 1024 + (y 0).val = 1024 * (t.val / 8) + (y 0).val := by rw [pos3, Nat.mul_comm]; rfl
  have e1 : win0_3.index t 1 * 1024 + (y 1).val = 1024 * (t.val / 4 % 2) + (y 1).val := by rw [pos3, Nat.mul_comm]; rfl
  rw [e0, e1]
  exact written ha hw hx t ((flush0_3 t).1 hf) y

open Cert.RetOutRefIdeal.Read in
/-- The formula's array. -/
theorem ref {x0 : FVec Ideal S2048x4096 .bf16} {x1 : FVec Ideal S4096x2048 .bf16} {x2 : FVec Ideal S2048x2048 .f32}
    (ha : Ent x0 a) (hw : Ent x1 w) (hx : Ent x2 x) :
    Ent (val_main_v3 (F := Ideal) x0 x1 x2) (fun i j => dotNN 4096 a w i j + x i j) := fun i => by
  rw [val_main_v3_apply, val_main_v2_apply]
  show x2 i + _ = dotNN 4096 a w (i 0).val (i 1).val + x (i 0).val (i 1).val
  unfold dotNN
  rw [Finset.sum_range, hx i, add_comm]
  exact congrArg (· + x (i 0).val (i 1).val) (Finset.sum_congr rfl fun k _ => congrArg₂ _ (ha _) (hw _))

end Cert.Proof.RetOut

end
-- ==== Proof.GradGdnInDx.lean ====
/- THE GRADIENT OF THE DELTA RULE'S PROJECTION IN, ITS INPUT: entry `(i, j)` is one sum of incoming gradient times weight. The kernel adds it up in eight
   blocks, in a buffer it carries from point to point. -/
module

public import proofs.«01_k».proof.Proof.Prod
public import proofs.«01_k».proof.Proof.Gen.GdnInDxIdeal.Value
public import proofs.«01_k».proof.Proof.Gen.GdnInDxRefIdeal.Read
public import Idealize.ShloMosaic.Lib.Pipeline.ValueKit
public import Idealize.ShloMosaic.Lib.Tactic

@[expose] public section

set_option maxRecDepth 16384

noncomputable section

namespace Cert.Proof.GdnInDx

open Idealize.ShloMosaic Cert.GdnInDxIdeal Cert.GdnInDxIdeal.Gen Finset

/-! ## One point -/

theorem hz : (![0, 0] : Fin 2 → ℕ) = fun _ => 0 := funext fun a => by fin_cases a <;> rfl

/-- What a point adds to the carried buffer. -/
theorem pay {acc : Vec Ideal S1024x1024 .f32} {x0 x1 : Vec Ideal S1024x1024 .bf16} {s f g : ℕ → ℕ → EReal}
    (ha : Ent acc s) (h0 : Ent x0 f) (h1 : Ent x1 g) : Ent (k0_pay2 (F := Ideal) acc x0 x1) (fun i j => s i j + dotNT 1024 f g i j) := fun i => by
  unfold k0_pay2
  simp only [shapeCast_self]
  exact congrArg₂ _ (ha i) (prodNT (φ₁ := .bf16) (φ₂ := .bf16) h0 h1 i)

theorem zero_is : Ent (k0_pay1 (F := Ideal)) (fun _ _ => 0) := fun i => by
  unfold k0_pay1
  simp only [shapeCast_self]
  exact Ideal.ofBits_zero_f32

section
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole) (x0 x1 : Vec Ideal S1024x1024 .bf16) (acc : Vec Ideal S1024x1024 .f32)

theorem first (hc0 : cond0_0 i) (hc1 : ¬cond0_1 i) :
    sout0_A_0 (F := Ideal) c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

theorem next (hc0 : ¬cond0_0 i) (hc1 : ¬cond0_1 i) :
    sout0_B_0 (F := Ideal) c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  rw [View.canon_unit_zero hz]
  simp only [View.readAt_eq_ld, h3.read_unread, h4.read_unread, h6.read_unread, View.ld_unit_zero (S := S1024x1024) hz]

theorem last (hc0 : ¬cond0_0 i) (hc1 : cond0_1 i) :
    out0_C_2 (F := Ideal) c i a3 h3 a4 h4 a5 h5 a6 h6 hc0 hc1 x0 x1 acc = k0_pay2 acc x0 x1 := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]
end

/-! ## The blocks a point reads -/

theorem pos0 : ∀ t : Fin cfg0.N, win0_0.index t = ![t.val / 16, t.val % 8] := (by decide +kernel : ∀ t : Fin grid0.N, _)
theorem pos1 : ∀ t : Fin cfg0.N, win0_1.index t = ![t.val / 8 % 2, t.val % 8] := (by decide +kernel : ∀ t : Fin grid0.N, _)
theorem pos2 : ∀ t : Fin cfg0.N, win0_2.index t = ![t.val / 16, t.val / 8 % 2] := (by decide +kernel : ∀ t : Fin grid0.N, _)

/-- Block `n` of a band of rows. -/
def rows (f : ℕ → ℕ → EReal) (p n i k : ℕ) : EReal := f (1024 * p + i) (1024 * n + k)

variable {m : (ℓ : Loc nD τ sig) → Buf (Elt Ideal) ℓ} {c : Dev nD} {w dy : ℕ → ℕ → EReal}
  (k0 : Ent (m (c.tc.loc main_arg0)) w) (k1 : Ent (m (c.tc.loc main_arg1)) dy)

include k1 in
theorem blk0 (t : Fin cfg0.N) : Ent (iblk m c 0 t) (rows dy (t.val / 16) (t.val % 8)) := fun x => by
  blk_simp [iblk]
  rw [V_main_arg1, k1]
  refine entry dy ?_ ?_
  · blk_simp [pos0] <;> simp <;> omega
  · blk_simp [pos0] <;> simp <;> omega
include k0 in
theorem blk1 (t : Fin cfg0.N) : Ent (X0_1 m c t) (rows w (t.val / 8 % 2) (t.val % 8)) := fun x => by
  unfold X0_1 Pipeline.Window.fill
  rw [dif_pos (moved0_1 t x)]
  blk_simp [iblk]
  rw [V_main_arg0, k0]
  refine entry w ?_ ?_
  · blk_simp [pos1] <;> simp <;> omega
  · blk_simp [pos1] <;> simp <;> omega

/-! ## The carried sum, and the array -/

/-- The sum over the first `n` blocks, for block `(p, q)` of the result. -/
def part (w dy : ℕ → ℕ → EReal) (p q n i j : ℕ) : EReal := dotNT (1024 * n) dy w (1024 * p + i) (1024 * q + j)

theorem part_zero (w dy : ℕ → ℕ → EReal) (p q : ℕ) : part w dy p q 0 = fun _ _ => 0 := by
  funext i j
  unfold part dotNT
  rw [Nat.mul_zero, Finset.sum_range_zero]
theorem part_succ (w dy : ℕ → ℕ → EReal) (p q n : ℕ) :
    (fun i j => part w dy p q n i j + dotNT 1024 (rows dy p n) (rows w q n) i j) = part w dy p q (n + 1) := by
  funext i j
  exact dotNT_step n 1024 dy w (1024 * p + i) (1024 * q + j)

include k0 k1 in
/-- What is carried after a point that is not a block's last. -/
theorem carried (n : ℕ) (hn : n < cfg0.N) (hl : ¬n % 8 = 7) :
    Ent (outsAt0 m c n hn).2 (part w dy (n / 16) (n / 8 % 2) (n % 8 + 1)) := by
  induction n with
  | zero =>
    rw [outsAt0_A m c ⟨0, hn⟩ rfl hl]
    dsimp only
    rw [first, ← part_succ]
    have h := pay zero_is (blk0 k1 ⟨0, hn⟩) (blk1 k0 ⟨0, hn⟩)
    rw [part_zero]
    exact h
  | succ n ih =>
    by_cases h0 : (n + 1) % 8 = 0
    · rw [outsAt0_A m c ⟨n + 1, hn⟩ h0 hl]
      dsimp only
      rw [first, ← part_succ, h0, part_zero]
      have h := pay zero_is (blk0 k1 ⟨n + 1, hn⟩) (blk1 k0 ⟨n + 1, hn⟩)
      dsimp only at h
      rw [h0] at h
      exact h
    · rw [outsAt0_B m c ⟨n + 1, hn⟩ h0 hl]
      dsimp only
      rw [next, ← part_succ]
      have i' := ih (Nat.lt_of_succ_lt hn) (by omega)
      rw [show n / 16 = (n + 1) / 16 by omega, show n / 8 % 2 = (n + 1) / 8 % 2 by omega, show n % 8 + 1 = (n + 1) % 8 by omega] at i'
      exact pay i' (blk0 k1 ⟨n + 1, hn⟩) (blk1 k0 ⟨n + 1, hn⟩)

include k0 k1 in
/-- What a block's last point writes. -/
theorem written (t : Fin cfg0.N) (hl : t.val % 8 = 7) :
    Ent (outsAt0 m c t.val t.isLt).1 (part w dy (t.val / 16) (t.val / 8 % 2) 8) := by
  rw [outsAt0_C m c t (by omega) hl]
  dsimp only
  rw [last, ← part_succ]
  have i' := carried k0 k1 (t.val - 1) (Nat.lt_of_le_of_lt (Nat.sub_le _ _) t.isLt) (by omega)
  rw [show (t.val - 1) / 16 = t.val / 16 by omega, show (t.val - 1) / 8 % 2 = t.val / 8 % 2 by omega,
    show (t.val - 1) % 8 + 1 = 7 by omega] at i'
  have h := pay i' (blk0 k1 t) (blk1 k0 t)
  rw [hl] at h
  exact h

include k0 k1 in
/-- The kernel's array. -/
theorem arr : (dats m 0 c).arrAt 2 cfg0.N = fun i : S2048x2048.Idx => dotNT 8192 dy w (i 0).val (i 1).val := by
  refine (dats m 0 c).arrAt_eq_of_covers 2 _ (by decide +kernel) fun t hf y => ?_
  blk_simp
  rw [after0_2]
  have e0 : win0_2.index t 0 * 1024 + (y 0).val = 1024 * (t.val / 16) + (y 0).val := by rw [pos2, Nat.mul_comm]; rfl
  have e1 : win0_2.index t 1 * 1024 + (y 1).val = 1024 * (t.val / 8 % 2) + (y 1).val := by rw [pos2, Nat.mul_comm]; rfl
  rw [e0, e1]
  exact written k0 k1 t ((flush0_2 t).1 hf) y

open Cert.GdnInDxRefIdeal.Read in
/-- The derivative's array. -/
theorem ref {x0 : FVec Ideal S2048x8224 .bf16} {x1 : FVec Ideal S2048x8192 .bf16} (k0 : Ent x0 w) (k1 : Ent x1 dy) :
    Ent (val_main_v5 (F := Ideal) x0 x1) (dotNT 8192 dy w) := fun i => by
  rw [val_main_v5_apply]
  unfold dotNT
  rw [Finset.sum_range]
  exact Finset.sum_congr rfl fun k _ => congrArg₂ _ (k1 _) ((val_main_v1_apply (F := Ideal) x0 _).trans ((val_main_v0_apply (F := Ideal) x0 _).trans (k0 _)))

end Cert.Proof.GdnInDx

end
-- ==== Proof.ValueGdnIn.lean ====
/- THE DELTA RULE'S PROJECTION IN, without its last 32 columns: entry `(i, j)` is row `i` of the input times column `j` of the weights. The kernel's array and the formula
   both hold it. -/
module

public import proofs.«01_k».proof.Proof.Prod
public import proofs.«01_k».proof.Proof.Gen.GdnInIdeal.Value
public import proofs.«01_k».proof.Proof.Gen.GdnInRefIdeal.Read
public import Idealize.ShloMosaic.Lib.Pipeline.ValueKit
public import Idealize.ShloMosaic.Lib.Tactic

@[expose] public section

set_option maxRecDepth 16384

noncomputable section

namespace Cert.Proof.GdnIn

open Idealize.ShloMosaic Cert.GdnInIdeal Cert.GdnInIdeal.Gen Finset

theorem hz : (![0, 0] : Fin 2 → ℕ) = fun _ => 0 := funext fun a => by fin_cases a <;> rfl

theorem out (c : Dev nD) (i : grid0.Coords) (a3 : Memref sig .tc .vmem S1024x2048 .bf16) (h3 : a3.IsWhole)
    (a4 : Memref sig .tc .vmem S2048x512 .bf16) (h4 : a4.IsWhole) (a5 : Memref sig .tc .vmem S1024x512 .f32) (h5 : a5.IsWhole)
    {x0 : Vec Ideal S1024x2048 .bf16} {x1 : Vec Ideal S2048x512 .bf16} {h w : ℕ → ℕ → EReal}
    (h0 : Ent x0 h) (h1 : Ent x1 w) : Ent (out0_A_2 (F := Ideal) c i a3 h3 a4 h4 a5 h5 x0 x1) (dotNN 2048 h w) := by
  unfold out0_A_2
  rw [View.read_writes_eq_canon _ _ _ (cover0_A_2 c i a3 h3 a4 h4 a5 h5 x0 x1)]
  unfold kernelRun0_A
  dsimp only
  rw [View.canon_unit_zero hz]
  simp only [View.readAt_eq_ld, h3.read_unread, h4.read_unread, View.ld_unit_zero (S := S1024x2048) hz, View.ld_unit_zero (S := S2048x512) hz]
  exact prodNN (φ₁ := .bf16) (φ₂ := .bf16) h0 h1

theorem pos0 : ∀ t : Fin cfg0.N, win0_0.index t = ![t.val / 16, 0] := (by decide +kernel : ∀ t : Fin grid0.N, _)
theorem pos1 : ∀ t : Fin cfg0.N, win0_1.index t = ![0, t.val % 16] := (by decide +kernel : ∀ t : Fin grid0.N, _)
theorem pos2 : ∀ t : Fin cfg0.N, win0_2.index t = ![t.val / 16, t.val % 16] := (by decide +kernel : ∀ t : Fin grid0.N, _)

variable {m : (ℓ : Loc nD τ sig) → Buf (Elt Ideal) ℓ} {c : Dev nD} {h w : ℕ → ℕ → EReal}
  (k0 : Ent (m (c.tc.loc main_arg0)) h) (k1 : Ent (m (c.tc.loc main_arg1)) w)

include k0 in
theorem blk0 (t : Fin cfg0.N) : Ent (iblk m c 0 t) (fun i k => h (1024 * (t.val / 16) + i) k) := fun x => by
  blk_simp [iblk]
  rw [V_main_arg0, k0]
  refine entry h ?_ ?_
  · blk_simp [pos0] <;> simp <;> omega
  · blk_simp [pos0] <;> simp
include k1 in
theorem blk1 (t : Fin cfg0.N) : Ent (X0_1 m c t) (fun k j => w k (512 * (t.val % 16) + j)) := fun x => by
  unfold X0_1 Pipeline.Window.fill
  rw [dif_pos (moved0_1 t x)]
  blk_simp [iblk]
  rw [V_main_arg1, k1]
  refine entry w ?_ ?_
  · blk_simp [pos1] <;> simp
  · blk_simp [pos1] <;> simp <;> omega

include k0 k1 in
/-- The kernel's array. -/
theorem arr : (dats m 0 c).arrAt 2 cfg0.N = fun i : S2048x8192.Idx => dotNN 2048 h w (i 0).val (i 1).val := by
  refine (dats m 0 c).arrAt_eq_of_covers 2 _ (by decide +kernel) fun t hf y => ?_
  blk_simp
  rw [after0_2, outsAt0]
  have e0 : win0_2.index t 0 * 1024 + (y 0).val = 1024 * (t.val / 16) + (y 0).val := by rw [pos2, Nat.mul_comm]; rfl
  have e1 : win0_2.index t 1 * 512 + (y 1).val = 512 * (t.val % 16) + (y 1).val := by rw [pos2, Nat.mul_comm]; rfl
  rw [e0, e1]
  exact out _ _ _ _ _ _ _ _ (blk0 k0 t) (blk1 k1 t) y

open Cert.GdnInRefIdeal.Read in
/-- The formula's array. -/
theorem ref {x0 : FVec Ideal S2048x2048 .bf16} {x1 : FVec Ideal S2048x8224 .bf16} (k0 : Ent x0 h) (k1 : Ent x1 w) :
    Ent (val_main_v3 (F := Ideal) x0 x1) (dotNN 2048 h w) := fun i => by
  rw [val_main_v3_apply]
  unfold dotNN
  rw [Finset.sum_range]
  exact Finset.sum_congr rfl fun k _ => congrArg₂ _ (k0 _) ((val_main_v2_apply (F := Ideal) x1 _).trans ((val_main_v0_apply (F := Ideal) x1 _).trans (k1 _)))

end Cert.Proof.GdnIn

end
-- ==== Proof.GradGlaInDw.lean ====
/- THE GRADIENT OF THE GATED LINEAR ATTENTION'S PROJECTION IN, ITS WEIGHTS: entry `(i, j)` is the sum, over the positions, of input `i` times incoming gradient `j`. The
   kernel's array and the derivative both hold it. -/
module

public import proofs.«01_k».proof.Proof.Prod
public import proofs.«01_k».proof.Proof.Gen.GlaInDwIdeal.Value
public import proofs.«01_k».proof.Proof.Gen.GlaInDwRefIdeal.Read
public import Idealize.ShloMosaic.Lib.Pipeline.ValueKit

@[expose] public section

set_option maxRecDepth 16384

noncomputable section

namespace Cert.Proof.GlaInDw

open Idealize.ShloMosaic Cert.GlaInDwIdeal Cert.GlaInDwIdeal.Gen Finset

theorem out {x0 : Vec Ideal S2048x1024 .bf16} {x1 : Vec Ideal S2048x512 .bf16} {h dy : ℕ → ℕ → EReal}
    (h0 : Ent x0 h) (h1 : Ent x1 dy) : Ent (out0_2 (F := Ideal) x0 x1) (dotTN 2048 h dy) := by
  have hz : (![0, 0] : Fin 2 → ℕ) = fun _ => 0 := funext fun a => by fin_cases a <;> rfl
  unfold out0_2
  rw [View.canon_unit_zero hz]
  simp only [View.ld_unit_zero (S := S2048x1024) hz, View.ld_unit_zero (S := S2048x512) hz]
  exact prodTN (φ₁ := .bf16) (φ₂ := .bf16) h0 h1

theorem pos0 : ∀ t : Fin cfg0.N, win0_0.index t = ![0, t.val / 12] := (by decide +kernel : ∀ t : Fin grid0.N, _)
theorem pos1 : ∀ t : Fin cfg0.N, win0_1.index t = ![0, t.val % 12] := (by decide +kernel : ∀ t : Fin grid0.N, _)
theorem pos2 : ∀ t : Fin cfg0.N, win0_2.index t = ![t.val / 12, t.val % 12] := (by decide +kernel : ∀ t : Fin grid0.N, _)

variable {m : (ℓ : Loc nD τ sig) → Buf (Elt Ideal) ℓ} {c : Dev nD} {h dy : ℕ → ℕ → EReal}
  (k0 : Ent (m (c.tc.loc main_arg0)) h) (k1 : Ent (m (c.tc.loc main_arg1)) dy)

include k0 in
theorem blk0 (t : Fin cfg0.N) : Ent (iblk m c 0 t) (fun k i => h k (1024 * (t.val / 12) + i)) := fun x => by
  blk_simp [iblk]
  rw [V_main_arg0, k0]
  refine entry h ?_ ?_
  · blk_simp [pos0] <;> simp
  · blk_simp [pos0] <;> simp <;> omega
include k1 in
theorem blk1 (t : Fin cfg0.N) : Ent (iblk m c 1 t) (fun k j => dy k (512 * (t.val % 12) + j)) := fun x => by
  blk_simp [iblk]
  rw [V_main_arg1, k1]
  refine entry dy ?_ ?_
  · blk_simp [pos1] <;> simp
  · blk_simp [pos1] <;> simp <;> omega

include k0 k1 in
/-- The kernel's array. -/
theorem arr : (dats m 0 c).arrAt 2 cfg0.N = fun i : S2048x6144.Idx => dotTN 2048 h dy (i 0).val (i 1).val := by
  refine (dats m 0 c).arrAt_eq_of_covers 2 _ (by decide +kernel) fun t hf y => ?_
  blk_simp
  rw [after0_2]
  have e0 : win0_2.index t 0 * 1024 + (y 0).val = 1024 * (t.val / 12) + (y 0).val := by rw [pos2, Nat.mul_comm]; rfl
  have e1 : win0_2.index t 1 * 512 + (y 1).val = 512 * (t.val % 12) + (y 1).val := by rw [pos2, Nat.mul_comm]; rfl
  rw [e0, e1]
  exact out (blk0 k0 t) (blk1 k1 t) y

open Cert.GlaInDwRefIdeal.Read in
/-- The derivative's array. -/
theorem ref {x0 : FVec Ideal S2048x2048 .bf16} {x1 : FVec Ideal S2048x6144 .bf16} (k0 : Ent x0 h) (k1 : Ent x1 dy) :
    Ent (val_main_v6 (F := Ideal) x0 x1) (dotTN 2048 h dy) := fun i => by
  rw [val_main_v6_apply]
  show val_main_v5 (F := Ideal) x0 x1 i = _
  rw [val_main_v5_apply, val_main_v4_apply]
  unfold dotTN
  rw [Finset.sum_range]
  exact Finset.sum_congr rfl fun k _ => (mul_comm _ _).trans (congrArg₂ _ (k0 _) (k1 _))

end Cert.Proof.GlaInDw

end
-- ==== Proof.GradGlaInDx.lean ====
/- THE GRADIENT OF THE GATED LINEAR ATTENTION'S PROJECTION IN, ITS INPUT: entry `(i, j)` is one sum of incoming gradient times weight. The kernel adds it up in six
   blocks, in a buffer it carries from point to point. -/
module

public import proofs.«01_k».proof.Proof.Prod
public import proofs.«01_k».proof.Proof.Gen.GlaInDxIdeal.Value
public import proofs.«01_k».proof.Proof.Gen.GlaInDxRefIdeal.Read
public import Idealize.ShloMosaic.Lib.Pipeline.ValueKit
public import Idealize.ShloMosaic.Lib.Tactic

@[expose] public section

set_option maxRecDepth 16384

noncomputable section

namespace Cert.Proof.GlaInDx

open Idealize.ShloMosaic Cert.GlaInDxIdeal Cert.GlaInDxIdeal.Gen Finset

/-! ## One point -/

theorem hz : (![0, 0] : Fin 2 → ℕ) = fun _ => 0 := funext fun a => by fin_cases a <;> rfl

/-- What a point adds to the carried buffer. -/
theorem pay {acc : Vec Ideal S1024x1024 .f32} {x0 x1 : Vec Ideal S1024x1024 .bf16} {s f g : ℕ → ℕ → EReal}
    (ha : Ent acc s) (h0 : Ent x0 f) (h1 : Ent x1 g) : Ent (k0_pay2 (F := Ideal) acc x0 x1) (fun i j => s i j + dotNT 1024 f g i j) := fun i => by
  unfold k0_pay2
  simp only [shapeCast_self]
  exact congrArg₂ _ (ha i) (prodNT (φ₁ := .bf16) (φ₂ := .bf16) h0 h1 i)

theorem zero_is : Ent (k0_pay1 (F := Ideal)) (fun _ _ => 0) := fun i => by
  unfold k0_pay1
  simp only [shapeCast_self]
  exact Ideal.ofBits_zero_f32

section
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole) (x0 x1 : Vec Ideal S1024x1024 .bf16) (acc : Vec Ideal S1024x1024 .f32)

theorem first (hc0 : cond0_0 i) (hc1 : ¬cond0_1 i) :
    sout0_A_0 (F := Ideal) c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

theorem next (hc0 : ¬cond0_0 i) (hc1 : ¬cond0_1 i) :
    sout0_B_0 (F := Ideal) c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  rw [View.canon_unit_zero hz]
  simp only [View.readAt_eq_ld, h3.read_unread, h4.read_unread, h6.read_unread, View.ld_unit_zero (S := S1024x1024) hz]

theorem last (hc0 : ¬cond0_0 i) (hc1 : cond0_1 i) :
    out0_C_2 (F := Ideal) c i a3 h3 a4 h4 a5 h5 a6 h6 hc0 hc1 x0 x1 acc = k0_pay2 acc x0 x1 := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]
end

/-! ## The blocks a point reads -/

theorem pos0 : ∀ t : Fin cfg0.N, win0_0.index t = ![t.val / 12, t.val % 6] := (by decide +kernel : ∀ t : Fin grid0.N, _)
theorem pos1 : ∀ t : Fin cfg0.N, win0_1.index t = ![t.val / 6 % 2, t.val % 6] := (by decide +kernel : ∀ t : Fin grid0.N, _)
theorem pos2 : ∀ t : Fin cfg0.N, win0_2.index t = ![t.val / 12, t.val / 6 % 2] := (by decide +kernel : ∀ t : Fin grid0.N, _)

/-- Block `n` of a band of rows. -/
def rows (f : ℕ → ℕ → EReal) (p n i k : ℕ) : EReal := f (1024 * p + i) (1024 * n + k)

variable {m : (ℓ : Loc nD τ sig) → Buf (Elt Ideal) ℓ} {c : Dev nD} {w dy : ℕ → ℕ → EReal}
  (k0 : Ent (m (c.tc.loc main_arg0)) w) (k1 : Ent (m (c.tc.loc main_arg1)) dy)

include k1 in
theorem blk0 (t : Fin cfg0.N) : Ent (iblk m c 0 t) (rows dy (t.val / 12) (t.val % 6)) := fun x => by
  blk_simp [iblk]
  rw [V_main_arg1, k1]
  refine entry dy ?_ ?_
  · blk_simp [pos0] <;> simp <;> omega
  · blk_simp [pos0] <;> simp <;> omega
include k0 in
theorem blk1 (t : Fin cfg0.N) : Ent (X0_1 m c t) (rows w (t.val / 6 % 2) (t.val % 6)) := fun x => by
  unfold X0_1 Pipeline.Window.fill
  rw [dif_pos (moved0_1 t x)]
  blk_simp [iblk]
  rw [V_main_arg0, k0]
  refine entry w ?_ ?_
  · blk_simp [pos1] <;> simp <;> omega
  · blk_simp [pos1] <;> simp <;> omega

/-! ## The carried sum, and the array -/

/-- The sum over the first `n` blocks, for block `(p, q)` of the result. -/
def part (w dy : ℕ → ℕ → EReal) (p q n i j : ℕ) : EReal := dotNT (1024 * n) dy w (1024 * p + i) (1024 * q + j)

theorem part_zero (w dy : ℕ → ℕ → EReal) (p q : ℕ) : part w dy p q 0 = fun _ _ => 0 := by
  funext i j
  unfold part dotNT
  rw [Nat.mul_zero, Finset.sum_range_zero]
theorem part_succ (w dy : ℕ → ℕ → EReal) (p q n : ℕ) :
    (fun i j => part w dy p q n i j + dotNT 1024 (rows dy p n) (rows w q n) i j) = part w dy p q (n + 1) := by
  funext i j
  exact dotNT_step n 1024 dy w (1024 * p + i) (1024 * q + j)

include k0 k1 in
/-- What is carried after a point that is not a block's last. -/
theorem carried (n : ℕ) (hn : n < cfg0.N) (hl : ¬n % 6 = 5) :
    Ent (outsAt0 m c n hn).2 (part w dy (n / 12) (n / 6 % 2) (n % 6 + 1)) := by
  induction n with
  | zero =>
    rw [outsAt0_A m c ⟨0, hn⟩ rfl hl]
    dsimp only
    rw [first, ← part_succ]
    have h := pay zero_is (blk0 k1 ⟨0, hn⟩) (blk1 k0 ⟨0, hn⟩)
    rw [part_zero]
    exact h
  | succ n ih =>
    by_cases h0 : (n + 1) % 6 = 0
    · rw [outsAt0_A m c ⟨n + 1, hn⟩ h0 hl]
      dsimp only
      rw [first, ← part_succ, h0, part_zero]
      have h := pay zero_is (blk0 k1 ⟨n + 1, hn⟩) (blk1 k0 ⟨n + 1, hn⟩)
      dsimp only at h
      rw [h0] at h
      exact h
    · rw [outsAt0_B m c ⟨n + 1, hn⟩ h0 hl]
      dsimp only
      rw [next, ← part_succ]
      have i' := ih (Nat.lt_of_succ_lt hn) (by omega)
      rw [show n / 12 = (n + 1) / 12 by omega, show n / 6 % 2 = (n + 1) / 6 % 2 by omega, show n % 6 + 1 = (n + 1) % 6 by omega] at i'
      exact pay i' (blk0 k1 ⟨n + 1, hn⟩) (blk1 k0 ⟨n + 1, hn⟩)

include k0 k1 in
/-- What a block's last point writes. -/
theorem written (t : Fin cfg0.N) (hl : t.val % 6 = 5) :
    Ent (outsAt0 m c t.val t.isLt).1 (part w dy (t.val / 12) (t.val / 6 % 2) 6) := by
  rw [outsAt0_C m c t (by omega) hl]
  dsimp only
  rw [last, ← part_succ]
  have i' := carried k0 k1 (t.val - 1) (Nat.lt_of_le_of_lt (Nat.sub_le _ _) t.isLt) (by omega)
  rw [show (t.val - 1) / 12 = t.val / 12 by omega, show (t.val - 1) / 6 % 2 = t.val / 6 % 2 by omega,
    show (t.val - 1) % 6 + 1 = 5 by omega] at i'
  have h := pay i' (blk0 k1 t) (blk1 k0 t)
  rw [hl] at h
  exact h

include k0 k1 in
/-- The kernel's array. -/
theorem arr : (dats m 0 c).arrAt 2 cfg0.N = fun i : S2048x2048.Idx => dotNT 6144 dy w (i 0).val (i 1).val := by
  refine (dats m 0 c).arrAt_eq_of_covers 2 _ (by decide +kernel) fun t hf y => ?_
  blk_simp
  rw [after0_2]
  have e0 : win0_2.index t 0 * 1024 + (y 0).val = 1024 * (t.val / 12) + (y 0).val := by rw [pos2, Nat.mul_comm]; rfl
  have e1 : win0_2.index t 1 * 1024 + (y 1).val = 1024 * (t.val / 6 % 2) + (y 1).val := by rw [pos2, Nat.mul_comm]; rfl
  rw [e0, e1]
  exact written k0 k1 t ((flush0_2 t).1 hf) y

open Cert.GlaInDxRefIdeal.Read in
/-- The derivative's array. -/
theorem ref {x0 : FVec Ideal S2048x6160 .bf16} {x1 : FVec Ideal S2048x6144 .bf16} (k0 : Ent x0 w) (k1 : Ent x1 dy) :
    Ent (val_main_v5 (F := Ideal) x0 x1) (dotNT 6144 dy w) := fun i => by
  rw [val_main_v5_apply]
  unfold dotNT
  rw [Finset.sum_range]
  exact Finset.sum_congr rfl fun k _ => congrArg₂ _ (k1 _) ((val_main_v1_apply (F := Ideal) x0 _).trans ((val_main_v0_apply (F := Ideal) x0 _).trans (k0 _)))

end Cert.Proof.GlaInDx

end
-- ==== Proof.ValueGlaIn.lean ====
/- THE GATED LINEAR ATTENTION'S PROJECTION IN, without its last 16 columns: entry `(i, j)` is row `i` of the input times column `j` of the weights. The kernel's array and the formula
   both hold it. -/
module

public import proofs.«01_k».proof.Proof.Prod
public import proofs.«01_k».proof.Proof.Gen.GlaInIdeal.Value
public import proofs.«01_k».proof.Proof.Gen.GlaInRefIdeal.Read
public import Idealize.ShloMosaic.Lib.Pipeline.ValueKit
public import Idealize.ShloMosaic.Lib.Tactic

@[expose] public section

set_option maxRecDepth 16384

noncomputable section

namespace Cert.Proof.GlaIn

open Idealize.ShloMosaic Cert.GlaInIdeal Cert.GlaInIdeal.Gen Finset

theorem hz : (![0, 0] : Fin 2 → ℕ) = fun _ => 0 := funext fun a => by fin_cases a <;> rfl

theorem out (c : Dev nD) (i : grid0.Coords) (a3 : Memref sig .tc .vmem S1024x2048 .bf16) (h3 : a3.IsWhole)
    (a4 : Memref sig .tc .vmem S2048x512 .bf16) (h4 : a4.IsWhole) (a5 : Memref sig .tc .vmem S1024x512 .f32) (h5 : a5.IsWhole)
    {x0 : Vec Ideal S1024x2048 .bf16} {x1 : Vec Ideal S2048x512 .bf16} {h w : ℕ → ℕ → EReal}
    (h0 : Ent x0 h) (h1 : Ent x1 w) : Ent (out0_A_2 (F := Ideal) c i a3 h3 a4 h4 a5 h5 x0 x1) (dotNN 2048 h w) := by
  unfold out0_A_2
  rw [View.read_writes_eq_canon _ _ _ (cover0_A_2 c i a3 h3 a4 h4 a5 h5 x0 x1)]
  unfold kernelRun0_A
  dsimp only
  rw [View.canon_unit_zero hz]
  simp only [View.readAt_eq_ld, h3.read_unread, h4.read_unread, View.ld_unit_zero (S := S1024x2048) hz, View.ld_unit_zero (S := S2048x512) hz]
  exact prodNN (φ₁ := .bf16) (φ₂ := .bf16) h0 h1

theorem pos0 : ∀ t : Fin cfg0.N, win0_0.index t = ![t.val / 12, 0] := (by decide +kernel : ∀ t : Fin grid0.N, _)
theorem pos1 : ∀ t : Fin cfg0.N, win0_1.index t = ![0, t.val % 12] := (by decide +kernel : ∀ t : Fin grid0.N, _)
theorem pos2 : ∀ t : Fin cfg0.N, win0_2.index t = ![t.val / 12, t.val % 12] := (by decide +kernel : ∀ t : Fin grid0.N, _)

variable {m : (ℓ : Loc nD τ sig) → Buf (Elt Ideal) ℓ} {c : Dev nD} {h w : ℕ → ℕ → EReal}
  (k0 : Ent (m (c.tc.loc main_arg0)) h) (k1 : Ent (m (c.tc.loc main_arg1)) w)

include k0 in
theorem blk0 (t : Fin cfg0.N) : Ent (iblk m c 0 t) (fun i k => h (1024 * (t.val / 12) + i) k) := fun x => by
  blk_simp [iblk]
  rw [V_main_arg0, k0]
  refine entry h ?_ ?_
  · blk_simp [pos0] <;> simp <;> omega
  · blk_simp [pos0] <;> simp
include k1 in
theorem blk1 (t : Fin cfg0.N) : Ent (X0_1 m c t) (fun k j => w k (512 * (t.val % 12) + j)) := fun x => by
  unfold X0_1 Pipeline.Window.fill
  rw [dif_pos (moved0_1 t x)]
  blk_simp [iblk]
  rw [V_main_arg1, k1]
  refine entry w ?_ ?_
  · blk_simp [pos1] <;> simp
  · blk_simp [pos1] <;> simp <;> omega

include k0 k1 in
/-- The kernel's array. -/
theorem arr : (dats m 0 c).arrAt 2 cfg0.N = fun i : S2048x6144.Idx => dotNN 2048 h w (i 0).val (i 1).val := by
  refine (dats m 0 c).arrAt_eq_of_covers 2 _ (by decide +kernel) fun t hf y => ?_
  blk_simp
  rw [after0_2, outsAt0]
  have e0 : win0_2.index t 0 * 1024 + (y 0).val = 1024 * (t.val / 12) + (y 0).val := by rw [pos2, Nat.mul_comm]; rfl
  have e1 : win0_2.index t 1 * 512 + (y 1).val = 512 * (t.val % 12) + (y 1).val := by rw [pos2, Nat.mul_comm]; rfl
  rw [e0, e1]
  exact out _ _ _ _ _ _ _ _ (blk0 k0 t) (blk1 k1 t) y

open Cert.GlaInRefIdeal.Read in
/-- The formula's array. -/
theorem ref {x0 : FVec Ideal S2048x2048 .bf16} {x1 : FVec Ideal S2048x6160 .bf16} (k0 : Ent x0 h) (k1 : Ent x1 w) :
    Ent (val_main_v3 (F := Ideal) x0 x1) (dotNN 2048 h w) := fun i => by
  rw [val_main_v3_apply]
  unfold dotNN
  rw [Finset.sum_range]
  exact Finset.sum_congr rfl fun k _ => congrArg₂ _ (k0 _) ((val_main_v2_apply (F := Ideal) x1 _).trans ((val_main_v0_apply (F := Ideal) x1 _).trans (k1 _)))

end Cert.Proof.GlaIn

end
-- ==== Proof.GradLruInDw.lean ====
/- THE GRADIENT OF THE RECURRENT UNIT'S PROJECTION IN, ITS WEIGHTS: entry `(i, j)` is the sum, over the positions, of input `i` times incoming gradient `j`. The
   kernel's array and the derivative both hold it. -/
module

public import proofs.«01_k».proof.Proof.Prod
public import proofs.«01_k».proof.Proof.Gen.LruInDwIdeal.Value
public import proofs.«01_k».proof.Proof.Gen.LruInDwRefIdeal.Read
public import Idealize.ShloMosaic.Lib.Pipeline.ValueKit

@[expose] public section

set_option maxRecDepth 16384

noncomputable section

namespace Cert.Proof.LruInDw

open Idealize.ShloMosaic Cert.LruInDwIdeal Cert.LruInDwIdeal.Gen Finset

theorem out {x0 : Vec Ideal S2048x1024 .bf16} {x1 : Vec Ideal S2048x512 .bf16} {h dy : ℕ → ℕ → EReal}
    (h0 : Ent x0 h) (h1 : Ent x1 dy) : Ent (out0_2 (F := Ideal) x0 x1) (dotTN 2048 h dy) := by
  have hz : (![0, 0] : Fin 2 → ℕ) = fun _ => 0 := funext fun a => by fin_cases a <;> rfl
  unfold out0_2
  rw [View.canon_unit_zero hz]
  simp only [View.ld_unit_zero (S := S2048x1024) hz, View.ld_unit_zero (S := S2048x512) hz]
  exact prodTN (φ₁ := .bf16) (φ₂ := .bf16) h0 h1

theorem pos0 : ∀ t : Fin cfg0.N, win0_0.index t = ![0, t.val / 8] := (by decide +kernel : ∀ t : Fin grid0.N, _)
theorem pos1 : ∀ t : Fin cfg0.N, win0_1.index t = ![0, t.val % 8] := (by decide +kernel : ∀ t : Fin grid0.N, _)
theorem pos2 : ∀ t : Fin cfg0.N, win0_2.index t = ![t.val / 8, t.val % 8] := (by decide +kernel : ∀ t : Fin grid0.N, _)

variable {m : (ℓ : Loc nD τ sig) → Buf (Elt Ideal) ℓ} {c : Dev nD} {h dy : ℕ → ℕ → EReal}
  (k0 : Ent (m (c.tc.loc main_arg0)) h) (k1 : Ent (m (c.tc.loc main_arg1)) dy)

include k0 in
theorem blk0 (t : Fin cfg0.N) : Ent (iblk m c 0 t) (fun k i => h k (1024 * (t.val / 8) + i)) := fun x => by
  blk_simp [iblk]
  rw [V_main_arg0, k0]
  refine entry h ?_ ?_
  · blk_simp [pos0] <;> simp
  · blk_simp [pos0] <;> simp <;> omega
include k1 in
theorem blk1 (t : Fin cfg0.N) : Ent (iblk m c 1 t) (fun k j => dy k (512 * (t.val % 8) + j)) := fun x => by
  blk_simp [iblk]
  rw [V_main_arg1, k1]
  refine entry dy ?_ ?_
  · blk_simp [pos1] <;> simp
  · blk_simp [pos1] <;> simp <;> omega

include k0 k1 in
/-- The kernel's array. -/
theorem arr : (dats m 0 c).arrAt 2 cfg0.N = fun i : S2048x4096.Idx => dotTN 2048 h dy (i 0).val (i 1).val := by
  refine (dats m 0 c).arrAt_eq_of_covers 2 _ (by decide +kernel) fun t hf y => ?_
  blk_simp
  rw [after0_2]
  have e0 : win0_2.index t 0 * 1024 + (y 0).val = 1024 * (t.val / 8) + (y 0).val := by rw [pos2, Nat.mul_comm]; rfl
  have e1 : win0_2.index t 1 * 512 + (y 1).val = 512 * (t.val % 8) + (y 1).val := by rw [pos2, Nat.mul_comm]; rfl
  rw [e0, e1]
  exact out (blk0 k0 t) (blk1 k1 t) y

open Cert.LruInDwRefIdeal.Read in
/-- The derivative's array. -/
theorem ref {x0 : FVec Ideal S2048x2048 .bf16} {x1 : FVec Ideal S2048x4096 .bf16} (k0 : Ent x0 h) (k1 : Ent x1 dy) :
    Ent (val_main_v6 (F := Ideal) x0 x1) (dotTN 2048 h dy) := fun i => by
  rw [val_main_v6_apply]
  show val_main_v5 (F := Ideal) x0 x1 i = _
  rw [val_main_v5_apply, val_main_v4_apply]
  unfold dotTN
  rw [Finset.sum_range]
  exact Finset.sum_congr rfl fun k _ => (mul_comm _ _).trans (congrArg₂ _ (k0 _) (k1 _))

end Cert.Proof.LruInDw

end
-- ==== Proof.GradLruInDx.lean ====
/- THE GRADIENT OF THE RECURRENT UNIT'S PROJECTION IN, ITS INPUT: entry `(i, j)` is one sum of incoming gradient times weight. The kernel adds it up in four
   blocks, in a buffer it carries from point to point. -/
module

public import proofs.«01_k».proof.Proof.Prod
public import proofs.«01_k».proof.Proof.Gen.LruInDxIdeal.Value
public import proofs.«01_k».proof.Proof.Gen.LruInDxRefIdeal.Read
public import Idealize.ShloMosaic.Lib.Pipeline.ValueKit
public import Idealize.ShloMosaic.Lib.Tactic

@[expose] public section

set_option maxRecDepth 16384

noncomputable section

namespace Cert.Proof.LruInDx

open Idealize.ShloMosaic Cert.LruInDxIdeal Cert.LruInDxIdeal.Gen Finset

/-! ## One point -/

theorem hz : (![0, 0] : Fin 2 → ℕ) = fun _ => 0 := funext fun a => by fin_cases a <;> rfl

/-- What a point adds to the carried buffer. -/
theorem pay {acc : Vec Ideal S1024x1024 .f32} {x0 x1 : Vec Ideal S1024x1024 .bf16} {s f g : ℕ → ℕ → EReal}
    (ha : Ent acc s) (h0 : Ent x0 f) (h1 : Ent x1 g) : Ent (k0_pay2 (F := Ideal) acc x0 x1) (fun i j => s i j + dotNT 1024 f g i j) := fun i => by
  unfold k0_pay2
  simp only [shapeCast_self]
  exact congrArg₂ _ (ha i) (prodNT (φ₁ := .bf16) (φ₂ := .bf16) h0 h1 i)

theorem zero_is : Ent (k0_pay1 (F := Ideal)) (fun _ _ => 0) := fun i => by
  unfold k0_pay1
  simp only [shapeCast_self]
  exact Ideal.ofBits_zero_f32

section
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole) (x0 x1 : Vec Ideal S1024x1024 .bf16) (acc : Vec Ideal S1024x1024 .f32)

theorem first (hc0 : cond0_0 i) (hc1 : ¬cond0_1 i) :
    sout0_A_0 (F := Ideal) c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

theorem next (hc0 : ¬cond0_0 i) (hc1 : ¬cond0_1 i) :
    sout0_B_0 (F := Ideal) c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  rw [View.canon_unit_zero hz]
  simp only [View.readAt_eq_ld, h3.read_unread, h4.read_unread, h6.read_unread, View.ld_unit_zero (S := S1024x1024) hz]

theorem last (hc0 : ¬cond0_0 i) (hc1 : cond0_1 i) :
    out0_C_2 (F := Ideal) c i a3 h3 a4 h4 a5 h5 a6 h6 hc0 hc1 x0 x1 acc = k0_pay2 acc x0 x1 := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]
end

/-! ## The blocks a point reads -/

theorem pos0 : ∀ t : Fin cfg0.N, win0_0.index t = ![t.val / 8, t.val % 4] := (by decide +kernel : ∀ t : Fin grid0.N, _)
theorem pos1 : ∀ t : Fin cfg0.N, win0_1.index t = ![t.val / 4 % 2, t.val % 4] := (by decide +kernel : ∀ t : Fin grid0.N, _)
theorem pos2 : ∀ t : Fin cfg0.N, win0_2.index t = ![t.val / 8, t.val / 4 % 2] := (by decide +kernel : ∀ t : Fin grid0.N, _)

/-- Block `n` of a band of rows. -/
def rows (f : ℕ → ℕ → EReal) (p n i k : ℕ) : EReal := f (1024 * p + i) (1024 * n + k)

variable {m : (ℓ : Loc nD τ sig) → Buf (Elt Ideal) ℓ} {c : Dev nD} {w dy : ℕ → ℕ → EReal}
  (k0 : Ent (m (c.tc.loc main_arg0)) w) (k1 : Ent (m (c.tc.loc main_arg1)) dy)

include k1 in
theorem blk0 (t : Fin cfg0.N) : Ent (iblk m c 0 t) (rows dy (t.val / 8) (t.val % 4)) := fun x => by
  blk_simp [iblk]
  rw [V_main_arg1, k1]
  refine entry dy ?_ ?_
  · blk_simp [pos0] <;> simp <;> omega
  · blk_simp [pos0] <;> simp <;> omega
include k0 in
theorem blk1 (t : Fin cfg0.N) : Ent (iblk m c 1 t) (rows w (t.val / 4 % 2) (t.val % 4)) := fun x => by
  blk_simp [iblk]
  rw [V_main_arg0, k0]
  refine entry w ?_ ?_
  · blk_simp [pos1] <;> simp <;> omega
  · blk_simp [pos1] <;> simp <;> omega

/-! ## The carried sum, and the array -/

/-- The sum over the first `n` blocks, for block `(p, q)` of the result. -/
def part (w dy : ℕ → ℕ → EReal) (p q n i j : ℕ) : EReal := dotNT (1024 * n) dy w (1024 * p + i) (1024 * q + j)

theorem part_zero (w dy : ℕ → ℕ → EReal) (p q : ℕ) : part w dy p q 0 = fun _ _ => 0 := by
  funext i j
  unfold part dotNT
  rw [Nat.mul_zero, Finset.sum_range_zero]
theorem part_succ (w dy : ℕ → ℕ → EReal) (p q n : ℕ) :
    (fun i j => part w dy p q n i j + dotNT 1024 (rows dy p n) (rows w q n) i j) = part w dy p q (n + 1) := by
  funext i j
  exact dotNT_step n 1024 dy w (1024 * p + i) (1024 * q + j)

include k0 k1 in
/-- What is carried after a point that is not a block's last. -/
theorem carried (n : ℕ) (hn : n < cfg0.N) (hl : ¬n % 4 = 3) :
    Ent (outsAt0 m c n hn).2 (part w dy (n / 8) (n / 4 % 2) (n % 4 + 1)) := by
  induction n with
  | zero =>
    rw [outsAt0_A m c ⟨0, hn⟩ rfl hl]
    dsimp only
    rw [first, ← part_succ]
    have h := pay zero_is (blk0 k1 ⟨0, hn⟩) (blk1 k0 ⟨0, hn⟩)
    rw [part_zero]
    exact h
  | succ n ih =>
    by_cases h0 : (n + 1) % 4 = 0
    · rw [outsAt0_A m c ⟨n + 1, hn⟩ h0 hl]
      dsimp only
      rw [first, ← part_succ, h0, part_zero]
      have h := pay zero_is (blk0 k1 ⟨n + 1, hn⟩) (blk1 k0 ⟨n + 1, hn⟩)
      dsimp only at h
      rw [h0] at h
      exact h
    · rw [outsAt0_B m c ⟨n + 1, hn⟩ h0 hl]
      dsimp only
      rw [next, ← part_succ]
      have i' := ih (Nat.lt_of_succ_lt hn) (by omega)
      rw [show n / 8 = (n + 1) / 8 by omega, show n / 4 % 2 = (n + 1) / 4 % 2 by omega, show n % 4 + 1 = (n + 1) % 4 by omega] at i'
      exact pay i' (blk0 k1 ⟨n + 1, hn⟩) (blk1 k0 ⟨n + 1, hn⟩)

include k0 k1 in
/-- What a block's last point writes. -/
theorem written (t : Fin cfg0.N) (hl : t.val % 4 = 3) :
    Ent (outsAt0 m c t.val t.isLt).1 (part w dy (t.val / 8) (t.val / 4 % 2) 4) := by
  rw [outsAt0_C m c t (by omega) hl]
  dsimp only
  rw [last, ← part_succ]
  have i' := carried k0 k1 (t.val - 1) (Nat.lt_of_le_of_lt (Nat.sub_le _ _) t.isLt) (by omega)
  rw [show (t.val - 1) / 8 = t.val / 8 by omega, show (t.val - 1) / 4 % 2 = t.val / 4 % 2 by omega,
    show (t.val - 1) % 4 + 1 = 3 by omega] at i'
  have h := pay i' (blk0 k1 t) (blk1 k0 t)
  rw [hl] at h
  exact h

include k0 k1 in
/-- The kernel's array. -/
theorem arr : (dats m 0 c).arrAt 2 cfg0.N = fun i : S2048x2048.Idx => dotNT 4096 dy w (i 0).val (i 1).val := by
  refine (dats m 0 c).arrAt_eq_of_covers 2 _ (by decide +kernel) fun t hf y => ?_
  blk_simp
  rw [after0_2]
  have e0 : win0_2.index t 0 * 1024 + (y 0).val = 1024 * (t.val / 8) + (y 0).val := by rw [pos2, Nat.mul_comm]; rfl
  have e1 : win0_2.index t 1 * 1024 + (y 1).val = 1024 * (t.val / 4 % 2) + (y 1).val := by rw [pos2, Nat.mul_comm]; rfl
  rw [e0, e1]
  exact written k0 k1 t ((flush0_2 t).1 hf) y

open Cert.LruInDxRefIdeal.Read in
/-- The derivative's array. -/
theorem ref {x0 : FVec Ideal S2048x4096 .bf16} {x1 : FVec Ideal S2048x4096 .bf16} (k0 : Ent x0 w) (k1 : Ent x1 dy) :
    Ent (val_main_v4 (F := Ideal) x0 x1) (dotNT 4096 dy w) := fun i => by
  rw [val_main_v4_apply]
  unfold dotNT
  rw [Finset.sum_range]
  exact Finset.sum_congr rfl fun k _ => congrArg₂ _ (k1 _) (k0 _)

end Cert.Proof.LruInDx

end
-- ==== Proof.ValueLruIn.lean ====
/- THE RECURRENT UNIT'S PROJECTION IN: entry `(i, j)` is row `i` of the input times column `j` of the weights. The kernel's array and the formula
   both hold it. -/
module

public import proofs.«01_k».proof.Proof.Prod
public import proofs.«01_k».proof.Proof.Gen.LruInIdeal.Value
public import proofs.«01_k».proof.Proof.Gen.LruInRefIdeal.Read
public import Idealize.ShloMosaic.Lib.Pipeline.ValueKit

@[expose] public section

set_option maxRecDepth 16384

noncomputable section

namespace Cert.Proof.LruIn

open Idealize.ShloMosaic Cert.LruInIdeal Cert.LruInIdeal.Gen Finset

theorem out {x0 : Vec Ideal S1024x2048 .bf16} {x1 : Vec Ideal S2048x512 .bf16} {h w : ℕ → ℕ → EReal}
    (h0 : Ent x0 h) (h1 : Ent x1 w) : Ent (out0_2 (F := Ideal) x0 x1) (dotNN 2048 h w) := by
  have hz : (![0, 0] : Fin 2 → ℕ) = fun _ => 0 := funext fun a => by fin_cases a <;> rfl
  unfold out0_2
  rw [View.canon_unit_zero hz]
  simp only [View.ld_unit_zero (S := S1024x2048) hz, View.ld_unit_zero (S := S2048x512) hz]
  exact prodNN (φ₁ := .bf16) (φ₂ := .bf16) h0 h1

theorem pos0 : ∀ t : Fin cfg0.N, win0_0.index t = ![t.val / 8, 0] := (by decide +kernel : ∀ t : Fin grid0.N, _)
theorem pos1 : ∀ t : Fin cfg0.N, win0_1.index t = ![0, t.val % 8] := (by decide +kernel : ∀ t : Fin grid0.N, _)
theorem pos2 : ∀ t : Fin cfg0.N, win0_2.index t = ![t.val / 8, t.val % 8] := (by decide +kernel : ∀ t : Fin grid0.N, _)

variable {m : (ℓ : Loc nD τ sig) → Buf (Elt Ideal) ℓ} {c : Dev nD} {h w : ℕ → ℕ → EReal}
  (k0 : Ent (m (c.tc.loc main_arg0)) h) (k1 : Ent (m (c.tc.loc main_arg1)) w)

include k0 in
theorem blk0 (t : Fin cfg0.N) : Ent (iblk m c 0 t) (fun i k => h (1024 * (t.val / 8) + i) k) := fun x => by
  blk_simp [iblk]
  rw [V_main_arg0, k0]
  refine entry h ?_ ?_
  · blk_simp [pos0] <;> simp <;> omega
  · blk_simp [pos0] <;> simp
include k1 in
theorem blk1 (t : Fin cfg0.N) : Ent (iblk m c 1 t) (fun k j => w k (512 * (t.val % 8) + j)) := fun x => by
  blk_simp [iblk]
  rw [V_main_arg1, k1]
  refine entry w ?_ ?_
  · blk_simp [pos1] <;> simp
  · blk_simp [pos1] <;> simp <;> omega

include k0 k1 in
/-- The kernel's array. -/
theorem arr : (dats m 0 c).arrAt 2 cfg0.N = fun i : S2048x4096.Idx => dotNN 2048 h w (i 0).val (i 1).val := by
  refine (dats m 0 c).arrAt_eq_of_covers 2 _ (by decide +kernel) fun t hf y => ?_
  blk_simp
  rw [after0_2]
  have e0 : win0_2.index t 0 * 1024 + (y 0).val = 1024 * (t.val / 8) + (y 0).val := by rw [pos2, Nat.mul_comm]; rfl
  have e1 : win0_2.index t 1 * 512 + (y 1).val = 512 * (t.val % 8) + (y 1).val := by rw [pos2, Nat.mul_comm]; rfl
  rw [e0, e1]
  exact out (blk0 k0 t) (blk1 k1 t) y

open Cert.LruInRefIdeal.Read in
/-- The formula's array. -/
theorem ref {x0 : FVec Ideal S2048x2048 .bf16} {x1 : FVec Ideal S2048x4096 .bf16} (k0 : Ent x0 h) (k1 : Ent x1 w) :
    Ent (val_main_v2 (F := Ideal) x0 x1) (dotNN 2048 h w) := fun i => by
  rw [val_main_v2_apply]
  unfold dotNN
  rw [Finset.sum_range]
  exact Finset.sum_congr rfl fun k _ => congrArg₂ _ (k0 _) (k1 _)

end Cert.Proof.LruIn

end
-- ==== Proof.GradMixOutDw.lean ====
/- THE GRADIENT OF THE OTHER MIXERS' PROJECTION OUT, ITS WEIGHTS: entry `(i, j)` is the sum, over the positions, of input `i` times incoming gradient `j`. The
   kernel's array and the derivative both hold it. -/
module

public import proofs.«01_k».proof.Proof.Prod
public import proofs.«01_k».proof.Proof.Gen.MixOutDwIdeal.Value
public import proofs.«01_k».proof.Proof.Gen.MixOutDwRefIdeal.Read
public import Idealize.ShloMosaic.Lib.Pipeline.ValueKit

@[expose] public section

set_option maxRecDepth 16384

noncomputable section

namespace Cert.Proof.MixOutDw

open Idealize.ShloMosaic Cert.MixOutDwIdeal Cert.MixOutDwIdeal.Gen Finset

theorem out {x0 : Vec Ideal S2048x512 .bf16} {x1 : Vec Ideal S2048x2048 .bf16} {h dy : ℕ → ℕ → EReal}
    (h0 : Ent x0 h) (h1 : Ent x1 dy) : Ent (out0_2 (F := Ideal) x0 x1) (dotTN 2048 h dy) := by
  have hz : (![0, 0] : Fin 2 → ℕ) = fun _ => 0 := funext fun a => by fin_cases a <;> rfl
  unfold out0_2
  rw [View.canon_unit_zero hz]
  simp only [View.ld_unit_zero (S := S2048x512) hz, View.ld_unit_zero (S := S2048x2048) hz]
  exact prodTN (φ₁ := .bf16) (φ₂ := .bf16) h0 h1

theorem pos0 : ∀ t : Fin cfg0.N, win0_0.index t = ![0, t.val] := (by decide +kernel : ∀ t : Fin grid0.N, _)
theorem pos1 : ∀ t : Fin cfg0.N, win0_1.index t = ![0, 0] := (by decide +kernel : ∀ t : Fin grid0.N, _)
theorem pos2 : ∀ t : Fin cfg0.N, win0_2.index t = ![t.val, 0] := (by decide +kernel : ∀ t : Fin grid0.N, _)

variable {m : (ℓ : Loc nD τ sig) → Buf (Elt Ideal) ℓ} {c : Dev nD} {h dy : ℕ → ℕ → EReal}
  (k0 : Ent (m (c.tc.loc main_arg0)) h) (k1 : Ent (m (c.tc.loc main_arg1)) dy)

include k0 in
theorem blk0 (t : Fin cfg0.N) : Ent (iblk m c 0 t) (fun k i => h k (512 * t.val + i)) := fun x => by
  blk_simp [iblk]
  rw [V_main_arg0, k0]
  refine entry h ?_ ?_
  · blk_simp [pos0] <;> simp
  · blk_simp [pos0] <;> simp <;> omega
include k1 in
theorem blk1 (t : Fin cfg0.N) : Ent (iblk m c 1 t) dy := fun x => by
  blk_simp [iblk]
  rw [V_main_arg1, k1]
  refine entry dy ?_ ?_
  · blk_simp [pos1] <;> simp
  · blk_simp [pos1] <;> simp

include k0 k1 in
/-- The kernel's array. -/
theorem arr : (dats m 0 c).arrAt 2 cfg0.N = fun i : S2048x2048.Idx => dotTN 2048 h dy (i 0).val (i 1).val := by
  refine (dats m 0 c).arrAt_eq_of_covers 2 _ (by decide +kernel) fun t hf y => ?_
  blk_simp
  rw [after0_2]
  have e0 : win0_2.index t 0 * 512 + (y 0).val = 512 * t.val + (y 0).val := by rw [pos2, Nat.mul_comm]; rfl
  have e1 : win0_2.index t 1 * 2048 + (y 1).val = (y 1).val := by
    rw [pos2]; exact (congrArg (· + (y 1).val) (Nat.zero_mul 2048)).trans (Nat.zero_add _)
  rw [e0, e1]
  exact out (blk0 k0 t) (blk1 k1 t) y

open Cert.MixOutDwRefIdeal.Read in
/-- The derivative's array. -/
theorem ref {x0 : FVec Ideal S2048x2048 .bf16} {x1 : FVec Ideal S2048x2048 .bf16} (k0 : Ent x0 h) (k1 : Ent x1 dy) :
    Ent (val_main_v6 (F := Ideal) x0 x1) (dotTN 2048 h dy) := fun i => by
  rw [val_main_v6_apply]
  show val_main_v5 (F := Ideal) x0 x1 i = _
  rw [val_main_v5_apply, val_main_v4_apply]
  unfold dotTN
  rw [Finset.sum_range]
  exact Finset.sum_congr rfl fun k _ => (mul_comm _ _).trans (congrArg₂ _ (k0 _) (k1 _))

end Cert.Proof.MixOutDw

end
-- ==== Proof.GradMixOutDx.lean ====
/- THE GRADIENT OF THE OTHER MIXERS' PROJECTION OUT, ITS INPUT: entry `(i, j)` is one sum of incoming gradient times weight. The kernel's array and the
   derivative both hold it. -/
module

public import proofs.«01_k».proof.Proof.Prod
public import proofs.«01_k».proof.Proof.Gen.MixOutDxIdeal.Value
public import proofs.«01_k».proof.Proof.Gen.MixOutDxRefIdeal.Read
public import Idealize.ShloMosaic.Lib.Pipeline.ValueKit

@[expose] public section

set_option maxRecDepth 16384

noncomputable section

namespace Cert.Proof.MixOutDx

open Idealize.ShloMosaic Cert.MixOutDxIdeal Cert.MixOutDxIdeal.Gen Finset

theorem out {x0 : Vec Ideal S512x2048 .bf16} {x1 : Vec Ideal S2048x2048 .bf16} {dy w : ℕ → ℕ → EReal}
    (h0 : Ent x0 dy) (h1 : Ent x1 w) : Ent (out0_2 (F := Ideal) x0 x1) (dotNT 2048 dy w) := by
  have hz : (![0, 0] : Fin 2 → ℕ) = fun _ => 0 := funext fun a => by fin_cases a <;> rfl
  unfold out0_2
  rw [View.canon_unit_zero hz]
  simp only [View.ld_unit_zero (S := S512x2048) hz, View.ld_unit_zero (S := S2048x2048) hz]
  exact prodNT (φ₁ := .bf16) (φ₂ := .bf16) h0 h1

theorem pos0 : ∀ t : Fin cfg0.N, win0_0.index t = ![t.val, 0] := (by decide +kernel : ∀ t : Fin grid0.N, _)
theorem pos1 : ∀ t : Fin cfg0.N, win0_1.index t = ![0, 0] := (by decide +kernel : ∀ t : Fin grid0.N, _)
theorem pos2 : ∀ t : Fin cfg0.N, win0_2.index t = ![t.val, 0] := (by decide +kernel : ∀ t : Fin grid0.N, _)

variable {m : (ℓ : Loc nD τ sig) → Buf (Elt Ideal) ℓ} {c : Dev nD} {w dy : ℕ → ℕ → EReal}
  (k0 : Ent (m (c.tc.loc main_arg0)) w) (k1 : Ent (m (c.tc.loc main_arg1)) dy)

include k1 in
theorem blk0 (t : Fin cfg0.N) : Ent (iblk m c 0 t) (fun i k => dy (512 * t.val + i) k) := fun x => by
  blk_simp [iblk]
  rw [V_main_arg1, k1]
  refine entry dy ?_ ?_
  · blk_simp [pos0] <;> simp <;> omega
  · blk_simp [pos0] <;> simp
include k0 in
theorem blk1 (t : Fin cfg0.N) : Ent (iblk m c 1 t) w := fun x => by
  blk_simp [iblk]
  rw [V_main_arg0, k0]
  refine entry w ?_ ?_
  · blk_simp [pos1] <;> simp
  · blk_simp [pos1] <;> simp

include k0 k1 in
/-- The kernel's array. -/
theorem arr : (dats m 0 c).arrAt 2 cfg0.N = fun i : S2048x2048.Idx => dotNT 2048 dy w (i 0).val (i 1).val := by
  refine (dats m 0 c).arrAt_eq_of_covers 2 _ (by decide +kernel) fun t hf y => ?_
  blk_simp
  rw [after0_2]
  have e0 : win0_2.index t 0 * 512 + (y 0).val = 512 * t.val + (y 0).val := by rw [pos2, Nat.mul_comm]; rfl
  have e1 : win0_2.index t 1 * 2048 + (y 1).val = (y 1).val := by
    rw [pos2]; exact (congrArg (· + (y 1).val) (Nat.zero_mul 2048)).trans (Nat.zero_add _)
  rw [e0, e1]
  exact out (blk0 k1 t) (blk1 k0 t) y

open Cert.MixOutDxRefIdeal.Read in
/-- The derivative's array. -/
theorem ref {x0 : FVec Ideal S2048x2048 .bf16} {x1 : FVec Ideal S2048x2048 .bf16} (k0 : Ent x0 w) (k1 : Ent x1 dy) :
    Ent (val_main_v4 (F := Ideal) x0 x1) (dotNT 2048 dy w) := fun i => by
  rw [val_main_v4_apply]
  unfold dotNT
  rw [Finset.sum_range]
  exact Finset.sum_congr rfl fun k _ => congrArg₂ _ (k1 _) (k0 _)

end Cert.Proof.MixOutDx

end
-- ==== Proof.ValueMixOut.lean ====
/- THE PRODUCT OUT OF A MIXER, WITH THE RESIDUAL AND THE NORM AFTER IT: the first result is the product plus the residual, the second is
   that sum times the reciprocal root of its row's mean square, times the gain. The kernel computes whole rows at a time. -/
module

public import proofs.«01_k».proof.Proof.Prod
public import proofs.«01_k».proof.Proof.Gen.MixOutIdeal.Value
public import proofs.«01_k».proof.Proof.Gen.MixOutRefIdeal.Read
public import Idealize.ShloMosaic.Lib.Pipeline.ValueKit
public import Idealize.ShloMosaic.Lib.ValueLayout
public import Idealize.ShloMosaic.Lib.ValueLayoutCasts

@[expose] public section

set_option maxRecDepth 16384

noncomputable section

namespace Cert.Proof.MixOut

open Idealize.ShloMosaic Cert.MixOutIdeal Cert.MixOutIdeal.Gen Finset

/-! ## The two results, entry by entry -/

/-- The product and the residual. -/
def plus (a w x : ℕ → ℕ → EReal) (i j : ℕ) : EReal := dotNN 2048 a w i j + x i j

/-- The reciprocal root of a row's mean square. -/
def scale (y : ℕ → ℕ → EReal) (i : ℕ) : EReal :=
  FloatOps.rsqrt (F := Ideal) (φ := .f32) (FloatOps.divf (F := Ideal) (φ := .f32) (∑ k ∈ range 2048, y i k * y i k)
    (FloatOps.ofBits (F := Ideal) .f32 0x45000000#32) + FloatOps.ofBits (F := Ideal) .f32 0x358637BD#32)

/-- The normed rows. -/
def norm (y g : ℕ → ℕ → EReal) (i j : ℕ) : EReal := y i j * scale y i * g 0 j

/-! ## A block -/

theorem hz : (![0, 0] : Fin 2 → ℕ) = fun _ => 0 := funext fun a => by fin_cases a <;> rfl

/-- Each row's sum, as a column. -/
theorem row_sum {x : FVec Ideal S512x2048 .f32} {f : ℕ → ℕ → EReal} {h : S512x2048.Reduces [1] S512} {hφ : FKind.Formats .f32}
    {acc : BitVec 32} {hacc : acc = FKind.add.neutral .f32 hφ} {h' : S512.ShapeCasts S512x1} (hx : Ent x f) :
    Ent (shapeCast S512x1 (multiReduction .add [1] S512 x acc h hφ hacc) h')
      (fun i _ => ∑ k ∈ range 2048, f i k) := fun i => by
  obtain ⟨r, c, rfl⟩ : ∃ r c, i = ValueIdx.ix2 r c := ⟨_, _, ValueIdx.eq_ix2 i⟩
  rw [ValueIdx.shapeCast_a_a1_apply, Ideal.multiReduction_add_single]
  dsimp only
  rw [Finset.sum_range]
  exact Finset.sum_congr rfl fun k _ => hx _

/-- A column repeated along the rows. -/
theorem along {x : FVec Ideal S512x1 .f32} {f : ℕ → EReal} (hx : Ent x (fun i _ => f i)) :
    Ent (broadcastTo S512x2048 x broadcasts_S512x1_S512x2048) (fun i _ => f i) := fun i => by
  rw [Pointwise.broadcastTo_apply, hx]
  rfl

/-- A row repeated down the columns. -/
theorem down {x : FVec Ideal S1x2048 .f32} {g : ℕ → ℕ → EReal} (hx : Ent x g) :
    Ent (broadcastTo S512x2048 x broadcasts_S1x2048_S512x2048) (fun _ j => g 0 j) := fun i => by
  obtain ⟨r, c, rfl⟩ : ∃ r c, i = ValueIdx.ix2 r c := ⟨_, _, ValueIdx.eq_ix2 i⟩
  rw [ValueIdx.broadcastTo_1b_ab_apply, hx]
  rfl

section
variable {x0 : Vec Ideal S512x2048 .bf16} {x1 : Vec Ideal S2048x2048 .bf16} {x2 : Vec Ideal S512x2048 .f32} {x3 : Vec Ideal S1x2048 .f32}
  {a w x g : ℕ → ℕ → EReal} (h0 : Ent x0 a) (h1 : Ent x1 w) (h2 : Ent x2 x) (h3 : Ent x3 g)

include h0 h1 h2 in
theorem pay_plus : Ent (k0_pay1 (F := Ideal) x0 x1 x2) (plus a w x) := fun i =>
  congrArg₂ (· + ·) (prodNN (φ₁ := .bf16) (φ₂ := .bf16) h0 h1 i) (h2 i)

include h3 in
/-- The norm of a block of whole rows. -/
theorem pay_norm {y : FVec Ideal S512x2048 .f32} {f : ℕ → ℕ → EReal} (hy : Ent y f) :
    Ent (mulf (mulf y (broadcastTo S512x2048 (rsqrt (addf (divf
        (shapeCast S512x1 (multiReduction .add [1] S512 (mulf y y) 0x00000000#32 reduces_S512x2048_S512 (.inl rfl) rfl) shapeCasts_S512_S512x1)
        (broadcast S512x1 (Scalar.ofBits .f32 0x45000000#32 : Ideal .f32))) (broadcast S512x1 (Scalar.ofBits .f32 0x358637BD#32 : Ideal .f32))))
        broadcasts_S512x1_S512x2048)) (broadcastTo S512x2048 x3 broadcasts_S1x2048_S512x2048)) (norm f g) := by
  have hs : Ent (mulf y y) (fun i k => f i k * f i k) := fun i => congrArg₂ (· * ·) (hy i) (hy i)
  have hb := along (f := scale f) (x := rsqrt (addf (divf
        (shapeCast S512x1 (multiReduction .add [1] S512 (mulf y y) 0x00000000#32 reduces_S512x2048_S512 (.inl rfl) rfl) shapeCasts_S512_S512x1)
        (broadcast S512x1 (Scalar.ofBits .f32 0x45000000#32 : Ideal .f32))) (broadcast S512x1 (Scalar.ofBits .f32 0x358637BD#32 : Ideal .f32))))
    fun i => congrArg (fun s => FloatOps.rsqrt (F := Ideal) (φ := .f32) (FloatOps.divf (F := Ideal) (φ := .f32) s
      (FloatOps.ofBits (F := Ideal) .f32 0x45000000#32) + FloatOps.ofBits (F := Ideal) .f32 0x358637BD#32)) (row_sum hs i)
  exact fun i => congrArg₂ (· * ·) (congrArg₂ (· * ·) (hy i) (hb i)) (down h3 i)

include h0 h1 h2 in
theorem out_plus : Ent (out0_4 (F := Ideal) x0 x1 x2 x3) (plus a w x) := by
  unfold out0_4
  rw [View.canon_unit_zero hz]
  simp only [View.ld_unit_zero (S := S512x2048) hz, View.ld_unit_zero (S := S2048x2048) hz]
  exact pay_plus h0 h1 h2

include h0 h1 h2 h3 in
theorem out_norm : Ent (out0_5 (F := Ideal) x0 x1 x2 x3) (norm (plus a w x) g) := by
  unfold out0_5
  rw [View.canon_unit_zero hz]
  simp only [View.ld_unit_zero (S := S512x2048) hz, View.ld_unit_zero (S := S2048x2048) hz, View.ld_unit_zero (S := S1x2048) hz]
  exact pay_norm h3 (pay_plus h0 h1 h2)
end

/-! ## The blocks a point reads -/

theorem pos0 : ∀ t : Fin cfg0.N, win0_0.index t = ![t.val, 0] := (by decide +kernel : ∀ t : Fin grid0.N, _)
theorem pos1 : ∀ t : Fin cfg0.N, win0_1.index t = ![0, 0] := (by decide +kernel : ∀ t : Fin grid0.N, _)
theorem pos2 : ∀ t : Fin cfg0.N, win0_2.index t = ![t.val, 0] := (by decide +kernel : ∀ t : Fin grid0.N, _)
theorem pos3 : ∀ t : Fin cfg0.N, win0_3.index t = ![0, 0] := (by decide +kernel : ∀ t : Fin grid0.N, _)
theorem pos4 : ∀ t : Fin cfg0.N, win0_4.index t = ![t.val, 0] := (by decide +kernel : ∀ t : Fin grid0.N, _)
theorem pos5 : ∀ t : Fin cfg0.N, win0_5.index t = ![t.val, 0] := (by decide +kernel : ∀ t : Fin grid0.N, _)

/-- Rows `512 p` to `512 p + 511` of a matrix. -/
def rows (f : ℕ → ℕ → EReal) (p i j : ℕ) : EReal := f (512 * p + i) j

variable {m : (ℓ : Loc nD τ sig) → Buf (Elt Ideal) ℓ} {c : Dev nD} {a w x g : ℕ → ℕ → EReal}
  (k0 : Ent (m (c.tc.loc main_arg0)) a) (k1 : Ent (m (c.tc.loc main_arg1)) w)
  (k2 : Ent (m (c.tc.loc main_arg2)) x) (k3 : Ent (m (c.tc.loc main_arg3)) g)

include k0 in
theorem blk0 (t : Fin cfg0.N) : Ent (iblk m c 0 t) (rows a t.val) := fun y => by
  blk_simp [iblk]
  rw [V_main_arg0, k0]
  refine entry a ?_ ?_
  · blk_simp [pos0] <;> simp <;> omega
  · blk_simp [pos0] <;> simp
include k1 in
theorem blk1 (t : Fin cfg0.N) : Ent (iblk m c 1 t) w := fun y => by
  blk_simp [iblk]
  rw [V_main_arg1, k1]
  refine entry w ?_ ?_
  · blk_simp [pos1] <;> simp
  · blk_simp [pos1] <;> simp
include k2 in
theorem blk2 (t : Fin cfg0.N) : Ent (iblk m c 2 t) (rows x t.val) := fun y => by
  blk_simp [iblk]
  rw [V_main_arg2, k2]
  refine entry x ?_ ?_
  · blk_simp [pos2] <;> simp <;> omega
  · blk_simp [pos2] <;> simp
include k3 in
theorem blk3 (t : Fin cfg0.N) : Ent (iblk m c 3 t) g := fun y => by
  blk_simp [iblk]
  rw [V_main_arg3, k3]
  refine entry g ?_ ?_
  · blk_simp [pos3] <;> simp
  · blk_simp [pos3] <;> simp

/-! ## The kernel's two arrays -/

include k0 k1 k2 in
theorem arr_plus : (dats m 0 c).arrAt 4 cfg0.N = fun i : S2048x2048.Idx => plus a w x (i 0).val (i 1).val := by
  refine (dats m 0 c).arrAt_eq_of_covers 4 _ (by decide +kernel) fun t hf y => ?_
  blk_simp
  rw [after0_4]
  have e0 : win0_4.index t 0 * 512 + (y 0).val = 512 * t.val + (y 0).val := by rw [pos4, Nat.mul_comm]; rfl
  have e1 : win0_4.index t 1 * 2048 + (y 1).val = (y 1).val := by rw [pos4]; exact (congrArg (· + (y 1).val) (Nat.zero_mul _)).trans (Nat.zero_add _)
  rw [e0, e1]
  exact out_plus (blk0 k0 t) (blk1 k1 t) (blk2 k2 t) y

include k0 k1 k2 k3 in
theorem arr_norm : (dats m 0 c).arrAt 5 cfg0.N = fun i : S2048x2048.Idx => norm (plus a w x) g (i 0).val (i 1).val := by
  refine (dats m 0 c).arrAt_eq_of_covers 5 _ (by decide +kernel) fun t hf y => ?_
  blk_simp
  rw [after0_5]
  have e0 : win0_5.index t 0 * 512 + (y 0).val = 512 * t.val + (y 0).val := by rw [pos5, Nat.mul_comm]; rfl
  have e1 : win0_5.index t 1 * 2048 + (y 1).val = (y 1).val := by rw [pos5]; exact (congrArg (· + (y 1).val) (Nat.zero_mul _)).trans (Nat.zero_add _)
  rw [e0, e1]
  exact out_norm (blk0 k0 t) (blk1 k1 t) (blk2 k2 t) (blk3 k3 t) y

/-! ## The formula's arrays -/

section
open Cert.MixOutRefIdeal.Read
variable {x0 x1 : FVec Ideal S2048x2048 .bf16} {x2 : FVec Ideal S2048x2048 .f32} {x3 : FVec Ideal S1x2048 .f32}
  (h0 : Ent x0 a) (h1 : Ent x1 w) (h2 : Ent x2 x) (h3 : Ent x3 g)

include h0 h1 h2 in
theorem ref_plus : Ent (val_main_v3 (F := Ideal) x0 x1 x2) (plus a w x) := fun i => by
  rw [val_main_v3_apply, val_main_v2_apply]
  show x2 i + _ = dotNN 2048 a w (i 0).val (i 1).val + x (i 0).val (i 1).val
  unfold dotNN
  rw [Finset.sum_range, h2 i, add_comm]
  exact congrArg (· + x (i 0).val (i 1).val) (Finset.sum_congr rfl fun k _ => congrArg₂ _ (h0 _) (h1 _))

include h0 h1 h2 in
/-- The mean square of a row. -/
theorem ref_sum (i : Cert.MixOutRefIdeal.S2048.Idx) : val_main_v6 (F := Ideal) x0 x1 x2 i =
    ∑ k ∈ range 2048, plus a w x (i 0).val k * plus a w x (i 0).val k := by
  rw [val_main_v6_apply, val_main_cst_apply]
  refine (congrArg (· + _) Ideal.ofBits_zero_f32).trans ?_
  rw [zero_add, Finset.sum_range]
  refine Finset.sum_congr rfl fun k _ => ?_
  rw [val_main_v5_apply]
  exact congrArg₂ (· * ·) (ref_plus h0 h1 h2 _) (ref_plus h0 h1 h2 _)

include h3 in
theorem ref_gain (i : S2048x2048.Idx) : val_main_v16 (F := Ideal) x3 i = g 0 (i 1).val := by
  rw [val_main_v16_apply, val_main_v15_apply, val_main_v4_apply]
  exact (h3 _).trans (entry g rfl (Nat.mod_eq_of_lt (i 1).isLt))

include h0 h1 h2 h3 in
theorem ref_norm : Ent (val_main_v18 (F := Ideal) x0 x1 x2 x3) (norm (plus a w x) g) := fun i => by
  rw [val_main_v18_apply, val_main_v17_apply, val_main_v14_apply, val_main_v13_apply, val_main_v12_apply, val_main_v11_apply,
    val_main_v10_apply, val_main_v9_apply, val_main_v8_apply, val_main_v7_apply, ref_sum h0 h1 h2, ref_gain h3, ref_plus h0 h1 h2]
  rfl
end

end Cert.Proof.MixOut

end
-- ==== Proof.ValueAdamW.lean ====
/- THE OPTIMISER'S STEP: each entry of the four results is one formula in the same entry of the weights, the two moments and the
   gradient. The kernel applies it block by block, the formula to whole matrices. -/
module

public import proofs.«01_k».proof.Proof.Prod
public import proofs.«01_k».proof.Proof.Gen.AdamWIdeal.Value
public import proofs.«01_k».proof.Proof.Gen.AdamWRefIdeal.Read
public import Idealize.ShloMosaic.Lib.Pipeline.ValueKit

@[expose] public section

set_option maxRecDepth 16384

noncomputable section

namespace Cert.Proof.AdamW

open Idealize.ShloMosaic Cert.AdamWIdeal Cert.AdamWIdeal.Gen

/-! ## The formula at one entry -/

/-- The number an f32 word stands for. -/
abbrev num (b : BitVec 32) : EReal := FloatOps.ofBits (F := Ideal) .f32 b

/-- The new first moment, from the old one and the gradient. -/
def mean (m g : EReal) : EReal := num 0x3F666666#32 * m + num 0x3DCCCCCD#32 * g
/-- The new second moment. -/
def square (v g : EReal) : EReal := num 0x3F7FBE77#32 * v + num 0x3A83126F#32 * (g * g)
/-- The step: the corrected first moment over the root of the corrected second one, and the decay of the weight. -/
def step (w m v g : EReal) : EReal :=
  num 0xBA83126F#32 *
    (FloatOps.divf (F := Ideal) (φ := .f32) (FloatOps.divf (F := Ideal) (φ := .f32) (mean m g) (num 0x3F26BD02#32))
        (FloatOps.hostUnary (F := Ideal) (φ := .f32) .sqrt (FloatOps.divf (F := Ideal) (φ := .f32) (square v g) (num 0x3C231ACC#32)) + num 0x322BCC77#32)
      + num 0x3C23D70A#32 * w)

/-! ## A block -/

theorem hz : (![0, 0] : Fin 2 → ℕ) = fun _ => 0 := funext fun a => by fin_cases a <;> rfl

section
variable {x0 x1 x2 x3 : Vec Ideal S256x128 .f32} {w m v g : ℕ → ℕ → EReal}
  (h0 : Ent x0 w) (h1 : Ent x1 m) (h2 : Ent x2 v) (h3 : Ent x3 g)

include h3 in
theorem out_g : Ent (out0_4 (F := Ideal) x0 x1 x2 x3) g := by
  unfold out0_4
  rw [View.canon_unit_zero hz]
  simp only [View.ld_unit_zero (S := S256x128) hz]
  exact h3

include h1 h3 in
theorem out_m : Ent (out0_6 (F := Ideal) x0 x1 x2 x3) (fun i j => mean (m i j) (g i j)) := by
  unfold out0_6
  rw [View.canon_unit_zero hz]
  simp only [View.ld_unit_zero (S := S256x128) hz]
  intro i
  show mean (x1 i) (x3 i) = _
  rw [h1 i, h3 i]

include h2 h3 in
theorem out_v : Ent (out0_7 (F := Ideal) x0 x1 x2 x3) (fun i j => square (v i j) (g i j)) := by
  unfold out0_7
  rw [View.canon_unit_zero hz]
  simp only [View.ld_unit_zero (S := S256x128) hz]
  intro i
  show square (x2 i) (x3 i) = _
  rw [h2 i, h3 i]

include h0 h1 h2 h3 in
theorem out_d : Ent (out0_5 (F := Ideal) x0 x1 x2 x3) (fun i j => step (w i j) (m i j) (v i j) (g i j)) := by
  unfold out0_5
  rw [View.canon_unit_zero hz]
  simp only [View.ld_unit_zero (S := S256x128) hz]
  intro i
  show step (x0 i) (x1 i) (x2 i) (x3 i) = _
  rw [h0 i, h1 i, h2 i, h3 i]
end

/-! ## The blocks a point reads -/

theorem pos0 : ∀ t : Fin cfg0.N, win0_0.index t = ![t.val, 0] := (by decide +kernel : ∀ t : Fin grid0.N, _)
theorem pos1 : ∀ t : Fin cfg0.N, win0_1.index t = ![t.val, 0] := (by decide +kernel : ∀ t : Fin grid0.N, _)
theorem pos2 : ∀ t : Fin cfg0.N, win0_2.index t = ![t.val, 0] := (by decide +kernel : ∀ t : Fin grid0.N, _)
theorem pos3 : ∀ t : Fin cfg0.N, win0_3.index t = ![t.val, 0] := (by decide +kernel : ∀ t : Fin grid0.N, _)
theorem pos4 : ∀ t : Fin cfg0.N, win0_4.index t = ![t.val, 0] := (by decide +kernel : ∀ t : Fin grid0.N, _)
theorem pos5 : ∀ t : Fin cfg0.N, win0_5.index t = ![t.val, 0] := (by decide +kernel : ∀ t : Fin grid0.N, _)
theorem pos6 : ∀ t : Fin cfg0.N, win0_6.index t = ![t.val, 0] := (by decide +kernel : ∀ t : Fin grid0.N, _)
theorem pos7 : ∀ t : Fin cfg0.N, win0_7.index t = ![t.val, 0] := (by decide +kernel : ∀ t : Fin grid0.N, _)

/-- Block `p` of a matrix. -/
def blk (f : ℕ → ℕ → EReal) (p i j : ℕ) : EReal := f (256 * p + i) j

variable {m : (ℓ : Loc nD τ sig) → Buf (Elt Ideal) ℓ} {c : Dev nD} {w p q g : ℕ → ℕ → EReal}
  (k0 : Ent (m (c.tc.loc main_arg0)) w) (k1 : Ent (m (c.tc.loc main_arg1)) p)
  (k2 : Ent (m (c.tc.loc main_arg2)) q) (k3 : Ent (m (c.tc.loc main_arg3)) g)

include k0 in
theorem blk0 (t : Fin cfg0.N) : Ent (iblk m c 0 t) (blk w t.val) := fun x => by
  blk_simp [iblk]
  rw [V_main_arg0, k0]
  refine entry w ?_ ?_
  · blk_simp [pos0] <;> simp <;> omega
  · blk_simp [pos0] <;> simp
include k1 in
theorem blk1 (t : Fin cfg0.N) : Ent (iblk m c 1 t) (blk p t.val) := fun x => by
  blk_simp [iblk]
  rw [V_main_arg1, k1]
  refine entry p ?_ ?_
  · blk_simp [pos1] <;> simp <;> omega
  · blk_simp [pos1] <;> simp
include k2 in
theorem blk2 (t : Fin cfg0.N) : Ent (iblk m c 2 t) (blk q t.val) := fun x => by
  blk_simp [iblk]
  rw [V_main_arg2, k2]
  refine entry q ?_ ?_
  · blk_simp [pos2] <;> simp <;> omega
  · blk_simp [pos2] <;> simp
include k3 in
theorem blk3 (t : Fin cfg0.N) : Ent (iblk m c 3 t) (blk g t.val) := fun x => by
  blk_simp [iblk]
  rw [V_main_arg3, k3]
  refine entry g ?_ ?_
  · blk_simp [pos3] <;> simp <;> omega
  · blk_simp [pos3] <;> simp

/-! ## The kernel's four arrays -/

include k3 in
theorem arr_g : (dats m 0 c).arrAt 4 cfg0.N = fun i : S2048x128.Idx => g (i 0).val (i 1).val := by
  refine (dats m 0 c).arrAt_eq_of_covers 4 _ (by decide +kernel) fun t hf y => ?_
  blk_simp
  rw [after0_4]
  have e0 : win0_4.index t 0 * 256 + (y 0).val = 256 * t.val + (y 0).val := by rw [pos4, Nat.mul_comm]; rfl
  have e1 : win0_4.index t 1 * 128 + (y 1).val = (y 1).val := by rw [pos4]; exact Nat.zero_add _
  rw [e0, e1]
  exact out_g (blk3 k3 t) y
include k0 k1 k2 k3 in
theorem arr_d : (dats m 0 c).arrAt 5 cfg0.N = fun i : S2048x128.Idx =>
    step (w (i 0).val (i 1).val) (p (i 0).val (i 1).val) (q (i 0).val (i 1).val) (g (i 0).val (i 1).val) := by
  refine (dats m 0 c).arrAt_eq_of_covers 5 _ (by decide +kernel) fun t hf y => ?_
  blk_simp
  rw [after0_5]
  have e0 : win0_5.index t 0 * 256 + (y 0).val = 256 * t.val + (y 0).val := by rw [pos5, Nat.mul_comm]; rfl
  have e1 : win0_5.index t 1 * 128 + (y 1).val = (y 1).val := by rw [pos5]; exact Nat.zero_add _
  rw [e0, e1]
  exact out_d (blk0 k0 t) (blk1 k1 t) (blk2 k2 t) (blk3 k3 t) y
include k1 k3 in
theorem arr_m : (dats m 0 c).arrAt 6 cfg0.N = fun i : S2048x128.Idx => mean (p (i 0).val (i 1).val) (g (i 0).val (i 1).val) := by
  refine (dats m 0 c).arrAt_eq_of_covers 6 _ (by decide +kernel) fun t hf y => ?_
  blk_simp
  rw [after0_6]
  have e0 : win0_6.index t 0 * 256 + (y 0).val = 256 * t.val + (y 0).val := by rw [pos6, Nat.mul_comm]; rfl
  have e1 : win0_6.index t 1 * 128 + (y 1).val = (y 1).val := by rw [pos6]; exact Nat.zero_add _
  rw [e0, e1]
  exact out_m (blk1 k1 t) (blk3 k3 t) y
include k2 k3 in
theorem arr_v : (dats m 0 c).arrAt 7 cfg0.N = fun i : S2048x128.Idx => square (q (i 0).val (i 1).val) (g (i 0).val (i 1).val) := by
  refine (dats m 0 c).arrAt_eq_of_covers 7 _ (by decide +kernel) fun t hf y => ?_
  blk_simp
  rw [after0_7]
  have e0 : win0_7.index t 0 * 256 + (y 0).val = 256 * t.val + (y 0).val := by rw [pos7, Nat.mul_comm]; rfl
  have e1 : win0_7.index t 1 * 128 + (y 1).val = (y 1).val := by rw [pos7]; exact Nat.zero_add _
  rw [e0, e1]
  exact out_v (blk2 k2 t) (blk3 k3 t) y

/-! ## The formula's arrays -/

section
open Cert.AdamWRefIdeal.Read
variable {x0 x1 x2 x3 : FVec Ideal S2048x128 .f32} (h0 : Ent x0 w) (h1 : Ent x1 p) (h2 : Ent x2 q) (h3 : Ent x3 g)

theorem val_m (i : S2048x128.Idx) : val_main_v4 (F := Ideal) x1 x3 i = mean (x1 i) (x3 i) := by
  simp only [val_main_v4_apply, val_main_v3_apply, val_main_v2_apply, val_main_v1_apply, val_main_v0_apply]
  rfl
theorem val_v (i : S2048x128.Idx) : val_main_v10 (F := Ideal) x2 x3 i = square (x2 i) (x3 i) := by
  simp only [val_main_v10_apply, val_main_v9_apply, val_main_v8_apply, val_main_v7_apply, val_main_v6_apply, val_main_v5_apply]
  rfl
theorem val_d (i : S2048x128.Idx) : val_main_v23 (F := Ideal) x0 x1 x2 x3 i = step (x0 i) (x1 i) (x2 i) (x3 i) := by
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, val_m, val_v]
  rfl

include h1 h3 in
theorem ref_m : Ent (val_main_v4 (F := Ideal) x1 x3) (fun i j => mean (p i j) (g i j)) := fun i => by rw [val_m, h1 i, h3 i]
include h2 h3 in
theorem ref_v : Ent (val_main_v10 (F := Ideal) x2 x3) (fun i j => square (q i j) (g i j)) := fun i => by rw [val_v, h2 i, h3 i]
include h0 h1 h2 h3 in
theorem ref_d : Ent (val_main_v23 (F := Ideal) x0 x1 x2 x3) (fun i j => step (w i j) (p i j) (q i j) (g i j)) := fun i => by
  rw [val_d, h0 i, h1 i, h2 i, h3 i]
end

end Cert.Proof.AdamW

end
-- ==== Proof.Projections.lean ====
/- The projections in and out of the mixers: for each of their products, the claims about the reference's frame and the value. -/
module

public import proofs.«01_k».proof.Defs
public import proofs.«01_k».proof.Proof.Gen.RetInDw
public import proofs.«01_k».proof.Proof.Gen.RetInDwIdeal
public import proofs.«01_k».proof.Proof.Gen.RetInDwRefIdeal
public import proofs.«01_k».proof.Proof.GradRetInDw
public import proofs.«01_k».proof.Proof.Gen.RetInDx
public import proofs.«01_k».proof.Proof.Gen.RetInDxIdeal
public import proofs.«01_k».proof.Proof.Gen.RetInDxRefIdeal
public import proofs.«01_k».proof.Proof.GradRetInDx
public import proofs.«01_k».proof.Proof.Gen.RetOutDw
public import proofs.«01_k».proof.Proof.Gen.RetOutDwIdeal
public import proofs.«01_k».proof.Proof.Gen.RetOutDwRefIdeal
public import proofs.«01_k».proof.Proof.GradRetOutDw
public import proofs.«01_k».proof.Proof.Gen.RetOutDx
public import proofs.«01_k».proof.Proof.Gen.RetOutDxIdeal
public import proofs.«01_k».proof.Proof.Gen.RetOutDxRefIdeal
public import proofs.«01_k».proof.Proof.GradRetOutDx
public import proofs.«01_k».proof.Proof.Gen.RetIn
public import proofs.«01_k».proof.Proof.Gen.RetInIdeal
public import proofs.«01_k».proof.Proof.Gen.RetInRefIdeal
public import proofs.«01_k».proof.Proof.ValueRetIn
public import proofs.«01_k».proof.Proof.Gen.RetOut
public import proofs.«01_k».proof.Proof.Gen.RetOutIdeal
public import proofs.«01_k».proof.Proof.Gen.RetOutRefIdeal
public import proofs.«01_k».proof.Proof.ValueRetOut
public import proofs.«01_k».proof.Proof.Gen.GdnInDx
public import proofs.«01_k».proof.Proof.Gen.GdnInDxIdeal
public import proofs.«01_k».proof.Proof.Gen.GdnInDxRefIdeal
public import proofs.«01_k».proof.Proof.GradGdnInDx
public import proofs.«01_k».proof.Proof.Gen.GdnIn
public import proofs.«01_k».proof.Proof.Gen.GdnInIdeal
public import proofs.«01_k».proof.Proof.Gen.GdnInRefIdeal
public import proofs.«01_k».proof.Proof.ValueGdnIn
public import proofs.«01_k».proof.Proof.Gen.GlaInDw
public import proofs.«01_k».proof.Proof.Gen.GlaInDwIdeal
public import proofs.«01_k».proof.Proof.Gen.GlaInDwRefIdeal
public import proofs.«01_k».proof.Proof.GradGlaInDw
public import proofs.«01_k».proof.Proof.Gen.GlaInDx
public import proofs.«01_k».proof.Proof.Gen.GlaInDxIdeal
public import proofs.«01_k».proof.Proof.Gen.GlaInDxRefIdeal
public import proofs.«01_k».proof.Proof.GradGlaInDx
public import proofs.«01_k».proof.Proof.Gen.GlaIn
public import proofs.«01_k».proof.Proof.Gen.GlaInIdeal
public import proofs.«01_k».proof.Proof.Gen.GlaInRefIdeal
public import proofs.«01_k».proof.Proof.ValueGlaIn
public import proofs.«01_k».proof.Proof.Gen.LruInDw
public import proofs.«01_k».proof.Proof.Gen.LruInDwIdeal
public import proofs.«01_k».proof.Proof.Gen.LruInDwRefIdeal
public import proofs.«01_k».proof.Proof.GradLruInDw
public import proofs.«01_k».proof.Proof.Gen.LruInDx
public import proofs.«01_k».proof.Proof.Gen.LruInDxIdeal
public import proofs.«01_k».proof.Proof.Gen.LruInDxRefIdeal
public import proofs.«01_k».proof.Proof.GradLruInDx
public import proofs.«01_k».proof.Proof.Gen.LruIn
public import proofs.«01_k».proof.Proof.Gen.LruInIdeal
public import proofs.«01_k».proof.Proof.Gen.LruInRefIdeal
public import proofs.«01_k».proof.Proof.ValueLruIn
public import proofs.«01_k».proof.Proof.Gen.MixOutDw
public import proofs.«01_k».proof.Proof.Gen.MixOutDwIdeal
public import proofs.«01_k».proof.Proof.Gen.MixOutDwRefIdeal
public import proofs.«01_k».proof.Proof.GradMixOutDw
public import proofs.«01_k».proof.Proof.Gen.MixOutDx
public import proofs.«01_k».proof.Proof.Gen.MixOutDxIdeal
public import proofs.«01_k».proof.Proof.Gen.MixOutDxRefIdeal
public import proofs.«01_k».proof.Proof.GradMixOutDx
public import proofs.«01_k».proof.Proof.Gen.MixOut
public import proofs.«01_k».proof.Proof.Gen.MixOutIdeal
public import proofs.«01_k».proof.Proof.Gen.MixOutRefIdeal
public import proofs.«01_k».proof.Proof.ValueMixOut

@[expose] public section

noncomputable section

namespace Cert.Proof

open Idealize.ShloMosaic Idealize.SL.Sem

/-- Retention, the projection in, its gradient in the weights: the reference runs no kernel and has no counters. -/
theorem RetInDw.frame_ref : quiescent_RetInDwRefIdeal (hRetInDwRefIdeal := Cert.RetInDwRefIdeal.Gen.facts) := fun m g _ =>
  (θ_run Cert.RetInDwRefIdeal.defs _ _).mono (fun r h => ⟨fun c => (h c).2,
      Idealize.ShloMosaic.sem_eq_zero_of_no_sems (by decide) r.2⟩)
    (Cert.RetInDwRefIdeal.Value.run (F := Ideal) m g)

/-- Retention, the projection in, its gradient in the weights: kernel and reference end with the same array. -/
theorem RetInDw.algebraic : algebraic_RetInDwIdeal_RetInDwRefIdeal (hRetInDwIdeal := Cert.RetInDwIdeal.Gen.facts)
    (hRetInDwRefIdeal := Cert.RetInDwRefIdeal.Gen.facts) := by
  intro m g m' g' _ hagree
  refine ⟨_, Cert.RetInDwIdeal.Value.run_blocks m g,
    (θ_run Cert.RetInDwRefIdeal.defs _ _).mono (fun r h c => ?_) (Cert.RetInDwRefIdeal.Value.run (F := Ideal) m' g')⟩
  obtain ⟨h0, ha⟩ := h c
  obtain ⟨e0, e1⟩ := hagree c
  have k0 := ent_is (m (c.tc.loc Cert.RetInDwIdeal.main_arg0))
  have r0 : Ent (m' (c.tc.loc Cert.RetInDwRefIdeal.main_arg0)) (ent (m (c.tc.loc Cert.RetInDwIdeal.main_arg0))) := by rw [e0]; exact k0
  have k1 := ent_is (m (c.tc.loc Cert.RetInDwIdeal.main_arg1))
  have r1 : Ent (m' (c.tc.loc Cert.RetInDwRefIdeal.main_arg1)) (ent (m (c.tc.loc Cert.RetInDwIdeal.main_arg1))) := by rw [e1]; exact k1
  refine ⟨h0.trans ?_, ha⟩
  rw [Cert.RetInDwRefIdeal.Read.val_main_v6_eq]
  exact (funext fun i => RetInDw.ref r0 r1 i).trans (RetInDw.arr k0 k1).symm

/-- Retention, the projection in, its gradient in the input: the reference runs no kernel and has no counters. -/
theorem RetInDx.frame_ref : quiescent_RetInDxRefIdeal (hRetInDxRefIdeal := Cert.RetInDxRefIdeal.Gen.facts) := fun m g _ =>
  (θ_run Cert.RetInDxRefIdeal.defs _ _).mono (fun r h => ⟨fun c => (h c).2,
      Idealize.ShloMosaic.sem_eq_zero_of_no_sems (by decide) r.2⟩)
    (Cert.RetInDxRefIdeal.Value.run (F := Ideal) m g)

/-- Retention, the projection in, its gradient in the input: kernel and reference end with the same array. -/
theorem RetInDx.algebraic : algebraic_RetInDxIdeal_RetInDxRefIdeal (hRetInDxIdeal := Cert.RetInDxIdeal.Gen.facts)
    (hRetInDxRefIdeal := Cert.RetInDxRefIdeal.Gen.facts) := by
  intro m g m' g' _ hagree
  refine ⟨_, Cert.RetInDxIdeal.Value.run_blocks m g,
    (θ_run Cert.RetInDxRefIdeal.defs _ _).mono (fun r h c => ?_) (Cert.RetInDxRefIdeal.Value.run (F := Ideal) m' g')⟩
  obtain ⟨h0, ha⟩ := h c
  obtain ⟨e0, e1⟩ := hagree c
  have k0 := ent_is (m (c.tc.loc Cert.RetInDxIdeal.main_arg0))
  have r0 : Ent (m' (c.tc.loc Cert.RetInDxRefIdeal.main_arg0)) (ent (m (c.tc.loc Cert.RetInDxIdeal.main_arg0))) := by rw [e0]; exact k0
  have k1 := ent_is (m (c.tc.loc Cert.RetInDxIdeal.main_arg1))
  have r1 : Ent (m' (c.tc.loc Cert.RetInDxRefIdeal.main_arg1)) (ent (m (c.tc.loc Cert.RetInDxIdeal.main_arg1))) := by rw [e1]; exact k1
  refine ⟨h0.trans ?_, ha⟩
  rw [Cert.RetInDxRefIdeal.Read.val_main_v4_eq]
  exact (funext fun i => RetInDx.ref r0 r1 i).trans (RetInDx.arr k0 k1).symm

/-- Retention, the projection out, its gradient in the weights: the reference runs no kernel and has no counters. -/
theorem RetOutDw.frame_ref : quiescent_RetOutDwRefIdeal (hRetOutDwRefIdeal := Cert.RetOutDwRefIdeal.Gen.facts) := fun m g _ =>
  (θ_run Cert.RetOutDwRefIdeal.defs _ _).mono (fun r h => ⟨fun c => (h c).2,
      Idealize.ShloMosaic.sem_eq_zero_of_no_sems (by decide) r.2⟩)
    (Cert.RetOutDwRefIdeal.Value.run (F := Ideal) m g)

/-- Retention, the projection out, its gradient in the weights: kernel and reference end with the same array. -/
theorem RetOutDw.algebraic : algebraic_RetOutDwIdeal_RetOutDwRefIdeal (hRetOutDwIdeal := Cert.RetOutDwIdeal.Gen.facts)
    (hRetOutDwRefIdeal := Cert.RetOutDwRefIdeal.Gen.facts) := by
  intro m g m' g' _ hagree
  refine ⟨_, Cert.RetOutDwIdeal.Value.run_blocks m g,
    (θ_run Cert.RetOutDwRefIdeal.defs _ _).mono (fun r h c => ?_) (Cert.RetOutDwRefIdeal.Value.run (F := Ideal) m' g')⟩
  obtain ⟨h0, ha⟩ := h c
  obtain ⟨e0, e1⟩ := hagree c
  have k0 := ent_is (m (c.tc.loc Cert.RetOutDwIdeal.main_arg0))
  have r0 : Ent (m' (c.tc.loc Cert.RetOutDwRefIdeal.main_arg0)) (ent (m (c.tc.loc Cert.RetOutDwIdeal.main_arg0))) := by rw [e0]; exact k0
  have k1 := ent_is (m (c.tc.loc Cert.RetOutDwIdeal.main_arg1))
  have r1 : Ent (m' (c.tc.loc Cert.RetOutDwRefIdeal.main_arg1)) (ent (m (c.tc.loc Cert.RetOutDwIdeal.main_arg1))) := by rw [e1]; exact k1
  refine ⟨h0.trans ?_, ha⟩
  rw [Cert.RetOutDwRefIdeal.Read.val_main_v6_eq]
  exact (funext fun i => RetOutDw.ref r0 r1 i).trans (RetOutDw.arr k0 k1).symm

/-- Retention, the projection out, its gradient in the input: the reference runs no kernel and has no counters. -/
theorem RetOutDx.frame_ref : quiescent_RetOutDxRefIdeal (hRetOutDxRefIdeal := Cert.RetOutDxRefIdeal.Gen.facts) := fun m g _ =>
  (θ_run Cert.RetOutDxRefIdeal.defs _ _).mono (fun r h => ⟨fun c => (h c).2,
      Idealize.ShloMosaic.sem_eq_zero_of_no_sems (by decide) r.2⟩)
    (Cert.RetOutDxRefIdeal.Value.run (F := Ideal) m g)

/-- Retention, the projection out, its gradient in the input: kernel and reference end with the same array. -/
theorem RetOutDx.algebraic : algebraic_RetOutDxIdeal_RetOutDxRefIdeal (hRetOutDxIdeal := Cert.RetOutDxIdeal.Gen.facts)
    (hRetOutDxRefIdeal := Cert.RetOutDxRefIdeal.Gen.facts) := by
  intro m g m' g' _ hagree
  refine ⟨_, Cert.RetOutDxIdeal.Value.run_blocks m g,
    (θ_run Cert.RetOutDxRefIdeal.defs _ _).mono (fun r h c => ?_) (Cert.RetOutDxRefIdeal.Value.run (F := Ideal) m' g')⟩
  obtain ⟨h0, ha⟩ := h c
  obtain ⟨e0, e1⟩ := hagree c
  have k0 := ent_is (m (c.tc.loc Cert.RetOutDxIdeal.main_arg0))
  have r0 : Ent (m' (c.tc.loc Cert.RetOutDxRefIdeal.main_arg0)) (ent (m (c.tc.loc Cert.RetOutDxIdeal.main_arg0))) := by rw [e0]; exact k0
  have k1 := ent_is (m (c.tc.loc Cert.RetOutDxIdeal.main_arg1))
  have r1 : Ent (m' (c.tc.loc Cert.RetOutDxRefIdeal.main_arg1)) (ent (m (c.tc.loc Cert.RetOutDxIdeal.main_arg1))) := by rw [e1]; exact k1
  refine ⟨h0.trans ?_, ha⟩
  rw [Cert.RetOutDxRefIdeal.Read.val_main_v4_eq]
  exact (funext fun i => RetOutDx.ref r0 r1 i).trans (RetOutDx.arr k0 k1).symm

/-- Retention, the projection in: the reference runs no kernel and has no counters. -/
theorem RetIn.frame_ref : quiescent_RetInRefIdeal (hRetInRefIdeal := Cert.RetInRefIdeal.Gen.facts) := fun m g _ =>
  (θ_run Cert.RetInRefIdeal.defs _ _).mono (fun r h => ⟨fun c => (h c).2,
      Idealize.ShloMosaic.sem_eq_zero_of_no_sems (by decide) r.2⟩)
    (Cert.RetInRefIdeal.Value.run (F := Ideal) m g)

/-- Retention, the projection in: kernel and reference end with the same array. -/
theorem RetIn.algebraic : algebraic_RetInIdeal_RetInRefIdeal (hRetInIdeal := Cert.RetInIdeal.Gen.facts)
    (hRetInRefIdeal := Cert.RetInRefIdeal.Gen.facts) := by
  intro m g m' g' _ hagree
  refine ⟨_, Cert.RetInIdeal.Value.run_blocks m g,
    (θ_run Cert.RetInRefIdeal.defs _ _).mono (fun r h c => ?_) (Cert.RetInRefIdeal.Value.run (F := Ideal) m' g')⟩
  obtain ⟨h0, ha⟩ := h c
  obtain ⟨e0, e1⟩ := hagree c
  have k0 := ent_is (m (c.tc.loc Cert.RetInIdeal.main_arg0))
  have r0 : Ent (m' (c.tc.loc Cert.RetInRefIdeal.main_arg0)) (ent (m (c.tc.loc Cert.RetInIdeal.main_arg0))) := by rw [e0]; exact k0
  have k1 := ent_is (m (c.tc.loc Cert.RetInIdeal.main_arg1))
  have r1 : Ent (m' (c.tc.loc Cert.RetInRefIdeal.main_arg1)) (ent (m (c.tc.loc Cert.RetInIdeal.main_arg1))) := by rw [e1]; exact k1
  refine ⟨h0.trans ?_, ha⟩
  rw [Cert.RetInRefIdeal.Read.val_main_v2_eq]
  exact (funext fun i => RetIn.ref r0 r1 i).trans (RetIn.arr k0 k1).symm

/-- Retention, the projection out, added to the layer's input: the reference runs no kernel and has no counters. -/
theorem RetOut.frame_ref : quiescent_RetOutRefIdeal (hRetOutRefIdeal := Cert.RetOutRefIdeal.Gen.facts) := fun m g _ =>
  (θ_run Cert.RetOutRefIdeal.defs _ _).mono (fun r h => ⟨fun c => (h c).2,
      Idealize.ShloMosaic.sem_eq_zero_of_no_sems (by decide) r.2⟩)
    (Cert.RetOutRefIdeal.Value.run (F := Ideal) m g)

/-- Retention, the projection out, added to the layer's input: kernel and reference end with the same array. -/
theorem RetOut.algebraic : algebraic_RetOutIdeal_RetOutRefIdeal (hRetOutIdeal := Cert.RetOutIdeal.Gen.facts)
    (hRetOutRefIdeal := Cert.RetOutRefIdeal.Gen.facts) := by
  intro m g m' g' _ hagree
  refine ⟨_, Cert.RetOutIdeal.Value.run_blocks m g,
    (θ_run Cert.RetOutRefIdeal.defs _ _).mono (fun r h c => ?_) (Cert.RetOutRefIdeal.Value.run (F := Ideal) m' g')⟩
  obtain ⟨h0, ha⟩ := h c
  obtain ⟨e0, e1, e2⟩ := hagree c
  have k0 := ent_is (m (c.tc.loc Cert.RetOutIdeal.main_arg0))
  have r0 : Ent (m' (c.tc.loc Cert.RetOutRefIdeal.main_arg0)) (ent (m (c.tc.loc Cert.RetOutIdeal.main_arg0))) := by rw [e0]; exact k0
  have k1 := ent_is (m (c.tc.loc Cert.RetOutIdeal.main_arg1))
  have r1 : Ent (m' (c.tc.loc Cert.RetOutRefIdeal.main_arg1)) (ent (m (c.tc.loc Cert.RetOutIdeal.main_arg1))) := by rw [e1]; exact k1
  have k2 := ent_is (m (c.tc.loc Cert.RetOutIdeal.main_arg2))
  have r2 : Ent (m' (c.tc.loc Cert.RetOutRefIdeal.main_arg2)) (ent (m (c.tc.loc Cert.RetOutIdeal.main_arg2))) := by rw [e2]; exact k2
  refine ⟨h0.trans ?_, ha⟩
  rw [Cert.RetOutRefIdeal.Read.val_main_v3_eq]
  exact (funext fun i => RetOut.ref r0 r1 r2 i).trans (RetOut.arr k0 k1 k2).symm

/-- The gated delta rule, the projection in, its gradient in the input: the reference runs no kernel and has no counters. -/
theorem GdnInDx.frame_ref : quiescent_GdnInDxRefIdeal (hGdnInDxRefIdeal := Cert.GdnInDxRefIdeal.Gen.facts) := fun m g _ =>
  (θ_run Cert.GdnInDxRefIdeal.defs _ _).mono (fun r h => ⟨fun c => (h c).2,
      Idealize.ShloMosaic.sem_eq_zero_of_no_sems (by decide) r.2⟩)
    (Cert.GdnInDxRefIdeal.Value.run (F := Ideal) m g)

/-- The gated delta rule, the projection in, its gradient in the input: kernel and reference end with the same array. -/
theorem GdnInDx.algebraic : algebraic_GdnInDxIdeal_GdnInDxRefIdeal (hGdnInDxIdeal := Cert.GdnInDxIdeal.Gen.facts)
    (hGdnInDxRefIdeal := Cert.GdnInDxRefIdeal.Gen.facts) := by
  intro m g m' g' _ hagree
  refine ⟨_, Cert.GdnInDxIdeal.Value.run_blocks m g,
    (θ_run Cert.GdnInDxRefIdeal.defs _ _).mono (fun r h c => ?_) (Cert.GdnInDxRefIdeal.Value.run (F := Ideal) m' g')⟩
  obtain ⟨h0, ha⟩ := h c
  obtain ⟨e0, e1⟩ := hagree c
  have k0 := ent_is (m (c.tc.loc Cert.GdnInDxIdeal.main_arg0))
  have r0 : Ent (m' (c.tc.loc Cert.GdnInDxRefIdeal.main_arg0)) (ent (m (c.tc.loc Cert.GdnInDxIdeal.main_arg0))) := by rw [e0]; exact k0
  have k1 := ent_is (m (c.tc.loc Cert.GdnInDxIdeal.main_arg1))
  have r1 : Ent (m' (c.tc.loc Cert.GdnInDxRefIdeal.main_arg1)) (ent (m (c.tc.loc Cert.GdnInDxIdeal.main_arg1))) := by rw [e1]; exact k1
  refine ⟨h0.trans ?_, ha⟩
  rw [Cert.GdnInDxRefIdeal.Read.val_main_v5_eq]
  exact (funext fun i => GdnInDx.ref r0 r1 i).trans (GdnInDx.arr k0 k1).symm

/-- The gated delta rule, the projection in: the reference runs no kernel and has no counters. -/
theorem GdnIn.frame_ref : quiescent_GdnInRefIdeal (hGdnInRefIdeal := Cert.GdnInRefIdeal.Gen.facts) := fun m g _ =>
  (θ_run Cert.GdnInRefIdeal.defs _ _).mono (fun r h => ⟨fun c => (h c).2,
      Idealize.ShloMosaic.sem_eq_zero_of_no_sems (by decide) r.2⟩)
    (Cert.GdnInRefIdeal.Value.run (F := Ideal) m g)

/-- The gated delta rule, the projection in: kernel and reference end with the same array. -/
theorem GdnIn.algebraic : algebraic_GdnInIdeal_GdnInRefIdeal (hGdnInIdeal := Cert.GdnInIdeal.Gen.facts)
    (hGdnInRefIdeal := Cert.GdnInRefIdeal.Gen.facts) := by
  intro m g m' g' _ hagree
  refine ⟨_, Cert.GdnInIdeal.Value.run_blocks m g,
    (θ_run Cert.GdnInRefIdeal.defs _ _).mono (fun r h c => ?_) (Cert.GdnInRefIdeal.Value.run (F := Ideal) m' g')⟩
  obtain ⟨h0, ha⟩ := h c
  obtain ⟨e0, e1⟩ := hagree c
  have k0 := ent_is (m (c.tc.loc Cert.GdnInIdeal.main_arg0))
  have r0 : Ent (m' (c.tc.loc Cert.GdnInRefIdeal.main_arg0)) (ent (m (c.tc.loc Cert.GdnInIdeal.main_arg0))) := by rw [e0]; exact k0
  have k1 := ent_is (m (c.tc.loc Cert.GdnInIdeal.main_arg1))
  have r1 : Ent (m' (c.tc.loc Cert.GdnInRefIdeal.main_arg1)) (ent (m (c.tc.loc Cert.GdnInIdeal.main_arg1))) := by rw [e1]; exact k1
  refine ⟨h0.trans ?_, ha⟩
  rw [Cert.GdnInRefIdeal.Read.val_main_v3_eq]
  exact (funext fun i => GdnIn.ref r0 r1 i).trans (GdnIn.arr k0 k1).symm

/-- Gated linear attention, the projection in, its gradient in the weights: the reference runs no kernel and has no counters. -/
theorem GlaInDw.frame_ref : quiescent_GlaInDwRefIdeal (hGlaInDwRefIdeal := Cert.GlaInDwRefIdeal.Gen.facts) := fun m g _ =>
  (θ_run Cert.GlaInDwRefIdeal.defs _ _).mono (fun r h => ⟨fun c => (h c).2,
      Idealize.ShloMosaic.sem_eq_zero_of_no_sems (by decide) r.2⟩)
    (Cert.GlaInDwRefIdeal.Value.run (F := Ideal) m g)

/-- Gated linear attention, the projection in, its gradient in the weights: kernel and reference end with the same array. -/
theorem GlaInDw.algebraic : algebraic_GlaInDwIdeal_GlaInDwRefIdeal (hGlaInDwIdeal := Cert.GlaInDwIdeal.Gen.facts)
    (hGlaInDwRefIdeal := Cert.GlaInDwRefIdeal.Gen.facts) := by
  intro m g m' g' _ hagree
  refine ⟨_, Cert.GlaInDwIdeal.Value.run_blocks m g,
    (θ_run Cert.GlaInDwRefIdeal.defs _ _).mono (fun r h c => ?_) (Cert.GlaInDwRefIdeal.Value.run (F := Ideal) m' g')⟩
  obtain ⟨h0, ha⟩ := h c
  obtain ⟨e0, e1⟩ := hagree c
  have k0 := ent_is (m (c.tc.loc Cert.GlaInDwIdeal.main_arg0))
  have r0 : Ent (m' (c.tc.loc Cert.GlaInDwRefIdeal.main_arg0)) (ent (m (c.tc.loc Cert.GlaInDwIdeal.main_arg0))) := by rw [e0]; exact k0
  have k1 := ent_is (m (c.tc.loc Cert.GlaInDwIdeal.main_arg1))
  have r1 : Ent (m' (c.tc.loc Cert.GlaInDwRefIdeal.main_arg1)) (ent (m (c.tc.loc Cert.GlaInDwIdeal.main_arg1))) := by rw [e1]; exact k1
  refine ⟨h0.trans ?_, ha⟩
  rw [Cert.GlaInDwRefIdeal.Read.val_main_v6_eq]
  exact (funext fun i => GlaInDw.ref r0 r1 i).trans (GlaInDw.arr k0 k1).symm

/-- Gated linear attention, the projection in, its gradient in the input: the reference runs no kernel and has no counters. -/
theorem GlaInDx.frame_ref : quiescent_GlaInDxRefIdeal (hGlaInDxRefIdeal := Cert.GlaInDxRefIdeal.Gen.facts) := fun m g _ =>
  (θ_run Cert.GlaInDxRefIdeal.defs _ _).mono (fun r h => ⟨fun c => (h c).2,
      Idealize.ShloMosaic.sem_eq_zero_of_no_sems (by decide) r.2⟩)
    (Cert.GlaInDxRefIdeal.Value.run (F := Ideal) m g)

/-- Gated linear attention, the projection in, its gradient in the input: kernel and reference end with the same array. -/
theorem GlaInDx.algebraic : algebraic_GlaInDxIdeal_GlaInDxRefIdeal (hGlaInDxIdeal := Cert.GlaInDxIdeal.Gen.facts)
    (hGlaInDxRefIdeal := Cert.GlaInDxRefIdeal.Gen.facts) := by
  intro m g m' g' _ hagree
  refine ⟨_, Cert.GlaInDxIdeal.Value.run_blocks m g,
    (θ_run Cert.GlaInDxRefIdeal.defs _ _).mono (fun r h c => ?_) (Cert.GlaInDxRefIdeal.Value.run (F := Ideal) m' g')⟩
  obtain ⟨h0, ha⟩ := h c
  obtain ⟨e0, e1⟩ := hagree c
  have k0 := ent_is (m (c.tc.loc Cert.GlaInDxIdeal.main_arg0))
  have r0 : Ent (m' (c.tc.loc Cert.GlaInDxRefIdeal.main_arg0)) (ent (m (c.tc.loc Cert.GlaInDxIdeal.main_arg0))) := by rw [e0]; exact k0
  have k1 := ent_is (m (c.tc.loc Cert.GlaInDxIdeal.main_arg1))
  have r1 : Ent (m' (c.tc.loc Cert.GlaInDxRefIdeal.main_arg1)) (ent (m (c.tc.loc Cert.GlaInDxIdeal.main_arg1))) := by rw [e1]; exact k1
  refine ⟨h0.trans ?_, ha⟩
  rw [Cert.GlaInDxRefIdeal.Read.val_main_v5_eq]
  exact (funext fun i => GlaInDx.ref r0 r1 i).trans (GlaInDx.arr k0 k1).symm

/-- Gated linear attention, the projection in: the reference runs no kernel and has no counters. -/
theorem GlaIn.frame_ref : quiescent_GlaInRefIdeal (hGlaInRefIdeal := Cert.GlaInRefIdeal.Gen.facts) := fun m g _ =>
  (θ_run Cert.GlaInRefIdeal.defs _ _).mono (fun r h => ⟨fun c => (h c).2,
      Idealize.ShloMosaic.sem_eq_zero_of_no_sems (by decide) r.2⟩)
    (Cert.GlaInRefIdeal.Value.run (F := Ideal) m g)

/-- Gated linear attention, the projection in: kernel and reference end with the same array. -/
theorem GlaIn.algebraic : algebraic_GlaInIdeal_GlaInRefIdeal (hGlaInIdeal := Cert.GlaInIdeal.Gen.facts)
    (hGlaInRefIdeal := Cert.GlaInRefIdeal.Gen.facts) := by
  intro m g m' g' _ hagree
  refine ⟨_, Cert.GlaInIdeal.Value.run_blocks m g,
    (θ_run Cert.GlaInRefIdeal.defs _ _).mono (fun r h c => ?_) (Cert.GlaInRefIdeal.Value.run (F := Ideal) m' g')⟩
  obtain ⟨h0, ha⟩ := h c
  obtain ⟨e0, e1⟩ := hagree c
  have k0 := ent_is (m (c.tc.loc Cert.GlaInIdeal.main_arg0))
  have r0 : Ent (m' (c.tc.loc Cert.GlaInRefIdeal.main_arg0)) (ent (m (c.tc.loc Cert.GlaInIdeal.main_arg0))) := by rw [e0]; exact k0
  have k1 := ent_is (m (c.tc.loc Cert.GlaInIdeal.main_arg1))
  have r1 : Ent (m' (c.tc.loc Cert.GlaInRefIdeal.main_arg1)) (ent (m (c.tc.loc Cert.GlaInIdeal.main_arg1))) := by rw [e1]; exact k1
  refine ⟨h0.trans ?_, ha⟩
  rw [Cert.GlaInRefIdeal.Read.val_main_v3_eq]
  exact (funext fun i => GlaIn.ref r0 r1 i).trans (GlaIn.arr k0 k1).symm

/-- The RG-LRU, the projection in, its gradient in the weights: the reference runs no kernel and has no counters. -/
theorem LruInDw.frame_ref : quiescent_LruInDwRefIdeal (hLruInDwRefIdeal := Cert.LruInDwRefIdeal.Gen.facts) := fun m g _ =>
  (θ_run Cert.LruInDwRefIdeal.defs _ _).mono (fun r h => ⟨fun c => (h c).2,
      Idealize.ShloMosaic.sem_eq_zero_of_no_sems (by decide) r.2⟩)
    (Cert.LruInDwRefIdeal.Value.run (F := Ideal) m g)

/-- The RG-LRU, the projection in, its gradient in the weights: kernel and reference end with the same array. -/
theorem LruInDw.algebraic : algebraic_LruInDwIdeal_LruInDwRefIdeal (hLruInDwIdeal := Cert.LruInDwIdeal.Gen.facts)
    (hLruInDwRefIdeal := Cert.LruInDwRefIdeal.Gen.facts) := by
  intro m g m' g' _ hagree
  refine ⟨_, Cert.LruInDwIdeal.Value.run_blocks m g,
    (θ_run Cert.LruInDwRefIdeal.defs _ _).mono (fun r h c => ?_) (Cert.LruInDwRefIdeal.Value.run (F := Ideal) m' g')⟩
  obtain ⟨h0, ha⟩ := h c
  obtain ⟨e0, e1⟩ := hagree c
  have k0 := ent_is (m (c.tc.loc Cert.LruInDwIdeal.main_arg0))
  have r0 : Ent (m' (c.tc.loc Cert.LruInDwRefIdeal.main_arg0)) (ent (m (c.tc.loc Cert.LruInDwIdeal.main_arg0))) := by rw [e0]; exact k0
  have k1 := ent_is (m (c.tc.loc Cert.LruInDwIdeal.main_arg1))
  have r1 : Ent (m' (c.tc.loc Cert.LruInDwRefIdeal.main_arg1)) (ent (m (c.tc.loc Cert.LruInDwIdeal.main_arg1))) := by rw [e1]; exact k1
  refine ⟨h0.trans ?_, ha⟩
  rw [Cert.LruInDwRefIdeal.Read.val_main_v6_eq]
  exact (funext fun i => LruInDw.ref r0 r1 i).trans (LruInDw.arr k0 k1).symm

/-- The RG-LRU, the projection in, its gradient in the input: the reference runs no kernel and has no counters. -/
theorem LruInDx.frame_ref : quiescent_LruInDxRefIdeal (hLruInDxRefIdeal := Cert.LruInDxRefIdeal.Gen.facts) := fun m g _ =>
  (θ_run Cert.LruInDxRefIdeal.defs _ _).mono (fun r h => ⟨fun c => (h c).2,
      Idealize.ShloMosaic.sem_eq_zero_of_no_sems (by decide) r.2⟩)
    (Cert.LruInDxRefIdeal.Value.run (F := Ideal) m g)

/-- The RG-LRU, the projection in, its gradient in the input: kernel and reference end with the same array. -/
theorem LruInDx.algebraic : algebraic_LruInDxIdeal_LruInDxRefIdeal (hLruInDxIdeal := Cert.LruInDxIdeal.Gen.facts)
    (hLruInDxRefIdeal := Cert.LruInDxRefIdeal.Gen.facts) := by
  intro m g m' g' _ hagree
  refine ⟨_, Cert.LruInDxIdeal.Value.run_blocks m g,
    (θ_run Cert.LruInDxRefIdeal.defs _ _).mono (fun r h c => ?_) (Cert.LruInDxRefIdeal.Value.run (F := Ideal) m' g')⟩
  obtain ⟨h0, ha⟩ := h c
  obtain ⟨e0, e1⟩ := hagree c
  have k0 := ent_is (m (c.tc.loc Cert.LruInDxIdeal.main_arg0))
  have r0 : Ent (m' (c.tc.loc Cert.LruInDxRefIdeal.main_arg0)) (ent (m (c.tc.loc Cert.LruInDxIdeal.main_arg0))) := by rw [e0]; exact k0
  have k1 := ent_is (m (c.tc.loc Cert.LruInDxIdeal.main_arg1))
  have r1 : Ent (m' (c.tc.loc Cert.LruInDxRefIdeal.main_arg1)) (ent (m (c.tc.loc Cert.LruInDxIdeal.main_arg1))) := by rw [e1]; exact k1
  refine ⟨h0.trans ?_, ha⟩
  rw [Cert.LruInDxRefIdeal.Read.val_main_v4_eq]
  exact (funext fun i => LruInDx.ref r0 r1 i).trans (LruInDx.arr k0 k1).symm

/-- The RG-LRU, the projection in: the reference runs no kernel and has no counters. -/
theorem LruIn.frame_ref : quiescent_LruInRefIdeal (hLruInRefIdeal := Cert.LruInRefIdeal.Gen.facts) := fun m g _ =>
  (θ_run Cert.LruInRefIdeal.defs _ _).mono (fun r h => ⟨fun c => (h c).2,
      Idealize.ShloMosaic.sem_eq_zero_of_no_sems (by decide) r.2⟩)
    (Cert.LruInRefIdeal.Value.run (F := Ideal) m g)

/-- The RG-LRU, the projection in: kernel and reference end with the same array. -/
theorem LruIn.algebraic : algebraic_LruInIdeal_LruInRefIdeal (hLruInIdeal := Cert.LruInIdeal.Gen.facts)
    (hLruInRefIdeal := Cert.LruInRefIdeal.Gen.facts) := by
  intro m g m' g' _ hagree
  refine ⟨_, Cert.LruInIdeal.Value.run_blocks m g,
    (θ_run Cert.LruInRefIdeal.defs _ _).mono (fun r h c => ?_) (Cert.LruInRefIdeal.Value.run (F := Ideal) m' g')⟩
  obtain ⟨h0, ha⟩ := h c
  obtain ⟨e0, e1⟩ := hagree c
  have k0 := ent_is (m (c.tc.loc Cert.LruInIdeal.main_arg0))
  have r0 : Ent (m' (c.tc.loc Cert.LruInRefIdeal.main_arg0)) (ent (m (c.tc.loc Cert.LruInIdeal.main_arg0))) := by rw [e0]; exact k0
  have k1 := ent_is (m (c.tc.loc Cert.LruInIdeal.main_arg1))
  have r1 : Ent (m' (c.tc.loc Cert.LruInRefIdeal.main_arg1)) (ent (m (c.tc.loc Cert.LruInIdeal.main_arg1))) := by rw [e1]; exact k1
  refine ⟨h0.trans ?_, ha⟩
  rw [Cert.LruInRefIdeal.Read.val_main_v2_eq]
  exact (funext fun i => LruIn.ref r0 r1 i).trans (LruIn.arr k0 k1).symm

/-- The last three layers, the projection out, its gradient in the weights: the reference runs no kernel and has no counters. -/
theorem MixOutDw.frame_ref : quiescent_MixOutDwRefIdeal (hMixOutDwRefIdeal := Cert.MixOutDwRefIdeal.Gen.facts) := fun m g _ =>
  (θ_run Cert.MixOutDwRefIdeal.defs _ _).mono (fun r h => ⟨fun c => (h c).2,
      Idealize.ShloMosaic.sem_eq_zero_of_no_sems (by decide) r.2⟩)
    (Cert.MixOutDwRefIdeal.Value.run (F := Ideal) m g)

/-- The last three layers, the projection out, its gradient in the weights: kernel and reference end with the same array. -/
theorem MixOutDw.algebraic : algebraic_MixOutDwIdeal_MixOutDwRefIdeal (hMixOutDwIdeal := Cert.MixOutDwIdeal.Gen.facts)
    (hMixOutDwRefIdeal := Cert.MixOutDwRefIdeal.Gen.facts) := by
  intro m g m' g' _ hagree
  refine ⟨_, Cert.MixOutDwIdeal.Value.run_blocks m g,
    (θ_run Cert.MixOutDwRefIdeal.defs _ _).mono (fun r h c => ?_) (Cert.MixOutDwRefIdeal.Value.run (F := Ideal) m' g')⟩
  obtain ⟨h0, ha⟩ := h c
  obtain ⟨e0, e1⟩ := hagree c
  have k0 := ent_is (m (c.tc.loc Cert.MixOutDwIdeal.main_arg0))
  have r0 : Ent (m' (c.tc.loc Cert.MixOutDwRefIdeal.main_arg0)) (ent (m (c.tc.loc Cert.MixOutDwIdeal.main_arg0))) := by rw [e0]; exact k0
  have k1 := ent_is (m (c.tc.loc Cert.MixOutDwIdeal.main_arg1))
  have r1 : Ent (m' (c.tc.loc Cert.MixOutDwRefIdeal.main_arg1)) (ent (m (c.tc.loc Cert.MixOutDwIdeal.main_arg1))) := by rw [e1]; exact k1
  refine ⟨h0.trans ?_, ha⟩
  rw [Cert.MixOutDwRefIdeal.Read.val_main_v6_eq]
  exact (funext fun i => MixOutDw.ref r0 r1 i).trans (MixOutDw.arr k0 k1).symm

/-- The last three layers, the projection out, its gradient in the input: the reference runs no kernel and has no counters. -/
theorem MixOutDx.frame_ref : quiescent_MixOutDxRefIdeal (hMixOutDxRefIdeal := Cert.MixOutDxRefIdeal.Gen.facts) := fun m g _ =>
  (θ_run Cert.MixOutDxRefIdeal.defs _ _).mono (fun r h => ⟨fun c => (h c).2,
      Idealize.ShloMosaic.sem_eq_zero_of_no_sems (by decide) r.2⟩)
    (Cert.MixOutDxRefIdeal.Value.run (F := Ideal) m g)

/-- The last three layers, the projection out, its gradient in the input: kernel and reference end with the same array. -/
theorem MixOutDx.algebraic : algebraic_MixOutDxIdeal_MixOutDxRefIdeal (hMixOutDxIdeal := Cert.MixOutDxIdeal.Gen.facts)
    (hMixOutDxRefIdeal := Cert.MixOutDxRefIdeal.Gen.facts) := by
  intro m g m' g' _ hagree
  refine ⟨_, Cert.MixOutDxIdeal.Value.run_blocks m g,
    (θ_run Cert.MixOutDxRefIdeal.defs _ _).mono (fun r h c => ?_) (Cert.MixOutDxRefIdeal.Value.run (F := Ideal) m' g')⟩
  obtain ⟨h0, ha⟩ := h c
  obtain ⟨e0, e1⟩ := hagree c
  have k0 := ent_is (m (c.tc.loc Cert.MixOutDxIdeal.main_arg0))
  have r0 : Ent (m' (c.tc.loc Cert.MixOutDxRefIdeal.main_arg0)) (ent (m (c.tc.loc Cert.MixOutDxIdeal.main_arg0))) := by rw [e0]; exact k0
  have k1 := ent_is (m (c.tc.loc Cert.MixOutDxIdeal.main_arg1))
  have r1 : Ent (m' (c.tc.loc Cert.MixOutDxRefIdeal.main_arg1)) (ent (m (c.tc.loc Cert.MixOutDxIdeal.main_arg1))) := by rw [e1]; exact k1
  refine ⟨h0.trans ?_, ha⟩
  rw [Cert.MixOutDxRefIdeal.Read.val_main_v4_eq]
  exact (funext fun i => MixOutDx.ref r0 r1 i).trans (MixOutDx.arr k0 k1).symm

/-- The last three layers, the projection out, added to the layer's input, and that sum normed: the reference runs no kernel and has no counters. -/
theorem MixOut.frame_ref : quiescent_MixOutRefIdeal (hMixOutRefIdeal := Cert.MixOutRefIdeal.Gen.facts) := fun m g _ =>
  (θ_run Cert.MixOutRefIdeal.defs _ _).mono (fun r h => ⟨fun c => (h c).2.2,
      Idealize.ShloMosaic.sem_eq_zero_of_no_sems (by decide) r.2⟩)
    (Cert.MixOutRefIdeal.Value.run (F := Ideal) m g)

/-- The last three layers, the projection out, added to the layer's input, and that sum normed: kernel and reference end with the same arrays. -/
theorem MixOut.algebraic : algebraic_MixOutIdeal_MixOutRefIdeal (hMixOutIdeal := Cert.MixOutIdeal.Gen.facts)
    (hMixOutRefIdeal := Cert.MixOutRefIdeal.Gen.facts) := by
  intro m g m' g' _ hagree
  refine ⟨_, _, Cert.MixOutIdeal.Value.run_blocks m g,
    (θ_run Cert.MixOutRefIdeal.defs _ _).mono (fun r h c => ?_) (Cert.MixOutRefIdeal.Value.run (F := Ideal) m' g')⟩
  obtain ⟨h0, h1, ha⟩ := h c
  obtain ⟨e0, e1, e2, e3⟩ := hagree c
  have k0 := ent_is (m (c.tc.loc Cert.MixOutIdeal.main_arg0))
  have r0 : Ent (m' (c.tc.loc Cert.MixOutRefIdeal.main_arg0)) (ent (m (c.tc.loc Cert.MixOutIdeal.main_arg0))) := by rw [e0]; exact k0
  have k1 := ent_is (m (c.tc.loc Cert.MixOutIdeal.main_arg1))
  have r1 : Ent (m' (c.tc.loc Cert.MixOutRefIdeal.main_arg1)) (ent (m (c.tc.loc Cert.MixOutIdeal.main_arg1))) := by rw [e1]; exact k1
  have k2 := ent_is (m (c.tc.loc Cert.MixOutIdeal.main_arg2))
  have r2 : Ent (m' (c.tc.loc Cert.MixOutRefIdeal.main_arg2)) (ent (m (c.tc.loc Cert.MixOutIdeal.main_arg2))) := by rw [e2]; exact k2
  have k3 := ent_is (m (c.tc.loc Cert.MixOutIdeal.main_arg3))
  have r3 : Ent (m' (c.tc.loc Cert.MixOutRefIdeal.main_arg3)) (ent (m (c.tc.loc Cert.MixOutIdeal.main_arg3))) := by rw [e3]; exact k3
  refine ⟨h0.trans ?_, h1.trans ?_, ha⟩
  · rw [Cert.MixOutRefIdeal.Read.val_main_v3_eq]
    exact (funext fun i => MixOut.ref_plus r0 r1 r2 i).trans (MixOut.arr_plus k0 k1 k2).symm
  · rw [Cert.MixOutRefIdeal.Read.val_main_v18_eq]
    exact (funext fun i => MixOut.ref_norm r0 r1 r2 r3 i).trans (MixOut.arr_norm k0 k1 k2 k3).symm

end Cert.Proof

end
-- ==== Proof.ValueAdamWSmall.lean ====
/- THE OPTIMISER'S STEP FOR THE SMALL WEIGHTS, packed into one array of 512 rows: the same formula, entry by entry. -/
module

public import proofs.«01_k».proof.Proof.ValueAdamW
public import proofs.«01_k».proof.Proof.Gen.AdamWSmallIdeal.Value
public import proofs.«01_k».proof.Proof.Gen.AdamWSmallRefIdeal.Read
public import Idealize.ShloMosaic.Lib.Pipeline.ValueKit

@[expose] public section

set_option maxRecDepth 16384

noncomputable section

namespace Cert.Proof.AdamWSmall

open Idealize.ShloMosaic Cert.AdamWSmallIdeal Cert.AdamWSmallIdeal.Gen
open Cert.Proof.AdamW (num mean square step)

/-! ## A block -/

theorem hz : (![0, 0] : Fin 2 → ℕ) = fun _ => 0 := funext fun a => by fin_cases a <;> rfl

section
variable {x0 x1 x2 x3 : Vec Ideal S256x128 .f32} {w m v g : ℕ → ℕ → EReal}
  (h0 : Ent x0 w) (h1 : Ent x1 m) (h2 : Ent x2 v) (h3 : Ent x3 g)

include h3 in
theorem out_g : Ent (out0_4 (F := Ideal) x0 x1 x2 x3) g := by
  unfold out0_4
  rw [View.canon_unit_zero hz]
  simp only [View.ld_unit_zero (S := S256x128) hz]
  exact h3

include h1 h3 in
theorem out_m : Ent (out0_6 (F := Ideal) x0 x1 x2 x3) (fun i j => mean (m i j) (g i j)) := by
  unfold out0_6
  rw [View.canon_unit_zero hz]
  simp only [View.ld_unit_zero (S := S256x128) hz]
  intro i
  show mean (x1 i) (x3 i) = _
  rw [h1 i, h3 i]

include h2 h3 in
theorem out_v : Ent (out0_7 (F := Ideal) x0 x1 x2 x3) (fun i j => square (v i j) (g i j)) := by
  unfold out0_7
  rw [View.canon_unit_zero hz]
  simp only [View.ld_unit_zero (S := S256x128) hz]
  intro i
  show square (x2 i) (x3 i) = _
  rw [h2 i, h3 i]

include h0 h1 h2 h3 in
theorem out_d : Ent (out0_5 (F := Ideal) x0 x1 x2 x3) (fun i j => step (w i j) (m i j) (v i j) (g i j)) := by
  unfold out0_5
  rw [View.canon_unit_zero hz]
  simp only [View.ld_unit_zero (S := S256x128) hz]
  intro i
  show step (x0 i) (x1 i) (x2 i) (x3 i) = _
  rw [h0 i, h1 i, h2 i, h3 i]
end

/-! ## The blocks a point reads -/

theorem pos0 : ∀ t : Fin cfg0.N, win0_0.index t = ![t.val, 0] := (by decide +kernel : ∀ t : Fin grid0.N, _)
theorem pos1 : ∀ t : Fin cfg0.N, win0_1.index t = ![t.val, 0] := (by decide +kernel : ∀ t : Fin grid0.N, _)
theorem pos2 : ∀ t : Fin cfg0.N, win0_2.index t = ![t.val, 0] := (by decide +kernel : ∀ t : Fin grid0.N, _)
theorem pos3 : ∀ t : Fin cfg0.N, win0_3.index t = ![t.val, 0] := (by decide +kernel : ∀ t : Fin grid0.N, _)
theorem pos4 : ∀ t : Fin cfg0.N, win0_4.index t = ![t.val, 0] := (by decide +kernel : ∀ t : Fin grid0.N, _)
theorem pos5 : ∀ t : Fin cfg0.N, win0_5.index t = ![t.val, 0] := (by decide +kernel : ∀ t : Fin grid0.N, _)
theorem pos6 : ∀ t : Fin cfg0.N, win0_6.index t = ![t.val, 0] := (by decide +kernel : ∀ t : Fin grid0.N, _)
theorem pos7 : ∀ t : Fin cfg0.N, win0_7.index t = ![t.val, 0] := (by decide +kernel : ∀ t : Fin grid0.N, _)

/-- Block `p` of a matrix. -/
def blk (f : ℕ → ℕ → EReal) (p i j : ℕ) : EReal := f (256 * p + i) j

variable {m : (ℓ : Loc nD τ sig) → Buf (Elt Ideal) ℓ} {c : Dev nD} {w p q g : ℕ → ℕ → EReal}
  (k0 : Ent (m (c.tc.loc main_arg0)) w) (k1 : Ent (m (c.tc.loc main_arg1)) p)
  (k2 : Ent (m (c.tc.loc main_arg2)) q) (k3 : Ent (m (c.tc.loc main_arg3)) g)

include k0 in
theorem blk0 (t : Fin cfg0.N) : Ent (iblk m c 0 t) (blk w t.val) := fun x => by
  blk_simp [iblk]
  rw [V_main_arg0, k0]
  refine entry w ?_ ?_
  · blk_simp [pos0] <;> simp <;> omega
  · blk_simp [pos0] <;> simp
include k1 in
theorem blk1 (t : Fin cfg0.N) : Ent (iblk m c 1 t) (blk p t.val) := fun x => by
  blk_simp [iblk]
  rw [V_main_arg1, k1]
  refine entry p ?_ ?_
  · blk_simp [pos1] <;> simp <;> omega
  · blk_simp [pos1] <;> simp
include k2 in
theorem blk2 (t : Fin cfg0.N) : Ent (iblk m c 2 t) (blk q t.val) := fun x => by
  blk_simp [iblk]
  rw [V_main_arg2, k2]
  refine entry q ?_ ?_
  · blk_simp [pos2] <;> simp <;> omega
  · blk_simp [pos2] <;> simp
include k3 in
theorem blk3 (t : Fin cfg0.N) : Ent (iblk m c 3 t) (blk g t.val) := fun x => by
  blk_simp [iblk]
  rw [V_main_arg3, k3]
  refine entry g ?_ ?_
  · blk_simp [pos3] <;> simp <;> omega
  · blk_simp [pos3] <;> simp

/-! ## The kernel's four arrays -/

include k3 in
theorem arr_g : (dats m 0 c).arrAt 4 cfg0.N = fun i : S512x128.Idx => g (i 0).val (i 1).val := by
  refine (dats m 0 c).arrAt_eq_of_covers 4 _ (by decide +kernel) fun t hf y => ?_
  blk_simp
  rw [after0_4]
  have e0 : win0_4.index t 0 * 256 + (y 0).val = 256 * t.val + (y 0).val := by rw [pos4, Nat.mul_comm]; rfl
  have e1 : win0_4.index t 1 * 128 + (y 1).val = (y 1).val := by rw [pos4]; exact Nat.zero_add _
  rw [e0, e1]
  exact out_g (blk3 k3 t) y
include k0 k1 k2 k3 in
theorem arr_d : (dats m 0 c).arrAt 5 cfg0.N = fun i : S512x128.Idx =>
    step (w (i 0).val (i 1).val) (p (i 0).val (i 1).val) (q (i 0).val (i 1).val) (g (i 0).val (i 1).val) := by
  refine (dats m 0 c).arrAt_eq_of_covers 5 _ (by decide +kernel) fun t hf y => ?_
  blk_simp
  rw [after0_5]
  have e0 : win0_5.index t 0 * 256 + (y 0).val = 256 * t.val + (y 0).val := by rw [pos5, Nat.mul_comm]; rfl
  have e1 : win0_5.index t 1 * 128 + (y 1).val = (y 1).val := by rw [pos5]; exact Nat.zero_add _
  rw [e0, e1]
  exact out_d (blk0 k0 t) (blk1 k1 t) (blk2 k2 t) (blk3 k3 t) y
include k1 k3 in
theorem arr_m : (dats m 0 c).arrAt 6 cfg0.N = fun i : S512x128.Idx => mean (p (i 0).val (i 1).val) (g (i 0).val (i 1).val) := by
  refine (dats m 0 c).arrAt_eq_of_covers 6 _ (by decide +kernel) fun t hf y => ?_
  blk_simp
  rw [after0_6]
  have e0 : win0_6.index t 0 * 256 + (y 0).val = 256 * t.val + (y 0).val := by rw [pos6, Nat.mul_comm]; rfl
  have e1 : win0_6.index t 1 * 128 + (y 1).val = (y 1).val := by rw [pos6]; exact Nat.zero_add _
  rw [e0, e1]
  exact out_m (blk1 k1 t) (blk3 k3 t) y
include k2 k3 in
theorem arr_v : (dats m 0 c).arrAt 7 cfg0.N = fun i : S512x128.Idx => square (q (i 0).val (i 1).val) (g (i 0).val (i 1).val) := by
  refine (dats m 0 c).arrAt_eq_of_covers 7 _ (by decide +kernel) fun t hf y => ?_
  blk_simp
  rw [after0_7]
  have e0 : win0_7.index t 0 * 256 + (y 0).val = 256 * t.val + (y 0).val := by rw [pos7, Nat.mul_comm]; rfl
  have e1 : win0_7.index t 1 * 128 + (y 1).val = (y 1).val := by rw [pos7]; exact Nat.zero_add _
  rw [e0, e1]
  exact out_v (blk2 k2 t) (blk3 k3 t) y

/-! ## The formula's arrays -/

section
open Cert.AdamWSmallRefIdeal.Read
variable {x0 x1 x2 x3 : FVec Ideal S512x128 .f32} (h0 : Ent x0 w) (h1 : Ent x1 p) (h2 : Ent x2 q) (h3 : Ent x3 g)

theorem val_m (i : S512x128.Idx) : val_main_v4 (F := Ideal) x1 x3 i = mean (x1 i) (x3 i) := by
  simp only [val_main_v4_apply, val_main_v3_apply, val_main_v2_apply, val_main_v1_apply, val_main_v0_apply]
  rfl
theorem val_v (i : S512x128.Idx) : val_main_v10 (F := Ideal) x2 x3 i = square (x2 i) (x3 i) := by
  simp only [val_main_v10_apply, val_main_v9_apply, val_main_v8_apply, val_main_v7_apply, val_main_v6_apply, val_main_v5_apply]
  rfl
theorem val_d (i : S512x128.Idx) : val_main_v23 (F := Ideal) x0 x1 x2 x3 i = step (x0 i) (x1 i) (x2 i) (x3 i) := by
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, val_m, val_v]
  rfl

include h1 h3 in
theorem ref_m : Ent (val_main_v4 (F := Ideal) x1 x3) (fun i j => mean (p i j) (g i j)) := fun i => by rw [val_m, h1 i, h3 i]
include h2 h3 in
theorem ref_v : Ent (val_main_v10 (F := Ideal) x2 x3) (fun i j => square (q i j) (g i j)) := fun i => by rw [val_v, h2 i, h3 i]
include h0 h1 h2 h3 in
theorem ref_d : Ent (val_main_v23 (F := Ideal) x0 x1 x2 x3) (fun i j => step (w i j) (p i j) (q i j) (g i j)) := fun i => by
  rw [val_d, h0 i, h1 i, h2 i, h3 i]
end

end Cert.Proof.AdamWSmall

end
-- ==== Proof.Adam.lean ====
/- AdamW: the claims about the reference's frame and the value. -/
module

public import proofs.«01_k».proof.Defs
public import proofs.«01_k».proof.Proof.Gen.AdamW
public import proofs.«01_k».proof.Proof.Gen.AdamWIdeal
public import proofs.«01_k».proof.Proof.Gen.AdamWRefIdeal
public import proofs.«01_k».proof.Proof.ValueAdamW
public import proofs.«01_k».proof.Proof.Gen.AdamWSmall
public import proofs.«01_k».proof.Proof.Gen.AdamWSmallIdeal
public import proofs.«01_k».proof.Proof.Gen.AdamWSmallRefIdeal
public import proofs.«01_k».proof.Proof.ValueAdamWSmall

@[expose] public section

noncomputable section

namespace Cert.Proof

open Idealize.ShloMosaic Idealize.SL.Sem

/-- AdamW: the reference runs no kernel and has no counters. -/
theorem AdamW.frame_ref : quiescent_AdamWRefIdeal (hAdamWRefIdeal := Cert.AdamWRefIdeal.Gen.facts) := fun m g _ =>
  (θ_run Cert.AdamWRefIdeal.defs _ _).mono (fun r h => ⟨fun c => (h c).2.2.2.2,
      Idealize.ShloMosaic.sem_eq_zero_of_no_sems (by decide) r.2⟩)
    (Cert.AdamWRefIdeal.Value.run (F := Ideal) m g)

/-- AdamW: kernel and reference end with the same arrays. -/
theorem AdamW.algebraic : algebraic_AdamWIdeal_AdamWRefIdeal (hAdamWIdeal := Cert.AdamWIdeal.Gen.facts)
    (hAdamWRefIdeal := Cert.AdamWRefIdeal.Gen.facts) := by
  intro m g m' g' _ hagree
  refine ⟨_, _, _, _, Cert.AdamWIdeal.Value.run_blocks m g,
    (θ_run Cert.AdamWRefIdeal.defs _ _).mono (fun r h c => ?_) (Cert.AdamWRefIdeal.Value.run (F := Ideal) m' g')⟩
  obtain ⟨h0, h1, h2, h3, ha⟩ := h c
  obtain ⟨e0, e1, e2, e3⟩ := hagree c
  have k0 := ent_is (m (c.tc.loc Cert.AdamWIdeal.main_arg0))
  have r0 : Ent (m' (c.tc.loc Cert.AdamWRefIdeal.main_arg0)) (ent (m (c.tc.loc Cert.AdamWIdeal.main_arg0))) := by rw [e0]; exact k0
  have k1 := ent_is (m (c.tc.loc Cert.AdamWIdeal.main_arg1))
  have r1 : Ent (m' (c.tc.loc Cert.AdamWRefIdeal.main_arg1)) (ent (m (c.tc.loc Cert.AdamWIdeal.main_arg1))) := by rw [e1]; exact k1
  have k2 := ent_is (m (c.tc.loc Cert.AdamWIdeal.main_arg2))
  have r2 : Ent (m' (c.tc.loc Cert.AdamWRefIdeal.main_arg2)) (ent (m (c.tc.loc Cert.AdamWIdeal.main_arg2))) := by rw [e2]; exact k2
  have k3 := ent_is (m (c.tc.loc Cert.AdamWIdeal.main_arg3))
  have r3 : Ent (m' (c.tc.loc Cert.AdamWRefIdeal.main_arg3)) (ent (m (c.tc.loc Cert.AdamWIdeal.main_arg3))) := by rw [e3]; exact k3
  refine ⟨h0.trans ?_, h1.trans ?_, h2.trans ?_, h3.trans ?_, ha⟩
  · exact (funext fun i => r3 i).trans (AdamW.arr_g k3).symm
  · rw [Cert.AdamWRefIdeal.Read.val_main_v23_eq]
    exact (funext fun i => AdamW.ref_d r0 r1 r2 r3 i).trans (AdamW.arr_d k0 k1 k2 k3).symm
  · rw [Cert.AdamWRefIdeal.Read.val_main_v4_eq]
    exact (funext fun i => AdamW.ref_m r1 r3 i).trans (AdamW.arr_m k1 k3).symm
  · rw [Cert.AdamWRefIdeal.Read.val_main_v10_eq]
    exact (funext fun i => AdamW.ref_v r2 r3 i).trans (AdamW.arr_v k2 k3).symm

/-- AdamW of the small weights: the reference runs no kernel and has no counters. -/
theorem AdamWSmall.frame_ref : quiescent_AdamWSmallRefIdeal (hAdamWSmallRefIdeal := Cert.AdamWSmallRefIdeal.Gen.facts) := fun m g _ =>
  (θ_run Cert.AdamWSmallRefIdeal.defs _ _).mono (fun r h => ⟨fun c => (h c).2.2.2.2,
      Idealize.ShloMosaic.sem_eq_zero_of_no_sems (by decide) r.2⟩)
    (Cert.AdamWSmallRefIdeal.Value.run (F := Ideal) m g)

/-- AdamW of the small weights: kernel and reference end with the same arrays. -/
theorem AdamWSmall.algebraic : algebraic_AdamWSmallIdeal_AdamWSmallRefIdeal (hAdamWSmallIdeal := Cert.AdamWSmallIdeal.Gen.facts)
    (hAdamWSmallRefIdeal := Cert.AdamWSmallRefIdeal.Gen.facts) := by
  intro m g m' g' _ hagree
  refine ⟨_, _, _, _, Cert.AdamWSmallIdeal.Value.run_blocks m g,
    (θ_run Cert.AdamWSmallRefIdeal.defs _ _).mono (fun r h c => ?_) (Cert.AdamWSmallRefIdeal.Value.run (F := Ideal) m' g')⟩
  obtain ⟨h0, h1, h2, h3, ha⟩ := h c
  obtain ⟨e0, e1, e2, e3⟩ := hagree c
  have k0 := ent_is (m (c.tc.loc Cert.AdamWSmallIdeal.main_arg0))
  have r0 : Ent (m' (c.tc.loc Cert.AdamWSmallRefIdeal.main_arg0)) (ent (m (c.tc.loc Cert.AdamWSmallIdeal.main_arg0))) := by rw [e0]; exact k0
  have k1 := ent_is (m (c.tc.loc Cert.AdamWSmallIdeal.main_arg1))
  have r1 : Ent (m' (c.tc.loc Cert.AdamWSmallRefIdeal.main_arg1)) (ent (m (c.tc.loc Cert.AdamWSmallIdeal.main_arg1))) := by rw [e1]; exact k1
  have k2 := ent_is (m (c.tc.loc Cert.AdamWSmallIdeal.main_arg2))
  have r2 : Ent (m' (c.tc.loc Cert.AdamWSmallRefIdeal.main_arg2)) (ent (m (c.tc.loc Cert.AdamWSmallIdeal.main_arg2))) := by rw [e2]; exact k2
  have k3 := ent_is (m (c.tc.loc Cert.AdamWSmallIdeal.main_arg3))
  have r3 : Ent (m' (c.tc.loc Cert.AdamWSmallRefIdeal.main_arg3)) (ent (m (c.tc.loc Cert.AdamWSmallIdeal.main_arg3))) := by rw [e3]; exact k3
  refine ⟨h0.trans ?_, h1.trans ?_, h2.trans ?_, h3.trans ?_, ha⟩
  · exact (funext fun i => r3 i).trans (AdamWSmall.arr_g k3).symm
  · rw [Cert.AdamWSmallRefIdeal.Read.val_main_v23_eq]
    exact (funext fun i => AdamWSmall.ref_d r0 r1 r2 r3 i).trans (AdamWSmall.arr_d k0 k1 k2 k3).symm
  · rw [Cert.AdamWSmallRefIdeal.Read.val_main_v4_eq]
    exact (funext fun i => AdamWSmall.ref_m r1 r3 i).trans (AdamWSmall.arr_m k1 k3).symm
  · rw [Cert.AdamWSmallRefIdeal.Read.val_main_v10_eq]
    exact (funext fun i => AdamWSmall.ref_v r2 r3 i).trans (AdamWSmall.arr_v k2 k3).symm

end Cert.Proof

end
-- ==== Proof.Parts.lean ====
/- AN ARRAY OF EIGHT PARTS, read with natural-number coordinates, and the sum of the parts. -/
module

public import proofs.«01_k».proof.Proof.Prod

@[expose] public section

noncomputable section

namespace Cert.Proof

open Idealize.ShloMosaic Idealize.ShloMosaic.ValueIdx Finset

/-- The array `x` of three axes has the entries `f`. -/
def Ent3 {a b c : ℕ} (x : (⟨3, ![a, b, c]⟩ : Shape).Idx → EReal) (f : ℕ → ℕ → ℕ → EReal) : Prop :=
  ∀ i, x i = f (i 0).val (i 1).val (i 2).val

/-- The entries of an array of three axes. -/
def ent3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

theorem ent3_is {a b c : ℕ} (x : (⟨3, ![a, b, c]⟩ : Shape).Idx → EReal) : Ent3 x (ent3 x) := fun i => by
  have h : (i 0).val < a ∧ (i 1).val < b ∧ (i 2).val < c := ⟨(i 0).isLt, (i 1).isLt, (i 2).isLt⟩
  unfold ent3
  rw [dif_pos h]
  exact congrArg x (eq_ix3 i)

theorem entry3 (f : ℕ → ℕ → ℕ → EReal) {i j k i' j' k' : ℕ} (hi : i = i') (hj : j = j') (hk : k = k') : f i j k = f i' j' k' := by
  rw [hi, hj, hk]

/-- The sum of the eight parts, entry by entry. -/
def total (f : ℕ → ℕ → ℕ → EReal) (i j : ℕ) : EReal := ∑ p ∈ range 8, f p i j

/-- Added one after another. -/
theorem total_eq (f : ℕ → ℕ → ℕ → EReal) (i j : ℕ) :
    total f i j = f 0 i j + f 1 i j + f 2 i j + f 3 i j + f 4 i j + f 5 i j + f 6 i j + f 7 i j := by
  simp only [total, sum_range_succ, sum_range_zero, zero_add]

end Cert.Proof

end
-- ==== Proof.ValueSum.lean ====
/- THE SUM OF THE EIGHT DEVICES' PARTS of a gate weight's gradient: each entry of the result is the sum of the
   parts' entries there. The kernel adds them block by block of 256 rows. -/
module

public import proofs.«01_k».proof.Proof.Parts
public import proofs.«01_k».proof.Proof.Gen.SumIdeal.Value
public import proofs.«01_k».proof.Proof.Gen.SumRefIdeal.Read
public import Idealize.ShloMosaic.Lib.Pipeline.ValueKit

@[expose] public section

set_option maxRecDepth 16384

noncomputable section

namespace Cert.Proof.Sum

open Idealize.ShloMosaic Cert.SumIdeal Cert.SumIdeal.Gen

/-! ## A block -/

/-- The block that a grid point leaves. -/
theorem out {x : Vec Ideal S8x256x128 .f32} {f : ℕ → ℕ → ℕ → EReal} (h : Ent3 x f) : Ent (out0_1 (F := Ideal) x) (total f) := fun i => by
  unfold out0_1
  rw [Value.canon1_eq, total_eq]
  have e : ∀ (k : ℕ) (z : S8x256x128.Idx), (z 0).val = k → (z 1).val = (i 0).val → (z 2).val = (i 1).val → x z = f k (i 0).val (i 1).val :=
    fun k z h0 h1 h2 => (h z).trans (entry3 f h0 h1 h2)
  have z : ∀ n : ℕ, 0 + 1 * n = n := fun n => by omega
  have p0 : View.ld x r0_0 (Value.ix1_0 i) = f 0 (i 0).val (i 1).val := e _ _ (z _) (z _) (z _)
  have p1 : View.ld x r0_1 (Value.ix1_1 i) = f 1 (i 0).val (i 1).val := e _ _ rfl (z _) (z _)
  have p2 : View.ld x r0_2 (Value.ix1_2 i) = f 2 (i 0).val (i 1).val := e _ _ rfl (z _) (z _)
  have p3 : View.ld x r0_3 (Value.ix1_3 i) = f 3 (i 0).val (i 1).val := e _ _ rfl (z _) (z _)
  have p4 : View.ld x r0_4 (Value.ix1_4 i) = f 4 (i 0).val (i 1).val := e _ _ rfl (z _) (z _)
  have p5 : View.ld x r0_5 (Value.ix1_5 i) = f 5 (i 0).val (i 1).val := e _ _ rfl (z _) (z _)
  have p6 : View.ld x r0_6 (Value.ix1_6 i) = f 6 (i 0).val (i 1).val := e _ _ rfl (z _) (z _)
  have p7 : View.ld x r0_7 (Value.ix1_7 i) = f 7 (i 0).val (i 1).val := e _ _ rfl (z _) (z _)
  show View.ld x r0_0 (Value.ix1_0 i) + View.ld x r0_1 (Value.ix1_1 i) + View.ld x r0_2 (Value.ix1_2 i) + View.ld x r0_3 (Value.ix1_3 i)
    + View.ld x r0_4 (Value.ix1_4 i) + View.ld x r0_5 (Value.ix1_5 i) + View.ld x r0_6 (Value.ix1_6 i) + View.ld x r0_7 (Value.ix1_7 i) = _
  rw [p0, p1, p2, p3, p4, p5, p6, p7]

/-! ## The blocks a point reads -/

theorem pos0 : ∀ t : Fin cfg0.N, win0_0.index t = ![0, t.val, 0] := (by decide +kernel : ∀ t : Fin grid0.N, _)
theorem pos1 : ∀ t : Fin cfg0.N, win0_1.index t = ![t.val, 0] := (by decide +kernel : ∀ t : Fin grid0.N, _)

/-- Block `t` of every part. -/
def blk (f : ℕ → ℕ → ℕ → EReal) (t p i j : ℕ) : EReal := f p (256 * t + i) j

variable {m : (ℓ : Loc nD τ sig) → Buf (Elt Ideal) ℓ} {c : Dev nD} {f : ℕ → ℕ → ℕ → EReal}
  (k0 : Ent3 (m (c.tc.loc main_arg0)) f)

include k0 in
theorem blk0 (t : Fin cfg0.N) : Ent3 (iblk m c 0 t) (blk f t.val) := fun x => by
  blk_simp [iblk]
  rw [V_main_arg0, k0]
  refine entry3 f ?_ ?_ ?_
  · blk_simp [pos0] <;> simp
  · blk_simp [pos0] <;> simp <;> omega
  · blk_simp [pos0] <;> simp

/-! ## The kernel's array, and the reference's -/

include k0 in
theorem arr : (dats m 0 c).arrAt 1 cfg0.N = fun i : S2048x128.Idx => total f (i 0).val (i 1).val := by
  refine (dats m 0 c).arrAt_eq_of_covers 1 _ (by decide +kernel) fun t hf y => ?_
  blk_simp
  rw [after0_1]
  have e0 : win0_1.index t 0 * 256 + (y 0).val = 256 * t.val + (y 0).val := by rw [pos1, Nat.mul_comm]; rfl
  have e1 : win0_1.index t 1 * 128 + (y 1).val = (y 1).val := by rw [pos1]; exact Nat.zero_add _
  rw [e0, e1]
  exact out (blk0 k0 t) y

open Cert.SumRefIdeal.Read in
theorem ref {x : Vec Ideal S8x2048x128 .f32} (h : Ent3 x f) : Ent (val_main_v0 (F := Ideal) x) (total f) := fun i => by
  rw [val_main_v0_apply, val_main_cst_apply]
  refine (congrArg (· + _) Ideal.ofBits_zero_f32).trans ?_
  rw [zero_add, total, Finset.sum_range]
  exact Finset.sum_congr rfl fun k _ => h _

end Cert.Proof.Sum

end
-- ==== Proof.ValueSumEarly.lean ====
/- THE SUM OF THE EIGHT DEVICES' PARTS of the small weights' gradients of the last three layers, packed: each entry of the result is the sum of the
   parts' entries there. The kernel adds them block by block of 256 rows. -/
module

public import proofs.«01_k».proof.Proof.Parts
public import proofs.«01_k».proof.Proof.Gen.SumEarlyIdeal.Value
public import proofs.«01_k».proof.Proof.Gen.SumEarlyRefIdeal.Read
public import Idealize.ShloMosaic.Lib.Pipeline.ValueKit

@[expose] public section

set_option maxRecDepth 16384

noncomputable section

namespace Cert.Proof.SumEarly

open Idealize.ShloMosaic Cert.SumEarlyIdeal Cert.SumEarlyIdeal.Gen

/-! ## A block -/

/-- The block that a grid point leaves. -/
theorem out {x : Vec Ideal S8x256x128 .f32} {f : ℕ → ℕ → ℕ → EReal} (h : Ent3 x f) : Ent (out0_1 (F := Ideal) x) (total f) := fun i => by
  unfold out0_1
  rw [Value.canon1_eq, total_eq]
  have e : ∀ (k : ℕ) (z : S8x256x128.Idx), (z 0).val = k → (z 1).val = (i 0).val → (z 2).val = (i 1).val → x z = f k (i 0).val (i 1).val :=
    fun k z h0 h1 h2 => (h z).trans (entry3 f h0 h1 h2)
  have z : ∀ n : ℕ, 0 + 1 * n = n := fun n => by omega
  have p0 : View.ld x r0_0 (Value.ix1_0 i) = f 0 (i 0).val (i 1).val := e _ _ (z _) (z _) (z _)
  have p1 : View.ld x r0_1 (Value.ix1_1 i) = f 1 (i 0).val (i 1).val := e _ _ rfl (z _) (z _)
  have p2 : View.ld x r0_2 (Value.ix1_2 i) = f 2 (i 0).val (i 1).val := e _ _ rfl (z _) (z _)
  have p3 : View.ld x r0_3 (Value.ix1_3 i) = f 3 (i 0).val (i 1).val := e _ _ rfl (z _) (z _)
  have p4 : View.ld x r0_4 (Value.ix1_4 i) = f 4 (i 0).val (i 1).val := e _ _ rfl (z _) (z _)
  have p5 : View.ld x r0_5 (Value.ix1_5 i) = f 5 (i 0).val (i 1).val := e _ _ rfl (z _) (z _)
  have p6 : View.ld x r0_6 (Value.ix1_6 i) = f 6 (i 0).val (i 1).val := e _ _ rfl (z _) (z _)
  have p7 : View.ld x r0_7 (Value.ix1_7 i) = f 7 (i 0).val (i 1).val := e _ _ rfl (z _) (z _)
  show View.ld x r0_0 (Value.ix1_0 i) + View.ld x r0_1 (Value.ix1_1 i) + View.ld x r0_2 (Value.ix1_2 i) + View.ld x r0_3 (Value.ix1_3 i)
    + View.ld x r0_4 (Value.ix1_4 i) + View.ld x r0_5 (Value.ix1_5 i) + View.ld x r0_6 (Value.ix1_6 i) + View.ld x r0_7 (Value.ix1_7 i) = _
  rw [p0, p1, p2, p3, p4, p5, p6, p7]

/-! ## The blocks a point reads -/

theorem pos0 : ∀ t : Fin cfg0.N, win0_0.index t = ![0, t.val, 0] := (by decide +kernel : ∀ t : Fin grid0.N, _)
theorem pos1 : ∀ t : Fin cfg0.N, win0_1.index t = ![t.val, 0] := (by decide +kernel : ∀ t : Fin grid0.N, _)

/-- Block `t` of every part. -/
def blk (f : ℕ → ℕ → ℕ → EReal) (t p i j : ℕ) : EReal := f p (256 * t + i) j

variable {m : (ℓ : Loc nD τ sig) → Buf (Elt Ideal) ℓ} {c : Dev nD} {f : ℕ → ℕ → ℕ → EReal}
  (k0 : Ent3 (m (c.tc.loc main_arg0)) f)

include k0 in
theorem blk0 (t : Fin cfg0.N) : Ent3 (iblk m c 0 t) (blk f t.val) := fun x => by
  blk_simp [iblk]
  rw [V_main_arg0, k0]
  refine entry3 f ?_ ?_ ?_
  · blk_simp [pos0] <;> simp
  · blk_simp [pos0] <;> simp <;> omega
  · blk_simp [pos0] <;> simp

/-! ## The kernel's array, and the reference's -/

include k0 in
theorem arr : (dats m 0 c).arrAt 1 cfg0.N = fun i : S512x128.Idx => total f (i 0).val (i 1).val := by
  refine (dats m 0 c).arrAt_eq_of_covers 1 _ (by decide +kernel) fun t hf y => ?_
  blk_simp
  rw [after0_1]
  have e0 : win0_1.index t 0 * 256 + (y 0).val = 256 * t.val + (y 0).val := by rw [pos1, Nat.mul_comm]; rfl
  have e1 : win0_1.index t 1 * 128 + (y 1).val = (y 1).val := by rw [pos1]; exact Nat.zero_add _
  rw [e0, e1]
  exact out (blk0 k0 t) y

open Cert.SumEarlyRefIdeal.Read in
theorem ref {x : Vec Ideal S8x512x128 .f32} (h : Ent3 x f) : Ent (val_main_v0 (F := Ideal) x) (total f) := fun i => by
  rw [val_main_v0_apply, val_main_cst_apply]
  refine (congrArg (· + _) Ideal.ofBits_zero_f32).trans ?_
  rw [zero_add, total, Finset.sum_range]
  exact Finset.sum_congr rfl fun k _ => h _

end Cert.Proof.SumEarly

end
-- ==== Proof.ValueSumLate.lean ====
/- THE SUM OF THE EIGHT DEVICES' PARTS of the other small weights' gradients, packed: each entry of the result is the sum of the
   parts' entries there. The kernel adds them block by block of 256 rows. -/
module

public import proofs.«01_k».proof.Proof.Parts
public import proofs.«01_k».proof.Proof.Gen.SumLateIdeal.Value
public import proofs.«01_k».proof.Proof.Gen.SumLateRefIdeal.Read
public import Idealize.ShloMosaic.Lib.Pipeline.ValueKit

@[expose] public section

set_option maxRecDepth 16384

noncomputable section

namespace Cert.Proof.SumLate

open Idealize.ShloMosaic Cert.SumLateIdeal Cert.SumLateIdeal.Gen

/-! ## A block -/

/-- The block that a grid point leaves. -/
theorem out {x : Vec Ideal S8x256x128 .f32} {f : ℕ → ℕ → ℕ → EReal} (h : Ent3 x f) : Ent (out0_1 (F := Ideal) x) (total f) := fun i => by
  unfold out0_1
  rw [Value.canon1_eq, total_eq]
  have e : ∀ (k : ℕ) (z : S8x256x128.Idx), (z 0).val = k → (z 1).val = (i 0).val → (z 2).val = (i 1).val → x z = f k (i 0).val (i 1).val :=
    fun k z h0 h1 h2 => (h z).trans (entry3 f h0 h1 h2)
  have z : ∀ n : ℕ, 0 + 1 * n = n := fun n => by omega
  have p0 : View.ld x r0_0 (Value.ix1_0 i) = f 0 (i 0).val (i 1).val := e _ _ (z _) (z _) (z _)
  have p1 : View.ld x r0_1 (Value.ix1_1 i) = f 1 (i 0).val (i 1).val := e _ _ rfl (z _) (z _)
  have p2 : View.ld x r0_2 (Value.ix1_2 i) = f 2 (i 0).val (i 1).val := e _ _ rfl (z _) (z _)
  have p3 : View.ld x r0_3 (Value.ix1_3 i) = f 3 (i 0).val (i 1).val := e _ _ rfl (z _) (z _)
  have p4 : View.ld x r0_4 (Value.ix1_4 i) = f 4 (i 0).val (i 1).val := e _ _ rfl (z _) (z _)
  have p5 : View.ld x r0_5 (Value.ix1_5 i) = f 5 (i 0).val (i 1).val := e _ _ rfl (z _) (z _)
  have p6 : View.ld x r0_6 (Value.ix1_6 i) = f 6 (i 0).val (i 1).val := e _ _ rfl (z _) (z _)
  have p7 : View.ld x r0_7 (Value.ix1_7 i) = f 7 (i 0).val (i 1).val := e _ _ rfl (z _) (z _)
  show View.ld x r0_0 (Value.ix1_0 i) + View.ld x r0_1 (Value.ix1_1 i) + View.ld x r0_2 (Value.ix1_2 i) + View.ld x r0_3 (Value.ix1_3 i)
    + View.ld x r0_4 (Value.ix1_4 i) + View.ld x r0_5 (Value.ix1_5 i) + View.ld x r0_6 (Value.ix1_6 i) + View.ld x r0_7 (Value.ix1_7 i) = _
  rw [p0, p1, p2, p3, p4, p5, p6, p7]

/-! ## The blocks a point reads -/

theorem pos0 : ∀ t : Fin cfg0.N, win0_0.index t = ![0, t.val, 0] := (by decide +kernel : ∀ t : Fin grid0.N, _)
theorem pos1 : ∀ t : Fin cfg0.N, win0_1.index t = ![t.val, 0] := (by decide +kernel : ∀ t : Fin grid0.N, _)

/-- Block `t` of every part. -/
def blk (f : ℕ → ℕ → ℕ → EReal) (t p i j : ℕ) : EReal := f p (256 * t + i) j

variable {m : (ℓ : Loc nD τ sig) → Buf (Elt Ideal) ℓ} {c : Dev nD} {f : ℕ → ℕ → ℕ → EReal}
  (k0 : Ent3 (m (c.tc.loc main_arg0)) f)

include k0 in
theorem blk0 (t : Fin cfg0.N) : Ent3 (iblk m c 0 t) (blk f t.val) := fun x => by
  blk_simp [iblk]
  rw [V_main_arg0, k0]
  refine entry3 f ?_ ?_ ?_
  · blk_simp [pos0] <;> simp
  · blk_simp [pos0] <;> simp <;> omega
  · blk_simp [pos0] <;> simp

/-! ## The kernel's array, and the reference's -/

include k0 in
theorem arr : (dats m 0 c).arrAt 1 cfg0.N = fun i : S256x128.Idx => total f (i 0).val (i 1).val := by
  refine (dats m 0 c).arrAt_eq_of_covers 1 _ (by decide +kernel) fun t hf y => ?_
  blk_simp
  rw [after0_1]
  have e0 : win0_1.index t 0 * 256 + (y 0).val = 256 * t.val + (y 0).val := by rw [pos1, Nat.mul_comm]; rfl
  have e1 : win0_1.index t 1 * 128 + (y 1).val = (y 1).val := by rw [pos1]; exact Nat.zero_add _
  rw [e0, e1]
  exact out (blk0 k0 t) y

open Cert.SumLateRefIdeal.Read in
theorem ref {x : Vec Ideal S8x256x128 .f32} (h : Ent3 x f) : Ent (val_main_v0 (F := Ideal) x) (total f) := fun i => by
  rw [val_main_v0_apply, val_main_cst_apply]
  refine (congrArg (· + _) Ideal.ofBits_zero_f32).trans ?_
  rw [zero_add, total, Finset.sum_range]
  exact Finset.sum_congr rfl fun k _ => h _

end Cert.Proof.SumLate

end
-- ==== Proof.Sums.lean ====
/- The sums of the devices' parts: the claims about the reference's frame and the value. -/
module

public import proofs.«01_k».proof.Defs
public import proofs.«01_k».proof.Proof.Gen.Sum
public import proofs.«01_k».proof.Proof.Gen.SumIdeal
public import proofs.«01_k».proof.Proof.Gen.SumRefIdeal
public import proofs.«01_k».proof.Proof.ValueSum
public import proofs.«01_k».proof.Proof.Gen.SumEarly
public import proofs.«01_k».proof.Proof.Gen.SumEarlyIdeal
public import proofs.«01_k».proof.Proof.Gen.SumEarlyRefIdeal
public import proofs.«01_k».proof.Proof.ValueSumEarly
public import proofs.«01_k».proof.Proof.Gen.SumLate
public import proofs.«01_k».proof.Proof.Gen.SumLateIdeal
public import proofs.«01_k».proof.Proof.Gen.SumLateRefIdeal
public import proofs.«01_k».proof.Proof.ValueSumLate

@[expose] public section

noncomputable section

namespace Cert.Proof

open Idealize.ShloMosaic Idealize.SL.Sem

/-- The sum of the parts of a gate weight's gradient: the reference runs no kernel and has no counters. -/
theorem Sum.frame_ref : quiescent_SumRefIdeal (hSumRefIdeal := Cert.SumRefIdeal.Gen.facts) := fun m g _ =>
  (θ_run Cert.SumRefIdeal.defs _ _).mono (fun r h => ⟨fun c => (h c).2,
      Idealize.ShloMosaic.sem_eq_zero_of_no_sems (by decide) r.2⟩)
    (Cert.SumRefIdeal.Value.run (F := Ideal) m g)

/-- The sum of the parts of a gate weight's gradient: kernel and reference end with the same array. -/
theorem Sum.algebraic : algebraic_SumIdeal_SumRefIdeal (hSumIdeal := Cert.SumIdeal.Gen.facts)
    (hSumRefIdeal := Cert.SumRefIdeal.Gen.facts) := by
  intro m g m' g' _ hagree
  refine ⟨_, Cert.SumIdeal.Value.run_blocks m g,
    (θ_run Cert.SumRefIdeal.defs _ _).mono (fun r h c => ?_) (Cert.SumRefIdeal.Value.run (F := Ideal) m' g')⟩
  obtain ⟨h0, ha⟩ := h c
  have e0 := hagree c
  have k0 := ent3_is (m (c.tc.loc Cert.SumIdeal.main_arg0))
  have r0 : Ent3 (m' (c.tc.loc Cert.SumRefIdeal.main_arg0)) (ent3 (m (c.tc.loc Cert.SumIdeal.main_arg0))) := by rw [e0]; exact k0
  refine ⟨h0.trans ?_, ha⟩
  rw [Cert.SumRefIdeal.Read.val_main_v0_eq]
  exact (funext fun i => Sum.ref r0 i).trans (Sum.arr k0).symm

/-- The sum of the parts of the small gradients of three layers: the reference runs no kernel and has no counters. -/
theorem SumEarly.frame_ref : quiescent_SumEarlyRefIdeal (hSumEarlyRefIdeal := Cert.SumEarlyRefIdeal.Gen.facts) := fun m g _ =>
  (θ_run Cert.SumEarlyRefIdeal.defs _ _).mono (fun r h => ⟨fun c => (h c).2,
      Idealize.ShloMosaic.sem_eq_zero_of_no_sems (by decide) r.2⟩)
    (Cert.SumEarlyRefIdeal.Value.run (F := Ideal) m g)

/-- The sum of the parts of the small gradients of three layers: kernel and reference end with the same array. -/
theorem SumEarly.algebraic : algebraic_SumEarlyIdeal_SumEarlyRefIdeal (hSumEarlyIdeal := Cert.SumEarlyIdeal.Gen.facts)
    (hSumEarlyRefIdeal := Cert.SumEarlyRefIdeal.Gen.facts) := by
  intro m g m' g' _ hagree
  refine ⟨_, Cert.SumEarlyIdeal.Value.run_blocks m g,
    (θ_run Cert.SumEarlyRefIdeal.defs _ _).mono (fun r h c => ?_) (Cert.SumEarlyRefIdeal.Value.run (F := Ideal) m' g')⟩
  obtain ⟨h0, ha⟩ := h c
  have e0 := hagree c
  have k0 := ent3_is (m (c.tc.loc Cert.SumEarlyIdeal.main_arg0))
  have r0 : Ent3 (m' (c.tc.loc Cert.SumEarlyRefIdeal.main_arg0)) (ent3 (m (c.tc.loc Cert.SumEarlyIdeal.main_arg0))) := by rw [e0]; exact k0
  refine ⟨h0.trans ?_, ha⟩
  rw [Cert.SumEarlyRefIdeal.Read.val_main_v0_eq]
  exact (funext fun i => SumEarly.ref r0 i).trans (SumEarly.arr k0).symm

/-- The sum of the parts of the other small gradients: the reference runs no kernel and has no counters. -/
theorem SumLate.frame_ref : quiescent_SumLateRefIdeal (hSumLateRefIdeal := Cert.SumLateRefIdeal.Gen.facts) := fun m g _ =>
  (θ_run Cert.SumLateRefIdeal.defs _ _).mono (fun r h => ⟨fun c => (h c).2,
      Idealize.ShloMosaic.sem_eq_zero_of_no_sems (by decide) r.2⟩)
    (Cert.SumLateRefIdeal.Value.run (F := Ideal) m g)

/-- The sum of the parts of the other small gradients: kernel and reference end with the same array. -/
theorem SumLate.algebraic : algebraic_SumLateIdeal_SumLateRefIdeal (hSumLateIdeal := Cert.SumLateIdeal.Gen.facts)
    (hSumLateRefIdeal := Cert.SumLateRefIdeal.Gen.facts) := by
  intro m g m' g' _ hagree
  refine ⟨_, Cert.SumLateIdeal.Value.run_blocks m g,
    (θ_run Cert.SumLateRefIdeal.defs _ _).mono (fun r h c => ?_) (Cert.SumLateRefIdeal.Value.run (F := Ideal) m' g')⟩
  obtain ⟨h0, ha⟩ := h c
  have e0 := hagree c
  have k0 := ent3_is (m (c.tc.loc Cert.SumLateIdeal.main_arg0))
  have r0 : Ent3 (m' (c.tc.loc Cert.SumLateRefIdeal.main_arg0)) (ent3 (m (c.tc.loc Cert.SumLateIdeal.main_arg0))) := by rw [e0]; exact k0
  refine ⟨h0.trans ?_, ha⟩
  rw [Cert.SumLateRefIdeal.Read.val_main_v0_eq]
  exact (funext fun i => SumLate.ref r0 i).trans (SumLate.arr k0).symm

end Cert.Proof

end
-- ==== Proof.Shard.lean ====
/- ONE OPTIMISER STEP ON A SHARD: the gradient is the device's own part out of four, of which a word says the number, plus three
   received ones; with it each entry of the four results is one formula. -/
module

public import proofs.«01_k».proof.Proof.Parts
public import proofs.«01_k».proof.Proof.Prod
public import Idealize.ShloMosaic.Lib.Pipeline.Value

@[expose] public section

noncomputable section

namespace Cert.Proof.Shard

open Idealize.ShloMosaic Idealize.ShloMosaic.ValueIdx Cert.Proof

/-! ## The formula at one entry -/

/-- The number an f32 word stands for. -/
abbrev num (b : BitVec 32) : EReal := FloatOps.ofBits (F := Ideal) .f32 b

/-- The new first moment, from the old one and the gradient. -/
def mean (m g : EReal) : EReal := num 0x3F666666#32 * m + num 0x3DCCCCCD#32 * g
/-- The new second moment. -/
def square (v g : EReal) : EReal := num 0x3F7FBE77#32 * v + num 0x3A83126F#32 * (g * g)
/-- The step: the corrected first moment over the root of the corrected second one, and the decay of the weight. -/
def step (w m v g : EReal) : EReal :=
  num 0xBA83126F#32 *
    (FloatOps.divf (F := Ideal) (φ := .f32) (FloatOps.divf (F := Ideal) (φ := .f32) (mean m g) (num 0x3F26BD02#32))
        (FloatOps.hostUnary (F := Ideal) (φ := .f32) .sqrt (FloatOps.divf (F := Ideal) (φ := .f32) (square v g) (num 0x3C231ACC#32)) + num 0x322BCC77#32)
      + num 0x3C23D70A#32 * w)

/-- The gradient: part `k` of the device's own four, and the three received parts. -/
def grad (k : ℕ) (s b : ℕ → ℕ → ℕ → EReal) (i j : ℕ) : EReal := s k i j + b 0 i j + b 1 i j + b 2 i j

/-- Added to the sum of the three. -/
theorem grad_eq (k : ℕ) (s b : ℕ → ℕ → ℕ → EReal) (i j : ℕ) : s k i j + (b 0 i j + b 1 i j + b 2 i j) = grad k s b i j := by
  unfold grad
  rw [← add_assoc, ← add_assoc]

/-- Block `p` of 256 rows of every matrix. -/
def blk (f : ℕ → ℕ → ℕ → EReal) (p k i j : ℕ) : EReal := f k (256 * p + i) j

/-! ## One matrix as an array of three axes -/

theorem cast32 {α : Type} {a b : ℕ} (x : (⟨3, ![1, a, b]⟩ : Shape).Idx → α) (h : (⟨3, ![1, a, b]⟩ : Shape).ShapeCasts ⟨2, ![a, b]⟩)
    (i : (⟨2, ![a, b]⟩ : Shape).Idx) : shapeCast ⟨2, ![a, b]⟩ x h i = x (ix3 0 (i 0) (i 1)) := by
  refine shapeCast_apply x h i _ ?_
  rw [Shape.rowMajor_val_three, Shape.rowMajor_val_two]
  show (0 * a + (i 0).val) * b + (i 1).val = (i 0).val * b + (i 1).val
  rw [Nat.zero_mul, Nat.zero_add]

theorem cast23 {α : Type} {a b : ℕ} (x : (⟨2, ![a, b]⟩ : Shape).Idx → α) (h : (⟨2, ![a, b]⟩ : Shape).ShapeCasts ⟨3, ![1, a, b]⟩)
    (i : (⟨3, ![1, a, b]⟩ : Shape).Idx) : shapeCast ⟨3, ![1, a, b]⟩ x h i = x (ix2 (i 1) (i 2)) := by
  refine shapeCast_apply x h i _ ?_
  rw [Shape.rowMajor_val_three, Shape.rowMajor_val_two]
  have h0 : (i 0).val = 0 := by have := (i 0).isLt; change _ < 1 at this; omega
  show (i 1).val * b + (i 2).val = ((i 0).val * a + (i 1).val) * b + (i 2).val
  rw [h0, Nat.zero_mul, Nat.zero_add]

theorem zeros : (![0, 0, 0] : Fin 3 → ℕ) = fun _ => 0 := funext fun a => by fin_cases a <;> rfl

/-! ## The formulas on a block -/

/-- The update, the new first and the new second moment, of the entries of the weight, the moments and the gradient. -/
def stepOf (w p q : ℕ → ℕ → ℕ → EReal) (g : ℕ → ℕ → EReal) (_ i j : ℕ) : EReal := step (w 0 i j) (p 0 i j) (q 0 i j) (g i j)
def meanOf (p : ℕ → ℕ → ℕ → EReal) (g : ℕ → ℕ → EReal) (_ i j : ℕ) : EReal := mean (p 0 i j) (g i j)
def squareOf (q : ℕ → ℕ → ℕ → EReal) (g : ℕ → ℕ → EReal) (_ i j : ℕ) : EReal := square (q 0 i j) (g i j)

theorem first {b c : ℕ} (i : (⟨3, ![1, b, c]⟩ : Shape).Idx) : (i 0).val = 0 := by have := (i 0).isLt; change _ < 1 at this; omega

/-- One of the received parts of a block. -/
theorem part_is {C n : ℕ} {x : (⟨3, ![3, 256, C]⟩ : Shape).Idx → EReal} {b : ℕ → ℕ → ℕ → EReal} (h : Ent3 x b)
    {z : (⟨3, ![1, 256, C]⟩ : Shape).Idx → (⟨3, ![3, 256, C]⟩ : Shape).Idx} (e : ∀ i, (z i 0).val = n + 1 * (i 0).val
      ∧ (z i 1).val = 0 + 1 * (i 1).val ∧ (z i 2).val = 0 + 1 * (i 2).val) : Ent3 (fun i => x (z i)) fun _ => b n := fun i => by
  obtain ⟨e0, e1, e2⟩ := e i
  refine (h _).trans (entry3 b ?_ ?_ ?_)
  · rw [e0, first i]; omega
  · rw [e1]; omega
  · rw [e2]; omega

section
variable {C : ℕ} (hc : (⟨3, ![1, 256, C]⟩ : Shape).ShapeCasts ⟨2, ![256, C]⟩) (hd : (⟨2, ![256, C]⟩ : Shape).ShapeCasts ⟨3, ![1, 256, C]⟩)
  {x : (⟨3, ![1, 256, C]⟩ : Shape).Idx → EReal} {f : ℕ → ℕ → ℕ → EReal}

theorem down_is (h : Ent3 x f) : Ent (shapeCast ⟨2, ![256, C]⟩ x hc) (f 0) := fun i => (cast32 x hc i).trans (h _)
theorem up_is {g : (⟨2, ![256, C]⟩ : Shape).Idx → EReal} {f : ℕ → ℕ → EReal} (h : Ent g f) : Ent3 (shapeCast ⟨3, ![1, 256, C]⟩ g hd) fun _ => f :=
  fun i => (cast23 g hd i).trans (h _)

theorem sum_is {y r0 r1 r2 : (⟨3, ![1, 256, C]⟩ : Shape).Idx → EReal} {k : ℕ} {s b : ℕ → ℕ → ℕ → EReal} (h : Ent3 y fun _ => s k)
    (h0 : Ent3 r0 fun _ => b 0) (h1 : Ent3 r1 fun _ => b 1) (h2 : Ent3 r2 fun _ => b 2) :
    Ent (fun i => shapeCast ⟨2, ![256, C]⟩ y hc i + shapeCast ⟨2, ![256, C]⟩ r0 hc i + shapeCast ⟨2, ![256, C]⟩ r1 hc i + shapeCast ⟨2, ![256, C]⟩ r2 hc i)
      (grad k s b) := fun i =>
  congrArg₂ (· + ·) (congrArg₂ (· + ·) (congrArg₂ (· + ·) (down_is hc h i) (down_is hc h0 i)) (down_is hc h1 i)) (down_is hc h2 i)

theorem mean_is {g : (⟨2, ![256, C]⟩ : Shape).Idx → EReal} {d : ℕ → ℕ → EReal} (h : Ent3 x f) (hg : Ent g d) :
    Ent (fun i => num 0x3F666666#32 * shapeCast ⟨2, ![256, C]⟩ x hc i + num 0x3DCCCCCD#32 * g i) (meanOf f d 0) := fun i =>
  congrArg₂ mean (down_is hc h i) (hg i)

theorem square_is {g : (⟨2, ![256, C]⟩ : Shape).Idx → EReal} {d : ℕ → ℕ → EReal} (h : Ent3 x f) (hg : Ent g d) :
    Ent (fun i => num 0x3F7FBE77#32 * shapeCast ⟨2, ![256, C]⟩ x hc i + num 0x3A83126F#32 * (g i * g i)) (squareOf f d 0) := fun i =>
  congrArg₂ square (down_is hc h i) (hg i)

theorem step_is {a b : (⟨2, ![256, C]⟩ : Shape).Idx → EReal} {p q : ℕ → ℕ → ℕ → EReal} {d : ℕ → ℕ → EReal} (h : Ent3 x f)
    (ha : Ent a (meanOf p d 0)) (hb : Ent b (squareOf q d 0)) :
    Ent (fun i => num 0xBA83126F#32 *
      (FloatOps.divf (F := Ideal) (φ := .f32) (FloatOps.divf (F := Ideal) (φ := .f32) (a i) (num 0x3F26BD02#32))
        (FloatOps.hostUnary (F := Ideal) (φ := .f32) .sqrt (FloatOps.divf (F := Ideal) (φ := .f32) (b i) (num 0x3C231ACC#32)) + num 0x322BCC77#32)
        + num 0x3C23D70A#32 * shapeCast ⟨2, ![256, C]⟩ x hc i)) (stepOf f p q d 0) := fun i => by
  beta_reduce
  rw [ha i, hb i, down_is hc h i]
  rfl
end

/-- Entry `z` of an array is entry `x` of its block `t` of 256 rows, counted from matrix `k` on. -/
def At {n C n' R : ℕ} (z : (⟨3, ![n', R, C]⟩ : Shape).Idx) (k t : ℕ) (x : (⟨3, ![n, 256, C]⟩ : Shape).Idx) : Prop :=
  (z 0).val = k + (x 0).val ∧ (z 1).val = 256 * t + (x 1).val ∧ (z 2).val = (x 2).val

theorem at_of {n C k t : ℕ} {e : Fin 3 → ℕ} (h : e = ![k, t, 0]) (hn : k * n = k) (x : (⟨3, ![n, 256, C]⟩ : Shape).Idx) :
    e 0 * n + 1 * (x 0).val = k + (x 0).val ∧ e 1 * 256 + 1 * (x 1).val = 256 * t + (x 1).val ∧ e 2 * C + 1 * (x 2).val = (x 2).val := by
  subst h
  refine ⟨?_, ?_, ?_⟩
  · show k * n + 1 * _ = _
    rw [hn, Nat.one_mul]
  · show t * 256 + 1 * _ = _
    rw [Nat.one_mul, Nat.mul_comm]
  · show 0 * C + 1 * _ = _
    rw [Nat.zero_mul, Nat.one_mul, Nat.zero_add]

theorem blk_of {n C n' R t : ℕ} {z : (⟨3, ![n', R, C]⟩ : Shape).Idx} {x : (⟨3, ![n, 256, C]⟩ : Shape).Idx} (f : ℕ → ℕ → ℕ → EReal)
    (h : At z 0 t x) : f (z 0).val (z 1).val (z 2).val = blk f t (x 0).val (x 1).val (x 2).val :=
  entry3 f (h.1.trans (Nat.zero_add _)) h.2.1 h.2.2

theorem blk_own {C n' R k t : ℕ} {z : (⟨3, ![n', R, C]⟩ : Shape).Idx} {x : (⟨3, ![1, 256, C]⟩ : Shape).Idx} (f : ℕ → ℕ → ℕ → EReal)
    (h : At z k t x) : f (z 0).val (z 1).val (z 2).val = blk f t k (x 1).val (x 2).val :=
  entry3 f (h.1.trans (by rw [first x, Nat.add_zero])) h.2.1 h.2.2

/-! ## The word that says the number -/

/-- The number of the own part. -/
def own (x : (⟨1, ![1]⟩ : Shape).Idx → BitVec 32) : ℕ := (x (ix1 0)).toNat

theorem own_eq (x : (⟨1, ![1]⟩ : Shape).Idx → BitVec 32) (i : (⟨1, ![1]⟩ : Shape).Idx) : (x i).toNat = own x := by
  have e : i = ix1 0 := funext fun a => by
    obtain rfl : a = 0 := Subsingleton.elim _ _
    exact Subsingleton.elim (α := Fin 1) _ _
  rw [e]
  rfl

/-- Whether a part is the own one. -/
theorem mask (x : (⟨1, ![1]⟩ : Shape).Idx → BitVec 32) (z : (⟨1, ![1]⟩ : Shape).Idx) {k : ℕ} (hk : k < 4) :
    IntOp.cmpi .eq (BitVec.ofNat 32 k) (x z) = if k = own x then 1#1 else 0#1 := by
  rw [← own_eq x z]
  by_cases h : k = (x z).toNat
  · have e : BitVec.ofNat 32 k = x z := BitVec.eq_of_toNat_eq (by rw [BitVec.toNat_ofNat, Nat.mod_eq_of_lt (by omega), h])
    rw [if_pos h, e]
    show BitVec.ofBool (x z == x z) = 1#1
    rw [beq_self_eq_true]
    rfl
  · rw [if_neg h]
    have e : (BitVec.ofNat 32 k == x z) = false := beq_eq_false_iff_ne.2 fun e => h (by
      rw [← e, BitVec.toNat_ofNat, Nat.mod_eq_of_lt (by omega)])
    show BitVec.ofBool (BitVec.ofNat 32 k == x z) = 0#1
    rw [e]
    rfl

/-- The sum over the four parts, all but the own one replaced by zero, is the own one. -/
theorem sum_own (f : ℕ → EReal) {n : ℕ} (hn : n < 4) : (∑ k : Fin 4, if k.val = n then f k.val else 0) = f n := by
  rw [Finset.sum_eq_single (⟨n, hn⟩ : Fin 4) (fun k _ hk => if_neg fun e => hk (Fin.ext e)) fun h => absurd (Finset.mem_univ _) h]
  exact if_pos rfl

theorem and_one : ∀ x y : BitVec 1, x &&& y = 1#1 → x = 1#1 ∧ y = 1#1 := by decide

theorem word_lt {w : BitVec 32} (h0 : IntOp.cmpi .sge w 0#32 = 1#1) (h4 : IntOp.cmpi .slt w 4#32 = 1#1) : w.toNat < 4 := by
  have one (p : Bool) : (BitVec.ofBool p = 1#1) ↔ p = true := by cases p <;> decide
  simp only [one, IntOp.cmpi, BitVec.sle, BitVec.slt, decide_eq_true_eq, BitVec.toInt, BitVec.toNat_ofNat] at h0 h4
  have := w.isLt
  split at h0 <;> simp at h0 h4 <;> omega

theorem word_int {w : BitVec 32} (h : w.toNat < 4) : w.toInt = (w.toNat : ℤ) := by
  rw [BitVec.toInt_eq_toNat_of_lt (by omega)]

end Cert.Proof.Shard

end
-- ==== Proof.ValueAdamWLruIn.lean ====
/- THE OPTIMISER'S STEP ON A SHARD OF THE GATED RECURRENCE'S PROJECTION IN: the kernel applies the formulas of `Shard` block by block of 256 rows;
   which of the device's own four parts it adds to the received ones, a word says. -/
module

public import proofs.«01_k».proof.Proof.Shard
public import proofs.«01_k».proof.Proof.Gen.AdamWLruInIdeal.Frame
public import proofs.«01_k».proof.Proof.Gen.AdamWLruInRefIdeal.Read
public import Idealize.ShloMosaic.Lib.Pipeline.ValueKit
public import Idealize.ShloMosaic.Lib.Tactic
public import Idealize.ShloMosaic.Lib.DynamicIndex
public import Idealize.ShloMosaic.Lib.WordCmp

@[expose] public section

set_option maxRecDepth 16384

noncomputable section

namespace Cert.Proof.AdamWLruIn

open Idealize.ShloMosaic Idealize.ShloMosaic.Tactic Cert.Proof.Shard Cert.AdamWLruInIdeal Cert.AdamWLruInIdeal.Gen

/-! ## A block -/

/-- The three received parts. -/
abbrev part0 (x : Vec Ideal S3x256x512 .bf16) : Vec Ideal S1x256x512 .bf16 := View.ld x (Rect.unit (s := S3x256x512) ![0, 0, 0] S1x256x512.size inb_S3x256x512_S1x256x512_0_0_0)
abbrev part1 (x : Vec Ideal S3x256x512 .bf16) : Vec Ideal S1x256x512 .bf16 := View.ld x (Rect.unit (s := S3x256x512) ![1, 0, 0] S1x256x512.size inb_S3x256x512_S1x256x512_1_0_0)
abbrev part2 (x : Vec Ideal S3x256x512 .bf16) : Vec Ideal S1x256x512 .bf16 := View.ld x (Rect.unit (s := S3x256x512) ![2, 0, 0] S1x256x512.size inb_S3x256x512_S1x256x512_2_0_0)

section
variable (x0 x1 x2 : Vec Ideal S1x256x512 .f32) (x3 : Vec Ideal S1x256x512 .bf16) (x4 : Vec Ideal S3x256x512 .bf16)

/-- The sum of the own part and the received ones, the new moments, and the results. -/
abbrev sums := k0_pay4 (F := Ideal) x3 (part0 x4) (part1 x4) (part2 x4)
abbrev mom := k0_pay5 (F := Ideal) x3 (part0 x4) (part1 x4) (part2 x4) x1
abbrev sq := k0_pay6 (F := Ideal) x3 (part0 x4) (part1 x4) (part2 x4) x2
abbrev resG := k0_pay7 (F := Ideal) x3 (part0 x4) (part1 x4) (part2 x4)
abbrev resD := k0_pay1 (F := Ideal) (mom x1 x3 x4) (sq x2 x3 x4) x0
abbrev resM := k0_pay2 (F := Ideal) (mom x1 x3 x4)
abbrev resV := k0_pay3 (F := Ideal) (sq x2 x3 x4)

variable (c : Dev nD) (i : grid0.Coords)
  (a2 : Memref sig .tc .vmem S1x256x512 .f32) (h2 : a2.IsWhole) (a3 : Memref sig .tc .vmem S1x256x512 .f32) (h3 : a3.IsWhole)
  (a4 : Memref sig .tc .vmem S1x256x512 .f32) (h4 : a4.IsWhole) (a5 : Memref sig .tc .vmem S1x256x512 .bf16) (h5 : a5.IsWhole)
  (a6 : Memref sig .tc .vmem S3x256x512 .bf16) (h6 : a6.IsWhole) (a7 : Memref sig .tc .vmem S1x256x512 .f32) (h7 : a7.IsWhole)
  (a8 : Memref sig .tc .vmem S1x256x512 .f32) (h8 : a8.IsWhole) (a9 : Memref sig .tc .vmem S1x256x512 .f32) (h9 : a9.IsWhole)
  (a10 : Memref sig .tc .vmem S1x256x512 .f32) (h10 : a10.IsWhole) (xt : TbBuf0 (F := Ideal) c tbM0_0)

/-- What a point's run leaves in the four results' buffers. -/
theorem outs : out0_A_5 c i a2 h2 a3 h3 a4 h4 a5 h5 a6 h6 a7 h7 a8 h8 a9 h9 a10 h10 x0 x1 x2 x3 x4 xt = resG x3 x4
    ∧ out0_A_6 c i a2 h2 a3 h3 a4 h4 a5 h5 a6 h6 a7 h7 a8 h8 a9 h9 a10 h10 x0 x1 x2 x3 x4 xt = resD x0 x1 x2 x3 x4
    ∧ out0_A_7 c i a2 h2 a3 h3 a4 h4 a5 h5 a6 h6 a7 h7 a8 h8 a9 h9 a10 h10 x0 x1 x2 x3 x4 xt = resM x1 x3 x4
    ∧ out0_A_8 c i a2 h2 a3 h3 a4 h4 a5 h5 a6 h6 a7 h7 a8 h8 a9 h9 a10 h10 x0 x1 x2 x3 x4 xt = resV x2 x3 x4 := by
  unfold out0_A_5 out0_A_6 out0_A_7 out0_A_8
  refine ⟨(View.read_writes_eq_canon _ _ _ fun _ => cover0_A_5 ..).trans ?_, (View.read_writes_eq_canon _ _ _ fun _ => cover0_A_6 ..).trans ?_,
    (View.read_writes_eq_canon _ _ _ fun _ => cover0_A_7 ..).trans ?_, (View.read_writes_eq_canon _ _ _ fun _ => cover0_A_8 ..).trans ?_⟩
  all_goals
    unfold kernelRun0_A
    dsimp only
    sl_unfold_words
    rw [View.canon_unit_zero zeros]
    simp only [View.readAt_eq_ld, h2.read_unread, h3.read_unread, h4.read_unread, h5.read_unread, h6.read_unread, View.ld_unit_zero (S := S1x256x512) zeros]
end

theorem block {x0 x1 x2 : Vec Ideal S1x256x512 .f32} {x3 : Vec Ideal S1x256x512 .bf16} {x4 : Vec Ideal S3x256x512 .bf16} {w p q s b : ℕ → ℕ → ℕ → EReal} {k : ℕ}
    (h0 : Ent3 x0 w) (h1 : Ent3 x1 p) (h2 : Ent3 x2 q) (h3 : Ent3 x3 fun _ => s k) (h4 : Ent3 x4 b) :
    Ent3 (resG x3 x4) (fun _ => grad k s b) ∧ Ent3 (resD x0 x1 x2 x3 x4) (stepOf w p q (grad k s b))
      ∧ Ent3 (resM x1 x3 x4) (meanOf p (grad k s b)) ∧ Ent3 (resV x2 x3 x4) (squareOf q (grad k s b)) := by
  have g : Ent (sums x3 x4) (grad k s b) := sum_is shapeCasts_S1x256x512_S256x512 h3 (part_is h4 fun _ => ⟨rfl, rfl, rfl⟩)
    (part_is h4 fun _ => ⟨rfl, rfl, rfl⟩) (part_is h4 fun _ => ⟨rfl, rfl, rfl⟩)
  have e1 : Ent (mom x1 x3 x4) (meanOf p (grad k s b) 0) := mean_is shapeCasts_S1x256x512_S256x512 h1 g
  have e2 : Ent (sq x2 x3 x4) (squareOf q (grad k s b) 0) := square_is shapeCasts_S1x256x512_S256x512 h2 g
  exact ⟨up_is shapeCasts_S256x512_S1x256x512 g, up_is shapeCasts_S256x512_S1x256x512 (step_is shapeCasts_S1x256x512_S256x512 h0 e1 e2),
    up_is shapeCasts_S256x512_S1x256x512 e1, up_is shapeCasts_S256x512_S1x256x512 e2⟩

/-! ## Where the windows' blocks put an entry -/

variable {m : (ℓ : Loc nD τ sig) → Buf (Elt Ideal) ℓ} {c : Dev nD}

theorem pos3 (hO : Ok m) (t : Fin (cfgM m hO).N) : ((cfgM m hO).win 3).index t = ![own (m (c.tc.loc main_arg5)), t.val, 0] := by
  obtain rfl : c = 0 := Subsingleton.elim _ _
  have ht : (BitVec.ofNat 32 ((grid0.coords t) 0).val).toNat = t.val :=
    (by decide +kernel : ∀ t : Fin grid0.N, (BitVec.ofNat 32 ((grid0.coords t) 0).val).toNat = t.val) t
  have hw : (Pipeline.Prefetch.Contents.at (tbl m) 0 (Rect.unit (s := S1) ![0] S1.size inb_S1_S1_0) numel1_S1 : BitVec 32).toNat
      = own (m (((0 : Dev nD).tc : Thread nD τ).loc main_arg5)) := own_eq (m (((0 : Dev nD).tc : Thread nD τ).loc main_arg5)) _
  show ![_, _, _] = _
  rw [← hw, ← ht]
  rfl
theorem spot0 (hO : Ok m) (t : Fin (cfgM m hO).N) (x : S1x256x512.Idx) : ∃ z : S1x2048x512.Idx, (((cfgM m hO).win 0).blk t).view.emb x = z ∧ At z 0 t x :=
  ⟨_, rfl, at_of ((by decide +kernel : ∀ t : Fin grid0.N, cc0_transform_0 (grid0.coords t) = ![0, t.val, 0]) t) (Nat.zero_mul _) x⟩
theorem spot1 (hO : Ok m) (t : Fin (cfgM m hO).N) (x : S1x256x512.Idx) : ∃ z : S1x2048x512.Idx, (((cfgM m hO).win 1).blk t).view.emb x = z ∧ At z 0 t x :=
  ⟨_, rfl, at_of ((by decide +kernel : ∀ t : Fin grid0.N, cc0_transform_1 (grid0.coords t) = ![0, t.val, 0]) t) (Nat.zero_mul _) x⟩
theorem spot2 (hO : Ok m) (t : Fin (cfgM m hO).N) (x : S1x256x512.Idx) : ∃ z : S1x2048x512.Idx, (((cfgM m hO).win 2).blk t).view.emb x = z ∧ At z 0 t x :=
  ⟨_, rfl, at_of ((by decide +kernel : ∀ t : Fin grid0.N, cc0_transform_2 (grid0.coords t) = ![0, t.val, 0]) t) (Nat.zero_mul _) x⟩
theorem spot3 (hO : Ok m) (t : Fin (cfgM m hO).N) (x : S1x256x512.Idx) : ∃ z : S4x2048x512.Idx, (((cfgM m hO).win 3).blk t).view.emb x = z ∧ At z (own (m (c.tc.loc main_arg5))) t x :=
  ⟨_, rfl, at_of (pos3 hO t) (Nat.mul_one _) x⟩
theorem spot4 (hO : Ok m) (t : Fin (cfgM m hO).N) (x : S3x256x512.Idx) : ∃ z : S3x2048x512.Idx, (((cfgM m hO).win 4).blk t).view.emb x = z ∧ At z 0 t x :=
  ⟨_, rfl, at_of ((by decide +kernel : ∀ t : Fin grid0.N, cc0_transform_4 (grid0.coords t) = ![0, t.val, 0]) t) (Nat.zero_mul _) x⟩
theorem spot5 (hO : Ok m) (t : Fin (cfgM m hO).N) (x : S1x256x512.Idx) : ∃ z : S1x2048x512.Idx, (((cfgM m hO).win 5).blk t).view.emb x = z ∧ At z 0 t x :=
  ⟨_, rfl, at_of ((by decide +kernel : ∀ t : Fin grid0.N, cc0_transform_5 (grid0.coords t) = ![0, t.val, 0]) t) (Nat.zero_mul _) x⟩
theorem spot6 (hO : Ok m) (t : Fin (cfgM m hO).N) (x : S1x256x512.Idx) : ∃ z : S1x2048x512.Idx, (((cfgM m hO).win 6).blk t).view.emb x = z ∧ At z 0 t x :=
  ⟨_, rfl, at_of ((by decide +kernel : ∀ t : Fin grid0.N, cc0_transform_6 (grid0.coords t) = ![0, t.val, 0]) t) (Nat.zero_mul _) x⟩
theorem spot7 (hO : Ok m) (t : Fin (cfgM m hO).N) (x : S1x256x512.Idx) : ∃ z : S1x2048x512.Idx, (((cfgM m hO).win 7).blk t).view.emb x = z ∧ At z 0 t x :=
  ⟨_, rfl, at_of ((by decide +kernel : ∀ t : Fin grid0.N, cc0_transform_7 (grid0.coords t) = ![0, t.val, 0]) t) (Nat.zero_mul _) x⟩
theorem spot8 (hO : Ok m) (t : Fin (cfgM m hO).N) (x : S1x256x512.Idx) : ∃ z : S1x2048x512.Idx, (((cfgM m hO).win 8).blk t).view.emb x = z ∧ At z 0 t x :=
  ⟨_, rfl, at_of ((by decide +kernel : ∀ t : Fin grid0.N, cc0_transform_8 (grid0.coords t) = ![0, t.val, 0]) t) (Nat.zero_mul _) x⟩

/-! ## The kernel's four arrays -/

variable {w p q s b : ℕ → ℕ → ℕ → EReal}
  (k0 : Ent3 (m (c.tc.loc main_arg0)) w) (k1 : Ent3 (m (c.tc.loc main_arg1)) p)
  (k2 : Ent3 (m (c.tc.loc main_arg2)) q) (k3 : Ent3 (m (c.tc.loc main_arg3)) s) (k4 : Ent3 (m (c.tc.loc main_arg4)) b)

include k0 k1 k2 k3 k4

/-- What a grid point leaves. -/
theorem point (hO : Ok m) (t : Fin (cfgM m hO).N) :
    Ent3 ((dats m hO 0 c).after 5 t) (blk (fun _ => grad (own (m (c.tc.loc main_arg5))) s b) t)
    ∧ Ent3 ((dats m hO 0 c).after 6 t) (blk (stepOf w p q (grad (own (m (c.tc.loc main_arg5))) s b)) t)
    ∧ Ent3 ((dats m hO 0 c).after 7 t) (blk (meanOf p (grad (own (m (c.tc.loc main_arg5))) s b)) t)
    ∧ Ent3 ((dats m hO 0 c).after 8 t) (blk (squareOf q (grad (own (m (c.tc.loc main_arg5))) s b)) t) := by
  have b0 : Ent3 (iblk m hO c 0 t) (blk w t) := fun x => by
    obtain ⟨z, e, hz⟩ := spot0 hO t x
    exact (congrArg (m (c.tc.loc main_arg0)) e).trans ((k0 z).trans (blk_of w hz))
  have b1 : Ent3 (iblk m hO c 1 t) (blk p t) := fun x => by
    obtain ⟨z, e, hz⟩ := spot1 hO t x
    exact (congrArg (m (c.tc.loc main_arg1)) e).trans ((k1 z).trans (blk_of p hz))
  have b2 : Ent3 (iblk m hO c 2 t) (blk q t) := fun x => by
    obtain ⟨z, e, hz⟩ := spot2 hO t x
    exact (congrArg (m (c.tc.loc main_arg2)) e).trans ((k2 z).trans (blk_of q hz))
  have b4 : Ent3 (iblk m hO c 4 t) (blk b t) := fun x => by
    obtain ⟨z, e, hz⟩ := spot4 hO t x
    exact (congrArg (m (c.tc.loc main_arg4)) e).trans ((k4 z).trans (blk_of b hz))
  have b3 : Ent3 (iblk m hO c 3 t) (fun _ => blk s t (own (m (c.tc.loc main_arg5)))) := fun x => by
    obtain ⟨z, e, hz⟩ := spot3 (c := c) hO t x
    exact (congrArg (m (c.tc.loc main_arg3)) e).trans ((k3 z).trans (blk_own s hz))
  obtain ⟨g, d, n, v⟩ := block b0 b1 b2 b3 b4
  refine ⟨fun y => (congrFun ((after0_5 m hO c t).trans ?_) y).trans (g y), fun y => (congrFun ((after0_6 m hO c t).trans ?_) y).trans (d y),
    fun y => (congrFun ((after0_7 m hO c t).trans ?_) y).trans (n y), fun y => (congrFun ((after0_8 m hO c t).trans ?_) y).trans (v y)⟩
  all_goals
    unfold outsAt0
    dsimp only
  exacts [(outs ..).1, (outs ..).2.1, (outs ..).2.2.1, (outs ..).2.2.2]

theorem arrays (hO : Ok m) :
    Ent3 (a := 1) (b := 2048) (c := 512) ((dats m hO 0 c).arrAt 5 (cfgM m hO).N) (fun _ => grad (own (m (c.tc.loc main_arg5))) s b)
    ∧ Ent3 (a := 1) (b := 2048) (c := 512) ((dats m hO 0 c).arrAt 6 (cfgM m hO).N) (stepOf w p q (grad (own (m (c.tc.loc main_arg5))) s b))
    ∧ Ent3 (a := 1) (b := 2048) (c := 512) ((dats m hO 0 c).arrAt 7 (cfgM m hO).N) (meanOf p (grad (own (m (c.tc.loc main_arg5))) s b))
    ∧ Ent3 (a := 1) (b := 2048) (c := 512) ((dats m hO 0 c).arrAt 8 (cfgM m hO).N) (squareOf q (grad (own (m (c.tc.loc main_arg5))) s b)) := by
  refine ⟨congrFun ((dats m hO 0 c).arrAt_eq_of_covers 5 (fun i : S1x2048x512.Idx => grad _ s b (i 1).val (i 2).val) (of_decide_eq_true (by sl_kernel_rfl)) fun t _ y => ?_),
    congrFun ((dats m hO 0 c).arrAt_eq_of_covers 6 (fun i : S1x2048x512.Idx => stepOf w p q _ (i 0).val (i 1).val (i 2).val) (of_decide_eq_true (by sl_kernel_rfl)) fun t _ y => ?_),
    congrFun ((dats m hO 0 c).arrAt_eq_of_covers 7 (fun i : S1x2048x512.Idx => meanOf p _ (i 0).val (i 1).val (i 2).val) (of_decide_eq_true (by sl_kernel_rfl)) fun t _ y => ?_),
    congrFun ((dats m hO 0 c).arrAt_eq_of_covers 8 (fun i : S1x2048x512.Idx => squareOf q _ (i 0).val (i 1).val (i 2).val) (of_decide_eq_true (by sl_kernel_rfl)) fun t _ y => ?_)⟩
  · obtain ⟨z, e, hz⟩ := spot5 hO t y
    rw [e]
    exact ((point k0 k1 k2 k3 k4 hO t).1 y).trans (blk_of (fun _ => grad _ s b) hz).symm
  · obtain ⟨z, e, hz⟩ := spot6 hO t y
    rw [e]
    exact ((point k0 k1 k2 k3 k4 hO t).2.1 y).trans (blk_of (stepOf w p q _) hz).symm
  · obtain ⟨z, e, hz⟩ := spot7 hO t y
    rw [e]
    exact ((point k0 k1 k2 k3 k4 hO t).2.2.1 y).trans (blk_of (meanOf p _) hz).symm
  · obtain ⟨z, e, hz⟩ := spot8 hO t y
    rw [e]
    exact ((point k0 k1 k2 k3 k4 hO t).2.2.2 y).trans (blk_of (squareOf q _) hz).symm

omit k0 k1 k2 k3 k4

/-! ## The reference's four arrays -/

section
open Cert.AdamWLruInRefIdeal.Read
variable {x0 x1 x2 : Vec Ideal S1x2048x512 .f32} {x3 : Vec Ideal S4x2048x512 .bf16} {x4 : Vec Ideal S3x2048x512 .bf16} {x5 : IVec S1 32}
  (h0 : Ent3 x0 w) (h1 : Ent3 x1 p) (h2 : Ent3 x2 q) (h3 : Ent3 x3 s) (h4 : Ent3 x4 b) (hk : own x5 < 4)

include h3 hk in
/-- The own part, as the sum over the four of which the others are replaced by zero. -/
theorem ref_own (i : Cert.AdamWLruInRefIdeal.S2048x512.Idx) : val_main_v7 (F := Ideal) x3 x5 i = s (own x5) (i 0).val (i 1).val := by
  rw [val_main_v7_apply, val_main_cst_0_apply]
  rw [show (FloatOps.ofBits .f32 0x00000000#32 : Ideal .f32) = (0 : EReal) from Ideal.ofBits_zero_f32, zero_add]
  refine Eq.trans (Finset.sum_congr rfl fun k _ => ?_) (sum_own (fun k => s k (i 0).val (i 1).val) hk)
  rw [val_main_v6_apply, val_main_call0_v1_apply, val_main_call0_v2_apply, val_main_call0_v0_apply, val_main_cst_apply,
    val_main_v5_apply, val_main_v4_apply, val_main_v1_apply, val_main_v0_apply, val_main_v3_apply]
  have e : IntOp.cmpi .eq (BitVec.ofNat 32 k.val) (val_main_v2 (F := Ideal) x5 (idx_main_v3 (idx_main_call0_v1 (idx_main_v7 i k))))
      = if k.val = own x5 then 1#1 else 0#1 := mask x5 _ k.isLt
  refine (congrArg (fun z => Scalar.select z _ _) e).trans ?_
  by_cases h : k.val = own x5
  · rw [if_pos h, if_pos h]
    exact h3 _
  · rw [if_neg h, if_neg h]
    exact Ideal.ofBits_zero_f32

include h4 in
theorem ref_three (i : Cert.AdamWLruInRefIdeal.S2048x512.Idx) : val_main_v10 (F := Ideal) x4 i
    = b 0 (i 0).val (i 1).val + b 1 (i 0).val (i 1).val + b 2 (i 0).val (i 1).val := by
  rw [val_main_v10_apply, val_main_cst_1_apply]
  rw [show (FloatOps.ofBits .f32 0x00000000#32 : Ideal .f32) = (0 : EReal) from Ideal.ofBits_zero_f32, zero_add, Fin.sum_univ_three]
  exact congrArg₂ (· + ·) (congrArg₂ (· + ·) (h4 _) (h4 _)) (h4 _)

include h3 h4 hk in
theorem ref_g : Ent3 (val_main_v12 (F := Ideal) x3 x4 x5) fun _ => grad (own x5) s b := fun i => by
  rw [val_main_v12_apply, val_main_v8_apply, val_main_v11_apply, ref_own h3 hk, ref_three h4]
  exact grad_eq _ s b _ _

theorem val_m (i : S1x2048x512.Idx) : val_main_v17 (F := Ideal) x1 x3 x4 x5 i = mean (x1 i) (val_main_v12 (F := Ideal) x3 x4 x5 i) := by
  simp only [val_main_v17_apply, val_main_v16_apply, val_main_v15_apply, val_main_v14_apply, val_main_v13_apply]
  rfl
theorem val_v (i : S1x2048x512.Idx) : val_main_v23 (F := Ideal) x2 x3 x4 x5 i = square (x2 i) (val_main_v12 (F := Ideal) x3 x4 x5 i) := by
  simp only [val_main_v23_apply, val_main_v22_apply, val_main_v21_apply, val_main_v20_apply, val_main_v19_apply, val_main_v18_apply]
  rfl

include h1 h3 h4 hk in
theorem ref_m : Ent3 (val_main_v17 (F := Ideal) x1 x3 x4 x5) (meanOf p (grad (own x5) s b)) := fun i => by
  rw [val_m, ref_g h3 h4 hk, h1 i, first i]
  rfl
include h2 h3 h4 hk in
theorem ref_v : Ent3 (val_main_v23 (F := Ideal) x2 x3 x4 x5) (squareOf q (grad (own x5) s b)) := fun i => by
  rw [val_v, ref_g h3 h4 hk, h2 i, first i]
  rfl
include h0 h1 h2 h3 h4 hk in
theorem ref_d : Ent3 (val_main_v36 (F := Ideal) x0 x1 x2 x3 x4 x5) (stepOf w p q (grad (own x5) s b)) := fun i => by
  simp only [val_main_v36_apply, val_main_v35_apply, val_main_v34_apply, val_main_v33_apply, val_main_v32_apply, val_main_v31_apply,
    val_main_v30_apply, val_main_v29_apply, val_main_v28_apply, val_main_v27_apply, val_main_v26_apply, val_main_v25_apply,
    val_main_v24_apply, val_m, val_v]
  rw [ref_g h3 h4 hk, h0 i, h1 i, h2 i, first i]
  rfl
end

end Cert.Proof.AdamWLruIn

end
-- ==== Proof.ValueAdamWRetIn.lean ====
/- THE OPTIMISER'S STEP ON A SHARD OF THE RETENTION'S PROJECTION IN: the kernel applies the formulas of `Shard` block by block of 256 rows;
   which of the device's own four parts it adds to the received ones, a word says. -/
module

public import proofs.«01_k».proof.Proof.Shard
public import proofs.«01_k».proof.Proof.Gen.AdamWRetInIdeal.Frame
public import proofs.«01_k».proof.Proof.Gen.AdamWRetInRefIdeal.Read
public import Idealize.ShloMosaic.Lib.Pipeline.ValueKit
public import Idealize.ShloMosaic.Lib.Tactic
public import Idealize.ShloMosaic.Lib.DynamicIndex
public import Idealize.ShloMosaic.Lib.WordCmp

@[expose] public section

set_option maxRecDepth 16384

noncomputable section

namespace Cert.Proof.AdamWRetIn

open Idealize.ShloMosaic Idealize.ShloMosaic.Tactic Cert.Proof.Shard Cert.AdamWRetInIdeal Cert.AdamWRetInIdeal.Gen

/-! ## A block -/

/-- The three received parts. -/
abbrev part0 (x : Vec Ideal S3x256x1536 .bf16) : Vec Ideal S1x256x1536 .bf16 := View.ld x (Rect.unit (s := S3x256x1536) ![0, 0, 0] S1x256x1536.size inb_S3x256x1536_S1x256x1536_0_0_0)
abbrev part1 (x : Vec Ideal S3x256x1536 .bf16) : Vec Ideal S1x256x1536 .bf16 := View.ld x (Rect.unit (s := S3x256x1536) ![1, 0, 0] S1x256x1536.size inb_S3x256x1536_S1x256x1536_1_0_0)
abbrev part2 (x : Vec Ideal S3x256x1536 .bf16) : Vec Ideal S1x256x1536 .bf16 := View.ld x (Rect.unit (s := S3x256x1536) ![2, 0, 0] S1x256x1536.size inb_S3x256x1536_S1x256x1536_2_0_0)

section
variable (x0 x1 x2 : Vec Ideal S1x256x1536 .f32) (x3 : Vec Ideal S1x256x1536 .bf16) (x4 : Vec Ideal S3x256x1536 .bf16)

/-- The sum of the own part and the received ones, the new moments, and the results. -/
abbrev sums := k0_pay4 (F := Ideal) x3 (part0 x4) (part1 x4) (part2 x4)
abbrev mom := k0_pay5 (F := Ideal) x3 (part0 x4) (part1 x4) (part2 x4) x1
abbrev sq := k0_pay6 (F := Ideal) x3 (part0 x4) (part1 x4) (part2 x4) x2
abbrev resG := k0_pay7 (F := Ideal) x3 (part0 x4) (part1 x4) (part2 x4)
abbrev resD := k0_pay1 (F := Ideal) (mom x1 x3 x4) (sq x2 x3 x4) x0
abbrev resM := k0_pay2 (F := Ideal) (mom x1 x3 x4)
abbrev resV := k0_pay3 (F := Ideal) (sq x2 x3 x4)

variable (c : Dev nD) (i : grid0.Coords)
  (a2 : Memref sig .tc .vmem S1x256x1536 .f32) (h2 : a2.IsWhole) (a3 : Memref sig .tc .vmem S1x256x1536 .f32) (h3 : a3.IsWhole)
  (a4 : Memref sig .tc .vmem S1x256x1536 .f32) (h4 : a4.IsWhole) (a5 : Memref sig .tc .vmem S1x256x1536 .bf16) (h5 : a5.IsWhole)
  (a6 : Memref sig .tc .vmem S3x256x1536 .bf16) (h6 : a6.IsWhole) (a7 : Memref sig .tc .vmem S1x256x1536 .f32) (h7 : a7.IsWhole)
  (a8 : Memref sig .tc .vmem S1x256x1536 .f32) (h8 : a8.IsWhole) (a9 : Memref sig .tc .vmem S1x256x1536 .f32) (h9 : a9.IsWhole)
  (a10 : Memref sig .tc .vmem S1x256x1536 .f32) (h10 : a10.IsWhole) (xt : TbBuf0 (F := Ideal) c tbM0_0)

/-- What a point's run leaves in the four results' buffers. -/
theorem outs : out0_A_5 c i a2 h2 a3 h3 a4 h4 a5 h5 a6 h6 a7 h7 a8 h8 a9 h9 a10 h10 x0 x1 x2 x3 x4 xt = resG x3 x4
    ∧ out0_A_6 c i a2 h2 a3 h3 a4 h4 a5 h5 a6 h6 a7 h7 a8 h8 a9 h9 a10 h10 x0 x1 x2 x3 x4 xt = resD x0 x1 x2 x3 x4
    ∧ out0_A_7 c i a2 h2 a3 h3 a4 h4 a5 h5 a6 h6 a7 h7 a8 h8 a9 h9 a10 h10 x0 x1 x2 x3 x4 xt = resM x1 x3 x4
    ∧ out0_A_8 c i a2 h2 a3 h3 a4 h4 a5 h5 a6 h6 a7 h7 a8 h8 a9 h9 a10 h10 x0 x1 x2 x3 x4 xt = resV x2 x3 x4 := by
  unfold out0_A_5 out0_A_6 out0_A_7 out0_A_8
  refine ⟨(View.read_writes_eq_canon _ _ _ fun _ => cover0_A_5 ..).trans ?_, (View.read_writes_eq_canon _ _ _ fun _ => cover0_A_6 ..).trans ?_,
    (View.read_writes_eq_canon _ _ _ fun _ => cover0_A_7 ..).trans ?_, (View.read_writes_eq_canon _ _ _ fun _ => cover0_A_8 ..).trans ?_⟩
  all_goals
    unfold kernelRun0_A
    dsimp only
    sl_unfold_words
    rw [View.canon_unit_zero zeros]
    simp only [View.readAt_eq_ld, h2.read_unread, h3.read_unread, h4.read_unread, h5.read_unread, h6.read_unread, View.ld_unit_zero (S := S1x256x1536) zeros]
end

theorem block {x0 x1 x2 : Vec Ideal S1x256x1536 .f32} {x3 : Vec Ideal S1x256x1536 .bf16} {x4 : Vec Ideal S3x256x1536 .bf16} {w p q s b : ℕ → ℕ → ℕ → EReal} {k : ℕ}
    (h0 : Ent3 x0 w) (h1 : Ent3 x1 p) (h2 : Ent3 x2 q) (h3 : Ent3 x3 fun _ => s k) (h4 : Ent3 x4 b) :
    Ent3 (resG x3 x4) (fun _ => grad k s b) ∧ Ent3 (resD x0 x1 x2 x3 x4) (stepOf w p q (grad k s b))
      ∧ Ent3 (resM x1 x3 x4) (meanOf p (grad k s b)) ∧ Ent3 (resV x2 x3 x4) (squareOf q (grad k s b)) := by
  have g : Ent (sums x3 x4) (grad k s b) := sum_is shapeCasts_S1x256x1536_S256x1536 h3 (part_is h4 fun _ => ⟨rfl, rfl, rfl⟩)
    (part_is h4 fun _ => ⟨rfl, rfl, rfl⟩) (part_is h4 fun _ => ⟨rfl, rfl, rfl⟩)
  have e1 : Ent (mom x1 x3 x4) (meanOf p (grad k s b) 0) := mean_is shapeCasts_S1x256x1536_S256x1536 h1 g
  have e2 : Ent (sq x2 x3 x4) (squareOf q (grad k s b) 0) := square_is shapeCasts_S1x256x1536_S256x1536 h2 g
  exact ⟨up_is shapeCasts_S256x1536_S1x256x1536 g, up_is shapeCasts_S256x1536_S1x256x1536 (step_is shapeCasts_S1x256x1536_S256x1536 h0 e1 e2),
    up_is shapeCasts_S256x1536_S1x256x1536 e1, up_is shapeCasts_S256x1536_S1x256x1536 e2⟩

/-! ## Where the windows' blocks put an entry -/

variable {m : (ℓ : Loc nD τ sig) → Buf (Elt Ideal) ℓ} {c : Dev nD}

theorem pos3 (hO : Ok m) (t : Fin (cfgM m hO).N) : ((cfgM m hO).win 3).index t = ![own (m (c.tc.loc main_arg5)), t.val, 0] := by
  obtain rfl : c = 0 := Subsingleton.elim _ _
  have ht : (BitVec.ofNat 32 ((grid0.coords t) 0).val).toNat = t.val :=
    (by decide +kernel : ∀ t : Fin grid0.N, (BitVec.ofNat 32 ((grid0.coords t) 0).val).toNat = t.val) t
  have hw : (Pipeline.Prefetch.Contents.at (tbl m) 0 (Rect.unit (s := S1) ![0] S1.size inb_S1_S1_0) numel1_S1 : BitVec 32).toNat
      = own (m (((0 : Dev nD).tc : Thread nD τ).loc main_arg5)) := own_eq (m (((0 : Dev nD).tc : Thread nD τ).loc main_arg5)) _
  show ![_, _, _] = _
  rw [← hw, ← ht]
  rfl
theorem spot0 (hO : Ok m) (t : Fin (cfgM m hO).N) (x : S1x256x1536.Idx) : ∃ z : S1x2048x1536.Idx, (((cfgM m hO).win 0).blk t).view.emb x = z ∧ At z 0 t x :=
  ⟨_, rfl, at_of ((by decide +kernel : ∀ t : Fin grid0.N, cc0_transform_0 (grid0.coords t) = ![0, t.val, 0]) t) (Nat.zero_mul _) x⟩
theorem spot1 (hO : Ok m) (t : Fin (cfgM m hO).N) (x : S1x256x1536.Idx) : ∃ z : S1x2048x1536.Idx, (((cfgM m hO).win 1).blk t).view.emb x = z ∧ At z 0 t x :=
  ⟨_, rfl, at_of ((by decide +kernel : ∀ t : Fin grid0.N, cc0_transform_1 (grid0.coords t) = ![0, t.val, 0]) t) (Nat.zero_mul _) x⟩
theorem spot2 (hO : Ok m) (t : Fin (cfgM m hO).N) (x : S1x256x1536.Idx) : ∃ z : S1x2048x1536.Idx, (((cfgM m hO).win 2).blk t).view.emb x = z ∧ At z 0 t x :=
  ⟨_, rfl, at_of ((by decide +kernel : ∀ t : Fin grid0.N, cc0_transform_2 (grid0.coords t) = ![0, t.val, 0]) t) (Nat.zero_mul _) x⟩
theorem spot3 (hO : Ok m) (t : Fin (cfgM m hO).N) (x : S1x256x1536.Idx) : ∃ z : S4x2048x1536.Idx, (((cfgM m hO).win 3).blk t).view.emb x = z ∧ At z (own (m (c.tc.loc main_arg5))) t x :=
  ⟨_, rfl, at_of (pos3 hO t) (Nat.mul_one _) x⟩
theorem spot4 (hO : Ok m) (t : Fin (cfgM m hO).N) (x : S3x256x1536.Idx) : ∃ z : S3x2048x1536.Idx, (((cfgM m hO).win 4).blk t).view.emb x = z ∧ At z 0 t x :=
  ⟨_, rfl, at_of ((by decide +kernel : ∀ t : Fin grid0.N, cc0_transform_4 (grid0.coords t) = ![0, t.val, 0]) t) (Nat.zero_mul _) x⟩
theorem spot5 (hO : Ok m) (t : Fin (cfgM m hO).N) (x : S1x256x1536.Idx) : ∃ z : S1x2048x1536.Idx, (((cfgM m hO).win 5).blk t).view.emb x = z ∧ At z 0 t x :=
  ⟨_, rfl, at_of ((by decide +kernel : ∀ t : Fin grid0.N, cc0_transform_5 (grid0.coords t) = ![0, t.val, 0]) t) (Nat.zero_mul _) x⟩
theorem spot6 (hO : Ok m) (t : Fin (cfgM m hO).N) (x : S1x256x1536.Idx) : ∃ z : S1x2048x1536.Idx, (((cfgM m hO).win 6).blk t).view.emb x = z ∧ At z 0 t x :=
  ⟨_, rfl, at_of ((by decide +kernel : ∀ t : Fin grid0.N, cc0_transform_6 (grid0.coords t) = ![0, t.val, 0]) t) (Nat.zero_mul _) x⟩
theorem spot7 (hO : Ok m) (t : Fin (cfgM m hO).N) (x : S1x256x1536.Idx) : ∃ z : S1x2048x1536.Idx, (((cfgM m hO).win 7).blk t).view.emb x = z ∧ At z 0 t x :=
  ⟨_, rfl, at_of ((by decide +kernel : ∀ t : Fin grid0.N, cc0_transform_7 (grid0.coords t) = ![0, t.val, 0]) t) (Nat.zero_mul _) x⟩
theorem spot8 (hO : Ok m) (t : Fin (cfgM m hO).N) (x : S1x256x1536.Idx) : ∃ z : S1x2048x1536.Idx, (((cfgM m hO).win 8).blk t).view.emb x = z ∧ At z 0 t x :=
  ⟨_, rfl, at_of ((by decide +kernel : ∀ t : Fin grid0.N, cc0_transform_8 (grid0.coords t) = ![0, t.val, 0]) t) (Nat.zero_mul _) x⟩

/-! ## The kernel's four arrays -/

variable {w p q s b : ℕ → ℕ → ℕ → EReal}
  (k0 : Ent3 (m (c.tc.loc main_arg0)) w) (k1 : Ent3 (m (c.tc.loc main_arg1)) p)
  (k2 : Ent3 (m (c.tc.loc main_arg2)) q) (k3 : Ent3 (m (c.tc.loc main_arg3)) s) (k4 : Ent3 (m (c.tc.loc main_arg4)) b)

include k0 k1 k2 k3 k4

/-- What a grid point leaves. -/
theorem point (hO : Ok m) (t : Fin (cfgM m hO).N) :
    Ent3 ((dats m hO 0 c).after 5 t) (blk (fun _ => grad (own (m (c.tc.loc main_arg5))) s b) t)
    ∧ Ent3 ((dats m hO 0 c).after 6 t) (blk (stepOf w p q (grad (own (m (c.tc.loc main_arg5))) s b)) t)
    ∧ Ent3 ((dats m hO 0 c).after 7 t) (blk (meanOf p (grad (own (m (c.tc.loc main_arg5))) s b)) t)
    ∧ Ent3 ((dats m hO 0 c).after 8 t) (blk (squareOf q (grad (own (m (c.tc.loc main_arg5))) s b)) t) := by
  have b0 : Ent3 (iblk m hO c 0 t) (blk w t) := fun x => by
    obtain ⟨z, e, hz⟩ := spot0 hO t x
    exact (congrArg (m (c.tc.loc main_arg0)) e).trans ((k0 z).trans (blk_of w hz))
  have b1 : Ent3 (iblk m hO c 1 t) (blk p t) := fun x => by
    obtain ⟨z, e, hz⟩ := spot1 hO t x
    exact (congrArg (m (c.tc.loc main_arg1)) e).trans ((k1 z).trans (blk_of p hz))
  have b2 : Ent3 (iblk m hO c 2 t) (blk q t) := fun x => by
    obtain ⟨z, e, hz⟩ := spot2 hO t x
    exact (congrArg (m (c.tc.loc main_arg2)) e).trans ((k2 z).trans (blk_of q hz))
  have b4 : Ent3 (iblk m hO c 4 t) (blk b t) := fun x => by
    obtain ⟨z, e, hz⟩ := spot4 hO t x
    exact (congrArg (m (c.tc.loc main_arg4)) e).trans ((k4 z).trans (blk_of b hz))
  have b3 : Ent3 (iblk m hO c 3 t) (fun _ => blk s t (own (m (c.tc.loc main_arg5)))) := fun x => by
    obtain ⟨z, e, hz⟩ := spot3 (c := c) hO t x
    exact (congrArg (m (c.tc.loc main_arg3)) e).trans ((k3 z).trans (blk_own s hz))
  obtain ⟨g, d, n, v⟩ := block b0 b1 b2 b3 b4
  refine ⟨fun y => (congrFun ((after0_5 m hO c t).trans ?_) y).trans (g y), fun y => (congrFun ((after0_6 m hO c t).trans ?_) y).trans (d y),
    fun y => (congrFun ((after0_7 m hO c t).trans ?_) y).trans (n y), fun y => (congrFun ((after0_8 m hO c t).trans ?_) y).trans (v y)⟩
  all_goals
    unfold outsAt0
    dsimp only
  exacts [(outs ..).1, (outs ..).2.1, (outs ..).2.2.1, (outs ..).2.2.2]

theorem arrays (hO : Ok m) :
    Ent3 (a := 1) (b := 2048) (c := 1536) ((dats m hO 0 c).arrAt 5 (cfgM m hO).N) (fun _ => grad (own (m (c.tc.loc main_arg5))) s b)
    ∧ Ent3 (a := 1) (b := 2048) (c := 1536) ((dats m hO 0 c).arrAt 6 (cfgM m hO).N) (stepOf w p q (grad (own (m (c.tc.loc main_arg5))) s b))
    ∧ Ent3 (a := 1) (b := 2048) (c := 1536) ((dats m hO 0 c).arrAt 7 (cfgM m hO).N) (meanOf p (grad (own (m (c.tc.loc main_arg5))) s b))
    ∧ Ent3 (a := 1) (b := 2048) (c := 1536) ((dats m hO 0 c).arrAt 8 (cfgM m hO).N) (squareOf q (grad (own (m (c.tc.loc main_arg5))) s b)) := by
  refine ⟨congrFun ((dats m hO 0 c).arrAt_eq_of_covers 5 (fun i : S1x2048x1536.Idx => grad _ s b (i 1).val (i 2).val) (of_decide_eq_true (by sl_kernel_rfl)) fun t _ y => ?_),
    congrFun ((dats m hO 0 c).arrAt_eq_of_covers 6 (fun i : S1x2048x1536.Idx => stepOf w p q _ (i 0).val (i 1).val (i 2).val) (of_decide_eq_true (by sl_kernel_rfl)) fun t _ y => ?_),
    congrFun ((dats m hO 0 c).arrAt_eq_of_covers 7 (fun i : S1x2048x1536.Idx => meanOf p _ (i 0).val (i 1).val (i 2).val) (of_decide_eq_true (by sl_kernel_rfl)) fun t _ y => ?_),
    congrFun ((dats m hO 0 c).arrAt_eq_of_covers 8 (fun i : S1x2048x1536.Idx => squareOf q _ (i 0).val (i 1).val (i 2).val) (of_decide_eq_true (by sl_kernel_rfl)) fun t _ y => ?_)⟩
  · obtain ⟨z, e, hz⟩ := spot5 hO t y
    rw [e]
    exact ((point k0 k1 k2 k3 k4 hO t).1 y).trans (blk_of (fun _ => grad _ s b) hz).symm
  · obtain ⟨z, e, hz⟩ := spot6 hO t y
    rw [e]
    exact ((point k0 k1 k2 k3 k4 hO t).2.1 y).trans (blk_of (stepOf w p q _) hz).symm
  · obtain ⟨z, e, hz⟩ := spot7 hO t y
    rw [e]
    exact ((point k0 k1 k2 k3 k4 hO t).2.2.1 y).trans (blk_of (meanOf p _) hz).symm
  · obtain ⟨z, e, hz⟩ := spot8 hO t y
    rw [e]
    exact ((point k0 k1 k2 k3 k4 hO t).2.2.2 y).trans (blk_of (squareOf q _) hz).symm

omit k0 k1 k2 k3 k4

/-! ## The reference's four arrays -/

section
open Cert.AdamWRetInRefIdeal.Read
variable {x0 x1 x2 : Vec Ideal S1x2048x1536 .f32} {x3 : Vec Ideal S4x2048x1536 .bf16} {x4 : Vec Ideal S3x2048x1536 .bf16} {x5 : IVec S1 32}
  (h0 : Ent3 x0 w) (h1 : Ent3 x1 p) (h2 : Ent3 x2 q) (h3 : Ent3 x3 s) (h4 : Ent3 x4 b) (hk : own x5 < 4)

include h3 hk in
/-- The own part, as the sum over the four of which the others are replaced by zero. -/
theorem ref_own (i : Cert.AdamWRetInRefIdeal.S2048x1536.Idx) : val_main_v7 (F := Ideal) x3 x5 i = s (own x5) (i 0).val (i 1).val := by
  rw [val_main_v7_apply, val_main_cst_0_apply]
  rw [show (FloatOps.ofBits .f32 0x00000000#32 : Ideal .f32) = (0 : EReal) from Ideal.ofBits_zero_f32, zero_add]
  refine Eq.trans (Finset.sum_congr rfl fun k _ => ?_) (sum_own (fun k => s k (i 0).val (i 1).val) hk)
  rw [val_main_v6_apply, val_main_call0_v1_apply, val_main_call0_v2_apply, val_main_call0_v0_apply, val_main_cst_apply,
    val_main_v5_apply, val_main_v4_apply, val_main_v1_apply, val_main_v0_apply, val_main_v3_apply]
  have e : IntOp.cmpi .eq (BitVec.ofNat 32 k.val) (val_main_v2 (F := Ideal) x5 (idx_main_v3 (idx_main_call0_v1 (idx_main_v7 i k))))
      = if k.val = own x5 then 1#1 else 0#1 := mask x5 _ k.isLt
  refine (congrArg (fun z => Scalar.select z _ _) e).trans ?_
  by_cases h : k.val = own x5
  · rw [if_pos h, if_pos h]
    exact h3 _
  · rw [if_neg h, if_neg h]
    exact Ideal.ofBits_zero_f32

include h4 in
theorem ref_three (i : Cert.AdamWRetInRefIdeal.S2048x1536.Idx) : val_main_v10 (F := Ideal) x4 i
    = b 0 (i 0).val (i 1).val + b 1 (i 0).val (i 1).val + b 2 (i 0).val (i 1).val := by
  rw [val_main_v10_apply, val_main_cst_1_apply]
  rw [show (FloatOps.ofBits .f32 0x00000000#32 : Ideal .f32) = (0 : EReal) from Ideal.ofBits_zero_f32, zero_add, Fin.sum_univ_three]
  exact congrArg₂ (· + ·) (congrArg₂ (· + ·) (h4 _) (h4 _)) (h4 _)

include h3 h4 hk in
theorem ref_g : Ent3 (val_main_v12 (F := Ideal) x3 x4 x5) fun _ => grad (own x5) s b := fun i => by
  rw [val_main_v12_apply, val_main_v8_apply, val_main_v11_apply, ref_own h3 hk, ref_three h4]
  exact grad_eq _ s b _ _

theorem val_m (i : S1x2048x1536.Idx) : val_main_v17 (F := Ideal) x1 x3 x4 x5 i = mean (x1 i) (val_main_v12 (F := Ideal) x3 x4 x5 i) := by
  simp only [val_main_v17_apply, val_main_v16_apply, val_main_v15_apply, val_main_v14_apply, val_main_v13_apply]
  rfl
theorem val_v (i : S1x2048x1536.Idx) : val_main_v23 (F := Ideal) x2 x3 x4 x5 i = square (x2 i) (val_main_v12 (F := Ideal) x3 x4 x5 i) := by
  simp only [val_main_v23_apply, val_main_v22_apply, val_main_v21_apply, val_main_v20_apply, val_main_v19_apply, val_main_v18_apply]
  rfl

include h1 h3 h4 hk in
theorem ref_m : Ent3 (val_main_v17 (F := Ideal) x1 x3 x4 x5) (meanOf p (grad (own x5) s b)) := fun i => by
  rw [val_m, ref_g h3 h4 hk, h1 i, first i]
  rfl
include h2 h3 h4 hk in
theorem ref_v : Ent3 (val_main_v23 (F := Ideal) x2 x3 x4 x5) (squareOf q (grad (own x5) s b)) := fun i => by
  rw [val_v, ref_g h3 h4 hk, h2 i, first i]
  rfl
include h0 h1 h2 h3 h4 hk in
theorem ref_d : Ent3 (val_main_v36 (F := Ideal) x0 x1 x2 x3 x4 x5) (stepOf w p q (grad (own x5) s b)) := fun i => by
  simp only [val_main_v36_apply, val_main_v35_apply, val_main_v34_apply, val_main_v33_apply, val_main_v32_apply, val_main_v31_apply,
    val_main_v30_apply, val_main_v29_apply, val_main_v28_apply, val_main_v27_apply, val_main_v26_apply, val_main_v25_apply,
    val_main_v24_apply, val_m, val_v]
  rw [ref_g h3 h4 hk, h0 i, h1 i, h2 i, first i]
  rfl
end

end Cert.Proof.AdamWRetIn

end
-- ==== Proof.ValueAdamWGdnIn.lean ====
/- THE OPTIMISER'S STEP ON A SHARD OF THE DELTA RULE'S PROJECTION IN: the kernel applies the formulas of `Shard` block by block of 256 rows;
   which of the device's own four parts it adds to the received ones, a word says. -/
module

public import proofs.«01_k».proof.Proof.Shard
public import proofs.«01_k».proof.Proof.Gen.AdamWGdnInIdeal.Frame
public import proofs.«01_k».proof.Proof.Gen.AdamWGdnInRefIdeal.Read
public import Idealize.ShloMosaic.Lib.Pipeline.ValueKit
public import Idealize.ShloMosaic.Lib.Tactic
public import Idealize.ShloMosaic.Lib.DynamicIndex
public import Idealize.ShloMosaic.Lib.WordCmp

@[expose] public section

set_option maxRecDepth 16384

noncomputable section

namespace Cert.Proof.AdamWGdnIn

open Idealize.ShloMosaic Idealize.ShloMosaic.Tactic Cert.Proof.Shard Cert.AdamWGdnInIdeal Cert.AdamWGdnInIdeal.Gen

/-! ## A block -/

/-- The three received parts. -/
abbrev part0 (x : Vec Ideal S3x256x1028 .bf16) : Vec Ideal S1x256x1028 .bf16 := View.ld x (Rect.unit (s := S3x256x1028) ![0, 0, 0] S1x256x1028.size inb_S3x256x1028_S1x256x1028_0_0_0)
abbrev part1 (x : Vec Ideal S3x256x1028 .bf16) : Vec Ideal S1x256x1028 .bf16 := View.ld x (Rect.unit (s := S3x256x1028) ![1, 0, 0] S1x256x1028.size inb_S3x256x1028_S1x256x1028_1_0_0)
abbrev part2 (x : Vec Ideal S3x256x1028 .bf16) : Vec Ideal S1x256x1028 .bf16 := View.ld x (Rect.unit (s := S3x256x1028) ![2, 0, 0] S1x256x1028.size inb_S3x256x1028_S1x256x1028_2_0_0)

section
variable (x0 x1 x2 : Vec Ideal S1x256x1028 .f32) (x3 : Vec Ideal S1x256x1028 .bf16) (x4 : Vec Ideal S3x256x1028 .bf16)

/-- The sum of the own part and the received ones, the new moments, and the results. -/
abbrev sums := k0_pay4 (F := Ideal) x3 (part0 x4) (part1 x4) (part2 x4)
abbrev mom := k0_pay5 (F := Ideal) x3 (part0 x4) (part1 x4) (part2 x4) x1
abbrev sq := k0_pay6 (F := Ideal) x3 (part0 x4) (part1 x4) (part2 x4) x2
abbrev resG := k0_pay7 (F := Ideal) x3 (part0 x4) (part1 x4) (part2 x4)
abbrev resD := k0_pay1 (F := Ideal) (mom x1 x3 x4) (sq x2 x3 x4) x0
abbrev resM := k0_pay2 (F := Ideal) (mom x1 x3 x4)
abbrev resV := k0_pay3 (F := Ideal) (sq x2 x3 x4)

variable (c : Dev nD) (i : grid0.Coords)
  (a2 : Memref sig .tc .vmem S1x256x1028 .f32) (h2 : a2.IsWhole) (a3 : Memref sig .tc .vmem S1x256x1028 .f32) (h3 : a3.IsWhole)
  (a4 : Memref sig .tc .vmem S1x256x1028 .f32) (h4 : a4.IsWhole) (a5 : Memref sig .tc .vmem S1x256x1028 .bf16) (h5 : a5.IsWhole)
  (a6 : Memref sig .tc .vmem S3x256x1028 .bf16) (h6 : a6.IsWhole) (a7 : Memref sig .tc .vmem S1x256x1028 .f32) (h7 : a7.IsWhole)
  (a8 : Memref sig .tc .vmem S1x256x1028 .f32) (h8 : a8.IsWhole) (a9 : Memref sig .tc .vmem S1x256x1028 .f32) (h9 : a9.IsWhole)
  (a10 : Memref sig .tc .vmem S1x256x1028 .f32) (h10 : a10.IsWhole) (xt : TbBuf0 (F := Ideal) c tbM0_0)

/-- What a point's run leaves in the four results' buffers. -/
theorem outs : out0_A_5 c i a2 h2 a3 h3 a4 h4 a5 h5 a6 h6 a7 h7 a8 h8 a9 h9 a10 h10 x0 x1 x2 x3 x4 xt = resG x3 x4
    ∧ out0_A_6 c i a2 h2 a3 h3 a4 h4 a5 h5 a6 h6 a7 h7 a8 h8 a9 h9 a10 h10 x0 x1 x2 x3 x4 xt = resD x0 x1 x2 x3 x4
    ∧ out0_A_7 c i a2 h2 a3 h3 a4 h4 a5 h5 a6 h6 a7 h7 a8 h8 a9 h9 a10 h10 x0 x1 x2 x3 x4 xt = resM x1 x3 x4
    ∧ out0_A_8 c i a2 h2 a3 h3 a4 h4 a5 h5 a6 h6 a7 h7 a8 h8 a9 h9 a10 h10 x0 x1 x2 x3 x4 xt = resV x2 x3 x4 := by
  unfold out0_A_5 out0_A_6 out0_A_7 out0_A_8
  refine ⟨(View.read_writes_eq_canon _ _ _ fun _ => cover0_A_5 ..).trans ?_, (View.read_writes_eq_canon _ _ _ fun _ => cover0_A_6 ..).trans ?_,
    (View.read_writes_eq_canon _ _ _ fun _ => cover0_A_7 ..).trans ?_, (View.read_writes_eq_canon _ _ _ fun _ => cover0_A_8 ..).trans ?_⟩
  all_goals
    unfold kernelRun0_A
    dsimp only
    sl_unfold_words
    rw [View.canon_unit_zero zeros]
    simp only [View.readAt_eq_ld, h2.read_unread, h3.read_unread, h4.read_unread, h5.read_unread, h6.read_unread, View.ld_unit_zero (S := S1x256x1028) zeros]
end

theorem block {x0 x1 x2 : Vec Ideal S1x256x1028 .f32} {x3 : Vec Ideal S1x256x1028 .bf16} {x4 : Vec Ideal S3x256x1028 .bf16} {w p q s b : ℕ → ℕ → ℕ → EReal} {k : ℕ}
    (h0 : Ent3 x0 w) (h1 : Ent3 x1 p) (h2 : Ent3 x2 q) (h3 : Ent3 x3 fun _ => s k) (h4 : Ent3 x4 b) :
    Ent3 (resG x3 x4) (fun _ => grad k s b) ∧ Ent3 (resD x0 x1 x2 x3 x4) (stepOf w p q (grad k s b))
      ∧ Ent3 (resM x1 x3 x4) (meanOf p (grad k s b)) ∧ Ent3 (resV x2 x3 x4) (squareOf q (grad k s b)) := by
  have g : Ent (sums x3 x4) (grad k s b) := sum_is shapeCasts_S1x256x1028_S256x1028 h3 (part_is h4 fun _ => ⟨rfl, rfl, rfl⟩)
    (part_is h4 fun _ => ⟨rfl, rfl, rfl⟩) (part_is h4 fun _ => ⟨rfl, rfl, rfl⟩)
  have e1 : Ent (mom x1 x3 x4) (meanOf p (grad k s b) 0) := mean_is shapeCasts_S1x256x1028_S256x1028 h1 g
  have e2 : Ent (sq x2 x3 x4) (squareOf q (grad k s b) 0) := square_is shapeCasts_S1x256x1028_S256x1028 h2 g
  exact ⟨up_is shapeCasts_S256x1028_S1x256x1028 g, up_is shapeCasts_S256x1028_S1x256x1028 (step_is shapeCasts_S1x256x1028_S256x1028 h0 e1 e2),
    up_is shapeCasts_S256x1028_S1x256x1028 e1, up_is shapeCasts_S256x1028_S1x256x1028 e2⟩

/-! ## Where the windows' blocks put an entry -/

variable {m : (ℓ : Loc nD τ sig) → Buf (Elt Ideal) ℓ} {c : Dev nD}

theorem pos3 (hO : Ok m) (t : Fin (cfgM m hO).N) : ((cfgM m hO).win 3).index t = ![own (m (c.tc.loc main_arg5)), t.val, 0] := by
  obtain rfl : c = 0 := Subsingleton.elim _ _
  have ht : (BitVec.ofNat 32 ((grid0.coords t) 0).val).toNat = t.val :=
    (by decide +kernel : ∀ t : Fin grid0.N, (BitVec.ofNat 32 ((grid0.coords t) 0).val).toNat = t.val) t
  have hw : (Pipeline.Prefetch.Contents.at (tbl m) 0 (Rect.unit (s := S1) ![0] S1.size inb_S1_S1_0) numel1_S1 : BitVec 32).toNat
      = own (m (((0 : Dev nD).tc : Thread nD τ).loc main_arg5)) := own_eq (m (((0 : Dev nD).tc : Thread nD τ).loc main_arg5)) _
  show ![_, _, _] = _
  rw [← hw, ← ht]
  rfl
theorem spot0 (hO : Ok m) (t : Fin (cfgM m hO).N) (x : S1x256x1028.Idx) : ∃ z : S1x2048x1028.Idx, (((cfgM m hO).win 0).blk t).view.emb x = z ∧ At z 0 t x :=
  ⟨_, rfl, at_of ((by decide +kernel : ∀ t : Fin grid0.N, cc0_transform_0 (grid0.coords t) = ![0, t.val, 0]) t) (Nat.zero_mul _) x⟩
theorem spot1 (hO : Ok m) (t : Fin (cfgM m hO).N) (x : S1x256x1028.Idx) : ∃ z : S1x2048x1028.Idx, (((cfgM m hO).win 1).blk t).view.emb x = z ∧ At z 0 t x :=
  ⟨_, rfl, at_of ((by decide +kernel : ∀ t : Fin grid0.N, cc0_transform_1 (grid0.coords t) = ![0, t.val, 0]) t) (Nat.zero_mul _) x⟩
theorem spot2 (hO : Ok m) (t : Fin (cfgM m hO).N) (x : S1x256x1028.Idx) : ∃ z : S1x2048x1028.Idx, (((cfgM m hO).win 2).blk t).view.emb x = z ∧ At z 0 t x :=
  ⟨_, rfl, at_of ((by decide +kernel : ∀ t : Fin grid0.N, cc0_transform_2 (grid0.coords t) = ![0, t.val, 0]) t) (Nat.zero_mul _) x⟩
theorem spot3 (hO : Ok m) (t : Fin (cfgM m hO).N) (x : S1x256x1028.Idx) : ∃ z : S4x2048x1028.Idx, (((cfgM m hO).win 3).blk t).view.emb x = z ∧ At z (own (m (c.tc.loc main_arg5))) t x :=
  ⟨_, rfl, at_of (pos3 hO t) (Nat.mul_one _) x⟩
theorem spot4 (hO : Ok m) (t : Fin (cfgM m hO).N) (x : S3x256x1028.Idx) : ∃ z : S3x2048x1028.Idx, (((cfgM m hO).win 4).blk t).view.emb x = z ∧ At z 0 t x :=
  ⟨_, rfl, at_of ((by decide +kernel : ∀ t : Fin grid0.N, cc0_transform_4 (grid0.coords t) = ![0, t.val, 0]) t) (Nat.zero_mul _) x⟩
theorem spot5 (hO : Ok m) (t : Fin (cfgM m hO).N) (x : S1x256x1028.Idx) : ∃ z : S1x2048x1028.Idx, (((cfgM m hO).win 5).blk t).view.emb x = z ∧ At z 0 t x :=
  ⟨_, rfl, at_of ((by decide +kernel : ∀ t : Fin grid0.N, cc0_transform_5 (grid0.coords t) = ![0, t.val, 0]) t) (Nat.zero_mul _) x⟩
theorem spot6 (hO : Ok m) (t : Fin (cfgM m hO).N) (x : S1x256x1028.Idx) : ∃ z : S1x2048x1028.Idx, (((cfgM m hO).win 6).blk t).view.emb x = z ∧ At z 0 t x :=
  ⟨_, rfl, at_of ((by decide +kernel : ∀ t : Fin grid0.N, cc0_transform_6 (grid0.coords t) = ![0, t.val, 0]) t) (Nat.zero_mul _) x⟩
theorem spot7 (hO : Ok m) (t : Fin (cfgM m hO).N) (x : S1x256x1028.Idx) : ∃ z : S1x2048x1028.Idx, (((cfgM m hO).win 7).blk t).view.emb x = z ∧ At z 0 t x :=
  ⟨_, rfl, at_of ((by decide +kernel : ∀ t : Fin grid0.N, cc0_transform_7 (grid0.coords t) = ![0, t.val, 0]) t) (Nat.zero_mul _) x⟩
theorem spot8 (hO : Ok m) (t : Fin (cfgM m hO).N) (x : S1x256x1028.Idx) : ∃ z : S1x2048x1028.Idx, (((cfgM m hO).win 8).blk t).view.emb x = z ∧ At z 0 t x :=
  ⟨_, rfl, at_of ((by decide +kernel : ∀ t : Fin grid0.N, cc0_transform_8 (grid0.coords t) = ![0, t.val, 0]) t) (Nat.zero_mul _) x⟩

/-! ## The kernel's four arrays -/

variable {w p q s b : ℕ → ℕ → ℕ → EReal}
  (k0 : Ent3 (m (c.tc.loc main_arg0)) w) (k1 : Ent3 (m (c.tc.loc main_arg1)) p)
  (k2 : Ent3 (m (c.tc.loc main_arg2)) q) (k3 : Ent3 (m (c.tc.loc main_arg3)) s) (k4 : Ent3 (m (c.tc.loc main_arg4)) b)

include k0 k1 k2 k3 k4

/-- What a grid point leaves. -/
theorem point (hO : Ok m) (t : Fin (cfgM m hO).N) :
    Ent3 ((dats m hO 0 c).after 5 t) (blk (fun _ => grad (own (m (c.tc.loc main_arg5))) s b) t)
    ∧ Ent3 ((dats m hO 0 c).after 6 t) (blk (stepOf w p q (grad (own (m (c.tc.loc main_arg5))) s b)) t)
    ∧ Ent3 ((dats m hO 0 c).after 7 t) (blk (meanOf p (grad (own (m (c.tc.loc main_arg5))) s b)) t)
    ∧ Ent3 ((dats m hO 0 c).after 8 t) (blk (squareOf q (grad (own (m (c.tc.loc main_arg5))) s b)) t) := by
  have b0 : Ent3 (iblk m hO c 0 t) (blk w t) := fun x => by
    obtain ⟨z, e, hz⟩ := spot0 hO t x
    exact (congrArg (m (c.tc.loc main_arg0)) e).trans ((k0 z).trans (blk_of w hz))
  have b1 : Ent3 (iblk m hO c 1 t) (blk p t) := fun x => by
    obtain ⟨z, e, hz⟩ := spot1 hO t x
    exact (congrArg (m (c.tc.loc main_arg1)) e).trans ((k1 z).trans (blk_of p hz))
  have b2 : Ent3 (iblk m hO c 2 t) (blk q t) := fun x => by
    obtain ⟨z, e, hz⟩ := spot2 hO t x
    exact (congrArg (m (c.tc.loc main_arg2)) e).trans ((k2 z).trans (blk_of q hz))
  have b4 : Ent3 (iblk m hO c 4 t) (blk b t) := fun x => by
    obtain ⟨z, e, hz⟩ := spot4 hO t x
    exact (congrArg (m (c.tc.loc main_arg4)) e).trans ((k4 z).trans (blk_of b hz))
  have b3 : Ent3 (iblk m hO c 3 t) (fun _ => blk s t (own (m (c.tc.loc main_arg5)))) := fun x => by
    obtain ⟨z, e, hz⟩ := spot3 (c := c) hO t x
    exact (congrArg (m (c.tc.loc main_arg3)) e).trans ((k3 z).trans (blk_own s hz))
  obtain ⟨g, d, n, v⟩ := block b0 b1 b2 b3 b4
  refine ⟨fun y => (congrFun ((after0_5 m hO c t).trans ?_) y).trans (g y), fun y => (congrFun ((after0_6 m hO c t).trans ?_) y).trans (d y),
    fun y => (congrFun ((after0_7 m hO c t).trans ?_) y).trans (n y), fun y => (congrFun ((after0_8 m hO c t).trans ?_) y).trans (v y)⟩
  all_goals
    unfold outsAt0
    dsimp only
  exacts [(outs ..).1, (outs ..).2.1, (outs ..).2.2.1, (outs ..).2.2.2]

theorem arrays (hO : Ok m) :
    Ent3 (a := 1) (b := 2048) (c := 1028) ((dats m hO 0 c).arrAt 5 (cfgM m hO).N) (fun _ => grad (own (m (c.tc.loc main_arg5))) s b)
    ∧ Ent3 (a := 1) (b := 2048) (c := 1028) ((dats m hO 0 c).arrAt 6 (cfgM m hO).N) (stepOf w p q (grad (own (m (c.tc.loc main_arg5))) s b))
    ∧ Ent3 (a := 1) (b := 2048) (c := 1028) ((dats m hO 0 c).arrAt 7 (cfgM m hO).N) (meanOf p (grad (own (m (c.tc.loc main_arg5))) s b))
    ∧ Ent3 (a := 1) (b := 2048) (c := 1028) ((dats m hO 0 c).arrAt 8 (cfgM m hO).N) (squareOf q (grad (own (m (c.tc.loc main_arg5))) s b)) := by
  refine ⟨congrFun ((dats m hO 0 c).arrAt_eq_of_covers 5 (fun i : S1x2048x1028.Idx => grad _ s b (i 1).val (i 2).val) (of_decide_eq_true (by sl_kernel_rfl)) fun t _ y => ?_),
    congrFun ((dats m hO 0 c).arrAt_eq_of_covers 6 (fun i : S1x2048x1028.Idx => stepOf w p q _ (i 0).val (i 1).val (i 2).val) (of_decide_eq_true (by sl_kernel_rfl)) fun t _ y => ?_),
    congrFun ((dats m hO 0 c).arrAt_eq_of_covers 7 (fun i : S1x2048x1028.Idx => meanOf p _ (i 0).val (i 1).val (i 2).val) (of_decide_eq_true (by sl_kernel_rfl)) fun t _ y => ?_),
    congrFun ((dats m hO 0 c).arrAt_eq_of_covers 8 (fun i : S1x2048x1028.Idx => squareOf q _ (i 0).val (i 1).val (i 2).val) (of_decide_eq_true (by sl_kernel_rfl)) fun t _ y => ?_)⟩
  · obtain ⟨z, e, hz⟩ := spot5 hO t y
    rw [e]
    exact ((point k0 k1 k2 k3 k4 hO t).1 y).trans (blk_of (fun _ => grad _ s b) hz).symm
  · obtain ⟨z, e, hz⟩ := spot6 hO t y
    rw [e]
    exact ((point k0 k1 k2 k3 k4 hO t).2.1 y).trans (blk_of (stepOf w p q _) hz).symm
  · obtain ⟨z, e, hz⟩ := spot7 hO t y
    rw [e]
    exact ((point k0 k1 k2 k3 k4 hO t).2.2.1 y).trans (blk_of (meanOf p _) hz).symm
  · obtain ⟨z, e, hz⟩ := spot8 hO t y
    rw [e]
    exact ((point k0 k1 k2 k3 k4 hO t).2.2.2 y).trans (blk_of (squareOf q _) hz).symm

omit k0 k1 k2 k3 k4

/-! ## The reference's four arrays -/

section
open Cert.AdamWGdnInRefIdeal.Read
variable {x0 x1 x2 : Vec Ideal S1x2048x1028 .f32} {x3 : Vec Ideal S4x2048x1028 .bf16} {x4 : Vec Ideal S3x2048x1028 .bf16} {x5 : IVec S1 32}
  (h0 : Ent3 x0 w) (h1 : Ent3 x1 p) (h2 : Ent3 x2 q) (h3 : Ent3 x3 s) (h4 : Ent3 x4 b) (hk : own x5 < 4)

include h3 hk in
/-- The own part, as the sum over the four of which the others are replaced by zero. -/
theorem ref_own (i : Cert.AdamWGdnInRefIdeal.S2048x1028.Idx) : val_main_v7 (F := Ideal) x3 x5 i = s (own x5) (i 0).val (i 1).val := by
  rw [val_main_v7_apply, val_main_cst_0_apply]
  rw [show (FloatOps.ofBits .f32 0x00000000#32 : Ideal .f32) = (0 : EReal) from Ideal.ofBits_zero_f32, zero_add]
  refine Eq.trans (Finset.sum_congr rfl fun k _ => ?_) (sum_own (fun k => s k (i 0).val (i 1).val) hk)
  rw [val_main_v6_apply, val_main_call0_v1_apply, val_main_call0_v2_apply, val_main_call0_v0_apply, val_main_cst_apply,
    val_main_v5_apply, val_main_v4_apply, val_main_v1_apply, val_main_v0_apply, val_main_v3_apply]
  have e : IntOp.cmpi .eq (BitVec.ofNat 32 k.val) (val_main_v2 (F := Ideal) x5 (idx_main_v3 (idx_main_call0_v1 (idx_main_v7 i k))))
      = if k.val = own x5 then 1#1 else 0#1 := mask x5 _ k.isLt
  refine (congrArg (fun z => Scalar.select z _ _) e).trans ?_
  by_cases h : k.val = own x5
  · rw [if_pos h, if_pos h]
    exact h3 _
  · rw [if_neg h, if_neg h]
    exact Ideal.ofBits_zero_f32

include h4 in
theorem ref_three (i : Cert.AdamWGdnInRefIdeal.S2048x1028.Idx) : val_main_v10 (F := Ideal) x4 i
    = b 0 (i 0).val (i 1).val + b 1 (i 0).val (i 1).val + b 2 (i 0).val (i 1).val := by
  rw [val_main_v10_apply, val_main_cst_1_apply]
  rw [show (FloatOps.ofBits .f32 0x00000000#32 : Ideal .f32) = (0 : EReal) from Ideal.ofBits_zero_f32, zero_add, Fin.sum_univ_three]
  exact congrArg₂ (· + ·) (congrArg₂ (· + ·) (h4 _) (h4 _)) (h4 _)

include h3 h4 hk in
theorem ref_g : Ent3 (val_main_v12 (F := Ideal) x3 x4 x5) fun _ => grad (own x5) s b := fun i => by
  rw [val_main_v12_apply, val_main_v8_apply, val_main_v11_apply, ref_own h3 hk, ref_three h4]
  exact grad_eq _ s b _ _

theorem val_m (i : S1x2048x1028.Idx) : val_main_v17 (F := Ideal) x1 x3 x4 x5 i = mean (x1 i) (val_main_v12 (F := Ideal) x3 x4 x5 i) := by
  simp only [val_main_v17_apply, val_main_v16_apply, val_main_v15_apply, val_main_v14_apply, val_main_v13_apply]
  rfl
theorem val_v (i : S1x2048x1028.Idx) : val_main_v23 (F := Ideal) x2 x3 x4 x5 i = square (x2 i) (val_main_v12 (F := Ideal) x3 x4 x5 i) := by
  simp only [val_main_v23_apply, val_main_v22_apply, val_main_v21_apply, val_main_v20_apply, val_main_v19_apply, val_main_v18_apply]
  rfl

include h1 h3 h4 hk in
theorem ref_m : Ent3 (val_main_v17 (F := Ideal) x1 x3 x4 x5) (meanOf p (grad (own x5) s b)) := fun i => by
  rw [val_m, ref_g h3 h4 hk, h1 i, first i]
  rfl
include h2 h3 h4 hk in
theorem ref_v : Ent3 (val_main_v23 (F := Ideal) x2 x3 x4 x5) (squareOf q (grad (own x5) s b)) := fun i => by
  rw [val_v, ref_g h3 h4 hk, h2 i, first i]
  rfl
include h0 h1 h2 h3 h4 hk in
theorem ref_d : Ent3 (val_main_v36 (F := Ideal) x0 x1 x2 x3 x4 x5) (stepOf w p q (grad (own x5) s b)) := fun i => by
  simp only [val_main_v36_apply, val_main_v35_apply, val_main_v34_apply, val_main_v33_apply, val_main_v32_apply, val_main_v31_apply,
    val_main_v30_apply, val_main_v29_apply, val_main_v28_apply, val_main_v27_apply, val_main_v26_apply, val_main_v25_apply,
    val_main_v24_apply, val_m, val_v]
  rw [ref_g h3 h4 hk, h0 i, h1 i, h2 i, first i]
  rfl
end

end Cert.Proof.AdamWGdnIn

end
-- ==== Proof.ValueAdamWGlaIn.lean ====
/- THE OPTIMISER'S STEP ON A SHARD OF THE GATED ATTENTION'S PROJECTION IN: the kernel applies the formulas of `Shard` block by block of 256 rows;
   which of the device's own four parts it adds to the received ones, a word says. -/
module

public import proofs.«01_k».proof.Proof.Shard
public import proofs.«01_k».proof.Proof.Gen.AdamWGlaInIdeal.Frame
public import proofs.«01_k».proof.Proof.Gen.AdamWGlaInRefIdeal.Read
public import Idealize.ShloMosaic.Lib.Pipeline.ValueKit
public import Idealize.ShloMosaic.Lib.Tactic
public import Idealize.ShloMosaic.Lib.DynamicIndex
public import Idealize.ShloMosaic.Lib.WordCmp

@[expose] public section

set_option maxRecDepth 16384

noncomputable section

namespace Cert.Proof.AdamWGlaIn

open Idealize.ShloMosaic Idealize.ShloMosaic.Tactic Cert.Proof.Shard Cert.AdamWGlaInIdeal Cert.AdamWGlaInIdeal.Gen

/-! ## A block -/

/-- The three received parts. -/
abbrev part0 (x : Vec Ideal S3x256x770 .bf16) : Vec Ideal S1x256x770 .bf16 := View.ld x (Rect.unit (s := S3x256x770) ![0, 0, 0] S1x256x770.size inb_S3x256x770_S1x256x770_0_0_0)
abbrev part1 (x : Vec Ideal S3x256x770 .bf16) : Vec Ideal S1x256x770 .bf16 := View.ld x (Rect.unit (s := S3x256x770) ![1, 0, 0] S1x256x770.size inb_S3x256x770_S1x256x770_1_0_0)
abbrev part2 (x : Vec Ideal S3x256x770 .bf16) : Vec Ideal S1x256x770 .bf16 := View.ld x (Rect.unit (s := S3x256x770) ![2, 0, 0] S1x256x770.size inb_S3x256x770_S1x256x770_2_0_0)

section
variable (x0 x1 x2 : Vec Ideal S1x256x770 .f32) (x3 : Vec Ideal S1x256x770 .bf16) (x4 : Vec Ideal S3x256x770 .bf16)

/-- The sum of the own part and the received ones, the new moments, and the results. -/
abbrev sums := k0_pay4 (F := Ideal) x3 (part0 x4) (part1 x4) (part2 x4)
abbrev mom := k0_pay5 (F := Ideal) x3 (part0 x4) (part1 x4) (part2 x4) x1
abbrev sq := k0_pay6 (F := Ideal) x3 (part0 x4) (part1 x4) (part2 x4) x2
abbrev resG := k0_pay7 (F := Ideal) x3 (part0 x4) (part1 x4) (part2 x4)
abbrev resD := k0_pay1 (F := Ideal) (mom x1 x3 x4) (sq x2 x3 x4) x0
abbrev resM := k0_pay2 (F := Ideal) (mom x1 x3 x4)
abbrev resV := k0_pay3 (F := Ideal) (sq x2 x3 x4)

variable (c : Dev nD) (i : grid0.Coords)
  (a2 : Memref sig .tc .vmem S1x256x770 .f32) (h2 : a2.IsWhole) (a3 : Memref sig .tc .vmem S1x256x770 .f32) (h3 : a3.IsWhole)
  (a4 : Memref sig .tc .vmem S1x256x770 .f32) (h4 : a4.IsWhole) (a5 : Memref sig .tc .vmem S1x256x770 .bf16) (h5 : a5.IsWhole)
  (a6 : Memref sig .tc .vmem S3x256x770 .bf16) (h6 : a6.IsWhole) (a7 : Memref sig .tc .vmem S1x256x770 .f32) (h7 : a7.IsWhole)
  (a8 : Memref sig .tc .vmem S1x256x770 .f32) (h8 : a8.IsWhole) (a9 : Memref sig .tc .vmem S1x256x770 .f32) (h9 : a9.IsWhole)
  (a10 : Memref sig .tc .vmem S1x256x770 .f32) (h10 : a10.IsWhole) (xt : TbBuf0 (F := Ideal) c tbM0_0)

/-- What a point's run leaves in the four results' buffers. -/
theorem outs : out0_A_5 c i a2 h2 a3 h3 a4 h4 a5 h5 a6 h6 a7 h7 a8 h8 a9 h9 a10 h10 x0 x1 x2 x3 x4 xt = resG x3 x4
    ∧ out0_A_6 c i a2 h2 a3 h3 a4 h4 a5 h5 a6 h6 a7 h7 a8 h8 a9 h9 a10 h10 x0 x1 x2 x3 x4 xt = resD x0 x1 x2 x3 x4
    ∧ out0_A_7 c i a2 h2 a3 h3 a4 h4 a5 h5 a6 h6 a7 h7 a8 h8 a9 h9 a10 h10 x0 x1 x2 x3 x4 xt = resM x1 x3 x4
    ∧ out0_A_8 c i a2 h2 a3 h3 a4 h4 a5 h5 a6 h6 a7 h7 a8 h8 a9 h9 a10 h10 x0 x1 x2 x3 x4 xt = resV x2 x3 x4 := by
  unfold out0_A_5 out0_A_6 out0_A_7 out0_A_8
  refine ⟨(View.read_writes_eq_canon _ _ _ fun _ => cover0_A_5 ..).trans ?_, (View.read_writes_eq_canon _ _ _ fun _ => cover0_A_6 ..).trans ?_,
    (View.read_writes_eq_canon _ _ _ fun _ => cover0_A_7 ..).trans ?_, (View.read_writes_eq_canon _ _ _ fun _ => cover0_A_8 ..).trans ?_⟩
  all_goals
    unfold kernelRun0_A
    dsimp only
    sl_unfold_words
    rw [View.canon_unit_zero zeros]
    simp only [View.readAt_eq_ld, h2.read_unread, h3.read_unread, h4.read_unread, h5.read_unread, h6.read_unread, View.ld_unit_zero (S := S1x256x770) zeros]
end

theorem block {x0 x1 x2 : Vec Ideal S1x256x770 .f32} {x3 : Vec Ideal S1x256x770 .bf16} {x4 : Vec Ideal S3x256x770 .bf16} {w p q s b : ℕ → ℕ → ℕ → EReal} {k : ℕ}
    (h0 : Ent3 x0 w) (h1 : Ent3 x1 p) (h2 : Ent3 x2 q) (h3 : Ent3 x3 fun _ => s k) (h4 : Ent3 x4 b) :
    Ent3 (resG x3 x4) (fun _ => grad k s b) ∧ Ent3 (resD x0 x1 x2 x3 x4) (stepOf w p q (grad k s b))
      ∧ Ent3 (resM x1 x3 x4) (meanOf p (grad k s b)) ∧ Ent3 (resV x2 x3 x4) (squareOf q (grad k s b)) := by
  have g : Ent (sums x3 x4) (grad k s b) := sum_is shapeCasts_S1x256x770_S256x770 h3 (part_is h4 fun _ => ⟨rfl, rfl, rfl⟩)
    (part_is h4 fun _ => ⟨rfl, rfl, rfl⟩) (part_is h4 fun _ => ⟨rfl, rfl, rfl⟩)
  have e1 : Ent (mom x1 x3 x4) (meanOf p (grad k s b) 0) := mean_is shapeCasts_S1x256x770_S256x770 h1 g
  have e2 : Ent (sq x2 x3 x4) (squareOf q (grad k s b) 0) := square_is shapeCasts_S1x256x770_S256x770 h2 g
  exact ⟨up_is shapeCasts_S256x770_S1x256x770 g, up_is shapeCasts_S256x770_S1x256x770 (step_is shapeCasts_S1x256x770_S256x770 h0 e1 e2),
    up_is shapeCasts_S256x770_S1x256x770 e1, up_is shapeCasts_S256x770_S1x256x770 e2⟩

/-! ## Where the windows' blocks put an entry -/

variable {m : (ℓ : Loc nD τ sig) → Buf (Elt Ideal) ℓ} {c : Dev nD}

theorem pos3 (hO : Ok m) (t : Fin (cfgM m hO).N) : ((cfgM m hO).win 3).index t = ![own (m (c.tc.loc main_arg5)), t.val, 0] := by
  obtain rfl : c = 0 := Subsingleton.elim _ _
  have ht : (BitVec.ofNat 32 ((grid0.coords t) 0).val).toNat = t.val :=
    (by decide +kernel : ∀ t : Fin grid0.N, (BitVec.ofNat 32 ((grid0.coords t) 0).val).toNat = t.val) t
  have hw : (Pipeline.Prefetch.Contents.at (tbl m) 0 (Rect.unit (s := S1) ![0] S1.size inb_S1_S1_0) numel1_S1 : BitVec 32).toNat
      = own (m (((0 : Dev nD).tc : Thread nD τ).loc main_arg5)) := own_eq (m (((0 : Dev nD).tc : Thread nD τ).loc main_arg5)) _
  show ![_, _, _] = _
  rw [← hw, ← ht]
  rfl
theorem spot0 (hO : Ok m) (t : Fin (cfgM m hO).N) (x : S1x256x770.Idx) : ∃ z : S1x2048x770.Idx, (((cfgM m hO).win 0).blk t).view.emb x = z ∧ At z 0 t x :=
  ⟨_, rfl, at_of ((by decide +kernel : ∀ t : Fin grid0.N, cc0_transform_0 (grid0.coords t) = ![0, t.val, 0]) t) (Nat.zero_mul _) x⟩
theorem spot1 (hO : Ok m) (t : Fin (cfgM m hO).N) (x : S1x256x770.Idx) : ∃ z : S1x2048x770.Idx, (((cfgM m hO).win 1).blk t).view.emb x = z ∧ At z 0 t x :=
  ⟨_, rfl, at_of ((by decide +kernel : ∀ t : Fin grid0.N, cc0_transform_1 (grid0.coords t) = ![0, t.val, 0]) t) (Nat.zero_mul _) x⟩
theorem spot2 (hO : Ok m) (t : Fin (cfgM m hO).N) (x : S1x256x770.Idx) : ∃ z : S1x2048x770.Idx, (((cfgM m hO).win 2).blk t).view.emb x = z ∧ At z 0 t x :=
  ⟨_, rfl, at_of ((by decide +kernel : ∀ t : Fin grid0.N, cc0_transform_2 (grid0.coords t) = ![0, t.val, 0]) t) (Nat.zero_mul _) x⟩
theorem spot3 (hO : Ok m) (t : Fin (cfgM m hO).N) (x : S1x256x770.Idx) : ∃ z : S4x2048x770.Idx, (((cfgM m hO).win 3).blk t).view.emb x = z ∧ At z (own (m (c.tc.loc main_arg5))) t x :=
  ⟨_, rfl, at_of (pos3 hO t) (Nat.mul_one _) x⟩
theorem spot4 (hO : Ok m) (t : Fin (cfgM m hO).N) (x : S3x256x770.Idx) : ∃ z : S3x2048x770.Idx, (((cfgM m hO).win 4).blk t).view.emb x = z ∧ At z 0 t x :=
  ⟨_, rfl, at_of ((by decide +kernel : ∀ t : Fin grid0.N, cc0_transform_4 (grid0.coords t) = ![0, t.val, 0]) t) (Nat.zero_mul _) x⟩
theorem spot5 (hO : Ok m) (t : Fin (cfgM m hO).N) (x : S1x256x770.Idx) : ∃ z : S1x2048x770.Idx, (((cfgM m hO).win 5).blk t).view.emb x = z ∧ At z 0 t x :=
  ⟨_, rfl, at_of ((by decide +kernel : ∀ t : Fin grid0.N, cc0_transform_5 (grid0.coords t) = ![0, t.val, 0]) t) (Nat.zero_mul _) x⟩
theorem spot6 (hO : Ok m) (t : Fin (cfgM m hO).N) (x : S1x256x770.Idx) : ∃ z : S1x2048x770.Idx, (((cfgM m hO).win 6).blk t).view.emb x = z ∧ At z 0 t x :=
  ⟨_, rfl, at_of ((by decide +kernel : ∀ t : Fin grid0.N, cc0_transform_6 (grid0.coords t) = ![0, t.val, 0]) t) (Nat.zero_mul _) x⟩
theorem spot7 (hO : Ok m) (t : Fin (cfgM m hO).N) (x : S1x256x770.Idx) : ∃ z : S1x2048x770.Idx, (((cfgM m hO).win 7).blk t).view.emb x = z ∧ At z 0 t x :=
  ⟨_, rfl, at_of ((by decide +kernel : ∀ t : Fin grid0.N, cc0_transform_7 (grid0.coords t) = ![0, t.val, 0]) t) (Nat.zero_mul _) x⟩
theorem spot8 (hO : Ok m) (t : Fin (cfgM m hO).N) (x : S1x256x770.Idx) : ∃ z : S1x2048x770.Idx, (((cfgM m hO).win 8).blk t).view.emb x = z ∧ At z 0 t x :=
  ⟨_, rfl, at_of ((by decide +kernel : ∀ t : Fin grid0.N, cc0_transform_8 (grid0.coords t) = ![0, t.val, 0]) t) (Nat.zero_mul _) x⟩

/-! ## The kernel's four arrays -/

variable {w p q s b : ℕ → ℕ → ℕ → EReal}
  (k0 : Ent3 (m (c.tc.loc main_arg0)) w) (k1 : Ent3 (m (c.tc.loc main_arg1)) p)
  (k2 : Ent3 (m (c.tc.loc main_arg2)) q) (k3 : Ent3 (m (c.tc.loc main_arg3)) s) (k4 : Ent3 (m (c.tc.loc main_arg4)) b)

include k0 k1 k2 k3 k4

/-- What a grid point leaves. -/
theorem point (hO : Ok m) (t : Fin (cfgM m hO).N) :
    Ent3 ((dats m hO 0 c).after 5 t) (blk (fun _ => grad (own (m (c.tc.loc main_arg5))) s b) t)
    ∧ Ent3 ((dats m hO 0 c).after 6 t) (blk (stepOf w p q (grad (own (m (c.tc.loc main_arg5))) s b)) t)
    ∧ Ent3 ((dats m hO 0 c).after 7 t) (blk (meanOf p (grad (own (m (c.tc.loc main_arg5))) s b)) t)
    ∧ Ent3 ((dats m hO 0 c).after 8 t) (blk (squareOf q (grad (own (m (c.tc.loc main_arg5))) s b)) t) := by
  have b0 : Ent3 (iblk m hO c 0 t) (blk w t) := fun x => by
    obtain ⟨z, e, hz⟩ := spot0 hO t x
    exact (congrArg (m (c.tc.loc main_arg0)) e).trans ((k0 z).trans (blk_of w hz))
  have b1 : Ent3 (iblk m hO c 1 t) (blk p t) := fun x => by
    obtain ⟨z, e, hz⟩ := spot1 hO t x
    exact (congrArg (m (c.tc.loc main_arg1)) e).trans ((k1 z).trans (blk_of p hz))
  have b2 : Ent3 (iblk m hO c 2 t) (blk q t) := fun x => by
    obtain ⟨z, e, hz⟩ := spot2 hO t x
    exact (congrArg (m (c.tc.loc main_arg2)) e).trans ((k2 z).trans (blk_of q hz))
  have b4 : Ent3 (iblk m hO c 4 t) (blk b t) := fun x => by
    obtain ⟨z, e, hz⟩ := spot4 hO t x
    exact (congrArg (m (c.tc.loc main_arg4)) e).trans ((k4 z).trans (blk_of b hz))
  have b3 : Ent3 (iblk m hO c 3 t) (fun _ => blk s t (own (m (c.tc.loc main_arg5)))) := fun x => by
    obtain ⟨z, e, hz⟩ := spot3 (c := c) hO t x
    exact (congrArg (m (c.tc.loc main_arg3)) e).trans ((k3 z).trans (blk_own s hz))
  obtain ⟨g, d, n, v⟩ := block b0 b1 b2 b3 b4
  refine ⟨fun y => (congrFun ((after0_5 m hO c t).trans ?_) y).trans (g y), fun y => (congrFun ((after0_6 m hO c t).trans ?_) y).trans (d y),
    fun y => (congrFun ((after0_7 m hO c t).trans ?_) y).trans (n y), fun y => (congrFun ((after0_8 m hO c t).trans ?_) y).trans (v y)⟩
  all_goals
    unfold outsAt0
    dsimp only
  exacts [(outs ..).1, (outs ..).2.1, (outs ..).2.2.1, (outs ..).2.2.2]

theorem arrays (hO : Ok m) :
    Ent3 (a := 1) (b := 2048) (c := 770) ((dats m hO 0 c).arrAt 5 (cfgM m hO).N) (fun _ => grad (own (m (c.tc.loc main_arg5))) s b)
    ∧ Ent3 (a := 1) (b := 2048) (c := 770) ((dats m hO 0 c).arrAt 6 (cfgM m hO).N) (stepOf w p q (grad (own (m (c.tc.loc main_arg5))) s b))
    ∧ Ent3 (a := 1) (b := 2048) (c := 770) ((dats m hO 0 c).arrAt 7 (cfgM m hO).N) (meanOf p (grad (own (m (c.tc.loc main_arg5))) s b))
    ∧ Ent3 (a := 1) (b := 2048) (c := 770) ((dats m hO 0 c).arrAt 8 (cfgM m hO).N) (squareOf q (grad (own (m (c.tc.loc main_arg5))) s b)) := by
  refine ⟨congrFun ((dats m hO 0 c).arrAt_eq_of_covers 5 (fun i : S1x2048x770.Idx => grad _ s b (i 1).val (i 2).val) (of_decide_eq_true (by sl_kernel_rfl)) fun t _ y => ?_),
    congrFun ((dats m hO 0 c).arrAt_eq_of_covers 6 (fun i : S1x2048x770.Idx => stepOf w p q _ (i 0).val (i 1).val (i 2).val) (of_decide_eq_true (by sl_kernel_rfl)) fun t _ y => ?_),
    congrFun ((dats m hO 0 c).arrAt_eq_of_covers 7 (fun i : S1x2048x770.Idx => meanOf p _ (i 0).val (i 1).val (i 2).val) (of_decide_eq_true (by sl_kernel_rfl)) fun t _ y => ?_),
    congrFun ((dats m hO 0 c).arrAt_eq_of_covers 8 (fun i : S1x2048x770.Idx => squareOf q _ (i 0).val (i 1).val (i 2).val) (of_decide_eq_true (by sl_kernel_rfl)) fun t _ y => ?_)⟩
  · obtain ⟨z, e, hz⟩ := spot5 hO t y
    rw [e]
    exact ((point k0 k1 k2 k3 k4 hO t).1 y).trans (blk_of (fun _ => grad _ s b) hz).symm
  · obtain ⟨z, e, hz⟩ := spot6 hO t y
    rw [e]
    exact ((point k0 k1 k2 k3 k4 hO t).2.1 y).trans (blk_of (stepOf w p q _) hz).symm
  · obtain ⟨z, e, hz⟩ := spot7 hO t y
    rw [e]
    exact ((point k0 k1 k2 k3 k4 hO t).2.2.1 y).trans (blk_of (meanOf p _) hz).symm
  · obtain ⟨z, e, hz⟩ := spot8 hO t y
    rw [e]
    exact ((point k0 k1 k2 k3 k4 hO t).2.2.2 y).trans (blk_of (squareOf q _) hz).symm

omit k0 k1 k2 k3 k4

/-! ## The reference's four arrays -/

section
open Cert.AdamWGlaInRefIdeal.Read
variable {x0 x1 x2 : Vec Ideal S1x2048x770 .f32} {x3 : Vec Ideal S4x2048x770 .bf16} {x4 : Vec Ideal S3x2048x770 .bf16} {x5 : IVec S1 32}
  (h0 : Ent3 x0 w) (h1 : Ent3 x1 p) (h2 : Ent3 x2 q) (h3 : Ent3 x3 s) (h4 : Ent3 x4 b) (hk : own x5 < 4)

include h3 hk in
/-- The own part, as the sum over the four of which the others are replaced by zero. -/
theorem ref_own (i : Cert.AdamWGlaInRefIdeal.S2048x770.Idx) : val_main_v7 (F := Ideal) x3 x5 i = s (own x5) (i 0).val (i 1).val := by
  rw [val_main_v7_apply, val_main_cst_0_apply]
  rw [show (FloatOps.ofBits .f32 0x00000000#32 : Ideal .f32) = (0 : EReal) from Ideal.ofBits_zero_f32, zero_add]
  refine Eq.trans (Finset.sum_congr rfl fun k _ => ?_) (sum_own (fun k => s k (i 0).val (i 1).val) hk)
  rw [val_main_v6_apply, val_main_call0_v1_apply, val_main_call0_v2_apply, val_main_call0_v0_apply, val_main_cst_apply,
    val_main_v5_apply, val_main_v4_apply, val_main_v1_apply, val_main_v0_apply, val_main_v3_apply]
  have e : IntOp.cmpi .eq (BitVec.ofNat 32 k.val) (val_main_v2 (F := Ideal) x5 (idx_main_v3 (idx_main_call0_v1 (idx_main_v7 i k))))
      = if k.val = own x5 then 1#1 else 0#1 := mask x5 _ k.isLt
  refine (congrArg (fun z => Scalar.select z _ _) e).trans ?_
  by_cases h : k.val = own x5
  · rw [if_pos h, if_pos h]
    exact h3 _
  · rw [if_neg h, if_neg h]
    exact Ideal.ofBits_zero_f32

include h4 in
theorem ref_three (i : Cert.AdamWGlaInRefIdeal.S2048x770.Idx) : val_main_v10 (F := Ideal) x4 i
    = b 0 (i 0).val (i 1).val + b 1 (i 0).val (i 1).val + b 2 (i 0).val (i 1).val := by
  rw [val_main_v10_apply, val_main_cst_1_apply]
  rw [show (FloatOps.ofBits .f32 0x00000000#32 : Ideal .f32) = (0 : EReal) from Ideal.ofBits_zero_f32, zero_add, Fin.sum_univ_three]
  exact congrArg₂ (· + ·) (congrArg₂ (· + ·) (h4 _) (h4 _)) (h4 _)

include h3 h4 hk in
theorem ref_g : Ent3 (val_main_v12 (F := Ideal) x3 x4 x5) fun _ => grad (own x5) s b := fun i => by
  rw [val_main_v12_apply, val_main_v8_apply, val_main_v11_apply, ref_own h3 hk, ref_three h4]
  exact grad_eq _ s b _ _

theorem val_m (i : S1x2048x770.Idx) : val_main_v17 (F := Ideal) x1 x3 x4 x5 i = mean (x1 i) (val_main_v12 (F := Ideal) x3 x4 x5 i) := by
  simp only [val_main_v17_apply, val_main_v16_apply, val_main_v15_apply, val_main_v14_apply, val_main_v13_apply]
  rfl
theorem val_v (i : S1x2048x770.Idx) : val_main_v23 (F := Ideal) x2 x3 x4 x5 i = square (x2 i) (val_main_v12 (F := Ideal) x3 x4 x5 i) := by
  simp only [val_main_v23_apply, val_main_v22_apply, val_main_v21_apply, val_main_v20_apply, val_main_v19_apply, val_main_v18_apply]
  rfl

include h1 h3 h4 hk in
theorem ref_m : Ent3 (val_main_v17 (F := Ideal) x1 x3 x4 x5) (meanOf p (grad (own x5) s b)) := fun i => by
  rw [val_m, ref_g h3 h4 hk, h1 i, first i]
  rfl
include h2 h3 h4 hk in
theorem ref_v : Ent3 (val_main_v23 (F := Ideal) x2 x3 x4 x5) (squareOf q (grad (own x5) s b)) := fun i => by
  rw [val_v, ref_g h3 h4 hk, h2 i, first i]
  rfl
include h0 h1 h2 h3 h4 hk in
theorem ref_d : Ent3 (val_main_v36 (F := Ideal) x0 x1 x2 x3 x4 x5) (stepOf w p q (grad (own x5) s b)) := fun i => by
  simp only [val_main_v36_apply, val_main_v35_apply, val_main_v34_apply, val_main_v33_apply, val_main_v32_apply, val_main_v31_apply,
    val_main_v30_apply, val_main_v29_apply, val_main_v28_apply, val_main_v27_apply, val_main_v26_apply, val_main_v25_apply,
    val_main_v24_apply, val_m, val_v]
  rw [ref_g h3 h4 hk, h0 i, h1 i, h2 i, first i]
  rfl
end

end Cert.Proof.AdamWGlaIn

end
-- ==== Proof.ValueAdamWRetOut.lean ====
/- THE OPTIMISER'S STEP ON A SHARD OF THE RETENTION'S PROJECTION OUT: the kernel applies the formulas of `Shard` block by block of 256 rows;
   which of the device's own four parts it adds to the received ones, a word says. -/
module

public import proofs.«01_k».proof.Proof.Shard
public import proofs.«01_k».proof.Proof.Gen.AdamWRetOutIdeal.Frame
public import proofs.«01_k».proof.Proof.Gen.AdamWRetOutRefIdeal.Read
public import Idealize.ShloMosaic.Lib.Pipeline.ValueKit
public import Idealize.ShloMosaic.Lib.Tactic
public import Idealize.ShloMosaic.Lib.DynamicIndex
public import Idealize.ShloMosaic.Lib.WordCmp

@[expose] public section

set_option maxRecDepth 16384

noncomputable section

namespace Cert.Proof.AdamWRetOut

open Idealize.ShloMosaic Idealize.ShloMosaic.Tactic Cert.Proof.Shard Cert.AdamWRetOutIdeal Cert.AdamWRetOutIdeal.Gen

/-! ## A block -/

/-- The three received parts. -/
abbrev part0 (x : Vec Ideal S3x256x2048 .bf16) : Vec Ideal S1x256x2048 .bf16 := View.ld x (Rect.unit (s := S3x256x2048) ![0, 0, 0] S1x256x2048.size inb_S3x256x2048_S1x256x2048_0_0_0)
abbrev part1 (x : Vec Ideal S3x256x2048 .bf16) : Vec Ideal S1x256x2048 .bf16 := View.ld x (Rect.unit (s := S3x256x2048) ![1, 0, 0] S1x256x2048.size inb_S3x256x2048_S1x256x2048_1_0_0)
abbrev part2 (x : Vec Ideal S3x256x2048 .bf16) : Vec Ideal S1x256x2048 .bf16 := View.ld x (Rect.unit (s := S3x256x2048) ![2, 0, 0] S1x256x2048.size inb_S3x256x2048_S1x256x2048_2_0_0)

section
variable (x0 x1 x2 : Vec Ideal S1x256x2048 .f32) (x3 : Vec Ideal S1x256x2048 .bf16) (x4 : Vec Ideal S3x256x2048 .bf16)

/-- The sum of the own part and the received ones, the new moments, and the results. -/
abbrev sums := k0_pay4 (F := Ideal) x3 (part0 x4) (part1 x4) (part2 x4)
abbrev mom := k0_pay5 (F := Ideal) x3 (part0 x4) (part1 x4) (part2 x4) x1
abbrev sq := k0_pay6 (F := Ideal) x3 (part0 x4) (part1 x4) (part2 x4) x2
abbrev resG := k0_pay7 (F := Ideal) x3 (part0 x4) (part1 x4) (part2 x4)
abbrev resD := k0_pay1 (F := Ideal) (mom x1 x3 x4) (sq x2 x3 x4) x0
abbrev resM := k0_pay2 (F := Ideal) (mom x1 x3 x4)
abbrev resV := k0_pay3 (F := Ideal) (sq x2 x3 x4)

variable (c : Dev nD) (i : grid0.Coords)
  (a2 : Memref sig .tc .vmem S1x256x2048 .f32) (h2 : a2.IsWhole) (a3 : Memref sig .tc .vmem S1x256x2048 .f32) (h3 : a3.IsWhole)
  (a4 : Memref sig .tc .vmem S1x256x2048 .f32) (h4 : a4.IsWhole) (a5 : Memref sig .tc .vmem S1x256x2048 .bf16) (h5 : a5.IsWhole)
  (a6 : Memref sig .tc .vmem S3x256x2048 .bf16) (h6 : a6.IsWhole) (a7 : Memref sig .tc .vmem S1x256x2048 .f32) (h7 : a7.IsWhole)
  (a8 : Memref sig .tc .vmem S1x256x2048 .f32) (h8 : a8.IsWhole) (a9 : Memref sig .tc .vmem S1x256x2048 .f32) (h9 : a9.IsWhole)
  (a10 : Memref sig .tc .vmem S1x256x2048 .f32) (h10 : a10.IsWhole) (xt : TbBuf0 (F := Ideal) c tbM0_0)

/-- What a point's run leaves in the four results' buffers. -/
theorem outs : out0_A_5 c i a2 h2 a3 h3 a4 h4 a5 h5 a6 h6 a7 h7 a8 h8 a9 h9 a10 h10 x0 x1 x2 x3 x4 xt = resG x3 x4
    ∧ out0_A_6 c i a2 h2 a3 h3 a4 h4 a5 h5 a6 h6 a7 h7 a8 h8 a9 h9 a10 h10 x0 x1 x2 x3 x4 xt = resD x0 x1 x2 x3 x4
    ∧ out0_A_7 c i a2 h2 a3 h3 a4 h4 a5 h5 a6 h6 a7 h7 a8 h8 a9 h9 a10 h10 x0 x1 x2 x3 x4 xt = resM x1 x3 x4
    ∧ out0_A_8 c i a2 h2 a3 h3 a4 h4 a5 h5 a6 h6 a7 h7 a8 h8 a9 h9 a10 h10 x0 x1 x2 x3 x4 xt = resV x2 x3 x4 := by
  unfold out0_A_5 out0_A_6 out0_A_7 out0_A_8
  refine ⟨(View.read_writes_eq_canon _ _ _ fun _ => cover0_A_5 ..).trans ?_, (View.read_writes_eq_canon _ _ _ fun _ => cover0_A_6 ..).trans ?_,
    (View.read_writes_eq_canon _ _ _ fun _ => cover0_A_7 ..).trans ?_, (View.read_writes_eq_canon _ _ _ fun _ => cover0_A_8 ..).trans ?_⟩
  all_goals
    unfold kernelRun0_A
    dsimp only
    sl_unfold_words
    rw [View.canon_unit_zero zeros]
    simp only [View.readAt_eq_ld, h2.read_unread, h3.read_unread, h4.read_unread, h5.read_unread, h6.read_unread, View.ld_unit_zero (S := S1x256x2048) zeros]
end

theorem block {x0 x1 x2 : Vec Ideal S1x256x2048 .f32} {x3 : Vec Ideal S1x256x2048 .bf16} {x4 : Vec Ideal S3x256x2048 .bf16} {w p q s b : ℕ → ℕ → ℕ → EReal} {k : ℕ}
    (h0 : Ent3 x0 w) (h1 : Ent3 x1 p) (h2 : Ent3 x2 q) (h3 : Ent3 x3 fun _ => s k) (h4 : Ent3 x4 b) :
    Ent3 (resG x3 x4) (fun _ => grad k s b) ∧ Ent3 (resD x0 x1 x2 x3 x4) (stepOf w p q (grad k s b))
      ∧ Ent3 (resM x1 x3 x4) (meanOf p (grad k s b)) ∧ Ent3 (resV x2 x3 x4) (squareOf q (grad k s b)) := by
  have g : Ent (sums x3 x4) (grad k s b) := sum_is shapeCasts_S1x256x2048_S256x2048 h3 (part_is h4 fun _ => ⟨rfl, rfl, rfl⟩)
    (part_is h4 fun _ => ⟨rfl, rfl, rfl⟩) (part_is h4 fun _ => ⟨rfl, rfl, rfl⟩)
  have e1 : Ent (mom x1 x3 x4) (meanOf p (grad k s b) 0) := mean_is shapeCasts_S1x256x2048_S256x2048 h1 g
  have e2 : Ent (sq x2 x3 x4) (squareOf q (grad k s b) 0) := square_is shapeCasts_S1x256x2048_S256x2048 h2 g
  exact ⟨up_is shapeCasts_S256x2048_S1x256x2048 g, up_is shapeCasts_S256x2048_S1x256x2048 (step_is shapeCasts_S1x256x2048_S256x2048 h0 e1 e2),
    up_is shapeCasts_S256x2048_S1x256x2048 e1, up_is shapeCasts_S256x2048_S1x256x2048 e2⟩

/-! ## Where the windows' blocks put an entry -/

variable {m : (ℓ : Loc nD τ sig) → Buf (Elt Ideal) ℓ} {c : Dev nD}

theorem pos3 (hO : Ok m) (t : Fin (cfgM m hO).N) : ((cfgM m hO).win 3).index t = ![own (m (c.tc.loc main_arg5)), t.val, 0] := by
  obtain rfl : c = 0 := Subsingleton.elim _ _
  have ht : (BitVec.ofNat 32 ((grid0.coords t) 0).val).toNat = t.val :=
    (by decide +kernel : ∀ t : Fin grid0.N, (BitVec.ofNat 32 ((grid0.coords t) 0).val).toNat = t.val) t
  have hw : (Pipeline.Prefetch.Contents.at (tbl m) 0 (Rect.unit (s := S1) ![0] S1.size inb_S1_S1_0) numel1_S1 : BitVec 32).toNat
      = own (m (((0 : Dev nD).tc : Thread nD τ).loc main_arg5)) := own_eq (m (((0 : Dev nD).tc : Thread nD τ).loc main_arg5)) _
  show ![_, _, _] = _
  rw [← hw, ← ht]
  rfl
theorem spot0 (hO : Ok m) (t : Fin (cfgM m hO).N) (x : S1x256x2048.Idx) : ∃ z : S1x512x2048.Idx, (((cfgM m hO).win 0).blk t).view.emb x = z ∧ At z 0 t x :=
  ⟨_, rfl, at_of ((by decide +kernel : ∀ t : Fin grid0.N, cc0_transform_0 (grid0.coords t) = ![0, t.val, 0]) t) (Nat.zero_mul _) x⟩
theorem spot1 (hO : Ok m) (t : Fin (cfgM m hO).N) (x : S1x256x2048.Idx) : ∃ z : S1x512x2048.Idx, (((cfgM m hO).win 1).blk t).view.emb x = z ∧ At z 0 t x :=
  ⟨_, rfl, at_of ((by decide +kernel : ∀ t : Fin grid0.N, cc0_transform_1 (grid0.coords t) = ![0, t.val, 0]) t) (Nat.zero_mul _) x⟩
theorem spot2 (hO : Ok m) (t : Fin (cfgM m hO).N) (x : S1x256x2048.Idx) : ∃ z : S1x512x2048.Idx, (((cfgM m hO).win 2).blk t).view.emb x = z ∧ At z 0 t x :=
  ⟨_, rfl, at_of ((by decide +kernel : ∀ t : Fin grid0.N, cc0_transform_2 (grid0.coords t) = ![0, t.val, 0]) t) (Nat.zero_mul _) x⟩
theorem spot3 (hO : Ok m) (t : Fin (cfgM m hO).N) (x : S1x256x2048.Idx) : ∃ z : S4x512x2048.Idx, (((cfgM m hO).win 3).blk t).view.emb x = z ∧ At z (own (m (c.tc.loc main_arg5))) t x :=
  ⟨_, rfl, at_of (pos3 hO t) (Nat.mul_one _) x⟩
theorem spot4 (hO : Ok m) (t : Fin (cfgM m hO).N) (x : S3x256x2048.Idx) : ∃ z : S3x512x2048.Idx, (((cfgM m hO).win 4).blk t).view.emb x = z ∧ At z 0 t x :=
  ⟨_, rfl, at_of ((by decide +kernel : ∀ t : Fin grid0.N, cc0_transform_4 (grid0.coords t) = ![0, t.val, 0]) t) (Nat.zero_mul _) x⟩
theorem spot5 (hO : Ok m) (t : Fin (cfgM m hO).N) (x : S1x256x2048.Idx) : ∃ z : S1x512x2048.Idx, (((cfgM m hO).win 5).blk t).view.emb x = z ∧ At z 0 t x :=
  ⟨_, rfl, at_of ((by decide +kernel : ∀ t : Fin grid0.N, cc0_transform_5 (grid0.coords t) = ![0, t.val, 0]) t) (Nat.zero_mul _) x⟩
theorem spot6 (hO : Ok m) (t : Fin (cfgM m hO).N) (x : S1x256x2048.Idx) : ∃ z : S1x512x2048.Idx, (((cfgM m hO).win 6).blk t).view.emb x = z ∧ At z 0 t x :=
  ⟨_, rfl, at_of ((by decide +kernel : ∀ t : Fin grid0.N, cc0_transform_6 (grid0.coords t) = ![0, t.val, 0]) t) (Nat.zero_mul _) x⟩
theorem spot7 (hO : Ok m) (t : Fin (cfgM m hO).N) (x : S1x256x2048.Idx) : ∃ z : S1x512x2048.Idx, (((cfgM m hO).win 7).blk t).view.emb x = z ∧ At z 0 t x :=
  ⟨_, rfl, at_of ((by decide +kernel : ∀ t : Fin grid0.N, cc0_transform_7 (grid0.coords t) = ![0, t.val, 0]) t) (Nat.zero_mul _) x⟩
theorem spot8 (hO : Ok m) (t : Fin (cfgM m hO).N) (x : S1x256x2048.Idx) : ∃ z : S1x512x2048.Idx, (((cfgM m hO).win 8).blk t).view.emb x = z ∧ At z 0 t x :=
  ⟨_, rfl, at_of ((by decide +kernel : ∀ t : Fin grid0.N, cc0_transform_8 (grid0.coords t) = ![0, t.val, 0]) t) (Nat.zero_mul _) x⟩

/-! ## The kernel's four arrays -/

variable {w p q s b : ℕ → ℕ → ℕ → EReal}
  (k0 : Ent3 (m (c.tc.loc main_arg0)) w) (k1 : Ent3 (m (c.tc.loc main_arg1)) p)
  (k2 : Ent3 (m (c.tc.loc main_arg2)) q) (k3 : Ent3 (m (c.tc.loc main_arg3)) s) (k4 : Ent3 (m (c.tc.loc main_arg4)) b)

include k0 k1 k2 k3 k4

/-- What a grid point leaves. -/
theorem point (hO : Ok m) (t : Fin (cfgM m hO).N) :
    Ent3 ((dats m hO 0 c).after 5 t) (blk (fun _ => grad (own (m (c.tc.loc main_arg5))) s b) t)
    ∧ Ent3 ((dats m hO 0 c).after 6 t) (blk (stepOf w p q (grad (own (m (c.tc.loc main_arg5))) s b)) t)
    ∧ Ent3 ((dats m hO 0 c).after 7 t) (blk (meanOf p (grad (own (m (c.tc.loc main_arg5))) s b)) t)
    ∧ Ent3 ((dats m hO 0 c).after 8 t) (blk (squareOf q (grad (own (m (c.tc.loc main_arg5))) s b)) t) := by
  have b0 : Ent3 (iblk m hO c 0 t) (blk w t) := fun x => by
    obtain ⟨z, e, hz⟩ := spot0 hO t x
    exact (congrArg (m (c.tc.loc main_arg0)) e).trans ((k0 z).trans (blk_of w hz))
  have b1 : Ent3 (iblk m hO c 1 t) (blk p t) := fun x => by
    obtain ⟨z, e, hz⟩ := spot1 hO t x
    exact (congrArg (m (c.tc.loc main_arg1)) e).trans ((k1 z).trans (blk_of p hz))
  have b2 : Ent3 (iblk m hO c 2 t) (blk q t) := fun x => by
    obtain ⟨z, e, hz⟩ := spot2 hO t x
    exact (congrArg (m (c.tc.loc main_arg2)) e).trans ((k2 z).trans (blk_of q hz))
  have b4 : Ent3 (iblk m hO c 4 t) (blk b t) := fun x => by
    obtain ⟨z, e, hz⟩ := spot4 hO t x
    exact (congrArg (m (c.tc.loc main_arg4)) e).trans ((k4 z).trans (blk_of b hz))
  have b3 : Ent3 (iblk m hO c 3 t) (fun _ => blk s t (own (m (c.tc.loc main_arg5)))) := fun x => by
    obtain ⟨z, e, hz⟩ := spot3 (c := c) hO t x
    exact (congrArg (m (c.tc.loc main_arg3)) e).trans ((k3 z).trans (blk_own s hz))
  obtain ⟨g, d, n, v⟩ := block b0 b1 b2 b3 b4
  refine ⟨fun y => (congrFun ((after0_5 m hO c t).trans ?_) y).trans (g y), fun y => (congrFun ((after0_6 m hO c t).trans ?_) y).trans (d y),
    fun y => (congrFun ((after0_7 m hO c t).trans ?_) y).trans (n y), fun y => (congrFun ((after0_8 m hO c t).trans ?_) y).trans (v y)⟩
  all_goals
    unfold outsAt0
    dsimp only
  exacts [(outs ..).1, (outs ..).2.1, (outs ..).2.2.1, (outs ..).2.2.2]

theorem arrays (hO : Ok m) :
    Ent3 (a := 1) (b := 512) (c := 2048) ((dats m hO 0 c).arrAt 5 (cfgM m hO).N) (fun _ => grad (own (m (c.tc.loc main_arg5))) s b)
    ∧ Ent3 (a := 1) (b := 512) (c := 2048) ((dats m hO 0 c).arrAt 6 (cfgM m hO).N) (stepOf w p q (grad (own (m (c.tc.loc main_arg5))) s b))
    ∧ Ent3 (a := 1) (b := 512) (c := 2048) ((dats m hO 0 c).arrAt 7 (cfgM m hO).N) (meanOf p (grad (own (m (c.tc.loc main_arg5))) s b))
    ∧ Ent3 (a := 1) (b := 512) (c := 2048) ((dats m hO 0 c).arrAt 8 (cfgM m hO).N) (squareOf q (grad (own (m (c.tc.loc main_arg5))) s b)) := by
  refine ⟨congrFun ((dats m hO 0 c).arrAt_eq_of_covers 5 (fun i : S1x512x2048.Idx => grad _ s b (i 1).val (i 2).val) (of_decide_eq_true (by sl_kernel_rfl)) fun t _ y => ?_),
    congrFun ((dats m hO 0 c).arrAt_eq_of_covers 6 (fun i : S1x512x2048.Idx => stepOf w p q _ (i 0).val (i 1).val (i 2).val) (of_decide_eq_true (by sl_kernel_rfl)) fun t _ y => ?_),
    congrFun ((dats m hO 0 c).arrAt_eq_of_covers 7 (fun i : S1x512x2048.Idx => meanOf p _ (i 0).val (i 1).val (i 2).val) (of_decide_eq_true (by sl_kernel_rfl)) fun t _ y => ?_),
    congrFun ((dats m hO 0 c).arrAt_eq_of_covers 8 (fun i : S1x512x2048.Idx => squareOf q _ (i 0).val (i 1).val (i 2).val) (of_decide_eq_true (by sl_kernel_rfl)) fun t _ y => ?_)⟩
  · obtain ⟨z, e, hz⟩ := spot5 hO t y
    rw [e]
    exact ((point k0 k1 k2 k3 k4 hO t).1 y).trans (blk_of (fun _ => grad _ s b) hz).symm
  · obtain ⟨z, e, hz⟩ := spot6 hO t y
    rw [e]
    exact ((point k0 k1 k2 k3 k4 hO t).2.1 y).trans (blk_of (stepOf w p q _) hz).symm
  · obtain ⟨z, e, hz⟩ := spot7 hO t y
    rw [e]
    exact ((point k0 k1 k2 k3 k4 hO t).2.2.1 y).trans (blk_of (meanOf p _) hz).symm
  · obtain ⟨z, e, hz⟩ := spot8 hO t y
    rw [e]
    exact ((point k0 k1 k2 k3 k4 hO t).2.2.2 y).trans (blk_of (squareOf q _) hz).symm

omit k0 k1 k2 k3 k4

/-! ## The reference's four arrays -/

section
open Cert.AdamWRetOutRefIdeal.Read
variable {x0 x1 x2 : Vec Ideal S1x512x2048 .f32} {x3 : Vec Ideal S4x512x2048 .bf16} {x4 : Vec Ideal S3x512x2048 .bf16} {x5 : IVec S1 32}
  (h0 : Ent3 x0 w) (h1 : Ent3 x1 p) (h2 : Ent3 x2 q) (h3 : Ent3 x3 s) (h4 : Ent3 x4 b) (hk : own x5 < 4)

include h3 hk in
/-- The own part, as the sum over the four of which the others are replaced by zero. -/
theorem ref_own (i : Cert.AdamWRetOutRefIdeal.S512x2048.Idx) : val_main_v7 (F := Ideal) x3 x5 i = s (own x5) (i 0).val (i 1).val := by
  rw [val_main_v7_apply, val_main_cst_0_apply]
  rw [show (FloatOps.ofBits .f32 0x00000000#32 : Ideal .f32) = (0 : EReal) from Ideal.ofBits_zero_f32, zero_add]
  refine Eq.trans (Finset.sum_congr rfl fun k _ => ?_) (sum_own (fun k => s k (i 0).val (i 1).val) hk)
  rw [val_main_v6_apply, val_main_call0_v1_apply, val_main_call0_v2_apply, val_main_call0_v0_apply, val_main_cst_apply,
    val_main_v5_apply, val_main_v4_apply, val_main_v1_apply, val_main_v0_apply, val_main_v3_apply]
  have e : IntOp.cmpi .eq (BitVec.ofNat 32 k.val) (val_main_v2 (F := Ideal) x5 (idx_main_v3 (idx_main_call0_v1 (idx_main_v7 i k))))
      = if k.val = own x5 then 1#1 else 0#1 := mask x5 _ k.isLt
  refine (congrArg (fun z => Scalar.select z _ _) e).trans ?_
  by_cases h : k.val = own x5
  · rw [if_pos h, if_pos h]
    exact h3 _
  · rw [if_neg h, if_neg h]
    exact Ideal.ofBits_zero_f32

include h4 in
theorem ref_three (i : Cert.AdamWRetOutRefIdeal.S512x2048.Idx) : val_main_v10 (F := Ideal) x4 i
    = b 0 (i 0).val (i 1).val + b 1 (i 0).val (i 1).val + b 2 (i 0).val (i 1).val := by
  rw [val_main_v10_apply, val_main_cst_1_apply]
  rw [show (FloatOps.ofBits .f32 0x00000000#32 : Ideal .f32) = (0 : EReal) from Ideal.ofBits_zero_f32, zero_add, Fin.sum_univ_three]
  exact congrArg₂ (· + ·) (congrArg₂ (· + ·) (h4 _) (h4 _)) (h4 _)

include h3 h4 hk in
theorem ref_g : Ent3 (val_main_v12 (F := Ideal) x3 x4 x5) fun _ => grad (own x5) s b := fun i => by
  rw [val_main_v12_apply, val_main_v8_apply, val_main_v11_apply, ref_own h3 hk, ref_three h4]
  exact grad_eq _ s b _ _

theorem val_m (i : S1x512x2048.Idx) : val_main_v17 (F := Ideal) x1 x3 x4 x5 i = mean (x1 i) (val_main_v12 (F := Ideal) x3 x4 x5 i) := by
  simp only [val_main_v17_apply, val_main_v16_apply, val_main_v15_apply, val_main_v14_apply, val_main_v13_apply]
  rfl
theorem val_v (i : S1x512x2048.Idx) : val_main_v23 (F := Ideal) x2 x3 x4 x5 i = square (x2 i) (val_main_v12 (F := Ideal) x3 x4 x5 i) := by
  simp only [val_main_v23_apply, val_main_v22_apply, val_main_v21_apply, val_main_v20_apply, val_main_v19_apply, val_main_v18_apply]
  rfl

include h1 h3 h4 hk in
theorem ref_m : Ent3 (val_main_v17 (F := Ideal) x1 x3 x4 x5) (meanOf p (grad (own x5) s b)) := fun i => by
  rw [val_m, ref_g h3 h4 hk, h1 i, first i]
  rfl
include h2 h3 h4 hk in
theorem ref_v : Ent3 (val_main_v23 (F := Ideal) x2 x3 x4 x5) (squareOf q (grad (own x5) s b)) := fun i => by
  rw [val_v, ref_g h3 h4 hk, h2 i, first i]
  rfl
include h0 h1 h2 h3 h4 hk in
theorem ref_d : Ent3 (val_main_v36 (F := Ideal) x0 x1 x2 x3 x4 x5) (stepOf w p q (grad (own x5) s b)) := fun i => by
  simp only [val_main_v36_apply, val_main_v35_apply, val_main_v34_apply, val_main_v33_apply, val_main_v32_apply, val_main_v31_apply,
    val_main_v30_apply, val_main_v29_apply, val_main_v28_apply, val_main_v27_apply, val_main_v26_apply, val_main_v25_apply,
    val_main_v24_apply, val_m, val_v]
  rw [ref_g h3 h4 hk, h0 i, h1 i, h2 i, first i]
  rfl
end

end Cert.Proof.AdamWRetOut

end
-- ==== Proof.ValueAdamWOut.lean ====
/- THE OPTIMISER'S STEP ON A SHARD OF THE OTHER MIXERS' PROJECTIONS OUT: the kernel applies the formulas of `Shard` block by block of 256 rows;
   which of the device's own four parts it adds to the received ones, a word says. -/
module

public import proofs.«01_k».proof.Proof.Shard
public import proofs.«01_k».proof.Proof.Gen.AdamWOutIdeal.Frame
public import proofs.«01_k».proof.Proof.Gen.AdamWOutRefIdeal.Read
public import Idealize.ShloMosaic.Lib.Pipeline.ValueKit
public import Idealize.ShloMosaic.Lib.Tactic
public import Idealize.ShloMosaic.Lib.DynamicIndex
public import Idealize.ShloMosaic.Lib.WordCmp

@[expose] public section

set_option maxRecDepth 16384

noncomputable section

namespace Cert.Proof.AdamWOut

open Idealize.ShloMosaic Idealize.ShloMosaic.Tactic Cert.Proof.Shard Cert.AdamWOutIdeal Cert.AdamWOutIdeal.Gen

/-! ## A block -/

/-- The three received parts. -/
abbrev part0 (x : Vec Ideal S3x256x2048 .bf16) : Vec Ideal S1x256x2048 .bf16 := View.ld x (Rect.unit (s := S3x256x2048) ![0, 0, 0] S1x256x2048.size inb_S3x256x2048_S1x256x2048_0_0_0)
abbrev part1 (x : Vec Ideal S3x256x2048 .bf16) : Vec Ideal S1x256x2048 .bf16 := View.ld x (Rect.unit (s := S3x256x2048) ![1, 0, 0] S1x256x2048.size inb_S3x256x2048_S1x256x2048_1_0_0)
abbrev part2 (x : Vec Ideal S3x256x2048 .bf16) : Vec Ideal S1x256x2048 .bf16 := View.ld x (Rect.unit (s := S3x256x2048) ![2, 0, 0] S1x256x2048.size inb_S3x256x2048_S1x256x2048_2_0_0)

section
variable (x0 x1 x2 : Vec Ideal S1x256x2048 .f32) (x3 : Vec Ideal S1x256x2048 .bf16) (x4 : Vec Ideal S3x256x2048 .bf16)

/-- The sum of the own part and the received ones, the new moments, and the results. -/
abbrev sums := k0_pay4 (F := Ideal) x3 (part0 x4) (part1 x4) (part2 x4)
abbrev mom := k0_pay5 (F := Ideal) x3 (part0 x4) (part1 x4) (part2 x4) x1
abbrev sq := k0_pay6 (F := Ideal) x3 (part0 x4) (part1 x4) (part2 x4) x2
abbrev resG := k0_pay7 (F := Ideal) x3 (part0 x4) (part1 x4) (part2 x4)
abbrev resD := k0_pay1 (F := Ideal) (mom x1 x3 x4) (sq x2 x3 x4) x0
abbrev resM := k0_pay2 (F := Ideal) (mom x1 x3 x4)
abbrev resV := k0_pay3 (F := Ideal) (sq x2 x3 x4)

variable (c : Dev nD) (i : grid0.Coords)
  (a2 : Memref sig .tc .vmem S1x256x2048 .f32) (h2 : a2.IsWhole) (a3 : Memref sig .tc .vmem S1x256x2048 .f32) (h3 : a3.IsWhole)
  (a4 : Memref sig .tc .vmem S1x256x2048 .f32) (h4 : a4.IsWhole) (a5 : Memref sig .tc .vmem S1x256x2048 .bf16) (h5 : a5.IsWhole)
  (a6 : Memref sig .tc .vmem S3x256x2048 .bf16) (h6 : a6.IsWhole) (a7 : Memref sig .tc .vmem S1x256x2048 .f32) (h7 : a7.IsWhole)
  (a8 : Memref sig .tc .vmem S1x256x2048 .f32) (h8 : a8.IsWhole) (a9 : Memref sig .tc .vmem S1x256x2048 .f32) (h9 : a9.IsWhole)
  (a10 : Memref sig .tc .vmem S1x256x2048 .f32) (h10 : a10.IsWhole) (xt : TbBuf0 (F := Ideal) c tbM0_0)

/-- What a point's run leaves in the four results' buffers. -/
theorem outs : out0_A_5 c i a2 h2 a3 h3 a4 h4 a5 h5 a6 h6 a7 h7 a8 h8 a9 h9 a10 h10 x0 x1 x2 x3 x4 xt = resG x3 x4
    ∧ out0_A_6 c i a2 h2 a3 h3 a4 h4 a5 h5 a6 h6 a7 h7 a8 h8 a9 h9 a10 h10 x0 x1 x2 x3 x4 xt = resD x0 x1 x2 x3 x4
    ∧ out0_A_7 c i a2 h2 a3 h3 a4 h4 a5 h5 a6 h6 a7 h7 a8 h8 a9 h9 a10 h10 x0 x1 x2 x3 x4 xt = resM x1 x3 x4
    ∧ out0_A_8 c i a2 h2 a3 h3 a4 h4 a5 h5 a6 h6 a7 h7 a8 h8 a9 h9 a10 h10 x0 x1 x2 x3 x4 xt = resV x2 x3 x4 := by
  unfold out0_A_5 out0_A_6 out0_A_7 out0_A_8
  refine ⟨(View.read_writes_eq_canon _ _ _ fun _ => cover0_A_5 ..).trans ?_, (View.read_writes_eq_canon _ _ _ fun _ => cover0_A_6 ..).trans ?_,
    (View.read_writes_eq_canon _ _ _ fun _ => cover0_A_7 ..).trans ?_, (View.read_writes_eq_canon _ _ _ fun _ => cover0_A_8 ..).trans ?_⟩
  all_goals
    unfold kernelRun0_A
    dsimp only
    sl_unfold_words
    rw [View.canon_unit_zero zeros]
    simp only [View.readAt_eq_ld, h2.read_unread, h3.read_unread, h4.read_unread, h5.read_unread, h6.read_unread, View.ld_unit_zero (S := S1x256x2048) zeros]
end

theorem block {x0 x1 x2 : Vec Ideal S1x256x2048 .f32} {x3 : Vec Ideal S1x256x2048 .bf16} {x4 : Vec Ideal S3x256x2048 .bf16} {w p q s b : ℕ → ℕ → ℕ → EReal} {k : ℕ}
    (h0 : Ent3 x0 w) (h1 : Ent3 x1 p) (h2 : Ent3 x2 q) (h3 : Ent3 x3 fun _ => s k) (h4 : Ent3 x4 b) :
    Ent3 (resG x3 x4) (fun _ => grad k s b) ∧ Ent3 (resD x0 x1 x2 x3 x4) (stepOf w p q (grad k s b))
      ∧ Ent3 (resM x1 x3 x4) (meanOf p (grad k s b)) ∧ Ent3 (resV x2 x3 x4) (squareOf q (grad k s b)) := by
  have g : Ent (sums x3 x4) (grad k s b) := sum_is shapeCasts_S1x256x2048_S256x2048 h3 (part_is h4 fun _ => ⟨rfl, rfl, rfl⟩)
    (part_is h4 fun _ => ⟨rfl, rfl, rfl⟩) (part_is h4 fun _ => ⟨rfl, rfl, rfl⟩)
  have e1 : Ent (mom x1 x3 x4) (meanOf p (grad k s b) 0) := mean_is shapeCasts_S1x256x2048_S256x2048 h1 g
  have e2 : Ent (sq x2 x3 x4) (squareOf q (grad k s b) 0) := square_is shapeCasts_S1x256x2048_S256x2048 h2 g
  exact ⟨up_is shapeCasts_S256x2048_S1x256x2048 g, up_is shapeCasts_S256x2048_S1x256x2048 (step_is shapeCasts_S1x256x2048_S256x2048 h0 e1 e2),
    up_is shapeCasts_S256x2048_S1x256x2048 e1, up_is shapeCasts_S256x2048_S1x256x2048 e2⟩

/-! ## Where the windows' blocks put an entry -/

variable {m : (ℓ : Loc nD τ sig) → Buf (Elt Ideal) ℓ} {c : Dev nD}

theorem pos3 (hO : Ok m) (t : Fin (cfgM m hO).N) : ((cfgM m hO).win 3).index t = ![own (m (c.tc.loc main_arg5)), t.val, 0] := by
  obtain rfl : c = 0 := Subsingleton.elim _ _
  have ht : (BitVec.ofNat 32 ((grid0.coords t) 0).val).toNat = t.val :=
    (by decide +kernel : ∀ t : Fin grid0.N, (BitVec.ofNat 32 ((grid0.coords t) 0).val).toNat = t.val) t
  have hw : (Pipeline.Prefetch.Contents.at (tbl m) 0 (Rect.unit (s := S1) ![0] S1.size inb_S1_S1_0) numel1_S1 : BitVec 32).toNat
      = own (m (((0 : Dev nD).tc : Thread nD τ).loc main_arg5)) := own_eq (m (((0 : Dev nD).tc : Thread nD τ).loc main_arg5)) _
  show ![_, _, _] = _
  rw [← hw, ← ht]
  rfl
theorem spot0 (hO : Ok m) (t : Fin (cfgM m hO).N) (x : S1x256x2048.Idx) : ∃ z : S1x256x2048.Idx, (((cfgM m hO).win 0).blk t).view.emb x = z ∧ At z 0 t x :=
  ⟨_, rfl, at_of ((by decide +kernel : ∀ t : Fin grid0.N, cc0_transform_0 (grid0.coords t) = ![0, t.val, 0]) t) (Nat.zero_mul _) x⟩
theorem spot1 (hO : Ok m) (t : Fin (cfgM m hO).N) (x : S1x256x2048.Idx) : ∃ z : S1x256x2048.Idx, (((cfgM m hO).win 1).blk t).view.emb x = z ∧ At z 0 t x :=
  ⟨_, rfl, at_of ((by decide +kernel : ∀ t : Fin grid0.N, cc0_transform_1 (grid0.coords t) = ![0, t.val, 0]) t) (Nat.zero_mul _) x⟩
theorem spot2 (hO : Ok m) (t : Fin (cfgM m hO).N) (x : S1x256x2048.Idx) : ∃ z : S1x256x2048.Idx, (((cfgM m hO).win 2).blk t).view.emb x = z ∧ At z 0 t x :=
  ⟨_, rfl, at_of ((by decide +kernel : ∀ t : Fin grid0.N, cc0_transform_2 (grid0.coords t) = ![0, t.val, 0]) t) (Nat.zero_mul _) x⟩
theorem spot3 (hO : Ok m) (t : Fin (cfgM m hO).N) (x : S1x256x2048.Idx) : ∃ z : S4x256x2048.Idx, (((cfgM m hO).win 3).blk t).view.emb x = z ∧ At z (own (m (c.tc.loc main_arg5))) t x :=
  ⟨_, rfl, at_of (pos3 hO t) (Nat.mul_one _) x⟩
theorem spot4 (hO : Ok m) (t : Fin (cfgM m hO).N) (x : S3x256x2048.Idx) : ∃ z : S3x256x2048.Idx, (((cfgM m hO).win 4).blk t).view.emb x = z ∧ At z 0 t x :=
  ⟨_, rfl, at_of ((by decide +kernel : ∀ t : Fin grid0.N, cc0_transform_4 (grid0.coords t) = ![0, t.val, 0]) t) (Nat.zero_mul _) x⟩
theorem spot5 (hO : Ok m) (t : Fin (cfgM m hO).N) (x : S1x256x2048.Idx) : ∃ z : S1x256x2048.Idx, (((cfgM m hO).win 5).blk t).view.emb x = z ∧ At z 0 t x :=
  ⟨_, rfl, at_of ((by decide +kernel : ∀ t : Fin grid0.N, cc0_transform_5 (grid0.coords t) = ![0, t.val, 0]) t) (Nat.zero_mul _) x⟩
theorem spot6 (hO : Ok m) (t : Fin (cfgM m hO).N) (x : S1x256x2048.Idx) : ∃ z : S1x256x2048.Idx, (((cfgM m hO).win 6).blk t).view.emb x = z ∧ At z 0 t x :=
  ⟨_, rfl, at_of ((by decide +kernel : ∀ t : Fin grid0.N, cc0_transform_6 (grid0.coords t) = ![0, t.val, 0]) t) (Nat.zero_mul _) x⟩
theorem spot7 (hO : Ok m) (t : Fin (cfgM m hO).N) (x : S1x256x2048.Idx) : ∃ z : S1x256x2048.Idx, (((cfgM m hO).win 7).blk t).view.emb x = z ∧ At z 0 t x :=
  ⟨_, rfl, at_of ((by decide +kernel : ∀ t : Fin grid0.N, cc0_transform_7 (grid0.coords t) = ![0, t.val, 0]) t) (Nat.zero_mul _) x⟩
theorem spot8 (hO : Ok m) (t : Fin (cfgM m hO).N) (x : S1x256x2048.Idx) : ∃ z : S1x256x2048.Idx, (((cfgM m hO).win 8).blk t).view.emb x = z ∧ At z 0 t x :=
  ⟨_, rfl, at_of ((by decide +kernel : ∀ t : Fin grid0.N, cc0_transform_8 (grid0.coords t) = ![0, t.val, 0]) t) (Nat.zero_mul _) x⟩

/-! ## The kernel's four arrays -/

variable {w p q s b : ℕ → ℕ → ℕ → EReal}
  (k0 : Ent3 (m (c.tc.loc main_arg0)) w) (k1 : Ent3 (m (c.tc.loc main_arg1)) p)
  (k2 : Ent3 (m (c.tc.loc main_arg2)) q) (k3 : Ent3 (m (c.tc.loc main_arg3)) s) (k4 : Ent3 (m (c.tc.loc main_arg4)) b)

include k0 k1 k2 k3 k4

/-- What a grid point leaves. -/
theorem point (hO : Ok m) (t : Fin (cfgM m hO).N) :
    Ent3 ((dats m hO 0 c).after 5 t) (blk (fun _ => grad (own (m (c.tc.loc main_arg5))) s b) t)
    ∧ Ent3 ((dats m hO 0 c).after 6 t) (blk (stepOf w p q (grad (own (m (c.tc.loc main_arg5))) s b)) t)
    ∧ Ent3 ((dats m hO 0 c).after 7 t) (blk (meanOf p (grad (own (m (c.tc.loc main_arg5))) s b)) t)
    ∧ Ent3 ((dats m hO 0 c).after 8 t) (blk (squareOf q (grad (own (m (c.tc.loc main_arg5))) s b)) t) := by
  have b0 : Ent3 (iblk m hO c 0 t) (blk w t) := fun x => by
    obtain ⟨z, e, hz⟩ := spot0 hO t x
    exact (congrArg (m (c.tc.loc main_arg0)) e).trans ((k0 z).trans (blk_of w hz))
  have b1 : Ent3 (iblk m hO c 1 t) (blk p t) := fun x => by
    obtain ⟨z, e, hz⟩ := spot1 hO t x
    exact (congrArg (m (c.tc.loc main_arg1)) e).trans ((k1 z).trans (blk_of p hz))
  have b2 : Ent3 (iblk m hO c 2 t) (blk q t) := fun x => by
    obtain ⟨z, e, hz⟩ := spot2 hO t x
    exact (congrArg (m (c.tc.loc main_arg2)) e).trans ((k2 z).trans (blk_of q hz))
  have b4 : Ent3 (iblk m hO c 4 t) (blk b t) := fun x => by
    obtain ⟨z, e, hz⟩ := spot4 hO t x
    exact (congrArg (m (c.tc.loc main_arg4)) e).trans ((k4 z).trans (blk_of b hz))
  have b3 : Ent3 (iblk m hO c 3 t) (fun _ => blk s t (own (m (c.tc.loc main_arg5)))) := fun x => by
    obtain ⟨z, e, hz⟩ := spot3 (c := c) hO t x
    exact (congrArg (m (c.tc.loc main_arg3)) e).trans ((k3 z).trans (blk_own s hz))
  obtain ⟨g, d, n, v⟩ := block b0 b1 b2 b3 b4
  refine ⟨fun y => (congrFun ((after0_5 m hO c t).trans ?_) y).trans (g y), fun y => (congrFun ((after0_6 m hO c t).trans ?_) y).trans (d y),
    fun y => (congrFun ((after0_7 m hO c t).trans ?_) y).trans (n y), fun y => (congrFun ((after0_8 m hO c t).trans ?_) y).trans (v y)⟩
  all_goals
    unfold outsAt0
    dsimp only
  exacts [(outs ..).1, (outs ..).2.1, (outs ..).2.2.1, (outs ..).2.2.2]

theorem arrays (hO : Ok m) :
    Ent3 (a := 1) (b := 256) (c := 2048) ((dats m hO 0 c).arrAt 5 (cfgM m hO).N) (fun _ => grad (own (m (c.tc.loc main_arg5))) s b)
    ∧ Ent3 (a := 1) (b := 256) (c := 2048) ((dats m hO 0 c).arrAt 6 (cfgM m hO).N) (stepOf w p q (grad (own (m (c.tc.loc main_arg5))) s b))
    ∧ Ent3 (a := 1) (b := 256) (c := 2048) ((dats m hO 0 c).arrAt 7 (cfgM m hO).N) (meanOf p (grad (own (m (c.tc.loc main_arg5))) s b))
    ∧ Ent3 (a := 1) (b := 256) (c := 2048) ((dats m hO 0 c).arrAt 8 (cfgM m hO).N) (squareOf q (grad (own (m (c.tc.loc main_arg5))) s b)) := by
  refine ⟨congrFun ((dats m hO 0 c).arrAt_eq_of_covers 5 (fun i : S1x256x2048.Idx => grad _ s b (i 1).val (i 2).val) (of_decide_eq_true (by sl_kernel_rfl)) fun t _ y => ?_),
    congrFun ((dats m hO 0 c).arrAt_eq_of_covers 6 (fun i : S1x256x2048.Idx => stepOf w p q _ (i 0).val (i 1).val (i 2).val) (of_decide_eq_true (by sl_kernel_rfl)) fun t _ y => ?_),
    congrFun ((dats m hO 0 c).arrAt_eq_of_covers 7 (fun i : S1x256x2048.Idx => meanOf p _ (i 0).val (i 1).val (i 2).val) (of_decide_eq_true (by sl_kernel_rfl)) fun t _ y => ?_),
    congrFun ((dats m hO 0 c).arrAt_eq_of_covers 8 (fun i : S1x256x2048.Idx => squareOf q _ (i 0).val (i 1).val (i 2).val) (of_decide_eq_true (by sl_kernel_rfl)) fun t _ y => ?_)⟩
  · obtain ⟨z, e, hz⟩ := spot5 hO t y
    rw [e]
    exact ((point k0 k1 k2 k3 k4 hO t).1 y).trans (blk_of (fun _ => grad _ s b) hz).symm
  · obtain ⟨z, e, hz⟩ := spot6 hO t y
    rw [e]
    exact ((point k0 k1 k2 k3 k4 hO t).2.1 y).trans (blk_of (stepOf w p q _) hz).symm
  · obtain ⟨z, e, hz⟩ := spot7 hO t y
    rw [e]
    exact ((point k0 k1 k2 k3 k4 hO t).2.2.1 y).trans (blk_of (meanOf p _) hz).symm
  · obtain ⟨z, e, hz⟩ := spot8 hO t y
    rw [e]
    exact ((point k0 k1 k2 k3 k4 hO t).2.2.2 y).trans (blk_of (squareOf q _) hz).symm

omit k0 k1 k2 k3 k4

/-! ## The reference's four arrays -/

section
open Cert.AdamWOutRefIdeal.Read
variable {x0 x1 x2 : Vec Ideal S1x256x2048 .f32} {x3 : Vec Ideal S4x256x2048 .bf16} {x4 : Vec Ideal S3x256x2048 .bf16} {x5 : IVec S1 32}
  (h0 : Ent3 x0 w) (h1 : Ent3 x1 p) (h2 : Ent3 x2 q) (h3 : Ent3 x3 s) (h4 : Ent3 x4 b) (hk : own x5 < 4)

include h3 hk in
/-- The own part, as the sum over the four of which the others are replaced by zero. -/
theorem ref_own (i : Cert.AdamWOutRefIdeal.S256x2048.Idx) : val_main_v7 (F := Ideal) x3 x5 i = s (own x5) (i 0).val (i 1).val := by
  rw [val_main_v7_apply, val_main_cst_0_apply]
  rw [show (FloatOps.ofBits .f32 0x00000000#32 : Ideal .f32) = (0 : EReal) from Ideal.ofBits_zero_f32, zero_add]
  refine Eq.trans (Finset.sum_congr rfl fun k _ => ?_) (sum_own (fun k => s k (i 0).val (i 1).val) hk)
  rw [val_main_v6_apply, val_main_call0_v1_apply, val_main_call0_v2_apply, val_main_call0_v0_apply, val_main_cst_apply,
    val_main_v5_apply, val_main_v4_apply, val_main_v1_apply, val_main_v0_apply, val_main_v3_apply]
  have e : IntOp.cmpi .eq (BitVec.ofNat 32 k.val) (val_main_v2 (F := Ideal) x5 (idx_main_v3 (idx_main_call0_v1 (idx_main_v7 i k))))
      = if k.val = own x5 then 1#1 else 0#1 := mask x5 _ k.isLt
  refine (congrArg (fun z => Scalar.select z _ _) e).trans ?_
  by_cases h : k.val = own x5
  · rw [if_pos h, if_pos h]
    exact h3 _
  · rw [if_neg h, if_neg h]
    exact Ideal.ofBits_zero_f32

include h4 in
theorem ref_three (i : Cert.AdamWOutRefIdeal.S256x2048.Idx) : val_main_v10 (F := Ideal) x4 i
    = b 0 (i 0).val (i 1).val + b 1 (i 0).val (i 1).val + b 2 (i 0).val (i 1).val := by
  rw [val_main_v10_apply, val_main_cst_1_apply]
  rw [show (FloatOps.ofBits .f32 0x00000000#32 : Ideal .f32) = (0 : EReal) from Ideal.ofBits_zero_f32, zero_add, Fin.sum_univ_three]
  exact congrArg₂ (· + ·) (congrArg₂ (· + ·) (h4 _) (h4 _)) (h4 _)

include h3 h4 hk in
theorem ref_g : Ent3 (val_main_v12 (F := Ideal) x3 x4 x5) fun _ => grad (own x5) s b := fun i => by
  rw [val_main_v12_apply, val_main_v8_apply, val_main_v11_apply, ref_own h3 hk, ref_three h4]
  exact grad_eq _ s b _ _

theorem val_m (i : S1x256x2048.Idx) : val_main_v17 (F := Ideal) x1 x3 x4 x5 i = mean (x1 i) (val_main_v12 (F := Ideal) x3 x4 x5 i) := by
  simp only [val_main_v17_apply, val_main_v16_apply, val_main_v15_apply, val_main_v14_apply, val_main_v13_apply]
  rfl
theorem val_v (i : S1x256x2048.Idx) : val_main_v23 (F := Ideal) x2 x3 x4 x5 i = square (x2 i) (val_main_v12 (F := Ideal) x3 x4 x5 i) := by
  simp only [val_main_v23_apply, val_main_v22_apply, val_main_v21_apply, val_main_v20_apply, val_main_v19_apply, val_main_v18_apply]
  rfl

include h1 h3 h4 hk in
theorem ref_m : Ent3 (val_main_v17 (F := Ideal) x1 x3 x4 x5) (meanOf p (grad (own x5) s b)) := fun i => by
  rw [val_m, ref_g h3 h4 hk, h1 i, first i]
  rfl
include h2 h3 h4 hk in
theorem ref_v : Ent3 (val_main_v23 (F := Ideal) x2 x3 x4 x5) (squareOf q (grad (own x5) s b)) := fun i => by
  rw [val_v, ref_g h3 h4 hk, h2 i, first i]
  rfl
include h0 h1 h2 h3 h4 hk in
theorem ref_d : Ent3 (val_main_v36 (F := Ideal) x0 x1 x2 x3 x4 x5) (stepOf w p q (grad (own x5) s b)) := fun i => by
  simp only [val_main_v36_apply, val_main_v35_apply, val_main_v34_apply, val_main_v33_apply, val_main_v32_apply, val_main_v31_apply,
    val_main_v30_apply, val_main_v29_apply, val_main_v28_apply, val_main_v27_apply, val_main_v26_apply, val_main_v25_apply,
    val_main_v24_apply, val_m, val_v]
  rw [ref_g h3 h4 hk, h0 i, h1 i, h2 i, first i]
  rfl
end

end Cert.Proof.AdamWOut

end
-- ==== Proof.Shards.lean ====
/- THE OPTIMISER'S STEP ON THE SHARDS: the claims. The precondition is that the word names one of the four parts: then the blocks that the
   kernel reads lie inside the array, and kernel and reference add the same part. -/
module

public import proofs.«01_k».proof.Defs
public import proofs.«01_k».proof.Proof.Gen.AdamWLruIn.Frame
public import proofs.«01_k».proof.Proof.ValueAdamWLruIn
public import proofs.«01_k».proof.Proof.Gen.AdamWRetIn.Frame
public import proofs.«01_k».proof.Proof.ValueAdamWRetIn
public import proofs.«01_k».proof.Proof.Gen.AdamWGdnIn.Frame
public import proofs.«01_k».proof.Proof.ValueAdamWGdnIn
public import proofs.«01_k».proof.Proof.Gen.AdamWGlaIn.Frame
public import proofs.«01_k».proof.Proof.ValueAdamWGlaIn
public import proofs.«01_k».proof.Proof.Gen.AdamWRetOut.Frame
public import proofs.«01_k».proof.Proof.ValueAdamWRetOut
public import proofs.«01_k».proof.Proof.Gen.AdamWOut.Frame
public import proofs.«01_k».proof.Proof.ValueAdamWOut

@[expose] public section

set_option maxRecDepth 16384

noncomputable section

namespace Cert.Proof

open Idealize.ShloMosaic Idealize.SL.Sem Cert.Proof.Shard

/-! ## The gated recurrence's projection in -/

/-- What the predicate states of its operations. -/
theorem AdamWLruIn.factsPre : Cert.Pre_on_mesh_2048_512.Facts where
  bcast_S_S1 := by decide +kernel

/-- The precondition says that the word names one of four parts. -/
theorem AdamWLruIn.own_of_pre {F : FTy → Type} [FloatOps F] {x0 x1 x2 x3 x4} {x5 : (⟨1, ![1]⟩ : Shape).Idx → BitVec 32}
    (h : @Cert.Pre_on_mesh_2048_512.fn AdamWLruIn.factsPre F _ x0 x1 x2 x3 x4 x5 = fun _ => 1#1) : own x5 < 4 := by
  obtain ⟨h0, h4⟩ := and_one _ _ (congrFun h (ValueIdx.ix1 0))
  exact word_lt h0 h4

theorem AdamWLruIn.ok {F : FTy → Type} [FloatOps F] {m : (ℓ : Loc Cert.AdamWLruIn.nD Cert.AdamWLruIn.τ Cert.AdamWLruIn.sig) → Buf (Elt F) ℓ}
    (h : own (m (((0 : Dev Cert.AdamWLruIn.nD).tc : Thread Cert.AdamWLruIn.nD Cert.AdamWLruIn.τ).loc Cert.AdamWLruIn.main_arg5)) < 4) : Cert.AdamWLruIn.Gen.Ok m := by
  refine fun i => ⟨fun a => ?_, .inr (Affine.block_words_dvd (of_decide_eq_true rfl) (by decide))⟩
  match a with
  | ⟨0, _⟩ => exact (Nat.mul_one _).le.trans ((own_eq _ _).trans_lt h)
  | ⟨1, _⟩ => exact (by decide +kernel : ∀ i : Cert.AdamWLruIn.grid0.Coords, ((BitVec.ofNat 32 (i 0).val).toNat + 1) * 256 ≤ 2048) i
  | ⟨2, _⟩ => exact (by decide : (0 + 1) * 512 ≤ 512)

theorem AdamWLruIn.okIdeal {F : FTy → Type} [FloatOps F] {m : (ℓ : Loc Cert.AdamWLruInIdeal.nD Cert.AdamWLruInIdeal.τ Cert.AdamWLruInIdeal.sig) → Buf (Elt F) ℓ}
    (h : own (m (((0 : Dev Cert.AdamWLruInIdeal.nD).tc : Thread Cert.AdamWLruInIdeal.nD Cert.AdamWLruInIdeal.τ).loc Cert.AdamWLruInIdeal.main_arg5)) < 4) : Cert.AdamWLruInIdeal.Gen.Ok m := by
  refine fun i => ⟨fun a => ?_, .inr (Affine.block_words_dvd (of_decide_eq_true rfl) (by decide))⟩
  match a with
  | ⟨0, _⟩ => exact (Nat.mul_one _).le.trans ((own_eq _ _).trans_lt h)
  | ⟨1, _⟩ => exact (by decide +kernel : ∀ i : Cert.AdamWLruInIdeal.grid0.Coords, ((BitVec.ofNat 32 (i 0).val).toNat + 1) * 256 ≤ 2048) i
  | ⟨2, _⟩ => exact (by decide : (0 + 1) * 512 ≤ 512)

theorem AdamWLruIn.frame : quiescent_AdamWLruIn (hAdamWLruIn := Cert.AdamWLruIn.Gen.facts) (hPre_on_mesh_2048_512 := AdamWLruIn.factsPre) := fun m g h =>
  Cert.AdamWLruIn.Gen.frame m g (AdamWLruIn.ok (AdamWLruIn.own_of_pre (h 0)))

theorem AdamWLruIn.frameIdeal : quiescent_AdamWLruInIdeal (hAdamWLruInIdeal := Cert.AdamWLruInIdeal.Gen.facts) (hPre_on_mesh_2048_512 := AdamWLruIn.factsPre) := fun m g h =>
  Cert.AdamWLruInIdeal.Gen.frame m g (AdamWLruIn.okIdeal (AdamWLruIn.own_of_pre (h 0)))

/-- The reference runs no kernel and has no counters. -/
theorem AdamWLruIn.frame_ref : quiescent_AdamWLruInRefIdeal (hAdamWLruInRefIdeal := Cert.AdamWLruInRefIdeal.Gen.facts) := fun m g _ =>
  (θ_run Cert.AdamWLruInRefIdeal.defs _ _).mono (fun r h => ⟨fun c => (h c).2.2.2.2,
      Idealize.ShloMosaic.sem_eq_zero_of_no_sems (by decide) r.2⟩)
    (Cert.AdamWLruInRefIdeal.Value.run (F := Ideal) m g)

theorem AdamWLruIn.frame_ref_pre : quiescent_AdamWLruInRefIdeal_pre_on_mesh_2048_512 (hAdamWLruInRefIdeal := Cert.AdamWLruInRefIdeal.Gen.facts) (hPre_on_mesh_2048_512 := AdamWLruIn.factsPre) := fun m g _ =>
  AdamWLruIn.frame_ref m g trivial

/-- Kernel and reference end with the same arrays. -/
theorem AdamWLruIn.algebraic : algebraic_AdamWLruInIdeal_AdamWLruInRefIdeal (hAdamWLruInIdeal := Cert.AdamWLruInIdeal.Gen.facts) (hAdamWLruInRefIdeal := Cert.AdamWLruInRefIdeal.Gen.facts) (hPre_on_mesh_2048_512 := AdamWLruIn.factsPre) := by
  intro m g m' g' hpre hagree
  have hO := AdamWLruIn.okIdeal (AdamWLruIn.own_of_pre (hpre 0))
  refine ⟨fun c => (Cert.AdamWLruInIdeal.Gen.dats m hO 0 c).arrAt 5 (Cert.AdamWLruInIdeal.Gen.cfgM m hO).N, fun c => (Cert.AdamWLruInIdeal.Gen.dats m hO 0 c).arrAt 6 (Cert.AdamWLruInIdeal.Gen.cfgM m hO).N,
    fun c => (Cert.AdamWLruInIdeal.Gen.dats m hO 0 c).arrAt 7 (Cert.AdamWLruInIdeal.Gen.cfgM m hO).N, fun c => (Cert.AdamWLruInIdeal.Gen.dats m hO 0 c).arrAt 8 (Cert.AdamWLruInIdeal.Gen.cfgM m hO).N,
    (θ_run Cert.AdamWLruInIdeal.defs _ _).mono (fun r h c => ⟨(h.2 c).1 5, (h.2 c).1 6, (h.2 c).1 7, (h.2 c).1 8, h.1 c⟩)
      (θ_run_and (Cert.AdamWLruInIdeal.Gen.unchanged m g hO) (Cert.AdamWLruInIdeal.Gen.run_main m g hO)),
    (θ_run Cert.AdamWLruInRefIdeal.defs _ _).mono (fun r h c => ?_) (Cert.AdamWLruInRefIdeal.Value.run (F := Ideal) m' g')⟩
  obtain ⟨h0, h1, h2, h3, ha⟩ := h c
  obtain ⟨e0, e1, e2, e3, e4, e5⟩ := hagree c
  have hk := AdamWLruIn.own_of_pre (hpre c)
  rw [Cert.AdamWLruInRefIdeal.Read.val_main_v12_eq, e3, e4, e5] at h0
  rw [Cert.AdamWLruInRefIdeal.Read.val_main_v36_eq, e0, e1, e2, e3, e4, e5] at h1
  rw [Cert.AdamWLruInRefIdeal.Read.val_main_v17_eq, e1, e3, e4, e5] at h2
  rw [Cert.AdamWLruInRefIdeal.Read.val_main_v23_eq, e2, e3, e4, e5] at h3
  obtain ⟨a0, a1, a2, a3⟩ := AdamWLruIn.arrays (c := c) (ent3_is _) (ent3_is _) (ent3_is _) (ent3_is _) (ent3_is _) hO
  exact ⟨h0.trans (funext fun i => (AdamWLruIn.ref_g (ent3_is _) (ent3_is _) hk i).trans (a0 i).symm),
    h1.trans (funext fun i => (AdamWLruIn.ref_d (ent3_is _) (ent3_is _) (ent3_is _) (ent3_is _) (ent3_is _) hk i).trans (a1 i).symm),
    h2.trans (funext fun i => (AdamWLruIn.ref_m (ent3_is _) (ent3_is _) (ent3_is _) hk i).trans (a2 i).symm),
    h3.trans (funext fun i => (AdamWLruIn.ref_v (ent3_is _) (ent3_is _) (ent3_is _) hk i).trans (a3 i).symm), ha⟩

/-! ## Retention's projection in -/

/-- What the predicate states of its operations. -/
theorem AdamWRetIn.factsPre : Cert.Pre_on_mesh_2048_1536.Facts where
  bcast_S_S1 := by decide +kernel

/-- The precondition says that the word names one of four parts. -/
theorem AdamWRetIn.own_of_pre {F : FTy → Type} [FloatOps F] {x0 x1 x2 x3 x4} {x5 : (⟨1, ![1]⟩ : Shape).Idx → BitVec 32}
    (h : @Cert.Pre_on_mesh_2048_1536.fn AdamWRetIn.factsPre F _ x0 x1 x2 x3 x4 x5 = fun _ => 1#1) : own x5 < 4 := by
  obtain ⟨h0, h4⟩ := and_one _ _ (congrFun h (ValueIdx.ix1 0))
  exact word_lt h0 h4

theorem AdamWRetIn.ok {F : FTy → Type} [FloatOps F] {m : (ℓ : Loc Cert.AdamWRetIn.nD Cert.AdamWRetIn.τ Cert.AdamWRetIn.sig) → Buf (Elt F) ℓ}
    (h : own (m (((0 : Dev Cert.AdamWRetIn.nD).tc : Thread Cert.AdamWRetIn.nD Cert.AdamWRetIn.τ).loc Cert.AdamWRetIn.main_arg5)) < 4) : Cert.AdamWRetIn.Gen.Ok m := by
  refine fun i => ⟨fun a => ?_, .inr (Affine.block_words_dvd (of_decide_eq_true rfl) (by decide))⟩
  match a with
  | ⟨0, _⟩ => exact (Nat.mul_one _).le.trans ((own_eq _ _).trans_lt h)
  | ⟨1, _⟩ => exact (by decide +kernel : ∀ i : Cert.AdamWRetIn.grid0.Coords, ((BitVec.ofNat 32 (i 0).val).toNat + 1) * 256 ≤ 2048) i
  | ⟨2, _⟩ => exact (by decide : (0 + 1) * 1536 ≤ 1536)

theorem AdamWRetIn.okIdeal {F : FTy → Type} [FloatOps F] {m : (ℓ : Loc Cert.AdamWRetInIdeal.nD Cert.AdamWRetInIdeal.τ Cert.AdamWRetInIdeal.sig) → Buf (Elt F) ℓ}
    (h : own (m (((0 : Dev Cert.AdamWRetInIdeal.nD).tc : Thread Cert.AdamWRetInIdeal.nD Cert.AdamWRetInIdeal.τ).loc Cert.AdamWRetInIdeal.main_arg5)) < 4) : Cert.AdamWRetInIdeal.Gen.Ok m := by
  refine fun i => ⟨fun a => ?_, .inr (Affine.block_words_dvd (of_decide_eq_true rfl) (by decide))⟩
  match a with
  | ⟨0, _⟩ => exact (Nat.mul_one _).le.trans ((own_eq _ _).trans_lt h)
  | ⟨1, _⟩ => exact (by decide +kernel : ∀ i : Cert.AdamWRetInIdeal.grid0.Coords, ((BitVec.ofNat 32 (i 0).val).toNat + 1) * 256 ≤ 2048) i
  | ⟨2, _⟩ => exact (by decide : (0 + 1) * 1536 ≤ 1536)

theorem AdamWRetIn.frame : quiescent_AdamWRetIn (hAdamWRetIn := Cert.AdamWRetIn.Gen.facts) (hPre_on_mesh_2048_1536 := AdamWRetIn.factsPre) := fun m g h =>
  Cert.AdamWRetIn.Gen.frame m g (AdamWRetIn.ok (AdamWRetIn.own_of_pre (h 0)))

theorem AdamWRetIn.frameIdeal : quiescent_AdamWRetInIdeal (hAdamWRetInIdeal := Cert.AdamWRetInIdeal.Gen.facts) (hPre_on_mesh_2048_1536 := AdamWRetIn.factsPre) := fun m g h =>
  Cert.AdamWRetInIdeal.Gen.frame m g (AdamWRetIn.okIdeal (AdamWRetIn.own_of_pre (h 0)))

/-- The reference runs no kernel and has no counters. -/
theorem AdamWRetIn.frame_ref : quiescent_AdamWRetInRefIdeal (hAdamWRetInRefIdeal := Cert.AdamWRetInRefIdeal.Gen.facts) := fun m g _ =>
  (θ_run Cert.AdamWRetInRefIdeal.defs _ _).mono (fun r h => ⟨fun c => (h c).2.2.2.2,
      Idealize.ShloMosaic.sem_eq_zero_of_no_sems (by decide) r.2⟩)
    (Cert.AdamWRetInRefIdeal.Value.run (F := Ideal) m g)

theorem AdamWRetIn.frame_ref_pre : quiescent_AdamWRetInRefIdeal_pre_on_mesh_2048_1536 (hAdamWRetInRefIdeal := Cert.AdamWRetInRefIdeal.Gen.facts) (hPre_on_mesh_2048_1536 := AdamWRetIn.factsPre) := fun m g _ =>
  AdamWRetIn.frame_ref m g trivial

/-- Kernel and reference end with the same arrays. -/
theorem AdamWRetIn.algebraic : algebraic_AdamWRetInIdeal_AdamWRetInRefIdeal (hAdamWRetInIdeal := Cert.AdamWRetInIdeal.Gen.facts) (hAdamWRetInRefIdeal := Cert.AdamWRetInRefIdeal.Gen.facts) (hPre_on_mesh_2048_1536 := AdamWRetIn.factsPre) := by
  intro m g m' g' hpre hagree
  have hO := AdamWRetIn.okIdeal (AdamWRetIn.own_of_pre (hpre 0))
  refine ⟨fun c => (Cert.AdamWRetInIdeal.Gen.dats m hO 0 c).arrAt 5 (Cert.AdamWRetInIdeal.Gen.cfgM m hO).N, fun c => (Cert.AdamWRetInIdeal.Gen.dats m hO 0 c).arrAt 6 (Cert.AdamWRetInIdeal.Gen.cfgM m hO).N,
    fun c => (Cert.AdamWRetInIdeal.Gen.dats m hO 0 c).arrAt 7 (Cert.AdamWRetInIdeal.Gen.cfgM m hO).N, fun c => (Cert.AdamWRetInIdeal.Gen.dats m hO 0 c).arrAt 8 (Cert.AdamWRetInIdeal.Gen.cfgM m hO).N,
    (θ_run Cert.AdamWRetInIdeal.defs _ _).mono (fun r h c => ⟨(h.2 c).1 5, (h.2 c).1 6, (h.2 c).1 7, (h.2 c).1 8, h.1 c⟩)
      (θ_run_and (Cert.AdamWRetInIdeal.Gen.unchanged m g hO) (Cert.AdamWRetInIdeal.Gen.run_main m g hO)),
    (θ_run Cert.AdamWRetInRefIdeal.defs _ _).mono (fun r h c => ?_) (Cert.AdamWRetInRefIdeal.Value.run (F := Ideal) m' g')⟩
  obtain ⟨h0, h1, h2, h3, ha⟩ := h c
  obtain ⟨e0, e1, e2, e3, e4, e5⟩ := hagree c
  have hk := AdamWRetIn.own_of_pre (hpre c)
  rw [Cert.AdamWRetInRefIdeal.Read.val_main_v12_eq, e3, e4, e5] at h0
  rw [Cert.AdamWRetInRefIdeal.Read.val_main_v36_eq, e0, e1, e2, e3, e4, e5] at h1
  rw [Cert.AdamWRetInRefIdeal.Read.val_main_v17_eq, e1, e3, e4, e5] at h2
  rw [Cert.AdamWRetInRefIdeal.Read.val_main_v23_eq, e2, e3, e4, e5] at h3
  obtain ⟨a0, a1, a2, a3⟩ := AdamWRetIn.arrays (c := c) (ent3_is _) (ent3_is _) (ent3_is _) (ent3_is _) (ent3_is _) hO
  exact ⟨h0.trans (funext fun i => (AdamWRetIn.ref_g (ent3_is _) (ent3_is _) hk i).trans (a0 i).symm),
    h1.trans (funext fun i => (AdamWRetIn.ref_d (ent3_is _) (ent3_is _) (ent3_is _) (ent3_is _) (ent3_is _) hk i).trans (a1 i).symm),
    h2.trans (funext fun i => (AdamWRetIn.ref_m (ent3_is _) (ent3_is _) (ent3_is _) hk i).trans (a2 i).symm),
    h3.trans (funext fun i => (AdamWRetIn.ref_v (ent3_is _) (ent3_is _) (ent3_is _) hk i).trans (a3 i).symm), ha⟩

/-! ## The delta rule's projection in -/

/-- What the predicate states of its operations. -/
theorem AdamWGdnIn.factsPre : Cert.Pre_on_mesh_2048_1028.Facts where
  bcast_S_S1 := by decide +kernel

/-- The precondition says that the word names one of four parts. -/
theorem AdamWGdnIn.own_of_pre {F : FTy → Type} [FloatOps F] {x0 x1 x2 x3 x4} {x5 : (⟨1, ![1]⟩ : Shape).Idx → BitVec 32}
    (h : @Cert.Pre_on_mesh_2048_1028.fn AdamWGdnIn.factsPre F _ x0 x1 x2 x3 x4 x5 = fun _ => 1#1) : own x5 < 4 := by
  obtain ⟨h0, h4⟩ := and_one _ _ (congrFun h (ValueIdx.ix1 0))
  exact word_lt h0 h4

theorem AdamWGdnIn.ok {F : FTy → Type} [FloatOps F] {m : (ℓ : Loc Cert.AdamWGdnIn.nD Cert.AdamWGdnIn.τ Cert.AdamWGdnIn.sig) → Buf (Elt F) ℓ}
    (h : own (m (((0 : Dev Cert.AdamWGdnIn.nD).tc : Thread Cert.AdamWGdnIn.nD Cert.AdamWGdnIn.τ).loc Cert.AdamWGdnIn.main_arg5)) < 4) : Cert.AdamWGdnIn.Gen.Ok m := by
  refine fun i => ⟨fun a => ?_, .inr (Affine.block_words_dvd (of_decide_eq_true rfl) (by decide))⟩
  match a with
  | ⟨0, _⟩ => exact (Nat.mul_one _).le.trans ((own_eq _ _).trans_lt h)
  | ⟨1, _⟩ => exact (by decide +kernel : ∀ i : Cert.AdamWGdnIn.grid0.Coords, ((BitVec.ofNat 32 (i 0).val).toNat + 1) * 256 ≤ 2048) i
  | ⟨2, _⟩ => exact (by decide : (0 + 1) * 1028 ≤ 1028)

theorem AdamWGdnIn.okIdeal {F : FTy → Type} [FloatOps F] {m : (ℓ : Loc Cert.AdamWGdnInIdeal.nD Cert.AdamWGdnInIdeal.τ Cert.AdamWGdnInIdeal.sig) → Buf (Elt F) ℓ}
    (h : own (m (((0 : Dev Cert.AdamWGdnInIdeal.nD).tc : Thread Cert.AdamWGdnInIdeal.nD Cert.AdamWGdnInIdeal.τ).loc Cert.AdamWGdnInIdeal.main_arg5)) < 4) : Cert.AdamWGdnInIdeal.Gen.Ok m := by
  refine fun i => ⟨fun a => ?_, .inr (Affine.block_words_dvd (of_decide_eq_true rfl) (by decide))⟩
  match a with
  | ⟨0, _⟩ => exact (Nat.mul_one _).le.trans ((own_eq _ _).trans_lt h)
  | ⟨1, _⟩ => exact (by decide +kernel : ∀ i : Cert.AdamWGdnInIdeal.grid0.Coords, ((BitVec.ofNat 32 (i 0).val).toNat + 1) * 256 ≤ 2048) i
  | ⟨2, _⟩ => exact (by decide : (0 + 1) * 1028 ≤ 1028)

theorem AdamWGdnIn.frame : quiescent_AdamWGdnIn (hAdamWGdnIn := Cert.AdamWGdnIn.Gen.facts) (hPre_on_mesh_2048_1028 := AdamWGdnIn.factsPre) := fun m g h =>
  Cert.AdamWGdnIn.Gen.frame m g (AdamWGdnIn.ok (AdamWGdnIn.own_of_pre (h 0)))

theorem AdamWGdnIn.frameIdeal : quiescent_AdamWGdnInIdeal (hAdamWGdnInIdeal := Cert.AdamWGdnInIdeal.Gen.facts) (hPre_on_mesh_2048_1028 := AdamWGdnIn.factsPre) := fun m g h =>
  Cert.AdamWGdnInIdeal.Gen.frame m g (AdamWGdnIn.okIdeal (AdamWGdnIn.own_of_pre (h 0)))

/-- The reference runs no kernel and has no counters. -/
theorem AdamWGdnIn.frame_ref : quiescent_AdamWGdnInRefIdeal (hAdamWGdnInRefIdeal := Cert.AdamWGdnInRefIdeal.Gen.facts) := fun m g _ =>
  (θ_run Cert.AdamWGdnInRefIdeal.defs _ _).mono (fun r h => ⟨fun c => (h c).2.2.2.2,
      Idealize.ShloMosaic.sem_eq_zero_of_no_sems (by decide) r.2⟩)
    (Cert.AdamWGdnInRefIdeal.Value.run (F := Ideal) m g)

theorem AdamWGdnIn.frame_ref_pre : quiescent_AdamWGdnInRefIdeal_pre_on_mesh_2048_1028 (hAdamWGdnInRefIdeal := Cert.AdamWGdnInRefIdeal.Gen.facts) (hPre_on_mesh_2048_1028 := AdamWGdnIn.factsPre) := fun m g _ =>
  AdamWGdnIn.frame_ref m g trivial

/-- Kernel and reference end with the same arrays. -/
theorem AdamWGdnIn.algebraic : algebraic_AdamWGdnInIdeal_AdamWGdnInRefIdeal (hAdamWGdnInIdeal := Cert.AdamWGdnInIdeal.Gen.facts) (hAdamWGdnInRefIdeal := Cert.AdamWGdnInRefIdeal.Gen.facts) (hPre_on_mesh_2048_1028 := AdamWGdnIn.factsPre) := by
  intro m g m' g' hpre hagree
  have hO := AdamWGdnIn.okIdeal (AdamWGdnIn.own_of_pre (hpre 0))
  refine ⟨fun c => (Cert.AdamWGdnInIdeal.Gen.dats m hO 0 c).arrAt 5 (Cert.AdamWGdnInIdeal.Gen.cfgM m hO).N, fun c => (Cert.AdamWGdnInIdeal.Gen.dats m hO 0 c).arrAt 6 (Cert.AdamWGdnInIdeal.Gen.cfgM m hO).N,
    fun c => (Cert.AdamWGdnInIdeal.Gen.dats m hO 0 c).arrAt 7 (Cert.AdamWGdnInIdeal.Gen.cfgM m hO).N, fun c => (Cert.AdamWGdnInIdeal.Gen.dats m hO 0 c).arrAt 8 (Cert.AdamWGdnInIdeal.Gen.cfgM m hO).N,
    (θ_run Cert.AdamWGdnInIdeal.defs _ _).mono (fun r h c => ⟨(h.2 c).1 5, (h.2 c).1 6, (h.2 c).1 7, (h.2 c).1 8, h.1 c⟩)
      (θ_run_and (Cert.AdamWGdnInIdeal.Gen.unchanged m g hO) (Cert.AdamWGdnInIdeal.Gen.run_main m g hO)),
    (θ_run Cert.AdamWGdnInRefIdeal.defs _ _).mono (fun r h c => ?_) (Cert.AdamWGdnInRefIdeal.Value.run (F := Ideal) m' g')⟩
  obtain ⟨h0, h1, h2, h3, ha⟩ := h c
  obtain ⟨e0, e1, e2, e3, e4, e5⟩ := hagree c
  have hk := AdamWGdnIn.own_of_pre (hpre c)
  rw [Cert.AdamWGdnInRefIdeal.Read.val_main_v12_eq, e3, e4, e5] at h0
  rw [Cert.AdamWGdnInRefIdeal.Read.val_main_v36_eq, e0, e1, e2, e3, e4, e5] at h1
  rw [Cert.AdamWGdnInRefIdeal.Read.val_main_v17_eq, e1, e3, e4, e5] at h2
  rw [Cert.AdamWGdnInRefIdeal.Read.val_main_v23_eq, e2, e3, e4, e5] at h3
  obtain ⟨a0, a1, a2, a3⟩ := AdamWGdnIn.arrays (c := c) (ent3_is _) (ent3_is _) (ent3_is _) (ent3_is _) (ent3_is _) hO
  exact ⟨h0.trans (funext fun i => (AdamWGdnIn.ref_g (ent3_is _) (ent3_is _) hk i).trans (a0 i).symm),
    h1.trans (funext fun i => (AdamWGdnIn.ref_d (ent3_is _) (ent3_is _) (ent3_is _) (ent3_is _) (ent3_is _) hk i).trans (a1 i).symm),
    h2.trans (funext fun i => (AdamWGdnIn.ref_m (ent3_is _) (ent3_is _) (ent3_is _) hk i).trans (a2 i).symm),
    h3.trans (funext fun i => (AdamWGdnIn.ref_v (ent3_is _) (ent3_is _) (ent3_is _) hk i).trans (a3 i).symm), ha⟩

/-! ## Gated linear attention's projection in -/

/-- What the predicate states of its operations. -/
theorem AdamWGlaIn.factsPre : Cert.Pre_on_mesh_2048_770.Facts where
  bcast_S_S1 := by decide +kernel

/-- The precondition says that the word names one of four parts. -/
theorem AdamWGlaIn.own_of_pre {F : FTy → Type} [FloatOps F] {x0 x1 x2 x3 x4} {x5 : (⟨1, ![1]⟩ : Shape).Idx → BitVec 32}
    (h : @Cert.Pre_on_mesh_2048_770.fn AdamWGlaIn.factsPre F _ x0 x1 x2 x3 x4 x5 = fun _ => 1#1) : own x5 < 4 := by
  obtain ⟨h0, h4⟩ := and_one _ _ (congrFun h (ValueIdx.ix1 0))
  exact word_lt h0 h4

theorem AdamWGlaIn.ok {F : FTy → Type} [FloatOps F] {m : (ℓ : Loc Cert.AdamWGlaIn.nD Cert.AdamWGlaIn.τ Cert.AdamWGlaIn.sig) → Buf (Elt F) ℓ}
    (h : own (m (((0 : Dev Cert.AdamWGlaIn.nD).tc : Thread Cert.AdamWGlaIn.nD Cert.AdamWGlaIn.τ).loc Cert.AdamWGlaIn.main_arg5)) < 4) : Cert.AdamWGlaIn.Gen.Ok m := by
  refine fun i => ⟨fun a => ?_, .inr (Affine.block_words_dvd (of_decide_eq_true rfl) (by decide))⟩
  match a with
  | ⟨0, _⟩ => exact (Nat.mul_one _).le.trans ((own_eq _ _).trans_lt h)
  | ⟨1, _⟩ => exact (by decide +kernel : ∀ i : Cert.AdamWGlaIn.grid0.Coords, ((BitVec.ofNat 32 (i 0).val).toNat + 1) * 256 ≤ 2048) i
  | ⟨2, _⟩ => exact (by decide : (0 + 1) * 770 ≤ 770)

theorem AdamWGlaIn.okIdeal {F : FTy → Type} [FloatOps F] {m : (ℓ : Loc Cert.AdamWGlaInIdeal.nD Cert.AdamWGlaInIdeal.τ Cert.AdamWGlaInIdeal.sig) → Buf (Elt F) ℓ}
    (h : own (m (((0 : Dev Cert.AdamWGlaInIdeal.nD).tc : Thread Cert.AdamWGlaInIdeal.nD Cert.AdamWGlaInIdeal.τ).loc Cert.AdamWGlaInIdeal.main_arg5)) < 4) : Cert.AdamWGlaInIdeal.Gen.Ok m := by
  refine fun i => ⟨fun a => ?_, .inr (Affine.block_words_dvd (of_decide_eq_true rfl) (by decide))⟩
  match a with
  | ⟨0, _⟩ => exact (Nat.mul_one _).le.trans ((own_eq _ _).trans_lt h)
  | ⟨1, _⟩ => exact (by decide +kernel : ∀ i : Cert.AdamWGlaInIdeal.grid0.Coords, ((BitVec.ofNat 32 (i 0).val).toNat + 1) * 256 ≤ 2048) i
  | ⟨2, _⟩ => exact (by decide : (0 + 1) * 770 ≤ 770)

theorem AdamWGlaIn.frame : quiescent_AdamWGlaIn (hAdamWGlaIn := Cert.AdamWGlaIn.Gen.facts) (hPre_on_mesh_2048_770 := AdamWGlaIn.factsPre) := fun m g h =>
  Cert.AdamWGlaIn.Gen.frame m g (AdamWGlaIn.ok (AdamWGlaIn.own_of_pre (h 0)))

theorem AdamWGlaIn.frameIdeal : quiescent_AdamWGlaInIdeal (hAdamWGlaInIdeal := Cert.AdamWGlaInIdeal.Gen.facts) (hPre_on_mesh_2048_770 := AdamWGlaIn.factsPre) := fun m g h =>
  Cert.AdamWGlaInIdeal.Gen.frame m g (AdamWGlaIn.okIdeal (AdamWGlaIn.own_of_pre (h 0)))

/-- The reference runs no kernel and has no counters. -/
theorem AdamWGlaIn.frame_ref : quiescent_AdamWGlaInRefIdeal (hAdamWGlaInRefIdeal := Cert.AdamWGlaInRefIdeal.Gen.facts) := fun m g _ =>
  (θ_run Cert.AdamWGlaInRefIdeal.defs _ _).mono (fun r h => ⟨fun c => (h c).2.2.2.2,
      Idealize.ShloMosaic.sem_eq_zero_of_no_sems (by decide) r.2⟩)
    (Cert.AdamWGlaInRefIdeal.Value.run (F := Ideal) m g)

theorem AdamWGlaIn.frame_ref_pre : quiescent_AdamWGlaInRefIdeal_pre_on_mesh_2048_770 (hAdamWGlaInRefIdeal := Cert.AdamWGlaInRefIdeal.Gen.facts) (hPre_on_mesh_2048_770 := AdamWGlaIn.factsPre) := fun m g _ =>
  AdamWGlaIn.frame_ref m g trivial

/-- Kernel and reference end with the same arrays. -/
theorem AdamWGlaIn.algebraic : algebraic_AdamWGlaInIdeal_AdamWGlaInRefIdeal (hAdamWGlaInIdeal := Cert.AdamWGlaInIdeal.Gen.facts) (hAdamWGlaInRefIdeal := Cert.AdamWGlaInRefIdeal.Gen.facts) (hPre_on_mesh_2048_770 := AdamWGlaIn.factsPre) := by
  intro m g m' g' hpre hagree
  have hO := AdamWGlaIn.okIdeal (AdamWGlaIn.own_of_pre (hpre 0))
  refine ⟨fun c => (Cert.AdamWGlaInIdeal.Gen.dats m hO 0 c).arrAt 5 (Cert.AdamWGlaInIdeal.Gen.cfgM m hO).N, fun c => (Cert.AdamWGlaInIdeal.Gen.dats m hO 0 c).arrAt 6 (Cert.AdamWGlaInIdeal.Gen.cfgM m hO).N,
    fun c => (Cert.AdamWGlaInIdeal.Gen.dats m hO 0 c).arrAt 7 (Cert.AdamWGlaInIdeal.Gen.cfgM m hO).N, fun c => (Cert.AdamWGlaInIdeal.Gen.dats m hO 0 c).arrAt 8 (Cert.AdamWGlaInIdeal.Gen.cfgM m hO).N,
    (θ_run Cert.AdamWGlaInIdeal.defs _ _).mono (fun r h c => ⟨(h.2 c).1 5, (h.2 c).1 6, (h.2 c).1 7, (h.2 c).1 8, h.1 c⟩)
      (θ_run_and (Cert.AdamWGlaInIdeal.Gen.unchanged m g hO) (Cert.AdamWGlaInIdeal.Gen.run_main m g hO)),
    (θ_run Cert.AdamWGlaInRefIdeal.defs _ _).mono (fun r h c => ?_) (Cert.AdamWGlaInRefIdeal.Value.run (F := Ideal) m' g')⟩
  obtain ⟨h0, h1, h2, h3, ha⟩ := h c
  obtain ⟨e0, e1, e2, e3, e4, e5⟩ := hagree c
  have hk := AdamWGlaIn.own_of_pre (hpre c)
  rw [Cert.AdamWGlaInRefIdeal.Read.val_main_v12_eq, e3, e4, e5] at h0
  rw [Cert.AdamWGlaInRefIdeal.Read.val_main_v36_eq, e0, e1, e2, e3, e4, e5] at h1
  rw [Cert.AdamWGlaInRefIdeal.Read.val_main_v17_eq, e1, e3, e4, e5] at h2
  rw [Cert.AdamWGlaInRefIdeal.Read.val_main_v23_eq, e2, e3, e4, e5] at h3
  obtain ⟨a0, a1, a2, a3⟩ := AdamWGlaIn.arrays (c := c) (ent3_is _) (ent3_is _) (ent3_is _) (ent3_is _) (ent3_is _) hO
  exact ⟨h0.trans (funext fun i => (AdamWGlaIn.ref_g (ent3_is _) (ent3_is _) hk i).trans (a0 i).symm),
    h1.trans (funext fun i => (AdamWGlaIn.ref_d (ent3_is _) (ent3_is _) (ent3_is _) (ent3_is _) (ent3_is _) hk i).trans (a1 i).symm),
    h2.trans (funext fun i => (AdamWGlaIn.ref_m (ent3_is _) (ent3_is _) (ent3_is _) hk i).trans (a2 i).symm),
    h3.trans (funext fun i => (AdamWGlaIn.ref_v (ent3_is _) (ent3_is _) (ent3_is _) hk i).trans (a3 i).symm), ha⟩

/-! ## Retention's projection out -/

/-- What the predicate states of its operations. -/
theorem AdamWRetOut.factsPre : Cert.Pre_on_mesh_512_2048.Facts where
  bcast_S_S1 := by decide +kernel

/-- The precondition says that the word names one of four parts. -/
theorem AdamWRetOut.own_of_pre {F : FTy → Type} [FloatOps F] {x0 x1 x2 x3 x4} {x5 : (⟨1, ![1]⟩ : Shape).Idx → BitVec 32}
    (h : @Cert.Pre_on_mesh_512_2048.fn AdamWRetOut.factsPre F _ x0 x1 x2 x3 x4 x5 = fun _ => 1#1) : own x5 < 4 := by
  obtain ⟨h0, h4⟩ := and_one _ _ (congrFun h (ValueIdx.ix1 0))
  exact word_lt h0 h4

theorem AdamWRetOut.ok {F : FTy → Type} [FloatOps F] {m : (ℓ : Loc Cert.AdamWRetOut.nD Cert.AdamWRetOut.τ Cert.AdamWRetOut.sig) → Buf (Elt F) ℓ}
    (h : own (m (((0 : Dev Cert.AdamWRetOut.nD).tc : Thread Cert.AdamWRetOut.nD Cert.AdamWRetOut.τ).loc Cert.AdamWRetOut.main_arg5)) < 4) : Cert.AdamWRetOut.Gen.Ok m := by
  refine fun i => ⟨fun a => ?_, .inr (Affine.block_words_dvd (of_decide_eq_true rfl) (by decide))⟩
  match a with
  | ⟨0, _⟩ => exact (Nat.mul_one _).le.trans ((own_eq _ _).trans_lt h)
  | ⟨1, _⟩ => exact (by decide +kernel : ∀ i : Cert.AdamWRetOut.grid0.Coords, ((BitVec.ofNat 32 (i 0).val).toNat + 1) * 256 ≤ 512) i
  | ⟨2, _⟩ => exact (by decide : (0 + 1) * 2048 ≤ 2048)

theorem AdamWRetOut.okIdeal {F : FTy → Type} [FloatOps F] {m : (ℓ : Loc Cert.AdamWRetOutIdeal.nD Cert.AdamWRetOutIdeal.τ Cert.AdamWRetOutIdeal.sig) → Buf (Elt F) ℓ}
    (h : own (m (((0 : Dev Cert.AdamWRetOutIdeal.nD).tc : Thread Cert.AdamWRetOutIdeal.nD Cert.AdamWRetOutIdeal.τ).loc Cert.AdamWRetOutIdeal.main_arg5)) < 4) : Cert.AdamWRetOutIdeal.Gen.Ok m := by
  refine fun i => ⟨fun a => ?_, .inr (Affine.block_words_dvd (of_decide_eq_true rfl) (by decide))⟩
  match a with
  | ⟨0, _⟩ => exact (Nat.mul_one _).le.trans ((own_eq _ _).trans_lt h)
  | ⟨1, _⟩ => exact (by decide +kernel : ∀ i : Cert.AdamWRetOutIdeal.grid0.Coords, ((BitVec.ofNat 32 (i 0).val).toNat + 1) * 256 ≤ 512) i
  | ⟨2, _⟩ => exact (by decide : (0 + 1) * 2048 ≤ 2048)

theorem AdamWRetOut.frame : quiescent_AdamWRetOut (hAdamWRetOut := Cert.AdamWRetOut.Gen.facts) (hPre_on_mesh_512_2048 := AdamWRetOut.factsPre) := fun m g h =>
  Cert.AdamWRetOut.Gen.frame m g (AdamWRetOut.ok (AdamWRetOut.own_of_pre (h 0)))

theorem AdamWRetOut.frameIdeal : quiescent_AdamWRetOutIdeal (hAdamWRetOutIdeal := Cert.AdamWRetOutIdeal.Gen.facts) (hPre_on_mesh_512_2048 := AdamWRetOut.factsPre) := fun m g h =>
  Cert.AdamWRetOutIdeal.Gen.frame m g (AdamWRetOut.okIdeal (AdamWRetOut.own_of_pre (h 0)))

/-- The reference runs no kernel and has no counters. -/
theorem AdamWRetOut.frame_ref : quiescent_AdamWRetOutRefIdeal (hAdamWRetOutRefIdeal := Cert.AdamWRetOutRefIdeal.Gen.facts) := fun m g _ =>
  (θ_run Cert.AdamWRetOutRefIdeal.defs _ _).mono (fun r h => ⟨fun c => (h c).2.2.2.2,
      Idealize.ShloMosaic.sem_eq_zero_of_no_sems (by decide) r.2⟩)
    (Cert.AdamWRetOutRefIdeal.Value.run (F := Ideal) m g)

theorem AdamWRetOut.frame_ref_pre : quiescent_AdamWRetOutRefIdeal_pre_on_mesh_512_2048 (hAdamWRetOutRefIdeal := Cert.AdamWRetOutRefIdeal.Gen.facts) (hPre_on_mesh_512_2048 := AdamWRetOut.factsPre) := fun m g _ =>
  AdamWRetOut.frame_ref m g trivial

/-- Kernel and reference end with the same arrays. -/
theorem AdamWRetOut.algebraic : algebraic_AdamWRetOutIdeal_AdamWRetOutRefIdeal (hAdamWRetOutIdeal := Cert.AdamWRetOutIdeal.Gen.facts) (hAdamWRetOutRefIdeal := Cert.AdamWRetOutRefIdeal.Gen.facts) (hPre_on_mesh_512_2048 := AdamWRetOut.factsPre) := by
  intro m g m' g' hpre hagree
  have hO := AdamWRetOut.okIdeal (AdamWRetOut.own_of_pre (hpre 0))
  refine ⟨fun c => (Cert.AdamWRetOutIdeal.Gen.dats m hO 0 c).arrAt 5 (Cert.AdamWRetOutIdeal.Gen.cfgM m hO).N, fun c => (Cert.AdamWRetOutIdeal.Gen.dats m hO 0 c).arrAt 6 (Cert.AdamWRetOutIdeal.Gen.cfgM m hO).N,
    fun c => (Cert.AdamWRetOutIdeal.Gen.dats m hO 0 c).arrAt 7 (Cert.AdamWRetOutIdeal.Gen.cfgM m hO).N, fun c => (Cert.AdamWRetOutIdeal.Gen.dats m hO 0 c).arrAt 8 (Cert.AdamWRetOutIdeal.Gen.cfgM m hO).N,
    (θ_run Cert.AdamWRetOutIdeal.defs _ _).mono (fun r h c => ⟨(h.2 c).1 5, (h.2 c).1 6, (h.2 c).1 7, (h.2 c).1 8, h.1 c⟩)
      (θ_run_and (Cert.AdamWRetOutIdeal.Gen.unchanged m g hO) (Cert.AdamWRetOutIdeal.Gen.run_main m g hO)),
    (θ_run Cert.AdamWRetOutRefIdeal.defs _ _).mono (fun r h c => ?_) (Cert.AdamWRetOutRefIdeal.Value.run (F := Ideal) m' g')⟩
  obtain ⟨h0, h1, h2, h3, ha⟩ := h c
  obtain ⟨e0, e1, e2, e3, e4, e5⟩ := hagree c
  have hk := AdamWRetOut.own_of_pre (hpre c)
  rw [Cert.AdamWRetOutRefIdeal.Read.val_main_v12_eq, e3, e4, e5] at h0
  rw [Cert.AdamWRetOutRefIdeal.Read.val_main_v36_eq, e0, e1, e2, e3, e4, e5] at h1
  rw [Cert.AdamWRetOutRefIdeal.Read.val_main_v17_eq, e1, e3, e4, e5] at h2
  rw [Cert.AdamWRetOutRefIdeal.Read.val_main_v23_eq, e2, e3, e4, e5] at h3
  obtain ⟨a0, a1, a2, a3⟩ := AdamWRetOut.arrays (c := c) (ent3_is _) (ent3_is _) (ent3_is _) (ent3_is _) (ent3_is _) hO
  exact ⟨h0.trans (funext fun i => (AdamWRetOut.ref_g (ent3_is _) (ent3_is _) hk i).trans (a0 i).symm),
    h1.trans (funext fun i => (AdamWRetOut.ref_d (ent3_is _) (ent3_is _) (ent3_is _) (ent3_is _) (ent3_is _) hk i).trans (a1 i).symm),
    h2.trans (funext fun i => (AdamWRetOut.ref_m (ent3_is _) (ent3_is _) (ent3_is _) hk i).trans (a2 i).symm),
    h3.trans (funext fun i => (AdamWRetOut.ref_v (ent3_is _) (ent3_is _) (ent3_is _) hk i).trans (a3 i).symm), ha⟩

/-! ## The other three mixers' projections out -/

/-- What the predicate states of its operations. -/
theorem AdamWOut.factsPre : Cert.Pre_on_mesh_256_2048.Facts where
  bcast_S_S1 := by decide +kernel

/-- The precondition says that the word names one of four parts. -/
theorem AdamWOut.own_of_pre {F : FTy → Type} [FloatOps F] {x0 x1 x2 x3 x4} {x5 : (⟨1, ![1]⟩ : Shape).Idx → BitVec 32}
    (h : @Cert.Pre_on_mesh_256_2048.fn AdamWOut.factsPre F _ x0 x1 x2 x3 x4 x5 = fun _ => 1#1) : own x5 < 4 := by
  obtain ⟨h0, h4⟩ := and_one _ _ (congrFun h (ValueIdx.ix1 0))
  exact word_lt h0 h4

theorem AdamWOut.ok {F : FTy → Type} [FloatOps F] {m : (ℓ : Loc Cert.AdamWOut.nD Cert.AdamWOut.τ Cert.AdamWOut.sig) → Buf (Elt F) ℓ}
    (h : own (m (((0 : Dev Cert.AdamWOut.nD).tc : Thread Cert.AdamWOut.nD Cert.AdamWOut.τ).loc Cert.AdamWOut.main_arg5)) < 4) : Cert.AdamWOut.Gen.Ok m := by
  refine fun i => ⟨fun a => ?_, .inr (Affine.block_words_dvd (of_decide_eq_true rfl) (by decide))⟩
  match a with
  | ⟨0, _⟩ => exact (Nat.mul_one _).le.trans ((own_eq _ _).trans_lt h)
  | ⟨1, _⟩ => exact (by decide +kernel : ∀ i : Cert.AdamWOut.grid0.Coords, ((BitVec.ofNat 32 (i 0).val).toNat + 1) * 256 ≤ 256) i
  | ⟨2, _⟩ => exact (by decide : (0 + 1) * 2048 ≤ 2048)

theorem AdamWOut.okIdeal {F : FTy → Type} [FloatOps F] {m : (ℓ : Loc Cert.AdamWOutIdeal.nD Cert.AdamWOutIdeal.τ Cert.AdamWOutIdeal.sig) → Buf (Elt F) ℓ}
    (h : own (m (((0 : Dev Cert.AdamWOutIdeal.nD).tc : Thread Cert.AdamWOutIdeal.nD Cert.AdamWOutIdeal.τ).loc Cert.AdamWOutIdeal.main_arg5)) < 4) : Cert.AdamWOutIdeal.Gen.Ok m := by
  refine fun i => ⟨fun a => ?_, .inr (Affine.block_words_dvd (of_decide_eq_true rfl) (by decide))⟩
  match a with
  | ⟨0, _⟩ => exact (Nat.mul_one _).le.trans ((own_eq _ _).trans_lt h)
  | ⟨1, _⟩ => exact (by decide +kernel : ∀ i : Cert.AdamWOutIdeal.grid0.Coords, ((BitVec.ofNat 32 (i 0).val).toNat + 1) * 256 ≤ 256) i
  | ⟨2, _⟩ => exact (by decide : (0 + 1) * 2048 ≤ 2048)

theorem AdamWOut.frame : quiescent_AdamWOut (hAdamWOut := Cert.AdamWOut.Gen.facts) (hPre_on_mesh_256_2048 := AdamWOut.factsPre) := fun m g h =>
  Cert.AdamWOut.Gen.frame m g (AdamWOut.ok (AdamWOut.own_of_pre (h 0)))

theorem AdamWOut.frameIdeal : quiescent_AdamWOutIdeal (hAdamWOutIdeal := Cert.AdamWOutIdeal.Gen.facts) (hPre_on_mesh_256_2048 := AdamWOut.factsPre) := fun m g h =>
  Cert.AdamWOutIdeal.Gen.frame m g (AdamWOut.okIdeal (AdamWOut.own_of_pre (h 0)))

/-- The reference runs no kernel and has no counters. -/
theorem AdamWOut.frame_ref : quiescent_AdamWOutRefIdeal (hAdamWOutRefIdeal := Cert.AdamWOutRefIdeal.Gen.facts) := fun m g _ =>
  (θ_run Cert.AdamWOutRefIdeal.defs _ _).mono (fun r h => ⟨fun c => (h c).2.2.2.2,
      Idealize.ShloMosaic.sem_eq_zero_of_no_sems (by decide) r.2⟩)
    (Cert.AdamWOutRefIdeal.Value.run (F := Ideal) m g)

theorem AdamWOut.frame_ref_pre : quiescent_AdamWOutRefIdeal_pre_on_mesh_256_2048 (hAdamWOutRefIdeal := Cert.AdamWOutRefIdeal.Gen.facts) (hPre_on_mesh_256_2048 := AdamWOut.factsPre) := fun m g _ =>
  AdamWOut.frame_ref m g trivial

/-- Kernel and reference end with the same arrays. -/
theorem AdamWOut.algebraic : algebraic_AdamWOutIdeal_AdamWOutRefIdeal (hAdamWOutIdeal := Cert.AdamWOutIdeal.Gen.facts) (hAdamWOutRefIdeal := Cert.AdamWOutRefIdeal.Gen.facts) (hPre_on_mesh_256_2048 := AdamWOut.factsPre) := by
  intro m g m' g' hpre hagree
  have hO := AdamWOut.okIdeal (AdamWOut.own_of_pre (hpre 0))
  refine ⟨fun c => (Cert.AdamWOutIdeal.Gen.dats m hO 0 c).arrAt 5 (Cert.AdamWOutIdeal.Gen.cfgM m hO).N, fun c => (Cert.AdamWOutIdeal.Gen.dats m hO 0 c).arrAt 6 (Cert.AdamWOutIdeal.Gen.cfgM m hO).N,
    fun c => (Cert.AdamWOutIdeal.Gen.dats m hO 0 c).arrAt 7 (Cert.AdamWOutIdeal.Gen.cfgM m hO).N, fun c => (Cert.AdamWOutIdeal.Gen.dats m hO 0 c).arrAt 8 (Cert.AdamWOutIdeal.Gen.cfgM m hO).N,
    (θ_run Cert.AdamWOutIdeal.defs _ _).mono (fun r h c => ⟨(h.2 c).1 5, (h.2 c).1 6, (h.2 c).1 7, (h.2 c).1 8, h.1 c⟩)
      (θ_run_and (Cert.AdamWOutIdeal.Gen.unchanged m g hO) (Cert.AdamWOutIdeal.Gen.run_main m g hO)),
    (θ_run Cert.AdamWOutRefIdeal.defs _ _).mono (fun r h c => ?_) (Cert.AdamWOutRefIdeal.Value.run (F := Ideal) m' g')⟩
  obtain ⟨h0, h1, h2, h3, ha⟩ := h c
  obtain ⟨e0, e1, e2, e3, e4, e5⟩ := hagree c
  have hk := AdamWOut.own_of_pre (hpre c)
  rw [Cert.AdamWOutRefIdeal.Read.val_main_v12_eq, e3, e4, e5] at h0
  rw [Cert.AdamWOutRefIdeal.Read.val_main_v36_eq, e0, e1, e2, e3, e4, e5] at h1
  rw [Cert.AdamWOutRefIdeal.Read.val_main_v17_eq, e1, e3, e4, e5] at h2
  rw [Cert.AdamWOutRefIdeal.Read.val_main_v23_eq, e2, e3, e4, e5] at h3
  obtain ⟨a0, a1, a2, a3⟩ := AdamWOut.arrays (c := c) (ent3_is _) (ent3_is _) (ent3_is _) (ent3_is _) (ent3_is _) hO
  exact ⟨h0.trans (funext fun i => (AdamWOut.ref_g (ent3_is _) (ent3_is _) hk i).trans (a0 i).symm),
    h1.trans (funext fun i => (AdamWOut.ref_d (ent3_is _) (ent3_is _) (ent3_is _) (ent3_is _) (ent3_is _) hk i).trans (a1 i).symm),
    h2.trans (funext fun i => (AdamWOut.ref_m (ent3_is _) (ent3_is _) (ent3_is _) hk i).trans (a2 i).symm),
    h3.trans (funext fun i => (AdamWOut.ref_v (ent3_is _) (ent3_is _) (ent3_is _) hk i).trans (a3 i).symm), ha⟩

end Cert.Proof

end
-- ==== Proof.lean ====
module

public import proofs.«01_k».proof.Defs
public import proofs.«01_k».proof.Proof.Gen.Kernel.Frame
public import proofs.«01_k».proof.Proof.Arrays
public import proofs.«01_k».proof.Proof.Pre
public import proofs.«01_k».proof.Proof.Gen.DownDx.Frame
public import proofs.«01_k».proof.Proof.Gen.DownDw.Frame
public import proofs.«01_k».proof.Proof.Gen.UpDx.Frame
public import proofs.«01_k».proof.Proof.Gen.UpDw.Frame
public import proofs.«01_k».proof.Proof.Gen.Up.Frame
public import proofs.«01_k».proof.Proof.Gen.Down.Frame
public import proofs.«01_k».proof.Proof.Mlp
public import proofs.«01_k».proof.Proof.Gen.RetInDw.Frame
public import proofs.«01_k».proof.Proof.Gen.RetInDx.Frame
public import proofs.«01_k».proof.Proof.Gen.RetOutDw.Frame
public import proofs.«01_k».proof.Proof.Gen.RetOutDx.Frame
public import proofs.«01_k».proof.Proof.Gen.RetIn.Frame
public import proofs.«01_k».proof.Proof.Gen.RetOut.Frame
public import proofs.«01_k».proof.Proof.Gen.GdnInDx.Frame
public import proofs.«01_k».proof.Proof.Gen.GdnIn.Frame
public import proofs.«01_k».proof.Proof.Gen.GlaInDw.Frame
public import proofs.«01_k».proof.Proof.Gen.GlaInDx.Frame
public import proofs.«01_k».proof.Proof.Gen.GlaIn.Frame
public import proofs.«01_k».proof.Proof.Gen.LruInDw.Frame
public import proofs.«01_k».proof.Proof.Gen.LruInDx.Frame
public import proofs.«01_k».proof.Proof.Gen.LruIn.Frame
public import proofs.«01_k».proof.Proof.Gen.MixOutDw.Frame
public import proofs.«01_k».proof.Proof.Gen.MixOutDx.Frame
public import proofs.«01_k».proof.Proof.Gen.MixOut.Frame
public import proofs.«01_k».proof.Proof.Gen.AdamW.Frame
public import proofs.«01_k».proof.Proof.GradRetInDw
public import proofs.«01_k».proof.Proof.GradRetInDx
public import proofs.«01_k».proof.Proof.GradRetOutDw
public import proofs.«01_k».proof.Proof.GradRetOutDx
public import proofs.«01_k».proof.Proof.ValueRetIn
public import proofs.«01_k».proof.Proof.ValueRetOut
public import proofs.«01_k».proof.Proof.GradGdnInDx
public import proofs.«01_k».proof.Proof.ValueGdnIn
public import proofs.«01_k».proof.Proof.GradGlaInDw
public import proofs.«01_k».proof.Proof.GradGlaInDx
public import proofs.«01_k».proof.Proof.ValueGlaIn
public import proofs.«01_k».proof.Proof.GradLruInDw
public import proofs.«01_k».proof.Proof.GradLruInDx
public import proofs.«01_k».proof.Proof.ValueLruIn
public import proofs.«01_k».proof.Proof.GradMixOutDw
public import proofs.«01_k».proof.Proof.GradMixOutDx
public import proofs.«01_k».proof.Proof.ValueMixOut
public import proofs.«01_k».proof.Proof.ValueAdamW
public import proofs.«01_k».proof.Proof.Projections
public import proofs.«01_k».proof.Proof.Adam
public import proofs.«01_k».proof.Proof.Gen.AdamWSmall.Frame
public import proofs.«01_k».proof.Proof.Gen.Sum.Frame
public import proofs.«01_k».proof.Proof.Gen.SumEarly.Frame
public import proofs.«01_k».proof.Proof.Gen.SumLate.Frame
public import proofs.«01_k».proof.Proof.Gen.AdamWLruIn.Frame
public import proofs.«01_k».proof.Proof.Gen.AdamWRetIn.Frame
public import proofs.«01_k».proof.Proof.Gen.AdamWGdnIn.Frame
public import proofs.«01_k».proof.Proof.Gen.AdamWGlaIn.Frame
public import proofs.«01_k».proof.Proof.Gen.AdamWRetOut.Frame
public import proofs.«01_k».proof.Proof.Gen.AdamWOut.Frame
public import proofs.«01_k».proof.Proof.Sums
public import proofs.«01_k».proof.Proof.Shards
public import Idealize.ShloMosaic.Adequacy
public import Idealize.ShloMosaic.Init

@[expose] public section

set_option maxRecDepth 16384

noncomputable section

namespace Cert.Proof

open Idealize.ShloMosaic Idealize.SL.Sem

/-- The reference's frame: it runs no kernel and has no counters. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m g)

/-- The kernel's gradients are the derivative's. -/
theorem algebraic : algebraic_KernelIdeal_ReferenceIdeal_pre_finite (hKernelIdeal := Cert.KernelIdeal.Gen.facts)
    (hReferenceIdeal := Cert.ReferenceIdeal.Gen.facts) (hPre_finite := finite_facts) := by
  intro m g m' g' hpre hagree
  refine ⟨_, _, _, _, _, Cert.KernelIdeal.Value.run_blocks m g,
    (θ_run Cert.ReferenceIdeal.defs _ _).mono (fun r h c => ?_) (Cert.ReferenceIdeal.Value.run (F := Ideal) m' g')⟩
  obtain ⟨h0, h1, h2, h3, h4, ha⟩ := h c
  obtain ⟨e0, e1, e2⟩ := hagree c
  obtain ⟨d, R⟩ : ∃ d : Data, d.Reads (m (c.tc.loc Cert.KernelIdeal.main_arg0)) (m (c.tc.loc Cert.KernelIdeal.main_arg1))
      (m (c.tc.loc Cert.KernelIdeal.main_arg2)) := ⟨_, reads (hpre c)⟩
  have R' : d.Reads (m' (c.tc.loc Cert.ReferenceIdeal.main_arg0)) (m' (c.tc.loc Cert.ReferenceIdeal.main_arg1))
      (m' (c.tc.loc Cert.ReferenceIdeal.main_arg2)) := by
    rw [e0, e1, e2]; exact R
  refine ⟨h0.trans ?_, h1.trans ?_, h2.trans ?_, h3.trans ?_, h4.trans ?_, ha⟩
  · rw [Cert.ReferenceIdeal.Read.val_main_v298_eq]
    exact (funext fun i => R'.dq_ref i).trans (arr13 R).symm
  · rw [Cert.ReferenceIdeal.Read.val_main_v300_eq]
    exact (funext fun i => R'.dk_ref i).trans (arr14 R).symm
  · rw [Cert.ReferenceIdeal.Read.val_main_v302_eq]
    exact (funext fun i => R'.dv_ref i).trans (arr15 R).symm
  · rw [Cert.ReferenceIdeal.Read.val_main_v304_eq]
    exact (funext fun i => R'.dg_ref i).trans (arr16 R).symm
  · rw [Cert.ReferenceIdeal.Read.val_main_v305_eq]
    exact (funext fun i => R'.dgain_ref i).trans (arr17 R).symm

theorem claim : Cert.Claim :=
  ⟨Cert.Kernel.Gen.facts, Cert.KernelIdeal.Gen.facts, Cert.ReferenceIdeal.Gen.facts,
    Cert.DownDx.Gen.facts, Cert.DownDxIdeal.Gen.facts, Cert.DownDxRefIdeal.Gen.facts,
    Cert.DownDw.Gen.facts, Cert.DownDwIdeal.Gen.facts, Cert.DownDwRefIdeal.Gen.facts,
    Cert.UpDx.Gen.facts, Cert.UpDxIdeal.Gen.facts, Cert.UpDxRefIdeal.Gen.facts,
    Cert.UpDw.Gen.facts, Cert.UpDwIdeal.Gen.facts, Cert.UpDwRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.RetInDw.Gen.facts, Cert.RetInDwIdeal.Gen.facts, Cert.RetInDwRefIdeal.Gen.facts,
    Cert.RetInDx.Gen.facts, Cert.RetInDxIdeal.Gen.facts, Cert.RetInDxRefIdeal.Gen.facts,
    Cert.RetOutDw.Gen.facts, Cert.RetOutDwIdeal.Gen.facts, Cert.RetOutDwRefIdeal.Gen.facts,
    Cert.RetOutDx.Gen.facts, Cert.RetOutDxIdeal.Gen.facts, Cert.RetOutDxRefIdeal.Gen.facts,
    Cert.RetIn.Gen.facts, Cert.RetInIdeal.Gen.facts, Cert.RetInRefIdeal.Gen.facts,
    Cert.RetOut.Gen.facts, Cert.RetOutIdeal.Gen.facts, Cert.RetOutRefIdeal.Gen.facts,
    Cert.GdnInDx.Gen.facts, Cert.GdnInDxIdeal.Gen.facts, Cert.GdnInDxRefIdeal.Gen.facts,
    Cert.GdnIn.Gen.facts, Cert.GdnInIdeal.Gen.facts, Cert.GdnInRefIdeal.Gen.facts,
    Cert.GlaInDw.Gen.facts, Cert.GlaInDwIdeal.Gen.facts, Cert.GlaInDwRefIdeal.Gen.facts,
    Cert.GlaInDx.Gen.facts, Cert.GlaInDxIdeal.Gen.facts, Cert.GlaInDxRefIdeal.Gen.facts,
    Cert.GlaIn.Gen.facts, Cert.GlaInIdeal.Gen.facts, Cert.GlaInRefIdeal.Gen.facts,
    Cert.LruInDw.Gen.facts, Cert.LruInDwIdeal.Gen.facts, Cert.LruInDwRefIdeal.Gen.facts,
    Cert.LruInDx.Gen.facts, Cert.LruInDxIdeal.Gen.facts, Cert.LruInDxRefIdeal.Gen.facts,
    Cert.LruIn.Gen.facts, Cert.LruInIdeal.Gen.facts, Cert.LruInRefIdeal.Gen.facts,
    Cert.MixOutDw.Gen.facts, Cert.MixOutDwIdeal.Gen.facts, Cert.MixOutDwRefIdeal.Gen.facts,
    Cert.MixOutDx.Gen.facts, Cert.MixOutDxIdeal.Gen.facts, Cert.MixOutDxRefIdeal.Gen.facts,
    Cert.MixOut.Gen.facts, Cert.MixOutIdeal.Gen.facts, Cert.MixOutRefIdeal.Gen.facts,
    Cert.AdamW.Gen.facts, Cert.AdamWIdeal.Gen.facts, Cert.AdamWRefIdeal.Gen.facts,
    Cert.AdamWSmall.Gen.facts, Cert.AdamWSmallIdeal.Gen.facts, Cert.AdamWSmallRefIdeal.Gen.facts,
    Cert.Sum.Gen.facts, Cert.SumIdeal.Gen.facts, Cert.SumRefIdeal.Gen.facts,
    Cert.SumEarly.Gen.facts, Cert.SumEarlyIdeal.Gen.facts, Cert.SumEarlyRefIdeal.Gen.facts,
    Cert.SumLate.Gen.facts, Cert.SumLateIdeal.Gen.facts, Cert.SumLateRefIdeal.Gen.facts,
    Cert.AdamWLruIn.Gen.facts, Cert.AdamWLruInIdeal.Gen.facts, Cert.AdamWLruInRefIdeal.Gen.facts,
    Cert.AdamWRetIn.Gen.facts, Cert.AdamWRetInIdeal.Gen.facts, Cert.AdamWRetInRefIdeal.Gen.facts,
    Cert.AdamWGdnIn.Gen.facts, Cert.AdamWGdnInIdeal.Gen.facts, Cert.AdamWGdnInRefIdeal.Gen.facts,
    Cert.AdamWGlaIn.Gen.facts, Cert.AdamWGlaInIdeal.Gen.facts, Cert.AdamWGlaInRefIdeal.Gen.facts,
    Cert.AdamWRetOut.Gen.facts, Cert.AdamWRetOutIdeal.Gen.facts, Cert.AdamWRetOutRefIdeal.Gen.facts,
    Cert.AdamWOut.Gen.facts, Cert.AdamWOutIdeal.Gen.facts, Cert.AdamWOutRefIdeal.Gen.facts,
    finite_facts, AdamWLruIn.factsPre, AdamWRetIn.factsPre, AdamWGdnIn.factsPre, AdamWGlaIn.factsPre, AdamWRetOut.factsPre, AdamWOut.factsPre,
    fun m g _ => Cert.Kernel.Gen.frame m g, fun m g _ => Cert.KernelIdeal.Gen.frame m g, fun m g _ => Cert.KernelIdeal.Gen.frame m g,
    fun m g _ => reference_frame m g, fun m g _ => reference_frame m g,
    fun m g _ => Cert.DownDx.Gen.frame m g, fun m g _ => Cert.DownDxIdeal.Gen.frame m g, DownDx.frame_ref,
    fun m g _ => Cert.DownDw.Gen.frame m g, fun m g _ => Cert.DownDwIdeal.Gen.frame m g, DownDw.frame_ref,
    fun m g _ => Cert.UpDx.Gen.frame m g, fun m g _ => Cert.UpDxIdeal.Gen.frame m g, UpDx.frame_ref,
    fun m g _ => Cert.UpDw.Gen.frame m g, fun m g _ => Cert.UpDwIdeal.Gen.frame m g, UpDw.frame_ref,
    fun m g _ => Cert.Up.Gen.frame m g, fun m g _ => Cert.UpIdeal.Gen.frame m g, Up.frame_ref,
    fun m g _ => Cert.Down.Gen.frame m g, fun m g _ => Cert.DownIdeal.Gen.frame m g, Down.frame_ref,
    fun m g _ => Cert.RetInDw.Gen.frame m g, fun m g _ => Cert.RetInDwIdeal.Gen.frame m g, RetInDw.frame_ref,
    fun m g _ => Cert.RetInDx.Gen.frame m g, fun m g _ => Cert.RetInDxIdeal.Gen.frame m g, RetInDx.frame_ref,
    fun m g _ => Cert.RetOutDw.Gen.frame m g, fun m g _ => Cert.RetOutDwIdeal.Gen.frame m g, RetOutDw.frame_ref,
    fun m g _ => Cert.RetOutDx.Gen.frame m g, fun m g _ => Cert.RetOutDxIdeal.Gen.frame m g, RetOutDx.frame_ref,
    fun m g _ => Cert.RetIn.Gen.frame m g, fun m g _ => Cert.RetInIdeal.Gen.frame m g, RetIn.frame_ref,
    fun m g _ => Cert.RetOut.Gen.frame m g, fun m g _ => Cert.RetOutIdeal.Gen.frame m g, RetOut.frame_ref,
    fun m g _ => Cert.GdnInDx.Gen.frame m g, fun m g _ => Cert.GdnInDxIdeal.Gen.frame m g, GdnInDx.frame_ref,
    fun m g _ => Cert.GdnIn.Gen.frame m g, fun m g _ => Cert.GdnInIdeal.Gen.frame m g, GdnIn.frame_ref,
    fun m g _ => Cert.GlaInDw.Gen.frame m g, fun m g _ => Cert.GlaInDwIdeal.Gen.frame m g, GlaInDw.frame_ref,
    fun m g _ => Cert.GlaInDx.Gen.frame m g, fun m g _ => Cert.GlaInDxIdeal.Gen.frame m g, GlaInDx.frame_ref,
    fun m g _ => Cert.GlaIn.Gen.frame m g, fun m g _ => Cert.GlaInIdeal.Gen.frame m g, GlaIn.frame_ref,
    fun m g _ => Cert.LruInDw.Gen.frame m g, fun m g _ => Cert.LruInDwIdeal.Gen.frame m g, LruInDw.frame_ref,
    fun m g _ => Cert.LruInDx.Gen.frame m g, fun m g _ => Cert.LruInDxIdeal.Gen.frame m g, LruInDx.frame_ref,
    fun m g _ => Cert.LruIn.Gen.frame m g, fun m g _ => Cert.LruInIdeal.Gen.frame m g, LruIn.frame_ref,
    fun m g _ => Cert.MixOutDw.Gen.frame m g, fun m g _ => Cert.MixOutDwIdeal.Gen.frame m g, MixOutDw.frame_ref,
    fun m g _ => Cert.MixOutDx.Gen.frame m g, fun m g _ => Cert.MixOutDxIdeal.Gen.frame m g, MixOutDx.frame_ref,
    fun m g _ => Cert.MixOut.Gen.frame m g, fun m g _ => Cert.MixOutIdeal.Gen.frame m g, MixOut.frame_ref,
    fun m g _ => Cert.AdamW.Gen.frame m g, fun m g _ => Cert.AdamWIdeal.Gen.frame m g, AdamW.frame_ref,
    fun m g _ => Cert.AdamWSmall.Gen.frame m g, fun m g _ => Cert.AdamWSmallIdeal.Gen.frame m g, AdamWSmall.frame_ref,
    fun m g _ => Cert.Sum.Gen.frame m g, fun m g _ => Cert.SumIdeal.Gen.frame m g, Sum.frame_ref,
    fun m g _ => Cert.SumEarly.Gen.frame m g, fun m g _ => Cert.SumEarlyIdeal.Gen.frame m g, SumEarly.frame_ref,
    fun m g _ => Cert.SumLate.Gen.frame m g, fun m g _ => Cert.SumLateIdeal.Gen.frame m g, SumLate.frame_ref,
    AdamWLruIn.frame, AdamWLruIn.frameIdeal, AdamWLruIn.frame_ref, AdamWLruIn.frame_ref_pre,
    AdamWRetIn.frame, AdamWRetIn.frameIdeal, AdamWRetIn.frame_ref, AdamWRetIn.frame_ref_pre,
    AdamWGdnIn.frame, AdamWGdnIn.frameIdeal, AdamWGdnIn.frame_ref, AdamWGdnIn.frame_ref_pre,
    AdamWGlaIn.frame, AdamWGlaIn.frameIdeal, AdamWGlaIn.frame_ref, AdamWGlaIn.frame_ref_pre,
    AdamWRetOut.frame, AdamWRetOut.frameIdeal, AdamWRetOut.frame_ref, AdamWRetOut.frame_ref_pre,
    AdamWOut.frame, AdamWOut.frameIdeal, AdamWOut.frame_ref, AdamWOut.frame_ref_pre,
    trivial, algebraic,
    trivial, DownDx.algebraic, trivial, DownDw.algebraic, trivial, UpDx.algebraic,
    trivial, UpDw.algebraic, trivial, Up.algebraic, trivial, Down.algebraic,
    trivial, RetInDw.algebraic, trivial, RetInDx.algebraic, trivial, RetOutDw.algebraic,
    trivial, RetOutDx.algebraic, trivial, RetIn.algebraic, trivial, RetOut.algebraic,
    trivial, GdnInDx.algebraic, trivial, GdnIn.algebraic, trivial, GlaInDw.algebraic,
    trivial, GlaInDx.algebraic, trivial, GlaIn.algebraic, trivial, LruInDw.algebraic,
    trivial, LruInDx.algebraic, trivial, LruIn.algebraic, trivial, MixOutDw.algebraic,
    trivial, MixOutDx.algebraic, trivial, MixOut.algebraic, trivial, AdamW.algebraic,
    trivial, AdamWSmall.algebraic, trivial, Sum.algebraic, trivial, SumEarly.algebraic,
    trivial, SumLate.algebraic, trivial, AdamWLruIn.algebraic, trivial, AdamWRetIn.algebraic,
    trivial, AdamWGdnIn.algebraic, trivial, AdamWGlaIn.algebraic, trivial, AdamWRetOut.algebraic,
    trivial, AdamWOut.algebraic⟩

end Cert.Proof

end
